-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Gfi (m : (ℓ : Loc Cert.Gfi.nD Cert.Gfi.τ Cert.Gfi.sig) → Buf (Elt Bits) ℓ) : Prop :=
  True

def Pre_GfiIdeal (m : (ℓ : Loc Cert.GfiIdeal.nD Cert.GfiIdeal.τ Cert.GfiIdeal.sig) → Buf (Elt Ideal) ℓ) : Prop :=
  True

def Pre_GfiRefIdeal (m : (ℓ : Loc Cert.GfiRefIdeal.nD Cert.GfiRefIdeal.τ Cert.GfiRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Gfo (m : (ℓ : Loc Cert.Gfo.nD Cert.Gfo.τ Cert.Gfo.sig) → Buf (Elt Bits) ℓ) : Prop :=
  True

def Pre_GfoIdeal (m : (ℓ : Loc Cert.GfoIdeal.nD Cert.GfoIdeal.τ Cert.GfoIdeal.sig) → Buf (Elt Ideal) ℓ) : Prop :=
  True

def Pre_GfoRefIdeal (m : (ℓ : Loc Cert.GfoRefIdeal.nD Cert.GfoRefIdeal.τ Cert.GfoRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Yo (m : (ℓ : Loc Cert.Yo.nD Cert.Yo.τ Cert.Yo.sig) → Buf (Elt Bits) ℓ) : Prop :=
  True

def Pre_YoIdeal (m : (ℓ : Loc Cert.YoIdeal.nD Cert.YoIdeal.τ Cert.YoIdeal.sig) → Buf (Elt Ideal) ℓ) : Prop :=
  True

def Pre_YoRefIdeal (m : (ℓ : Loc Cert.YoRefIdeal.nD Cert.YoRefIdeal.τ Cert.YoRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffi (m : (ℓ : Loc Cert.Ffi.nD Cert.Ffi.τ Cert.Ffi.sig) → Buf (Elt Bits) ℓ) : Prop :=
  True

def Pre_FfiIdeal (m : (ℓ : Loc Cert.FfiIdeal.nD Cert.FfiIdeal.τ Cert.FfiIdeal.sig) → Buf (Elt Ideal) ℓ) : Prop :=
  True

def Pre_FfiRefIdeal (m : (ℓ : Loc Cert.FfiRefIdeal.nD Cert.FfiRefIdeal.τ Cert.FfiRefIdeal.sig) → Buf (Elt Ideal) ℓ) : Prop :=
  True

def Pre_Fob (m : (ℓ : Loc Cert.Fob.nD Cert.Fob.τ Cert.Fob.sig) → Buf (Elt Bits) ℓ) : Prop :=
  True

def Pre_FobIdeal (m : (ℓ : Loc Cert.FobIdeal.nD Cert.FobIdeal.τ Cert.FobIdeal.sig) → Buf (Elt Ideal) ℓ) : Prop :=
  True

def Pre_FobIdeal_finite_fob [hPre_finite_fob : Cert.Pre_finite_fob.Facts] (m : (ℓ : Loc Cert.FobIdeal.nD Cert.FobIdeal.τ Cert.FobIdeal.sig) → Buf (Elt Ideal) ℓ) : Prop :=
  ∀ c : Dev Cert.FobIdeal.nD,
    (Cert.Pre_finite_fob.fn (F := Ideal) (m ((c.tc : Thread Cert.FobIdeal.nD Cert.FobIdeal.τ).loc Cert.FobIdeal.main_arg0)) (m ((c.tc : Thread Cert.FobIdeal.nD Cert.FobIdeal.τ).loc Cert.FobIdeal.main_arg1)) (m ((c.tc : Thread Cert.FobIdeal.nD Cert.FobIdeal.τ).loc Cert.FobIdeal.main_arg2)) (m ((c.tc : Thread Cert.FobIdeal.nD Cert.FobIdeal.τ).loc Cert.FobIdeal.main_arg3))) = (fun _ => 1#1)

def Pre_FobRefIdeal (m : (ℓ : Loc Cert.FobRefIdeal.nD Cert.FobRefIdeal.τ Cert.FobRefIdeal.sig) → Buf (Elt Ideal) ℓ) : Prop :=
  True

def Pre_FobRefIdeal_finite_fob [hPre_finite_fob : Cert.Pre_finite_fob.Facts] (m : (ℓ : Loc Cert.FobRefIdeal.nD Cert.FobRefIdeal.τ Cert.FobRefIdeal.sig) → Buf (Elt Ideal) ℓ) : Prop :=
  ∀ c : Dev Cert.FobRefIdeal.nD,
    (Cert.Pre_finite_fob.fn (F := Ideal) (m ((c.tc : Thread Cert.FobRefIdeal.nD Cert.FobRefIdeal.τ).loc Cert.FobRefIdeal.main_arg0)) (m ((c.tc : Thread Cert.FobRefIdeal.nD Cert.FobRefIdeal.τ).loc Cert.FobRefIdeal.main_arg1)) (m ((c.tc : Thread Cert.FobRefIdeal.nD Cert.FobRefIdeal.τ).loc Cert.FobRefIdeal.main_arg2)) (m ((c.tc : Thread Cert.FobRefIdeal.nD Cert.FobRefIdeal.τ).loc Cert.FobRefIdeal.main_arg3))) = (fun _ => 1#1)

def Pre_Bwg (m : (ℓ : Loc Cert.Bwg.nD Cert.Bwg.τ Cert.Bwg.sig) → Buf (Elt Bits) ℓ) : Prop :=
  True

def Pre_BwgIdeal (m : (ℓ : Loc Cert.BwgIdeal.nD Cert.BwgIdeal.τ Cert.BwgIdeal.sig) → Buf (Elt Ideal) ℓ) : Prop :=
  True

def Pre_BwgRefIdeal (m : (ℓ : Loc Cert.BwgRefIdeal.nD Cert.BwgRefIdeal.τ Cert.BwgRefIdeal.sig) → Buf (Elt Ideal) ℓ) : Prop :=
  True

def Pre_Bbw (m : (ℓ : Loc Cert.Bbw.nD Cert.Bbw.τ Cert.Bbw.sig) → Buf (Elt Bits) ℓ) : Prop :=
  True

def Pre_BbwIdeal (m : (ℓ : Loc Cert.BbwIdeal.nD Cert.BbwIdeal.τ Cert.BbwIdeal.sig) → Buf (Elt Ideal) ℓ) : Prop :=
  True

def Pre_BbwRefIdeal (m : (ℓ : Loc Cert.BbwRefIdeal.nD Cert.BbwRefIdeal.τ Cert.BbwRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Ufo (m : (ℓ : Loc Cert.Ufo.nD Cert.Ufo.τ Cert.Ufo.sig) → Buf (Elt Bits) ℓ) : Prop :=
  True

def Pre_UfoIdeal (m : (ℓ : Loc Cert.UfoIdeal.nD Cert.UfoIdeal.τ Cert.UfoIdeal.sig) → Buf (Elt Ideal) ℓ) : Prop :=
  True

def Pre_UfoRefIdeal (m : (ℓ : Loc Cert.UfoRefIdeal.nD Cert.UfoRefIdeal.τ Cert.UfoRefIdeal.sig) → Buf (Elt Ideal) ℓ) : Prop :=
  True

def Pre_Uout (m : (ℓ : Loc Cert.Uout.nD Cert.Uout.τ Cert.Uout.sig) → Buf (Elt Bits) ℓ) : Prop :=
  True

def Pre_UoutIdeal (m : (ℓ : Loc Cert.UoutIdeal.nD Cert.UoutIdeal.τ Cert.UoutIdeal.sig) → Buf (Elt Ideal) ℓ) : Prop :=
  True

def Pre_UoutRefIdeal (m : (ℓ : Loc Cert.UoutRefIdeal.nD Cert.UoutRefIdeal.τ Cert.UoutRefIdeal.sig) → Buf (Elt Ideal) ℓ) : Prop :=
  True

def Pre_Ubg (m : (ℓ : Loc Cert.Ubg.nD Cert.Ubg.τ Cert.Ubg.sig) → Buf (Elt Bits) ℓ) : Prop :=
  True

def Pre_UbgIdeal (m : (ℓ : Loc Cert.UbgIdeal.nD Cert.UbgIdeal.τ Cert.UbgIdeal.sig) → Buf (Elt Ideal) ℓ) : Prop :=
  True

def Pre_UbgRefIdeal (m : (ℓ : Loc Cert.UbgRefIdeal.nD Cert.UbgRefIdeal.τ Cert.UbgRefIdeal.sig) → Buf (Elt Ideal) ℓ) : Prop :=
  True

def Pre_Ubh (m : (ℓ : Loc Cert.Ubh.nD Cert.Ubh.τ Cert.Ubh.sig) → Buf (Elt Bits) ℓ) : Prop :=
  True

def Pre_UbhIdeal (m : (ℓ : Loc Cert.UbhIdeal.nD Cert.UbhIdeal.τ Cert.UbhIdeal.sig) → Buf (Elt Ideal) ℓ) : Prop :=
  True

def Pre_UbhRefIdeal (m : (ℓ : Loc Cert.UbhRefIdeal.nD Cert.UbhRefIdeal.τ Cert.UbhRefIdeal.sig) → Buf (Elt Ideal) ℓ) : Prop :=
  True

def Pre_Uin (m : (ℓ : Loc Cert.Uin.nD Cert.Uin.τ Cert.Uin.sig) → Buf (Elt Bits) ℓ) : Prop :=
  True

def Pre_UinIdeal (m : (ℓ : Loc Cert.UinIdeal.nD Cert.UinIdeal.τ Cert.UinIdeal.sig) → Buf (Elt Ideal) ℓ) : Prop :=
  True

def Pre_UinRefIdeal (m : (ℓ : Loc Cert.UinRefIdeal.nD Cert.UinRefIdeal.τ Cert.UinRefIdeal.sig) → Buf (Elt Ideal) ℓ) : Prop :=
  True

def Pre_Usm (m : (ℓ : Loc Cert.Usm.nD Cert.Usm.τ Cert.Usm.sig) → Buf (Elt Bits) ℓ) : Prop :=
  True

def Pre_UsmIdeal (m : (ℓ : Loc Cert.UsmIdeal.nD Cert.UsmIdeal.τ Cert.UsmIdeal.sig) → Buf (Elt Ideal) ℓ) : Prop :=
  True

def Pre_UsmRefIdeal (m : (ℓ : Loc Cert.UsmRefIdeal.nD Cert.UsmRefIdeal.τ Cert.UsmRefIdeal.sig) → Buf (Elt Ideal) ℓ) : Prop :=
  True

def Pre_Uada (m : (ℓ : Loc Cert.Uada.nD Cert.Uada.τ Cert.Uada.sig) → Buf (Elt Bits) ℓ) : Prop :=
  True

def Pre_UadaIdeal (m : (ℓ : Loc Cert.UadaIdeal.nD Cert.UadaIdeal.τ Cert.UadaIdeal.sig) → Buf (Elt Ideal) ℓ) : Prop :=
  True

def Pre_UadaRefIdeal (m : (ℓ : Loc Cert.UadaRefIdeal.nD Cert.UadaRefIdeal.τ Cert.UadaRefIdeal.sig) → Buf (Elt Ideal) ℓ) : Prop :=
  True

def Pre_Nf1 (m : (ℓ : Loc Cert.Nf1.nD Cert.Nf1.τ Cert.Nf1.sig) → Buf (Elt Bits) ℓ) : Prop :=
  True

def Pre_Nf1Ideal (m : (ℓ : Loc Cert.Nf1Ideal.nD Cert.Nf1Ideal.τ Cert.Nf1Ideal.sig) → Buf (Elt Ideal) ℓ) : Prop :=
  True

def Pre_Nf1RefIdeal (m : (ℓ : Loc Cert.Nf1RefIdeal.nD Cert.Nf1RefIdeal.τ Cert.Nf1RefIdeal.sig) → Buf (Elt Ideal) ℓ) : Prop :=
  True

def Pre_Nf2 (m : (ℓ : Loc Cert.Nf2.nD Cert.Nf2.τ Cert.Nf2.sig) → Buf (Elt Bits) ℓ) : Prop :=
  True

def Pre_Nf2Ideal (m : (ℓ : Loc Cert.Nf2Ideal.nD Cert.Nf2Ideal.τ Cert.Nf2Ideal.sig) → Buf (Elt Ideal) ℓ) : Prop :=
  True

def Pre_Nf2RefIdeal (m : (ℓ : Loc Cert.Nf2RefIdeal.nD Cert.Nf2RefIdeal.τ Cert.Nf2RefIdeal.sig) → Buf (Elt Ideal) ℓ) : Prop :=
  True

def Pre_Afw (m : (ℓ : Loc Cert.Afw.nD Cert.Afw.τ Cert.Afw.sig) → Buf (Elt Bits) ℓ) : Prop :=
  True

def Pre_AfwIdeal (m : (ℓ : Loc Cert.AfwIdeal.nD Cert.AfwIdeal.τ Cert.AfwIdeal.sig) → Buf (Elt Ideal) ℓ) : Prop :=
  True

def Pre_AfwRefIdeal (m : (ℓ : Loc Cert.AfwRefIdeal.nD Cert.AfwRefIdeal.τ Cert.AfwRefIdeal.sig) → Buf (Elt Ideal) ℓ) : Prop :=
  True

def Pre_Mrg (m : (ℓ : Loc Cert.Mrg.nD Cert.Mrg.τ Cert.Mrg.sig) → Buf (Elt Bits) ℓ) : Prop :=
  True

def Pre_MrgIdeal (m : (ℓ : Loc Cert.MrgIdeal.nD Cert.MrgIdeal.τ Cert.MrgIdeal.sig) → Buf (Elt Ideal) ℓ) : Prop :=
  True

def Pre_MrgRefIdeal (m : (ℓ : Loc Cert.MrgRefIdeal.nD Cert.MrgRefIdeal.τ Cert.MrgRefIdeal.sig) → Buf (Elt Ideal) ℓ) : Prop :=
  True

def Pre_Nbw (m : (ℓ : Loc Cert.Nbw.nD Cert.Nbw.τ Cert.Nbw.sig) → Buf (Elt Bits) ℓ) : Prop :=
  True

def Pre_NbwIdeal (m : (ℓ : Loc Cert.NbwIdeal.nD Cert.NbwIdeal.τ Cert.NbwIdeal.sig) → Buf (Elt Ideal) ℓ) : Prop :=
  True

def Pre_NbwRefIdeal (m : (ℓ : Loc Cert.NbwRefIdeal.nD Cert.NbwRefIdeal.τ Cert.NbwRefIdeal.sig) → Buf (Elt Ideal) ℓ) : Prop :=
  True

def Pre_Nb2 (m : (ℓ : Loc Cert.Nb2.nD Cert.Nb2.τ Cert.Nb2.sig) → Buf (Elt Bits) ℓ) : Prop :=
  True

def Pre_Nb2Ideal (m : (ℓ : Loc Cert.Nb2Ideal.nD Cert.Nb2Ideal.τ Cert.Nb2Ideal.sig) → Buf (Elt Ideal) ℓ) : Prop :=
  True

def Pre_Nb2RefIdeal (m : (ℓ : Loc Cert.Nb2RefIdeal.nD Cert.Nb2RefIdeal.τ Cert.Nb2RefIdeal.sig) → Buf (Elt Ideal) ℓ) : Prop :=
  True

def Pre_Fls (m : (ℓ : Loc Cert.Fls.nD Cert.Fls.τ Cert.Fls.sig) → Buf (Elt Bits) ℓ) : Prop :=
  True

def Pre_FlsIdeal (m : (ℓ : Loc Cert.FlsIdeal.nD Cert.FlsIdeal.τ Cert.FlsIdeal.sig) → Buf (Elt Ideal) ℓ) : Prop :=
  True

def Pre_FlsRefIdeal (m : (ℓ : Loc Cert.FlsRefIdeal.nD Cert.FlsRefIdeal.τ Cert.FlsRefIdeal.sig) → Buf (Elt Ideal) ℓ) : Prop :=
  True

def Pre_Obw (m : (ℓ : Loc Cert.Obw.nD Cert.Obw.τ Cert.Obw.sig) → Buf (Elt Bits) ℓ) : Prop :=
  True

def Pre_ObwIdeal (m : (ℓ : Loc Cert.ObwIdeal.nD Cert.ObwIdeal.τ Cert.ObwIdeal.sig) → Buf (Elt Ideal) ℓ) : Prop :=
  True

def Pre_ObwRefIdeal (m : (ℓ : Loc Cert.ObwRefIdeal.nD Cert.ObwRefIdeal.τ Cert.ObwRefIdeal.sig) → Buf (Elt Ideal) ℓ) : Prop :=
  True

def Pre_Gfw (m : (ℓ : Loc Cert.Gfw.nD Cert.Gfw.τ Cert.Gfw.sig) → Buf (Elt Bits) ℓ) : Prop :=
  True

def Pre_GfwIdeal (m : (ℓ : Loc Cert.GfwIdeal.nD Cert.GfwIdeal.τ Cert.GfwIdeal.sig) → Buf (Elt Ideal) ℓ) : Prop :=
  True

def Pre_GfwRefIdeal (m : (ℓ : Loc Cert.GfwRefIdeal.nD Cert.GfwRefIdeal.τ Cert.GfwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gfi [hGfi : Cert.Gfi.Facts] : Prop :=
  ∀ (m : (ℓ : Loc Cert.Gfi.nD Cert.Gfi.τ Cert.Gfi.sig) → Buf (Elt Bits) ℓ) (g : Dev Cert.Gfi.nD → PrngReg), Pre_Gfi m →
    θ_run (Cert.Gfi.defs (F := Bits)) (onTc (τ := Cert.Gfi.τ) (Cert.Gfi.main (F := Bits))) ⟨m, fun _ => 0, g⟩ (fun r => (∀ c : Dev Cert.Gfi.nD,
      r.2.mem ((c.tc : Thread Cert.Gfi.nD Cert.Gfi.τ).loc Cert.Gfi.main_arg0) = m ((c.tc : Thread Cert.Gfi.nD Cert.Gfi.τ).loc Cert.Gfi.main_arg0)
      ∧ r.2.mem ((c.tc : Thread Cert.Gfi.nD Cert.Gfi.τ).loc Cert.Gfi.main_arg1) = m ((c.tc : Thread Cert.Gfi.nD Cert.Gfi.τ).loc Cert.Gfi.main_arg1)
      ∧ r.2.mem ((c.tc : Thread Cert.Gfi.nD Cert.Gfi.τ).loc Cert.Gfi.main_arg2) = m ((c.tc : Thread Cert.Gfi.nD Cert.Gfi.τ).loc Cert.Gfi.main_arg2))
      ∧ r.2.sem = fun _ => 0)

def quiescent_GfiIdeal [hGfiIdeal : Cert.GfiIdeal.Facts] : Prop :=
  ∀ (m : (ℓ : Loc Cert.GfiIdeal.nD Cert.GfiIdeal.τ Cert.GfiIdeal.sig) → Buf (Elt Ideal) ℓ) (g : Dev Cert.GfiIdeal.nD → PrngReg), Pre_GfiIdeal m →
    θ_run (Cert.GfiIdeal.defs (F := Ideal)) (onTc (τ := Cert.GfiIdeal.τ) (Cert.GfiIdeal.main (F := Ideal))) ⟨m, fun _ => 0, g⟩ (fun r => (∀ c : Dev Cert.GfiIdeal.nD,
      r.2.mem ((c.tc : Thread Cert.GfiIdeal.nD Cert.GfiIdeal.τ).loc Cert.GfiIdeal.main_arg0) = m ((c.tc : Thread Cert.GfiIdeal.nD Cert.GfiIdeal.τ).loc Cert.GfiIdeal.main_arg0)
      ∧ r.2.mem ((c.tc : Thread Cert.GfiIdeal.nD Cert.GfiIdeal.τ).loc Cert.GfiIdeal.main_arg1) = m ((c.tc : Thread Cert.GfiIdeal.nD Cert.GfiIdeal.τ).loc Cert.GfiIdeal.main_arg1)
      ∧ r.2.mem ((c.tc : Thread Cert.GfiIdeal.nD Cert.GfiIdeal.τ).loc Cert.GfiIdeal.main_arg2) = m ((c.tc : Thread Cert.GfiIdeal.nD Cert.GfiIdeal.τ).loc Cert.GfiIdeal.main_arg2))
      ∧ r.2.sem = fun _ => 0)

def quiescent_GfiRefIdeal [hGfiRefIdeal : Cert.GfiRefIdeal.Facts] : Prop :=
  ∀ (m : (ℓ : Loc Cert.GfiRefIdeal.nD Cert.GfiRefIdeal.τ Cert.GfiRefIdeal.sig) → Buf (Elt Ideal) ℓ) (g : Dev Cert.GfiRefIdeal.nD → PrngReg), Pre_GfiRefIdeal m →
    θ_run (Cert.GfiRefIdeal.defs (F := Ideal)) (onTc (τ := Cert.GfiRefIdeal.τ) (Cert.GfiRefIdeal.main (F := Ideal))) ⟨m, fun _ => 0, g⟩ (fun r => (∀ c : Dev Cert.GfiRefIdeal.nD,
      r.2.mem ((c.tc : Thread Cert.GfiRefIdeal.nD Cert.GfiRefIdeal.τ).loc Cert.GfiRefIdeal.main_arg0) = m ((c.tc : Thread Cert.GfiRefIdeal.nD Cert.GfiRefIdeal.τ).loc Cert.GfiRefIdeal.main_arg0)
      ∧ r.2.mem ((c.tc : Thread Cert.GfiRefIdeal.nD Cert.GfiRefIdeal.τ).loc Cert.GfiRefIdeal.main_arg1) = m ((c.tc : Thread Cert.GfiRefIdeal.nD Cert.GfiRefIdeal.τ).loc Cert.GfiRefIdeal.main_arg1)
      ∧ r.2.mem ((c.tc : Thread Cert.GfiRefIdeal.nD Cert.GfiRefIdeal.τ).loc Cert.GfiRefIdeal.main_arg2) = m ((c.tc : Thread Cert.GfiRefIdeal.nD Cert.GfiRefIdeal.τ).loc Cert.GfiRefIdeal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1))
      ∧ r.2.sem = fun _ => 0)

def quiescent_Gfo [hGfo : Cert.Gfo.Facts] : Prop :=
  ∀ (m : (ℓ : Loc Cert.Gfo.nD Cert.Gfo.τ Cert.Gfo.sig) → Buf (Elt Bits) ℓ) (g : Dev Cert.Gfo.nD → PrngReg), Pre_Gfo m →
    θ_run (Cert.Gfo.defs (F := Bits)) (onTc (τ := Cert.Gfo.τ) (Cert.Gfo.main (F := Bits))) ⟨m, fun _ => 0, g⟩ (fun r => (∀ c : Dev Cert.Gfo.nD,
      r.2.mem ((c.tc : Thread Cert.Gfo.nD Cert.Gfo.τ).loc Cert.Gfo.main_arg0) = m ((c.tc : Thread Cert.Gfo.nD Cert.Gfo.τ).loc Cert.Gfo.main_arg0)
      ∧ r.2.mem ((c.tc : Thread Cert.Gfo.nD Cert.Gfo.τ).loc Cert.Gfo.main_arg1) = m ((c.tc : Thread Cert.Gfo.nD Cert.Gfo.τ).loc Cert.Gfo.main_arg1))
      ∧ r.2.sem = fun _ => 0)

def quiescent_GfoIdeal [hGfoIdeal : Cert.GfoIdeal.Facts] : Prop :=
  ∀ (m : (ℓ : Loc Cert.GfoIdeal.nD Cert.GfoIdeal.τ Cert.GfoIdeal.sig) → Buf (Elt Ideal) ℓ) (g : Dev Cert.GfoIdeal.nD → PrngReg), Pre_GfoIdeal m →
    θ_run (Cert.GfoIdeal.defs (F := Ideal)) (onTc (τ := Cert.GfoIdeal.τ) (Cert.GfoIdeal.main (F := Ideal))) ⟨m, fun _ => 0, g⟩ (fun r => (∀ c : Dev Cert.GfoIdeal.nD,
      r.2.mem ((c.tc : Thread Cert.GfoIdeal.nD Cert.GfoIdeal.τ).loc Cert.GfoIdeal.main_arg0) = m ((c.tc : Thread Cert.GfoIdeal.nD Cert.GfoIdeal.τ).loc Cert.GfoIdeal.main_arg0)
      ∧ r.2.mem ((c.tc : Thread Cert.GfoIdeal.nD Cert.GfoIdeal.τ).loc Cert.GfoIdeal.main_arg1) = m ((c.tc : Thread Cert.GfoIdeal.nD Cert.GfoIdeal.τ).loc Cert.GfoIdeal.main_arg1))
      ∧ r.2.sem = fun _ => 0)

def quiescent_GfoRefIdeal [hGfoRefIdeal : Cert.GfoRefIdeal.Facts] : Prop :=
  ∀ (m : (ℓ : Loc Cert.GfoRefIdeal.nD Cert.GfoRefIdeal.τ Cert.GfoRefIdeal.sig) → Buf (Elt Ideal) ℓ) (g : Dev Cert.GfoRefIdeal.nD → PrngReg), Pre_GfoRefIdeal m →
    θ_run (Cert.GfoRefIdeal.defs (F := Ideal)) (onTc (τ := Cert.GfoRefIdeal.τ) (Cert.GfoRefIdeal.main (F := Ideal))) ⟨m, fun _ => 0, g⟩ (fun r => (∀ c : Dev Cert.GfoRefIdeal.nD,
      r.2.mem ((c.tc : Thread Cert.GfoRefIdeal.nD Cert.GfoRefIdeal.τ).loc Cert.GfoRefIdeal.main_arg0) = m ((c.tc : Thread Cert.GfoRefIdeal.nD Cert.GfoRefIdeal.τ).loc Cert.GfoRefIdeal.main_arg0)
      ∧ r.2.mem ((c.tc : Thread Cert.GfoRefIdeal.nD Cert.GfoRefIdeal.τ).loc Cert.GfoRefIdeal.main_arg1) = m ((c.tc : Thread Cert.GfoRefIdeal.nD Cert.GfoRefIdeal.τ).loc Cert.GfoRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Yo [hYo : Cert.Yo.Facts] : Prop :=
  ∀ (m : (ℓ : Loc Cert.Yo.nD Cert.Yo.τ Cert.Yo.sig) → Buf (Elt Bits) ℓ) (g : Dev Cert.Yo.nD → PrngReg), Pre_Yo m →
    θ_run (Cert.Yo.defs (F := Bits)) (onTc (τ := Cert.Yo.τ) (Cert.Yo.main (F := Bits))) ⟨m, fun _ => 0, g⟩ (fun r => (∀ c : Dev Cert.Yo.nD,
      r.2.mem ((c.tc : Thread Cert.Yo.nD Cert.Yo.τ).loc Cert.Yo.main_arg0) = m ((c.tc : Thread Cert.Yo.nD Cert.Yo.τ).loc Cert.Yo.main_arg0)
      ∧ r.2.mem ((c.tc : Thread Cert.Yo.nD Cert.Yo.τ).loc Cert.Yo.main_arg1) = m ((c.tc : Thread Cert.Yo.nD Cert.Yo.τ).loc Cert.Yo.main_arg1))
      ∧ r.2.sem = fun _ => 0)

def quiescent_YoIdeal [hYoIdeal : Cert.YoIdeal.Facts] : Prop :=
  ∀ (m : (ℓ : Loc Cert.YoIdeal.nD Cert.YoIdeal.τ Cert.YoIdeal.sig) → Buf (Elt Ideal) ℓ) (g : Dev Cert.YoIdeal.nD → PrngReg), Pre_YoIdeal m →
    θ_run (Cert.YoIdeal.defs (F := Ideal)) (onTc (τ := Cert.YoIdeal.τ) (Cert.YoIdeal.main (F := Ideal))) ⟨m, fun _ => 0, g⟩ (fun r => (∀ c : Dev Cert.YoIdeal.nD,
      r.2.mem ((c.tc : Thread Cert.YoIdeal.nD Cert.YoIdeal.τ).loc Cert.YoIdeal.main_arg0) = m ((c.tc : Thread Cert.YoIdeal.nD Cert.YoIdeal.τ).loc Cert.YoIdeal.main_arg0)
      ∧ r.2.mem ((c.tc : Thread Cert.YoIdeal.nD Cert.YoIdeal.τ).loc Cert.YoIdeal.main_arg1) = m ((c.tc : Thread Cert.YoIdeal.nD Cert.YoIdeal.τ).loc Cert.YoIdeal.main_arg1))
      ∧ r.2.sem = fun _ => 0)

def quiescent_YoRefIdeal [hYoRefIdeal : Cert.YoRefIdeal.Facts] : Prop :=
  ∀ (m : (ℓ : Loc Cert.YoRefIdeal.nD Cert.YoRefIdeal.τ Cert.YoRefIdeal.sig) → Buf (Elt Ideal) ℓ) (g : Dev Cert.YoRefIdeal.nD → PrngReg), Pre_YoRefIdeal m →
    θ_run (Cert.YoRefIdeal.defs (F := Ideal)) (onTc (τ := Cert.YoRefIdeal.τ) (Cert.YoRefIdeal.main (F := Ideal))) ⟨m, fun _ => 0, g⟩ (fun r => (∀ c : Dev Cert.YoRefIdeal.nD,
      r.2.mem ((c.tc : Thread Cert.YoRefIdeal.nD Cert.YoRefIdeal.τ).loc Cert.YoRefIdeal.main_arg0) = m ((c.tc : Thread Cert.YoRefIdeal.nD Cert.YoRefIdeal.τ).loc Cert.YoRefIdeal.main_arg0)
      ∧ r.2.mem ((c.tc : Thread Cert.YoRefIdeal.nD Cert.YoRefIdeal.τ).loc Cert.YoRefIdeal.main_arg1) = m ((c.tc : Thread Cert.YoRefIdeal.nD Cert.YoRefIdeal.τ).loc Cert.YoRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Ffi [hFfi : Cert.Ffi.Facts] : Prop :=
  ∀ (m : (ℓ : Loc Cert.Ffi.nD Cert.Ffi.τ Cert.Ffi.sig) → Buf (Elt Bits) ℓ) (g : Dev Cert.Ffi.nD → PrngReg), Pre_Ffi m →
    θ_run (Cert.Ffi.defs (F := Bits)) (onTc (τ := Cert.Ffi.τ) (Cert.Ffi.main (F := Bits))) ⟨m, fun _ => 0, g⟩ (fun r => (∀ c : Dev Cert.Ffi.nD,
      r.2.mem ((c.tc : Thread Cert.Ffi.nD Cert.Ffi.τ).loc Cert.Ffi.main_arg0) = m ((c.tc : Thread Cert.Ffi.nD Cert.Ffi.τ).loc Cert.Ffi.main_arg0)
      ∧ r.2.mem ((c.tc : Thread Cert.Ffi.nD Cert.Ffi.τ).loc Cert.Ffi.main_arg1) = m ((c.tc : Thread Cert.Ffi.nD Cert.Ffi.τ).loc Cert.Ffi.main_arg1))
      ∧ r.2.sem = fun _ => 0)

def quiescent_FfiIdeal [hFfiIdeal : Cert.FfiIdeal.Facts] : Prop :=
  ∀ (m : (ℓ : Loc Cert.FfiIdeal.nD Cert.FfiIdeal.τ Cert.FfiIdeal.sig) → Buf (Elt Ideal) ℓ) (g : Dev Cert.FfiIdeal.nD → PrngReg), Pre_FfiIdeal m →
    θ_run (Cert.FfiIdeal.defs (F := Ideal)) (onTc (τ := Cert.FfiIdeal.τ) (Cert.FfiIdeal.main (F := Ideal))) ⟨m, fun _ => 0, g⟩ (fun r => (∀ c : Dev Cert.FfiIdeal.nD,
      r.2.mem ((c.tc : Thread Cert.FfiIdeal.nD Cert.FfiIdeal.τ).loc Cert.FfiIdeal.main_arg0) = m ((c.tc : Thread Cert.FfiIdeal.nD Cert.FfiIdeal.τ).loc Cert.FfiIdeal.main_arg0)
      ∧ r.2.mem ((c.tc : Thread Cert.FfiIdeal.nD Cert.FfiIdeal.τ).loc Cert.FfiIdeal.main_arg1) = m ((c.tc : Thread Cert.FfiIdeal.nD Cert.FfiIdeal.τ).loc Cert.FfiIdeal.main_arg1))
      ∧ r.2.sem = fun _ => 0)

def quiescent_FfiRefIdeal [hFfiRefIdeal : Cert.FfiRefIdeal.Facts] : Prop :=
  ∀ (m : (ℓ : Loc Cert.FfiRefIdeal.nD Cert.FfiRefIdeal.τ Cert.FfiRefIdeal.sig) → Buf (Elt Ideal) ℓ) (g : Dev Cert.FfiRefIdeal.nD → PrngReg), Pre_FfiRefIdeal m →
    θ_run (Cert.FfiRefIdeal.defs (F := Ideal)) (onTc (τ := Cert.FfiRefIdeal.τ) (Cert.FfiRefIdeal.main (F := Ideal))) ⟨m, fun _ => 0, g⟩ (fun r => (∀ c : Dev Cert.FfiRefIdeal.nD,
      r.2.mem ((c.tc : Thread Cert.FfiRefIdeal.nD Cert.FfiRefIdeal.τ).loc Cert.FfiRefIdeal.main_arg0) = m ((c.tc : Thread Cert.FfiRefIdeal.nD Cert.FfiRefIdeal.τ).loc Cert.FfiRefIdeal.main_arg0)
      ∧ r.2.mem ((c.tc : Thread Cert.FfiRefIdeal.nD Cert.FfiRefIdeal.τ).loc Cert.FfiRefIdeal.main_arg1) = m ((c.tc : Thread Cert.FfiRefIdeal.nD Cert.FfiRefIdeal.τ).loc Cert.FfiRefIdeal.main_arg1))
      ∧ r.2.sem = fun _ => 0)

def quiescent_Fob [hFob : Cert.Fob.Facts] : Prop :=
  ∀ (m : (ℓ : Loc Cert.Fob.nD Cert.Fob.τ Cert.Fob.sig) → Buf (Elt Bits) ℓ) (g : Dev Cert.Fob.nD → PrngReg), Pre_Fob m →
    θ_run (Cert.Fob.defs (F := Bits)) (onTc (τ := Cert.Fob.τ) (Cert.Fob.main (F := Bits))) ⟨m, fun _ => 0, g⟩ (fun r => (∀ c : Dev Cert.Fob.nD,
      r.2.mem ((c.tc : Thread Cert.Fob.nD Cert.Fob.τ).loc Cert.Fob.main_arg0) = m ((c.tc : Thread Cert.Fob.nD Cert.Fob.τ).loc Cert.Fob.main_arg0)
      ∧ r.2.mem ((c.tc : Thread Cert.Fob.nD Cert.Fob.τ).loc Cert.Fob.main_arg1) = m ((c.tc : Thread Cert.Fob.nD Cert.Fob.τ).loc Cert.Fob.main_arg1)
      ∧ r.2.mem ((c.tc : Thread Cert.Fob.nD Cert.Fob.τ).loc Cert.Fob.main_arg2) = m ((c.tc : Thread Cert.Fob.nD Cert.Fob.τ).loc Cert.Fob.main_arg2)
      ∧ r.2.mem ((c.tc : Thread Cert.Fob.nD Cert.Fob.τ).loc Cert.Fob.main_arg3) = m ((c.tc : Thread Cert.Fob.nD Cert.Fob.τ).loc Cert.Fob.main_arg3))
      ∧ r.2.sem = fun _ => 0)

def quiescent_FobIdeal [hFobIdeal : Cert.FobIdeal.Facts] : Prop :=
  ∀ (m : (ℓ : Loc Cert.FobIdeal.nD Cert.FobIdeal.τ Cert.FobIdeal.sig) → Buf (Elt Ideal) ℓ) (g : Dev Cert.FobIdeal.nD → PrngReg), Pre_FobIdeal m →
    θ_run (Cert.FobIdeal.defs (F := Ideal)) (onTc (τ := Cert.FobIdeal.τ) (Cert.FobIdeal.main (F := Ideal))) ⟨m, fun _ => 0, g⟩ (fun r => (∀ c : Dev Cert.FobIdeal.nD,
      r.2.mem ((c.tc : Thread Cert.FobIdeal.nD Cert.FobIdeal.τ).loc Cert.FobIdeal.main_arg0) = m ((c.tc : Thread Cert.FobIdeal.nD Cert.FobIdeal.τ).loc Cert.FobIdeal.main_arg0)
      ∧ r.2.mem ((c.tc : Thread Cert.FobIdeal.nD Cert.FobIdeal.τ).loc Cert.FobIdeal.main_arg1) = m ((c.tc : Thread Cert.FobIdeal.nD Cert.FobIdeal.τ).loc Cert.FobIdeal.main_arg1)
      ∧ r.2.mem ((c.tc : Thread Cert.FobIdeal.nD Cert.FobIdeal.τ).loc Cert.FobIdeal.main_arg2) = m ((c.tc : Thread Cert.FobIdeal.nD Cert.FobIdeal.τ).loc Cert.FobIdeal.main_arg2)
      ∧ r.2.mem ((c.tc : Thread Cert.FobIdeal.nD Cert.FobIdeal.τ).loc Cert.FobIdeal.main_arg3) = m ((c.tc : Thread Cert.FobIdeal.nD Cert.FobIdeal.τ).loc Cert.FobIdeal.main_arg3))
      ∧ r.2.sem = fun _ => 0)

def quiescent_FobIdeal_pre_finite_fob [hFobIdeal : Cert.FobIdeal.Facts] [hPre_finite_fob : Cert.Pre_finite_fob.Facts] : Prop :=
  ∀ (m : (ℓ : Loc Cert.FobIdeal.nD Cert.FobIdeal.τ Cert.FobIdeal.sig) → Buf (Elt Ideal) ℓ) (g : Dev Cert.FobIdeal.nD → PrngReg), Pre_FobIdeal_finite_fob m →
    θ_run (Cert.FobIdeal.defs (F := Ideal)) (onTc (τ := Cert.FobIdeal.τ) (Cert.FobIdeal.main (F := Ideal))) ⟨m, fun _ => 0, g⟩ (fun r => (∀ c : Dev Cert.FobIdeal.nD,
      r.2.mem ((c.tc : Thread Cert.FobIdeal.nD Cert.FobIdeal.τ).loc Cert.FobIdeal.main_arg0) = m ((c.tc : Thread Cert.FobIdeal.nD Cert.FobIdeal.τ).loc Cert.FobIdeal.main_arg0)
      ∧ r.2.mem ((c.tc : Thread Cert.FobIdeal.nD Cert.FobIdeal.τ).loc Cert.FobIdeal.main_arg1) = m ((c.tc : Thread Cert.FobIdeal.nD Cert.FobIdeal.τ).loc Cert.FobIdeal.main_arg1)
      ∧ r.2.mem ((c.tc : Thread Cert.FobIdeal.nD Cert.FobIdeal.τ).loc Cert.FobIdeal.main_arg2) = m ((c.tc : Thread Cert.FobIdeal.nD Cert.FobIdeal.τ).loc Cert.FobIdeal.main_arg2)
      ∧ r.2.mem ((c.tc : Thread Cert.FobIdeal.nD Cert.FobIdeal.τ).loc Cert.FobIdeal.main_arg3) = m ((c.tc : Thread Cert.FobIdeal.nD Cert.FobIdeal.τ).loc Cert.FobIdeal.main_arg3))
      ∧ r.2.sem = fun _ => 0)

def quiescent_FobRefIdeal [hFobRefIdeal : Cert.FobRefIdeal.Facts] : Prop :=
  ∀ (m : (ℓ : Loc Cert.FobRefIdeal.nD Cert.FobRefIdeal.τ Cert.FobRefIdeal.sig) → Buf (Elt Ideal) ℓ) (g : Dev Cert.FobRefIdeal.nD → PrngReg), Pre_FobRefIdeal m →
    θ_run (Cert.FobRefIdeal.defs (F := Ideal)) (onTc (τ := Cert.FobRefIdeal.τ) (Cert.FobRefIdeal.main (F := Ideal))) ⟨m, fun _ => 0, g⟩ (fun r => (∀ c : Dev Cert.FobRefIdeal.nD,
      r.2.mem ((c.tc : Thread Cert.FobRefIdeal.nD Cert.FobRefIdeal.τ).loc Cert.FobRefIdeal.main_arg0) = m ((c.tc : Thread Cert.FobRefIdeal.nD Cert.FobRefIdeal.τ).loc Cert.FobRefIdeal.main_arg0)
      ∧ r.2.mem ((c.tc : Thread Cert.FobRefIdeal.nD Cert.FobRefIdeal.τ).loc Cert.FobRefIdeal.main_arg1) = m ((c.tc : Thread Cert.FobRefIdeal.nD Cert.FobRefIdeal.τ).loc Cert.FobRefIdeal.main_arg1)
      ∧ r.2.mem ((c.tc : Thread Cert.FobRefIdeal.nD Cert.FobRefIdeal.τ).loc Cert.FobRefIdeal.main_arg2) = m ((c.tc : Thread Cert.FobRefIdeal.nD Cert.FobRefIdeal.τ).loc Cert.FobRefIdeal.main_arg2)
      ∧ r.2.mem ((c.tc : Thread Cert.FobRefIdeal.nD Cert.FobRefIdeal.τ).loc Cert.FobRefIdeal.main_arg3) = m ((c.tc : Thread Cert.FobRefIdeal.nD Cert.FobRefIdeal.τ).loc Cert.FobRefIdeal.main_arg3))
      ∧ r.2.sem = fun _ => 0)

def quiescent_FobRefIdeal_pre_finite_fob [hFobRefIdeal : Cert.FobRefIdeal.Facts] [hPre_finite_fob : Cert.Pre_finite_fob.Facts] : Prop :=
  ∀ (m : (ℓ : Loc Cert.FobRefIdeal.nD Cert.FobRefIdeal.τ Cert.FobRefIdeal.sig) → Buf (Elt Ideal) ℓ) (g : Dev Cert.FobRefIdeal.nD → PrngReg), Pre_FobRefIdeal_finite_fob m →
    θ_run (Cert.FobRefIdeal.defs (F := Ideal)) (onTc (τ := Cert.FobRefIdeal.τ) (Cert.FobRefIdeal.main (F := Ideal))) ⟨m, fun _ => 0, g⟩ (fun r => (∀ c : Dev Cert.FobRefIdeal.nD,
      r.2.mem ((c.tc : Thread Cert.FobRefIdeal.nD Cert.FobRefIdeal.τ).loc Cert.FobRefIdeal.main_arg0) = m ((c.tc : Thread Cert.FobRefIdeal.nD Cert.FobRefIdeal.τ).loc Cert.FobRefIdeal.main_arg0)
      ∧ r.2.mem ((c.tc : Thread Cert.FobRefIdeal.nD Cert.FobRefIdeal.τ).loc Cert.FobRefIdeal.main_arg1) = m ((c.tc : Thread Cert.FobRefIdeal.nD Cert.FobRefIdeal.τ).loc Cert.FobRefIdeal.main_arg1)
      ∧ r.2.mem ((c.tc : Thread Cert.FobRefIdeal.nD Cert.FobRefIdeal.τ).loc Cert.FobRefIdeal.main_arg2) = m ((c.tc : Thread Cert.FobRefIdeal.nD Cert.FobRefIdeal.τ).loc Cert.FobRefIdeal.main_arg2)
      ∧ r.2.mem ((c.tc : Thread Cert.FobRefIdeal.nD Cert.FobRefIdeal.τ).loc Cert.FobRefIdeal.main_arg3) = m ((c.tc : Thread Cert.FobRefIdeal.nD Cert.FobRefIdeal.τ).loc Cert.FobRefIdeal.main_arg3))
      ∧ r.2.sem = fun _ => 0)

def quiescent_Bwg [hBwg : Cert.Bwg.Facts] : Prop :=
  ∀ (m : (ℓ : Loc Cert.Bwg.nD Cert.Bwg.τ Cert.Bwg.sig) → Buf (Elt Bits) ℓ) (g : Dev Cert.Bwg.nD → PrngReg), Pre_Bwg m →
    θ_run (Cert.Bwg.defs (F := Bits)) (onTc (τ := Cert.Bwg.τ) (Cert.Bwg.main (F := Bits))) ⟨m, fun _ => 0, g⟩ (fun r => (∀ c : Dev Cert.Bwg.nD,
      r.2.mem ((c.tc : Thread Cert.Bwg.nD Cert.Bwg.τ).loc Cert.Bwg.main_arg0) = m ((c.tc : Thread Cert.Bwg.nD Cert.Bwg.τ).loc Cert.Bwg.main_arg0)
      ∧ r.2.mem ((c.tc : Thread Cert.Bwg.nD Cert.Bwg.τ).loc Cert.Bwg.main_arg1) = m ((c.tc : Thread Cert.Bwg.nD Cert.Bwg.τ).loc Cert.Bwg.main_arg1)
      ∧ r.2.mem ((c.tc : Thread Cert.Bwg.nD Cert.Bwg.τ).loc Cert.Bwg.main_arg2) = m ((c.tc : Thread Cert.Bwg.nD Cert.Bwg.τ).loc Cert.Bwg.main_arg2)
      ∧ r.2.mem ((c.tc : Thread Cert.Bwg.nD Cert.Bwg.τ).loc Cert.Bwg.main_arg3) = m ((c.tc : Thread Cert.Bwg.nD Cert.Bwg.τ).loc Cert.Bwg.main_arg3))
      ∧ r.2.sem = fun _ => 0)

def quiescent_BwgIdeal [hBwgIdeal : Cert.BwgIdeal.Facts] : Prop :=
  ∀ (m : (ℓ : Loc Cert.BwgIdeal.nD Cert.BwgIdeal.τ Cert.BwgIdeal.sig) → Buf (Elt Ideal) ℓ) (g : Dev Cert.BwgIdeal.nD → PrngReg), Pre_BwgIdeal m →
    θ_run (Cert.BwgIdeal.defs (F := Ideal)) (onTc (τ := Cert.BwgIdeal.τ) (Cert.BwgIdeal.main (F := Ideal))) ⟨m, fun _ => 0, g⟩ (fun r => (∀ c : Dev Cert.BwgIdeal.nD,
      r.2.mem ((c.tc : Thread Cert.BwgIdeal.nD Cert.BwgIdeal.τ).loc Cert.BwgIdeal.main_arg0) = m ((c.tc : Thread Cert.BwgIdeal.nD Cert.BwgIdeal.τ).loc Cert.BwgIdeal.main_arg0)
      ∧ r.2.mem ((c.tc : Thread Cert.BwgIdeal.nD Cert.BwgIdeal.τ).loc Cert.BwgIdeal.main_arg1) = m ((c.tc : Thread Cert.BwgIdeal.nD Cert.BwgIdeal.τ).loc Cert.BwgIdeal.main_arg1)
      ∧ r.2.mem ((c.tc : Thread Cert.BwgIdeal.nD Cert.BwgIdeal.τ).loc Cert.BwgIdeal.main_arg2) = m ((c.tc : Thread Cert.BwgIdeal.nD Cert.BwgIdeal.τ).loc Cert.BwgIdeal.main_arg2)
      ∧ r.2.mem ((c.tc : Thread Cert.BwgIdeal.nD Cert.BwgIdeal.τ).loc Cert.BwgIdeal.main_arg3) = m ((c.tc : Thread Cert.BwgIdeal.nD Cert.BwgIdeal.τ).loc Cert.BwgIdeal.main_arg3))
      ∧ r.2.sem = fun _ => 0)

def quiescent_BwgRefIdeal [hBwgRefIdeal : Cert.BwgRefIdeal.Facts] : Prop :=
  ∀ (m : (ℓ : Loc Cert.BwgRefIdeal.nD Cert.BwgRefIdeal.τ Cert.BwgRefIdeal.sig) → Buf (Elt Ideal) ℓ) (g : Dev Cert.BwgRefIdeal.nD → PrngReg), Pre_BwgRefIdeal m →
    θ_run (Cert.BwgRefIdeal.defs (F := Ideal)) (onTc (τ := Cert.BwgRefIdeal.τ) (Cert.BwgRefIdeal.main (F := Ideal))) ⟨m, fun _ => 0, g⟩ (fun r => (∀ c : Dev Cert.BwgRefIdeal.nD,
      r.2.mem ((c.tc : Thread Cert.BwgRefIdeal.nD Cert.BwgRefIdeal.τ).loc Cert.BwgRefIdeal.main_arg0) = m ((c.tc : Thread Cert.BwgRefIdeal.nD Cert.BwgRefIdeal.τ).loc Cert.BwgRefIdeal.main_arg0)
      ∧ r.2.mem ((c.tc : Thread Cert.BwgRefIdeal.nD Cert.BwgRefIdeal.τ).loc Cert.BwgRefIdeal.main_arg1) = m ((c.tc : Thread Cert.BwgRefIdeal.nD Cert.BwgRefIdeal.τ).loc Cert.BwgRefIdeal.main_arg1)
      ∧ r.2.mem ((c.tc : Thread Cert.BwgRefIdeal.nD Cert.BwgRefIdeal.τ).loc Cert.BwgRefIdeal.main_arg2) = m ((c.tc : Thread Cert.BwgRefIdeal.nD Cert.BwgRefIdeal.τ).loc Cert.BwgRefIdeal.main_arg2)
      ∧ r.2.mem ((c.tc : Thread Cert.BwgRefIdeal.nD Cert.BwgRefIdeal.τ).loc Cert.BwgRefIdeal.main_arg3) = m ((c.tc : Thread Cert.BwgRefIdeal.nD Cert.BwgRefIdeal.τ).loc Cert.BwgRefIdeal.main_arg3))
      ∧ r.2.sem = fun _ => 0)

def quiescent_Bbw [hBbw : Cert.Bbw.Facts] : Prop :=
  ∀ (m : (ℓ : Loc Cert.Bbw.nD Cert.Bbw.τ Cert.Bbw.sig) → Buf (Elt Bits) ℓ) (g : Dev Cert.Bbw.nD → PrngReg), Pre_Bbw m →
    θ_run (Cert.Bbw.defs (F := Bits)) (onTc (τ := Cert.Bbw.τ) (Cert.Bbw.main (F := Bits))) ⟨m, fun _ => 0, g⟩ (fun r => (∀ c : Dev Cert.Bbw.nD,
      r.2.mem ((c.tc : Thread Cert.Bbw.nD Cert.Bbw.τ).loc Cert.Bbw.main_arg0) = m ((c.tc : Thread Cert.Bbw.nD Cert.Bbw.τ).loc Cert.Bbw.main_arg0)
      ∧ r.2.mem ((c.tc : Thread Cert.Bbw.nD Cert.Bbw.τ).loc Cert.Bbw.main_arg1) = m ((c.tc : Thread Cert.Bbw.nD Cert.Bbw.τ).loc Cert.Bbw.main_arg1)
      ∧ r.2.mem ((c.tc : Thread Cert.Bbw.nD Cert.Bbw.τ).loc Cert.Bbw.main_arg2) = m ((c.tc : Thread Cert.Bbw.nD Cert.Bbw.τ).loc Cert.Bbw.main_arg2)
      ∧ r.2.mem ((c.tc : Thread Cert.Bbw.nD Cert.Bbw.τ).loc Cert.Bbw.main_arg3) = m ((c.tc : Thread Cert.Bbw.nD Cert.Bbw.τ).loc Cert.Bbw.main_arg3))
      ∧ r.2.sem = fun _ => 0)

def quiescent_BbwIdeal [hBbwIdeal : Cert.BbwIdeal.Facts] : Prop :=
  ∀ (m : (ℓ : Loc Cert.BbwIdeal.nD Cert.BbwIdeal.τ Cert.BbwIdeal.sig) → Buf (Elt Ideal) ℓ) (g : Dev Cert.BbwIdeal.nD → PrngReg), Pre_BbwIdeal m →
    θ_run (Cert.BbwIdeal.defs (F := Ideal)) (onTc (τ := Cert.BbwIdeal.τ) (Cert.BbwIdeal.main (F := Ideal))) ⟨m, fun _ => 0, g⟩ (fun r => (∀ c : Dev Cert.BbwIdeal.nD,
      r.2.mem ((c.tc : Thread Cert.BbwIdeal.nD Cert.BbwIdeal.τ).loc Cert.BbwIdeal.main_arg0) = m ((c.tc : Thread Cert.BbwIdeal.nD Cert.BbwIdeal.τ).loc Cert.BbwIdeal.main_arg0)
      ∧ r.2.mem ((c.tc : Thread Cert.BbwIdeal.nD Cert.BbwIdeal.τ).loc Cert.BbwIdeal.main_arg1) = m ((c.tc : Thread Cert.BbwIdeal.nD Cert.BbwIdeal.τ).loc Cert.BbwIdeal.main_arg1)
      ∧ r.2.mem ((c.tc : Thread Cert.BbwIdeal.nD Cert.BbwIdeal.τ).loc Cert.BbwIdeal.main_arg2) = m ((c.tc : Thread Cert.BbwIdeal.nD Cert.BbwIdeal.τ).loc Cert.BbwIdeal.main_arg2)
      ∧ r.2.mem ((c.tc : Thread Cert.BbwIdeal.nD Cert.BbwIdeal.τ).loc Cert.BbwIdeal.main_arg3) = m ((c.tc : Thread Cert.BbwIdeal.nD Cert.BbwIdeal.τ).loc Cert.BbwIdeal.main_arg3))
      ∧ r.2.sem = fun _ => 0)

def quiescent_BbwRefIdeal [hBbwRefIdeal : Cert.BbwRefIdeal.Facts] : Prop :=
  ∀ (m : (ℓ : Loc Cert.BbwRefIdeal.nD Cert.BbwRefIdeal.τ Cert.BbwRefIdeal.sig) → Buf (Elt Ideal) ℓ) (g : Dev Cert.BbwRefIdeal.nD → PrngReg), Pre_BbwRefIdeal m →
    θ_run (Cert.BbwRefIdeal.defs (F := Ideal)) (onTc (τ := Cert.BbwRefIdeal.τ) (Cert.BbwRefIdeal.main (F := Ideal))) ⟨m, fun _ => 0, g⟩ (fun r => (∀ c : Dev Cert.BbwRefIdeal.nD,
      r.2.mem ((c.tc : Thread Cert.BbwRefIdeal.nD Cert.BbwRefIdeal.τ).loc Cert.BbwRefIdeal.main_arg0) = m ((c.tc : Thread Cert.BbwRefIdeal.nD Cert.BbwRefIdeal.τ).loc Cert.BbwRefIdeal.main_arg0)
      ∧ r.2.mem ((c.tc : Thread Cert.BbwRefIdeal.nD Cert.BbwRefIdeal.τ).loc Cert.BbwRefIdeal.main_arg1) = m ((c.tc : Thread Cert.BbwRefIdeal.nD Cert.BbwRefIdeal.τ).loc Cert.BbwRefIdeal.main_arg1)
      ∧ r.2.mem ((c.tc : Thread Cert.BbwRefIdeal.nD Cert.BbwRefIdeal.τ).loc Cert.BbwRefIdeal.main_arg2) = m ((c.tc : Thread Cert.BbwRefIdeal.nD Cert.BbwRefIdeal.τ).loc Cert.BbwRefIdeal.main_arg2)
      ∧ r.2.mem ((c.tc : Thread Cert.BbwRefIdeal.nD Cert.BbwRefIdeal.τ).loc Cert.BbwRefIdeal.main_arg3) = m ((c.tc : Thread Cert.BbwRefIdeal.nD Cert.BbwRefIdeal.τ).loc Cert.BbwRefIdeal.main_arg3))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4)
      ∧ r.2.mem ((c.tc : Thread Cert.Dh1.nD Cert.Dh1.τ).loc Cert.Dh1.main_arg5) = m ((c.tc : Thread Cert.Dh1.nD Cert.Dh1.τ).loc Cert.Dh1.main_arg5))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)
      ∧ r.2.mem ((c.tc : Thread Cert.Dh1RefIdeal.nD Cert.Dh1RefIdeal.τ).loc Cert.Dh1RefIdeal.main_arg5) = m ((c.tc : Thread Cert.Dh1RefIdeal.nD Cert.Dh1RefIdeal.τ).loc Cert.Dh1RefIdeal.main_arg5))
      ∧ r.2.sem = fun _ => 0)

def quiescent_Ufo [hUfo : Cert.Ufo.Facts] : Prop :=
  ∀ (m : (ℓ : Loc Cert.Ufo.nD Cert.Ufo.τ Cert.Ufo.sig) → Buf (Elt Bits) ℓ) (g : Dev Cert.Ufo.nD → PrngReg), Pre_Ufo m →
    θ_run (Cert.Ufo.defs (F := Bits)) (onTc (τ := Cert.Ufo.τ) (Cert.Ufo.main (F := Bits))) ⟨m, fun _ => 0, g⟩ (fun r => (∀ c : Dev Cert.Ufo.nD,
      r.2.mem ((c.tc : Thread Cert.Ufo.nD Cert.Ufo.τ).loc Cert.Ufo.main_arg0) = m ((c.tc : Thread Cert.Ufo.nD Cert.Ufo.τ).loc Cert.Ufo.main_arg0)
      ∧ r.2.mem ((c.tc : Thread Cert.Ufo.nD Cert.Ufo.τ).loc Cert.Ufo.main_arg1) = m ((c.tc : Thread Cert.Ufo.nD Cert.Ufo.τ).loc Cert.Ufo.main_arg1)
      ∧ r.2.mem ((c.tc : Thread Cert.Ufo.nD Cert.Ufo.τ).loc Cert.Ufo.main_arg2) = m ((c.tc : Thread Cert.Ufo.nD Cert.Ufo.τ).loc Cert.Ufo.main_arg2)
      ∧ r.2.mem ((c.tc : Thread Cert.Ufo.nD Cert.Ufo.τ).loc Cert.Ufo.main_arg3) = m ((c.tc : Thread Cert.Ufo.nD Cert.Ufo.τ).loc Cert.Ufo.main_arg3))
      ∧ r.2.sem = fun _ => 0)

def quiescent_UfoIdeal [hUfoIdeal : Cert.UfoIdeal.Facts] : Prop :=
  ∀ (m : (ℓ : Loc Cert.UfoIdeal.nD Cert.UfoIdeal.τ Cert.UfoIdeal.sig) → Buf (Elt Ideal) ℓ) (g : Dev Cert.UfoIdeal.nD → PrngReg), Pre_UfoIdeal m →
    θ_run (Cert.UfoIdeal.defs (F := Ideal)) (onTc (τ := Cert.UfoIdeal.τ) (Cert.UfoIdeal.main (F := Ideal))) ⟨m, fun _ => 0, g⟩ (fun r => (∀ c : Dev Cert.UfoIdeal.nD,
      r.2.mem ((c.tc : Thread Cert.UfoIdeal.nD Cert.UfoIdeal.τ).loc Cert.UfoIdeal.main_arg0) = m ((c.tc : Thread Cert.UfoIdeal.nD Cert.UfoIdeal.τ).loc Cert.UfoIdeal.main_arg0)
      ∧ r.2.mem ((c.tc : Thread Cert.UfoIdeal.nD Cert.UfoIdeal.τ).loc Cert.UfoIdeal.main_arg1) = m ((c.tc : Thread Cert.UfoIdeal.nD Cert.UfoIdeal.τ).loc Cert.UfoIdeal.main_arg1)
      ∧ r.2.mem ((c.tc : Thread Cert.UfoIdeal.nD Cert.UfoIdeal.τ).loc Cert.UfoIdeal.main_arg2) = m ((c.tc : Thread Cert.UfoIdeal.nD Cert.UfoIdeal.τ).loc Cert.UfoIdeal.main_arg2)
      ∧ r.2.mem ((c.tc : Thread Cert.UfoIdeal.nD Cert.UfoIdeal.τ).loc Cert.UfoIdeal.main_arg3) = m ((c.tc : Thread Cert.UfoIdeal.nD Cert.UfoIdeal.τ).loc Cert.UfoIdeal.main_arg3))
      ∧ r.2.sem = fun _ => 0)

def quiescent_UfoRefIdeal [hUfoRefIdeal : Cert.UfoRefIdeal.Facts] : Prop :=
  ∀ (m : (ℓ : Loc Cert.UfoRefIdeal.nD Cert.UfoRefIdeal.τ Cert.UfoRefIdeal.sig) → Buf (Elt Ideal) ℓ) (g : Dev Cert.UfoRefIdeal.nD → PrngReg), Pre_UfoRefIdeal m →
    θ_run (Cert.UfoRefIdeal.defs (F := Ideal)) (onTc (τ := Cert.UfoRefIdeal.τ) (Cert.UfoRefIdeal.main (F := Ideal))) ⟨m, fun _ => 0, g⟩ (fun r => (∀ c : Dev Cert.UfoRefIdeal.nD,
      r.2.mem ((c.tc : Thread Cert.UfoRefIdeal.nD Cert.UfoRefIdeal.τ).loc Cert.UfoRefIdeal.main_arg0) = m ((c.tc : Thread Cert.UfoRefIdeal.nD Cert.UfoRefIdeal.τ).loc Cert.UfoRefIdeal.main_arg0)
      ∧ r.2.mem ((c.tc : Thread Cert.UfoRefIdeal.nD Cert.UfoRefIdeal.τ).loc Cert.UfoRefIdeal.main_arg1) = m ((c.tc : Thread Cert.UfoRefIdeal.nD Cert.UfoRefIdeal.τ).loc Cert.UfoRefIdeal.main_arg1)
      ∧ r.2.mem ((c.tc : Thread Cert.UfoRefIdeal.nD Cert.UfoRefIdeal.τ).loc Cert.UfoRefIdeal.main_arg2) = m ((c.tc : Thread Cert.UfoRefIdeal.nD Cert.UfoRefIdeal.τ).loc Cert.UfoRefIdeal.main_arg2)
      ∧ r.2.mem ((c.tc : Thread Cert.UfoRefIdeal.nD Cert.UfoRefIdeal.τ).loc Cert.UfoRefIdeal.main_arg3) = m ((c.tc : Thread Cert.UfoRefIdeal.nD Cert.UfoRefIdeal.τ).loc Cert.UfoRefIdeal.main_arg3))
      ∧ r.2.sem = fun _ => 0)

def quiescent_Uout [hUout : Cert.Uout.Facts] : Prop :=
  ∀ (m : (ℓ : Loc Cert.Uout.nD Cert.Uout.τ Cert.Uout.sig) → Buf (Elt Bits) ℓ) (g : Dev Cert.Uout.nD → PrngReg), Pre_Uout m →
    θ_run (Cert.Uout.defs (F := Bits)) (onTc (τ := Cert.Uout.τ) (Cert.Uout.main (F := Bits))) ⟨m, fun _ => 0, g⟩ (fun r => (∀ c : Dev Cert.Uout.nD,
      r.2.mem ((c.tc : Thread Cert.Uout.nD Cert.Uout.τ).loc Cert.Uout.main_arg0) = m ((c.tc : Thread Cert.Uout.nD Cert.Uout.τ).loc Cert.Uout.main_arg0)
      ∧ r.2.mem ((c.tc : Thread Cert.Uout.nD Cert.Uout.τ).loc Cert.Uout.main_arg1) = m ((c.tc : Thread Cert.Uout.nD Cert.Uout.τ).loc Cert.Uout.main_arg1)
      ∧ r.2.mem ((c.tc : Thread Cert.Uout.nD Cert.Uout.τ).loc Cert.Uout.main_arg2) = m ((c.tc : Thread Cert.Uout.nD Cert.Uout.τ).loc Cert.Uout.main_arg2)
      ∧ r.2.mem ((c.tc : Thread Cert.Uout.nD Cert.Uout.τ).loc Cert.Uout.main_arg3) = m ((c.tc : Thread Cert.Uout.nD Cert.Uout.τ).loc Cert.Uout.main_arg3))
      ∧ r.2.sem = fun _ => 0)

def quiescent_UoutIdeal [hUoutIdeal : Cert.UoutIdeal.Facts] : Prop :=
  ∀ (m : (ℓ : Loc Cert.UoutIdeal.nD Cert.UoutIdeal.τ Cert.UoutIdeal.sig) → Buf (Elt Ideal) ℓ) (g : Dev Cert.UoutIdeal.nD → PrngReg), Pre_UoutIdeal m →
    θ_run (Cert.UoutIdeal.defs (F := Ideal)) (onTc (τ := Cert.UoutIdeal.τ) (Cert.UoutIdeal.main (F := Ideal))) ⟨m, fun _ => 0, g⟩ (fun r => (∀ c : Dev Cert.UoutIdeal.nD,
      r.2.mem ((c.tc : Thread Cert.UoutIdeal.nD Cert.UoutIdeal.τ).loc Cert.UoutIdeal.main_arg0) = m ((c.tc : Thread Cert.UoutIdeal.nD Cert.UoutIdeal.τ).loc Cert.UoutIdeal.main_arg0)
      ∧ r.2.mem ((c.tc : Thread Cert.UoutIdeal.nD Cert.UoutIdeal.τ).loc Cert.UoutIdeal.main_arg1) = m ((c.tc : Thread Cert.UoutIdeal.nD Cert.UoutIdeal.τ).loc Cert.UoutIdeal.main_arg1)
      ∧ r.2.mem ((c.tc : Thread Cert.UoutIdeal.nD Cert.UoutIdeal.τ).loc Cert.UoutIdeal.main_arg2) = m ((c.tc : Thread Cert.UoutIdeal.nD Cert.UoutIdeal.τ).loc Cert.UoutIdeal.main_arg2)
      ∧ r.2.mem ((c.tc : Thread Cert.UoutIdeal.nD Cert.UoutIdeal.τ).loc Cert.UoutIdeal.main_arg3) = m ((c.tc : Thread Cert.UoutIdeal.nD Cert.UoutIdeal.τ).loc Cert.UoutIdeal.main_arg3))
      ∧ r.2.sem = fun _ => 0)

def quiescent_UoutRefIdeal [hUoutRefIdeal : Cert.UoutRefIdeal.Facts] : Prop :=
  ∀ (m : (ℓ : Loc Cert.UoutRefIdeal.nD Cert.UoutRefIdeal.τ Cert.UoutRefIdeal.sig) → Buf (Elt Ideal) ℓ) (g : Dev Cert.UoutRefIdeal.nD → PrngReg), Pre_UoutRefIdeal m →
    θ_run (Cert.UoutRefIdeal.defs (F := Ideal)) (onTc (τ := Cert.UoutRefIdeal.τ) (Cert.UoutRefIdeal.main (F := Ideal))) ⟨m, fun _ => 0, g⟩ (fun r => (∀ c : Dev Cert.UoutRefIdeal.nD,
      r.2.mem ((c.tc : Thread Cert.UoutRefIdeal.nD Cert.UoutRefIdeal.τ).loc Cert.UoutRefIdeal.main_arg0) = m ((c.tc : Thread Cert.UoutRefIdeal.nD Cert.UoutRefIdeal.τ).loc Cert.UoutRefIdeal.main_arg0)
      ∧ r.2.mem ((c.tc : Thread Cert.UoutRefIdeal.nD Cert.UoutRefIdeal.τ).loc Cert.UoutRefIdeal.main_arg1) = m ((c.tc : Thread Cert.UoutRefIdeal.nD Cert.UoutRefIdeal.τ).loc Cert.UoutRefIdeal.main_arg1)
      ∧ r.2.mem ((c.tc : Thread Cert.UoutRefIdeal.nD Cert.UoutRefIdeal.τ).loc Cert.UoutRefIdeal.main_arg2) = m ((c.tc : Thread Cert.UoutRefIdeal.nD Cert.UoutRefIdeal.τ).loc Cert.UoutRefIdeal.main_arg2)
      ∧ r.2.mem ((c.tc : Thread Cert.UoutRefIdeal.nD Cert.UoutRefIdeal.τ).loc Cert.UoutRefIdeal.main_arg3) = m ((c.tc : Thread Cert.UoutRefIdeal.nD Cert.UoutRefIdeal.τ).loc Cert.UoutRefIdeal.main_arg3))
      ∧ r.2.sem = fun _ => 0)

def quiescent_Ubg [hUbg : Cert.Ubg.Facts] : Prop :=
  ∀ (m : (ℓ : Loc Cert.Ubg.nD Cert.Ubg.τ Cert.Ubg.sig) → Buf (Elt Bits) ℓ) (g : Dev Cert.Ubg.nD → PrngReg), Pre_Ubg m →
    θ_run (Cert.Ubg.defs (F := Bits)) (onTc (τ := Cert.Ubg.τ) (Cert.Ubg.main (F := Bits))) ⟨m, fun _ => 0, g⟩ (fun r => (∀ c : Dev Cert.Ubg.nD,
      r.2.mem ((c.tc : Thread Cert.Ubg.nD Cert.Ubg.τ).loc Cert.Ubg.main_arg0) = m ((c.tc : Thread Cert.Ubg.nD Cert.Ubg.τ).loc Cert.Ubg.main_arg0)
      ∧ r.2.mem ((c.tc : Thread Cert.Ubg.nD Cert.Ubg.τ).loc Cert.Ubg.main_arg1) = m ((c.tc : Thread Cert.Ubg.nD Cert.Ubg.τ).loc Cert.Ubg.main_arg1)
      ∧ r.2.mem ((c.tc : Thread Cert.Ubg.nD Cert.Ubg.τ).loc Cert.Ubg.main_arg2) = m ((c.tc : Thread Cert.Ubg.nD Cert.Ubg.τ).loc Cert.Ubg.main_arg2)
      ∧ r.2.mem ((c.tc : Thread Cert.Ubg.nD Cert.Ubg.τ).loc Cert.Ubg.main_arg3) = m ((c.tc : Thread Cert.Ubg.nD Cert.Ubg.τ).loc Cert.Ubg.main_arg3))
      ∧ r.2.sem = fun _ => 0)

def quiescent_UbgIdeal [hUbgIdeal : Cert.UbgIdeal.Facts] : Prop :=
  ∀ (m : (ℓ : Loc Cert.UbgIdeal.nD Cert.UbgIdeal.τ Cert.UbgIdeal.sig) → Buf (Elt Ideal) ℓ) (g : Dev Cert.UbgIdeal.nD → PrngReg), Pre_UbgIdeal m →
    θ_run (Cert.UbgIdeal.defs (F := Ideal)) (onTc (τ := Cert.UbgIdeal.τ) (Cert.UbgIdeal.main (F := Ideal))) ⟨m, fun _ => 0, g⟩ (fun r => (∀ c : Dev Cert.UbgIdeal.nD,
      r.2.mem ((c.tc : Thread Cert.UbgIdeal.nD Cert.UbgIdeal.τ).loc Cert.UbgIdeal.main_arg0) = m ((c.tc : Thread Cert.UbgIdeal.nD Cert.UbgIdeal.τ).loc Cert.UbgIdeal.main_arg0)
      ∧ r.2.mem ((c.tc : Thread Cert.UbgIdeal.nD Cert.UbgIdeal.τ).loc Cert.UbgIdeal.main_arg1) = m ((c.tc : Thread Cert.UbgIdeal.nD Cert.UbgIdeal.τ).loc Cert.UbgIdeal.main_arg1)
      ∧ r.2.mem ((c.tc : Thread Cert.UbgIdeal.nD Cert.UbgIdeal.τ).loc Cert.UbgIdeal.main_arg2) = m ((c.tc : Thread Cert.UbgIdeal.nD Cert.UbgIdeal.τ).loc Cert.UbgIdeal.main_arg2)
      ∧ r.2.mem ((c.tc : Thread Cert.UbgIdeal.nD Cert.UbgIdeal.τ).loc Cert.UbgIdeal.main_arg3) = m ((c.tc : Thread Cert.UbgIdeal.nD Cert.UbgIdeal.τ).loc Cert.UbgIdeal.main_arg3))
      ∧ r.2.sem = fun _ => 0)

def quiescent_UbgRefIdeal [hUbgRefIdeal : Cert.UbgRefIdeal.Facts] : Prop :=
  ∀ (m : (ℓ : Loc Cert.UbgRefIdeal.nD Cert.UbgRefIdeal.τ Cert.UbgRefIdeal.sig) → Buf (Elt Ideal) ℓ) (g : Dev Cert.UbgRefIdeal.nD → PrngReg), Pre_UbgRefIdeal m →
    θ_run (Cert.UbgRefIdeal.defs (F := Ideal)) (onTc (τ := Cert.UbgRefIdeal.τ) (Cert.UbgRefIdeal.main (F := Ideal))) ⟨m, fun _ => 0, g⟩ (fun r => (∀ c : Dev Cert.UbgRefIdeal.nD,
      r.2.mem ((c.tc : Thread Cert.UbgRefIdeal.nD Cert.UbgRefIdeal.τ).loc Cert.UbgRefIdeal.main_arg0) = m ((c.tc : Thread Cert.UbgRefIdeal.nD Cert.UbgRefIdeal.τ).loc Cert.UbgRefIdeal.main_arg0)
      ∧ r.2.mem ((c.tc : Thread Cert.UbgRefIdeal.nD Cert.UbgRefIdeal.τ).loc Cert.UbgRefIdeal.main_arg1) = m ((c.tc : Thread Cert.UbgRefIdeal.nD Cert.UbgRefIdeal.τ).loc Cert.UbgRefIdeal.main_arg1)
      ∧ r.2.mem ((c.tc : Thread Cert.UbgRefIdeal.nD Cert.UbgRefIdeal.τ).loc Cert.UbgRefIdeal.main_arg2) = m ((c.tc : Thread Cert.UbgRefIdeal.nD Cert.UbgRefIdeal.τ).loc Cert.UbgRefIdeal.main_arg2)
      ∧ r.2.mem ((c.tc : Thread Cert.UbgRefIdeal.nD Cert.UbgRefIdeal.τ).loc Cert.UbgRefIdeal.main_arg3) = m ((c.tc : Thread Cert.UbgRefIdeal.nD Cert.UbgRefIdeal.τ).loc Cert.UbgRefIdeal.main_arg3))
      ∧ r.2.sem = fun _ => 0)

def quiescent_Ubh [hUbh : Cert.Ubh.Facts] : Prop :=
  ∀ (m : (ℓ : Loc Cert.Ubh.nD Cert.Ubh.τ Cert.Ubh.sig) → Buf (Elt Bits) ℓ) (g : Dev Cert.Ubh.nD → PrngReg), Pre_Ubh m →
    θ_run (Cert.Ubh.defs (F := Bits)) (onTc (τ := Cert.Ubh.τ) (Cert.Ubh.main (F := Bits))) ⟨m, fun _ => 0, g⟩ (fun r => (∀ c : Dev Cert.Ubh.nD,
      r.2.mem ((c.tc : Thread Cert.Ubh.nD Cert.Ubh.τ).loc Cert.Ubh.main_arg0) = m ((c.tc : Thread Cert.Ubh.nD Cert.Ubh.τ).loc Cert.Ubh.main_arg0)
      ∧ r.2.mem ((c.tc : Thread Cert.Ubh.nD Cert.Ubh.τ).loc Cert.Ubh.main_arg1) = m ((c.tc : Thread Cert.Ubh.nD Cert.Ubh.τ).loc Cert.Ubh.main_arg1)
      ∧ r.2.mem ((c.tc : Thread Cert.Ubh.nD Cert.Ubh.τ).loc Cert.Ubh.main_arg2) = m ((c.tc : Thread Cert.Ubh.nD Cert.Ubh.τ).loc Cert.Ubh.main_arg2)
      ∧ r.2.mem ((c.tc : Thread Cert.Ubh.nD Cert.Ubh.τ).loc Cert.Ubh.main_arg3) = m ((c.tc : Thread Cert.Ubh.nD Cert.Ubh.τ).loc Cert.Ubh.main_arg3))
      ∧ r.2.sem = fun _ => 0)

def quiescent_UbhIdeal [hUbhIdeal : Cert.UbhIdeal.Facts] : Prop :=
  ∀ (m : (ℓ : Loc Cert.UbhIdeal.nD Cert.UbhIdeal.τ Cert.UbhIdeal.sig) → Buf (Elt Ideal) ℓ) (g : Dev Cert.UbhIdeal.nD → PrngReg), Pre_UbhIdeal m →
    θ_run (Cert.UbhIdeal.defs (F := Ideal)) (onTc (τ := Cert.UbhIdeal.τ) (Cert.UbhIdeal.main (F := Ideal))) ⟨m, fun _ => 0, g⟩ (fun r => (∀ c : Dev Cert.UbhIdeal.nD,
      r.2.mem ((c.tc : Thread Cert.UbhIdeal.nD Cert.UbhIdeal.τ).loc Cert.UbhIdeal.main_arg0) = m ((c.tc : Thread Cert.UbhIdeal.nD Cert.UbhIdeal.τ).loc Cert.UbhIdeal.main_arg0)
      ∧ r.2.mem ((c.tc : Thread Cert.UbhIdeal.nD Cert.UbhIdeal.τ).loc Cert.UbhIdeal.main_arg1) = m ((c.tc : Thread Cert.UbhIdeal.nD Cert.UbhIdeal.τ).loc Cert.UbhIdeal.main_arg1)
      ∧ r.2.mem ((c.tc : Thread Cert.UbhIdeal.nD Cert.UbhIdeal.τ).loc Cert.UbhIdeal.main_arg2) = m ((c.tc : Thread Cert.UbhIdeal.nD Cert.UbhIdeal.τ).loc Cert.UbhIdeal.main_arg2)
      ∧ r.2.mem ((c.tc : Thread Cert.UbhIdeal.nD Cert.UbhIdeal.τ).loc Cert.UbhIdeal.main_arg3) = m ((c.tc : Thread Cert.UbhIdeal.nD Cert.UbhIdeal.τ).loc Cert.UbhIdeal.main_arg3))
      ∧ r.2.sem = fun _ => 0)

def quiescent_UbhRefIdeal [hUbhRefIdeal : Cert.UbhRefIdeal.Facts] : Prop :=
  ∀ (m : (ℓ : Loc Cert.UbhRefIdeal.nD Cert.UbhRefIdeal.τ Cert.UbhRefIdeal.sig) → Buf (Elt Ideal) ℓ) (g : Dev Cert.UbhRefIdeal.nD → PrngReg), Pre_UbhRefIdeal m →
    θ_run (Cert.UbhRefIdeal.defs (F := Ideal)) (onTc (τ := Cert.UbhRefIdeal.τ) (Cert.UbhRefIdeal.main (F := Ideal))) ⟨m, fun _ => 0, g⟩ (fun r => (∀ c : Dev Cert.UbhRefIdeal.nD,
      r.2.mem ((c.tc : Thread Cert.UbhRefIdeal.nD Cert.UbhRefIdeal.τ).loc Cert.UbhRefIdeal.main_arg0) = m ((c.tc : Thread Cert.UbhRefIdeal.nD Cert.UbhRefIdeal.τ).loc Cert.UbhRefIdeal.main_arg0)
      ∧ r.2.mem ((c.tc : Thread Cert.UbhRefIdeal.nD Cert.UbhRefIdeal.τ).loc Cert.UbhRefIdeal.main_arg1) = m ((c.tc : Thread Cert.UbhRefIdeal.nD Cert.UbhRefIdeal.τ).loc Cert.UbhRefIdeal.main_arg1)
      ∧ r.2.mem ((c.tc : Thread Cert.UbhRefIdeal.nD Cert.UbhRefIdeal.τ).loc Cert.UbhRefIdeal.main_arg2) = m ((c.tc : Thread Cert.UbhRefIdeal.nD Cert.UbhRefIdeal.τ).loc Cert.UbhRefIdeal.main_arg2)
      ∧ r.2.mem ((c.tc : Thread Cert.UbhRefIdeal.nD Cert.UbhRefIdeal.τ).loc Cert.UbhRefIdeal.main_arg3) = m ((c.tc : Thread Cert.UbhRefIdeal.nD Cert.UbhRefIdeal.τ).loc Cert.UbhRefIdeal.main_arg3))
      ∧ r.2.sem = fun _ => 0)

def quiescent_Uin [hUin : Cert.Uin.Facts] : Prop :=
  ∀ (m : (ℓ : Loc Cert.Uin.nD Cert.Uin.τ Cert.Uin.sig) → Buf (Elt Bits) ℓ) (g : Dev Cert.Uin.nD → PrngReg), Pre_Uin m →
    θ_run (Cert.Uin.defs (F := Bits)) (onTc (τ := Cert.Uin.τ) (Cert.Uin.main (F := Bits))) ⟨m, fun _ => 0, g⟩ (fun r => (∀ c : Dev Cert.Uin.nD,
      r.2.mem ((c.tc : Thread Cert.Uin.nD Cert.Uin.τ).loc Cert.Uin.main_arg0) = m ((c.tc : Thread Cert.Uin.nD Cert.Uin.τ).loc Cert.Uin.main_arg0)
      ∧ r.2.mem ((c.tc : Thread Cert.Uin.nD Cert.Uin.τ).loc Cert.Uin.main_arg1) = m ((c.tc : Thread Cert.Uin.nD Cert.Uin.τ).loc Cert.Uin.main_arg1)
      ∧ r.2.mem ((c.tc : Thread Cert.Uin.nD Cert.Uin.τ).loc Cert.Uin.main_arg2) = m ((c.tc : Thread Cert.Uin.nD Cert.Uin.τ).loc Cert.Uin.main_arg2)
      ∧ r.2.mem ((c.tc : Thread Cert.Uin.nD Cert.Uin.τ).loc Cert.Uin.main_arg3) = m ((c.tc : Thread Cert.Uin.nD Cert.Uin.τ).loc Cert.Uin.main_arg3))
      ∧ r.2.sem = fun _ => 0)

def quiescent_UinIdeal [hUinIdeal : Cert.UinIdeal.Facts] : Prop :=
  ∀ (m : (ℓ : Loc Cert.UinIdeal.nD Cert.UinIdeal.τ Cert.UinIdeal.sig) → Buf (Elt Ideal) ℓ) (g : Dev Cert.UinIdeal.nD → PrngReg), Pre_UinIdeal m →
    θ_run (Cert.UinIdeal.defs (F := Ideal)) (onTc (τ := Cert.UinIdeal.τ) (Cert.UinIdeal.main (F := Ideal))) ⟨m, fun _ => 0, g⟩ (fun r => (∀ c : Dev Cert.UinIdeal.nD,
      r.2.mem ((c.tc : Thread Cert.UinIdeal.nD Cert.UinIdeal.τ).loc Cert.UinIdeal.main_arg0) = m ((c.tc : Thread Cert.UinIdeal.nD Cert.UinIdeal.τ).loc Cert.UinIdeal.main_arg0)
      ∧ r.2.mem ((c.tc : Thread Cert.UinIdeal.nD Cert.UinIdeal.τ).loc Cert.UinIdeal.main_arg1) = m ((c.tc : Thread Cert.UinIdeal.nD Cert.UinIdeal.τ).loc Cert.UinIdeal.main_arg1)
      ∧ r.2.mem ((c.tc : Thread Cert.UinIdeal.nD Cert.UinIdeal.τ).loc Cert.UinIdeal.main_arg2) = m ((c.tc : Thread Cert.UinIdeal.nD Cert.UinIdeal.τ).loc Cert.UinIdeal.main_arg2)
      ∧ r.2.mem ((c.tc : Thread Cert.UinIdeal.nD Cert.UinIdeal.τ).loc Cert.UinIdeal.main_arg3) = m ((c.tc : Thread Cert.UinIdeal.nD Cert.UinIdeal.τ).loc Cert.UinIdeal.main_arg3))
      ∧ r.2.sem = fun _ => 0)

def quiescent_UinRefIdeal [hUinRefIdeal : Cert.UinRefIdeal.Facts] : Prop :=
  ∀ (m : (ℓ : Loc Cert.UinRefIdeal.nD Cert.UinRefIdeal.τ Cert.UinRefIdeal.sig) → Buf (Elt Ideal) ℓ) (g : Dev Cert.UinRefIdeal.nD → PrngReg), Pre_UinRefIdeal m →
    θ_run (Cert.UinRefIdeal.defs (F := Ideal)) (onTc (τ := Cert.UinRefIdeal.τ) (Cert.UinRefIdeal.main (F := Ideal))) ⟨m, fun _ => 0, g⟩ (fun r => (∀ c : Dev Cert.UinRefIdeal.nD,
      r.2.mem ((c.tc : Thread Cert.UinRefIdeal.nD Cert.UinRefIdeal.τ).loc Cert.UinRefIdeal.main_arg0) = m ((c.tc : Thread Cert.UinRefIdeal.nD Cert.UinRefIdeal.τ).loc Cert.UinRefIdeal.main_arg0)
      ∧ r.2.mem ((c.tc : Thread Cert.UinRefIdeal.nD Cert.UinRefIdeal.τ).loc Cert.UinRefIdeal.main_arg1) = m ((c.tc : Thread Cert.UinRefIdeal.nD Cert.UinRefIdeal.τ).loc Cert.UinRefIdeal.main_arg1)
      ∧ r.2.mem ((c.tc : Thread Cert.UinRefIdeal.nD Cert.UinRefIdeal.τ).loc Cert.UinRefIdeal.main_arg2) = m ((c.tc : Thread Cert.UinRefIdeal.nD Cert.UinRefIdeal.τ).loc Cert.UinRefIdeal.main_arg2)
      ∧ r.2.mem ((c.tc : Thread Cert.UinRefIdeal.nD Cert.UinRefIdeal.τ).loc Cert.UinRefIdeal.main_arg3) = m ((c.tc : Thread Cert.UinRefIdeal.nD Cert.UinRefIdeal.τ).loc Cert.UinRefIdeal.main_arg3))
      ∧ r.2.sem = fun _ => 0)

def quiescent_Usm [hUsm : Cert.Usm.Facts] : Prop :=
  ∀ (m : (ℓ : Loc Cert.Usm.nD Cert.Usm.τ Cert.Usm.sig) → Buf (Elt Bits) ℓ) (g : Dev Cert.Usm.nD → PrngReg), Pre_Usm m →
    θ_run (Cert.Usm.defs (F := Bits)) (onTc (τ := Cert.Usm.τ) (Cert.Usm.main (F := Bits))) ⟨m, fun _ => 0, g⟩ (fun r => (∀ c : Dev Cert.Usm.nD,
      r.2.mem ((c.tc : Thread Cert.Usm.nD Cert.Usm.τ).loc Cert.Usm.main_arg0) = m ((c.tc : Thread Cert.Usm.nD Cert.Usm.τ).loc Cert.Usm.main_arg0)
      ∧ r.2.mem ((c.tc : Thread Cert.Usm.nD Cert.Usm.τ).loc Cert.Usm.main_arg1) = m ((c.tc : Thread Cert.Usm.nD Cert.Usm.τ).loc Cert.Usm.main_arg1)
      ∧ r.2.mem ((c.tc : Thread Cert.Usm.nD Cert.Usm.τ).loc Cert.Usm.main_arg2) = m ((c.tc : Thread Cert.Usm.nD Cert.Usm.τ).loc Cert.Usm.main_arg2)
      ∧ r.2.mem ((c.tc : Thread Cert.Usm.nD Cert.Usm.τ).loc Cert.Usm.main_arg3) = m ((c.tc : Thread Cert.Usm.nD Cert.Usm.τ).loc Cert.Usm.main_arg3))
      ∧ r.2.sem = fun _ => 0)

def quiescent_UsmIdeal [hUsmIdeal : Cert.UsmIdeal.Facts] : Prop :=
  ∀ (m : (ℓ : Loc Cert.UsmIdeal.nD Cert.UsmIdeal.τ Cert.UsmIdeal.sig) → Buf (Elt Ideal) ℓ) (g : Dev Cert.UsmIdeal.nD → PrngReg), Pre_UsmIdeal m →
    θ_run (Cert.UsmIdeal.defs (F := Ideal)) (onTc (τ := Cert.UsmIdeal.τ) (Cert.UsmIdeal.main (F := Ideal))) ⟨m, fun _ => 0, g⟩ (fun r => (∀ c : Dev Cert.UsmIdeal.nD,
      r.2.mem ((c.tc : Thread Cert.UsmIdeal.nD Cert.UsmIdeal.τ).loc Cert.UsmIdeal.main_arg0) = m ((c.tc : Thread Cert.UsmIdeal.nD Cert.UsmIdeal.τ).loc Cert.UsmIdeal.main_arg0)
      ∧ r.2.mem ((c.tc : Thread Cert.UsmIdeal.nD Cert.UsmIdeal.τ).loc Cert.UsmIdeal.main_arg1) = m ((c.tc : Thread Cert.UsmIdeal.nD Cert.UsmIdeal.τ).loc Cert.UsmIdeal.main_arg1)
      ∧ r.2.mem ((c.tc : Thread Cert.UsmIdeal.nD Cert.UsmIdeal.τ).loc Cert.UsmIdeal.main_arg2) = m ((c.tc : Thread Cert.UsmIdeal.nD Cert.UsmIdeal.τ).loc Cert.UsmIdeal.main_arg2)
      ∧ r.2.mem ((c.tc : Thread Cert.UsmIdeal.nD Cert.UsmIdeal.τ).loc Cert.UsmIdeal.main_arg3) = m ((c.tc : Thread Cert.UsmIdeal.nD Cert.UsmIdeal.τ).loc Cert.UsmIdeal.main_arg3))
      ∧ r.2.sem = fun _ => 0)

def quiescent_UsmRefIdeal [hUsmRefIdeal : Cert.UsmRefIdeal.Facts] : Prop :=
  ∀ (m : (ℓ : Loc Cert.UsmRefIdeal.nD Cert.UsmRefIdeal.τ Cert.UsmRefIdeal.sig) → Buf (Elt Ideal) ℓ) (g : Dev Cert.UsmRefIdeal.nD → PrngReg), Pre_UsmRefIdeal m →
    θ_run (Cert.UsmRefIdeal.defs (F := Ideal)) (onTc (τ := Cert.UsmRefIdeal.τ) (Cert.UsmRefIdeal.main (F := Ideal))) ⟨m, fun _ => 0, g⟩ (fun r => (∀ c : Dev Cert.UsmRefIdeal.nD,
      r.2.mem ((c.tc : Thread Cert.UsmRefIdeal.nD Cert.UsmRefIdeal.τ).loc Cert.UsmRefIdeal.main_arg0) = m ((c.tc : Thread Cert.UsmRefIdeal.nD Cert.UsmRefIdeal.τ).loc Cert.UsmRefIdeal.main_arg0)
      ∧ r.2.mem ((c.tc : Thread Cert.UsmRefIdeal.nD Cert.UsmRefIdeal.τ).loc Cert.UsmRefIdeal.main_arg1) = m ((c.tc : Thread Cert.UsmRefIdeal.nD Cert.UsmRefIdeal.τ).loc Cert.UsmRefIdeal.main_arg1)
      ∧ r.2.mem ((c.tc : Thread Cert.UsmRefIdeal.nD Cert.UsmRefIdeal.τ).loc Cert.UsmRefIdeal.main_arg2) = m ((c.tc : Thread Cert.UsmRefIdeal.nD Cert.UsmRefIdeal.τ).loc Cert.UsmRefIdeal.main_arg2)
      ∧ r.2.mem ((c.tc : Thread Cert.UsmRefIdeal.nD Cert.UsmRefIdeal.τ).loc Cert.UsmRefIdeal.main_arg3) = m ((c.tc : Thread Cert.UsmRefIdeal.nD Cert.UsmRefIdeal.τ).loc Cert.UsmRefIdeal.main_arg3))
      ∧ r.2.sem = fun _ => 0)

def quiescent_Uada [hUada : Cert.Uada.Facts] : Prop :=
  ∀ (m : (ℓ : Loc Cert.Uada.nD Cert.Uada.τ Cert.Uada.sig) → Buf (Elt Bits) ℓ) (g : Dev Cert.Uada.nD → PrngReg), Pre_Uada m →
    θ_run (Cert.Uada.defs (F := Bits)) (onTc (τ := Cert.Uada.τ) (Cert.Uada.main (F := Bits))) ⟨m, fun _ => 0, g⟩ (fun r => (∀ c : Dev Cert.Uada.nD,
      r.2.mem ((c.tc : Thread Cert.Uada.nD Cert.Uada.τ).loc Cert.Uada.main_arg0) = m ((c.tc : Thread Cert.Uada.nD Cert.Uada.τ).loc Cert.Uada.main_arg0)
      ∧ r.2.mem ((c.tc : Thread Cert.Uada.nD Cert.Uada.τ).loc Cert.Uada.main_arg1) = m ((c.tc : Thread Cert.Uada.nD Cert.Uada.τ).loc Cert.Uada.main_arg1)
      ∧ r.2.mem ((c.tc : Thread Cert.Uada.nD Cert.Uada.τ).loc Cert.Uada.main_arg2) = m ((c.tc : Thread Cert.Uada.nD Cert.Uada.τ).loc Cert.Uada.main_arg2)
      ∧ r.2.mem ((c.tc : Thread Cert.Uada.nD Cert.Uada.τ).loc Cert.Uada.main_arg3) = m ((c.tc : Thread Cert.Uada.nD Cert.Uada.τ).loc Cert.Uada.main_arg3)
      ∧ r.2.mem ((c.tc : Thread Cert.Uada.nD Cert.Uada.τ).loc Cert.Uada.main_arg4) = m ((c.tc : Thread Cert.Uada.nD Cert.Uada.τ).loc Cert.Uada.main_arg4))
      ∧ r.2.sem = fun _ => 0)

def quiescent_UadaIdeal [hUadaIdeal : Cert.UadaIdeal.Facts] : Prop :=
  ∀ (m : (ℓ : Loc Cert.UadaIdeal.nD Cert.UadaIdeal.τ Cert.UadaIdeal.sig) → Buf (Elt Ideal) ℓ) (g : Dev Cert.UadaIdeal.nD → PrngReg), Pre_UadaIdeal m →
    θ_run (Cert.UadaIdeal.defs (F := Ideal)) (onTc (τ := Cert.UadaIdeal.τ) (Cert.UadaIdeal.main (F := Ideal))) ⟨m, fun _ => 0, g⟩ (fun r => (∀ c : Dev Cert.UadaIdeal.nD,
      r.2.mem ((c.tc : Thread Cert.UadaIdeal.nD Cert.UadaIdeal.τ).loc Cert.UadaIdeal.main_arg0) = m ((c.tc : Thread Cert.UadaIdeal.nD Cert.UadaIdeal.τ).loc Cert.UadaIdeal.main_arg0)
      ∧ r.2.mem ((c.tc : Thread Cert.UadaIdeal.nD Cert.UadaIdeal.τ).loc Cert.UadaIdeal.main_arg1) = m ((c.tc : Thread Cert.UadaIdeal.nD Cert.UadaIdeal.τ).loc Cert.UadaIdeal.main_arg1)
      ∧ r.2.mem ((c.tc : Thread Cert.UadaIdeal.nD Cert.UadaIdeal.τ).loc Cert.UadaIdeal.main_arg2) = m ((c.tc : Thread Cert.UadaIdeal.nD Cert.UadaIdeal.τ).loc Cert.UadaIdeal.main_arg2)
      ∧ r.2.mem ((c.tc : Thread Cert.UadaIdeal.nD Cert.UadaIdeal.τ).loc Cert.UadaIdeal.main_arg3) = m ((c.tc : Thread Cert.UadaIdeal.nD Cert.UadaIdeal.τ).loc Cert.UadaIdeal.main_arg3)
      ∧ r.2.mem ((c.tc : Thread Cert.UadaIdeal.nD Cert.UadaIdeal.τ).loc Cert.UadaIdeal.main_arg4) = m ((c.tc : Thread Cert.UadaIdeal.nD Cert.UadaIdeal.τ).loc Cert.UadaIdeal.main_arg4))
      ∧ r.2.sem = fun _ => 0)

def quiescent_UadaRefIdeal [hUadaRefIdeal : Cert.UadaRefIdeal.Facts] : Prop :=
  ∀ (m : (ℓ : Loc Cert.UadaRefIdeal.nD Cert.UadaRefIdeal.τ Cert.UadaRefIdeal.sig) → Buf (Elt Ideal) ℓ) (g : Dev Cert.UadaRefIdeal.nD → PrngReg), Pre_UadaRefIdeal m →
    θ_run (Cert.UadaRefIdeal.defs (F := Ideal)) (onTc (τ := Cert.UadaRefIdeal.τ) (Cert.UadaRefIdeal.main (F := Ideal))) ⟨m, fun _ => 0, g⟩ (fun r => (∀ c : Dev Cert.UadaRefIdeal.nD,
      r.2.mem ((c.tc : Thread Cert.UadaRefIdeal.nD Cert.UadaRefIdeal.τ).loc Cert.UadaRefIdeal.main_arg0) = m ((c.tc : Thread Cert.UadaRefIdeal.nD Cert.UadaRefIdeal.τ).loc Cert.UadaRefIdeal.main_arg0)
      ∧ r.2.mem ((c.tc : Thread Cert.UadaRefIdeal.nD Cert.UadaRefIdeal.τ).loc Cert.UadaRefIdeal.main_arg1) = m ((c.tc : Thread Cert.UadaRefIdeal.nD Cert.UadaRefIdeal.τ).loc Cert.UadaRefIdeal.main_arg1)
      ∧ r.2.mem ((c.tc : Thread Cert.UadaRefIdeal.nD Cert.UadaRefIdeal.τ).loc Cert.UadaRefIdeal.main_arg2) = m ((c.tc : Thread Cert.UadaRefIdeal.nD Cert.UadaRefIdeal.τ).loc Cert.UadaRefIdeal.main_arg2)
      ∧ r.2.mem ((c.tc : Thread Cert.UadaRefIdeal.nD Cert.UadaRefIdeal.τ).loc Cert.UadaRefIdeal.main_arg3) = m ((c.tc : Thread Cert.UadaRefIdeal.nD Cert.UadaRefIdeal.τ).loc Cert.UadaRefIdeal.main_arg3)
      ∧ r.2.mem ((c.tc : Thread Cert.UadaRefIdeal.nD Cert.UadaRefIdeal.τ).loc Cert.UadaRefIdeal.main_arg4) = m ((c.tc : Thread Cert.UadaRefIdeal.nD Cert.UadaRefIdeal.τ).loc Cert.UadaRefIdeal.main_arg4))
      ∧ r.2.sem = fun _ => 0)

def quiescent_Nf1 [hNf1 : Cert.Nf1.Facts] : Prop :=
  ∀ (m : (ℓ : Loc Cert.Nf1.nD Cert.Nf1.τ Cert.Nf1.sig) → Buf (Elt Bits) ℓ) (g : Dev Cert.Nf1.nD → PrngReg), Pre_Nf1 m →
    θ_run (Cert.Nf1.defs (F := Bits)) (onTc (τ := Cert.Nf1.τ) (Cert.Nf1.main (F := Bits))) ⟨m, fun _ => 0, g⟩ (fun r => (∀ c : Dev Cert.Nf1.nD,
      r.2.mem ((c.tc : Thread Cert.Nf1.nD Cert.Nf1.τ).loc Cert.Nf1.main_arg0) = m ((c.tc : Thread Cert.Nf1.nD Cert.Nf1.τ).loc Cert.Nf1.main_arg0)
      ∧ r.2.mem ((c.tc : Thread Cert.Nf1.nD Cert.Nf1.τ).loc Cert.Nf1.main_arg1) = m ((c.tc : Thread Cert.Nf1.nD Cert.Nf1.τ).loc Cert.Nf1.main_arg1)
      ∧ r.2.mem ((c.tc : Thread Cert.Nf1.nD Cert.Nf1.τ).loc Cert.Nf1.main_arg2) = m ((c.tc : Thread Cert.Nf1.nD Cert.Nf1.τ).loc Cert.Nf1.main_arg2)
      ∧ r.2.mem ((c.tc : Thread Cert.Nf1.nD Cert.Nf1.τ).loc Cert.Nf1.main_arg3) = m ((c.tc : Thread Cert.Nf1.nD Cert.Nf1.τ).loc Cert.Nf1.main_arg3))
      ∧ r.2.sem = fun _ => 0)

def quiescent_Nf1Ideal [hNf1Ideal : Cert.Nf1Ideal.Facts] : Prop :=
  ∀ (m : (ℓ : Loc Cert.Nf1Ideal.nD Cert.Nf1Ideal.τ Cert.Nf1Ideal.sig) → Buf (Elt Ideal) ℓ) (g : Dev Cert.Nf1Ideal.nD → PrngReg), Pre_Nf1Ideal m →
    θ_run (Cert.Nf1Ideal.defs (F := Ideal)) (onTc (τ := Cert.Nf1Ideal.τ) (Cert.Nf1Ideal.main (F := Ideal))) ⟨m, fun _ => 0, g⟩ (fun r => (∀ c : Dev Cert.Nf1Ideal.nD,
      r.2.mem ((c.tc : Thread Cert.Nf1Ideal.nD Cert.Nf1Ideal.τ).loc Cert.Nf1Ideal.main_arg0) = m ((c.tc : Thread Cert.Nf1Ideal.nD Cert.Nf1Ideal.τ).loc Cert.Nf1Ideal.main_arg0)
      ∧ r.2.mem ((c.tc : Thread Cert.Nf1Ideal.nD Cert.Nf1Ideal.τ).loc Cert.Nf1Ideal.main_arg1) = m ((c.tc : Thread Cert.Nf1Ideal.nD Cert.Nf1Ideal.τ).loc Cert.Nf1Ideal.main_arg1)
      ∧ r.2.mem ((c.tc : Thread Cert.Nf1Ideal.nD Cert.Nf1Ideal.τ).loc Cert.Nf1Ideal.main_arg2) = m ((c.tc : Thread Cert.Nf1Ideal.nD Cert.Nf1Ideal.τ).loc Cert.Nf1Ideal.main_arg2)
      ∧ r.2.mem ((c.tc : Thread Cert.Nf1Ideal.nD Cert.Nf1Ideal.τ).loc Cert.Nf1Ideal.main_arg3) = m ((c.tc : Thread Cert.Nf1Ideal.nD Cert.Nf1Ideal.τ).loc Cert.Nf1Ideal.main_arg3))
      ∧ r.2.sem = fun _ => 0)

def quiescent_Nf1RefIdeal [hNf1RefIdeal : Cert.Nf1RefIdeal.Facts] : Prop :=
  ∀ (m : (ℓ : Loc Cert.Nf1RefIdeal.nD Cert.Nf1RefIdeal.τ Cert.Nf1RefIdeal.sig) → Buf (Elt Ideal) ℓ) (g : Dev Cert.Nf1RefIdeal.nD → PrngReg), Pre_Nf1RefIdeal m →
    θ_run (Cert.Nf1RefIdeal.defs (F := Ideal)) (onTc (τ := Cert.Nf1RefIdeal.τ) (Cert.Nf1RefIdeal.main (F := Ideal))) ⟨m, fun _ => 0, g⟩ (fun r => (∀ c : Dev Cert.Nf1RefIdeal.nD,
      r.2.mem ((c.tc : Thread Cert.Nf1RefIdeal.nD Cert.Nf1RefIdeal.τ).loc Cert.Nf1RefIdeal.main_arg0) = m ((c.tc : Thread Cert.Nf1RefIdeal.nD Cert.Nf1RefIdeal.τ).loc Cert.Nf1RefIdeal.main_arg0)
      ∧ r.2.mem ((c.tc : Thread Cert.Nf1RefIdeal.nD Cert.Nf1RefIdeal.τ).loc Cert.Nf1RefIdeal.main_arg1) = m ((c.tc : Thread Cert.Nf1RefIdeal.nD Cert.Nf1RefIdeal.τ).loc Cert.Nf1RefIdeal.main_arg1)
      ∧ r.2.mem ((c.tc : Thread Cert.Nf1RefIdeal.nD Cert.Nf1RefIdeal.τ).loc Cert.Nf1RefIdeal.main_arg2) = m ((c.tc : Thread Cert.Nf1RefIdeal.nD Cert.Nf1RefIdeal.τ).loc Cert.Nf1RefIdeal.main_arg2)
      ∧ r.2.mem ((c.tc : Thread Cert.Nf1RefIdeal.nD Cert.Nf1RefIdeal.τ).loc Cert.Nf1RefIdeal.main_arg3) = m ((c.tc : Thread Cert.Nf1RefIdeal.nD Cert.Nf1RefIdeal.τ).loc Cert.Nf1RefIdeal.main_arg3))
      ∧ r.2.sem = fun _ => 0)

def quiescent_Nf2 [hNf2 : Cert.Nf2.Facts] : Prop :=
  ∀ (m : (ℓ : Loc Cert.Nf2.nD Cert.Nf2.τ Cert.Nf2.sig) → Buf (Elt Bits) ℓ) (g : Dev Cert.Nf2.nD → PrngReg), Pre_Nf2 m →
    θ_run (Cert.Nf2.defs (F := Bits)) (onTc (τ := Cert.Nf2.τ) (Cert.Nf2.main (F := Bits))) ⟨m, fun _ => 0, g⟩ (fun r => (∀ c : Dev Cert.Nf2.nD,
      r.2.mem ((c.tc : Thread Cert.Nf2.nD Cert.Nf2.τ).loc Cert.Nf2.main_arg0) = m ((c.tc : Thread Cert.Nf2.nD Cert.Nf2.τ).loc Cert.Nf2.main_arg0)
      ∧ r.2.mem ((c.tc : Thread Cert.Nf2.nD Cert.Nf2.τ).loc Cert.Nf2.main_arg1) = m ((c.tc : Thread Cert.Nf2.nD Cert.Nf2.τ).loc Cert.Nf2.main_arg1)
      ∧ r.2.mem ((c.tc : Thread Cert.Nf2.nD Cert.Nf2.τ).loc Cert.Nf2.main_arg2) = m ((c.tc : Thread Cert.Nf2.nD Cert.Nf2.τ).loc Cert.Nf2.main_arg2)
      ∧ r.2.mem ((c.tc : Thread Cert.Nf2.nD Cert.Nf2.τ).loc Cert.Nf2.main_arg3) = m ((c.tc : Thread Cert.Nf2.nD Cert.Nf2.τ).loc Cert.Nf2.main_arg3)
      ∧ r.2.mem ((c.tc : Thread Cert.Nf2.nD Cert.Nf2.τ).loc Cert.Nf2.main_arg4) = m ((c.tc : Thread Cert.Nf2.nD Cert.Nf2.τ).loc Cert.Nf2.main_arg4)
      ∧ r.2.mem ((c.tc : Thread Cert.Nf2.nD Cert.Nf2.τ).loc Cert.Nf2.main_arg5) = m ((c.tc : Thread Cert.Nf2.nD Cert.Nf2.τ).loc Cert.Nf2.main_arg5))
      ∧ r.2.sem = fun _ => 0)

def quiescent_Nf2Ideal [hNf2Ideal : Cert.Nf2Ideal.Facts] : Prop :=
  ∀ (m : (ℓ : Loc Cert.Nf2Ideal.nD Cert.Nf2Ideal.τ Cert.Nf2Ideal.sig) → Buf (Elt Ideal) ℓ) (g : Dev Cert.Nf2Ideal.nD → PrngReg), Pre_Nf2Ideal m →
    θ_run (Cert.Nf2Ideal.defs (F := Ideal)) (onTc (τ := Cert.Nf2Ideal.τ) (Cert.Nf2Ideal.main (F := Ideal))) ⟨m, fun _ => 0, g⟩ (fun r => (∀ c : Dev Cert.Nf2Ideal.nD,
      r.2.mem ((c.tc : Thread Cert.Nf2Ideal.nD Cert.Nf2Ideal.τ).loc Cert.Nf2Ideal.main_arg0) = m ((c.tc : Thread Cert.Nf2Ideal.nD Cert.Nf2Ideal.τ).loc Cert.Nf2Ideal.main_arg0)
      ∧ r.2.mem ((c.tc : Thread Cert.Nf2Ideal.nD Cert.Nf2Ideal.τ).loc Cert.Nf2Ideal.main_arg1) = m ((c.tc : Thread Cert.Nf2Ideal.nD Cert.Nf2Ideal.τ).loc Cert.Nf2Ideal.main_arg1)
      ∧ r.2.mem ((c.tc : Thread Cert.Nf2Ideal.nD Cert.Nf2Ideal.τ).loc Cert.Nf2Ideal.main_arg2) = m ((c.tc : Thread Cert.Nf2Ideal.nD Cert.Nf2Ideal.τ).loc Cert.Nf2Ideal.main_arg2)
      ∧ r.2.mem ((c.tc : Thread Cert.Nf2Ideal.nD Cert.Nf2Ideal.τ).loc Cert.Nf2Ideal.main_arg3) = m ((c.tc : Thread Cert.Nf2Ideal.nD Cert.Nf2Ideal.τ).loc Cert.Nf2Ideal.main_arg3)
      ∧ r.2.mem ((c.tc : Thread Cert.Nf2Ideal.nD Cert.Nf2Ideal.τ).loc Cert.Nf2Ideal.main_arg4) = m ((c.tc : Thread Cert.Nf2Ideal.nD Cert.Nf2Ideal.τ).loc Cert.Nf2Ideal.main_arg4)
      ∧ r.2.mem ((c.tc : Thread Cert.Nf2Ideal.nD Cert.Nf2Ideal.τ).loc Cert.Nf2Ideal.main_arg5) = m ((c.tc : Thread Cert.Nf2Ideal.nD Cert.Nf2Ideal.τ).loc Cert.Nf2Ideal.main_arg5))
      ∧ r.2.sem = fun _ => 0)

def quiescent_Nf2RefIdeal [hNf2RefIdeal : Cert.Nf2RefIdeal.Facts] : Prop :=
  ∀ (m : (ℓ : Loc Cert.Nf2RefIdeal.nD Cert.Nf2RefIdeal.τ Cert.Nf2RefIdeal.sig) → Buf (Elt Ideal) ℓ) (g : Dev Cert.Nf2RefIdeal.nD → PrngReg), Pre_Nf2RefIdeal m →
    θ_run (Cert.Nf2RefIdeal.defs (F := Ideal)) (onTc (τ := Cert.Nf2RefIdeal.τ) (Cert.Nf2RefIdeal.main (F := Ideal))) ⟨m, fun _ => 0, g⟩ (fun r => (∀ c : Dev Cert.Nf2RefIdeal.nD,
      r.2.mem ((c.tc : Thread Cert.Nf2RefIdeal.nD Cert.Nf2RefIdeal.τ).loc Cert.Nf2RefIdeal.main_arg0) = m ((c.tc : Thread Cert.Nf2RefIdeal.nD Cert.Nf2RefIdeal.τ).loc Cert.Nf2RefIdeal.main_arg0)
      ∧ r.2.mem ((c.tc : Thread Cert.Nf2RefIdeal.nD Cert.Nf2RefIdeal.τ).loc Cert.Nf2RefIdeal.main_arg1) = m ((c.tc : Thread Cert.Nf2RefIdeal.nD Cert.Nf2RefIdeal.τ).loc Cert.Nf2RefIdeal.main_arg1)
      ∧ r.2.mem ((c.tc : Thread Cert.Nf2RefIdeal.nD Cert.Nf2RefIdeal.τ).loc Cert.Nf2RefIdeal.main_arg2) = m ((c.tc : Thread Cert.Nf2RefIdeal.nD Cert.Nf2RefIdeal.τ).loc Cert.Nf2RefIdeal.main_arg2)
      ∧ r.2.mem ((c.tc : Thread Cert.Nf2RefIdeal.nD Cert.Nf2RefIdeal.τ).loc Cert.Nf2RefIdeal.main_arg3) = m ((c.tc : Thread Cert.Nf2RefIdeal.nD Cert.Nf2RefIdeal.τ).loc Cert.Nf2RefIdeal.main_arg3)
      ∧ r.2.mem ((c.tc : Thread Cert.Nf2RefIdeal.nD Cert.Nf2RefIdeal.τ).loc Cert.Nf2RefIdeal.main_arg4) = m ((c.tc : Thread Cert.Nf2RefIdeal.nD Cert.Nf2RefIdeal.τ).loc Cert.Nf2RefIdeal.main_arg4)
      ∧ r.2.mem ((c.tc : Thread Cert.Nf2RefIdeal.nD Cert.Nf2RefIdeal.τ).loc Cert.Nf2RefIdeal.main_arg5) = m ((c.tc : Thread Cert.Nf2RefIdeal.nD Cert.Nf2RefIdeal.τ).loc Cert.Nf2RefIdeal.main_arg5))
      ∧ r.2.sem = fun _ => 0)

def quiescent_Afw [hAfw : Cert.Afw.Facts] : Prop :=
  ∀ (m : (ℓ : Loc Cert.Afw.nD Cert.Afw.τ Cert.Afw.sig) → Buf (Elt Bits) ℓ) (g : Dev Cert.Afw.nD → PrngReg), Pre_Afw m →
    θ_run (Cert.Afw.defs (F := Bits)) (onTc (τ := Cert.Afw.τ) (Cert.Afw.main (F := Bits))) ⟨m, fun _ => 0, g⟩ (fun r => (∀ c : Dev Cert.Afw.nD,
      r.2.mem ((c.tc : Thread Cert.Afw.nD Cert.Afw.τ).loc Cert.Afw.main_arg0) = m ((c.tc : Thread Cert.Afw.nD Cert.Afw.τ).loc Cert.Afw.main_arg0)
      ∧ r.2.mem ((c.tc : Thread Cert.Afw.nD Cert.Afw.τ).loc Cert.Afw.main_arg1) = m ((c.tc : Thread Cert.Afw.nD Cert.Afw.τ).loc Cert.Afw.main_arg1)
      ∧ r.2.mem ((c.tc : Thread Cert.Afw.nD Cert.Afw.τ).loc Cert.Afw.main_arg2) = m ((c.tc : Thread Cert.Afw.nD Cert.Afw.τ).loc Cert.Afw.main_arg2))
      ∧ r.2.sem = fun _ => 0)

def quiescent_AfwIdeal [hAfwIdeal : Cert.AfwIdeal.Facts] : Prop :=
  ∀ (m : (ℓ : Loc Cert.AfwIdeal.nD Cert.AfwIdeal.τ Cert.AfwIdeal.sig) → Buf (Elt Ideal) ℓ) (g : Dev Cert.AfwIdeal.nD → PrngReg), Pre_AfwIdeal m →
    θ_run (Cert.AfwIdeal.defs (F := Ideal)) (onTc (τ := Cert.AfwIdeal.τ) (Cert.AfwIdeal.main (F := Ideal))) ⟨m, fun _ => 0, g⟩ (fun r => (∀ c : Dev Cert.AfwIdeal.nD,
      r.2.mem ((c.tc : Thread Cert.AfwIdeal.nD Cert.AfwIdeal.τ).loc Cert.AfwIdeal.main_arg0) = m ((c.tc : Thread Cert.AfwIdeal.nD Cert.AfwIdeal.τ).loc Cert.AfwIdeal.main_arg0)
      ∧ r.2.mem ((c.tc : Thread Cert.AfwIdeal.nD Cert.AfwIdeal.τ).loc Cert.AfwIdeal.main_arg1) = m ((c.tc : Thread Cert.AfwIdeal.nD Cert.AfwIdeal.τ).loc Cert.AfwIdeal.main_arg1)
      ∧ r.2.mem ((c.tc : Thread Cert.AfwIdeal.nD Cert.AfwIdeal.τ).loc Cert.AfwIdeal.main_arg2) = m ((c.tc : Thread Cert.AfwIdeal.nD Cert.AfwIdeal.τ).loc Cert.AfwIdeal.main_arg2))
      ∧ r.2.sem = fun _ => 0)

def quiescent_AfwRefIdeal [hAfwRefIdeal : Cert.AfwRefIdeal.Facts] : Prop :=
  ∀ (m : (ℓ : Loc Cert.AfwRefIdeal.nD Cert.AfwRefIdeal.τ Cert.AfwRefIdeal.sig) → Buf (Elt Ideal) ℓ) (g : Dev Cert.AfwRefIdeal.nD → PrngReg), Pre_AfwRefIdeal m →
    θ_run (Cert.AfwRefIdeal.defs (F := Ideal)) (onTc (τ := Cert.AfwRefIdeal.τ) (Cert.AfwRefIdeal.main (F := Ideal))) ⟨m, fun _ => 0, g⟩ (fun r => (∀ c : Dev Cert.AfwRefIdeal.nD,
      r.2.mem ((c.tc : Thread Cert.AfwRefIdeal.nD Cert.AfwRefIdeal.τ).loc Cert.AfwRefIdeal.main_arg0) = m ((c.tc : Thread Cert.AfwRefIdeal.nD Cert.AfwRefIdeal.τ).loc Cert.AfwRefIdeal.main_arg0)
      ∧ r.2.mem ((c.tc : Thread Cert.AfwRefIdeal.nD Cert.AfwRefIdeal.τ).loc Cert.AfwRefIdeal.main_arg1) = m ((c.tc : Thread Cert.AfwRefIdeal.nD Cert.AfwRefIdeal.τ).loc Cert.AfwRefIdeal.main_arg1)
      ∧ r.2.mem ((c.tc : Thread Cert.AfwRefIdeal.nD Cert.AfwRefIdeal.τ).loc Cert.AfwRefIdeal.main_arg2) = m ((c.tc : Thread Cert.AfwRefIdeal.nD Cert.AfwRefIdeal.τ).loc Cert.AfwRefIdeal.main_arg2))
      ∧ r.2.sem = fun _ => 0)

def quiescent_Mrg [hMrg : Cert.Mrg.Facts] : Prop :=
  ∀ (m : (ℓ : Loc Cert.Mrg.nD Cert.Mrg.τ Cert.Mrg.sig) → Buf (Elt Bits) ℓ) (g : Dev Cert.Mrg.nD → PrngReg), Pre_Mrg m →
    θ_run (Cert.Mrg.defs (F := Bits)) (onTc (τ := Cert.Mrg.τ) (Cert.Mrg.main (F := Bits))) ⟨m, fun _ => 0, g⟩ (fun r => (∀ c : Dev Cert.Mrg.nD,
      r.2.mem ((c.tc : Thread Cert.Mrg.nD Cert.Mrg.τ).loc Cert.Mrg.main_arg0) = m ((c.tc : Thread Cert.Mrg.nD Cert.Mrg.τ).loc Cert.Mrg.main_arg0)
      ∧ r.2.mem ((c.tc : Thread Cert.Mrg.nD Cert.Mrg.τ).loc Cert.Mrg.main_arg1) = m ((c.tc : Thread Cert.Mrg.nD Cert.Mrg.τ).loc Cert.Mrg.main_arg1)
      ∧ r.2.mem ((c.tc : Thread Cert.Mrg.nD Cert.Mrg.τ).loc Cert.Mrg.main_arg2) = m ((c.tc : Thread Cert.Mrg.nD Cert.Mrg.τ).loc Cert.Mrg.main_arg2)
      ∧ r.2.mem ((c.tc : Thread Cert.Mrg.nD Cert.Mrg.τ).loc Cert.Mrg.main_arg3) = m ((c.tc : Thread Cert.Mrg.nD Cert.Mrg.τ).loc Cert.Mrg.main_arg3)
      ∧ r.2.mem ((c.tc : Thread Cert.Mrg.nD Cert.Mrg.τ).loc Cert.Mrg.main_arg4) = m ((c.tc : Thread Cert.Mrg.nD Cert.Mrg.τ).loc Cert.Mrg.main_arg4)
      ∧ r.2.mem ((c.tc : Thread Cert.Mrg.nD Cert.Mrg.τ).loc Cert.Mrg.main_arg5) = m ((c.tc : Thread Cert.Mrg.nD Cert.Mrg.τ).loc Cert.Mrg.main_arg5))
      ∧ r.2.sem = fun _ => 0)

def quiescent_MrgIdeal [hMrgIdeal : Cert.MrgIdeal.Facts] : Prop :=
  ∀ (m : (ℓ : Loc Cert.MrgIdeal.nD Cert.MrgIdeal.τ Cert.MrgIdeal.sig) → Buf (Elt Ideal) ℓ) (g : Dev Cert.MrgIdeal.nD → PrngReg), Pre_MrgIdeal m →
    θ_run (Cert.MrgIdeal.defs (F := Ideal)) (onTc (τ := Cert.MrgIdeal.τ) (Cert.MrgIdeal.main (F := Ideal))) ⟨m, fun _ => 0, g⟩ (fun r => (∀ c : Dev Cert.MrgIdeal.nD,
      r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
      ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
      ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
      ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
      ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
      ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5))
      ∧ r.2.sem = fun _ => 0)

def quiescent_MrgRefIdeal [hMrgRefIdeal : Cert.MrgRefIdeal.Facts] : Prop :=
  ∀ (m : (ℓ : Loc Cert.MrgRefIdeal.nD Cert.MrgRefIdeal.τ Cert.MrgRefIdeal.sig) → Buf (Elt Ideal) ℓ) (g : Dev Cert.MrgRefIdeal.nD → PrngReg), Pre_MrgRefIdeal m →
    θ_run (Cert.MrgRefIdeal.defs (F := Ideal)) (onTc (τ := Cert.MrgRefIdeal.τ) (Cert.MrgRefIdeal.main (F := Ideal))) ⟨m, fun _ => 0, g⟩ (fun r => (∀ c : Dev Cert.MrgRefIdeal.nD,
      r.2.mem ((c.tc : Thread Cert.MrgRefIdeal.nD Cert.MrgRefIdeal.τ).loc Cert.MrgRefIdeal.main_arg0) = m ((c.tc : Thread Cert.MrgRefIdeal.nD Cert.MrgRefIdeal.τ).loc Cert.MrgRefIdeal.main_arg0)
      ∧ r.2.mem ((c.tc : Thread Cert.MrgRefIdeal.nD Cert.MrgRefIdeal.τ).loc Cert.MrgRefIdeal.main_arg1) = m ((c.tc : Thread Cert.MrgRefIdeal.nD Cert.MrgRefIdeal.τ).loc Cert.MrgRefIdeal.main_arg1)
      ∧ r.2.mem ((c.tc : Thread Cert.MrgRefIdeal.nD Cert.MrgRefIdeal.τ).loc Cert.MrgRefIdeal.main_arg2) = m ((c.tc : Thread Cert.MrgRefIdeal.nD Cert.MrgRefIdeal.τ).loc Cert.MrgRefIdeal.main_arg2)
      ∧ r.2.mem ((c.tc : Thread Cert.MrgRefIdeal.nD Cert.MrgRefIdeal.τ).loc Cert.MrgRefIdeal.main_arg3) = m ((c.tc : Thread Cert.MrgRefIdeal.nD Cert.MrgRefIdeal.τ).loc Cert.MrgRefIdeal.main_arg3)
      ∧ r.2.mem ((c.tc : Thread Cert.MrgRefIdeal.nD Cert.MrgRefIdeal.τ).loc Cert.MrgRefIdeal.main_arg4) = m ((c.tc : Thread Cert.MrgRefIdeal.nD Cert.MrgRefIdeal.τ).loc Cert.MrgRefIdeal.main_arg4)
      ∧ r.2.mem ((c.tc : Thread Cert.MrgRefIdeal.nD Cert.MrgRefIdeal.τ).loc Cert.MrgRefIdeal.main_arg5) = m ((c.tc : Thread Cert.MrgRefIdeal.nD Cert.MrgRefIdeal.τ).loc Cert.MrgRefIdeal.main_arg5))
      ∧ r.2.sem = fun _ => 0)

def quiescent_Nbw [hNbw : Cert.Nbw.Facts] : Prop :=
  ∀ (m : (ℓ : Loc Cert.Nbw.nD Cert.Nbw.τ Cert.Nbw.sig) → Buf (Elt Bits) ℓ) (g : Dev Cert.Nbw.nD → PrngReg), Pre_Nbw m →
    θ_run (Cert.Nbw.defs (F := Bits)) (onTc (τ := Cert.Nbw.τ) (Cert.Nbw.main (F := Bits))) ⟨m, fun _ => 0, g⟩ (fun r => (∀ c : Dev Cert.Nbw.nD,
      r.2.mem ((c.tc : Thread Cert.Nbw.nD Cert.Nbw.τ).loc Cert.Nbw.main_arg0) = m ((c.tc : Thread Cert.Nbw.nD Cert.Nbw.τ).loc Cert.Nbw.main_arg0)
      ∧ r.2.mem ((c.tc : Thread Cert.Nbw.nD Cert.Nbw.τ).loc Cert.Nbw.main_arg1) = m ((c.tc : Thread Cert.Nbw.nD Cert.Nbw.τ).loc Cert.Nbw.main_arg1)
      ∧ r.2.mem ((c.tc : Thread Cert.Nbw.nD Cert.Nbw.τ).loc Cert.Nbw.main_arg2) = m ((c.tc : Thread Cert.Nbw.nD Cert.Nbw.τ).loc Cert.Nbw.main_arg2)
      ∧ r.2.mem ((c.tc : Thread Cert.Nbw.nD Cert.Nbw.τ).loc Cert.Nbw.main_arg3) = m ((c.tc : Thread Cert.Nbw.nD Cert.Nbw.τ).loc Cert.Nbw.main_arg3)
      ∧ r.2.mem ((c.tc : Thread Cert.Nbw.nD Cert.Nbw.τ).loc Cert.Nbw.main_arg4) = m ((c.tc : Thread Cert.Nbw.nD Cert.Nbw.τ).loc Cert.Nbw.main_arg4))
      ∧ r.2.sem = fun _ => 0)

def quiescent_NbwIdeal [hNbwIdeal : Cert.NbwIdeal.Facts] : Prop :=
  ∀ (m : (ℓ : Loc Cert.NbwIdeal.nD Cert.NbwIdeal.τ Cert.NbwIdeal.sig) → Buf (Elt Ideal) ℓ) (g : Dev Cert.NbwIdeal.nD → PrngReg), Pre_NbwIdeal m →
    θ_run (Cert.NbwIdeal.defs (F := Ideal)) (onTc (τ := Cert.NbwIdeal.τ) (Cert.NbwIdeal.main (F := Ideal))) ⟨m, fun _ => 0, g⟩ (fun r => (∀ c : Dev Cert.NbwIdeal.nD,
      r.2.mem ((c.tc : Thread Cert.NbwIdeal.nD Cert.NbwIdeal.τ).loc Cert.NbwIdeal.main_arg0) = m ((c.tc : Thread Cert.NbwIdeal.nD Cert.NbwIdeal.τ).loc Cert.NbwIdeal.main_arg0)
      ∧ r.2.mem ((c.tc : Thread Cert.NbwIdeal.nD Cert.NbwIdeal.τ).loc Cert.NbwIdeal.main_arg1) = m ((c.tc : Thread Cert.NbwIdeal.nD Cert.NbwIdeal.τ).loc Cert.NbwIdeal.main_arg1)
      ∧ r.2.mem ((c.tc : Thread Cert.NbwIdeal.nD Cert.NbwIdeal.τ).loc Cert.NbwIdeal.main_arg2) = m ((c.tc : Thread Cert.NbwIdeal.nD Cert.NbwIdeal.τ).loc Cert.NbwIdeal.main_arg2)
      ∧ r.2.mem ((c.tc : Thread Cert.NbwIdeal.nD Cert.NbwIdeal.τ).loc Cert.NbwIdeal.main_arg3) = m ((c.tc : Thread Cert.NbwIdeal.nD Cert.NbwIdeal.τ).loc Cert.NbwIdeal.main_arg3)
      ∧ r.2.mem ((c.tc : Thread Cert.NbwIdeal.nD Cert.NbwIdeal.τ).loc Cert.NbwIdeal.main_arg4) = m ((c.tc : Thread Cert.NbwIdeal.nD Cert.NbwIdeal.τ).loc Cert.NbwIdeal.main_arg4))
      ∧ r.2.sem = fun _ => 0)

def quiescent_NbwRefIdeal [hNbwRefIdeal : Cert.NbwRefIdeal.Facts] : Prop :=
  ∀ (m : (ℓ : Loc Cert.NbwRefIdeal.nD Cert.NbwRefIdeal.τ Cert.NbwRefIdeal.sig) → Buf (Elt Ideal) ℓ) (g : Dev Cert.NbwRefIdeal.nD → PrngReg), Pre_NbwRefIdeal m →
    θ_run (Cert.NbwRefIdeal.defs (F := Ideal)) (onTc (τ := Cert.NbwRefIdeal.τ) (Cert.NbwRefIdeal.main (F := Ideal))) ⟨m, fun _ => 0, g⟩ (fun r => (∀ c : Dev Cert.NbwRefIdeal.nD,
      r.2.mem ((c.tc : Thread Cert.NbwRefIdeal.nD Cert.NbwRefIdeal.τ).loc Cert.NbwRefIdeal.main_arg0) = m ((c.tc : Thread Cert.NbwRefIdeal.nD Cert.NbwRefIdeal.τ).loc Cert.NbwRefIdeal.main_arg0)
      ∧ r.2.mem ((c.tc : Thread Cert.NbwRefIdeal.nD Cert.NbwRefIdeal.τ).loc Cert.NbwRefIdeal.main_arg1) = m ((c.tc : Thread Cert.NbwRefIdeal.nD Cert.NbwRefIdeal.τ).loc Cert.NbwRefIdeal.main_arg1)
      ∧ r.2.mem ((c.tc : Thread Cert.NbwRefIdeal.nD Cert.NbwRefIdeal.τ).loc Cert.NbwRefIdeal.main_arg2) = m ((c.tc : Thread Cert.NbwRefIdeal.nD Cert.NbwRefIdeal.τ).loc Cert.NbwRefIdeal.main_arg2)
      ∧ r.2.mem ((c.tc : Thread Cert.NbwRefIdeal.nD Cert.NbwRefIdeal.τ).loc Cert.NbwRefIdeal.main_arg3) = m ((c.tc : Thread Cert.NbwRefIdeal.nD Cert.NbwRefIdeal.τ).loc Cert.NbwRefIdeal.main_arg3)
      ∧ r.2.mem ((c.tc : Thread Cert.NbwRefIdeal.nD Cert.NbwRefIdeal.τ).loc Cert.NbwRefIdeal.main_arg4) = m ((c.tc : Thread Cert.NbwRefIdeal.nD Cert.NbwRefIdeal.τ).loc Cert.NbwRefIdeal.main_arg4))
      ∧ r.2.sem = fun _ => 0)

def quiescent_Nb2 [hNb2 : Cert.Nb2.Facts] : Prop :=
  ∀ (m : (ℓ : Loc Cert.Nb2.nD Cert.Nb2.τ Cert.Nb2.sig) → Buf (Elt Bits) ℓ) (g : Dev Cert.Nb2.nD → PrngReg), Pre_Nb2 m →
    θ_run (Cert.Nb2.defs (F := Bits)) (onTc (τ := Cert.Nb2.τ) (Cert.Nb2.main (F := Bits))) ⟨m, fun _ => 0, g⟩ (fun r => (∀ c : Dev Cert.Nb2.nD,
      r.2.mem ((c.tc : Thread Cert.Nb2.nD Cert.Nb2.τ).loc Cert.Nb2.main_arg0) = m ((c.tc : Thread Cert.Nb2.nD Cert.Nb2.τ).loc Cert.Nb2.main_arg0)
      ∧ r.2.mem ((c.tc : Thread Cert.Nb2.nD Cert.Nb2.τ).loc Cert.Nb2.main_arg1) = m ((c.tc : Thread Cert.Nb2.nD Cert.Nb2.τ).loc Cert.Nb2.main_arg1)
      ∧ r.2.mem ((c.tc : Thread Cert.Nb2.nD Cert.Nb2.τ).loc Cert.Nb2.main_arg2) = m ((c.tc : Thread Cert.Nb2.nD Cert.Nb2.τ).loc Cert.Nb2.main_arg2)
      ∧ r.2.mem ((c.tc : Thread Cert.Nb2.nD Cert.Nb2.τ).loc Cert.Nb2.main_arg3) = m ((c.tc : Thread Cert.Nb2.nD Cert.Nb2.τ).loc Cert.Nb2.main_arg3)
      ∧ r.2.mem ((c.tc : Thread Cert.Nb2.nD Cert.Nb2.τ).loc Cert.Nb2.main_arg4) = m ((c.tc : Thread Cert.Nb2.nD Cert.Nb2.τ).loc Cert.Nb2.main_arg4)
      ∧ r.2.mem ((c.tc : Thread Cert.Nb2.nD Cert.Nb2.τ).loc Cert.Nb2.main_arg5) = m ((c.tc : Thread Cert.Nb2.nD Cert.Nb2.τ).loc Cert.Nb2.main_arg5)
      ∧ r.2.mem ((c.tc : Thread Cert.Nb2.nD Cert.Nb2.τ).loc Cert.Nb2.main_arg6) = m ((c.tc : Thread Cert.Nb2.nD Cert.Nb2.τ).loc Cert.Nb2.main_arg6))
      ∧ r.2.sem = fun _ => 0)

def quiescent_Nb2Ideal [hNb2Ideal : Cert.Nb2Ideal.Facts] : Prop :=
  ∀ (m : (ℓ : Loc Cert.Nb2Ideal.nD Cert.Nb2Ideal.τ Cert.Nb2Ideal.sig) → Buf (Elt Ideal) ℓ) (g : Dev Cert.Nb2Ideal.nD → PrngReg), Pre_Nb2Ideal m →
    θ_run (Cert.Nb2Ideal.defs (F := Ideal)) (onTc (τ := Cert.Nb2Ideal.τ) (Cert.Nb2Ideal.main (F := Ideal))) ⟨m, fun _ => 0, g⟩ (fun r => (∀ c : Dev Cert.Nb2Ideal.nD,
      r.2.mem ((c.tc : Thread Cert.Nb2Ideal.nD Cert.Nb2Ideal.τ).loc Cert.Nb2Ideal.main_arg0) = m ((c.tc : Thread Cert.Nb2Ideal.nD Cert.Nb2Ideal.τ).loc Cert.Nb2Ideal.main_arg0)
      ∧ r.2.mem ((c.tc : Thread Cert.Nb2Ideal.nD Cert.Nb2Ideal.τ).loc Cert.Nb2Ideal.main_arg1) = m ((c.tc : Thread Cert.Nb2Ideal.nD Cert.Nb2Ideal.τ).loc Cert.Nb2Ideal.main_arg1)
      ∧ r.2.mem ((c.tc : Thread Cert.Nb2Ideal.nD Cert.Nb2Ideal.τ).loc Cert.Nb2Ideal.main_arg2) = m ((c.tc : Thread Cert.Nb2Ideal.nD Cert.Nb2Ideal.τ).loc Cert.Nb2Ideal.main_arg2)
      ∧ r.2.mem ((c.tc : Thread Cert.Nb2Ideal.nD Cert.Nb2Ideal.τ).loc Cert.Nb2Ideal.main_arg3) = m ((c.tc : Thread Cert.Nb2Ideal.nD Cert.Nb2Ideal.τ).loc Cert.Nb2Ideal.main_arg3)
      ∧ r.2.mem ((c.tc : Thread Cert.Nb2Ideal.nD Cert.Nb2Ideal.τ).loc Cert.Nb2Ideal.main_arg4) = m ((c.tc : Thread Cert.Nb2Ideal.nD Cert.Nb2Ideal.τ).loc Cert.Nb2Ideal.main_arg4)
      ∧ r.2.mem ((c.tc : Thread Cert.Nb2Ideal.nD Cert.Nb2Ideal.τ).loc Cert.Nb2Ideal.main_arg5) = m ((c.tc : Thread Cert.Nb2Ideal.nD Cert.Nb2Ideal.τ).loc Cert.Nb2Ideal.main_arg5)
      ∧ r.2.mem ((c.tc : Thread Cert.Nb2Ideal.nD Cert.Nb2Ideal.τ).loc Cert.Nb2Ideal.main_arg6) = m ((c.tc : Thread Cert.Nb2Ideal.nD Cert.Nb2Ideal.τ).loc Cert.Nb2Ideal.main_arg6))
      ∧ r.2.sem = fun _ => 0)

def quiescent_Nb2RefIdeal [hNb2RefIdeal : Cert.Nb2RefIdeal.Facts] : Prop :=
  ∀ (m : (ℓ : Loc Cert.Nb2RefIdeal.nD Cert.Nb2RefIdeal.τ Cert.Nb2RefIdeal.sig) → Buf (Elt Ideal) ℓ) (g : Dev Cert.Nb2RefIdeal.nD → PrngReg), Pre_Nb2RefIdeal m →
    θ_run (Cert.Nb2RefIdeal.defs (F := Ideal)) (onTc (τ := Cert.Nb2RefIdeal.τ) (Cert.Nb2RefIdeal.main (F := Ideal))) ⟨m, fun _ => 0, g⟩ (fun r => (∀ c : Dev Cert.Nb2RefIdeal.nD,
      r.2.mem ((c.tc : Thread Cert.Nb2RefIdeal.nD Cert.Nb2RefIdeal.τ).loc Cert.Nb2RefIdeal.main_arg0) = m ((c.tc : Thread Cert.Nb2RefIdeal.nD Cert.Nb2RefIdeal.τ).loc Cert.Nb2RefIdeal.main_arg0)
      ∧ r.2.mem ((c.tc : Thread Cert.Nb2RefIdeal.nD Cert.Nb2RefIdeal.τ).loc Cert.Nb2RefIdeal.main_arg1) = m ((c.tc : Thread Cert.Nb2RefIdeal.nD Cert.Nb2RefIdeal.τ).loc Cert.Nb2RefIdeal.main_arg1)
      ∧ r.2.mem ((c.tc : Thread Cert.Nb2RefIdeal.nD Cert.Nb2RefIdeal.τ).loc Cert.Nb2RefIdeal.main_arg2) = m ((c.tc : Thread Cert.Nb2RefIdeal.nD Cert.Nb2RefIdeal.τ).loc Cert.Nb2RefIdeal.main_arg2)
      ∧ r.2.mem ((c.tc : Thread Cert.Nb2RefIdeal.nD Cert.Nb2RefIdeal.τ).loc Cert.Nb2RefIdeal.main_arg3) = m ((c.tc : Thread Cert.Nb2RefIdeal.nD Cert.Nb2RefIdeal.τ).loc Cert.Nb2RefIdeal.main_arg3)
      ∧ r.2.mem ((c.tc : Thread Cert.Nb2RefIdeal.nD Cert.Nb2RefIdeal.τ).loc Cert.Nb2RefIdeal.main_arg4) = m ((c.tc : Thread Cert.Nb2RefIdeal.nD Cert.Nb2RefIdeal.τ).loc Cert.Nb2RefIdeal.main_arg4)
      ∧ r.2.mem ((c.tc : Thread Cert.Nb2RefIdeal.nD Cert.Nb2RefIdeal.τ).loc Cert.Nb2RefIdeal.main_arg5) = m ((c.tc : Thread Cert.Nb2RefIdeal.nD Cert.Nb2RefIdeal.τ).loc Cert.Nb2RefIdeal.main_arg5)
      ∧ r.2.mem ((c.tc : Thread Cert.Nb2RefIdeal.nD Cert.Nb2RefIdeal.τ).loc Cert.Nb2RefIdeal.main_arg6) = m ((c.tc : Thread Cert.Nb2RefIdeal.nD Cert.Nb2RefIdeal.τ).loc Cert.Nb2RefIdeal.main_arg6))
      ∧ r.2.sem = fun _ => 0)

def quiescent_Fls [hFls : Cert.Fls.Facts] : Prop :=
  ∀ (m : (ℓ : Loc Cert.Fls.nD Cert.Fls.τ Cert.Fls.sig) → Buf (Elt Bits) ℓ) (g : Dev Cert.Fls.nD → PrngReg), Pre_Fls m →
    θ_run (Cert.Fls.defs (F := Bits)) (onTc (τ := Cert.Fls.τ) (Cert.Fls.main (F := Bits))) ⟨m, fun _ => 0, g⟩ (fun r => (∀ c : Dev Cert.Fls.nD,
      r.2.mem ((c.tc : Thread Cert.Fls.nD Cert.Fls.τ).loc Cert.Fls.main_arg0) = m ((c.tc : Thread Cert.Fls.nD Cert.Fls.τ).loc Cert.Fls.main_arg0)
      ∧ r.2.mem ((c.tc : Thread Cert.Fls.nD Cert.Fls.τ).loc Cert.Fls.main_arg1) = m ((c.tc : Thread Cert.Fls.nD Cert.Fls.τ).loc Cert.Fls.main_arg1)
      ∧ r.2.mem ((c.tc : Thread Cert.Fls.nD Cert.Fls.τ).loc Cert.Fls.main_arg2) = m ((c.tc : Thread Cert.Fls.nD Cert.Fls.τ).loc Cert.Fls.main_arg2)
      ∧ r.2.mem ((c.tc : Thread Cert.Fls.nD Cert.Fls.τ).loc Cert.Fls.main_arg3) = m ((c.tc : Thread Cert.Fls.nD Cert.Fls.τ).loc Cert.Fls.main_arg3)
      ∧ r.2.mem ((c.tc : Thread Cert.Fls.nD Cert.Fls.τ).loc Cert.Fls.main_arg4) = m ((c.tc : Thread Cert.Fls.nD Cert.Fls.τ).loc Cert.Fls.main_arg4))
      ∧ r.2.sem = fun _ => 0)

def quiescent_FlsIdeal [hFlsIdeal : Cert.FlsIdeal.Facts] : Prop :=
  ∀ (m : (ℓ : Loc Cert.FlsIdeal.nD Cert.FlsIdeal.τ Cert.FlsIdeal.sig) → Buf (Elt Ideal) ℓ) (g : Dev Cert.FlsIdeal.nD → PrngReg), Pre_FlsIdeal m →
    θ_run (Cert.FlsIdeal.defs (F := Ideal)) (onTc (τ := Cert.FlsIdeal.τ) (Cert.FlsIdeal.main (F := Ideal))) ⟨m, fun _ => 0, g⟩ (fun r => (∀ c : Dev Cert.FlsIdeal.nD,
      r.2.mem ((c.tc : Thread Cert.FlsIdeal.nD Cert.FlsIdeal.τ).loc Cert.FlsIdeal.main_arg0) = m ((c.tc : Thread Cert.FlsIdeal.nD Cert.FlsIdeal.τ).loc Cert.FlsIdeal.main_arg0)
      ∧ r.2.mem ((c.tc : Thread Cert.FlsIdeal.nD Cert.FlsIdeal.τ).loc Cert.FlsIdeal.main_arg1) = m ((c.tc : Thread Cert.FlsIdeal.nD Cert.FlsIdeal.τ).loc Cert.FlsIdeal.main_arg1)
      ∧ r.2.mem ((c.tc : Thread Cert.FlsIdeal.nD Cert.FlsIdeal.τ).loc Cert.FlsIdeal.main_arg2) = m ((c.tc : Thread Cert.FlsIdeal.nD Cert.FlsIdeal.τ).loc Cert.FlsIdeal.main_arg2)
      ∧ r.2.mem ((c.tc : Thread Cert.FlsIdeal.nD Cert.FlsIdeal.τ).loc Cert.FlsIdeal.main_arg3) = m ((c.tc : Thread Cert.FlsIdeal.nD Cert.FlsIdeal.τ).loc Cert.FlsIdeal.main_arg3)
      ∧ r.2.mem ((c.tc : Thread Cert.FlsIdeal.nD Cert.FlsIdeal.τ).loc Cert.FlsIdeal.main_arg4) = m ((c.tc : Thread Cert.FlsIdeal.nD Cert.FlsIdeal.τ).loc Cert.FlsIdeal.main_arg4))
      ∧ r.2.sem = fun _ => 0)

def quiescent_FlsRefIdeal [hFlsRefIdeal : Cert.FlsRefIdeal.Facts] : Prop :=
  ∀ (m : (ℓ : Loc Cert.FlsRefIdeal.nD Cert.FlsRefIdeal.τ Cert.FlsRefIdeal.sig) → Buf (Elt Ideal) ℓ) (g : Dev Cert.FlsRefIdeal.nD → PrngReg), Pre_FlsRefIdeal m →
    θ_run (Cert.FlsRefIdeal.defs (F := Ideal)) (onTc (τ := Cert.FlsRefIdeal.τ) (Cert.FlsRefIdeal.main (F := Ideal))) ⟨m, fun _ => 0, g⟩ (fun r => (∀ c : Dev Cert.FlsRefIdeal.nD,
      r.2.mem ((c.tc : Thread Cert.FlsRefIdeal.nD Cert.FlsRefIdeal.τ).loc Cert.FlsRefIdeal.main_arg0) = m ((c.tc : Thread Cert.FlsRefIdeal.nD Cert.FlsRefIdeal.τ).loc Cert.FlsRefIdeal.main_arg0)
      ∧ r.2.mem ((c.tc : Thread Cert.FlsRefIdeal.nD Cert.FlsRefIdeal.τ).loc Cert.FlsRefIdeal.main_arg1) = m ((c.tc : Thread Cert.FlsRefIdeal.nD Cert.FlsRefIdeal.τ).loc Cert.FlsRefIdeal.main_arg1)
      ∧ r.2.mem ((c.tc : Thread Cert.FlsRefIdeal.nD Cert.FlsRefIdeal.τ).loc Cert.FlsRefIdeal.main_arg2) = m ((c.tc : Thread Cert.FlsRefIdeal.nD Cert.FlsRefIdeal.τ).loc Cert.FlsRefIdeal.main_arg2)
      ∧ r.2.mem ((c.tc : Thread Cert.FlsRefIdeal.nD Cert.FlsRefIdeal.τ).loc Cert.FlsRefIdeal.main_arg3) = m ((c.tc : Thread Cert.FlsRefIdeal.nD Cert.FlsRefIdeal.τ).loc Cert.FlsRefIdeal.main_arg3)
      ∧ r.2.mem ((c.tc : Thread Cert.FlsRefIdeal.nD Cert.FlsRefIdeal.τ).loc Cert.FlsRefIdeal.main_arg4) = m ((c.tc : Thread Cert.FlsRefIdeal.nD Cert.FlsRefIdeal.τ).loc Cert.FlsRefIdeal.main_arg4))
      ∧ r.2.sem = fun _ => 0)

def quiescent_Obw [hObw : Cert.Obw.Facts] : Prop :=
  ∀ (m : (ℓ : Loc Cert.Obw.nD Cert.Obw.τ Cert.Obw.sig) → Buf (Elt Bits) ℓ) (g : Dev Cert.Obw.nD → PrngReg), Pre_Obw m →
    θ_run (Cert.Obw.defs (F := Bits)) (onTc (τ := Cert.Obw.τ) (Cert.Obw.main (F := Bits))) ⟨m, fun _ => 0, g⟩ (fun r => (∀ c : Dev Cert.Obw.nD,
      r.2.mem ((c.tc : Thread Cert.Obw.nD Cert.Obw.τ).loc Cert.Obw.main_arg0) = m ((c.tc : Thread Cert.Obw.nD Cert.Obw.τ).loc Cert.Obw.main_arg0)
      ∧ r.2.mem ((c.tc : Thread Cert.Obw.nD Cert.Obw.τ).loc Cert.Obw.main_arg1) = m ((c.tc : Thread Cert.Obw.nD Cert.Obw.τ).loc Cert.Obw.main_arg1)
      ∧ r.2.mem ((c.tc : Thread Cert.Obw.nD Cert.Obw.τ).loc Cert.Obw.main_arg2) = m ((c.tc : Thread Cert.Obw.nD Cert.Obw.τ).loc Cert.Obw.main_arg2)
      ∧ r.2.mem ((c.tc : Thread Cert.Obw.nD Cert.Obw.τ).loc Cert.Obw.main_arg3) = m ((c.tc : Thread Cert.Obw.nD Cert.Obw.τ).loc Cert.Obw.main_arg3)
      ∧ r.2.mem ((c.tc : Thread Cert.Obw.nD Cert.Obw.τ).loc Cert.Obw.main_arg4) = m ((c.tc : Thread Cert.Obw.nD Cert.Obw.τ).loc Cert.Obw.main_arg4)
      ∧ r.2.mem ((c.tc : Thread Cert.Obw.nD Cert.Obw.τ).loc Cert.Obw.main_arg5) = m ((c.tc : Thread Cert.Obw.nD Cert.Obw.τ).loc Cert.Obw.main_arg5))
      ∧ r.2.sem = fun _ => 0)

def quiescent_ObwIdeal [hObwIdeal : Cert.ObwIdeal.Facts] : Prop :=
  ∀ (m : (ℓ : Loc Cert.ObwIdeal.nD Cert.ObwIdeal.τ Cert.ObwIdeal.sig) → Buf (Elt Ideal) ℓ) (g : Dev Cert.ObwIdeal.nD → PrngReg), Pre_ObwIdeal m →
    θ_run (Cert.ObwIdeal.defs (F := Ideal)) (onTc (τ := Cert.ObwIdeal.τ) (Cert.ObwIdeal.main (F := Ideal))) ⟨m, fun _ => 0, g⟩ (fun r => (∀ c : Dev Cert.ObwIdeal.nD,
      r.2.mem ((c.tc : Thread Cert.ObwIdeal.nD Cert.ObwIdeal.τ).loc Cert.ObwIdeal.main_arg0) = m ((c.tc : Thread Cert.ObwIdeal.nD Cert.ObwIdeal.τ).loc Cert.ObwIdeal.main_arg0)
      ∧ r.2.mem ((c.tc : Thread Cert.ObwIdeal.nD Cert.ObwIdeal.τ).loc Cert.ObwIdeal.main_arg1) = m ((c.tc : Thread Cert.ObwIdeal.nD Cert.ObwIdeal.τ).loc Cert.ObwIdeal.main_arg1)
      ∧ r.2.mem ((c.tc : Thread Cert.ObwIdeal.nD Cert.ObwIdeal.τ).loc Cert.ObwIdeal.main_arg2) = m ((c.tc : Thread Cert.ObwIdeal.nD Cert.ObwIdeal.τ).loc Cert.ObwIdeal.main_arg2)
      ∧ r.2.mem ((c.tc : Thread Cert.ObwIdeal.nD Cert.ObwIdeal.τ).loc Cert.ObwIdeal.main_arg3) = m ((c.tc : Thread Cert.ObwIdeal.nD Cert.ObwIdeal.τ).loc Cert.ObwIdeal.main_arg3)
      ∧ r.2.mem ((c.tc : Thread Cert.ObwIdeal.nD Cert.ObwIdeal.τ).loc Cert.ObwIdeal.main_arg4) = m ((c.tc : Thread Cert.ObwIdeal.nD Cert.ObwIdeal.τ).loc Cert.ObwIdeal.main_arg4)
      ∧ r.2.mem ((c.tc : Thread Cert.ObwIdeal.nD Cert.ObwIdeal.τ).loc Cert.ObwIdeal.main_arg5) = m ((c.tc : Thread Cert.ObwIdeal.nD Cert.ObwIdeal.τ).loc Cert.ObwIdeal.main_arg5))
      ∧ r.2.sem = fun _ => 0)

def quiescent_ObwRefIdeal [hObwRefIdeal : Cert.ObwRefIdeal.Facts] : Prop :=
  ∀ (m : (ℓ : Loc Cert.ObwRefIdeal.nD Cert.ObwRefIdeal.τ Cert.ObwRefIdeal.sig) → Buf (Elt Ideal) ℓ) (g : Dev Cert.ObwRefIdeal.nD → PrngReg), Pre_ObwRefIdeal m →
    θ_run (Cert.ObwRefIdeal.defs (F := Ideal)) (onTc (τ := Cert.ObwRefIdeal.τ) (Cert.ObwRefIdeal.main (F := Ideal))) ⟨m, fun _ => 0, g⟩ (fun r => (∀ c : Dev Cert.ObwRefIdeal.nD,
      r.2.mem ((c.tc : Thread Cert.ObwRefIdeal.nD Cert.ObwRefIdeal.τ).loc Cert.ObwRefIdeal.main_arg0) = m ((c.tc : Thread Cert.ObwRefIdeal.nD Cert.ObwRefIdeal.τ).loc Cert.ObwRefIdeal.main_arg0)
      ∧ r.2.mem ((c.tc : Thread Cert.ObwRefIdeal.nD Cert.ObwRefIdeal.τ).loc Cert.ObwRefIdeal.main_arg1) = m ((c.tc : Thread Cert.ObwRefIdeal.nD Cert.ObwRefIdeal.τ).loc Cert.ObwRefIdeal.main_arg1)
      ∧ r.2.mem ((c.tc : Thread Cert.ObwRefIdeal.nD Cert.ObwRefIdeal.τ).loc Cert.ObwRefIdeal.main_arg2) = m ((c.tc : Thread Cert.ObwRefIdeal.nD Cert.ObwRefIdeal.τ).loc Cert.ObwRefIdeal.main_arg2)
      ∧ r.2.mem ((c.tc : Thread Cert.ObwRefIdeal.nD Cert.ObwRefIdeal.τ).loc Cert.ObwRefIdeal.main_arg3) = m ((c.tc : Thread Cert.ObwRefIdeal.nD Cert.ObwRefIdeal.τ).loc Cert.ObwRefIdeal.main_arg3)
      ∧ r.2.mem ((c.tc : Thread Cert.ObwRefIdeal.nD Cert.ObwRefIdeal.τ).loc Cert.ObwRefIdeal.main_arg4) = m ((c.tc : Thread Cert.ObwRefIdeal.nD Cert.ObwRefIdeal.τ).loc Cert.ObwRefIdeal.main_arg4)
      ∧ r.2.mem ((c.tc : Thread Cert.ObwRefIdeal.nD Cert.ObwRefIdeal.τ).loc Cert.ObwRefIdeal.main_arg5) = m ((c.tc : Thread Cert.ObwRefIdeal.nD Cert.ObwRefIdeal.τ).loc Cert.ObwRefIdeal.main_arg5))
      ∧ r.2.sem = fun _ => 0)

def quiescent_Gfw [hGfw : Cert.Gfw.Facts] : Prop :=
  ∀ (m : (ℓ : Loc Cert.Gfw.nD Cert.Gfw.τ Cert.Gfw.sig) → Buf (Elt Bits) ℓ) (g : Dev Cert.Gfw.nD → PrngReg), Pre_Gfw m →
    θ_run (Cert.Gfw.defs (F := Bits)) (onTc (τ := Cert.Gfw.τ) (Cert.Gfw.main (F := Bits))) ⟨m, fun _ => 0, g⟩ (fun r => (∀ c : Dev Cert.Gfw.nD,
      r.2.mem ((c.tc : Thread Cert.Gfw.nD Cert.Gfw.τ).loc Cert.Gfw.main_arg0) = m ((c.tc : Thread Cert.Gfw.nD Cert.Gfw.τ).loc Cert.Gfw.main_arg0)
      ∧ r.2.mem ((c.tc : Thread Cert.Gfw.nD Cert.Gfw.τ).loc Cert.Gfw.main_arg1) = m ((c.tc : Thread Cert.Gfw.nD Cert.Gfw.τ).loc Cert.Gfw.main_arg1)
      ∧ r.2.mem ((c.tc : Thread Cert.Gfw.nD Cert.Gfw.τ).loc Cert.Gfw.main_arg2) = m ((c.tc : Thread Cert.Gfw.nD Cert.Gfw.τ).loc Cert.Gfw.main_arg2)
      ∧ r.2.mem ((c.tc : Thread Cert.Gfw.nD Cert.Gfw.τ).loc Cert.Gfw.main_arg3) = m ((c.tc : Thread Cert.Gfw.nD Cert.Gfw.τ).loc Cert.Gfw.main_arg3)
      ∧ r.2.mem ((c.tc : Thread Cert.Gfw.nD Cert.Gfw.τ).loc Cert.Gfw.main_arg4) = m ((c.tc : Thread Cert.Gfw.nD Cert.Gfw.τ).loc Cert.Gfw.main_arg4))
      ∧ r.2.sem = fun _ => 0)

def quiescent_GfwIdeal [hGfwIdeal : Cert.GfwIdeal.Facts] : Prop :=
  ∀ (m : (ℓ : Loc Cert.GfwIdeal.nD Cert.GfwIdeal.τ Cert.GfwIdeal.sig) → Buf (Elt Ideal) ℓ) (g : Dev Cert.GfwIdeal.nD → PrngReg), Pre_GfwIdeal m →
    θ_run (Cert.GfwIdeal.defs (F := Ideal)) (onTc (τ := Cert.GfwIdeal.τ) (Cert.GfwIdeal.main (F := Ideal))) ⟨m, fun _ => 0, g⟩ (fun r => (∀ c : Dev Cert.GfwIdeal.nD,
      r.2.mem ((c.tc : Thread Cert.GfwIdeal.nD Cert.GfwIdeal.τ).loc Cert.GfwIdeal.main_arg0) = m ((c.tc : Thread Cert.GfwIdeal.nD Cert.GfwIdeal.τ).loc Cert.GfwIdeal.main_arg0)
      ∧ r.2.mem ((c.tc : Thread Cert.GfwIdeal.nD Cert.GfwIdeal.τ).loc Cert.GfwIdeal.main_arg1) = m ((c.tc : Thread Cert.GfwIdeal.nD Cert.GfwIdeal.τ).loc Cert.GfwIdeal.main_arg1)
      ∧ r.2.mem ((c.tc : Thread Cert.GfwIdeal.nD Cert.GfwIdeal.τ).loc Cert.GfwIdeal.main_arg2) = m ((c.tc : Thread Cert.GfwIdeal.nD Cert.GfwIdeal.τ).loc Cert.GfwIdeal.main_arg2)
      ∧ r.2.mem ((c.tc : Thread Cert.GfwIdeal.nD Cert.GfwIdeal.τ).loc Cert.GfwIdeal.main_arg3) = m ((c.tc : Thread Cert.GfwIdeal.nD Cert.GfwIdeal.τ).loc Cert.GfwIdeal.main_arg3)
      ∧ r.2.mem ((c.tc : Thread Cert.GfwIdeal.nD Cert.GfwIdeal.τ).loc Cert.GfwIdeal.main_arg4) = m ((c.tc : Thread Cert.GfwIdeal.nD Cert.GfwIdeal.τ).loc Cert.GfwIdeal.main_arg4))
      ∧ r.2.sem = fun _ => 0)

def quiescent_GfwRefIdeal [hGfwRefIdeal : Cert.GfwRefIdeal.Facts] : Prop :=
  ∀ (m : (ℓ : Loc Cert.GfwRefIdeal.nD Cert.GfwRefIdeal.τ Cert.GfwRefIdeal.sig) → Buf (Elt Ideal) ℓ) (g : Dev Cert.GfwRefIdeal.nD → PrngReg), Pre_GfwRefIdeal m →
    θ_run (Cert.GfwRefIdeal.defs (F := Ideal)) (onTc (τ := Cert.GfwRefIdeal.τ) (Cert.GfwRefIdeal.main (F := Ideal))) ⟨m, fun _ => 0, g⟩ (fun r => (∀ c : Dev Cert.GfwRefIdeal.nD,
      r.2.mem ((c.tc : Thread Cert.GfwRefIdeal.nD Cert.GfwRefIdeal.τ).loc Cert.GfwRefIdeal.main_arg0) = m ((c.tc : Thread Cert.GfwRefIdeal.nD Cert.GfwRefIdeal.τ).loc Cert.GfwRefIdeal.main_arg0)
      ∧ r.2.mem ((c.tc : Thread Cert.GfwRefIdeal.nD Cert.GfwRefIdeal.τ).loc Cert.GfwRefIdeal.main_arg1) = m ((c.tc : Thread Cert.GfwRefIdeal.nD Cert.GfwRefIdeal.τ).loc Cert.GfwRefIdeal.main_arg1)
      ∧ r.2.mem ((c.tc : Thread Cert.GfwRefIdeal.nD Cert.GfwRefIdeal.τ).loc Cert.GfwRefIdeal.main_arg2) = m ((c.tc : Thread Cert.GfwRefIdeal.nD Cert.GfwRefIdeal.τ).loc Cert.GfwRefIdeal.main_arg2)
      ∧ r.2.mem ((c.tc : Thread Cert.GfwRefIdeal.nD Cert.GfwRefIdeal.τ).loc Cert.GfwRefIdeal.main_arg3) = m ((c.tc : Thread Cert.GfwRefIdeal.nD Cert.GfwRefIdeal.τ).loc Cert.GfwRefIdeal.main_arg3)
      ∧ r.2.mem ((c.tc : Thread Cert.GfwRefIdeal.nD Cert.GfwRefIdeal.τ).loc Cert.GfwRefIdeal.main_arg4) = m ((c.tc : Thread Cert.GfwRefIdeal.nD Cert.GfwRefIdeal.τ).loc Cert.GfwRefIdeal.main_arg4))
      ∧ r.2.sem = fun _ => 0)

def preserves_Kernel_KernelIdeal : Prop :=
  IdealRules.named_const.Statement Cert.KernelIdeal.κ "gelu" .f32 0x3D372713#32 ((8943 / 200000 : ℝ) : EReal)
  ∧ IdealRules.named_const.Statement Cert.KernelIdeal.κ "gelu3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_v179) = v3 c
          ∧ r.2.mem ((c.tc : Thread Cert.ReferenceIdeal.nD Cert.ReferenceIdeal.τ).loc Cert.ReferenceIdeal.main_v180) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gfi_GfiIdeal : Prop :=
  True

def algebraic_GfiIdeal_GfiRefIdeal [hGfiIdeal : Cert.GfiIdeal.Facts] [hGfiRefIdeal : Cert.GfiRefIdeal.Facts] : Prop :=
  ∀ (m : (ℓ : Loc Cert.GfiIdeal.nD Cert.GfiIdeal.τ Cert.GfiIdeal.sig) → Buf (Elt Ideal) ℓ) (g : Dev Cert.GfiIdeal.nD → PrngReg)
    (m' : (ℓ : Loc Cert.GfiRefIdeal.nD Cert.GfiRefIdeal.τ Cert.GfiRefIdeal.sig) → Buf (Elt Ideal) ℓ) (g' : Dev Cert.GfiRefIdeal.nD → PrngReg), Pre_GfiIdeal m →
    (∀ c : Dev Cert.GfiIdeal.nD,
      m' ((c.tc : Thread Cert.GfiRefIdeal.nD Cert.GfiRefIdeal.τ).loc Cert.GfiRefIdeal.main_arg0) = m ((c.tc : Thread Cert.GfiIdeal.nD Cert.GfiIdeal.τ).loc Cert.GfiIdeal.main_arg0)
      ∧ m' ((c.tc : Thread Cert.GfiRefIdeal.nD Cert.GfiRefIdeal.τ).loc Cert.GfiRefIdeal.main_arg1) = m ((c.tc : Thread Cert.GfiIdeal.nD Cert.GfiIdeal.τ).loc Cert.GfiIdeal.main_arg1)
      ∧ m' ((c.tc : Thread Cert.GfiRefIdeal.nD Cert.GfiRefIdeal.τ).loc Cert.GfiRefIdeal.main_arg2) = m ((c.tc : Thread Cert.GfiIdeal.nD Cert.GfiIdeal.τ).loc Cert.GfiIdeal.main_arg2)) →
    ∃ (v0 : (c : Dev Cert.GfiIdeal.nD) → Buf (Elt Ideal) ((c.tc : Thread Cert.GfiIdeal.nD Cert.GfiIdeal.τ).loc Cert.GfiIdeal.main_v0)),
      θ_run (Cert.GfiIdeal.defs (F := Ideal)) (onTc (τ := Cert.GfiIdeal.τ) (Cert.GfiIdeal.main (F := Ideal))) ⟨m, fun _ => 0, g⟩ (fun r => ∀ c : Dev Cert.GfiIdeal.nD,
          r.2.mem ((c.tc : Thread Cert.GfiIdeal.nD Cert.GfiIdeal.τ).loc Cert.GfiIdeal.main_v0) = v0 c
          ∧ r.2.mem ((c.tc : Thread Cert.GfiIdeal.nD Cert.GfiIdeal.τ).loc Cert.GfiIdeal.main_arg0) = m ((c.tc : Thread Cert.GfiIdeal.nD Cert.GfiIdeal.τ).loc Cert.GfiIdeal.main_arg0)
          ∧ r.2.mem ((c.tc : Thread Cert.GfiIdeal.nD Cert.GfiIdeal.τ).loc Cert.GfiIdeal.main_arg1) = m ((c.tc : Thread Cert.GfiIdeal.nD Cert.GfiIdeal.τ).loc Cert.GfiIdeal.main_arg1)
          ∧ r.2.mem ((c.tc : Thread Cert.GfiIdeal.nD Cert.GfiIdeal.τ).loc Cert.GfiIdeal.main_arg2) = m ((c.tc : Thread Cert.GfiIdeal.nD Cert.GfiIdeal.τ).loc Cert.GfiIdeal.main_arg2))
      ∧ θ_run (Cert.GfiRefIdeal.defs (F := Ideal)) (onTc (τ := Cert.GfiRefIdeal.τ) (Cert.GfiRefIdeal.main (F := Ideal))) ⟨m', fun _ => 0, g'⟩ (fun r => ∀ c : Dev Cert.GfiRefIdeal.nD,
          r.2.mem ((c.tc : Thread Cert.GfiRefIdeal.nD Cert.GfiRefIdeal.τ).loc Cert.GfiRefIdeal.main_v13) = v0 c
          ∧ r.2.mem ((c.tc : Thread Cert.GfiRefIdeal.nD Cert.GfiRefIdeal.τ).loc Cert.GfiRefIdeal.main_arg0) = m' ((c.tc : Thread Cert.GfiRefIdeal.nD Cert.GfiRefIdeal.τ).loc Cert.GfiRefIdeal.main_arg0)
          ∧ r.2.mem ((c.tc : Thread Cert.GfiRefIdeal.nD Cert.GfiRefIdeal.τ).loc Cert.GfiRefIdeal.main_arg1) = m' ((c.tc : Thread Cert.GfiRefIdeal.nD Cert.GfiRefIdeal.τ).loc Cert.GfiRefIdeal.main_arg1)
          ∧ r.2.mem ((c.tc : Thread Cert.GfiRefIdeal.nD Cert.GfiRefIdeal.τ).loc Cert.GfiRefIdeal.main_arg2) = m' ((c.tc : Thread Cert.GfiRefIdeal.nD Cert.GfiRefIdeal.τ).loc Cert.GfiRefIdeal.main_arg2))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v2)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v2) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v10) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v9) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1))

def preserves_Gfo_GfoIdeal : Prop :=
  True

def algebraic_GfoIdeal_GfoRefIdeal [hGfoIdeal : Cert.GfoIdeal.Facts] [hGfoRefIdeal : Cert.GfoRefIdeal.Facts] : Prop :=
  ∀ (m : (ℓ : Loc Cert.GfoIdeal.nD Cert.GfoIdeal.τ Cert.GfoIdeal.sig) → Buf (Elt Ideal) ℓ) (g : Dev Cert.GfoIdeal.nD → PrngReg)
    (m' : (ℓ : Loc Cert.GfoRefIdeal.nD Cert.GfoRefIdeal.τ Cert.GfoRefIdeal.sig) → Buf (Elt Ideal) ℓ) (g' : Dev Cert.GfoRefIdeal.nD → PrngReg), Pre_GfoIdeal m →
    (∀ c : Dev Cert.GfoIdeal.nD,
      m' ((c.tc : Thread Cert.GfoRefIdeal.nD Cert.GfoRefIdeal.τ).loc Cert.GfoRefIdeal.main_arg0) = m ((c.tc : Thread Cert.GfoIdeal.nD Cert.GfoIdeal.τ).loc Cert.GfoIdeal.main_arg0)
      ∧ m' ((c.tc : Thread Cert.GfoRefIdeal.nD Cert.GfoRefIdeal.τ).loc Cert.GfoRefIdeal.main_arg1) = m ((c.tc : Thread Cert.GfoIdeal.nD Cert.GfoIdeal.τ).loc Cert.GfoIdeal.main_arg1)) →
    ∃ (v0 : (c : Dev Cert.GfoIdeal.nD) → Buf (Elt Ideal) ((c.tc : Thread Cert.GfoIdeal.nD Cert.GfoIdeal.τ).loc Cert.GfoIdeal.main_v0)),
      θ_run (Cert.GfoIdeal.defs (F := Ideal)) (onTc (τ := Cert.GfoIdeal.τ) (Cert.GfoIdeal.main (F := Ideal))) ⟨m, fun _ => 0, g⟩ (fun r => ∀ c : Dev Cert.GfoIdeal.nD,
          r.2.mem ((c.tc : Thread Cert.GfoIdeal.nD Cert.GfoIdeal.τ).loc Cert.GfoIdeal.main_v0) = v0 c
          ∧ r.2.mem ((c.tc : Thread Cert.GfoIdeal.nD Cert.GfoIdeal.τ).loc Cert.GfoIdeal.main_arg0) = m ((c.tc : Thread Cert.GfoIdeal.nD Cert.GfoIdeal.τ).loc Cert.GfoIdeal.main_arg0)
          ∧ r.2.mem ((c.tc : Thread Cert.GfoIdeal.nD Cert.GfoIdeal.τ).loc Cert.GfoIdeal.main_arg1) = m ((c.tc : Thread Cert.GfoIdeal.nD Cert.GfoIdeal.τ).loc Cert.GfoIdeal.main_arg1))
      ∧ θ_run (Cert.GfoRefIdeal.defs (F := Ideal)) (onTc (τ := Cert.GfoRefIdeal.τ) (Cert.GfoRefIdeal.main (F := Ideal))) ⟨m', fun _ => 0, g'⟩ (fun r => ∀ c : Dev Cert.GfoRefIdeal.nD,
          r.2.mem ((c.tc : Thread Cert.GfoRefIdeal.nD Cert.GfoRefIdeal.τ).loc Cert.GfoRefIdeal.main_v7) = v0 c
          ∧ r.2.mem ((c.tc : Thread Cert.GfoRefIdeal.nD Cert.GfoRefIdeal.τ).loc Cert.GfoRefIdeal.main_arg0) = m' ((c.tc : Thread Cert.GfoRefIdeal.nD Cert.GfoRefIdeal.τ).loc Cert.GfoRefIdeal.main_arg0)
          ∧ r.2.mem ((c.tc : Thread Cert.GfoRefIdeal.nD Cert.GfoRefIdeal.τ).loc Cert.GfoRefIdeal.main_arg1) = m' ((c.tc : Thread Cert.GfoRefIdeal.nD Cert.GfoRefIdeal.τ).loc Cert.GfoRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v7) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Yo_YoIdeal : Prop :=
  True

def algebraic_YoIdeal_YoRefIdeal [hYoIdeal : Cert.YoIdeal.Facts] [hYoRefIdeal : Cert.YoRefIdeal.Facts] : Prop :=
  ∀ (m : (ℓ : Loc Cert.YoIdeal.nD Cert.YoIdeal.τ Cert.YoIdeal.sig) → Buf (Elt Ideal) ℓ) (g : Dev Cert.YoIdeal.nD → PrngReg)
    (m' : (ℓ : Loc Cert.YoRefIdeal.nD Cert.YoRefIdeal.τ Cert.YoRefIdeal.sig) → Buf (Elt Ideal) ℓ) (g' : Dev Cert.YoRefIdeal.nD → PrngReg), Pre_YoIdeal m →
    (∀ c : Dev Cert.YoIdeal.nD,
      m' ((c.tc : Thread Cert.YoRefIdeal.nD Cert.YoRefIdeal.τ).loc Cert.YoRefIdeal.main_arg0) = m ((c.tc : Thread Cert.YoIdeal.nD Cert.YoIdeal.τ).loc Cert.YoIdeal.main_arg0)
      ∧ m' ((c.tc : Thread Cert.YoRefIdeal.nD Cert.YoRefIdeal.τ).loc Cert.YoRefIdeal.main_arg1) = m ((c.tc : Thread Cert.YoIdeal.nD Cert.YoIdeal.τ).loc Cert.YoIdeal.main_arg1)) →
    ∃ (v0 : (c : Dev Cert.YoIdeal.nD) → Buf (Elt Ideal) ((c.tc : Thread Cert.YoIdeal.nD Cert.YoIdeal.τ).loc Cert.YoIdeal.main_v0)),
      θ_run (Cert.YoIdeal.defs (F := Ideal)) (onTc (τ := Cert.YoIdeal.τ) (Cert.YoIdeal.main (F := Ideal))) ⟨m, fun _ => 0, g⟩ (fun r => ∀ c : Dev Cert.YoIdeal.nD,
          r.2.mem ((c.tc : Thread Cert.YoIdeal.nD Cert.YoIdeal.τ).loc Cert.YoIdeal.main_v0) = v0 c
          ∧ r.2.mem ((c.tc : Thread Cert.YoIdeal.nD Cert.YoIdeal.τ).loc Cert.YoIdeal.main_arg0) = m ((c.tc : Thread Cert.YoIdeal.nD Cert.YoIdeal.τ).loc Cert.YoIdeal.main_arg0)
          ∧ r.2.mem ((c.tc : Thread Cert.YoIdeal.nD Cert.YoIdeal.τ).loc Cert.YoIdeal.main_arg1) = m ((c.tc : Thread Cert.YoIdeal.nD Cert.YoIdeal.τ).loc Cert.YoIdeal.main_arg1))
      ∧ θ_run (Cert.YoRefIdeal.defs (F := Ideal)) (onTc (τ := Cert.YoRefIdeal.τ) (Cert.YoRefIdeal.main (F := Ideal))) ⟨m', fun _ => 0, g'⟩ (fun r => ∀ c : Dev Cert.YoRefIdeal.nD,
          r.2.mem ((c.tc : Thread Cert.YoRefIdeal.nD Cert.YoRefIdeal.τ).loc Cert.YoRefIdeal.main_v2) = v0 c
          ∧ r.2.mem ((c.tc : Thread Cert.YoRefIdeal.nD Cert.YoRefIdeal.τ).loc Cert.YoRefIdeal.main_arg0) = m' ((c.tc : Thread Cert.YoRefIdeal.nD Cert.YoRefIdeal.τ).loc Cert.YoRefIdeal.main_arg0)
          ∧ r.2.mem ((c.tc : Thread Cert.YoRefIdeal.nD Cert.YoRefIdeal.τ).loc Cert.YoRefIdeal.main_arg1) = m' ((c.tc : Thread Cert.YoRefIdeal.nD Cert.YoRefIdeal.τ).loc Cert.YoRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v2) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Ffi_FfiIdeal : Prop :=
  True

def algebraic_FfiIdeal_FfiRefIdeal [hFfiIdeal : Cert.FfiIdeal.Facts] [hFfiRefIdeal : Cert.FfiRefIdeal.Facts] : Prop :=
  ∀ (m : (ℓ : Loc Cert.FfiIdeal.nD Cert.FfiIdeal.τ Cert.FfiIdeal.sig) → Buf (Elt Ideal) ℓ) (g : Dev Cert.FfiIdeal.nD → PrngReg)
    (m' : (ℓ : Loc Cert.FfiRefIdeal.nD Cert.FfiRefIdeal.τ Cert.FfiRefIdeal.sig) → Buf (Elt Ideal) ℓ) (g' : Dev Cert.FfiRefIdeal.nD → PrngReg), Pre_FfiIdeal m →
    (∀ c : Dev Cert.FfiIdeal.nD,
      m' ((c.tc : Thread Cert.FfiRefIdeal.nD Cert.FfiRefIdeal.τ).loc Cert.FfiRefIdeal.main_arg0) = m ((c.tc : Thread Cert.FfiIdeal.nD Cert.FfiIdeal.τ).loc Cert.FfiIdeal.main_arg0)
      ∧ m' ((c.tc : Thread Cert.FfiRefIdeal.nD Cert.FfiRefIdeal.τ).loc Cert.FfiRefIdeal.main_arg1) = m ((c.tc : Thread Cert.FfiIdeal.nD Cert.FfiIdeal.τ).loc Cert.FfiIdeal.main_arg1)) →
    ∃ (v0 : (c : Dev Cert.FfiIdeal.nD) → Buf (Elt Ideal) ((c.tc : Thread Cert.FfiIdeal.nD Cert.FfiIdeal.τ).loc Cert.FfiIdeal.main_v2_0)) (v1 : (c : Dev Cert.FfiIdeal.nD) → Buf (Elt Ideal) ((c.tc : Thread Cert.FfiIdeal.nD Cert.FfiIdeal.τ).loc Cert.FfiIdeal.main_v2_1)) (v2 : (c : Dev Cert.FfiIdeal.nD) → Buf (Elt Ideal) ((c.tc : Thread Cert.FfiIdeal.nD Cert.FfiIdeal.τ).loc Cert.FfiIdeal.main_v2_2)),
      θ_run (Cert.FfiIdeal.defs (F := Ideal)) (onTc (τ := Cert.FfiIdeal.τ) (Cert.FfiIdeal.main (F := Ideal))) ⟨m, fun _ => 0, g⟩ (fun r => ∀ c : Dev Cert.FfiIdeal.nD,
          r.2.mem ((c.tc : Thread Cert.FfiIdeal.nD Cert.FfiIdeal.τ).loc Cert.FfiIdeal.main_v2_0) = v0 c
          ∧ r.2.mem ((c.tc : Thread Cert.FfiIdeal.nD Cert.FfiIdeal.τ).loc Cert.FfiIdeal.main_v2_1) = v1 c
          ∧ r.2.mem ((c.tc : Thread Cert.FfiIdeal.nD Cert.FfiIdeal.τ).loc Cert.FfiIdeal.main_v2_2) = v2 c
          ∧ r.2.mem ((c.tc : Thread Cert.FfiIdeal.nD Cert.FfiIdeal.τ).loc Cert.FfiIdeal.main_arg0) = m ((c.tc : Thread Cert.FfiIdeal.nD Cert.FfiIdeal.τ).loc Cert.FfiIdeal.main_arg0)
          ∧ r.2.mem ((c.tc : Thread Cert.FfiIdeal.nD Cert.FfiIdeal.τ).loc Cert.FfiIdeal.main_arg1) = m ((c.tc : Thread Cert.FfiIdeal.nD Cert.FfiIdeal.τ).loc Cert.FfiIdeal.main_arg1))
      ∧ θ_run (Cert.FfiRefIdeal.defs (F := Ideal)) (onTc (τ := Cert.FfiRefIdeal.τ) (Cert.FfiRefIdeal.main (F := Ideal))) ⟨m', fun _ => 0, g'⟩ (fun r => ∀ c : Dev Cert.FfiRefIdeal.nD,
          r.2.mem ((c.tc : Thread Cert.FfiRefIdeal.nD Cert.FfiRefIdeal.τ).loc Cert.FfiRefIdeal.main_v5) = v0 c
          ∧ r.2.mem ((c.tc : Thread Cert.FfiRefIdeal.nD Cert.FfiRefIdeal.τ).loc Cert.FfiRefIdeal.main_v6) = v1 c
          ∧ r.2.mem ((c.tc : Thread Cert.FfiRefIdeal.nD Cert.FfiRefIdeal.τ).loc Cert.FfiRefIdeal.main_v9) = v2 c
          ∧ r.2.mem ((c.tc : Thread Cert.FfiRefIdeal.nD Cert.FfiRefIdeal.τ).loc Cert.FfiRefIdeal.main_arg0) = m' ((c.tc : Thread Cert.FfiRefIdeal.nD Cert.FfiRefIdeal.τ).loc Cert.FfiRefIdeal.main_arg0)
          ∧ r.2.mem ((c.tc : Thread Cert.FfiRefIdeal.nD Cert.FfiRefIdeal.τ).loc Cert.FfiRefIdeal.main_arg1) = m' ((c.tc : Thread Cert.FfiRefIdeal.nD Cert.FfiRefIdeal.τ).loc Cert.FfiRefIdeal.main_arg1))

def preserves_Fob_FobIdeal : Prop :=
  True

def algebraic_FobIdeal_FobRefIdeal_pre_finite_fob [hFobIdeal : Cert.FobIdeal.Facts] [hFobRefIdeal : Cert.FobRefIdeal.Facts] [hPre_finite_fob : Cert.Pre_finite_fob.Facts] : Prop :=
  ∀ (m : (ℓ : Loc Cert.FobIdeal.nD Cert.FobIdeal.τ Cert.FobIdeal.sig) → Buf (Elt Ideal) ℓ) (g : Dev Cert.FobIdeal.nD → PrngReg)
    (m' : (ℓ : Loc Cert.FobRefIdeal.nD Cert.FobRefIdeal.τ Cert.FobRefIdeal.sig) → Buf (Elt Ideal) ℓ) (g' : Dev Cert.FobRefIdeal.nD → PrngReg), Pre_FobIdeal_finite_fob m →
    (∀ c : Dev Cert.FobIdeal.nD,
      m' ((c.tc : Thread Cert.FobRefIdeal.nD Cert.FobRefIdeal.τ).loc Cert.FobRefIdeal.main_arg0) = m ((c.tc : Thread Cert.FobIdeal.nD Cert.FobIdeal.τ).loc Cert.FobIdeal.main_arg0)
      ∧ m' ((c.tc : Thread Cert.FobRefIdeal.nD Cert.FobRefIdeal.τ).loc Cert.FobRefIdeal.main_arg1) = m ((c.tc : Thread Cert.FobIdeal.nD Cert.FobIdeal.τ).loc Cert.FobIdeal.main_arg1)
      ∧ m' ((c.tc : Thread Cert.FobRefIdeal.nD Cert.FobRefIdeal.τ).loc Cert.FobRefIdeal.main_arg2) = m ((c.tc : Thread Cert.FobIdeal.nD Cert.FobIdeal.τ).loc Cert.FobIdeal.main_arg2)
      ∧ m' ((c.tc : Thread Cert.FobRefIdeal.nD Cert.FobRefIdeal.τ).loc Cert.FobRefIdeal.main_arg3) = m ((c.tc : Thread Cert.FobIdeal.nD Cert.FobIdeal.τ).loc Cert.FobIdeal.main_arg3)) →
    ∃ (v0 : (c : Dev Cert.FobIdeal.nD) → Buf (Elt Ideal) ((c.tc : Thread Cert.FobIdeal.nD Cert.FobIdeal.τ).loc Cert.FobIdeal.main_v0_0)) (v1 : (c : Dev Cert.FobIdeal.nD) → Buf (Elt Ideal) ((c.tc : Thread Cert.FobIdeal.nD Cert.FobIdeal.τ).loc Cert.FobIdeal.main_v0_1)),
      θ_run (Cert.FobIdeal.defs (F := Ideal)) (onTc (τ := Cert.FobIdeal.τ) (Cert.FobIdeal.main (F := Ideal))) ⟨m, fun _ => 0, g⟩ (fun r => ∀ c : Dev Cert.FobIdeal.nD,
          r.2.mem ((c.tc : Thread Cert.FobIdeal.nD Cert.FobIdeal.τ).loc Cert.FobIdeal.main_v0_0) = v0 c
          ∧ r.2.mem ((c.tc : Thread Cert.FobIdeal.nD Cert.FobIdeal.τ).loc Cert.FobIdeal.main_v0_1) = v1 c
          ∧ r.2.mem ((c.tc : Thread Cert.FobIdeal.nD Cert.FobIdeal.τ).loc Cert.FobIdeal.main_arg0) = m ((c.tc : Thread Cert.FobIdeal.nD Cert.FobIdeal.τ).loc Cert.FobIdeal.main_arg0)
          ∧ r.2.mem ((c.tc : Thread Cert.FobIdeal.nD Cert.FobIdeal.τ).loc Cert.FobIdeal.main_arg1) = m ((c.tc : Thread Cert.FobIdeal.nD Cert.FobIdeal.τ).loc Cert.FobIdeal.main_arg1)
          ∧ r.2.mem ((c.tc : Thread Cert.FobIdeal.nD Cert.FobIdeal.τ).loc Cert.FobIdeal.main_arg2) = m ((c.tc : Thread Cert.FobIdeal.nD Cert.FobIdeal.τ).loc Cert.FobIdeal.main_arg2)
          ∧ r.2.mem ((c.tc : Thread Cert.FobIdeal.nD Cert.FobIdeal.τ).loc Cert.FobIdeal.main_arg3) = m ((c.tc : Thread Cert.FobIdeal.nD Cert.FobIdeal.τ).loc Cert.FobIdeal.main_arg3))
      ∧ θ_run (Cert.FobRefIdeal.defs (F := Ideal)) (onTc (τ := Cert.FobRefIdeal.τ) (Cert.FobRefIdeal.main (F := Ideal))) ⟨m', fun _ => 0, g'⟩ (fun r => ∀ c : Dev Cert.FobRefIdeal.nD,
          r.2.mem ((c.tc : Thread Cert.FobRefIdeal.nD Cert.FobRefIdeal.τ).loc Cert.FobRefIdeal.main_v13) = v0 c
          ∧ r.2.mem ((c.tc : Thread Cert.FobRefIdeal.nD Cert.FobRefIdeal.τ).loc Cert.FobRefIdeal.main_v14) = v1 c
          ∧ r.2.mem ((c.tc : Thread Cert.FobRefIdeal.nD Cert.FobRefIdeal.τ).loc Cert.FobRefIdeal.main_arg0) = m' ((c.tc : Thread Cert.FobRefIdeal.nD Cert.FobRefIdeal.τ).loc Cert.FobRefIdeal.main_arg0)
          ∧ r.2.mem ((c.tc : Thread Cert.FobRefIdeal.nD Cert.FobRefIdeal.τ).loc Cert.FobRefIdeal.main_arg1) = m' ((c.tc : Thread Cert.FobRefIdeal.nD Cert.FobRefIdeal.τ).loc Cert.FobRefIdeal.main_arg1)
          ∧ r.2.mem ((c.tc : Thread Cert.FobRefIdeal.nD Cert.FobRefIdeal.τ).loc Cert.FobRefIdeal.main_arg2) = m' ((c.tc : Thread Cert.FobRefIdeal.nD Cert.FobRefIdeal.τ).loc Cert.FobRefIdeal.main_arg2)
          ∧ r.2.mem ((c.tc : Thread Cert.FobRefIdeal.nD Cert.FobRefIdeal.τ).loc Cert.FobRefIdeal.main_arg3) = m' ((c.tc : Thread Cert.FobRefIdeal.nD Cert.FobRefIdeal.τ).loc Cert.FobRefIdeal.main_arg3))

def preserves_Bwg_BwgIdeal : Prop :=
  True

def algebraic_BwgIdeal_BwgRefIdeal [hBwgIdeal : Cert.BwgIdeal.Facts] [hBwgRefIdeal : Cert.BwgRefIdeal.Facts] : Prop :=
  ∀ (m : (ℓ : Loc Cert.BwgIdeal.nD Cert.BwgIdeal.τ Cert.BwgIdeal.sig) → Buf (Elt Ideal) ℓ) (g : Dev Cert.BwgIdeal.nD → PrngReg)
    (m' : (ℓ : Loc Cert.BwgRefIdeal.nD Cert.BwgRefIdeal.τ Cert.BwgRefIdeal.sig) → Buf (Elt Ideal) ℓ) (g' : Dev Cert.BwgRefIdeal.nD → PrngReg), Pre_BwgIdeal m →
    (∀ c : Dev Cert.BwgIdeal.nD,
      m' ((c.tc : Thread Cert.BwgRefIdeal.nD Cert.BwgRefIdeal.τ).loc Cert.BwgRefIdeal.main_arg0) = m ((c.tc : Thread Cert.BwgIdeal.nD Cert.BwgIdeal.τ).loc Cert.BwgIdeal.main_arg0)
      ∧ m' ((c.tc : Thread Cert.BwgRefIdeal.nD Cert.BwgRefIdeal.τ).loc Cert.BwgRefIdeal.main_arg1) = m ((c.tc : Thread Cert.BwgIdeal.nD Cert.BwgIdeal.τ).loc Cert.BwgIdeal.main_arg1)
      ∧ m' ((c.tc : Thread Cert.BwgRefIdeal.nD Cert.BwgRefIdeal.τ).loc Cert.BwgRefIdeal.main_arg2) = m ((c.tc : Thread Cert.BwgIdeal.nD Cert.BwgIdeal.τ).loc Cert.BwgIdeal.main_arg2)
      ∧ m' ((c.tc : Thread Cert.BwgRefIdeal.nD Cert.BwgRefIdeal.τ).loc Cert.BwgRefIdeal.main_arg3) = m ((c.tc : Thread Cert.BwgIdeal.nD Cert.BwgIdeal.τ).loc Cert.BwgIdeal.main_arg3)) →
    ∃ (v0 : (c : Dev Cert.BwgIdeal.nD) → Buf (Elt Ideal) ((c.tc : Thread Cert.BwgIdeal.nD Cert.BwgIdeal.τ).loc Cert.BwgIdeal.main_v0_0)) (v1 : (c : Dev Cert.BwgIdeal.nD) → Buf (Elt Ideal) ((c.tc : Thread Cert.BwgIdeal.nD Cert.BwgIdeal.τ).loc Cert.BwgIdeal.main_v0_1)),
      θ_run (Cert.BwgIdeal.defs (F := Ideal)) (onTc (τ := Cert.BwgIdeal.τ) (Cert.BwgIdeal.main (F := Ideal))) ⟨m, fun _ => 0, g⟩ (fun r => ∀ c : Dev Cert.BwgIdeal.nD,
          r.2.mem ((c.tc : Thread Cert.BwgIdeal.nD Cert.BwgIdeal.τ).loc Cert.BwgIdeal.main_v0_0) = v0 c
          ∧ r.2.mem ((c.tc : Thread Cert.BwgIdeal.nD Cert.BwgIdeal.τ).loc Cert.BwgIdeal.main_v0_1) = v1 c
          ∧ r.2.mem ((c.tc : Thread Cert.BwgIdeal.nD Cert.BwgIdeal.τ).loc Cert.BwgIdeal.main_arg0) = m ((c.tc : Thread Cert.BwgIdeal.nD Cert.BwgIdeal.τ).loc Cert.BwgIdeal.main_arg0)
          ∧ r.2.mem ((c.tc : Thread Cert.BwgIdeal.nD Cert.BwgIdeal.τ).loc Cert.BwgIdeal.main_arg1) = m ((c.tc : Thread Cert.BwgIdeal.nD Cert.BwgIdeal.τ).loc Cert.BwgIdeal.main_arg1)
          ∧ r.2.mem ((c.tc : Thread Cert.BwgIdeal.nD Cert.BwgIdeal.τ).loc Cert.BwgIdeal.main_arg2) = m ((c.tc : Thread Cert.BwgIdeal.nD Cert.BwgIdeal.τ).loc Cert.BwgIdeal.main_arg2)
          ∧ r.2.mem ((c.tc : Thread Cert.BwgIdeal.nD Cert.BwgIdeal.τ).loc Cert.BwgIdeal.main_arg3) = m ((c.tc : Thread Cert.BwgIdeal.nD Cert.BwgIdeal.τ).loc Cert.BwgIdeal.main_arg3))
      ∧ θ_run (Cert.BwgRefIdeal.defs (F := Ideal)) (onTc (τ := Cert.BwgRefIdeal.τ) (Cert.BwgRefIdeal.main (F := Ideal))) ⟨m', fun _ => 0, g'⟩ (fun r => ∀ c : Dev Cert.BwgRefIdeal.nD,
          r.2.mem ((c.tc : Thread Cert.BwgRefIdeal.nD Cert.BwgRefIdeal.τ).loc Cert.BwgRefIdeal.main_v9) = v0 c
          ∧ r.2.mem ((c.tc : Thread Cert.BwgRefIdeal.nD Cert.BwgRefIdeal.τ).loc Cert.BwgRefIdeal.main_v19) = v1 c
          ∧ r.2.mem ((c.tc : Thread Cert.BwgRefIdeal.nD Cert.BwgRefIdeal.τ).loc Cert.BwgRefIdeal.main_arg0) = m' ((c.tc : Thread Cert.BwgRefIdeal.nD Cert.BwgRefIdeal.τ).loc Cert.BwgRefIdeal.main_arg0)
          ∧ r.2.mem ((c.tc : Thread Cert.BwgRefIdeal.nD Cert.BwgRefIdeal.τ).loc Cert.BwgRefIdeal.main_arg1) = m' ((c.tc : Thread Cert.BwgRefIdeal.nD Cert.BwgRefIdeal.τ).loc Cert.BwgRefIdeal.main_arg1)
          ∧ r.2.mem ((c.tc : Thread Cert.BwgRefIdeal.nD Cert.BwgRefIdeal.τ).loc Cert.BwgRefIdeal.main_arg2) = m' ((c.tc : Thread Cert.BwgRefIdeal.nD Cert.BwgRefIdeal.τ).loc Cert.BwgRefIdeal.main_arg2)
          ∧ r.2.mem ((c.tc : Thread Cert.BwgRefIdeal.nD Cert.BwgRefIdeal.τ).loc Cert.BwgRefIdeal.main_arg3) = m' ((c.tc : Thread Cert.BwgRefIdeal.nD Cert.BwgRefIdeal.τ).loc Cert.BwgRefIdeal.main_arg3))

def preserves_Bbw_BbwIdeal : Prop :=
  True

def algebraic_BbwIdeal_BbwRefIdeal [hBbwIdeal : Cert.BbwIdeal.Facts] [hBbwRefIdeal : Cert.BbwRefIdeal.Facts] : Prop :=
  ∀ (m : (ℓ : Loc Cert.BbwIdeal.nD Cert.BbwIdeal.τ Cert.BbwIdeal.sig) → Buf (Elt Ideal) ℓ) (g : Dev Cert.BbwIdeal.nD → PrngReg)
    (m' : (ℓ : Loc Cert.BbwRefIdeal.nD Cert.BbwRefIdeal.τ Cert.BbwRefIdeal.sig) → Buf (Elt Ideal) ℓ) (g' : Dev Cert.BbwRefIdeal.nD → PrngReg), Pre_BbwIdeal m →
    (∀ c : Dev Cert.BbwIdeal.nD,
      m' ((c.tc : Thread Cert.BbwRefIdeal.nD Cert.BbwRefIdeal.τ).loc Cert.BbwRefIdeal.main_arg0) = m ((c.tc : Thread Cert.BbwIdeal.nD Cert.BbwIdeal.τ).loc Cert.BbwIdeal.main_arg0)
      ∧ m' ((c.tc : Thread Cert.BbwRefIdeal.nD Cert.BbwRefIdeal.τ).loc Cert.BbwRefIdeal.main_arg1) = m ((c.tc : Thread Cert.BbwIdeal.nD Cert.BbwIdeal.τ).loc Cert.BbwIdeal.main_arg1)
      ∧ m' ((c.tc : Thread Cert.BbwRefIdeal.nD Cert.BbwRefIdeal.τ).loc Cert.BbwRefIdeal.main_arg2) = m ((c.tc : Thread Cert.BbwIdeal.nD Cert.BbwIdeal.τ).loc Cert.BbwIdeal.main_arg2)
      ∧ m' ((c.tc : Thread Cert.BbwRefIdeal.nD Cert.BbwRefIdeal.τ).loc Cert.BbwRefIdeal.main_arg3) = m ((c.tc : Thread Cert.BbwIdeal.nD Cert.BbwIdeal.τ).loc Cert.BbwIdeal.main_arg3)) →
    ∃ (v0 : (c : Dev Cert.BbwIdeal.nD) → Buf (Elt Ideal) ((c.tc : Thread Cert.BbwIdeal.nD Cert.BbwIdeal.τ).loc Cert.BbwIdeal.main_v0_0)) (v1 : (c : Dev Cert.BbwIdeal.nD) → Buf (Elt Ideal) ((c.tc : Thread Cert.BbwIdeal.nD Cert.BbwIdeal.τ).loc Cert.BbwIdeal.main_v0_1)),
      θ_run (Cert.BbwIdeal.defs (F := Ideal)) (onTc (τ := Cert.BbwIdeal.τ) (Cert.BbwIdeal.main (F := Ideal))) ⟨m, fun _ => 0, g⟩ (fun r => ∀ c : Dev Cert.BbwIdeal.nD,
          r.2.mem ((c.tc : Thread Cert.BbwIdeal.nD Cert.BbwIdeal.τ).loc Cert.BbwIdeal.main_v0_0) = v0 c
          ∧ r.2.mem ((c.tc : Thread Cert.BbwIdeal.nD Cert.BbwIdeal.τ).loc Cert.BbwIdeal.main_v0_1) = v1 c
          ∧ r.2.mem ((c.tc : Thread Cert.BbwIdeal.nD Cert.BbwIdeal.τ).loc Cert.BbwIdeal.main_arg0) = m ((c.tc : Thread Cert.BbwIdeal.nD Cert.BbwIdeal.τ).loc Cert.BbwIdeal.main_arg0)
          ∧ r.2.mem ((c.tc : Thread Cert.BbwIdeal.nD Cert.BbwIdeal.τ).loc Cert.BbwIdeal.main_arg1) = m ((c.tc : Thread Cert.BbwIdeal.nD Cert.BbwIdeal.τ).loc Cert.BbwIdeal.main_arg1)
          ∧ r.2.mem ((c.tc : Thread Cert.BbwIdeal.nD Cert.BbwIdeal.τ).loc Cert.BbwIdeal.main_arg2) = m ((c.tc : Thread Cert.BbwIdeal.nD Cert.BbwIdeal.τ).loc Cert.BbwIdeal.main_arg2)
          ∧ r.2.mem ((c.tc : Thread Cert.BbwIdeal.nD Cert.BbwIdeal.τ).loc Cert.BbwIdeal.main_arg3) = m ((c.tc : Thread Cert.BbwIdeal.nD Cert.BbwIdeal.τ).loc Cert.BbwIdeal.main_arg3))
      ∧ θ_run (Cert.BbwRefIdeal.defs (F := Ideal)) (onTc (τ := Cert.BbwRefIdeal.τ) (Cert.BbwRefIdeal.main (F := Ideal))) ⟨m', fun _ => 0, g'⟩ (fun r => ∀ c : Dev Cert.BbwRefIdeal.nD,
          r.2.mem ((c.tc : Thread Cert.BbwRefIdeal.nD Cert.BbwRefIdeal.τ).loc Cert.BbwRefIdeal.main_v6) = v0 c
          ∧ r.2.mem ((c.tc : Thread Cert.BbwRefIdeal.nD Cert.BbwRefIdeal.τ).loc Cert.BbwRefIdeal.main_v13) = v1 c
          ∧ r.2.mem ((c.tc : Thread Cert.BbwRefIdeal.nD Cert.BbwRefIdeal.τ).loc Cert.BbwRefIdeal.main_arg0) = m' ((c.tc : Thread Cert.BbwRefIdeal.nD Cert.BbwRefIdeal.τ).loc Cert.BbwRefIdeal.main_arg0)
          ∧ r.2.mem ((c.tc : Thread Cert.BbwRefIdeal.nD Cert.BbwRefIdeal.τ).loc Cert.BbwRefIdeal.main_arg1) = m' ((c.tc : Thread Cert.BbwRefIdeal.nD Cert.BbwRefIdeal.τ).loc Cert.BbwRefIdeal.main_arg1)
          ∧ r.2.mem ((c.tc : Thread Cert.BbwRefIdeal.nD Cert.BbwRefIdeal.τ).loc Cert.BbwRefIdeal.main_arg2) = m' ((c.tc : Thread Cert.BbwRefIdeal.nD Cert.BbwRefIdeal.τ).loc Cert.BbwRefIdeal.main_arg2)
          ∧ r.2.mem ((c.tc : Thread Cert.BbwRefIdeal.nD Cert.BbwRefIdeal.τ).loc Cert.BbwRefIdeal.main_arg3) = m' ((c.tc : Thread Cert.BbwRefIdeal.nD Cert.BbwRefIdeal.τ).loc Cert.BbwRefIdeal.main_arg3))

def preserves_Dh1_Dh1Ideal : Prop :=
  IdealRules.named_const.Statement Cert.Dh1Ideal.κ "m_hat" .f32 0x3FC48605#32 ((8388608 / 5463681 : ℝ) : EReal)
  ∧ IdealRules.named_const.Statement Cert.Dh1Ideal.κ "v_hat" .f32 0x42C8E6D3#32 ((268435456 / 2672307 : ℝ) : EReal)

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)
      ∧ m' ((c.tc : Thread Cert.Dh1RefIdeal.nD Cert.Dh1RefIdeal.τ).loc Cert.Dh1RefIdeal.main_arg5) = m ((c.tc : Thread Cert.Dh1Ideal.nD Cert.Dh1Ideal.τ).loc Cert.Dh1Ideal.main_arg5)) →
    ∃ (v0 : (c : Dev Cert.Dh1Ideal.nD) → Buf (Elt Ideal) ((c.tc : Thread Cert.Dh1Ideal.nD Cert.Dh1Ideal.τ).loc Cert.Dh1Ideal.main_v2_0)) (v1 : (c : Dev Cert.Dh1Ideal.nD) → Buf (Elt Ideal) ((c.tc : Thread Cert.Dh1Ideal.nD Cert.Dh1Ideal.τ).loc Cert.Dh1Ideal.main_v2_1)) (v2 : (c : Dev Cert.Dh1Ideal.nD) → Buf (Elt Ideal) ((c.tc : Thread Cert.Dh1Ideal.nD Cert.Dh1Ideal.τ).loc Cert.Dh1Ideal.main_v2_2)) (v3 : (c : Dev Cert.Dh1Ideal.nD) → Buf (Elt Ideal) ((c.tc : Thread Cert.Dh1Ideal.nD Cert.Dh1Ideal.τ).loc Cert.Dh1Ideal.main_v2_3)) (v4 : (c : Dev Cert.Dh1Ideal.nD) → Buf (Elt Ideal) ((c.tc : Thread Cert.Dh1Ideal.nD Cert.Dh1Ideal.τ).loc Cert.Dh1Ideal.main_v2_4)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v2_0) = v0 c
          ∧ r.2.mem ((c.tc : Thread Cert.Dh1Ideal.nD Cert.Dh1Ideal.τ).loc Cert.Dh1Ideal.main_v2_1) = v1 c
          ∧ r.2.mem ((c.tc : Thread Cert.Dh1Ideal.nD Cert.Dh1Ideal.τ).loc Cert.Dh1Ideal.main_v2_2) = v2 c
          ∧ r.2.mem ((c.tc : Thread Cert.Dh1Ideal.nD Cert.Dh1Ideal.τ).loc Cert.Dh1Ideal.main_v2_3) = v3 c
          ∧ r.2.mem ((c.tc : Thread Cert.Dh1Ideal.nD Cert.Dh1Ideal.τ).loc Cert.Dh1Ideal.main_v2_4) = v4 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
          ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v6) = v0 c
          ∧ r.2.mem ((c.tc : Thread Cert.Dh1RefIdeal.nD Cert.Dh1RefIdeal.τ).loc Cert.Dh1RefIdeal.main_arg5) = v1 c
          ∧ r.2.mem ((c.tc : Thread Cert.Dh1RefIdeal.nD Cert.Dh1RefIdeal.τ).loc Cert.Dh1RefIdeal.main_v30) = v2 c
          ∧ r.2.mem ((c.tc : Thread Cert.Dh1RefIdeal.nD Cert.Dh1RefIdeal.τ).loc Cert.Dh1RefIdeal.main_v11) = v3 c
          ∧ r.2.mem ((c.tc : Thread Cert.Dh1RefIdeal.nD Cert.Dh1RefIdeal.τ).loc Cert.Dh1RefIdeal.main_v17) = v4 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4)
          ∧ r.2.mem ((c.tc : Thread Cert.Dh1RefIdeal.nD Cert.Dh1RefIdeal.τ).loc Cert.Dh1RefIdeal.main_arg5) = m' ((c.tc : Thread Cert.Dh1RefIdeal.nD Cert.Dh1RefIdeal.τ).loc Cert.Dh1RefIdeal.main_arg5))

def preserves_Ufo_UfoIdeal : Prop :=
  IdealRules.named_const.Statement Cert.UfoIdeal.κ "m_hat" .f32 0x3FC48605#32 ((8388608 / 5463681 : ℝ) : EReal)
  ∧ IdealRules.named_const.Statement Cert.UfoIdeal.κ "v_hat" .f32 0x42C8E6D3#32 ((268435456 / 2672307 : ℝ) : EReal)

def algebraic_UfoIdeal_UfoRefIdeal [hUfoIdeal : Cert.UfoIdeal.Facts] [hUfoRefIdeal : Cert.UfoRefIdeal.Facts] : Prop :=
  ∀ (m : (ℓ : Loc Cert.UfoIdeal.nD Cert.UfoIdeal.τ Cert.UfoIdeal.sig) → Buf (Elt Ideal) ℓ) (g : Dev Cert.UfoIdeal.nD → PrngReg)
    (m' : (ℓ : Loc Cert.UfoRefIdeal.nD Cert.UfoRefIdeal.τ Cert.UfoRefIdeal.sig) → Buf (Elt Ideal) ℓ) (g' : Dev Cert.UfoRefIdeal.nD → PrngReg), Pre_UfoIdeal m →
    (∀ c : Dev Cert.UfoIdeal.nD,
      m' ((c.tc : Thread Cert.UfoRefIdeal.nD Cert.UfoRefIdeal.τ).loc Cert.UfoRefIdeal.main_arg0) = m ((c.tc : Thread Cert.UfoIdeal.nD Cert.UfoIdeal.τ).loc Cert.UfoIdeal.main_arg0)
      ∧ m' ((c.tc : Thread Cert.UfoRefIdeal.nD Cert.UfoRefIdeal.τ).loc Cert.UfoRefIdeal.main_arg1) = m ((c.tc : Thread Cert.UfoIdeal.nD Cert.UfoIdeal.τ).loc Cert.UfoIdeal.main_arg1)
      ∧ m' ((c.tc : Thread Cert.UfoRefIdeal.nD Cert.UfoRefIdeal.τ).loc Cert.UfoRefIdeal.main_arg2) = m ((c.tc : Thread Cert.UfoIdeal.nD Cert.UfoIdeal.τ).loc Cert.UfoIdeal.main_arg2)
      ∧ m' ((c.tc : Thread Cert.UfoRefIdeal.nD Cert.UfoRefIdeal.τ).loc Cert.UfoRefIdeal.main_arg3) = m ((c.tc : Thread Cert.UfoIdeal.nD Cert.UfoIdeal.τ).loc Cert.UfoIdeal.main_arg3)) →
    ∃ (v0 : (c : Dev Cert.UfoIdeal.nD) → Buf (Elt Ideal) ((c.tc : Thread Cert.UfoIdeal.nD Cert.UfoIdeal.τ).loc Cert.UfoIdeal.main_v1_0)) (v1 : (c : Dev Cert.UfoIdeal.nD) → Buf (Elt Ideal) ((c.tc : Thread Cert.UfoIdeal.nD Cert.UfoIdeal.τ).loc Cert.UfoIdeal.main_v1_1)) (v2 : (c : Dev Cert.UfoIdeal.nD) → Buf (Elt Ideal) ((c.tc : Thread Cert.UfoIdeal.nD Cert.UfoIdeal.τ).loc Cert.UfoIdeal.main_v1_2)) (v3 : (c : Dev Cert.UfoIdeal.nD) → Buf (Elt Ideal) ((c.tc : Thread Cert.UfoIdeal.nD Cert.UfoIdeal.τ).loc Cert.UfoIdeal.main_v1_3)),
      θ_run (Cert.UfoIdeal.defs (F := Ideal)) (onTc (τ := Cert.UfoIdeal.τ) (Cert.UfoIdeal.main (F := Ideal))) ⟨m, fun _ => 0, g⟩ (fun r => ∀ c : Dev Cert.UfoIdeal.nD,
          r.2.mem ((c.tc : Thread Cert.UfoIdeal.nD Cert.UfoIdeal.τ).loc Cert.UfoIdeal.main_v1_0) = v0 c
          ∧ r.2.mem ((c.tc : Thread Cert.UfoIdeal.nD Cert.UfoIdeal.τ).loc Cert.UfoIdeal.main_v1_1) = v1 c
          ∧ r.2.mem ((c.tc : Thread Cert.UfoIdeal.nD Cert.UfoIdeal.τ).loc Cert.UfoIdeal.main_v1_2) = v2 c
          ∧ r.2.mem ((c.tc : Thread Cert.UfoIdeal.nD Cert.UfoIdeal.τ).loc Cert.UfoIdeal.main_v1_3) = v3 c
          ∧ r.2.mem ((c.tc : Thread Cert.UfoIdeal.nD Cert.UfoIdeal.τ).loc Cert.UfoIdeal.main_arg0) = m ((c.tc : Thread Cert.UfoIdeal.nD Cert.UfoIdeal.τ).loc Cert.UfoIdeal.main_arg0)
          ∧ r.2.mem ((c.tc : Thread Cert.UfoIdeal.nD Cert.UfoIdeal.τ).loc Cert.UfoIdeal.main_arg1) = m ((c.tc : Thread Cert.UfoIdeal.nD Cert.UfoIdeal.τ).loc Cert.UfoIdeal.main_arg1)
          ∧ r.2.mem ((c.tc : Thread Cert.UfoIdeal.nD Cert.UfoIdeal.τ).loc Cert.UfoIdeal.main_arg2) = m ((c.tc : Thread Cert.UfoIdeal.nD Cert.UfoIdeal.τ).loc Cert.UfoIdeal.main_arg2)
          ∧ r.2.mem ((c.tc : Thread Cert.UfoIdeal.nD Cert.UfoIdeal.τ).loc Cert.UfoIdeal.main_arg3) = m ((c.tc : Thread Cert.UfoIdeal.nD Cert.UfoIdeal.τ).loc Cert.UfoIdeal.main_arg3))
      ∧ θ_run (Cert.UfoRefIdeal.defs (F := Ideal)) (onTc (τ := Cert.UfoRefIdeal.τ) (Cert.UfoRefIdeal.main (F := Ideal))) ⟨m', fun _ => 0, g'⟩ (fun r => ∀ c : Dev Cert.UfoRefIdeal.nD,
          r.2.mem ((c.tc : Thread Cert.UfoRefIdeal.nD Cert.UfoRefIdeal.τ).loc Cert.UfoRefIdeal.main_arg3) = v0 c
          ∧ r.2.mem ((c.tc : Thread Cert.UfoRefIdeal.nD Cert.UfoRefIdeal.τ).loc Cert.UfoRefIdeal.main_v23) = v1 c
          ∧ r.2.mem ((c.tc : Thread Cert.UfoRefIdeal.nD Cert.UfoRefIdeal.τ).loc Cert.UfoRefIdeal.main_v4) = v2 c
          ∧ r.2.mem ((c.tc : Thread Cert.UfoRefIdeal.nD Cert.UfoRefIdeal.τ).loc Cert.UfoRefIdeal.main_v10) = v3 c
          ∧ r.2.mem ((c.tc : Thread Cert.UfoRefIdeal.nD Cert.UfoRefIdeal.τ).loc Cert.UfoRefIdeal.main_arg0) = m' ((c.tc : Thread Cert.UfoRefIdeal.nD Cert.UfoRefIdeal.τ).loc Cert.UfoRefIdeal.main_arg0)
          ∧ r.2.mem ((c.tc : Thread Cert.UfoRefIdeal.nD Cert.UfoRefIdeal.τ).loc Cert.UfoRefIdeal.main_arg1) = m' ((c.tc : Thread Cert.UfoRefIdeal.nD Cert.UfoRefIdeal.τ).loc Cert.UfoRefIdeal.main_arg1)
          ∧ r.2.mem ((c.tc : Thread Cert.UfoRefIdeal.nD Cert.UfoRefIdeal.τ).loc Cert.UfoRefIdeal.main_arg2) = m' ((c.tc : Thread Cert.UfoRefIdeal.nD Cert.UfoRefIdeal.τ).loc Cert.UfoRefIdeal.main_arg2)
          ∧ r.2.mem ((c.tc : Thread Cert.UfoRefIdeal.nD Cert.UfoRefIdeal.τ).loc Cert.UfoRefIdeal.main_arg3) = m' ((c.tc : Thread Cert.UfoRefIdeal.nD Cert.UfoRefIdeal.τ).loc Cert.UfoRefIdeal.main_arg3))

def preserves_Uout_UoutIdeal : Prop :=
  IdealRules.named_const.Statement Cert.UoutIdeal.κ "m_hat" .f32 0x3FC48605#32 ((8388608 / 5463681 : ℝ) : EReal)
  ∧ IdealRules.named_const.Statement Cert.UoutIdeal.κ "v_hat" .f32 0x42C8E6D3#32 ((268435456 / 2672307 : ℝ) : EReal)

def algebraic_UoutIdeal_UoutRefIdeal [hUoutIdeal : Cert.UoutIdeal.Facts] [hUoutRefIdeal : Cert.UoutRefIdeal.Facts] : Prop :=
  ∀ (m : (ℓ : Loc Cert.UoutIdeal.nD Cert.UoutIdeal.τ Cert.UoutIdeal.sig) → Buf (Elt Ideal) ℓ) (g : Dev Cert.UoutIdeal.nD → PrngReg)
    (m' : (ℓ : Loc Cert.UoutRefIdeal.nD Cert.UoutRefIdeal.τ Cert.UoutRefIdeal.sig) → Buf (Elt Ideal) ℓ) (g' : Dev Cert.UoutRefIdeal.nD → PrngReg), Pre_UoutIdeal m →
    (∀ c : Dev Cert.UoutIdeal.nD,
      m' ((c.tc : Thread Cert.UoutRefIdeal.nD Cert.UoutRefIdeal.τ).loc Cert.UoutRefIdeal.main_arg0) = m ((c.tc : Thread Cert.UoutIdeal.nD Cert.UoutIdeal.τ).loc Cert.UoutIdeal.main_arg0)
      ∧ m' ((c.tc : Thread Cert.UoutRefIdeal.nD Cert.UoutRefIdeal.τ).loc Cert.UoutRefIdeal.main_arg1) = m ((c.tc : Thread Cert.UoutIdeal.nD Cert.UoutIdeal.τ).loc Cert.UoutIdeal.main_arg1)
      ∧ m' ((c.tc : Thread Cert.UoutRefIdeal.nD Cert.UoutRefIdeal.τ).loc Cert.UoutRefIdeal.main_arg2) = m ((c.tc : Thread Cert.UoutIdeal.nD Cert.UoutIdeal.τ).loc Cert.UoutIdeal.main_arg2)
      ∧ m' ((c.tc : Thread Cert.UoutRefIdeal.nD Cert.UoutRefIdeal.τ).loc Cert.UoutRefIdeal.main_arg3) = m ((c.tc : Thread Cert.UoutIdeal.nD Cert.UoutIdeal.τ).loc Cert.UoutIdeal.main_arg3)) →
    ∃ (v0 : (c : Dev Cert.UoutIdeal.nD) → Buf (Elt Ideal) ((c.tc : Thread Cert.UoutIdeal.nD Cert.UoutIdeal.τ).loc Cert.UoutIdeal.main_v1_0)) (v1 : (c : Dev Cert.UoutIdeal.nD) → Buf (Elt Ideal) ((c.tc : Thread Cert.UoutIdeal.nD Cert.UoutIdeal.τ).loc Cert.UoutIdeal.main_v1_1)) (v2 : (c : Dev Cert.UoutIdeal.nD) → Buf (Elt Ideal) ((c.tc : Thread Cert.UoutIdeal.nD Cert.UoutIdeal.τ).loc Cert.UoutIdeal.main_v1_2)) (v3 : (c : Dev Cert.UoutIdeal.nD) → Buf (Elt Ideal) ((c.tc : Thread Cert.UoutIdeal.nD Cert.UoutIdeal.τ).loc Cert.UoutIdeal.main_v1_3)),
      θ_run (Cert.UoutIdeal.defs (F := Ideal)) (onTc (τ := Cert.UoutIdeal.τ) (Cert.UoutIdeal.main (F := Ideal))) ⟨m, fun _ => 0, g⟩ (fun r => ∀ c : Dev Cert.UoutIdeal.nD,
          r.2.mem ((c.tc : Thread Cert.UoutIdeal.nD Cert.UoutIdeal.τ).loc Cert.UoutIdeal.main_v1_0) = v0 c
          ∧ r.2.mem ((c.tc : Thread Cert.UoutIdeal.nD Cert.UoutIdeal.τ).loc Cert.UoutIdeal.main_v1_1) = v1 c
          ∧ r.2.mem ((c.tc : Thread Cert.UoutIdeal.nD Cert.UoutIdeal.τ).loc Cert.UoutIdeal.main_v1_2) = v2 c
          ∧ r.2.mem ((c.tc : Thread Cert.UoutIdeal.nD Cert.UoutIdeal.τ).loc Cert.UoutIdeal.main_v1_3) = v3 c
          ∧ r.2.mem ((c.tc : Thread Cert.UoutIdeal.nD Cert.UoutIdeal.τ).loc Cert.UoutIdeal.main_arg0) = m ((c.tc : Thread Cert.UoutIdeal.nD Cert.UoutIdeal.τ).loc Cert.UoutIdeal.main_arg0)
          ∧ r.2.mem ((c.tc : Thread Cert.UoutIdeal.nD Cert.UoutIdeal.τ).loc Cert.UoutIdeal.main_arg1) = m ((c.tc : Thread Cert.UoutIdeal.nD Cert.UoutIdeal.τ).loc Cert.UoutIdeal.main_arg1)
          ∧ r.2.mem ((c.tc : Thread Cert.UoutIdeal.nD Cert.UoutIdeal.τ).loc Cert.UoutIdeal.main_arg2) = m ((c.tc : Thread Cert.UoutIdeal.nD Cert.UoutIdeal.τ).loc Cert.UoutIdeal.main_arg2)
          ∧ r.2.mem ((c.tc : Thread Cert.UoutIdeal.nD Cert.UoutIdeal.τ).loc Cert.UoutIdeal.main_arg3) = m ((c.tc : Thread Cert.UoutIdeal.nD Cert.UoutIdeal.τ).loc Cert.UoutIdeal.main_arg3))
      ∧ θ_run (Cert.UoutRefIdeal.defs (F := Ideal)) (onTc (τ := Cert.UoutRefIdeal.τ) (Cert.UoutRefIdeal.main (F := Ideal))) ⟨m', fun _ => 0, g'⟩ (fun r => ∀ c : Dev Cert.UoutRefIdeal.nD,
          r.2.mem ((c.tc : Thread Cert.UoutRefIdeal.nD Cert.UoutRefIdeal.τ).loc Cert.UoutRefIdeal.main_arg3) = v0 c
          ∧ r.2.mem ((c.tc : Thread Cert.UoutRefIdeal.nD Cert.UoutRefIdeal.τ).loc Cert.UoutRefIdeal.main_v23) = v1 c
          ∧ r.2.mem ((c.tc : Thread Cert.UoutRefIdeal.nD Cert.UoutRefIdeal.τ).loc Cert.UoutRefIdeal.main_v4) = v2 c
          ∧ r.2.mem ((c.tc : Thread Cert.UoutRefIdeal.nD Cert.UoutRefIdeal.τ).loc Cert.UoutRefIdeal.main_v10) = v3 c
          ∧ r.2.mem ((c.tc : Thread Cert.UoutRefIdeal.nD Cert.UoutRefIdeal.τ).loc Cert.UoutRefIdeal.main_arg0) = m' ((c.tc : Thread Cert.UoutRefIdeal.nD Cert.UoutRefIdeal.τ).loc Cert.UoutRefIdeal.main_arg0)
          ∧ r.2.mem ((c.tc : Thread Cert.UoutRefIdeal.nD Cert.UoutRefIdeal.τ).loc Cert.UoutRefIdeal.main_arg1) = m' ((c.tc : Thread Cert.UoutRefIdeal.nD Cert.UoutRefIdeal.τ).loc Cert.UoutRefIdeal.main_arg1)
          ∧ r.2.mem ((c.tc : Thread Cert.UoutRefIdeal.nD Cert.UoutRefIdeal.τ).loc Cert.UoutRefIdeal.main_arg2) = m' ((c.tc : Thread Cert.UoutRefIdeal.nD Cert.UoutRefIdeal.τ).loc Cert.UoutRefIdeal.main_arg2)
          ∧ r.2.mem ((c.tc : Thread Cert.UoutRefIdeal.nD Cert.UoutRefIdeal.τ).loc Cert.UoutRefIdeal.main_arg3) = m' ((c.tc : Thread Cert.UoutRefIdeal.nD Cert.UoutRefIdeal.τ).loc Cert.UoutRefIdeal.main_arg3))

def preserves_Ubg_UbgIdeal : Prop :=
  IdealRules.named_const.Statement Cert.UbgIdeal.κ "m_hat" .f32 0x3FC48605#32 ((8388608 / 5463681 : ℝ) : EReal)
  ∧ IdealRules.named_const.Statement Cert.UbgIdeal.κ "v_hat" .f32 0x42C8E6D3#32 ((268435456 / 2672307 : ℝ) : EReal)

def algebraic_UbgIdeal_UbgRefIdeal [hUbgIdeal : Cert.UbgIdeal.Facts] [hUbgRefIdeal : Cert.UbgRefIdeal.Facts] : Prop :=
  ∀ (m : (ℓ : Loc Cert.UbgIdeal.nD Cert.UbgIdeal.τ Cert.UbgIdeal.sig) → Buf (Elt Ideal) ℓ) (g : Dev Cert.UbgIdeal.nD → PrngReg)
    (m' : (ℓ : Loc Cert.UbgRefIdeal.nD Cert.UbgRefIdeal.τ Cert.UbgRefIdeal.sig) → Buf (Elt Ideal) ℓ) (g' : Dev Cert.UbgRefIdeal.nD → PrngReg), Pre_UbgIdeal m →
    (∀ c : Dev Cert.UbgIdeal.nD,
      m' ((c.tc : Thread Cert.UbgRefIdeal.nD Cert.UbgRefIdeal.τ).loc Cert.UbgRefIdeal.main_arg0) = m ((c.tc : Thread Cert.UbgIdeal.nD Cert.UbgIdeal.τ).loc Cert.UbgIdeal.main_arg0)
      ∧ m' ((c.tc : Thread Cert.UbgRefIdeal.nD Cert.UbgRefIdeal.τ).loc Cert.UbgRefIdeal.main_arg1) = m ((c.tc : Thread Cert.UbgIdeal.nD Cert.UbgIdeal.τ).loc Cert.UbgIdeal.main_arg1)
      ∧ m' ((c.tc : Thread Cert.UbgRefIdeal.nD Cert.UbgRefIdeal.τ).loc Cert.UbgRefIdeal.main_arg2) = m ((c.tc : Thread Cert.UbgIdeal.nD Cert.UbgIdeal.τ).loc Cert.UbgIdeal.main_arg2)
      ∧ m' ((c.tc : Thread Cert.UbgRefIdeal.nD Cert.UbgRefIdeal.τ).loc Cert.UbgRefIdeal.main_arg3) = m ((c.tc : Thread Cert.UbgIdeal.nD Cert.UbgIdeal.τ).loc Cert.UbgIdeal.main_arg3)) →
    ∃ (v0 : (c : Dev Cert.UbgIdeal.nD) → Buf (Elt Ideal) ((c.tc : Thread Cert.UbgIdeal.nD Cert.UbgIdeal.τ).loc Cert.UbgIdeal.main_v1_0)) (v1 : (c : Dev Cert.UbgIdeal.nD) → Buf (Elt Ideal) ((c.tc : Thread Cert.UbgIdeal.nD Cert.UbgIdeal.τ).loc Cert.UbgIdeal.main_v1_1)) (v2 : (c : Dev Cert.UbgIdeal.nD) → Buf (Elt Ideal) ((c.tc : Thread Cert.UbgIdeal.nD Cert.UbgIdeal.τ).loc Cert.UbgIdeal.main_v1_2)) (v3 : (c : Dev Cert.UbgIdeal.nD) → Buf (Elt Ideal) ((c.tc : Thread Cert.UbgIdeal.nD Cert.UbgIdeal.τ).loc Cert.UbgIdeal.main_v1_3)),
      θ_run (Cert.UbgIdeal.defs (F := Ideal)) (onTc (τ := Cert.UbgIdeal.τ) (Cert.UbgIdeal.main (F := Ideal))) ⟨m, fun _ => 0, g⟩ (fun r => ∀ c : Dev Cert.UbgIdeal.nD,
          r.2.mem ((c.tc : Thread Cert.UbgIdeal.nD Cert.UbgIdeal.τ).loc Cert.UbgIdeal.main_v1_0) = v0 c
          ∧ r.2.mem ((c.tc : Thread Cert.UbgIdeal.nD Cert.UbgIdeal.τ).loc Cert.UbgIdeal.main_v1_1) = v1 c
          ∧ r.2.mem ((c.tc : Thread Cert.UbgIdeal.nD Cert.UbgIdeal.τ).loc Cert.UbgIdeal.main_v1_2) = v2 c
          ∧ r.2.mem ((c.tc : Thread Cert.UbgIdeal.nD Cert.UbgIdeal.τ).loc Cert.UbgIdeal.main_v1_3) = v3 c
          ∧ r.2.mem ((c.tc : Thread Cert.UbgIdeal.nD Cert.UbgIdeal.τ).loc Cert.UbgIdeal.main_arg0) = m ((c.tc : Thread Cert.UbgIdeal.nD Cert.UbgIdeal.τ).loc Cert.UbgIdeal.main_arg0)
          ∧ r.2.mem ((c.tc : Thread Cert.UbgIdeal.nD Cert.UbgIdeal.τ).loc Cert.UbgIdeal.main_arg1) = m ((c.tc : Thread Cert.UbgIdeal.nD Cert.UbgIdeal.τ).loc Cert.UbgIdeal.main_arg1)
          ∧ r.2.mem ((c.tc : Thread Cert.UbgIdeal.nD Cert.UbgIdeal.τ).loc Cert.UbgIdeal.main_arg2) = m ((c.tc : Thread Cert.UbgIdeal.nD Cert.UbgIdeal.τ).loc Cert.UbgIdeal.main_arg2)
          ∧ r.2.mem ((c.tc : Thread Cert.UbgIdeal.nD Cert.UbgIdeal.τ).loc Cert.UbgIdeal.main_arg3) = m ((c.tc : Thread Cert.UbgIdeal.nD Cert.UbgIdeal.τ).loc Cert.UbgIdeal.main_arg3))
      ∧ θ_run (Cert.UbgRefIdeal.defs (F := Ideal)) (onTc (τ := Cert.UbgRefIdeal.τ) (Cert.UbgRefIdeal.main (F := Ideal))) ⟨m', fun _ => 0, g'⟩ (fun r => ∀ c : Dev Cert.UbgRefIdeal.nD,
          r.2.mem ((c.tc : Thread Cert.UbgRefIdeal.nD Cert.UbgRefIdeal.τ).loc Cert.UbgRefIdeal.main_arg3) = v0 c
          ∧ r.2.mem ((c.tc : Thread Cert.UbgRefIdeal.nD Cert.UbgRefIdeal.τ).loc Cert.UbgRefIdeal.main_v23) = v1 c
          ∧ r.2.mem ((c.tc : Thread Cert.UbgRefIdeal.nD Cert.UbgRefIdeal.τ).loc Cert.UbgRefIdeal.main_v4) = v2 c
          ∧ r.2.mem ((c.tc : Thread Cert.UbgRefIdeal.nD Cert.UbgRefIdeal.τ).loc Cert.UbgRefIdeal.main_v10) = v3 c
          ∧ r.2.mem ((c.tc : Thread Cert.UbgRefIdeal.nD Cert.UbgRefIdeal.τ).loc Cert.UbgRefIdeal.main_arg0) = m' ((c.tc : Thread Cert.UbgRefIdeal.nD Cert.UbgRefIdeal.τ).loc Cert.UbgRefIdeal.main_arg0)
          ∧ r.2.mem ((c.tc : Thread Cert.UbgRefIdeal.nD Cert.UbgRefIdeal.τ).loc Cert.UbgRefIdeal.main_arg1) = m' ((c.tc : Thread Cert.UbgRefIdeal.nD Cert.UbgRefIdeal.τ).loc Cert.UbgRefIdeal.main_arg1)
          ∧ r.2.mem ((c.tc : Thread Cert.UbgRefIdeal.nD Cert.UbgRefIdeal.τ).loc Cert.UbgRefIdeal.main_arg2) = m' ((c.tc : Thread Cert.UbgRefIdeal.nD Cert.UbgRefIdeal.τ).loc Cert.UbgRefIdeal.main_arg2)
          ∧ r.2.mem ((c.tc : Thread Cert.UbgRefIdeal.nD Cert.UbgRefIdeal.τ).loc Cert.UbgRefIdeal.main_arg3) = m' ((c.tc : Thread Cert.UbgRefIdeal.nD Cert.UbgRefIdeal.τ).loc Cert.UbgRefIdeal.main_arg3))

def preserves_Ubh_UbhIdeal : Prop :=
  IdealRules.named_const.Statement Cert.UbhIdeal.κ "m_hat" .f32 0x3FC48605#32 ((8388608 / 5463681 : ℝ) : EReal)
  ∧ IdealRules.named_const.Statement Cert.UbhIdeal.κ "v_hat" .f32 0x42C8E6D3#32 ((268435456 / 2672307 : ℝ) : EReal)

def algebraic_UbhIdeal_UbhRefIdeal [hUbhIdeal : Cert.UbhIdeal.Facts] [hUbhRefIdeal : Cert.UbhRefIdeal.Facts] : Prop :=
  ∀ (m : (ℓ : Loc Cert.UbhIdeal.nD Cert.UbhIdeal.τ Cert.UbhIdeal.sig) → Buf (Elt Ideal) ℓ) (g : Dev Cert.UbhIdeal.nD → PrngReg)
    (m' : (ℓ : Loc Cert.UbhRefIdeal.nD Cert.UbhRefIdeal.τ Cert.UbhRefIdeal.sig) → Buf (Elt Ideal) ℓ) (g' : Dev Cert.UbhRefIdeal.nD → PrngReg), Pre_UbhIdeal m →
    (∀ c : Dev Cert.UbhIdeal.nD,
      m' ((c.tc : Thread Cert.UbhRefIdeal.nD Cert.UbhRefIdeal.τ).loc Cert.UbhRefIdeal.main_arg0) = m ((c.tc : Thread Cert.UbhIdeal.nD Cert.UbhIdeal.τ).loc Cert.UbhIdeal.main_arg0)
      ∧ m' ((c.tc : Thread Cert.UbhRefIdeal.nD Cert.UbhRefIdeal.τ).loc Cert.UbhRefIdeal.main_arg1) = m ((c.tc : Thread Cert.UbhIdeal.nD Cert.UbhIdeal.τ).loc Cert.UbhIdeal.main_arg1)
      ∧ m' ((c.tc : Thread Cert.UbhRefIdeal.nD Cert.UbhRefIdeal.τ).loc Cert.UbhRefIdeal.main_arg2) = m ((c.tc : Thread Cert.UbhIdeal.nD Cert.UbhIdeal.τ).loc Cert.UbhIdeal.main_arg2)
      ∧ m' ((c.tc : Thread Cert.UbhRefIdeal.nD Cert.UbhRefIdeal.τ).loc Cert.UbhRefIdeal.main_arg3) = m ((c.tc : Thread Cert.UbhIdeal.nD Cert.UbhIdeal.τ).loc Cert.UbhIdeal.main_arg3)) →
    ∃ (v0 : (c : Dev Cert.UbhIdeal.nD) → Buf (Elt Ideal) ((c.tc : Thread Cert.UbhIdeal.nD Cert.UbhIdeal.τ).loc Cert.UbhIdeal.main_v1_0)) (v1 : (c : Dev Cert.UbhIdeal.nD) → Buf (Elt Ideal) ((c.tc : Thread Cert.UbhIdeal.nD Cert.UbhIdeal.τ).loc Cert.UbhIdeal.main_v1_1)) (v2 : (c : Dev Cert.UbhIdeal.nD) → Buf (Elt Ideal) ((c.tc : Thread Cert.UbhIdeal.nD Cert.UbhIdeal.τ).loc Cert.UbhIdeal.main_v1_2)) (v3 : (c : Dev Cert.UbhIdeal.nD) → Buf (Elt Ideal) ((c.tc : Thread Cert.UbhIdeal.nD Cert.UbhIdeal.τ).loc Cert.UbhIdeal.main_v1_3)),
      θ_run (Cert.UbhIdeal.defs (F := Ideal)) (onTc (τ := Cert.UbhIdeal.τ) (Cert.UbhIdeal.main (F := Ideal))) ⟨m, fun _ => 0, g⟩ (fun r => ∀ c : Dev Cert.UbhIdeal.nD,
          r.2.mem ((c.tc : Thread Cert.UbhIdeal.nD Cert.UbhIdeal.τ).loc Cert.UbhIdeal.main_v1_0) = v0 c
          ∧ r.2.mem ((c.tc : Thread Cert.UbhIdeal.nD Cert.UbhIdeal.τ).loc Cert.UbhIdeal.main_v1_1) = v1 c
          ∧ r.2.mem ((c.tc : Thread Cert.UbhIdeal.nD Cert.UbhIdeal.τ).loc Cert.UbhIdeal.main_v1_2) = v2 c
          ∧ r.2.mem ((c.tc : Thread Cert.UbhIdeal.nD Cert.UbhIdeal.τ).loc Cert.UbhIdeal.main_v1_3) = v3 c
          ∧ r.2.mem ((c.tc : Thread Cert.UbhIdeal.nD Cert.UbhIdeal.τ).loc Cert.UbhIdeal.main_arg0) = m ((c.tc : Thread Cert.UbhIdeal.nD Cert.UbhIdeal.τ).loc Cert.UbhIdeal.main_arg0)
          ∧ r.2.mem ((c.tc : Thread Cert.UbhIdeal.nD Cert.UbhIdeal.τ).loc Cert.UbhIdeal.main_arg1) = m ((c.tc : Thread Cert.UbhIdeal.nD Cert.UbhIdeal.τ).loc Cert.UbhIdeal.main_arg1)
          ∧ r.2.mem ((c.tc : Thread Cert.UbhIdeal.nD Cert.UbhIdeal.τ).loc Cert.UbhIdeal.main_arg2) = m ((c.tc : Thread Cert.UbhIdeal.nD Cert.UbhIdeal.τ).loc Cert.UbhIdeal.main_arg2)
          ∧ r.2.mem ((c.tc : Thread Cert.UbhIdeal.nD Cert.UbhIdeal.τ).loc Cert.UbhIdeal.main_arg3) = m ((c.tc : Thread Cert.UbhIdeal.nD Cert.UbhIdeal.τ).loc Cert.UbhIdeal.main_arg3))
      ∧ θ_run (Cert.UbhRefIdeal.defs (F := Ideal)) (onTc (τ := Cert.UbhRefIdeal.τ) (Cert.UbhRefIdeal.main (F := Ideal))) ⟨m', fun _ => 0, g'⟩ (fun r => ∀ c : Dev Cert.UbhRefIdeal.nD,
          r.2.mem ((c.tc : Thread Cert.UbhRefIdeal.nD Cert.UbhRefIdeal.τ).loc Cert.UbhRefIdeal.main_arg3) = v0 c
          ∧ r.2.mem ((c.tc : Thread Cert.UbhRefIdeal.nD Cert.UbhRefIdeal.τ).loc Cert.UbhRefIdeal.main_v23) = v1 c
          ∧ r.2.mem ((c.tc : Thread Cert.UbhRefIdeal.nD Cert.UbhRefIdeal.τ).loc Cert.UbhRefIdeal.main_v4) = v2 c
          ∧ r.2.mem ((c.tc : Thread Cert.UbhRefIdeal.nD Cert.UbhRefIdeal.τ).loc Cert.UbhRefIdeal.main_v10) = v3 c
          ∧ r.2.mem ((c.tc : Thread Cert.UbhRefIdeal.nD Cert.UbhRefIdeal.τ).loc Cert.UbhRefIdeal.main_arg0) = m' ((c.tc : Thread Cert.UbhRefIdeal.nD Cert.UbhRefIdeal.τ).loc Cert.UbhRefIdeal.main_arg0)
          ∧ r.2.mem ((c.tc : Thread Cert.UbhRefIdeal.nD Cert.UbhRefIdeal.τ).loc Cert.UbhRefIdeal.main_arg1) = m' ((c.tc : Thread Cert.UbhRefIdeal.nD Cert.UbhRefIdeal.τ).loc Cert.UbhRefIdeal.main_arg1)
          ∧ r.2.mem ((c.tc : Thread Cert.UbhRefIdeal.nD Cert.UbhRefIdeal.τ).loc Cert.UbhRefIdeal.main_arg2) = m' ((c.tc : Thread Cert.UbhRefIdeal.nD Cert.UbhRefIdeal.τ).loc Cert.UbhRefIdeal.main_arg2)
          ∧ r.2.mem ((c.tc : Thread Cert.UbhRefIdeal.nD Cert.UbhRefIdeal.τ).loc Cert.UbhRefIdeal.main_arg3) = m' ((c.tc : Thread Cert.UbhRefIdeal.nD Cert.UbhRefIdeal.τ).loc Cert.UbhRefIdeal.main_arg3))

def preserves_Uin_UinIdeal : Prop :=
  IdealRules.named_const.Statement Cert.UinIdeal.κ "m_hat" .f32 0x3FC48605#32 ((8388608 / 5463681 : ℝ) : EReal)
  ∧ IdealRules.named_const.Statement Cert.UinIdeal.κ "v_hat" .f32 0x42C8E6D3#32 ((268435456 / 2672307 : ℝ) : EReal)

def algebraic_UinIdeal_UinRefIdeal [hUinIdeal : Cert.UinIdeal.Facts] [hUinRefIdeal : Cert.UinRefIdeal.Facts] : Prop :=
  ∀ (m : (ℓ : Loc Cert.UinIdeal.nD Cert.UinIdeal.τ Cert.UinIdeal.sig) → Buf (Elt Ideal) ℓ) (g : Dev Cert.UinIdeal.nD → PrngReg)
    (m' : (ℓ : Loc Cert.UinRefIdeal.nD Cert.UinRefIdeal.τ Cert.UinRefIdeal.sig) → Buf (Elt Ideal) ℓ) (g' : Dev Cert.UinRefIdeal.nD → PrngReg), Pre_UinIdeal m →
    (∀ c : Dev Cert.UinIdeal.nD,
      m' ((c.tc : Thread Cert.UinRefIdeal.nD Cert.UinRefIdeal.τ).loc Cert.UinRefIdeal.main_arg0) = m ((c.tc : Thread Cert.UinIdeal.nD Cert.UinIdeal.τ).loc Cert.UinIdeal.main_arg0)
      ∧ m' ((c.tc : Thread Cert.UinRefIdeal.nD Cert.UinRefIdeal.τ).loc Cert.UinRefIdeal.main_arg1) = m ((c.tc : Thread Cert.UinIdeal.nD Cert.UinIdeal.τ).loc Cert.UinIdeal.main_arg1)
      ∧ m' ((c.tc : Thread Cert.UinRefIdeal.nD Cert.UinRefIdeal.τ).loc Cert.UinRefIdeal.main_arg2) = m ((c.tc : Thread Cert.UinIdeal.nD Cert.UinIdeal.τ).loc Cert.UinIdeal.main_arg2)
      ∧ m' ((c.tc : Thread Cert.UinRefIdeal.nD Cert.UinRefIdeal.τ).loc Cert.UinRefIdeal.main_arg3) = m ((c.tc : Thread Cert.UinIdeal.nD Cert.UinIdeal.τ).loc Cert.UinIdeal.main_arg3)) →
    ∃ (v0 : (c : Dev Cert.UinIdeal.nD) → Buf (Elt Ideal) ((c.tc : Thread Cert.UinIdeal.nD Cert.UinIdeal.τ).loc Cert.UinIdeal.main_v1_0)) (v1 : (c : Dev Cert.UinIdeal.nD) → Buf (Elt Ideal) ((c.tc : Thread Cert.UinIdeal.nD Cert.UinIdeal.τ).loc Cert.UinIdeal.main_v1_1)) (v2 : (c : Dev Cert.UinIdeal.nD) → Buf (Elt Ideal) ((c.tc : Thread Cert.UinIdeal.nD Cert.UinIdeal.τ).loc Cert.UinIdeal.main_v1_2)) (v3 : (c : Dev Cert.UinIdeal.nD) → Buf (Elt Ideal) ((c.tc : Thread Cert.UinIdeal.nD Cert.UinIdeal.τ).loc Cert.UinIdeal.main_v1_3)),
      θ_run (Cert.UinIdeal.defs (F := Ideal)) (onTc (τ := Cert.UinIdeal.τ) (Cert.UinIdeal.main (F := Ideal))) ⟨m, fun _ => 0, g⟩ (fun r => ∀ c : Dev Cert.UinIdeal.nD,
          r.2.mem ((c.tc : Thread Cert.UinIdeal.nD Cert.UinIdeal.τ).loc Cert.UinIdeal.main_v1_0) = v0 c
          ∧ r.2.mem ((c.tc : Thread Cert.UinIdeal.nD Cert.UinIdeal.τ).loc Cert.UinIdeal.main_v1_1) = v1 c
          ∧ r.2.mem ((c.tc : Thread Cert.UinIdeal.nD Cert.UinIdeal.τ).loc Cert.UinIdeal.main_v1_2) = v2 c
          ∧ r.2.mem ((c.tc : Thread Cert.UinIdeal.nD Cert.UinIdeal.τ).loc Cert.UinIdeal.main_v1_3) = v3 c
          ∧ r.2.mem ((c.tc : Thread Cert.UinIdeal.nD Cert.UinIdeal.τ).loc Cert.UinIdeal.main_arg0) = m ((c.tc : Thread Cert.UinIdeal.nD Cert.UinIdeal.τ).loc Cert.UinIdeal.main_arg0)
          ∧ r.2.mem ((c.tc : Thread Cert.UinIdeal.nD Cert.UinIdeal.τ).loc Cert.UinIdeal.main_arg1) = m ((c.tc : Thread Cert.UinIdeal.nD Cert.UinIdeal.τ).loc Cert.UinIdeal.main_arg1)
          ∧ r.2.mem ((c.tc : Thread Cert.UinIdeal.nD Cert.UinIdeal.τ).loc Cert.UinIdeal.main_arg2) = m ((c.tc : Thread Cert.UinIdeal.nD Cert.UinIdeal.τ).loc Cert.UinIdeal.main_arg2)
          ∧ r.2.mem ((c.tc : Thread Cert.UinIdeal.nD Cert.UinIdeal.τ).loc Cert.UinIdeal.main_arg3) = m ((c.tc : Thread Cert.UinIdeal.nD Cert.UinIdeal.τ).loc Cert.UinIdeal.main_arg3))
      ∧ θ_run (Cert.UinRefIdeal.defs (F := Ideal)) (onTc (τ := Cert.UinRefIdeal.τ) (Cert.UinRefIdeal.main (F := Ideal))) ⟨m', fun _ => 0, g'⟩ (fun r => ∀ c : Dev Cert.UinRefIdeal.nD,
          r.2.mem ((c.tc : Thread Cert.UinRefIdeal.nD Cert.UinRefIdeal.τ).loc Cert.UinRefIdeal.main_arg3) = v0 c
          ∧ r.2.mem ((c.tc : Thread Cert.UinRefIdeal.nD Cert.UinRefIdeal.τ).loc Cert.UinRefIdeal.main_v23) = v1 c
          ∧ r.2.mem ((c.tc : Thread Cert.UinRefIdeal.nD Cert.UinRefIdeal.τ).loc Cert.UinRefIdeal.main_v4) = v2 c
          ∧ r.2.mem ((c.tc : Thread Cert.UinRefIdeal.nD Cert.UinRefIdeal.τ).loc Cert.UinRefIdeal.main_v10) = v3 c
          ∧ r.2.mem ((c.tc : Thread Cert.UinRefIdeal.nD Cert.UinRefIdeal.τ).loc Cert.UinRefIdeal.main_arg0) = m' ((c.tc : Thread Cert.UinRefIdeal.nD Cert.UinRefIdeal.τ).loc Cert.UinRefIdeal.main_arg0)
          ∧ r.2.mem ((c.tc : Thread Cert.UinRefIdeal.nD Cert.UinRefIdeal.τ).loc Cert.UinRefIdeal.main_arg1) = m' ((c.tc : Thread Cert.UinRefIdeal.nD Cert.UinRefIdeal.τ).loc Cert.UinRefIdeal.main_arg1)
          ∧ r.2.mem ((c.tc : Thread Cert.UinRefIdeal.nD Cert.UinRefIdeal.τ).loc Cert.UinRefIdeal.main_arg2) = m' ((c.tc : Thread Cert.UinRefIdeal.nD Cert.UinRefIdeal.τ).loc Cert.UinRefIdeal.main_arg2)
          ∧ r.2.mem ((c.tc : Thread Cert.UinRefIdeal.nD Cert.UinRefIdeal.τ).loc Cert.UinRefIdeal.main_arg3) = m' ((c.tc : Thread Cert.UinRefIdeal.nD Cert.UinRefIdeal.τ).loc Cert.UinRefIdeal.main_arg3))

def preserves_Usm_UsmIdeal : Prop :=
  IdealRules.named_const.Statement Cert.UsmIdeal.κ "m_hat" .f32 0x3FC48605#32 ((8388608 / 5463681 : ℝ) : EReal)
  ∧ IdealRules.named_const.Statement Cert.UsmIdeal.κ "v_hat" .f32 0x42C8E6D3#32 ((268435456 / 2672307 : ℝ) : EReal)

def algebraic_UsmIdeal_UsmRefIdeal [hUsmIdeal : Cert.UsmIdeal.Facts] [hUsmRefIdeal : Cert.UsmRefIdeal.Facts] : Prop :=
  ∀ (m : (ℓ : Loc Cert.UsmIdeal.nD Cert.UsmIdeal.τ Cert.UsmIdeal.sig) → Buf (Elt Ideal) ℓ) (g : Dev Cert.UsmIdeal.nD → PrngReg)
    (m' : (ℓ : Loc Cert.UsmRefIdeal.nD Cert.UsmRefIdeal.τ Cert.UsmRefIdeal.sig) → Buf (Elt Ideal) ℓ) (g' : Dev Cert.UsmRefIdeal.nD → PrngReg), Pre_UsmIdeal m →
    (∀ c : Dev Cert.UsmIdeal.nD,
      m' ((c.tc : Thread Cert.UsmRefIdeal.nD Cert.UsmRefIdeal.τ).loc Cert.UsmRefIdeal.main_arg0) = m ((c.tc : Thread Cert.UsmIdeal.nD Cert.UsmIdeal.τ).loc Cert.UsmIdeal.main_arg0)
      ∧ m' ((c.tc : Thread Cert.UsmRefIdeal.nD Cert.UsmRefIdeal.τ).loc Cert.UsmRefIdeal.main_arg1) = m ((c.tc : Thread Cert.UsmIdeal.nD Cert.UsmIdeal.τ).loc Cert.UsmIdeal.main_arg1)
      ∧ m' ((c.tc : Thread Cert.UsmRefIdeal.nD Cert.UsmRefIdeal.τ).loc Cert.UsmRefIdeal.main_arg2) = m ((c.tc : Thread Cert.UsmIdeal.nD Cert.UsmIdeal.τ).loc Cert.UsmIdeal.main_arg2)
      ∧ m' ((c.tc : Thread Cert.UsmRefIdeal.nD Cert.UsmRefIdeal.τ).loc Cert.UsmRefIdeal.main_arg3) = m ((c.tc : Thread Cert.UsmIdeal.nD Cert.UsmIdeal.τ).loc Cert.UsmIdeal.main_arg3)) →
    ∃ (v0 : (c : Dev Cert.UsmIdeal.nD) → Buf (Elt Ideal) ((c.tc : Thread Cert.UsmIdeal.nD Cert.UsmIdeal.τ).loc Cert.UsmIdeal.main_v0_0)) (v1 : (c : Dev Cert.UsmIdeal.nD) → Buf (Elt Ideal) ((c.tc : Thread Cert.UsmIdeal.nD Cert.UsmIdeal.τ).loc Cert.UsmIdeal.main_v0_1)) (v2 : (c : Dev Cert.UsmIdeal.nD) → Buf (Elt Ideal) ((c.tc : Thread Cert.UsmIdeal.nD Cert.UsmIdeal.τ).loc Cert.UsmIdeal.main_v0_2)) (v3 : (c : Dev Cert.UsmIdeal.nD) → Buf (Elt Ideal) ((c.tc : Thread Cert.UsmIdeal.nD Cert.UsmIdeal.τ).loc Cert.UsmIdeal.main_v0_3)),
      θ_run (Cert.UsmIdeal.defs (F := Ideal)) (onTc (τ := Cert.UsmIdeal.τ) (Cert.UsmIdeal.main (F := Ideal))) ⟨m, fun _ => 0, g⟩ (fun r => ∀ c : Dev Cert.UsmIdeal.nD,
          r.2.mem ((c.tc : Thread Cert.UsmIdeal.nD Cert.UsmIdeal.τ).loc Cert.UsmIdeal.main_v0_0) = v0 c
          ∧ r.2.mem ((c.tc : Thread Cert.UsmIdeal.nD Cert.UsmIdeal.τ).loc Cert.UsmIdeal.main_v0_1) = v1 c
          ∧ r.2.mem ((c.tc : Thread Cert.UsmIdeal.nD Cert.UsmIdeal.τ).loc Cert.UsmIdeal.main_v0_2) = v2 c
          ∧ r.2.mem ((c.tc : Thread Cert.UsmIdeal.nD Cert.UsmIdeal.τ).loc Cert.UsmIdeal.main_v0_3) = v3 c
          ∧ r.2.mem ((c.tc : Thread Cert.UsmIdeal.nD Cert.UsmIdeal.τ).loc Cert.UsmIdeal.main_arg0) = m ((c.tc : Thread Cert.UsmIdeal.nD Cert.UsmIdeal.τ).loc Cert.UsmIdeal.main_arg0)
          ∧ r.2.mem ((c.tc : Thread Cert.UsmIdeal.nD Cert.UsmIdeal.τ).loc Cert.UsmIdeal.main_arg1) = m ((c.tc : Thread Cert.UsmIdeal.nD Cert.UsmIdeal.τ).loc Cert.UsmIdeal.main_arg1)
          ∧ r.2.mem ((c.tc : Thread Cert.UsmIdeal.nD Cert.UsmIdeal.τ).loc Cert.UsmIdeal.main_arg2) = m ((c.tc : Thread Cert.UsmIdeal.nD Cert.UsmIdeal.τ).loc Cert.UsmIdeal.main_arg2)
          ∧ r.2.mem ((c.tc : Thread Cert.UsmIdeal.nD Cert.UsmIdeal.τ).loc Cert.UsmIdeal.main_arg3) = m ((c.tc : Thread Cert.UsmIdeal.nD Cert.UsmIdeal.τ).loc Cert.UsmIdeal.main_arg3))
      ∧ θ_run (Cert.UsmRefIdeal.defs (F := Ideal)) (onTc (τ := Cert.UsmRefIdeal.τ) (Cert.UsmRefIdeal.main (F := Ideal))) ⟨m', fun _ => 0, g'⟩ (fun r => ∀ c : Dev Cert.UsmRefIdeal.nD,
          r.2.mem ((c.tc : Thread Cert.UsmRefIdeal.nD Cert.UsmRefIdeal.τ).loc Cert.UsmRefIdeal.main_v0) = v0 c
          ∧ r.2.mem ((c.tc : Thread Cert.UsmRefIdeal.nD Cert.UsmRefIdeal.τ).loc Cert.UsmRefIdeal.main_v24) = v1 c
          ∧ r.2.mem ((c.tc : Thread Cert.UsmRefIdeal.nD Cert.UsmRefIdeal.τ).loc Cert.UsmRefIdeal.main_v5) = v2 c
          ∧ r.2.mem ((c.tc : Thread Cert.UsmRefIdeal.nD Cert.UsmRefIdeal.τ).loc Cert.UsmRefIdeal.main_v11) = v3 c
          ∧ r.2.mem ((c.tc : Thread Cert.UsmRefIdeal.nD Cert.UsmRefIdeal.τ).loc Cert.UsmRefIdeal.main_arg0) = m' ((c.tc : Thread Cert.UsmRefIdeal.nD Cert.UsmRefIdeal.τ).loc Cert.UsmRefIdeal.main_arg0)
          ∧ r.2.mem ((c.tc : Thread Cert.UsmRefIdeal.nD Cert.UsmRefIdeal.τ).loc Cert.UsmRefIdeal.main_arg1) = m' ((c.tc : Thread Cert.UsmRefIdeal.nD Cert.UsmRefIdeal.τ).loc Cert.UsmRefIdeal.main_arg1)
          ∧ r.2.mem ((c.tc : Thread Cert.UsmRefIdeal.nD Cert.UsmRefIdeal.τ).loc Cert.UsmRefIdeal.main_arg2) = m' ((c.tc : Thread Cert.UsmRefIdeal.nD Cert.UsmRefIdeal.τ).loc Cert.UsmRefIdeal.main_arg2)
          ∧ r.2.mem ((c.tc : Thread Cert.UsmRefIdeal.nD Cert.UsmRefIdeal.τ).loc Cert.UsmRefIdeal.main_arg3) = m' ((c.tc : Thread Cert.UsmRefIdeal.nD Cert.UsmRefIdeal.τ).loc Cert.UsmRefIdeal.main_arg3))

def preserves_Uada_UadaIdeal : Prop :=
  IdealRules.named_const.Statement Cert.UadaIdeal.κ "m_hat" .f32 0x3FC48605#32 ((8388608 / 5463681 : ℝ) : EReal)
  ∧ IdealRules.named_const.Statement Cert.UadaIdeal.κ "v_hat" .f32 0x42C8E6D3#32 ((268435456 / 2672307 : ℝ) : EReal)

def algebraic_UadaIdeal_UadaRefIdeal [hUadaIdeal : Cert.UadaIdeal.Facts] [hUadaRefIdeal : Cert.UadaRefIdeal.Facts] : Prop :=
  ∀ (m : (ℓ : Loc Cert.UadaIdeal.nD Cert.UadaIdeal.τ Cert.UadaIdeal.sig) → Buf (Elt Ideal) ℓ) (g : Dev Cert.UadaIdeal.nD → PrngReg)
    (m' : (ℓ : Loc Cert.UadaRefIdeal.nD Cert.UadaRefIdeal.τ Cert.UadaRefIdeal.sig) → Buf (Elt Ideal) ℓ) (g' : Dev Cert.UadaRefIdeal.nD → PrngReg), Pre_UadaIdeal m →
    (∀ c : Dev Cert.UadaIdeal.nD,
      m' ((c.tc : Thread Cert.UadaRefIdeal.nD Cert.UadaRefIdeal.τ).loc Cert.UadaRefIdeal.main_arg0) = m ((c.tc : Thread Cert.UadaIdeal.nD Cert.UadaIdeal.τ).loc Cert.UadaIdeal.main_arg0)
      ∧ m' ((c.tc : Thread Cert.UadaRefIdeal.nD Cert.UadaRefIdeal.τ).loc Cert.UadaRefIdeal.main_arg1) = m ((c.tc : Thread Cert.UadaIdeal.nD Cert.UadaIdeal.τ).loc Cert.UadaIdeal.main_arg1)
      ∧ m' ((c.tc : Thread Cert.UadaRefIdeal.nD Cert.UadaRefIdeal.τ).loc Cert.UadaRefIdeal.main_arg2) = m ((c.tc : Thread Cert.UadaIdeal.nD Cert.UadaIdeal.τ).loc Cert.UadaIdeal.main_arg2)
      ∧ m' ((c.tc : Thread Cert.UadaRefIdeal.nD Cert.UadaRefIdeal.τ).loc Cert.UadaRefIdeal.main_arg3) = m ((c.tc : Thread Cert.UadaIdeal.nD Cert.UadaIdeal.τ).loc Cert.UadaIdeal.main_arg3)
      ∧ m' ((c.tc : Thread Cert.UadaRefIdeal.nD Cert.UadaRefIdeal.τ).loc Cert.UadaRefIdeal.main_arg4) = m ((c.tc : Thread Cert.UadaIdeal.nD Cert.UadaIdeal.τ).loc Cert.UadaIdeal.main_arg4)) →
    ∃ (v0 : (c : Dev Cert.UadaIdeal.nD) → Buf (Elt Ideal) ((c.tc : Thread Cert.UadaIdeal.nD Cert.UadaIdeal.τ).loc Cert.UadaIdeal.main_v0_0)) (v1 : (c : Dev Cert.UadaIdeal.nD) → Buf (Elt Ideal) ((c.tc : Thread Cert.UadaIdeal.nD Cert.UadaIdeal.τ).loc Cert.UadaIdeal.main_v0_1)) (v2 : (c : Dev Cert.UadaIdeal.nD) → Buf (Elt Ideal) ((c.tc : Thread Cert.UadaIdeal.nD Cert.UadaIdeal.τ).loc Cert.UadaIdeal.main_v0_2)) (v3 : (c : Dev Cert.UadaIdeal.nD) → Buf (Elt Ideal) ((c.tc : Thread Cert.UadaIdeal.nD Cert.UadaIdeal.τ).loc Cert.UadaIdeal.main_v0_3)),
      θ_run (Cert.UadaIdeal.defs (F := Ideal)) (onTc (τ := Cert.UadaIdeal.τ) (Cert.UadaIdeal.main (F := Ideal))) ⟨m, fun _ => 0, g⟩ (fun r => ∀ c : Dev Cert.UadaIdeal.nD,
          r.2.mem ((c.tc : Thread Cert.UadaIdeal.nD Cert.UadaIdeal.τ).loc Cert.UadaIdeal.main_v0_0) = v0 c
          ∧ r.2.mem ((c.tc : Thread Cert.UadaIdeal.nD Cert.UadaIdeal.τ).loc Cert.UadaIdeal.main_v0_1) = v1 c
          ∧ r.2.mem ((c.tc : Thread Cert.UadaIdeal.nD Cert.UadaIdeal.τ).loc Cert.UadaIdeal.main_v0_2) = v2 c
          ∧ r.2.mem ((c.tc : Thread Cert.UadaIdeal.nD Cert.UadaIdeal.τ).loc Cert.UadaIdeal.main_v0_3) = v3 c
          ∧ r.2.mem ((c.tc : Thread Cert.UadaIdeal.nD Cert.UadaIdeal.τ).loc Cert.UadaIdeal.main_arg0) = m ((c.tc : Thread Cert.UadaIdeal.nD Cert.UadaIdeal.τ).loc Cert.UadaIdeal.main_arg0)
          ∧ r.2.mem ((c.tc : Thread Cert.UadaIdeal.nD Cert.UadaIdeal.τ).loc Cert.UadaIdeal.main_arg1) = m ((c.tc : Thread Cert.UadaIdeal.nD Cert.UadaIdeal.τ).loc Cert.UadaIdeal.main_arg1)
          ∧ r.2.mem ((c.tc : Thread Cert.UadaIdeal.nD Cert.UadaIdeal.τ).loc Cert.UadaIdeal.main_arg2) = m ((c.tc : Thread Cert.UadaIdeal.nD Cert.UadaIdeal.τ).loc Cert.UadaIdeal.main_arg2)
          ∧ r.2.mem ((c.tc : Thread Cert.UadaIdeal.nD Cert.UadaIdeal.τ).loc Cert.UadaIdeal.main_arg3) = m ((c.tc : Thread Cert.UadaIdeal.nD Cert.UadaIdeal.τ).loc Cert.UadaIdeal.main_arg3)
          ∧ r.2.mem ((c.tc : Thread Cert.UadaIdeal.nD Cert.UadaIdeal.τ).loc Cert.UadaIdeal.main_arg4) = m ((c.tc : Thread Cert.UadaIdeal.nD Cert.UadaIdeal.τ).loc Cert.UadaIdeal.main_arg4))
      ∧ θ_run (Cert.UadaRefIdeal.defs (F := Ideal)) (onTc (τ := Cert.UadaRefIdeal.τ) (Cert.UadaRefIdeal.main (F := Ideal))) ⟨m', fun _ => 0, g'⟩ (fun r => ∀ c : Dev Cert.UadaRefIdeal.nD,
          r.2.mem ((c.tc : Thread Cert.UadaRefIdeal.nD Cert.UadaRefIdeal.τ).loc Cert.UadaRefIdeal.main_v6) = v0 c
          ∧ r.2.mem ((c.tc : Thread Cert.UadaRefIdeal.nD Cert.UadaRefIdeal.τ).loc Cert.UadaRefIdeal.main_v30) = v1 c
          ∧ r.2.mem ((c.tc : Thread Cert.UadaRefIdeal.nD Cert.UadaRefIdeal.τ).loc Cert.UadaRefIdeal.main_v11) = v2 c
          ∧ r.2.mem ((c.tc : Thread Cert.UadaRefIdeal.nD Cert.UadaRefIdeal.τ).loc Cert.UadaRefIdeal.main_v17) = v3 c
          ∧ r.2.mem ((c.tc : Thread Cert.UadaRefIdeal.nD Cert.UadaRefIdeal.τ).loc Cert.UadaRefIdeal.main_arg0) = m' ((c.tc : Thread Cert.UadaRefIdeal.nD Cert.UadaRefIdeal.τ).loc Cert.UadaRefIdeal.main_arg0)
          ∧ r.2.mem ((c.tc : Thread Cert.UadaRefIdeal.nD Cert.UadaRefIdeal.τ).loc Cert.UadaRefIdeal.main_arg1) = m' ((c.tc : Thread Cert.UadaRefIdeal.nD Cert.UadaRefIdeal.τ).loc Cert.UadaRefIdeal.main_arg1)
          ∧ r.2.mem ((c.tc : Thread Cert.UadaRefIdeal.nD Cert.UadaRefIdeal.τ).loc Cert.UadaRefIdeal.main_arg2) = m' ((c.tc : Thread Cert.UadaRefIdeal.nD Cert.UadaRefIdeal.τ).loc Cert.UadaRefIdeal.main_arg2)
          ∧ r.2.mem ((c.tc : Thread Cert.UadaRefIdeal.nD Cert.UadaRefIdeal.τ).loc Cert.UadaRefIdeal.main_arg3) = m' ((c.tc : Thread Cert.UadaRefIdeal.nD Cert.UadaRefIdeal.τ).loc Cert.UadaRefIdeal.main_arg3)
          ∧ r.2.mem ((c.tc : Thread Cert.UadaRefIdeal.nD Cert.UadaRefIdeal.τ).loc Cert.UadaRefIdeal.main_arg4) = m' ((c.tc : Thread Cert.UadaRefIdeal.nD Cert.UadaRefIdeal.τ).loc Cert.UadaRefIdeal.main_arg4))

def preserves_Nf1_Nf1Ideal : Prop :=
  True

def algebraic_Nf1Ideal_Nf1RefIdeal [hNf1Ideal : Cert.Nf1Ideal.Facts] [hNf1RefIdeal : Cert.Nf1RefIdeal.Facts] : Prop :=
  ∀ (m : (ℓ : Loc Cert.Nf1Ideal.nD Cert.Nf1Ideal.τ Cert.Nf1Ideal.sig) → Buf (Elt Ideal) ℓ) (g : Dev Cert.Nf1Ideal.nD → PrngReg)
    (m' : (ℓ : Loc Cert.Nf1RefIdeal.nD Cert.Nf1RefIdeal.τ Cert.Nf1RefIdeal.sig) → Buf (Elt Ideal) ℓ) (g' : Dev Cert.Nf1RefIdeal.nD → PrngReg), Pre_Nf1Ideal m →
    (∀ c : Dev Cert.Nf1Ideal.nD,
      m' ((c.tc : Thread Cert.Nf1RefIdeal.nD Cert.Nf1RefIdeal.τ).loc Cert.Nf1RefIdeal.main_arg0) = m ((c.tc : Thread Cert.Nf1Ideal.nD Cert.Nf1Ideal.τ).loc Cert.Nf1Ideal.main_arg0)
      ∧ m' ((c.tc : Thread Cert.Nf1RefIdeal.nD Cert.Nf1RefIdeal.τ).loc Cert.Nf1RefIdeal.main_arg1) = m ((c.tc : Thread Cert.Nf1Ideal.nD Cert.Nf1Ideal.τ).loc Cert.Nf1Ideal.main_arg1)
      ∧ m' ((c.tc : Thread Cert.Nf1RefIdeal.nD Cert.Nf1RefIdeal.τ).loc Cert.Nf1RefIdeal.main_arg2) = m ((c.tc : Thread Cert.Nf1Ideal.nD Cert.Nf1Ideal.τ).loc Cert.Nf1Ideal.main_arg2)
      ∧ m' ((c.tc : Thread Cert.Nf1RefIdeal.nD Cert.Nf1RefIdeal.τ).loc Cert.Nf1RefIdeal.main_arg3) = m ((c.tc : Thread Cert.Nf1Ideal.nD Cert.Nf1Ideal.τ).loc Cert.Nf1Ideal.main_arg3)) →
    ∃ (v0 : (c : Dev Cert.Nf1Ideal.nD) → Buf (Elt Ideal) ((c.tc : Thread Cert.Nf1Ideal.nD Cert.Nf1Ideal.τ).loc Cert.Nf1Ideal.main_v0)),
      θ_run (Cert.Nf1Ideal.defs (F := Ideal)) (onTc (τ := Cert.Nf1Ideal.τ) (Cert.Nf1Ideal.main (F := Ideal))) ⟨m, fun _ => 0, g⟩ (fun r => ∀ c : Dev Cert.Nf1Ideal.nD,
          r.2.mem ((c.tc : Thread Cert.Nf1Ideal.nD Cert.Nf1Ideal.τ).loc Cert.Nf1Ideal.main_v0) = v0 c
          ∧ r.2.mem ((c.tc : Thread Cert.Nf1Ideal.nD Cert.Nf1Ideal.τ).loc Cert.Nf1Ideal.main_arg0) = m ((c.tc : Thread Cert.Nf1Ideal.nD Cert.Nf1Ideal.τ).loc Cert.Nf1Ideal.main_arg0)
          ∧ r.2.mem ((c.tc : Thread Cert.Nf1Ideal.nD Cert.Nf1Ideal.τ).loc Cert.Nf1Ideal.main_arg1) = m ((c.tc : Thread Cert.Nf1Ideal.nD Cert.Nf1Ideal.τ).loc Cert.Nf1Ideal.main_arg1)
          ∧ r.2.mem ((c.tc : Thread Cert.Nf1Ideal.nD Cert.Nf1Ideal.τ).loc Cert.Nf1Ideal.main_arg2) = m ((c.tc : Thread Cert.Nf1Ideal.nD Cert.Nf1Ideal.τ).loc Cert.Nf1Ideal.main_arg2)
          ∧ r.2.mem ((c.tc : Thread Cert.Nf1Ideal.nD Cert.Nf1Ideal.τ).loc Cert.Nf1Ideal.main_arg3) = m ((c.tc : Thread Cert.Nf1Ideal.nD Cert.Nf1Ideal.τ).loc Cert.Nf1Ideal.main_arg3))
      ∧ θ_run (Cert.Nf1RefIdeal.defs (F := Ideal)) (onTc (τ := Cert.Nf1RefIdeal.τ) (Cert.Nf1RefIdeal.main (F := Ideal))) ⟨m', fun _ => 0, g'⟩ (fun r => ∀ c : Dev Cert.Nf1RefIdeal.nD,
          r.2.mem ((c.tc : Thread Cert.Nf1RefIdeal.nD Cert.Nf1RefIdeal.τ).loc Cert.Nf1RefIdeal.main_v18) = v0 c
          ∧ r.2.mem ((c.tc : Thread Cert.Nf1RefIdeal.nD Cert.Nf1RefIdeal.τ).loc Cert.Nf1RefIdeal.main_arg0) = m' ((c.tc : Thread Cert.Nf1RefIdeal.nD Cert.Nf1RefIdeal.τ).loc Cert.Nf1RefIdeal.main_arg0)
          ∧ r.2.mem ((c.tc : Thread Cert.Nf1RefIdeal.nD Cert.Nf1RefIdeal.τ).loc Cert.Nf1RefIdeal.main_arg1) = m' ((c.tc : Thread Cert.Nf1RefIdeal.nD Cert.Nf1RefIdeal.τ).loc Cert.Nf1RefIdeal.main_arg1)
          ∧ r.2.mem ((c.tc : Thread Cert.Nf1RefIdeal.nD Cert.Nf1RefIdeal.τ).loc Cert.Nf1RefIdeal.main_arg2) = m' ((c.tc : Thread Cert.Nf1RefIdeal.nD Cert.Nf1RefIdeal.τ).loc Cert.Nf1RefIdeal.main_arg2)
          ∧ r.2.mem ((c.tc : Thread Cert.Nf1RefIdeal.nD Cert.Nf1RefIdeal.τ).loc Cert.Nf1RefIdeal.main_arg3) = m' ((c.tc : Thread Cert.Nf1RefIdeal.nD Cert.Nf1RefIdeal.τ).loc Cert.Nf1RefIdeal.main_arg3))

def preserves_Nf2_Nf2Ideal : Prop :=
  True

def algebraic_Nf2Ideal_Nf2RefIdeal [hNf2Ideal : Cert.Nf2Ideal.Facts] [hNf2RefIdeal : Cert.Nf2RefIdeal.Facts] : Prop :=
  ∀ (m : (ℓ : Loc Cert.Nf2Ideal.nD Cert.Nf2Ideal.τ Cert.Nf2Ideal.sig) → Buf (Elt Ideal) ℓ) (g : Dev Cert.Nf2Ideal.nD → PrngReg)
    (m' : (ℓ : Loc Cert.Nf2RefIdeal.nD Cert.Nf2RefIdeal.τ Cert.Nf2RefIdeal.sig) → Buf (Elt Ideal) ℓ) (g' : Dev Cert.Nf2RefIdeal.nD → PrngReg), Pre_Nf2Ideal m →
    (∀ c : Dev Cert.Nf2Ideal.nD,
      m' ((c.tc : Thread Cert.Nf2RefIdeal.nD Cert.Nf2RefIdeal.τ).loc Cert.Nf2RefIdeal.main_arg0) = m ((c.tc : Thread Cert.Nf2Ideal.nD Cert.Nf2Ideal.τ).loc Cert.Nf2Ideal.main_arg0)
      ∧ m' ((c.tc : Thread Cert.Nf2RefIdeal.nD Cert.Nf2RefIdeal.τ).loc Cert.Nf2RefIdeal.main_arg1) = m ((c.tc : Thread Cert.Nf2Ideal.nD Cert.Nf2Ideal.τ).loc Cert.Nf2Ideal.main_arg1)
      ∧ m' ((c.tc : Thread Cert.Nf2RefIdeal.nD Cert.Nf2RefIdeal.τ).loc Cert.Nf2RefIdeal.main_arg2) = m ((c.tc : Thread Cert.Nf2Ideal.nD Cert.Nf2Ideal.τ).loc Cert.Nf2Ideal.main_arg2)
      ∧ m' ((c.tc : Thread Cert.Nf2RefIdeal.nD Cert.Nf2RefIdeal.τ).loc Cert.Nf2RefIdeal.main_arg3) = m ((c.tc : Thread Cert.Nf2Ideal.nD Cert.Nf2Ideal.τ).loc Cert.Nf2Ideal.main_arg3)
      ∧ m' ((c.tc : Thread Cert.Nf2RefIdeal.nD Cert.Nf2RefIdeal.τ).loc Cert.Nf2RefIdeal.main_arg4) = m ((c.tc : Thread Cert.Nf2Ideal.nD Cert.Nf2Ideal.τ).loc Cert.Nf2Ideal.main_arg4)
      ∧ m' ((c.tc : Thread Cert.Nf2RefIdeal.nD Cert.Nf2RefIdeal.τ).loc Cert.Nf2RefIdeal.main_arg5) = m ((c.tc : Thread Cert.Nf2Ideal.nD Cert.Nf2Ideal.τ).loc Cert.Nf2Ideal.main_arg5)) →
    ∃ (v0 : (c : Dev Cert.Nf2Ideal.nD) → Buf (Elt Ideal) ((c.tc : Thread Cert.Nf2Ideal.nD Cert.Nf2Ideal.τ).loc Cert.Nf2Ideal.main_v0_0)) (v1 : (c : Dev Cert.Nf2Ideal.nD) → Buf (Elt Ideal) ((c.tc : Thread Cert.Nf2Ideal.nD Cert.Nf2Ideal.τ).loc Cert.Nf2Ideal.main_v0_1)),
      θ_run (Cert.Nf2Ideal.defs (F := Ideal)) (onTc (τ := Cert.Nf2Ideal.τ) (Cert.Nf2Ideal.main (F := Ideal))) ⟨m, fun _ => 0, g⟩ (fun r => ∀ c : Dev Cert.Nf2Ideal.nD,
          r.2.mem ((c.tc : Thread Cert.Nf2Ideal.nD Cert.Nf2Ideal.τ).loc Cert.Nf2Ideal.main_v0_0) = v0 c
          ∧ r.2.mem ((c.tc : Thread Cert.Nf2Ideal.nD Cert.Nf2Ideal.τ).loc Cert.Nf2Ideal.main_v0_1) = v1 c
          ∧ r.2.mem ((c.tc : Thread Cert.Nf2Ideal.nD Cert.Nf2Ideal.τ).loc Cert.Nf2Ideal.main_arg0) = m ((c.tc : Thread Cert.Nf2Ideal.nD Cert.Nf2Ideal.τ).loc Cert.Nf2Ideal.main_arg0)
          ∧ r.2.mem ((c.tc : Thread Cert.Nf2Ideal.nD Cert.Nf2Ideal.τ).loc Cert.Nf2Ideal.main_arg1) = m ((c.tc : Thread Cert.Nf2Ideal.nD Cert.Nf2Ideal.τ).loc Cert.Nf2Ideal.main_arg1)
          ∧ r.2.mem ((c.tc : Thread Cert.Nf2Ideal.nD Cert.Nf2Ideal.τ).loc Cert.Nf2Ideal.main_arg2) = m ((c.tc : Thread Cert.Nf2Ideal.nD Cert.Nf2Ideal.τ).loc Cert.Nf2Ideal.main_arg2)
          ∧ r.2.mem ((c.tc : Thread Cert.Nf2Ideal.nD Cert.Nf2Ideal.τ).loc Cert.Nf2Ideal.main_arg3) = m ((c.tc : Thread Cert.Nf2Ideal.nD Cert.Nf2Ideal.τ).loc Cert.Nf2Ideal.main_arg3)
          ∧ r.2.mem ((c.tc : Thread Cert.Nf2Ideal.nD Cert.Nf2Ideal.τ).loc Cert.Nf2Ideal.main_arg4) = m ((c.tc : Thread Cert.Nf2Ideal.nD Cert.Nf2Ideal.τ).loc Cert.Nf2Ideal.main_arg4)
          ∧ r.2.mem ((c.tc : Thread Cert.Nf2Ideal.nD Cert.Nf2Ideal.τ).loc Cert.Nf2Ideal.main_arg5) = m ((c.tc : Thread Cert.Nf2Ideal.nD Cert.Nf2Ideal.τ).loc Cert.Nf2Ideal.main_arg5))
      ∧ θ_run (Cert.Nf2RefIdeal.defs (F := Ideal)) (onTc (τ := Cert.Nf2RefIdeal.τ) (Cert.Nf2RefIdeal.main (F := Ideal))) ⟨m', fun _ => 0, g'⟩ (fun r => ∀ c : Dev Cert.Nf2RefIdeal.nD,
          r.2.mem ((c.tc : Thread Cert.Nf2RefIdeal.nD Cert.Nf2RefIdeal.τ).loc Cert.Nf2RefIdeal.main_v2) = v0 c
          ∧ r.2.mem ((c.tc : Thread Cert.Nf2RefIdeal.nD Cert.Nf2RefIdeal.τ).loc Cert.Nf2RefIdeal.main_v21) = v1 c
          ∧ r.2.mem ((c.tc : Thread Cert.Nf2RefIdeal.nD Cert.Nf2RefIdeal.τ).loc Cert.Nf2RefIdeal.main_arg0) = m' ((c.tc : Thread Cert.Nf2RefIdeal.nD Cert.Nf2RefIdeal.τ).loc Cert.Nf2RefIdeal.main_arg0)
          ∧ r.2.mem ((c.tc : Thread Cert.Nf2RefIdeal.nD Cert.Nf2RefIdeal.τ).loc Cert.Nf2RefIdeal.main_arg1) = m' ((c.tc : Thread Cert.Nf2RefIdeal.nD Cert.Nf2RefIdeal.τ).loc Cert.Nf2RefIdeal.main_arg1)
          ∧ r.2.mem ((c.tc : Thread Cert.Nf2RefIdeal.nD Cert.Nf2RefIdeal.τ).loc Cert.Nf2RefIdeal.main_arg2) = m' ((c.tc : Thread Cert.Nf2RefIdeal.nD Cert.Nf2RefIdeal.τ).loc Cert.Nf2RefIdeal.main_arg2)
          ∧ r.2.mem ((c.tc : Thread Cert.Nf2RefIdeal.nD Cert.Nf2RefIdeal.τ).loc Cert.Nf2RefIdeal.main_arg3) = m' ((c.tc : Thread Cert.Nf2RefIdeal.nD Cert.Nf2RefIdeal.τ).loc Cert.Nf2RefIdeal.main_arg3)
          ∧ r.2.mem ((c.tc : Thread Cert.Nf2RefIdeal.nD Cert.Nf2RefIdeal.τ).loc Cert.Nf2RefIdeal.main_arg4) = m' ((c.tc : Thread Cert.Nf2RefIdeal.nD Cert.Nf2RefIdeal.τ).loc Cert.Nf2RefIdeal.main_arg4)
          ∧ r.2.mem ((c.tc : Thread Cert.Nf2RefIdeal.nD Cert.Nf2RefIdeal.τ).loc Cert.Nf2RefIdeal.main_arg5) = m' ((c.tc : Thread Cert.Nf2RefIdeal.nD Cert.Nf2RefIdeal.τ).loc Cert.Nf2RefIdeal.main_arg5))

def preserves_Afw_AfwIdeal : Prop :=
  True

def algebraic_AfwIdeal_AfwRefIdeal [hAfwIdeal : Cert.AfwIdeal.Facts] [hAfwRefIdeal : Cert.AfwRefIdeal.Facts] : Prop :=
  ∀ (m : (ℓ : Loc Cert.AfwIdeal.nD Cert.AfwIdeal.τ Cert.AfwIdeal.sig) → Buf (Elt Ideal) ℓ) (g : Dev Cert.AfwIdeal.nD → PrngReg)
    (m' : (ℓ : Loc Cert.AfwRefIdeal.nD Cert.AfwRefIdeal.τ Cert.AfwRefIdeal.sig) → Buf (Elt Ideal) ℓ) (g' : Dev Cert.AfwRefIdeal.nD → PrngReg), Pre_AfwIdeal m →
    (∀ c : Dev Cert.AfwIdeal.nD,
      m' ((c.tc : Thread Cert.AfwRefIdeal.nD Cert.AfwRefIdeal.τ).loc Cert.AfwRefIdeal.main_arg0) = m ((c.tc : Thread Cert.AfwIdeal.nD Cert.AfwIdeal.τ).loc Cert.AfwIdeal.main_arg0)
      ∧ m' ((c.tc : Thread Cert.AfwRefIdeal.nD Cert.AfwRefIdeal.τ).loc Cert.AfwRefIdeal.main_arg1) = m ((c.tc : Thread Cert.AfwIdeal.nD Cert.AfwIdeal.τ).loc Cert.AfwIdeal.main_arg1)
      ∧ m' ((c.tc : Thread Cert.AfwRefIdeal.nD Cert.AfwRefIdeal.τ).loc Cert.AfwRefIdeal.main_arg2) = m ((c.tc : Thread Cert.AfwIdeal.nD Cert.AfwIdeal.τ).loc Cert.AfwIdeal.main_arg2)) →
    ∃ (v0 : (c : Dev Cert.AfwIdeal.nD) → Buf (Elt Ideal) ((c.tc : Thread Cert.AfwIdeal.nD Cert.AfwIdeal.τ).loc Cert.AfwIdeal.main_v0)),
      θ_run (Cert.AfwIdeal.defs (F := Ideal)) (onTc (τ := Cert.AfwIdeal.τ) (Cert.AfwIdeal.main (F := Ideal))) ⟨m, fun _ => 0, g⟩ (fun r => ∀ c : Dev Cert.AfwIdeal.nD,
          r.2.mem ((c.tc : Thread Cert.AfwIdeal.nD Cert.AfwIdeal.τ).loc Cert.AfwIdeal.main_v0) = v0 c
          ∧ r.2.mem ((c.tc : Thread Cert.AfwIdeal.nD Cert.AfwIdeal.τ).loc Cert.AfwIdeal.main_arg0) = m ((c.tc : Thread Cert.AfwIdeal.nD Cert.AfwIdeal.τ).loc Cert.AfwIdeal.main_arg0)
          ∧ r.2.mem ((c.tc : Thread Cert.AfwIdeal.nD Cert.AfwIdeal.τ).loc Cert.AfwIdeal.main_arg1) = m ((c.tc : Thread Cert.AfwIdeal.nD Cert.AfwIdeal.τ).loc Cert.AfwIdeal.main_arg1)
          ∧ r.2.mem ((c.tc : Thread Cert.AfwIdeal.nD Cert.AfwIdeal.τ).loc Cert.AfwIdeal.main_arg2) = m ((c.tc : Thread Cert.AfwIdeal.nD Cert.AfwIdeal.τ).loc Cert.AfwIdeal.main_arg2))
      ∧ θ_run (Cert.AfwRefIdeal.defs (F := Ideal)) (onTc (τ := Cert.AfwRefIdeal.τ) (Cert.AfwRefIdeal.main (F := Ideal))) ⟨m', fun _ => 0, g'⟩ (fun r => ∀ c : Dev Cert.AfwRefIdeal.nD,
          r.2.mem ((c.tc : Thread Cert.AfwRefIdeal.nD Cert.AfwRefIdeal.τ).loc Cert.AfwRefIdeal.main_v3) = v0 c
          ∧ r.2.mem ((c.tc : Thread Cert.AfwRefIdeal.nD Cert.AfwRefIdeal.τ).loc Cert.AfwRefIdeal.main_arg0) = m' ((c.tc : Thread Cert.AfwRefIdeal.nD Cert.AfwRefIdeal.τ).loc Cert.AfwRefIdeal.main_arg0)
          ∧ r.2.mem ((c.tc : Thread Cert.AfwRefIdeal.nD Cert.AfwRefIdeal.τ).loc Cert.AfwRefIdeal.main_arg1) = m' ((c.tc : Thread Cert.AfwRefIdeal.nD Cert.AfwRefIdeal.τ).loc Cert.AfwRefIdeal.main_arg1)
          ∧ r.2.mem ((c.tc : Thread Cert.AfwRefIdeal.nD Cert.AfwRefIdeal.τ).loc Cert.AfwRefIdeal.main_arg2) = m' ((c.tc : Thread Cert.AfwRefIdeal.nD Cert.AfwRefIdeal.τ).loc Cert.AfwRefIdeal.main_arg2))

def preserves_Mrg_MrgIdeal : Prop :=
  True

def algebraic_MrgIdeal_MrgRefIdeal [hMrgIdeal : Cert.MrgIdeal.Facts] [hMrgRefIdeal : Cert.MrgRefIdeal.Facts] : Prop :=
  ∀ (m : (ℓ : Loc Cert.MrgIdeal.nD Cert.MrgIdeal.τ Cert.MrgIdeal.sig) → Buf (Elt Ideal) ℓ) (g : Dev Cert.MrgIdeal.nD → PrngReg)
    (m' : (ℓ : Loc Cert.MrgRefIdeal.nD Cert.MrgRefIdeal.τ Cert.MrgRefIdeal.sig) → Buf (Elt Ideal) ℓ) (g' : Dev Cert.MrgRefIdeal.nD → PrngReg), Pre_MrgIdeal m →
    (∀ c : Dev Cert.MrgIdeal.nD,
      m' ((c.tc : Thread Cert.MrgRefIdeal.nD Cert.MrgRefIdeal.τ).loc Cert.MrgRefIdeal.main_arg0) = m ((c.tc : Thread Cert.MrgIdeal.nD Cert.MrgIdeal.τ).loc Cert.MrgIdeal.main_arg0)
      ∧ m' ((c.tc : Thread Cert.MrgRefIdeal.nD Cert.MrgRefIdeal.τ).loc Cert.MrgRefIdeal.main_arg1) = m ((c.tc : Thread Cert.MrgIdeal.nD Cert.MrgIdeal.τ).loc Cert.MrgIdeal.main_arg1)
      ∧ m' ((c.tc : Thread Cert.MrgRefIdeal.nD Cert.MrgRefIdeal.τ).loc Cert.MrgRefIdeal.main_arg2) = m ((c.tc : Thread Cert.MrgIdeal.nD Cert.MrgIdeal.τ).loc Cert.MrgIdeal.main_arg2)
      ∧ m' ((c.tc : Thread Cert.MrgRefIdeal.nD Cert.MrgRefIdeal.τ).loc Cert.MrgRefIdeal.main_arg3) = m ((c.tc : Thread Cert.MrgIdeal.nD Cert.MrgIdeal.τ).loc Cert.MrgIdeal.main_arg3)
      ∧ m' ((c.tc : Thread Cert.MrgRefIdeal.nD Cert.MrgRefIdeal.τ).loc Cert.MrgRefIdeal.main_arg4) = m ((c.tc : Thread Cert.MrgIdeal.nD Cert.MrgIdeal.τ).loc Cert.MrgIdeal.main_arg4)
      ∧ m' ((c.tc : Thread Cert.MrgRefIdeal.nD Cert.MrgRefIdeal.τ).loc Cert.MrgRefIdeal.main_arg5) = m ((c.tc : Thread Cert.MrgIdeal.nD Cert.MrgIdeal.τ).loc Cert.MrgIdeal.main_arg5)) →
    ∃ (v0 : (c : Dev Cert.MrgIdeal.nD) → Buf (Elt Ideal) ((c.tc : Thread Cert.MrgIdeal.nD Cert.MrgIdeal.τ).loc Cert.MrgIdeal.main_v0_0)) (v1 : (c : Dev Cert.MrgIdeal.nD) → Buf (Elt Ideal) ((c.tc : Thread Cert.MrgIdeal.nD Cert.MrgIdeal.τ).loc Cert.MrgIdeal.main_v0_1)) (v2 : (c : Dev Cert.MrgIdeal.nD) → Buf (Elt Ideal) ((c.tc : Thread Cert.MrgIdeal.nD Cert.MrgIdeal.τ).loc Cert.MrgIdeal.main_v0_2)),
      θ_run (Cert.MrgIdeal.defs (F := Ideal)) (onTc (τ := Cert.MrgIdeal.τ) (Cert.MrgIdeal.main (F := Ideal))) ⟨m, fun _ => 0, g⟩ (fun r => ∀ c : Dev Cert.MrgIdeal.nD,
          r.2.mem ((c.tc : Thread Cert.MrgIdeal.nD Cert.MrgIdeal.τ).loc Cert.MrgIdeal.main_v0_0) = v0 c
          ∧ r.2.mem ((c.tc : Thread Cert.MrgIdeal.nD Cert.MrgIdeal.τ).loc Cert.MrgIdeal.main_v0_1) = v1 c
          ∧ r.2.mem ((c.tc : Thread Cert.MrgIdeal.nD Cert.MrgIdeal.τ).loc Cert.MrgIdeal.main_v0_2) = v2 c
          ∧ r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
          ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
          ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
          ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
          ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
          ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5))
      ∧ θ_run (Cert.MrgRefIdeal.defs (F := Ideal)) (onTc (τ := Cert.MrgRefIdeal.τ) (Cert.MrgRefIdeal.main (F := Ideal))) ⟨m', fun _ => 0, g'⟩ (fun r => ∀ c : Dev Cert.MrgRefIdeal.nD,
          r.2.mem ((c.tc : Thread Cert.MrgRefIdeal.nD Cert.MrgRefIdeal.τ).loc Cert.MrgRefIdeal.main_v26) = v0 c
          ∧ r.2.mem ((c.tc : Thread Cert.MrgRefIdeal.nD Cert.MrgRefIdeal.τ).loc Cert.MrgRefIdeal.main_v27) = v1 c
          ∧ r.2.mem ((c.tc : Thread Cert.MrgRefIdeal.nD Cert.MrgRefIdeal.τ).loc Cert.MrgRefIdeal.main_v31) = v2 c
          ∧ r.2.mem ((c.tc : Thread Cert.MrgRefIdeal.nD Cert.MrgRefIdeal.τ).loc Cert.MrgRefIdeal.main_arg0) = m' ((c.tc : Thread Cert.MrgRefIdeal.nD Cert.MrgRefIdeal.τ).loc Cert.MrgRefIdeal.main_arg0)
          ∧ r.2.mem ((c.tc : Thread Cert.MrgRefIdeal.nD Cert.MrgRefIdeal.τ).loc Cert.MrgRefIdeal.main_arg1) = m' ((c.tc : Thread Cert.MrgRefIdeal.nD Cert.MrgRefIdeal.τ).loc Cert.MrgRefIdeal.main_arg1)
          ∧ r.2.mem ((c.tc : Thread Cert.MrgRefIdeal.nD Cert.MrgRefIdeal.τ).loc Cert.MrgRefIdeal.main_arg2) = m' ((c.tc : Thread Cert.MrgRefIdeal.nD Cert.MrgRefIdeal.τ).loc Cert.MrgRefIdeal.main_arg2)
          ∧ r.2.mem ((c.tc : Thread Cert.MrgRefIdeal.nD Cert.MrgRefIdeal.τ).loc Cert.MrgRefIdeal.main_arg3) = m' ((c.tc : Thread Cert.MrgRefIdeal.nD Cert.MrgRefIdeal.τ).loc Cert.MrgRefIdeal.main_arg3)
          ∧ r.2.mem ((c.tc : Thread Cert.MrgRefIdeal.nD Cert.MrgRefIdeal.τ).loc Cert.MrgRefIdeal.main_arg4) = m' ((c.tc : Thread Cert.MrgRefIdeal.nD Cert.MrgRefIdeal.τ).loc Cert.MrgRefIdeal.main_arg4)
          ∧ r.2.mem ((c.tc : Thread Cert.MrgRefIdeal.nD Cert.MrgRefIdeal.τ).loc Cert.MrgRefIdeal.main_arg5) = m' ((c.tc : Thread Cert.MrgRefIdeal.nD Cert.MrgRefIdeal.τ).loc Cert.MrgRefIdeal.main_arg5))

def preserves_Nbw_NbwIdeal : Prop :=
  True

def algebraic_NbwIdeal_NbwRefIdeal [hNbwIdeal : Cert.NbwIdeal.Facts] [hNbwRefIdeal : Cert.NbwRefIdeal.Facts] : Prop :=
  ∀ (m : (ℓ : Loc Cert.NbwIdeal.nD Cert.NbwIdeal.τ Cert.NbwIdeal.sig) → Buf (Elt Ideal) ℓ) (g : Dev Cert.NbwIdeal.nD → PrngReg)
    (m' : (ℓ : Loc Cert.NbwRefIdeal.nD Cert.NbwRefIdeal.τ Cert.NbwRefIdeal.sig) → Buf (Elt Ideal) ℓ) (g' : Dev Cert.NbwRefIdeal.nD → PrngReg), Pre_NbwIdeal m →
    (∀ c : Dev Cert.NbwIdeal.nD,
      m' ((c.tc : Thread Cert.NbwRefIdeal.nD Cert.NbwRefIdeal.τ).loc Cert.NbwRefIdeal.main_arg0) = m ((c.tc : Thread Cert.NbwIdeal.nD Cert.NbwIdeal.τ).loc Cert.NbwIdeal.main_arg0)
      ∧ m' ((c.tc : Thread Cert.NbwRefIdeal.nD Cert.NbwRefIdeal.τ).loc Cert.NbwRefIdeal.main_arg1) = m ((c.tc : Thread Cert.NbwIdeal.nD Cert.NbwIdeal.τ).loc Cert.NbwIdeal.main_arg1)
      ∧ m' ((c.tc : Thread Cert.NbwRefIdeal.nD Cert.NbwRefIdeal.τ).loc Cert.NbwRefIdeal.main_arg2) = m ((c.tc : Thread Cert.NbwIdeal.nD Cert.NbwIdeal.τ).loc Cert.NbwIdeal.main_arg2)
      ∧ m' ((c.tc : Thread Cert.NbwRefIdeal.nD Cert.NbwRefIdeal.τ).loc Cert.NbwRefIdeal.main_arg3) = m ((c.tc : Thread Cert.NbwIdeal.nD Cert.NbwIdeal.τ).loc Cert.NbwIdeal.main_arg3)
      ∧ m' ((c.tc : Thread Cert.NbwRefIdeal.nD Cert.NbwRefIdeal.τ).loc Cert.NbwRefIdeal.main_arg4) = m ((c.tc : Thread Cert.NbwIdeal.nD Cert.NbwIdeal.τ).loc Cert.NbwIdeal.main_arg4)) →
    ∃ (v0 : (c : Dev Cert.NbwIdeal.nD) → Buf (Elt Ideal) ((c.tc : Thread Cert.NbwIdeal.nD Cert.NbwIdeal.τ).loc Cert.NbwIdeal.main_v0_0)) (v1 : (c : Dev Cert.NbwIdeal.nD) → Buf (Elt Ideal) ((c.tc : Thread Cert.NbwIdeal.nD Cert.NbwIdeal.τ).loc Cert.NbwIdeal.main_v0_1)) (v2 : (c : Dev Cert.NbwIdeal.nD) → Buf (Elt Ideal) ((c.tc : Thread Cert.NbwIdeal.nD Cert.NbwIdeal.τ).loc Cert.NbwIdeal.main_v0_2)) (v3 : (c : Dev Cert.NbwIdeal.nD) → Buf (Elt Ideal) ((c.tc : Thread Cert.NbwIdeal.nD Cert.NbwIdeal.τ).loc Cert.NbwIdeal.main_v0_3)),
      θ_run (Cert.NbwIdeal.defs (F := Ideal)) (onTc (τ := Cert.NbwIdeal.τ) (Cert.NbwIdeal.main (F := Ideal))) ⟨m, fun _ => 0, g⟩ (fun r => ∀ c : Dev Cert.NbwIdeal.nD,
          r.2.mem ((c.tc : Thread Cert.NbwIdeal.nD Cert.NbwIdeal.τ).loc Cert.NbwIdeal.main_v0_0) = v0 c
          ∧ r.2.mem ((c.tc : Thread Cert.NbwIdeal.nD Cert.NbwIdeal.τ).loc Cert.NbwIdeal.main_v0_1) = v1 c
          ∧ r.2.mem ((c.tc : Thread Cert.NbwIdeal.nD Cert.NbwIdeal.τ).loc Cert.NbwIdeal.main_v0_2) = v2 c
          ∧ r.2.mem ((c.tc : Thread Cert.NbwIdeal.nD Cert.NbwIdeal.τ).loc Cert.NbwIdeal.main_v0_3) = v3 c
          ∧ r.2.mem ((c.tc : Thread Cert.NbwIdeal.nD Cert.NbwIdeal.τ).loc Cert.NbwIdeal.main_arg0) = m ((c.tc : Thread Cert.NbwIdeal.nD Cert.NbwIdeal.τ).loc Cert.NbwIdeal.main_arg0)
          ∧ r.2.mem ((c.tc : Thread Cert.NbwIdeal.nD Cert.NbwIdeal.τ).loc Cert.NbwIdeal.main_arg1) = m ((c.tc : Thread Cert.NbwIdeal.nD Cert.NbwIdeal.τ).loc Cert.NbwIdeal.main_arg1)
          ∧ r.2.mem ((c.tc : Thread Cert.NbwIdeal.nD Cert.NbwIdeal.τ).loc Cert.NbwIdeal.main_arg2) = m ((c.tc : Thread Cert.NbwIdeal.nD Cert.NbwIdeal.τ).loc Cert.NbwIdeal.main_arg2)
          ∧ r.2.mem ((c.tc : Thread Cert.NbwIdeal.nD Cert.NbwIdeal.τ).loc Cert.NbwIdeal.main_arg3) = m ((c.tc : Thread Cert.NbwIdeal.nD Cert.NbwIdeal.τ).loc Cert.NbwIdeal.main_arg3)
          ∧ r.2.mem ((c.tc : Thread Cert.NbwIdeal.nD Cert.NbwIdeal.τ).loc Cert.NbwIdeal.main_arg4) = m ((c.tc : Thread Cert.NbwIdeal.nD Cert.NbwIdeal.τ).loc Cert.NbwIdeal.main_arg4))
      ∧ θ_run (Cert.NbwRefIdeal.defs (F := Ideal)) (onTc (τ := Cert.NbwRefIdeal.τ) (Cert.NbwRefIdeal.main (F := Ideal))) ⟨m', fun _ => 0, g'⟩ (fun r => ∀ c : Dev Cert.NbwRefIdeal.nD,
          r.2.mem ((c.tc : Thread Cert.NbwRefIdeal.nD Cert.NbwRefIdeal.τ).loc Cert.NbwRefIdeal.main_v49) = v0 c
          ∧ r.2.mem ((c.tc : Thread Cert.NbwRefIdeal.nD Cert.NbwRefIdeal.τ).loc Cert.NbwRefIdeal.main_v24) = v1 c
          ∧ r.2.mem ((c.tc : Thread Cert.NbwRefIdeal.nD Cert.NbwRefIdeal.τ).loc Cert.NbwRefIdeal.main_v27) = v2 c
          ∧ r.2.mem ((c.tc : Thread Cert.NbwRefIdeal.nD Cert.NbwRefIdeal.τ).loc Cert.NbwRefIdeal.main_v32) = v3 c
          ∧ r.2.mem ((c.tc : Thread Cert.NbwRefIdeal.nD Cert.NbwRefIdeal.τ).loc Cert.NbwRefIdeal.main_arg0) = m' ((c.tc : Thread Cert.NbwRefIdeal.nD Cert.NbwRefIdeal.τ).loc Cert.NbwRefIdeal.main_arg0)
          ∧ r.2.mem ((c.tc : Thread Cert.NbwRefIdeal.nD Cert.NbwRefIdeal.τ).loc Cert.NbwRefIdeal.main_arg1) = m' ((c.tc : Thread Cert.NbwRefIdeal.nD Cert.NbwRefIdeal.τ).loc Cert.NbwRefIdeal.main_arg1)
          ∧ r.2.mem ((c.tc : Thread Cert.NbwRefIdeal.nD Cert.NbwRefIdeal.τ).loc Cert.NbwRefIdeal.main_arg2) = m' ((c.tc : Thread Cert.NbwRefIdeal.nD Cert.NbwRefIdeal.τ).loc Cert.NbwRefIdeal.main_arg2)
          ∧ r.2.mem ((c.tc : Thread Cert.NbwRefIdeal.nD Cert.NbwRefIdeal.τ).loc Cert.NbwRefIdeal.main_arg3) = m' ((c.tc : Thread Cert.NbwRefIdeal.nD Cert.NbwRefIdeal.τ).loc Cert.NbwRefIdeal.main_arg3)
          ∧ r.2.mem ((c.tc : Thread Cert.NbwRefIdeal.nD Cert.NbwRefIdeal.τ).loc Cert.NbwRefIdeal.main_arg4) = m' ((c.tc : Thread Cert.NbwRefIdeal.nD Cert.NbwRefIdeal.τ).loc Cert.NbwRefIdeal.main_arg4))

def preserves_Nb2_Nb2Ideal : Prop :=
  True

def algebraic_Nb2Ideal_Nb2RefIdeal [hNb2Ideal : Cert.Nb2Ideal.Facts] [hNb2RefIdeal : Cert.Nb2RefIdeal.Facts] : Prop :=
  ∀ (m : (ℓ : Loc Cert.Nb2Ideal.nD Cert.Nb2Ideal.τ Cert.Nb2Ideal.sig) → Buf (Elt Ideal) ℓ) (g : Dev Cert.Nb2Ideal.nD → PrngReg)
    (m' : (ℓ : Loc Cert.Nb2RefIdeal.nD Cert.Nb2RefIdeal.τ Cert.Nb2RefIdeal.sig) → Buf (Elt Ideal) ℓ) (g' : Dev Cert.Nb2RefIdeal.nD → PrngReg), Pre_Nb2Ideal m →
    (∀ c : Dev Cert.Nb2Ideal.nD,
      m' ((c.tc : Thread Cert.Nb2RefIdeal.nD Cert.Nb2RefIdeal.τ).loc Cert.Nb2RefIdeal.main_arg0) = m ((c.tc : Thread Cert.Nb2Ideal.nD Cert.Nb2Ideal.τ).loc Cert.Nb2Ideal.main_arg0)
      ∧ m' ((c.tc : Thread Cert.Nb2RefIdeal.nD Cert.Nb2RefIdeal.τ).loc Cert.Nb2RefIdeal.main_arg1) = m ((c.tc : Thread Cert.Nb2Ideal.nD Cert.Nb2Ideal.τ).loc Cert.Nb2Ideal.main_arg1)
      ∧ m' ((c.tc : Thread Cert.Nb2RefIdeal.nD Cert.Nb2RefIdeal.τ).loc Cert.Nb2RefIdeal.main_arg2) = m ((c.tc : Thread Cert.Nb2Ideal.nD Cert.Nb2Ideal.τ).loc Cert.Nb2Ideal.main_arg2)
      ∧ m' ((c.tc : Thread Cert.Nb2RefIdeal.nD Cert.Nb2RefIdeal.τ).loc Cert.Nb2RefIdeal.main_arg3) = m ((c.tc : Thread Cert.Nb2Ideal.nD Cert.Nb2Ideal.τ).loc Cert.Nb2Ideal.main_arg3)
      ∧ m' ((c.tc : Thread Cert.Nb2RefIdeal.nD Cert.Nb2RefIdeal.τ).loc Cert.Nb2RefIdeal.main_arg4) = m ((c.tc : Thread Cert.Nb2Ideal.nD Cert.Nb2Ideal.τ).loc Cert.Nb2Ideal.main_arg4)
      ∧ m' ((c.tc : Thread Cert.Nb2RefIdeal.nD Cert.Nb2RefIdeal.τ).loc Cert.Nb2RefIdeal.main_arg5) = m ((c.tc : Thread Cert.Nb2Ideal.nD Cert.Nb2Ideal.τ).loc Cert.Nb2Ideal.main_arg5)
      ∧ m' ((c.tc : Thread Cert.Nb2RefIdeal.nD Cert.Nb2RefIdeal.τ).loc Cert.Nb2RefIdeal.main_arg6) = m ((c.tc : Thread Cert.Nb2Ideal.nD Cert.Nb2Ideal.τ).loc Cert.Nb2Ideal.main_arg6)) →
    ∃ (v0 : (c : Dev Cert.Nb2Ideal.nD) → Buf (Elt Ideal) ((c.tc : Thread Cert.Nb2Ideal.nD Cert.Nb2Ideal.τ).loc Cert.Nb2Ideal.main_v0_0)) (v1 : (c : Dev Cert.Nb2Ideal.nD) → Buf (Elt Ideal) ((c.tc : Thread Cert.Nb2Ideal.nD Cert.Nb2Ideal.τ).loc Cert.Nb2Ideal.main_v0_1)) (v2 : (c : Dev Cert.Nb2Ideal.nD) → Buf (Elt Ideal) ((c.tc : Thread Cert.Nb2Ideal.nD Cert.Nb2Ideal.τ).loc Cert.Nb2Ideal.main_v0_2)) (v3 : (c : Dev Cert.Nb2Ideal.nD) → Buf (Elt Ideal) ((c.tc : Thread Cert.Nb2Ideal.nD Cert.Nb2Ideal.τ).loc Cert.Nb2Ideal.main_v0_3)) (v4 : (c : Dev Cert.Nb2Ideal.nD) → Buf (Elt Ideal) ((c.tc : Thread Cert.Nb2Ideal.nD Cert.Nb2Ideal.τ).loc Cert.Nb2Ideal.main_v0_4)) (v5 : (c : Dev Cert.Nb2Ideal.nD) → Buf (Elt Ideal) ((c.tc : Thread Cert.Nb2Ideal.nD Cert.Nb2Ideal.τ).loc Cert.Nb2Ideal.main_v0_5)),
      θ_run (Cert.Nb2Ideal.defs (F := Ideal)) (onTc (τ := Cert.Nb2Ideal.τ) (Cert.Nb2Ideal.main (F := Ideal))) ⟨m, fun _ => 0, g⟩ (fun r => ∀ c : Dev Cert.Nb2Ideal.nD,
          r.2.mem ((c.tc : Thread Cert.Nb2Ideal.nD Cert.Nb2Ideal.τ).loc Cert.Nb2Ideal.main_v0_0) = v0 c
          ∧ r.2.mem ((c.tc : Thread Cert.Nb2Ideal.nD Cert.Nb2Ideal.τ).loc Cert.Nb2Ideal.main_v0_1) = v1 c
          ∧ r.2.mem ((c.tc : Thread Cert.Nb2Ideal.nD Cert.Nb2Ideal.τ).loc Cert.Nb2Ideal.main_v0_2) = v2 c
          ∧ r.2.mem ((c.tc : Thread Cert.Nb2Ideal.nD Cert.Nb2Ideal.τ).loc Cert.Nb2Ideal.main_v0_3) = v3 c
          ∧ r.2.mem ((c.tc : Thread Cert.Nb2Ideal.nD Cert.Nb2Ideal.τ).loc Cert.Nb2Ideal.main_v0_4) = v4 c
          ∧ r.2.mem ((c.tc : Thread Cert.Nb2Ideal.nD Cert.Nb2Ideal.τ).loc Cert.Nb2Ideal.main_v0_5) = v5 c
          ∧ r.2.mem ((c.tc : Thread Cert.Nb2Ideal.nD Cert.Nb2Ideal.τ).loc Cert.Nb2Ideal.main_arg0) = m ((c.tc : Thread Cert.Nb2Ideal.nD Cert.Nb2Ideal.τ).loc Cert.Nb2Ideal.main_arg0)
          ∧ r.2.mem ((c.tc : Thread Cert.Nb2Ideal.nD Cert.Nb2Ideal.τ).loc Cert.Nb2Ideal.main_arg1) = m ((c.tc : Thread Cert.Nb2Ideal.nD Cert.Nb2Ideal.τ).loc Cert.Nb2Ideal.main_arg1)
          ∧ r.2.mem ((c.tc : Thread Cert.Nb2Ideal.nD Cert.Nb2Ideal.τ).loc Cert.Nb2Ideal.main_arg2) = m ((c.tc : Thread Cert.Nb2Ideal.nD Cert.Nb2Ideal.τ).loc Cert.Nb2Ideal.main_arg2)
          ∧ r.2.mem ((c.tc : Thread Cert.Nb2Ideal.nD Cert.Nb2Ideal.τ).loc Cert.Nb2Ideal.main_arg3) = m ((c.tc : Thread Cert.Nb2Ideal.nD Cert.Nb2Ideal.τ).loc Cert.Nb2Ideal.main_arg3)
          ∧ r.2.mem ((c.tc : Thread Cert.Nb2Ideal.nD Cert.Nb2Ideal.τ).loc Cert.Nb2Ideal.main_arg4) = m ((c.tc : Thread Cert.Nb2Ideal.nD Cert.Nb2Ideal.τ).loc Cert.Nb2Ideal.main_arg4)
          ∧ r.2.mem ((c.tc : Thread Cert.Nb2Ideal.nD Cert.Nb2Ideal.τ).loc Cert.Nb2Ideal.main_arg5) = m ((c.tc : Thread Cert.Nb2Ideal.nD Cert.Nb2Ideal.τ).loc Cert.Nb2Ideal.main_arg5)
          ∧ r.2.mem ((c.tc : Thread Cert.Nb2Ideal.nD Cert.Nb2Ideal.τ).loc Cert.Nb2Ideal.main_arg6) = m ((c.tc : Thread Cert.Nb2Ideal.nD Cert.Nb2Ideal.τ).loc Cert.Nb2Ideal.main_arg6))
      ∧ θ_run (Cert.Nb2RefIdeal.defs (F := Ideal)) (onTc (τ := Cert.Nb2RefIdeal.τ) (Cert.Nb2RefIdeal.main (F := Ideal))) ⟨m', fun _ => 0, g'⟩ (fun r => ∀ c : Dev Cert.Nb2RefIdeal.nD,
          r.2.mem ((c.tc : Thread Cert.Nb2RefIdeal.nD Cert.Nb2RefIdeal.τ).loc Cert.Nb2RefIdeal.main_v49) = v0 c
          ∧ r.2.mem ((c.tc : Thread Cert.Nb2RefIdeal.nD Cert.Nb2RefIdeal.τ).loc Cert.Nb2RefIdeal.main_v57) = v1 c
          ∧ r.2.mem ((c.tc : Thread Cert.Nb2RefIdeal.nD Cert.Nb2RefIdeal.τ).loc Cert.Nb2RefIdeal.main_v24) = v2 c
          ∧ r.2.mem ((c.tc : Thread Cert.Nb2RefIdeal.nD Cert.Nb2RefIdeal.τ).loc Cert.Nb2RefIdeal.main_v27) = v3 c
          ∧ r.2.mem ((c.tc : Thread Cert.Nb2RefIdeal.nD Cert.Nb2RefIdeal.τ).loc Cert.Nb2RefIdeal.main_v32) = v4 c
          ∧ r.2.mem ((c.tc : Thread Cert.Nb2RefIdeal.nD Cert.Nb2RefIdeal.τ).loc Cert.Nb2RefIdeal.main_v56) = v5 c
          ∧ r.2.mem ((c.tc : Thread Cert.Nb2RefIdeal.nD Cert.Nb2RefIdeal.τ).loc Cert.Nb2RefIdeal.main_arg0) = m' ((c.tc : Thread Cert.Nb2RefIdeal.nD Cert.Nb2RefIdeal.τ).loc Cert.Nb2RefIdeal.main_arg0)
          ∧ r.2.mem ((c.tc : Thread Cert.Nb2RefIdeal.nD Cert.Nb2RefIdeal.τ).loc Cert.Nb2RefIdeal.main_arg1) = m' ((c.tc : Thread Cert.Nb2RefIdeal.nD Cert.Nb2RefIdeal.τ).loc Cert.Nb2RefIdeal.main_arg1)
          ∧ r.2.mem ((c.tc : Thread Cert.Nb2RefIdeal.nD Cert.Nb2RefIdeal.τ).loc Cert.Nb2RefIdeal.main_arg2) = m' ((c.tc : Thread Cert.Nb2RefIdeal.nD Cert.Nb2RefIdeal.τ).loc Cert.Nb2RefIdeal.main_arg2)
          ∧ r.2.mem ((c.tc : Thread Cert.Nb2RefIdeal.nD Cert.Nb2RefIdeal.τ).loc Cert.Nb2RefIdeal.main_arg3) = m' ((c.tc : Thread Cert.Nb2RefIdeal.nD Cert.Nb2RefIdeal.τ).loc Cert.Nb2RefIdeal.main_arg3)
          ∧ r.2.mem ((c.tc : Thread Cert.Nb2RefIdeal.nD Cert.Nb2RefIdeal.τ).loc Cert.Nb2RefIdeal.main_arg4) = m' ((c.tc : Thread Cert.Nb2RefIdeal.nD Cert.Nb2RefIdeal.τ).loc Cert.Nb2RefIdeal.main_arg4)
          ∧ r.2.mem ((c.tc : Thread Cert.Nb2RefIdeal.nD Cert.Nb2RefIdeal.τ).loc Cert.Nb2RefIdeal.main_arg5) = m' ((c.tc : Thread Cert.Nb2RefIdeal.nD Cert.Nb2RefIdeal.τ).loc Cert.Nb2RefIdeal.main_arg5)
          ∧ r.2.mem ((c.tc : Thread Cert.Nb2RefIdeal.nD Cert.Nb2RefIdeal.τ).loc Cert.Nb2RefIdeal.main_arg6) = m' ((c.tc : Thread Cert.Nb2RefIdeal.nD Cert.Nb2RefIdeal.τ).loc Cert.Nb2RefIdeal.main_arg6))

def preserves_Fls_FlsIdeal : Prop :=
  True

def algebraic_FlsIdeal_FlsRefIdeal [hFlsIdeal : Cert.FlsIdeal.Facts] [hFlsRefIdeal : Cert.FlsRefIdeal.Facts] : Prop :=
  ∀ (m : (ℓ : Loc Cert.FlsIdeal.nD Cert.FlsIdeal.τ Cert.FlsIdeal.sig) → Buf (Elt Ideal) ℓ) (g : Dev Cert.FlsIdeal.nD → PrngReg)
    (m' : (ℓ : Loc Cert.FlsRefIdeal.nD Cert.FlsRefIdeal.τ Cert.FlsRefIdeal.sig) → Buf (Elt Ideal) ℓ) (g' : Dev Cert.FlsRefIdeal.nD → PrngReg), Pre_FlsIdeal m →
    (∀ c : Dev Cert.FlsIdeal.nD,
      m' ((c.tc : Thread Cert.FlsRefIdeal.nD Cert.FlsRefIdeal.τ).loc Cert.FlsRefIdeal.main_arg0) = m ((c.tc : Thread Cert.FlsIdeal.nD Cert.FlsIdeal.τ).loc Cert.FlsIdeal.main_arg0)
      ∧ m' ((c.tc : Thread Cert.FlsRefIdeal.nD Cert.FlsRefIdeal.τ).loc Cert.FlsRefIdeal.main_arg1) = m ((c.tc : Thread Cert.FlsIdeal.nD Cert.FlsIdeal.τ).loc Cert.FlsIdeal.main_arg1)
      ∧ m' ((c.tc : Thread Cert.FlsRefIdeal.nD Cert.FlsRefIdeal.τ).loc Cert.FlsRefIdeal.main_arg2) = m ((c.tc : Thread Cert.FlsIdeal.nD Cert.FlsIdeal.τ).loc Cert.FlsIdeal.main_arg2)
      ∧ m' ((c.tc : Thread Cert.FlsRefIdeal.nD Cert.FlsRefIdeal.τ).loc Cert.FlsRefIdeal.main_arg3) = m ((c.tc : Thread Cert.FlsIdeal.nD Cert.FlsIdeal.τ).loc Cert.FlsIdeal.main_arg3)
      ∧ m' ((c.tc : Thread Cert.FlsRefIdeal.nD Cert.FlsRefIdeal.τ).loc Cert.FlsRefIdeal.main_arg4) = m ((c.tc : Thread Cert.FlsIdeal.nD Cert.FlsIdeal.τ).loc Cert.FlsIdeal.main_arg4)) →
    ∃ (v0 : (c : Dev Cert.FlsIdeal.nD) → Buf (Elt Ideal) ((c.tc : Thread Cert.FlsIdeal.nD Cert.FlsIdeal.τ).loc Cert.FlsIdeal.main_v0_0)) (v1 : (c : Dev Cert.FlsIdeal.nD) → Buf (Elt Ideal) ((c.tc : Thread Cert.FlsIdeal.nD Cert.FlsIdeal.τ).loc Cert.FlsIdeal.main_v0_1)) (v2 : (c : Dev Cert.FlsIdeal.nD) → Buf (Elt Ideal) ((c.tc : Thread Cert.FlsIdeal.nD Cert.FlsIdeal.τ).loc Cert.FlsIdeal.main_v0_2)) (v3 : (c : Dev Cert.FlsIdeal.nD) → Buf (Elt Ideal) ((c.tc : Thread Cert.FlsIdeal.nD Cert.FlsIdeal.τ).loc Cert.FlsIdeal.main_v0_3)) (v4 : (c : Dev Cert.FlsIdeal.nD) → Buf (Elt Ideal) ((c.tc : Thread Cert.FlsIdeal.nD Cert.FlsIdeal.τ).loc Cert.FlsIdeal.main_v0_4)),
      θ_run (Cert.FlsIdeal.defs (F := Ideal)) (onTc (τ := Cert.FlsIdeal.τ) (Cert.FlsIdeal.main (F := Ideal))) ⟨m, fun _ => 0, g⟩ (fun r => ∀ c : Dev Cert.FlsIdeal.nD,
          r.2.mem ((c.tc : Thread Cert.FlsIdeal.nD Cert.FlsIdeal.τ).loc Cert.FlsIdeal.main_v0_0) = v0 c
          ∧ r.2.mem ((c.tc : Thread Cert.FlsIdeal.nD Cert.FlsIdeal.τ).loc Cert.FlsIdeal.main_v0_1) = v1 c
          ∧ r.2.mem ((c.tc : Thread Cert.FlsIdeal.nD Cert.FlsIdeal.τ).loc Cert.FlsIdeal.main_v0_2) = v2 c
          ∧ r.2.mem ((c.tc : Thread Cert.FlsIdeal.nD Cert.FlsIdeal.τ).loc Cert.FlsIdeal.main_v0_3) = v3 c
          ∧ r.2.mem ((c.tc : Thread Cert.FlsIdeal.nD Cert.FlsIdeal.τ).loc Cert.FlsIdeal.main_v0_4) = v4 c
          ∧ r.2.mem ((c.tc : Thread Cert.FlsIdeal.nD Cert.FlsIdeal.τ).loc Cert.FlsIdeal.main_arg0) = m ((c.tc : Thread Cert.FlsIdeal.nD Cert.FlsIdeal.τ).loc Cert.FlsIdeal.main_arg0)
          ∧ r.2.mem ((c.tc : Thread Cert.FlsIdeal.nD Cert.FlsIdeal.τ).loc Cert.FlsIdeal.main_arg1) = m ((c.tc : Thread Cert.FlsIdeal.nD Cert.FlsIdeal.τ).loc Cert.FlsIdeal.main_arg1)
          ∧ r.2.mem ((c.tc : Thread Cert.FlsIdeal.nD Cert.FlsIdeal.τ).loc Cert.FlsIdeal.main_arg2) = m ((c.tc : Thread Cert.FlsIdeal.nD Cert.FlsIdeal.τ).loc Cert.FlsIdeal.main_arg2)
          ∧ r.2.mem ((c.tc : Thread Cert.FlsIdeal.nD Cert.FlsIdeal.τ).loc Cert.FlsIdeal.main_arg3) = m ((c.tc : Thread Cert.FlsIdeal.nD Cert.FlsIdeal.τ).loc Cert.FlsIdeal.main_arg3)
          ∧ r.2.mem ((c.tc : Thread Cert.FlsIdeal.nD Cert.FlsIdeal.τ).loc Cert.FlsIdeal.main_arg4) = m ((c.tc : Thread Cert.FlsIdeal.nD Cert.FlsIdeal.τ).loc Cert.FlsIdeal.main_arg4))
      ∧ θ_run (Cert.FlsRefIdeal.defs (F := Ideal)) (onTc (τ := Cert.FlsRefIdeal.τ) (Cert.FlsRefIdeal.main (F := Ideal))) ⟨m', fun _ => 0, g'⟩ (fun r => ∀ c : Dev Cert.FlsRefIdeal.nD,
          r.2.mem ((c.tc : Thread Cert.FlsRefIdeal.nD Cert.FlsRefIdeal.τ).loc Cert.FlsRefIdeal.main_v52) = v0 c
          ∧ r.2.mem ((c.tc : Thread Cert.FlsRefIdeal.nD Cert.FlsRefIdeal.τ).loc Cert.FlsRefIdeal.main_v58) = v1 c
          ∧ r.2.mem ((c.tc : Thread Cert.FlsRefIdeal.nD Cert.FlsRefIdeal.τ).loc Cert.FlsRefIdeal.main_v59) = v2 c
          ∧ r.2.mem ((c.tc : Thread Cert.FlsRefIdeal.nD Cert.FlsRefIdeal.τ).loc Cert.FlsRefIdeal.main_v36) = v3 c
          ∧ r.2.mem ((c.tc : Thread Cert.FlsRefIdeal.nD Cert.FlsRefIdeal.τ).loc Cert.FlsRefIdeal.main_v57) = v4 c
          ∧ r.2.mem ((c.tc : Thread Cert.FlsRefIdeal.nD Cert.FlsRefIdeal.τ).loc Cert.FlsRefIdeal.main_arg0) = m' ((c.tc : Thread Cert.FlsRefIdeal.nD Cert.FlsRefIdeal.τ).loc Cert.FlsRefIdeal.main_arg0)
          ∧ r.2.mem ((c.tc : Thread Cert.FlsRefIdeal.nD Cert.FlsRefIdeal.τ).loc Cert.FlsRefIdeal.main_arg1) = m' ((c.tc : Thread Cert.FlsRefIdeal.nD Cert.FlsRefIdeal.τ).loc Cert.FlsRefIdeal.main_arg1)
          ∧ r.2.mem ((c.tc : Thread Cert.FlsRefIdeal.nD Cert.FlsRefIdeal.τ).loc Cert.FlsRefIdeal.main_arg2) = m' ((c.tc : Thread Cert.FlsRefIdeal.nD Cert.FlsRefIdeal.τ).loc Cert.FlsRefIdeal.main_arg2)
          ∧ r.2.mem ((c.tc : Thread Cert.FlsRefIdeal.nD Cert.FlsRefIdeal.τ).loc Cert.FlsRefIdeal.main_arg3) = m' ((c.tc : Thread Cert.FlsRefIdeal.nD Cert.FlsRefIdeal.τ).loc Cert.FlsRefIdeal.main_arg3)
          ∧ r.2.mem ((c.tc : Thread Cert.FlsRefIdeal.nD Cert.FlsRefIdeal.τ).loc Cert.FlsRefIdeal.main_arg4) = m' ((c.tc : Thread Cert.FlsRefIdeal.nD Cert.FlsRefIdeal.τ).loc Cert.FlsRefIdeal.main_arg4))

def preserves_Obw_ObwIdeal : Prop :=
  True

def algebraic_ObwIdeal_ObwRefIdeal [hObwIdeal : Cert.ObwIdeal.Facts] [hObwRefIdeal : Cert.ObwRefIdeal.Facts] : Prop :=
  ∀ (m : (ℓ : Loc Cert.ObwIdeal.nD Cert.ObwIdeal.τ Cert.ObwIdeal.sig) → Buf (Elt Ideal) ℓ) (g : Dev Cert.ObwIdeal.nD → PrngReg)
    (m' : (ℓ : Loc Cert.ObwRefIdeal.nD Cert.ObwRefIdeal.τ Cert.ObwRefIdeal.sig) → Buf (Elt Ideal) ℓ) (g' : Dev Cert.ObwRefIdeal.nD → PrngReg), Pre_ObwIdeal m →
    (∀ c : Dev Cert.ObwIdeal.nD,
      m' ((c.tc : Thread Cert.ObwRefIdeal.nD Cert.ObwRefIdeal.τ).loc Cert.ObwRefIdeal.main_arg0) = m ((c.tc : Thread Cert.ObwIdeal.nD Cert.ObwIdeal.τ).loc Cert.ObwIdeal.main_arg0)
      ∧ m' ((c.tc : Thread Cert.ObwRefIdeal.nD Cert.ObwRefIdeal.τ).loc Cert.ObwRefIdeal.main_arg1) = m ((c.tc : Thread Cert.ObwIdeal.nD Cert.ObwIdeal.τ).loc Cert.ObwIdeal.main_arg1)
      ∧ m' ((c.tc : Thread Cert.ObwRefIdeal.nD Cert.ObwRefIdeal.τ).loc Cert.ObwRefIdeal.main_arg2) = m ((c.tc : Thread Cert.ObwIdeal.nD Cert.ObwIdeal.τ).loc Cert.ObwIdeal.main_arg2)
      ∧ m' ((c.tc : Thread Cert.ObwRefIdeal.nD Cert.ObwRefIdeal.τ).loc Cert.ObwRefIdeal.main_arg3) = m ((c.tc : Thread Cert.ObwIdeal.nD Cert.ObwIdeal.τ).loc Cert.ObwIdeal.main_arg3)
      ∧ m' ((c.tc : Thread Cert.ObwRefIdeal.nD Cert.ObwRefIdeal.τ).loc Cert.ObwRefIdeal.main_arg4) = m ((c.tc : Thread Cert.ObwIdeal.nD Cert.ObwIdeal.τ).loc Cert.ObwIdeal.main_arg4)
      ∧ m' ((c.tc : Thread Cert.ObwRefIdeal.nD Cert.ObwRefIdeal.τ).loc Cert.ObwRefIdeal.main_arg5) = m ((c.tc : Thread Cert.ObwIdeal.nD Cert.ObwIdeal.τ).loc Cert.ObwIdeal.main_arg5)) →
    ∃ (v0 : (c : Dev Cert.ObwIdeal.nD) → Buf (Elt Ideal) ((c.tc : Thread Cert.ObwIdeal.nD Cert.ObwIdeal.τ).loc Cert.ObwIdeal.main_v0_0)) (v1 : (c : Dev Cert.ObwIdeal.nD) → Buf (Elt Ideal) ((c.tc : Thread Cert.ObwIdeal.nD Cert.ObwIdeal.τ).loc Cert.ObwIdeal.main_v0_1)) (v2 : (c : Dev Cert.ObwIdeal.nD) → Buf (Elt Ideal) ((c.tc : Thread Cert.ObwIdeal.nD Cert.ObwIdeal.τ).loc Cert.ObwIdeal.main_v0_2)) (v3 : (c : Dev Cert.ObwIdeal.nD) → Buf (Elt Ideal) ((c.tc : Thread Cert.ObwIdeal.nD Cert.ObwIdeal.τ).loc Cert.ObwIdeal.main_v0_3)) (v4 : (c : Dev Cert.ObwIdeal.nD) → Buf (Elt Ideal) ((c.tc : Thread Cert.ObwIdeal.nD Cert.ObwIdeal.τ).loc Cert.ObwIdeal.main_v0_4)) (v5 : (c : Dev Cert.ObwIdeal.nD) → Buf (Elt Ideal) ((c.tc : Thread Cert.ObwIdeal.nD Cert.ObwIdeal.τ).loc Cert.ObwIdeal.main_v0_5)),
      θ_run (Cert.ObwIdeal.defs (F := Ideal)) (onTc (τ := Cert.ObwIdeal.τ) (Cert.ObwIdeal.main (F := Ideal))) ⟨m, fun _ => 0, g⟩ (fun r => ∀ c : Dev Cert.ObwIdeal.nD,
          r.2.mem ((c.tc : Thread Cert.ObwIdeal.nD Cert.ObwIdeal.τ).loc Cert.ObwIdeal.main_v0_0) = v0 c
          ∧ r.2.mem ((c.tc : Thread Cert.ObwIdeal.nD Cert.ObwIdeal.τ).loc Cert.ObwIdeal.main_v0_1) = v1 c
          ∧ r.2.mem ((c.tc : Thread Cert.ObwIdeal.nD Cert.ObwIdeal.τ).loc Cert.ObwIdeal.main_v0_2) = v2 c
          ∧ r.2.mem ((c.tc : Thread Cert.ObwIdeal.nD Cert.ObwIdeal.τ).loc Cert.ObwIdeal.main_v0_3) = v3 c
          ∧ r.2.mem ((c.tc : Thread Cert.ObwIdeal.nD Cert.ObwIdeal.τ).loc Cert.ObwIdeal.main_v0_4) = v4 c
          ∧ r.2.mem ((c.tc : Thread Cert.ObwIdeal.nD Cert.ObwIdeal.τ).loc Cert.ObwIdeal.main_v0_5) = v5 c
          ∧ r.2.mem ((c.tc : Thread Cert.ObwIdeal.nD Cert.ObwIdeal.τ).loc Cert.ObwIdeal.main_arg0) = m ((c.tc : Thread Cert.ObwIdeal.nD Cert.ObwIdeal.τ).loc Cert.ObwIdeal.main_arg0)
          ∧ r.2.mem ((c.tc : Thread Cert.ObwIdeal.nD Cert.ObwIdeal.τ).loc Cert.ObwIdeal.main_arg1) = m ((c.tc : Thread Cert.ObwIdeal.nD Cert.ObwIdeal.τ).loc Cert.ObwIdeal.main_arg1)
          ∧ r.2.mem ((c.tc : Thread Cert.ObwIdeal.nD Cert.ObwIdeal.τ).loc Cert.ObwIdeal.main_arg2) = m ((c.tc : Thread Cert.ObwIdeal.nD Cert.ObwIdeal.τ).loc Cert.ObwIdeal.main_arg2)
          ∧ r.2.mem ((c.tc : Thread Cert.ObwIdeal.nD Cert.ObwIdeal.τ).loc Cert.ObwIdeal.main_arg3) = m ((c.tc : Thread Cert.ObwIdeal.nD Cert.ObwIdeal.τ).loc Cert.ObwIdeal.main_arg3)
          ∧ r.2.mem ((c.tc : Thread Cert.ObwIdeal.nD Cert.ObwIdeal.τ).loc Cert.ObwIdeal.main_arg4) = m ((c.tc : Thread Cert.ObwIdeal.nD Cert.ObwIdeal.τ).loc Cert.ObwIdeal.main_arg4)
          ∧ r.2.mem ((c.tc : Thread Cert.ObwIdeal.nD Cert.ObwIdeal.τ).loc Cert.ObwIdeal.main_arg5) = m ((c.tc : Thread Cert.ObwIdeal.nD Cert.ObwIdeal.τ).loc Cert.ObwIdeal.main_arg5))
      ∧ θ_run (Cert.ObwRefIdeal.defs (F := Ideal)) (onTc (τ := Cert.ObwRefIdeal.τ) (Cert.ObwRefIdeal.main (F := Ideal))) ⟨m', fun _ => 0, g'⟩ (fun r => ∀ c : Dev Cert.ObwRefIdeal.nD,
          r.2.mem ((c.tc : Thread Cert.ObwRefIdeal.nD Cert.ObwRefIdeal.τ).loc Cert.ObwRefIdeal.main_v48) = v0 c
          ∧ r.2.mem ((c.tc : Thread Cert.ObwRefIdeal.nD Cert.ObwRefIdeal.τ).loc Cert.ObwRefIdeal.main_v49) = v1 c
          ∧ r.2.mem ((c.tc : Thread Cert.ObwRefIdeal.nD Cert.ObwRefIdeal.τ).loc Cert.ObwRefIdeal.main_v50) = v2 c
          ∧ r.2.mem ((c.tc : Thread Cert.ObwRefIdeal.nD Cert.ObwRefIdeal.τ).loc Cert.ObwRefIdeal.main_v51) = v3 c
          ∧ r.2.mem ((c.tc : Thread Cert.ObwRefIdeal.nD Cert.ObwRefIdeal.τ).loc Cert.ObwRefIdeal.main_v47) = v4 c
          ∧ r.2.mem ((c.tc : Thread Cert.ObwRefIdeal.nD Cert.ObwRefIdeal.τ).loc Cert.ObwRefIdeal.main_v42) = v5 c
          ∧ r.2.mem ((c.tc : Thread Cert.ObwRefIdeal.nD Cert.ObwRefIdeal.τ).loc Cert.ObwRefIdeal.main_arg0) = m' ((c.tc : Thread Cert.ObwRefIdeal.nD Cert.ObwRefIdeal.τ).loc Cert.ObwRefIdeal.main_arg0)
          ∧ r.2.mem ((c.tc : Thread Cert.ObwRefIdeal.nD Cert.ObwRefIdeal.τ).loc Cert.ObwRefIdeal.main_arg1) = m' ((c.tc : Thread Cert.ObwRefIdeal.nD Cert.ObwRefIdeal.τ).loc Cert.ObwRefIdeal.main_arg1)
          ∧ r.2.mem ((c.tc : Thread Cert.ObwRefIdeal.nD Cert.ObwRefIdeal.τ).loc Cert.ObwRefIdeal.main_arg2) = m' ((c.tc : Thread Cert.ObwRefIdeal.nD Cert.ObwRefIdeal.τ).loc Cert.ObwRefIdeal.main_arg2)
          ∧ r.2.mem ((c.tc : Thread Cert.ObwRefIdeal.nD Cert.ObwRefIdeal.τ).loc Cert.ObwRefIdeal.main_arg3) = m' ((c.tc : Thread Cert.ObwRefIdeal.nD Cert.ObwRefIdeal.τ).loc Cert.ObwRefIdeal.main_arg3)
          ∧ r.2.mem ((c.tc : Thread Cert.ObwRefIdeal.nD Cert.ObwRefIdeal.τ).loc Cert.ObwRefIdeal.main_arg4) = m' ((c.tc : Thread Cert.ObwRefIdeal.nD Cert.ObwRefIdeal.τ).loc Cert.ObwRefIdeal.main_arg4)
          ∧ r.2.mem ((c.tc : Thread Cert.ObwRefIdeal.nD Cert.ObwRefIdeal.τ).loc Cert.ObwRefIdeal.main_arg5) = m' ((c.tc : Thread Cert.ObwRefIdeal.nD Cert.ObwRefIdeal.τ).loc Cert.ObwRefIdeal.main_arg5))

def preserves_Gfw_GfwIdeal : Prop :=
  IdealRules.named_const.Statement Cert.GfwIdeal.κ "gelu" .f32 0x3D372713#32 ((8943 / 200000 : ℝ) : EReal)

def algebraic_GfwIdeal_GfwRefIdeal [hGfwIdeal : Cert.GfwIdeal.Facts] [hGfwRefIdeal : Cert.GfwRefIdeal.Facts] : Prop :=
  ∀ (m : (ℓ : Loc Cert.GfwIdeal.nD Cert.GfwIdeal.τ Cert.GfwIdeal.sig) → Buf (Elt Ideal) ℓ) (g : Dev Cert.GfwIdeal.nD → PrngReg)
    (m' : (ℓ : Loc Cert.GfwRefIdeal.nD Cert.GfwRefIdeal.τ Cert.GfwRefIdeal.sig) → Buf (Elt Ideal) ℓ) (g' : Dev Cert.GfwRefIdeal.nD → PrngReg), Pre_GfwIdeal m →
    (∀ c : Dev Cert.GfwIdeal.nD,
      m' ((c.tc : Thread Cert.GfwRefIdeal.nD Cert.GfwRefIdeal.τ).loc Cert.GfwRefIdeal.main_arg0) = m ((c.tc : Thread Cert.GfwIdeal.nD Cert.GfwIdeal.τ).loc Cert.GfwIdeal.main_arg0)
      ∧ m' ((c.tc : Thread Cert.GfwRefIdeal.nD Cert.GfwRefIdeal.τ).loc Cert.GfwRefIdeal.main_arg1) = m ((c.tc : Thread Cert.GfwIdeal.nD Cert.GfwIdeal.τ).loc Cert.GfwIdeal.main_arg1)
      ∧ m' ((c.tc : Thread Cert.GfwRefIdeal.nD Cert.GfwRefIdeal.τ).loc Cert.GfwRefIdeal.main_arg2) = m ((c.tc : Thread Cert.GfwIdeal.nD Cert.GfwIdeal.τ).loc Cert.GfwIdeal.main_arg2)
      ∧ m' ((c.tc : Thread Cert.GfwRefIdeal.nD Cert.GfwRefIdeal.τ).loc Cert.GfwRefIdeal.main_arg3) = m ((c.tc : Thread Cert.GfwIdeal.nD Cert.GfwIdeal.τ).loc Cert.GfwIdeal.main_arg3)
      ∧ m' ((c.tc : Thread Cert.GfwRefIdeal.nD Cert.GfwRefIdeal.τ).loc Cert.GfwRefIdeal.main_arg4) = m ((c.tc : Thread Cert.GfwIdeal.nD Cert.GfwIdeal.τ).loc Cert.GfwIdeal.main_arg4)) →
    ∃ (v0 : (c : Dev Cert.GfwIdeal.nD) → Buf (Elt Ideal) ((c.tc : Thread Cert.GfwIdeal.nD Cert.GfwIdeal.τ).loc Cert.GfwIdeal.main_v4)),
      θ_run (Cert.GfwIdeal.defs (F := Ideal)) (onTc (τ := Cert.GfwIdeal.τ) (Cert.GfwIdeal.main (F := Ideal))) ⟨m, fun _ => 0, g⟩ (fun r => ∀ c : Dev Cert.GfwIdeal.nD,
          r.2.mem ((c.tc : Thread Cert.GfwIdeal.nD Cert.GfwIdeal.τ).loc Cert.GfwIdeal.main_v4) = v0 c
          ∧ r.2.mem ((c.tc : Thread Cert.GfwIdeal.nD Cert.GfwIdeal.τ).loc Cert.GfwIdeal.main_arg0) = m ((c.tc : Thread Cert.GfwIdeal.nD Cert.GfwIdeal.τ).loc Cert.GfwIdeal.main_arg0)
          ∧ r.2.mem ((c.tc : Thread Cert.GfwIdeal.nD Cert.GfwIdeal.τ).loc Cert.GfwIdeal.main_arg1) = m ((c.tc : Thread Cert.GfwIdeal.nD Cert.GfwIdeal.τ).loc Cert.GfwIdeal.main_arg1)
          ∧ r.2.mem ((c.tc : Thread Cert.GfwIdeal.nD Cert.GfwIdeal.τ).loc Cert.GfwIdeal.main_arg2) = m ((c.tc : Thread Cert.GfwIdeal.nD Cert.GfwIdeal.τ).loc Cert.GfwIdeal.main_arg2)
          ∧ r.2.mem ((c.tc : Thread Cert.GfwIdeal.nD Cert.GfwIdeal.τ).loc Cert.GfwIdeal.main_arg3) = m ((c.tc : Thread Cert.GfwIdeal.nD Cert.GfwIdeal.τ).loc Cert.GfwIdeal.main_arg3)
          ∧ r.2.mem ((c.tc : Thread Cert.GfwIdeal.nD Cert.GfwIdeal.τ).loc Cert.GfwIdeal.main_arg4) = m ((c.tc : Thread Cert.GfwIdeal.nD Cert.GfwIdeal.τ).loc Cert.GfwIdeal.main_arg4))
      ∧ θ_run (Cert.GfwRefIdeal.defs (F := Ideal)) (onTc (τ := Cert.GfwRefIdeal.τ) (Cert.GfwRefIdeal.main (F := Ideal))) ⟨m', fun _ => 0, g'⟩ (fun r => ∀ c : Dev Cert.GfwRefIdeal.nD,
          r.2.mem ((c.tc : Thread Cert.GfwRefIdeal.nD Cert.GfwRefIdeal.τ).loc Cert.GfwRefIdeal.main_v73) = v0 c
          ∧ r.2.mem ((c.tc : Thread Cert.GfwRefIdeal.nD Cert.GfwRefIdeal.τ).loc Cert.GfwRefIdeal.main_arg0) = m' ((c.tc : Thread Cert.GfwRefIdeal.nD Cert.GfwRefIdeal.τ).loc Cert.GfwRefIdeal.main_arg0)
          ∧ r.2.mem ((c.tc : Thread Cert.GfwRefIdeal.nD Cert.GfwRefIdeal.τ).loc Cert.GfwRefIdeal.main_arg1) = m' ((c.tc : Thread Cert.GfwRefIdeal.nD Cert.GfwRefIdeal.τ).loc Cert.GfwRefIdeal.main_arg1)
          ∧ r.2.mem ((c.tc : Thread Cert.GfwRefIdeal.nD Cert.GfwRefIdeal.τ).loc Cert.GfwRefIdeal.main_arg2) = m' ((c.tc : Thread Cert.GfwRefIdeal.nD Cert.GfwRefIdeal.τ).loc Cert.GfwRefIdeal.main_arg2)
          ∧ r.2.mem ((c.tc : Thread Cert.GfwRefIdeal.nD Cert.GfwRefIdeal.τ).loc Cert.GfwRefIdeal.main_arg3) = m' ((c.tc : Thread Cert.GfwRefIdeal.nD Cert.GfwRefIdeal.τ).loc Cert.GfwRefIdeal.main_arg3)
          ∧ r.2.mem ((c.tc : Thread Cert.GfwRefIdeal.nD Cert.GfwRefIdeal.τ).loc Cert.GfwRefIdeal.main_arg4) = m' ((c.tc : Thread Cert.GfwRefIdeal.nD Cert.GfwRefIdeal.τ).loc Cert.GfwRefIdeal.main_arg4))

def Claim : Prop :=
  ∃ (hKernel : Cert.Kernel.Facts) (hKernelIdeal : Cert.KernelIdeal.Facts) (hReferenceIdeal : Cert.ReferenceIdeal.Facts) (hGfi : Cert.Gfi.Facts) (hGfiIdeal : Cert.GfiIdeal.Facts) (hGfiRefIdeal : Cert.GfiRefIdeal.Facts) (hDh2 : Cert.Dh2.Facts) (hDh2Ideal : Cert.Dh2Ideal.Facts) (hDh2RefIdeal : Cert.Dh2RefIdeal.Facts) (hGin : Cert.Gin.Facts) (hGinIdeal : Cert.GinIdeal.Facts) (hGinRefIdeal : Cert.GinRefIdeal.Facts) (hGfo : Cert.Gfo.Facts) (hGfoIdeal : Cert.GfoIdeal.Facts) (hGfoRefIdeal : Cert.GfoRefIdeal.Facts) (hGout : Cert.Gout.Facts) (hGoutIdeal : Cert.GoutIdeal.Facts) (hGoutRefIdeal : Cert.GoutRefIdeal.Facts) (hYo : Cert.Yo.Facts) (hYoIdeal : Cert.YoIdeal.Facts) (hYoRefIdeal : Cert.YoRefIdeal.Facts) (hFfn : Cert.Ffn.Facts) (hFfnIdeal : Cert.FfnIdeal.Facts) (hFfnRefIdeal : Cert.FfnRefIdeal.Facts) (hFfi : Cert.Ffi.Facts) (hFfiIdeal : Cert.FfiIdeal.Facts) (hFfiRefIdeal : Cert.FfiRefIdeal.Facts) (hFob : Cert.Fob.Facts) (hFobIdeal : Cert.FobIdeal.Facts) (hFobRefIdeal : Cert.FobRefIdeal.Facts) (hBwg : Cert.Bwg.Facts) (hBwgIdeal : Cert.BwgIdeal.Facts) (hBwgRefIdeal : Cert.BwgRefIdeal.Facts) (hBbw : Cert.Bbw.Facts) (hBbwIdeal : Cert.BbwIdeal.Facts) (hBbwRefIdeal : Cert.BbwRefIdeal.Facts) (hDh1 : Cert.Dh1.Facts) (hDh1Ideal : Cert.Dh1Ideal.Facts) (hDh1RefIdeal : Cert.Dh1RefIdeal.Facts) (hUfo : Cert.Ufo.Facts) (hUfoIdeal : Cert.UfoIdeal.Facts) (hUfoRefIdeal : Cert.UfoRefIdeal.Facts) (hUout : Cert.Uout.Facts) (hUoutIdeal : Cert.UoutIdeal.Facts) (hUoutRefIdeal : Cert.UoutRefIdeal.Facts) (hUbg : Cert.Ubg.Facts) (hUbgIdeal : Cert.UbgIdeal.Facts) (hUbgRefIdeal : Cert.UbgRefIdeal.Facts) (hUbh : Cert.Ubh.Facts) (hUbhIdeal : Cert.UbhIdeal.Facts) (hUbhRefIdeal : Cert.UbhRefIdeal.Facts) (hUin : Cert.Uin.Facts) (hUinIdeal : Cert.UinIdeal.Facts) (hUinRefIdeal : Cert.UinRefIdeal.Facts) (hUsm : Cert.Usm.Facts) (hUsmIdeal : Cert.UsmIdeal.Facts) (hUsmRefIdeal : Cert.UsmRefIdeal.Facts) (hUada : Cert.Uada.Facts) (hUadaIdeal : Cert.UadaIdeal.Facts) (hUadaRefIdeal : Cert.UadaRefIdeal.Facts) (hNf1 : Cert.Nf1.Facts) (hNf1Ideal : Cert.Nf1Ideal.Facts) (hNf1RefIdeal : Cert.Nf1RefIdeal.Facts) (hNf2 : Cert.Nf2.Facts) (hNf2Ideal : Cert.Nf2Ideal.Facts) (hNf2RefIdeal : Cert.Nf2RefIdeal.Facts) (hAfw : Cert.Afw.Facts) (hAfwIdeal : Cert.AfwIdeal.Facts) (hAfwRefIdeal : Cert.AfwRefIdeal.Facts) (hMrg : Cert.Mrg.Facts) (hMrgIdeal : Cert.MrgIdeal.Facts) (hMrgRefIdeal : Cert.MrgRefIdeal.Facts) (hNbw : Cert.Nbw.Facts) (hNbwIdeal : Cert.NbwIdeal.Facts) (hNbwRefIdeal : Cert.NbwRefIdeal.Facts) (hNb2 : Cert.Nb2.Facts) (hNb2Ideal : Cert.Nb2Ideal.Facts) (hNb2RefIdeal : Cert.Nb2RefIdeal.Facts) (hFls : Cert.Fls.Facts) (hFlsIdeal : Cert.FlsIdeal.Facts) (hFlsRefIdeal : Cert.FlsRefIdeal.Facts) (hObw : Cert.Obw.Facts) (hObwIdeal : Cert.ObwIdeal.Facts) (hObwRefIdeal : Cert.ObwRefIdeal.Facts) (hGfw : Cert.Gfw.Facts) (hGfwIdeal : Cert.GfwIdeal.Facts) (hGfwRefIdeal : Cert.GfwRefIdeal.Facts) (hPre_finite : Cert.Pre_finite.Facts) (hPre_finite_fob : Cert.Pre_finite_fob.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gfi (hGfi := hGfi)
    ∧ quiescent_GfiIdeal (hGfiIdeal := hGfiIdeal)
    ∧ quiescent_GfiRefIdeal (hGfiRefIdeal := hGfiRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Gin (hGin := hGin)
    ∧ quiescent_GinIdeal (hGinIdeal := hGinIdeal)
    ∧ quiescent_GinRefIdeal (hGinRefIdeal := hGinRefIdeal)
    ∧ quiescent_Gfo (hGfo := hGfo)
    ∧ quiescent_GfoIdeal (hGfoIdeal := hGfoIdeal)
    ∧ quiescent_GfoRefIdeal (hGfoRefIdeal := hGfoRefIdeal)
    ∧ quiescent_Gout (hGout := hGout)
    ∧ quiescent_GoutIdeal (hGoutIdeal := hGoutIdeal)
    ∧ quiescent_GoutRefIdeal (hGoutRefIdeal := hGoutRefIdeal)
    ∧ quiescent_Yo (hYo := hYo)
    ∧ quiescent_YoIdeal (hYoIdeal := hYoIdeal)
    ∧ quiescent_YoRefIdeal (hYoRefIdeal := hYoRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ffi (hFfi := hFfi)
    ∧ quiescent_FfiIdeal (hFfiIdeal := hFfiIdeal)
    ∧ quiescent_FfiRefIdeal (hFfiRefIdeal := hFfiRefIdeal)
    ∧ quiescent_Fob (hFob := hFob)
    ∧ quiescent_FobIdeal (hFobIdeal := hFobIdeal)
    ∧ quiescent_FobIdeal_pre_finite_fob (hFobIdeal := hFobIdeal) (hPre_finite_fob := hPre_finite_fob)
    ∧ quiescent_FobRefIdeal (hFobRefIdeal := hFobRefIdeal)
    ∧ quiescent_FobRefIdeal_pre_finite_fob (hFobRefIdeal := hFobRefIdeal) (hPre_finite_fob := hPre_finite_fob)
    ∧ quiescent_Bwg (hBwg := hBwg)
    ∧ quiescent_BwgIdeal (hBwgIdeal := hBwgIdeal)
    ∧ quiescent_BwgRefIdeal (hBwgRefIdeal := hBwgRefIdeal)
    ∧ quiescent_Bbw (hBbw := hBbw)
    ∧ quiescent_BbwIdeal (hBbwIdeal := hBbwIdeal)
    ∧ quiescent_BbwRefIdeal (hBbwRefIdeal := hBbwRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Ufo (hUfo := hUfo)
    ∧ quiescent_UfoIdeal (hUfoIdeal := hUfoIdeal)
    ∧ quiescent_UfoRefIdeal (hUfoRefIdeal := hUfoRefIdeal)
    ∧ quiescent_Uout (hUout := hUout)
    ∧ quiescent_UoutIdeal (hUoutIdeal := hUoutIdeal)
    ∧ quiescent_UoutRefIdeal (hUoutRefIdeal := hUoutRefIdeal)
    ∧ quiescent_Ubg (hUbg := hUbg)
    ∧ quiescent_UbgIdeal (hUbgIdeal := hUbgIdeal)
    ∧ quiescent_UbgRefIdeal (hUbgRefIdeal := hUbgRefIdeal)
    ∧ quiescent_Ubh (hUbh := hUbh)
    ∧ quiescent_UbhIdeal (hUbhIdeal := hUbhIdeal)
    ∧ quiescent_UbhRefIdeal (hUbhRefIdeal := hUbhRefIdeal)
    ∧ quiescent_Uin (hUin := hUin)
    ∧ quiescent_UinIdeal (hUinIdeal := hUinIdeal)
    ∧ quiescent_UinRefIdeal (hUinRefIdeal := hUinRefIdeal)
    ∧ quiescent_Usm (hUsm := hUsm)
    ∧ quiescent_UsmIdeal (hUsmIdeal := hUsmIdeal)
    ∧ quiescent_UsmRefIdeal (hUsmRefIdeal := hUsmRefIdeal)
    ∧ quiescent_Uada (hUada := hUada)
    ∧ quiescent_UadaIdeal (hUadaIdeal := hUadaIdeal)
    ∧ quiescent_UadaRefIdeal (hUadaRefIdeal := hUadaRefIdeal)
    ∧ quiescent_Nf1 (hNf1 := hNf1)
    ∧ quiescent_Nf1Ideal (hNf1Ideal := hNf1Ideal)
    ∧ quiescent_Nf1RefIdeal (hNf1RefIdeal := hNf1RefIdeal)
    ∧ quiescent_Nf2 (hNf2 := hNf2)
    ∧ quiescent_Nf2Ideal (hNf2Ideal := hNf2Ideal)
    ∧ quiescent_Nf2RefIdeal (hNf2RefIdeal := hNf2RefIdeal)
    ∧ quiescent_Afw (hAfw := hAfw)
    ∧ quiescent_AfwIdeal (hAfwIdeal := hAfwIdeal)
    ∧ quiescent_AfwRefIdeal (hAfwRefIdeal := hAfwRefIdeal)
    ∧ quiescent_Mrg (hMrg := hMrg)
    ∧ quiescent_MrgIdeal (hMrgIdeal := hMrgIdeal)
    ∧ quiescent_MrgRefIdeal (hMrgRefIdeal := hMrgRefIdeal)
    ∧ quiescent_Nbw (hNbw := hNbw)
    ∧ quiescent_NbwIdeal (hNbwIdeal := hNbwIdeal)
    ∧ quiescent_NbwRefIdeal (hNbwRefIdeal := hNbwRefIdeal)
    ∧ quiescent_Nb2 (hNb2 := hNb2)
    ∧ quiescent_Nb2Ideal (hNb2Ideal := hNb2Ideal)
    ∧ quiescent_Nb2RefIdeal (hNb2RefIdeal := hNb2RefIdeal)
    ∧ quiescent_Fls (hFls := hFls)
    ∧ quiescent_FlsIdeal (hFlsIdeal := hFlsIdeal)
    ∧ quiescent_FlsRefIdeal (hFlsRefIdeal := hFlsRefIdeal)
    ∧ quiescent_Obw (hObw := hObw)
    ∧ quiescent_ObwIdeal (hObwIdeal := hObwIdeal)
    ∧ quiescent_ObwRefIdeal (hObwRefIdeal := hObwRefIdeal)
    ∧ quiescent_Gfw (hGfw := hGfw)
    ∧ quiescent_GfwIdeal (hGfwIdeal := hGfwIdeal)
    ∧ quiescent_GfwRefIdeal (hGfwRefIdeal := hGfwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gfi_GfiIdeal
    ∧ algebraic_GfiIdeal_GfiRefIdeal (hGfiIdeal := hGfiIdeal) (hGfiRefIdeal := hGfiRefIdeal)
    ∧ preserves_Dh2_Dh2Ideal
    ∧ algebraic_Dh2Ideal_Dh2RefIdeal (hDh2Ideal := hDh2Ideal) (hDh2RefIdeal := hDh2RefIdeal)
    ∧ preserves_Gin_GinIdeal
    ∧ algebraic_GinIdeal_GinRefIdeal (hGinIdeal := hGinIdeal) (hGinRefIdeal := hGinRefIdeal)
    ∧ preserves_Gfo_GfoIdeal
    ∧ algebraic_GfoIdeal_GfoRefIdeal (hGfoIdeal := hGfoIdeal) (hGfoRefIdeal := hGfoRefIdeal)
    ∧ preserves_Gout_GoutIdeal
    ∧ algebraic_GoutIdeal_GoutRefIdeal (hGoutIdeal := hGoutIdeal) (hGoutRefIdeal := hGoutRefIdeal)
    ∧ preserves_Yo_YoIdeal
    ∧ algebraic_YoIdeal_YoRefIdeal (hYoIdeal := hYoIdeal) (hYoRefIdeal := hYoRefIdeal)
    ∧ preserves_Ffn_FfnIdeal
    ∧ algebraic_FfnIdeal_FfnRefIdeal (hFfnIdeal := hFfnIdeal) (hFfnRefIdeal := hFfnRefIdeal)
    ∧ preserves_Ffi_FfiIdeal
    ∧ algebraic_FfiIdeal_FfiRefIdeal (hFfiIdeal := hFfiIdeal) (hFfiRefIdeal := hFfiRefIdeal)
    ∧ preserves_Fob_FobIdeal
    ∧ algebraic_FobIdeal_FobRefIdeal_pre_finite_fob (hFobIdeal := hFobIdeal) (hFobRefIdeal := hFobRefIdeal) (hPre_finite_fob := hPre_finite_fob)
    ∧ preserves_Bwg_BwgIdeal
    ∧ algebraic_BwgIdeal_BwgRefIdeal (hBwgIdeal := hBwgIdeal) (hBwgRefIdeal := hBwgRefIdeal)
    ∧ preserves_Bbw_BbwIdeal
    ∧ algebraic_BbwIdeal_BbwRefIdeal (hBbwIdeal := hBbwIdeal) (hBbwRefIdeal := hBbwRefIdeal)
    ∧ preserves_Dh1_Dh1Ideal
    ∧ algebraic_Dh1Ideal_Dh1RefIdeal (hDh1Ideal := hDh1Ideal) (hDh1RefIdeal := hDh1RefIdeal)
    ∧ preserves_Ufo_UfoIdeal
    ∧ algebraic_UfoIdeal_UfoRefIdeal (hUfoIdeal := hUfoIdeal) (hUfoRefIdeal := hUfoRefIdeal)
    ∧ preserves_Uout_UoutIdeal
    ∧ algebraic_UoutIdeal_UoutRefIdeal (hUoutIdeal := hUoutIdeal) (hUoutRefIdeal := hUoutRefIdeal)
    ∧ preserves_Ubg_UbgIdeal
    ∧ algebraic_UbgIdeal_UbgRefIdeal (hUbgIdeal := hUbgIdeal) (hUbgRefIdeal := hUbgRefIdeal)
    ∧ preserves_Ubh_UbhIdeal
    ∧ algebraic_UbhIdeal_UbhRefIdeal (hUbhIdeal := hUbhIdeal) (hUbhRefIdeal := hUbhRefIdeal)
    ∧ preserves_Uin_UinIdeal
    ∧ algebraic_UinIdeal_UinRefIdeal (hUinIdeal := hUinIdeal) (hUinRefIdeal := hUinRefIdeal)
    ∧ preserves_Usm_UsmIdeal
    ∧ algebraic_UsmIdeal_UsmRefIdeal (hUsmIdeal := hUsmIdeal) (hUsmRefIdeal := hUsmRefIdeal)
    ∧ preserves_Uada_UadaIdeal
    ∧ algebraic_UadaIdeal_UadaRefIdeal (hUadaIdeal := hUadaIdeal) (hUadaRefIdeal := hUadaRefIdeal)
    ∧ preserves_Nf1_Nf1Ideal
    ∧ algebraic_Nf1Ideal_Nf1RefIdeal (hNf1Ideal := hNf1Ideal) (hNf1RefIdeal := hNf1RefIdeal)
    ∧ preserves_Nf2_Nf2Ideal
    ∧ algebraic_Nf2Ideal_Nf2RefIdeal (hNf2Ideal := hNf2Ideal) (hNf2RefIdeal := hNf2RefIdeal)
    ∧ preserves_Afw_AfwIdeal
    ∧ algebraic_AfwIdeal_AfwRefIdeal (hAfwIdeal := hAfwIdeal) (hAfwRefIdeal := hAfwRefIdeal)
    ∧ preserves_Mrg_MrgIdeal
    ∧ algebraic_MrgIdeal_MrgRefIdeal (hMrgIdeal := hMrgIdeal) (hMrgRefIdeal := hMrgRefIdeal)
    ∧ preserves_Nbw_NbwIdeal
    ∧ algebraic_NbwIdeal_NbwRefIdeal (hNbwIdeal := hNbwIdeal) (hNbwRefIdeal := hNbwRefIdeal)
    ∧ preserves_Nb2_Nb2Ideal
    ∧ algebraic_Nb2Ideal_Nb2RefIdeal (hNb2Ideal := hNb2Ideal) (hNb2RefIdeal := hNb2RefIdeal)
    ∧ preserves_Fls_FlsIdeal
    ∧ algebraic_FlsIdeal_FlsRefIdeal (hFlsIdeal := hFlsIdeal) (hFlsRefIdeal := hFlsRefIdeal)
    ∧ preserves_Obw_ObwIdeal
    ∧ algebraic_ObwIdeal_ObwRefIdeal (hObwIdeal := hObwIdeal) (hObwRefIdeal := hObwRefIdeal)
    ∧ preserves_Gfw_GfwIdeal
    ∧ algebraic_GfwIdeal_GfwRefIdeal (hGfwIdeal := hGfwIdeal) (hGfwRefIdeal := hGfwRefIdeal)
-- ==== Pre_finite.lean ====
abbrev S2048x1024 : Shape := ⟨2, ![2048, 1024]⟩
abbrev S2048x10240 : Shape := ⟨2, ![2048, 10240]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x10240 : S_.BroadcastsInDim S2048x10240 (![] : Fin 0 → Fin S2048x10240.rank)
  reducesTo_S2048x10240_S_d0_1 : S2048x10240.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v3 : IVec S_ 1) (main_v7 : IVec S_ 1) (main_v11 : IVec S_ 1) (main_v15 : IVec S_ 1) : IVec S_ 1 :=
  let main_v16 : FVec F S8x128x128 .f32 := Host.absf main_arg4
  let main_cst_6 : FVec F S_ .f32 := constant S_ .f32 0x7F800000#32
  let main_v17 : FVec F S8x128x128 .f32 := broadcastInDim S8x128x128 ![] bcast_S_S8x128x128 main_cst_6
  let main_v18 : IVec S8x128x128 1 := cmpf .olt main_v16 main_v17
  let main_c_7 : IVec S_ 1 := constantI S_ 1 1#1
  let main_v19 : IVec S_ 1 := (fun x v => Host.reduce IntOp.andi x v reducesTo_S8x128x128_S_d0_1_2 h_S_) main_v18 main_c_7
  let main_v20 : FVec F S8x128 .f32 := Host.absf main_arg5
  let main_cst_8 : FVec F S_ .f32 := constant S_ .f32 0x7F800000#32
  let main_v21 : FVec F S8x128 .f32 := broadcastInDim S8x128 ![] bcast_S_S8x128 main_cst_8
  let main_v22 : IVec S8x128 1 := cmpf .olt main_v20 main_v21
  let main_c_9 : IVec S_ 1 := constantI S_ 1 1#1
  let main_v23 : IVec S_ 1 := (fun x v => Host.reduce IntOp.andi x v reducesTo_S8x128_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x1024 .f32) (main_arg1 : FVec F S2048x10240 .f32) (main_arg2 : FVec F S1024 .f32) (main_arg3 : FVec F S1024 .f32) (main_arg4 : FVec F S8x128x128 .f32) (main_arg5 : FVec F S8x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x10240 .f32 := Host.absf main_arg1
  let main_cst_0 : FVec F S_ .f32 := constant S_ .f32 0x7F800000#32
  let main_v5 : FVec F S2048x10240 .f32 := broadcastInDim S2048x10240 ![] bcast_S_S2048x10240 main_cst_0
  let main_v6 : IVec S2048x10240 1 := cmpf .olt main_v4 main_v5
  let main_c_1 : IVec S_ 1 := constantI S_ 1 1#1
  let main_v7 : IVec S_ 1 := (fun x v => Host.reduce IntOp.andi x v reducesTo_S2048x10240_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_finite_fob.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2048 .bf16) (main_arg1 : FVec F S5632x2048 .bf16) (main_arg2 : FVec F S2048x5632 .bf16) (main_arg3 : FVec F S2048x5632 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : FVec F S2048x5632 .f32 := (extf .f32 · bitsLt_bf16_f32) main_arg3
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v4 main_v9
  let main_v16 : IVec S_ 1 := andi main_v15 main_v14
  main_v16
-- ==== Kernel.lean ====
abbrev S2048x1024 : Shape := ⟨2, ![2048, 1024]⟩
abbrev S2048x10240 : Shape := ⟨2, ![2048, 10240]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S_ : Shape := ⟨0, ![]⟩
abbrev S128x128 : Shape := ⟨2, ![128, 128]⟩
abbrev S2048x2048 : Shape := ⟨2, ![2048, 2048]⟩
abbrev S512x1024 : Shape := ⟨2, ![512, 1024]⟩
abbrev S512x2048 : Shape := ⟨2, ![512, 2048]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 17
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x10240, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S128x8, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S2048x2048, .bf16⟩
  | .hbm, ⟨13, _⟩ => ⟨S8x128x128, .f32⟩
  | .hbm, ⟨14, _⟩ => ⟨S128x128, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x128, .f32⟩
  | .local _ .vmem, ⟨10, _⟩ => ⟨S512x2048, .bf16⟩
  | .local _ .vmem, ⟨11, _⟩ => ⟨S512x2048, .bf16⟩
  | .local _ .vmem, ⟨12, _⟩ => ⟨S8x128x128, .f32⟩
  | .local _ .vmem, ⟨13, _⟩ => ⟨S128x128, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2558 : BitVec 32 := Scalar.extui v0
  let c0_i32_982 : BitVec 32 := 0#32
  let v2559 : BitVec 1 := Scalar.cmpi .ne v2558 c0_i32_982
  v2559

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v2560 : BitVec 1 := Scalar.xori v0 v_true
  let v2561 : BitVec 32 := Scalar.extui v2560
  let c0_i32_984 : BitVec 32 := 0#32
  let v2562 : BitVec 1 := Scalar.cmpi .ne v2561 c0_i32_984
  v2562

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v2563 : BitVec 32 := Scalar.extui v0
  let c0_i32_986 : BitVec 32 := 0#32
  let v2564 : BitVec 1 := Scalar.cmpi .ne v2563 c0_i32_986
  v2564

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_987 : BitVec 1 := 1#1
  let v2565 : BitVec 1 := Scalar.xori v0 true_987
  let v2566 : BitVec 32 := Scalar.extui v2565
  let c0_i32_989 : BitVec 32 := 0#32
  let v2567 : BitVec 1 := Scalar.cmpi .ne v2566 c0_i32_989
  v2567

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v2568 : BitVec 32 := Scalar.extui v0
  let c0_i32_991 : BitVec 32 := 0#32
  let v2569 : BitVec 1 := Scalar.cmpi .ne v2568 c0_i32_991
  v2569

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_992 : BitVec 1 := 1#1
  let v2570 : BitVec 1 := Scalar.xori v0 true_992
  let v2571 : BitVec 32 := Scalar.extui v2570
  let c0_i32_994 : BitVec 32 := 0#32
  let v2572 : BitVec 1 := Scalar.cmpi .ne v2571 c0_i32_994
  v2572

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v2573 : BitVec 32 := Scalar.extui v0
  let c0_i32_996 : BitVec 32 := 0#32
  let v2574 : BitVec 1 := Scalar.cmpi .ne v2573 c0_i32_996
  v2574

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_997 : BitVec 1 := 1#1
  let v2575 : BitVec 1 := Scalar.xori v0 true_997
  let v2576 : BitVec 32 := Scalar.extui v2575
  let c0_i32_999 : BitVec 32 := 0#32
  let v2577 : BitVec 1 := Scalar.cmpi .ne v2576 c0_i32_999
  v2577

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v2578 : BitVec 32 := Scalar.extui v0
  let c0_i32_1001 : BitVec 32 := 0#32
  let v2579 : BitVec 1 := Scalar.cmpi .ne v2578 c0_i32_1001
  v2579

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_1002 : BitVec 1 := 1#1
  let v2580 : BitVec 1 := Scalar.xori v0 true_1002
  let v2581 : BitVec 32 := Scalar.extui v2580
  let c0_i32_1004 : BitVec 32 := 0#32
  let v2582 : BitVec 1 := Scalar.cmpi .ne v2581 c0_i32_1004
  v2582

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v2583 : BitVec 32 := Scalar.extui v0
  let c0_i32_1006 : BitVec 32 := 0#32
  let v2584 : BitVec 1 := Scalar.cmpi .ne v2583 c0_i32_1006
  v2584

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_1007 : BitVec 1 := 1#1
  let v2585 : BitVec 1 := Scalar.xori v0 true_1007
  let v2586 : BitVec 32 := Scalar.extui v2585
  let c0_i32_1009 : BitVec 32 := 0#32
  let v2587 : BitVec 1 := Scalar.cmpi .ne v2586 c0_i32_1009
  v2587

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v2588 : BitVec 32 := Scalar.extui v0
  let c0_i32_1011 : BitVec 32 := 0#32
  let v2589 : BitVec 1 := Scalar.cmpi .ne v2588 c0_i32_1011
  v2589

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_1012 : BitVec 1 := 1#1
  let v2590 : BitVec 1 := Scalar.xori v0 true_1012
  let v2591 : BitVec 32 := Scalar.extui v2590
  let c0_i32_1014 : BitVec 32 := 0#32
  let v2592 : BitVec 1 := Scalar.cmpi .ne v2591 c0_i32_1014
  v2592

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v2593 : BitVec 32 := Scalar.extui v0
  let c0_i32_1016 : BitVec 32 := 0#32
  let v2594 : BitVec 1 := Scalar.cmpi .ne v2593 c0_i32_1016
  v2594

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_1017 : BitVec 1 := 1#1
  let v2595 : BitVec 1 := Scalar.xori v0 true_1017
  let v2596 : BitVec 32 := Scalar.extui v2595
  let c0_i32_1019 : BitVec 32 := 0#32
  let v2597 : BitVec 1 := Scalar.cmpi .ne v2596 c0_i32_1019
  v2597

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v2598 : BitVec 32 := Scalar.extui v0
  let c0_i32_1020 : BitVec 32 := 0#32
  let v2599 : BitVec 1 := Scalar.cmpi .ne v2598 c0_i32_1020
  v2599

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_1021 : BitVec 1 := 1#1
  let v2600 : BitVec 1 := Scalar.xori v0 true_1021
  let v2601 : BitVec 32 := Scalar.extui v2600
  let c0_i32_1022 : BitVec 32 := 0#32
  let v2602 : BitVec 1 := Scalar.cmpi .ne v2601 c0_i32_1022
  v2602

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v2608 : BitVec 32 := Scalar.extui v0
  let c0_i32_1026 : BitVec 32 := 0#32
  let v2609 : BitVec 1 := Scalar.cmpi .ne v2608 c0_i32_1026
  v2609

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_1027 : BitVec 1 := 1#1
  let v2610 : BitVec 1 := Scalar.xori v0 true_1027
  let v2611 : BitVec 32 := Scalar.extui v2610
  let c0_i32_1028 : BitVec 32 := 0#32
  let v2612 : BitVec 1 := Scalar.cmpi .ne v2611 c0_i32_1028
  v2612

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v2603 : BitVec 32 := Scalar.extui v0
  let c0_i32_1023 : BitVec 32 := 0#32
  let v2604 : BitVec 1 := Scalar.cmpi .ne v2603 c0_i32_1023
  v2604

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_1024 : BitVec 1 := 1#1
  let v2605 : BitVec 1 := Scalar.xori v0 true_1024
  let v2606 : BitVec 32 := Scalar.extui v2605
  let c0_i32_1025 : BitVec 32 := 0#32
  let v2607 : BitVec 1 := Scalar.cmpi .ne v2606 c0_i32_1025
  v2607

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== ReferenceIdeal.lean ====
abbrev S2048x1024 : Shape := ⟨2, ![2048, 1024]⟩
abbrev S2048x10240 : Shape := ⟨2, ![2048, 10240]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S1x2048x1024 : Shape := ⟨3, ![1, 2048, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S2048 : Shape := ⟨1, ![2048]⟩

abbrev nBuf : Space → Nat
  | .hbm => 254
  | .vmem => 0
  | .smem => 0
  | _ => 0

abbrev hbmTy0_0 (i : Nat) : BufTy := match i % 128 with
  | 0 => ⟨S2048x1024, .f32⟩
  | 1 => ⟨S2048x10240, .f32⟩
  | 2 => ⟨S1024, .f32⟩
  | 3 => ⟨S1024, .f32⟩
  | 4 => ⟨S8x128x128, .f32⟩
  | 5 => ⟨S8x128, .f32⟩
  | 6 => ⟨S2048x2048, .f32⟩
  | 7 => ⟨S2048x1024, .f32⟩
  | 8 => ⟨S2048x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S1x2048x1024, .f32⟩
  | 40 => ⟨S2048x1024, .f32⟩
  | 41 => ⟨S2048x1024, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S_, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S1x2048x1024, .f32⟩
  | 73 => ⟨S_, .f32⟩
  | 74 => ⟨S1x2048, .f32⟩
  | 75 => ⟨S1x2048x1, .f32⟩
  | 76 => ⟨S_, .f32⟩
  | 77 => ⟨S1x2048x1, .f32⟩
  | 78 => ⟨S1x2048x1, .f32⟩
  | 79 => ⟨S1x2048x1024, .f32⟩
  | 80 => ⟨S1x2048x1024, .f32⟩
  | 81 => ⟨S1x2048x1024, .f32⟩
  | 82 => ⟨S_, .f32⟩
  | 83 => ⟨S1x2048x1024, .f32⟩
  | 84 => ⟨S1x2048x1024, .f32⟩
  | 85 => ⟨S_, .f32⟩
  | 86 => ⟨S1x2048, .f32⟩
  | 87 => ⟨S1x2048x1, .f32⟩
  | 88 => ⟨S_, .f32⟩
  | 89 => ⟨S1x2048x1, .f32⟩
  | 90 => ⟨S1x2048x1, .f32⟩
  | 91 => ⟨S1x2048x1024, .f32⟩
  | 92 => ⟨S1x2048x1024, .f32⟩
  | 93 => ⟨S_, .f32⟩
  | 94 => ⟨S1x2048x1, .f32⟩
  | 95 => ⟨S1x2048x1, .f32⟩
  | 96 => ⟨S1x2048x1, .f32⟩
  | 97 => ⟨S1x2048x1, .f32⟩
  | 98 => ⟨S_, .f32⟩
  | 99 => ⟨S1x2048x1, .f32⟩
  | 100 => ⟨S1x2048x1, .f32⟩
  | 101 => ⟨S1x2048x1024, .f32⟩
  | 102 => ⟨S1x2048x1024, .f32⟩
  | 103 => ⟨S1x1x1024, .f32⟩
  | 104 => ⟨S1x2048x1024, .f32⟩
  | 105 => ⟨S1x2048x1024, .f32⟩
  | 106 => ⟨S1x1x1024, .f32⟩
  | 107 => ⟨S1x2048x1024, .f32⟩
  | 108 => ⟨S1x2048x1024, .f32⟩
  | 109 => ⟨S1x16x128x8x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S1x128x128, .i1⟩
  | 122 => ⟨S_, .i32⟩
  | 123 => ⟨S_, .f32⟩
  | 124 => ⟨S8x128x128, .i1⟩
  | 125 => ⟨S8x128x128, .f32⟩
  | 126 => ⟨S8x128x128, .f32⟩
  | 127 => ⟨S_, .f32⟩
  | _ => ⟨S2048x1024, .f32⟩

abbrev hbmTy0_1 (i : Nat) : BufTy := match i % 128 with
  | 0 => ⟨S8x128x128, .f32⟩
  | 1 => ⟨S8x1x16x128x128, .f32⟩
  | 2 => ⟨S1x16x128x8x128, .f32⟩
  | 3 => ⟨S128x8, .f32⟩
  | 4 => ⟨S1x1x128x8x1, .f32⟩
  | 5 => ⟨S1x16x128x8x128, .f32⟩
  | 6 => ⟨S1x16x128x8x128, .f32⟩
  | 7 => ⟨S1x2048x1024, .f32⟩
  | 8 => ⟨S1x2048x1024, .f32⟩
  | 9 => ⟨S2048x1024, .f32⟩
  | 10 => ⟨S1x2048x1024, .f32⟩
  | 11 => ⟨S1x2048x1024, .f32⟩
  | 12 => ⟨S1x2048x1024, .f32⟩
  | 13 => ⟨S1x16x128x8x128, .f32⟩
  | 14 => ⟨S_, .f32⟩
  | 15 => ⟨S1x128x8, .f32⟩
  | 16 => ⟨S1x1x128x8x1, .f32⟩
  | 17 => ⟨S_, .f32⟩
  | 18 => ⟨S128x8, .f32⟩
  | 19 => ⟨S8x128, .f32⟩
  | 20 => ⟨S8x1x16x128x128, .f32⟩
  | 21 => ⟨S8x128x128, .f32⟩
  | 22 => ⟨S8x1x16x128x128, .f32⟩
  | 23 => ⟨S1x16x128x8x128, .f32⟩
  | 24 => ⟨S_, .f32⟩
  | 25 => ⟨S8x128x128, .f32⟩
  | 26 => ⟨S8x128x128, .f32⟩
  | 27 => ⟨S1x2048x1024, .f32⟩
  | 28 => ⟨S_, .f32⟩
  | 29 => ⟨S1x1024, .f32⟩
  | 30 => ⟨S1x1x1024, .f32⟩
  | 31 => ⟨S_, .f32⟩
  | 32 => ⟨S1024, .f32⟩
  | 33 => ⟨S1x2048x1024, .f32⟩
  | 34 => ⟨S_, .f32⟩
  | 35 => ⟨S1x1024, .f32⟩
  | 36 => ⟨S1x1x1024, .f32⟩
  | 37 => ⟨S1x2048x1024, .f32⟩
  | 38 => ⟨S1x2048x1024, .f32⟩
  | 39 => ⟨S_, .f32⟩
  | 40 => ⟨S1024, .f32⟩
  | 41 => ⟨S1x2048x1024, .f32⟩
  | 42 => ⟨S_, .f32⟩
  | 43 => ⟨S1x2048, .f32⟩
  | 44 => ⟨S1x2048x1, .f32⟩
  | 45 => ⟨S1x2048x1024, .f32⟩
  | 46 => ⟨S1x2048x1024, .f32⟩
  | 47 => ⟨S1x2048x1, .f32⟩
  | 48 => ⟨S1x2048x1024, .f32⟩
  | 49 => ⟨S_, .f32⟩
  | 50 => ⟨S1x2048, .f32⟩
  | 51 => ⟨S1x2048x1, .f32⟩
  | 52 => ⟨S_, .f32⟩
  | 53 => ⟨S1x2048x1, .f32⟩
  | 54 => ⟨S1x2048x1, .f32⟩
  | 55 => ⟨S_, .f32⟩
  | 56 => ⟨S2048, .f32⟩
  | 57 => ⟨S1x2048, .f32⟩
  | 58 => ⟨S1x2048x1024, .f32⟩
  | 59 => ⟨S1x2048x1024, .f32⟩
  | 60 => ⟨S1x2048x1024, .f32⟩
  | 61 => ⟨S_, .f32⟩
  | 62 => ⟨S1x2048, .f32⟩
  | 63 => ⟨S1x2048x1, .f32⟩
  | 64 => ⟨S1x2048x1024, .f32⟩
  | 65 => ⟨S1x2048x1, .f32⟩
  | 66 => ⟨S_, .f32⟩
  | 67 => ⟨S1x2048x1, .f32⟩
  | 68 => ⟨S1x2048x1, .f32⟩
  | 69 => ⟨S_, .f32⟩
  | 70 => ⟨S2048, .f32⟩
  | 71 => ⟨S1x2048, .f32⟩
  | 72 => ⟨S1x2048x1024, .f32⟩
  | 73 => ⟨S1x2048x1024, .f32⟩
  | 74 => ⟨S_, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S2048x1024, .f32⟩
  | 93 => ⟨S2048x1024, .f32⟩
  | 94 => ⟨S_, .f32⟩
  | 95 => ⟨S2048x2048, .f32⟩
  | 96 => ⟨S_, .f32⟩
  | 97 => ⟨S2048x1024, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S2048x1024, .f32⟩
  | 116 => ⟨S_, .f32⟩
  | 117 => ⟨S2048x2048, .f32⟩
  | 118 => ⟨S2048x2048, .f32⟩
  | 119 => ⟨S2048x2048, .bf16⟩
  | 120 => ⟨S128x8, .f32⟩
  | 121 => ⟨S_, .i32⟩
  | 122 => ⟨S_, .f32⟩
  | 123 => ⟨S128x128, .f32⟩
  | 124 => ⟨S1x1024, .f32⟩
  | 125 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c : Ref sig .tc := ⟨.hbm, 110, rfl⟩
abbrev main_v81 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_c_0 : Ref sig .tc := ⟨.hbm, 118, rfl⟩
abbrev main_call0_v5 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_call1_v0 : Ref sig .tc := ⟨.hbm, 123, rfl⟩
abbrev main_v84_1 : Ref sig .tc := ⟨.hbm, 124, rfl⟩
abbrev main_call1_v2 : Ref sig .tc := ⟨.hbm, 125, rfl⟩
abbrev main_v84_0 : Ref sig .tc := ⟨.hbm, 126, rfl⟩
abbrev main_call1_cst : Ref sig .tc := ⟨.hbm, 127, rfl⟩
abbrev main_v84_2 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_cst_24 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call2_cst : Ref sig .tc := ⟨.hbm, 152, rfl⟩
abbrev main_call2_v0 : Ref sig .tc := ⟨.hbm, 153, rfl⟩
abbrev main_v106 : Ref sig .tc := ⟨.hbm, 154, rfl⟩
abbrev main_v107 : Ref sig .tc := ⟨.hbm, 155, rfl⟩
abbrev main_cst_25 : Ref sig .tc := ⟨.hbm, 156, rfl⟩
abbrev main_v108 : Ref sig .tc := ⟨.hbm, 157, rfl⟩
abbrev main_v109 : Ref sig .tc := ⟨.hbm, 158, rfl⟩
abbrev main_cst_26 : Ref sig .tc := ⟨.hbm, 159, rfl⟩
abbrev main_v110 : Ref sig .tc := ⟨.hbm, 160, rfl⟩
abbrev main_v111 : Ref sig .tc := ⟨.hbm, 161, rfl⟩
abbrev main_cst_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_28 : Ref sig .tc := ⟨.hbm, 167, rfl⟩
abbrev main_v116 : Ref sig .tc := ⟨.hbm, 168, rfl⟩
abbrev main_v117 : Ref sig .tc := ⟨.hbm, 169, rfl⟩
abbrev main_cst_29 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_v127 : Ref sig .tc := ⟨.hbm, 182, rfl⟩
abbrev main_cst_32 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_33 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_34 : Ref sig .tc := ⟨.hbm, 194, rfl⟩
abbrev main_v137 : Ref sig .tc := ⟨.hbm, 195, rfl⟩
abbrev main_v138 : Ref sig .tc := ⟨.hbm, 196, rfl⟩
abbrev main_cst_35 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_36 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_37 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_38 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_39 : Ref sig .tc := ⟨.hbm, 214, rfl⟩
abbrev main_v152 : Ref sig .tc := ⟨.hbm, 215, rfl⟩
abbrev main_v153 : Ref sig .tc := ⟨.hbm, 216, rfl⟩
abbrev main_cst_40 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_41 : Ref sig .tc := ⟨.hbm, 222, rfl⟩
abbrev main_v158 : Ref sig .tc := ⟨.hbm, 223, rfl⟩
abbrev main_cst_42 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_cst_43 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_44 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_45 : Ref sig .tc := ⟨.hbm, 236, rfl⟩
abbrev main_v168 : Ref sig .tc := ⟨.hbm, 237, rfl⟩
abbrev main_v169 : Ref sig .tc := ⟨.hbm, 238, rfl⟩
abbrev main_cst_46 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_47 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_c_48 : Ref sig .tc := ⟨.hbm, 249, rfl⟩
abbrev main_call3_v0 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩

abbrev nD : Nat := 1
abbrev τ : Topo := Topo.v7x

variable {F : FTy → Type} [FloatOps F]
-- ==== Gfi.lean ====
abbrev S2048x2048 : Shape := ⟨2, ![2048, 2048]⟩
abbrev S2048x5632 : Shape := ⟨2, ![2048, 5632]⟩
abbrev S4x2048x2816 : Shape := ⟨3, ![4, 2048, 2816]⟩
abbrev S2048x1408 : Shape := ⟨2, ![2048, 1408]⟩
abbrev S2048x1024 : Shape := ⟨2, ![2048, 1024]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S4x2048x2816, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32 : BitVec 32 := 4#32
  let v0 : BitVec 1 := Scalar.cmpi .slt arg1 c4_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GfiRefIdeal.lean ====
abbrev S2048x2048 : Shape := ⟨2, ![2048, 2048]⟩
abbrev S2048x5632 : Shape := ⟨2, ![2048, 5632]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S2048x2048, .f32⟩
  | .hbm, ⟨6, _⟩ => ⟨S_, .f32⟩
  | .hbm, ⟨7, _⟩ => ⟨S2048x11264, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | .hbm, ⟨15, _⟩ => ⟨S2048x4x2816, .f32⟩
  | .hbm, ⟨16, _⟩ => ⟨S4x2048x2816, .f32⟩
  | .hbm, ⟨17, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Dh2.lean ====
abbrev S2048x5632 : Shape := ⟨2, ![2048, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c2_i32 : BitVec 32 := 2#32
  let v0 : BitVec 1 := Scalar.cmpi .slt arg2 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c3_i32_9 : BitVec 32 := 3#32
  let v18 : BitVec 1 := Scalar.cmpi .eq arg2 c3_i32_9
  let v19 : BitVec 32 := Scalar.extui v18
  let c0_i32_10 : BitVec 32 := 0#32
  let v20 : BitVec 1 := Scalar.cmpi .ne v19 c0_i32_10
  v20

def k0_cond5 (i : grid0.Coords) : BitVec 1 :=
  let arg2 : BitVec 32 := BitVec.ofNat 32 (i 2).val
  let c2_i32 : BitVec 32 := 2#32
  let v0 : BitVec 1 := Scalar.cmpi .slt arg2 c2_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_cond8 (i : grid0.Coords) : BitVec 1 :=
  let arg2 : BitVec 32 := BitVec.ofNat 32 (i 2).val
  let c3_i32_9 : BitVec 32 := 3#32
  let v18 : BitVec 1 := Scalar.cmpi .eq arg2 c3_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh2RefIdeal.lean ====
abbrev S2048x5632 : Shape := ⟨2, ![2048, 5632]⟩
abbrev S2048x11264 : Shape := ⟨2, ![2048, 11264]⟩
abbrev S_ : Shape := ⟨0, ![]⟩
abbrev S2048x2048 : Shape := ⟨2, ![2048, 2048]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .bf16⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Gin.lean ====
abbrev S2048x2048 : Shape := ⟨2, ![2048, 2048]⟩
abbrev S2048x10240 : Shape := ⟨2, ![2048, 10240]⟩
abbrev S4x2048x2560 : Shape := ⟨3, ![4, 2048, 2560]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S4x2048x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinRefIdeal.lean ====
abbrev S2048x2048 : Shape := ⟨2, ![2048, 2048]⟩
abbrev S2048x10240 : Shape := ⟨2, ![2048, 10240]⟩
abbrev S_ : Shape := ⟨0, ![]⟩
abbrev S10240x2048 : Shape := ⟨2, ![10240, 2048]⟩
abbrev S2048x4x2560 : Shape := ⟨3, ![2048, 4, 2560]⟩
abbrev S4x2048x2560 : Shape := ⟨3, ![4, 2048, 2560]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .f32⟩
  | .hbm, ⟨3, _⟩ => ⟨S2048x2048, .f32⟩
  | .hbm, ⟨4, _⟩ => ⟨S_, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S2048x2048, .f32⟩
  | .hbm, ⟨10, _⟩ => ⟨S2048x4x2560, .f32⟩
  | .hbm, ⟨11, _⟩ => ⟨S4x2048x2560, .f32⟩
  | .hbm, ⟨12, _⟩ => ⟨S4x2048x2560, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Gfo.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GfoRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gout.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutRefIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Yo.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YoRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffn.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffi.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x4x2816, .bf16⟩
  | .hbm, ⟨3, _⟩ => ⟨S4x2048x2816, .bf16⟩
  | .hbm, ⟨4, _⟩ => ⟨S2048x5632, .bf16⟩
  | .hbm, ⟨5, _⟩ => ⟨S2048x5632, .bf16⟩
  | .hbm, ⟨6, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfiRefIdeal.lean ====
abbrev S2048x2048 : Shape := ⟨2, ![2048, 2048]⟩
abbrev S2048x11264 : Shape := ⟨2, ![2048, 11264]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048x5632, .bf16⟩
  | .hbm, ⟨8, _⟩ => ⟨S2048x5632, .bf16⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Fob.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FobRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x2048, .f32⟩
  | .hbm, ⟨23, _⟩ => ⟨S2048x5632, .f32⟩
  | .hbm, ⟨24, _⟩ => ⟨S5632x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .bf16⟩
  | .hbm, ⟨33, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Bwg.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .hbm, ⟨3, _⟩ => ⟨S2048x2048, .bf16⟩
  | .hbm, ⟨4, _⟩ => ⟨S4x1024x512, .bf16⟩
  | .hbm, ⟨5, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BwgRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S_, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S1024x4x512, .f32⟩
  | .hbm, ⟨13, _⟩ => ⟨S4x1024x512, .f32⟩
  | .hbm, ⟨14, _⟩ => ⟨S4x1024x512, .bf16⟩
  | .hbm, ⟨15, _⟩ => ⟨S2048x2048, .f32⟩
  | .hbm, ⟨16, _⟩ => ⟨S2048x1024, .f32⟩
  | .hbm, ⟨17, _⟩ => ⟨S_, .f32⟩
  | .hbm, ⟨18, _⟩ => ⟨S1024x2048, .f32⟩
  | .hbm, ⟨19, _⟩ => ⟨S2048x2048, .f32⟩
  | .hbm, ⟨20, _⟩ => ⟨S2048x1024, .f32⟩
  | .hbm, ⟨21, _⟩ => ⟨S1024x2048, .f32⟩
  | .hbm, ⟨22, _⟩ => ⟨S2048x1024, .f32⟩
  | .hbm, ⟨23, _⟩ => ⟨S1024x4x512, .f32⟩
  | .hbm, ⟨24, _⟩ => ⟨S4x1024x512, .f32⟩
  | .hbm, ⟨25, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Bbw.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1024x2048, .bf16⟩
  | .hbm, ⟨3, _⟩ => ⟨S1024x2048, .bf16⟩
  | .hbm, ⟨4, _⟩ => ⟨S2048x1024, .f32⟩
  | .hbm, ⟨5, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BbwRefIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1024x2048, .bf16⟩
  | .hbm, ⟨3, _⟩ => ⟨S1024x2048, .bf16⟩
  | .hbm, ⟨4, _⟩ => ⟨S2048x2048, .f32⟩
  | .hbm, ⟨5, _⟩ => ⟨S_, .f32⟩
  | .hbm, ⟨6, _⟩ => ⟨S2048x1024, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x2048, .f32⟩
  | .hbm, ⟨13, _⟩ => ⟨S_, .f32⟩
  | .hbm, ⟨14, _⟩ => ⟨S2048x1024, .f32⟩
  | .hbm, ⟨15, _⟩ => ⟨S1024x2048, .f32⟩
  | .hbm, ⟨16, _⟩ => ⟨S2048x2048, .f32⟩
  | .hbm, ⟨17, _⟩ => ⟨S2048x1024, .f32⟩
  | .hbm, ⟨18, _⟩ => ⟨S1024x2048, .f32⟩
  | .hbm, ⟨19, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Dh1.lean ====
abbrev S2048x10240 : Shape := ⟨2, ![2048, 10240]⟩
abbrev S2048x2816 : Shape := ⟨2, ![2048, 2816]⟩
abbrev S2048x4x2560 : Shape := ⟨3, ![2048, 4, 2560]⟩
abbrev S4x2048x2560 : Shape := ⟨3, ![4, 2048, 2560]⟩
abbrev S2048x2048 : Shape := ⟨2, ![2048, 2048]⟩
abbrev S1024x2560 : Shape := ⟨2, ![1024, 2560]⟩
abbrev S1x1024x2560 : Shape := ⟨3, ![1, 1024, 2560]⟩
abbrev S128x2816 : Shape := ⟨2, ![128, 2816]⟩
abbrev S1024x1024 : Shape := ⟨2, ![1024, 1024]⟩
abbrev S8x2816 : Shape := ⟨2, ![8, 2816]⟩

abbrev nBuf : Space → Nat
  | .hbm => 13
  | .vmem => 23
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x4x2560, .bf16⟩
  | .hbm, ⟨7, _⟩ => ⟨S4x2048x2560, .bf16⟩
  | .hbm, ⟨8, _⟩ => ⟨S2048x2048, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S1024x1024, .f32⟩
  | .local _ .vmem, ⟨13, _⟩ => ⟨S1024x1024, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .vmem, ⟨18, _⟩ => ⟨S128x2816, .f32⟩
  | .local _ .vmem, ⟨19, _⟩ => ⟨S128x2816, .f32⟩
  | .local _ .vmem, ⟨20, _⟩ => ⟨S128x2816, .f32⟩
  | .local _ .vmem, ⟨21, _⟩ => ⟨S128x2816, .f32⟩
  | .local _ .vmem, ⟨22, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32 : BitVec 32 := 8#32
  let v16 : BitVec 32 := Scalar.muli arg15 c8_i32
  v16
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v16 : BitVec 32 := Scalar.muli arg15 c8_i32
  let v17 : BitVec 32 := v16
  let v18 : Index := Scalar.indexCast v17
  let c0_11 : Index := 0#32
  ![v18.toNat, 0]
def k0_cond3 (i : grid0.Coords) : BitVec 1 :=
  let arg2 : BitVec 32 := BitVec.ofNat 32 (i 2).val
  let c3_i32_9 : BitVec 32 := 3#32
  let v13 : BitVec 1 := Scalar.cmpi .eq arg2 c3_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S128x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Dh1Ideal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== Dh1RefIdeal.lean ====
abbrev S2048x10240 : Shape := ⟨2, ![2048, 10240]⟩
abbrev S2048x2816 : Shape := ⟨2, ![2048, 2816]⟩
abbrev S_ : Shape := ⟨0, ![]⟩
abbrev S2048x2048 : Shape := ⟨2, ![2048, 2048]⟩
abbrev S10240x2048 : Shape := ⟨2, ![10240, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x10240, .f32⟩
  | .hbm, ⟨7, _⟩ => ⟨S_, .f32⟩
  | .hbm, ⟨8, _⟩ => ⟨S2048x2048, .f32⟩
  | .hbm, ⟨9, _⟩ => ⟨S2048x10240, .f32⟩
  | .hbm, ⟨10, _⟩ => ⟨S2048x10240, .f32⟩
  | .hbm, ⟨11, _⟩ => ⟨S10240x2048, .f32⟩
  | .hbm, ⟨12, _⟩ => ⟨S2048x10240, .f32⟩
  | .hbm, ⟨13, _⟩ => ⟨S2048x2048, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Ufo.lean ====
abbrev S1408x2048 : Shape := ⟨2, ![1408, 2048]⟩
abbrev S1x1408x2048 : Shape := ⟨3, ![1, 1408, 2048]⟩
abbrev S176x2048 : Shape := ⟨2, ![176, 2048]⟩
abbrev S1x176x2048 : Shape := ⟨3, ![1, 176, 2048]⟩

abbrev nBuf : Space → Nat
  | .hbm => 9
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1x1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S1x176x2048, .f32⟩
  | .local _ .vmem, ⟨7, _⟩ => ⟨S1x176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UfoIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UfoRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Uout.lean ====
abbrev S512x2048 : Shape := ⟨2, ![512, 2048]⟩
abbrev S1x512x2048 : Shape := ⟨3, ![1, 512, 2048]⟩
abbrev S128x2048 : Shape := ⟨2, ![128, 2048]⟩
abbrev S1x128x2048 : Shape := ⟨3, ![1, 128, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S1x512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .f32⟩
  | .local _ .vmem, ⟨7, _⟩ => ⟨S1x128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UoutIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UoutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ubg.lean ====
abbrev S1024x512 : Shape := ⟨2, ![1024, 512]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1x1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UbgIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UbgRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ubh.lean ====
abbrev S1024x512 : Shape := ⟨2, ![1024, 512]⟩
abbrev S1x1024x512 : Shape := ⟨3, ![1, 1024, 512]⟩
abbrev S512x512 : Shape := ⟨2, ![512, 512]⟩
abbrev S1x512x512 : Shape := ⟨3, ![1, 512, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1x1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UbhIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UbhRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Uin.lean ====
abbrev S2048x2560 : Shape := ⟨2, ![2048, 2560]⟩
abbrev S1x2048x2560 : Shape := ⟨3, ![1, 2048, 2560]⟩
abbrev S128x2560 : Shape := ⟨2, ![128, 2560]⟩
abbrev S1x128x2560 : Shape := ⟨3, ![1, 128, 2560]⟩

abbrev nBuf : Space → Nat
  | .hbm => 9
  | .vmem => 16
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S1x2048x2560, .f32⟩
  | .hbm, ⟨5, _⟩ => ⟨S2048x2560, .f32⟩
  | .hbm, ⟨6, _⟩ => ⟨S2048x2560, .f32⟩
  | .hbm, ⟨7, _⟩ => ⟨S2048x2560, .f32⟩
  | .hbm, ⟨8, _⟩ => ⟨S2048x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S1x128x2560, .f32⟩
  | .local _ .vmem, ⟨7, _⟩ => ⟨S1x128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | .local _ .vmem, ⟨14, _⟩ => ⟨S128x2560, .f32⟩
  | .local _ .vmem, ⟨15, _⟩ => ⟨S128x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UinIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UinRefIdeal.lean ====
abbrev S2048x2560 : Shape := ⟨2, ![2048, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S_, .f32⟩
  | .hbm, ⟨5, _⟩ => ⟨S2048x2560, .f32⟩
  | .hbm, ⟨6, _⟩ => ⟨S2048x2560, .f32⟩
  | .hbm, ⟨7, _⟩ => ⟨S_, .f32⟩
  | .hbm, ⟨8, _⟩ => ⟨S2048x2560, .f32⟩
  | .hbm, ⟨9, _⟩ => ⟨S2048x2560, .f32⟩
  | .hbm, ⟨10, _⟩ => ⟨S2048x2560, .f32⟩
  | .hbm, ⟨11, _⟩ => ⟨S_, .f32⟩
  | .hbm, ⟨12, _⟩ => ⟨S2048x2560, .f32⟩
  | .hbm, ⟨13, _⟩ => ⟨S2048x2560, .f32⟩
  | .hbm, ⟨14, _⟩ => ⟨S2048x2560, .f32⟩
  | .hbm, ⟨15, _⟩ => ⟨S_, .f32⟩
  | .hbm, ⟨16, _⟩ => ⟨S2048x2560, .f32⟩
  | .hbm, ⟨17, _⟩ => ⟨S2048x2560, .f32⟩
  | .hbm, ⟨18, _⟩ => ⟨S2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S_, .f32⟩
  | .hbm, ⟨23, _⟩ => ⟨S2048x2560, .f32⟩
  | .hbm, ⟨24, _⟩ => ⟨S2048x2560, .f32⟩
  | .hbm, ⟨25, _⟩ => ⟨S2048x2560, .f32⟩
  | .hbm, ⟨26, _⟩ => ⟨S_, .f32⟩
  | .hbm, ⟨27, _⟩ => ⟨S2048x2560, .f32⟩
  | .hbm, ⟨28, _⟩ => ⟨S2048x2560, .f32⟩
  | .hbm, ⟨29, _⟩ => ⟨S2048x2560, .f32⟩
  | .hbm, ⟨30, _⟩ => ⟨S_, .f32⟩
  | .hbm, ⟨31, _⟩ => ⟨S2048x2560, .f32⟩
  | .hbm, ⟨32, _⟩ => ⟨S2048x2560, .f32⟩
  | .hbm, ⟨33, _⟩ => ⟨S2048x2560, .f32⟩
  | .hbm, ⟨34, _⟩ => ⟨S_, .f32⟩
  | .hbm, ⟨35, _⟩ => ⟨S2048x2560, .f32⟩
  | .hbm, ⟨36, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Usm.lean ====
abbrev S1256x128 : Shape := ⟨2, ![1256, 128]⟩
abbrev S8x1256x128 : Shape := ⟨3, ![8, 1256, 128]⟩
abbrev S1x1256x128 : Shape := ⟨3, ![1, 1256, 128]⟩

abbrev nBuf : Space → Nat
  | .hbm => 8
  | .vmem => 8
  | .smem => 0
  | _ => 0

abbrev bufTy : (tb : Table) → Fin (tcTables nBuf tb) → BufTy
  | .hbm, ⟨0, _⟩ => ⟨S1256x128, .f32⟩
  | .hbm, ⟨1, _⟩ => ⟨S1256x128, .f32⟩
  | .hbm, ⟨2, _⟩ => ⟨S1256x128, .f32⟩
  | .hbm, ⟨3, _⟩ => ⟨S8x1256x128, .f32⟩
  | .hbm, ⟨4, _⟩ => ⟨S1256x128, .f32⟩
  | .hbm, ⟨5, _⟩ => ⟨S1256x128, .f32⟩
  | .hbm, ⟨6, _⟩ => ⟨S1256x128, .f32⟩
  | .hbm, ⟨7, _⟩ => ⟨S1256x128, .f32⟩
  | .local _ .vmem, ⟨0, _⟩ => ⟨S1256x128, .f32⟩
  | .local _ .vmem, ⟨1, _⟩ => ⟨S1256x128, .f32⟩
  | .local _ .vmem, ⟨2, _⟩ => ⟨S1256x128, .f32⟩
  | .local _ .vmem, ⟨3, _⟩ => ⟨S8x1256x128, .f32⟩
  | .local _ .vmem, ⟨4, _⟩ => ⟨S1256x128, .f32⟩
  | .local _ .vmem, ⟨5, _⟩ => ⟨S1256x128, .f32⟩
  | .local _ .vmem, ⟨6, _⟩ => ⟨S1256x128, .f32⟩
  | .local _ .vmem, ⟨7, _⟩ => ⟨S1256x128, .f32⟩
  | _, _ => ⟨S1256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== UsmIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UsmRefIdeal.lean ====
abbrev S1256x128 : Shape := ⟨2, ![1256, 128]⟩
abbrev S8x1256x128 : Shape := ⟨3, ![8, 1256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1256x128, .f32⟩
  | .hbm, ⟨1, _⟩ => ⟨S1256x128, .f32⟩
  | .hbm, ⟨2, _⟩ => ⟨S1256x128, .f32⟩
  | .hbm, ⟨3, _⟩ => ⟨S8x1256x128, .f32⟩
  | .hbm, ⟨4, _⟩ => ⟨S_, .f32⟩
  | .hbm, ⟨5, _⟩ => ⟨S1256x128, .f32⟩
  | .hbm, ⟨6, _⟩ => ⟨S_, .f32⟩
  | .hbm, ⟨7, _⟩ => ⟨S1256x128, .f32⟩
  | .hbm, ⟨8, _⟩ => ⟨S1256x128, .f32⟩
  | .hbm, ⟨9, _⟩ => ⟨S_, .f32⟩
  | .hbm, ⟨10, _⟩ => ⟨S1256x128, .f32⟩
  | .hbm, ⟨11, _⟩ => ⟨S1256x128, .f32⟩
  | .hbm, ⟨12, _⟩ => ⟨S1256x128, .f32⟩
  | .hbm, ⟨13, _⟩ => ⟨S_, .f32⟩
  | .hbm, ⟨14, _⟩ => ⟨S1256x128, .f32⟩
  | .hbm, ⟨15, _⟩ => ⟨S1256x128, .f32⟩
  | .hbm, ⟨16, _⟩ => ⟨S1256x128, .f32⟩
  | .hbm, ⟨17, _⟩ => ⟨S_, .f32⟩
  | .hbm, ⟨18, _⟩ => ⟨S1256x128, .f32⟩
  | .hbm, ⟨19, _⟩ => ⟨S1256x128, .f32⟩
  | .hbm, ⟨20, _⟩ => ⟨S1256x128, .f32⟩
  | .hbm, ⟨21, _⟩ => ⟨S_, .f32⟩
  | .hbm, ⟨22, _⟩ => ⟨S1256x128, .f32⟩
  | .hbm, ⟨23, _⟩ => ⟨S1256x128, .f32⟩
  | .hbm, ⟨24, _⟩ => ⟨S_, .f32⟩
  | .hbm, ⟨25, _⟩ => ⟨S1256x128, .f32⟩
  | .hbm, ⟨26, _⟩ => ⟨S1256x128, .f32⟩
  | .hbm, ⟨27, _⟩ => ⟨S1256x128, .f32⟩
  | .hbm, ⟨28, _⟩ => ⟨S_, .f32⟩
  | .hbm, ⟨29, _⟩ => ⟨S1256x128, .f32⟩
  | .hbm, ⟨30, _⟩ => ⟨S1256x128, .f32⟩
  | .hbm, ⟨31, _⟩ => ⟨S1256x128, .f32⟩
  | .hbm, ⟨32, _⟩ => ⟨S_, .f32⟩
  | .hbm, ⟨33, _⟩ => ⟨S1256x128, .f32⟩
  | .hbm, ⟨34, _⟩ => ⟨S1256x128, .f32⟩
  | .hbm, ⟨35, _⟩ => ⟨S1256x128, .f32⟩
  | .hbm, ⟨36, _⟩ => ⟨S_, .f32⟩
  | .hbm, ⟨37, _⟩ => ⟨S1256x128, .f32⟩
  | .hbm, ⟨38, _⟩ => ⟨S1256x128, .f32⟩
  | _, _ => ⟨S1256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Uada.lean ====
abbrev S2048x3072 : Shape := ⟨2, ![2048, 3072]⟩
abbrev S8x2048 : Shape := ⟨2, ![8, 2048]⟩
abbrev S8x3072 : Shape := ⟨2, ![8, 3072]⟩
abbrev S128x3072 : Shape := ⟨2, ![128, 3072]⟩
abbrev S8x128 : Shape := ⟨2, ![8, 128]⟩

abbrev nBuf : Space → Nat
  | .hbm => 9
  | .vmem => 17
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S8x2048, .f32⟩
  | .hbm, ⟨4, _⟩ => ⟨S8x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S8x128, .f32⟩
  | .local _ .vmem, ⟨7, _⟩ => ⟨S8x128, .f32⟩
  | .local _ .vmem, ⟨8, _⟩ => ⟨S8x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UadaIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== UadaRefIdeal.lean ====
abbrev S2048x3072 : Shape := ⟨2, ![2048, 3072]⟩
abbrev S8x2048 : Shape := ⟨2, ![8, 2048]⟩
abbrev S8x3072 : Shape := ⟨2, ![8, 3072]⟩
abbrev S_ : Shape := ⟨0, ![]⟩
abbrev S1x3072 : Shape := ⟨2, ![1, 3072]⟩
abbrev S3072x2048 : Shape := ⟨2, ![3072, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S8x2048, .f32⟩
  | .hbm, ⟨4, _⟩ => ⟨S8x3072, .f32⟩
  | .hbm, ⟨5, _⟩ => ⟨S_, .f32⟩
  | .hbm, ⟨6, _⟩ => ⟨S1x3072, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x3072, .f32⟩
  | .hbm, ⟨17, _⟩ => ⟨S8x3072, .f32⟩
  | .hbm, ⟨18, _⟩ => ⟨S8x3072, .f32⟩
  | .hbm, ⟨19, _⟩ => ⟨S3072x2048, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S_, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S_, .f32⟩
  | .hbm, ⟨52, _⟩ => ⟨S2048x3072, .f32⟩
  | .hbm, ⟨53, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Nf1.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Nf1RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Nf2.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Nf2RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Afw.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AfwRefIdeal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Mrg.lean ====
abbrev S2048x1024 : Shape := ⟨2, ![2048, 1024]⟩
abbrev S1024x2048 : Shape := ⟨2, ![1024, 2048]⟩
abbrev S2048x10240 : Shape := ⟨2, ![2048, 10240]⟩
abbrev S1x4096 : Shape := ⟨2, ![1, 4096]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 22
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x10240, .f32⟩
  | .hbm, ⟨5, _⟩ => ⟨S1x4096, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MrgRefIdeal.lean ====
abbrev S2048x1024 : Shape := ⟨2, ![2048, 1024]⟩
abbrev S1024x2048 : Shape := ⟨2, ![1024, 2048]⟩
abbrev S2048x10240 : Shape := ⟨2, ![2048, 10240]⟩
abbrev S1x4096 : Shape := ⟨2, ![1, 4096]⟩
abbrev S2048x2048 : Shape := ⟨2, ![2048, 2048]⟩
abbrev S1x2048 : Shape := ⟨2, ![1, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x10240, .f32⟩
  | .hbm, ⟨5, _⟩ => ⟨S1x4096, .f32⟩
  | .hbm, ⟨6, _⟩ => ⟨S2048x1024, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x2048, .f32⟩
  | .hbm, ⟨12, _⟩ => ⟨S2048x2048, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .bf16⟩
  | .hbm, ⟨37, _⟩ => ⟨S2048x2048, .bf16⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Nbw.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_18 : BitVec 32 := 0#32
  let v40 : BitVec 1 := Scalar.cmpi .ne v39 c0_i32_18
  v40

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_20 : BitVec 32 := 0#32
  let v47 : BitVec 1 := Scalar.cmpi .ne v46 c0_i32_20
  v47

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v48 : BitVec 1 := Scalar.xori v0 true_21
  let v49 : BitVec 32 := Scalar.extui v48
  let c0_i32_22 : BitVec 32 := 0#32
  let v50 : BitVec 1 := Scalar.cmpi .ne v49 c0_i32_22
  v50

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_24 : BitVec 32 := 0#32
  let v55 : BitVec 1 := Scalar.cmpi .ne v54 c0_i32_24
  v55

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v56 : BitVec 1 := Scalar.xori v0 true_25
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NbwRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Nb2.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_18 : BitVec 32 := 0#32
  let v40 : BitVec 1 := Scalar.cmpi .ne v39 c0_i32_18
  v40

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_20 : BitVec 32 := 0#32
  let v47 : BitVec 1 := Scalar.cmpi .ne v46 c0_i32_20
  v47

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v48 : BitVec 1 := Scalar.xori v0 true_21
  let v49 : BitVec 32 := Scalar.extui v48
  let c0_i32_22 : BitVec 32 := 0#32
  let v50 : BitVec 1 := Scalar.cmpi .ne v49 c0_i32_22
  v50

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_24 : BitVec 32 := 0#32
  let v55 : BitVec 1 := Scalar.cmpi .ne v54 c0_i32_24
  v55

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_25 : BitVec 1 := 1#1
  let v56 : BitVec 1 := Scalar.xori v0 true_25
  let v57 : BitVec 32 := Scalar.extui v56
  let c0_i32_26 : BitVec 32 := 0#32
  let v58 : BitVec 1 := Scalar.cmpi .ne v57 c0_i32_26
  v58

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_34 : BitVec 32 := 0#32
  let v69 : BitVec 1 := Scalar.cmpi .ne v68 c0_i32_34
  v69

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v70 : BitVec 1 := Scalar.xori v0 true_35
  let v71 : BitVec 32 := Scalar.extui v70
  let c0_i32_36 : BitVec 32 := 0#32
  let v72 : BitVec 1 := Scalar.cmpi .ne v71 c0_i32_36
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Nb2RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Fls.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x128, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_22 : BitVec 32 := 0#32
  let v53 : BitVec 1 := Scalar.cmpi .ne v52 c0_i32_22
  v53

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v54 : BitVec 1 := Scalar.xori v0 v_true
  let v55 : BitVec 32 := Scalar.extui v54
  let c0_i32_23 : BitVec 32 := 0#32
  let v56 : BitVec 1 := Scalar.cmpi .ne v55 c0_i32_23
  v56

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v60 : BitVec 32 := Scalar.extui v0
  let c0_i32_25 : BitVec 32 := 0#32
  let v61 : BitVec 1 := Scalar.cmpi .ne v60 c0_i32_25
  v61

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_26 : BitVec 1 := 1#1
  let v62 : BitVec 1 := Scalar.xori v0 true_26
  let v63 : BitVec 32 := Scalar.extui v62
  let c0_i32_27 : BitVec 32 := 0#32
  let v64 : BitVec 1 := Scalar.cmpi .ne v63 c0_i32_27
  v64

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_29 : BitVec 32 := 0#32
  let v69 : BitVec 1 := Scalar.cmpi .ne v68 c0_i32_29
  v69

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_30 : BitVec 1 := 1#1
  let v70 : BitVec 1 := Scalar.xori v0 true_30
  let v71 : BitVec 32 := Scalar.extui v70
  let c0_i32_31 : BitVec 32 := 0#32
  let v72 : BitVec 1 := Scalar.cmpi .ne v71 c0_i32_31
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FlsRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S2048x2048, .bf16⟩
  | .hbm, ⟨81, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Obw.lean ====
abbrev S2048x2048 : Shape := ⟨2, ![2048, 2048]⟩
abbrev S2048x10240 : Shape := ⟨2, ![2048, 10240]⟩
abbrev S1x4096 : Shape := ⟨2, ![1, 4096]⟩
abbrev S1x2048 : Shape := ⟨2, ![1, 2048]⟩
abbrev S512x2048 : Shape := ⟨2, ![512, 2048]⟩
abbrev S1024x2048 : Shape := ⟨2, ![1024, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 12
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x10240, .f32⟩
  | .hbm, ⟨5, _⟩ => ⟨S1x4096, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v52 : BitVec 32 := Scalar.extui v0
  let c0_i32_32 : BitVec 32 := 0#32
  let v53 : BitVec 1 := Scalar.cmpi .ne v52 c0_i32_32
  v53

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v54 : BitVec 1 := Scalar.xori v0 v_true
  let v55 : BitVec 32 := Scalar.extui v54
  let c0_i32_33 : BitVec 32 := 0#32
  let v56 : BitVec 1 := Scalar.cmpi .ne v55 c0_i32_33
  v56

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v59 : BitVec 32 := Scalar.extui v0
  let c0_i32_35 : BitVec 32 := 0#32
  let v60 : BitVec 1 := Scalar.cmpi .ne v59 c0_i32_35
  v60

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_36 : BitVec 1 := 1#1
  let v61 : BitVec 1 := Scalar.xori v0 true_36
  let v62 : BitVec 32 := Scalar.extui v61
  let c0_i32_37 : BitVec 32 := 0#32
  let v63 : BitVec 1 := Scalar.cmpi .ne v62 c0_i32_37
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ObwRefIdeal.lean ====
abbrev S2048x2048 : Shape := ⟨2, ![2048, 2048]⟩
abbrev S2048x10240 : Shape := ⟨2, ![2048, 10240]⟩
abbrev S1x4096 : Shape := ⟨2, ![1, 4096]⟩
abbrev S_ : Shape := ⟨0, ![]⟩
abbrev S1x2048 : Shape := ⟨2, ![1, 2048]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x10240, .f32⟩
  | .hbm, ⟨5, _⟩ => ⟨S1x4096, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S2048x2048, .bf16⟩
  | .hbm, ⟨64, _⟩ => ⟨S2048x2048, .bf16⟩
  | .hbm, ⟨65, _⟩ => ⟨S2048x2048, .bf16⟩
  | .hbm, ⟨66, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Gfw.lean ====
abbrev S2048x10240 : Shape := ⟨2, ![2048, 10240]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S_ : Shape := ⟨0, ![]⟩
abbrev S128x128 : Shape := ⟨2, ![128, 128]⟩
abbrev S1x1024 : Shape := ⟨2, ![1, 1024]⟩
abbrev S2048x1024 : Shape := ⟨2, ![2048, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 12
  | .vmem => 10
  | .smem => 0
  | _ => 0

abbrev bufTy : (tb : Table) → Fin (tcTables nBuf tb) → BufTy
  | .hbm, ⟨0, _⟩ => ⟨S2048x10240, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S1x1024, .f32⟩
  | .hbm, ⟨10, _⟩ => ⟨S1x1024, .f32⟩
  | .hbm, ⟨11, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x128, .f32⟩
  | .local _ .vmem, ⟨8, _⟩ => ⟨S512x1024, .bf16⟩
  | .local _ .vmem, ⟨9, _⟩ => ⟨S512x1024, .bf16⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GfwIdeal.lean ====
variable {F : FTy → Type} [FloatOps F] [Named F]
def κ : String → Option EReal := fun
  | "gelu" => some ((8943 / 200000 : ℝ) : EReal)
  | _ => none
-- ==== GfwRefIdeal.lean ====
abbrev S2048x10240 : Shape := ⟨2, ![2048, 10240]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S2048x1024 : Shape := ⟨2, ![2048, 1024]⟩
abbrev S_ : Shape := ⟨0, ![]⟩
abbrev S1x2048x1024 : Shape := ⟨3, ![1, 2048, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S1x2048x1024, .f32⟩
  | .hbm, ⟨50, _⟩ => ⟨S_, .f32⟩
  | .hbm, ⟨51, _⟩ => ⟨S1x2048, .f32⟩
  | .hbm, ⟨52, _⟩ => ⟨S1x2048x1, .f32⟩
  | .hbm, ⟨53, _⟩ => ⟨S_, .f32⟩
  | .hbm, ⟨54, _⟩ => ⟨S1x2048x1, .f32⟩
  | .hbm, ⟨55, _⟩ => ⟨S1x2048x1, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S_, .f32⟩
  | .hbm, ⟨60, _⟩ => ⟨S1x2048, .f32⟩
  | .hbm, ⟨61, _⟩ => ⟨S1x2048x1, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S1x2048x1024, .f32⟩
  | .hbm, ⟨66, _⟩ => ⟨S1x2048x1024, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S1x2048x1, .f32⟩
  | .hbm, ⟨71, _⟩ => ⟨S1x2048x1024, .f32⟩
  | .hbm, ⟨72, _⟩ => ⟨S1x2048x1024, .f32⟩
  | .hbm, ⟨73, _⟩ => ⟨S1x1x1024, .f32⟩
  | .hbm, ⟨74, _⟩ => ⟨S1x2048x1024, .f32⟩
  | .hbm, ⟨75, _⟩ => ⟨S1x2048x1024, .f32⟩
  | .hbm, ⟨76, _⟩ => ⟨S1x1x1024, .f32⟩
  | .hbm, ⟨77, _⟩ => ⟨S1x2048x1024, .f32⟩
  | .hbm, ⟨78, _⟩ => ⟨S1x2048x1024, .f32⟩
  | .hbm, ⟨79, _⟩ => ⟨S1x16x128x8x128, .f32⟩
  | .hbm, ⟨80, _⟩ => ⟨S_, .i1⟩
  | .hbm, ⟨81, _⟩ => ⟨S128x128, .i1⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .i1⟩
  | .hbm, ⟨89, _⟩ => ⟨S128x128, .i1⟩
  | .hbm, ⟨90, _⟩ => ⟨S128x128, .i1⟩
  | .hbm, ⟨91, _⟩ => ⟨S1x128x128, .i1⟩
  | .hbm, ⟨92, _⟩ => ⟨S_, .i32⟩
  | .hbm, ⟨93, _⟩ => ⟨S_, .f32⟩
  | .hbm, ⟨94, _⟩ => ⟨S8x128x128, .i1⟩
  | .hbm, ⟨95, _⟩ => ⟨S8x128x128, .f32⟩
  | .hbm, ⟨96, _⟩ => ⟨S8x128x128, .f32⟩
  | .hbm, ⟨97, _⟩ => ⟨S8x1x16x128x128, .f32⟩
  | .hbm, ⟨98, _⟩ => ⟨S1x16x128x8x128, .f32⟩
  | .hbm, ⟨99, _⟩ => ⟨S128x8, .f32⟩
  | .hbm, ⟨100, _⟩ => ⟨S1x1x128x8x1, .f32⟩
  | .hbm, ⟨101, _⟩ => ⟨S1x16x128x8x128, .f32⟩
  | .hbm, ⟨102, _⟩ => ⟨S1x16x128x8x128, .f32⟩
  | .hbm, ⟨103, _⟩ => ⟨S1x2048x1024, .f32⟩
  | .hbm, ⟨104, _⟩ => ⟨S1x2048x1024, .f32⟩
  | .hbm, ⟨105, _⟩ => ⟨S2048x1024, .f32⟩
  | .hbm, ⟨106, _⟩ => ⟨S2048x1024, .bf16⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_v60 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]
-- ==== Proof.Body.lean ====
/- What one grid point of the kernel `gmlp_bwd` computes, as functions of the blocks it loads: the printed body is
   unrolled over four chunks of 128 rows and eight groups of 128 columns, and each definition below is the text of one
   step, written once with the chunk and the group as variables. -/
module

public import proofs.«01_k».proof.Proof.Gen.KernelIdeal

@[expose] public section

noncomputable section

namespace Cert.KernelIdeal.Body

open Idealize.ShloMosaic Idealize.SL.Sem Cert.KernelIdeal.Gen

variable {F : FTy → Type} [FloatOps F] [Named F]

/-- The offsets of group `g`'s columns lie inside a 128 × 1024 block. -/
theorem slices_col : ∀ g : Fin 8, S128x1024.Slices ![0, 128 * g.val] S128x128 := by decide

/-- The constant vector of a 32-bit word. -/
def cst (S : Shape) (b : BitVec 32) : FVec F S .f32 := broadcast S (Scalar.ofBits .f32 b)

/-- `tanh (c * (x + κ x³))`. -/
def th {S : Shape} (x : FVec F S .f32) : FVec F S .f32 :=
  tanh (mulf (cst S 0x3F4C422A#32) (addf x (mulf (mulf (mulf (broadcast S (Named.named κ "gelu" 0x3D372713#32)) x) x) x)))

/-- The tanh form of GELU. -/
def gelu {S : Shape} (x : FVec F S .f32) : FVec F S .f32 :=
  mulf (mulf (cst S 0x3F000000#32) x) (addf (cst S 0x3F800000#32) (th x))

/-- The derivative of `gelu`. -/
def geluD {S : Shape} (x : FVec F S .f32) : FVec F S .f32 :=
  addf (mulf (cst S 0x3F000000#32) (addf (cst S 0x3F800000#32) (th x)))
    (mulf (mulf (mulf (mulf (cst S 0x3F000000#32) x) (subf (cst S 0x3F800000#32) (mulf (th x) (th x)))) (cst S 0x3F4C422A#32))
      (addf (cst S 0x3F800000#32) (mulf (mulf (broadcast S (Named.named κ "gelu3" 0x3E095D4F#32)) x) x)))

/-- The mean of each row. -/
def mean (x : FVec F S128x1024 .f32) : FVec F S128x1 .f32 :=
  divf (shapeCast S128x1 (multiReduction .add [1] S128 x 0x00000000#32 reduces_S128x1024_S128 (.inl rfl) rfl) shapeCasts_S128_S128x1)
    (cst S128x1 0x44800000#32)

/-- A column spread over the lanes. -/
def bc (x : FVec F S128x1 .f32) : FVec F S128x1024 .f32 := broadcastTo S128x1024 x broadcasts_S128x1_S128x1024

/-- A row spread over the rows. -/
def br (x : FVec F S1x1024 .f32) : FVec F S128x1024 .f32 := broadcastTo S128x1024 x broadcasts_S1x1024_S128x1024

/-- `gelu v` less its mean. -/
def cen (v : FVec F S128x1024 .f32) : FVec F S128x1024 .f32 := subf (gelu v) (bc (mean (gelu v)))

/-- The reciprocal standard deviation. -/
def rs (v : FVec F S128x1024 .f32) : FVec F S128x1 .f32 :=
  rsqrt (addf (mean (mulf (cen v) (cen v))) (cst S128x1 0x358637BD#32))

/-- The normalised value. -/
def xh (v : FVec F S128x1024 .f32) : FVec F S128x1024 .f32 := mulf (cen v) (bc (rs v))

/-- The same-shape cast that follows the load of a row. -/
def row (x : Vec F S1x1024 .f32) : FVec F S1x1024 .f32 := shapeCast S1x1024 x shapeCasts_S1x1024_S1x1024

/-- The layer norm's result. -/
def vn (lg lb : Vec F S1x1024 .f32) (v : FVec F S128x1024 .f32) : FVec F S128x1024 .f32 :=
  addf (mulf (xh v) (br (row lg))) (br (row lb))

/-- Group `g`'s columns. -/
def col (g : Fin 8) (x : FVec F S128x1024 .f32) : FVec F S128x128 .f32 :=
  extractStridedSlice S128x128 ![0, 128 * g.val] x (slices_col g)

/-- The lower triangle. -/
def tril : IVec S128x128 1 := cmpi .sge (iota .tc S128x128 32 [0] iota_S128x128_d0_w32) (iota .tc S128x128 32 [1] iota_S128x128_d1_w32)

/-- A group's weights below the diagonal. -/
def wm (w : Vec F S1x128x128 .f32) : FVec F S128x128 .bf16 :=
  truncf .bf16 (select tril (shapeCast S128x128 w shapeCasts_S1x128x128_S128x128) (cst S128x128 0x00000000#32)) bitsLt_bf16_f32

/-- A group of the normalised values, cast. -/
def vg (g : Fin 8) (lg lb : Vec F S1x1024 .f32) (v : FVec F S128x1024 .f32) : FVec F S128x128 .bf16 :=
  truncf .bf16 (col g (vn lg lb v)) bitsLt_bf16_f32

/-- The spatial gate of a group. -/
def sg (g : Fin 8) (lg lb : Vec F S1x1024 .f32) (w : Vec F S1x128x128 .f32) (b : Vec F S128x1 .f32) (v : FVec F S128x1024 .f32) : FVec F S128x128 .f32 :=
  addf (matmul dot_S128x128_S128x128_S128x128_1_0_0_1_n_n none (wm w) (vg g lg lb v) (constant S128x128 .f32 0x00000000#32))
    (broadcastTo S128x128 (shapeCast S128x1 b shapeCasts_S128x1_S128x1) broadcasts_S128x1_S128x128)

/-- The gradient of a group's gate. -/
def ds (g : Fin 8) (dy u : FVec F S128x1024 .f32) : FVec F S128x128 .f32 := mulf (col g dy) (col g (gelu u))

/-- The gate's gradient, cast. -/
def dsb (g : Fin 8) (dy u : FVec F S128x1024 .f32) : FVec F S128x128 .bf16 := truncf .bf16 (ds g dy u) bitsLt_bf16_f32

/-- A chunk's and a group's block of the gradient of `u`. -/
def du (g : Fin 8) (lg lb : Vec F S1x1024 .f32) (w : Vec F S1x128x128 .f32) (b : Vec F S128x1 .f32) (dy u v : FVec F S128x1024 .f32) : FVec F S128x128 .bf16 :=
  truncf .bf16 (mulf (mulf (col g dy) (sg g lg lb w b v)) (geluD (col g u))) bitsLt_bf16_f32

/-- A chunk's part of the gradient of a group's weights. -/
def dwsT (g : Fin 8) (lg lb : Vec F S1x1024 .f32) (dy u v : FVec F S128x1024 .f32) : FVec F S128x128 .f32 :=
  select tril (matmul dot_S128x128_S128x128_S128x128_1_1_0_0_n_n none (dsb g dy u) (vg g lg lb v) (constant S128x128 .f32 0x00000000#32))
    (cst S128x128 0x00000000#32)

/-- A chunk's part of the gradient of a group's bias, in the group's lane. -/
def dbsT (g : Fin 8) (dy u : FVec F S128x1024 .f32) : FVec F S128x128 .f32 :=
  select (cmpi .eq (iota .tc S128x128 32 [1] iota_S128x128_d1_w32) (broadcast S128x128 (BitVec.ofNat 32 g.val)))
    (broadcastTo S128x128 (shapeCast S128x1 (shapeCast S128x1 (multiReduction .add [1] S128 (ds g dy u) 0x00000000#32 reduces_S128x128_S128 (.inl rfl) rfl)
      shapeCasts_S128_S128x1) shapeCasts_S128x1_S128x1) broadcasts_S128x1_S128x128) (cst S128x128 0x00000000#32)

/-- A group's block of the gradient of the normalised values, as it is stored in the scratch. -/
def dvnT (g : Fin 8) (w : Vec F S1x128x128 .f32) (dy u : FVec F S128x1024 .f32) : FVec F S128x128 .f32 :=
  shapeCast S128x128 (matmul dot_S128x128_S128x128_S128x128_0_0_1_1_n_n none (wm w) (dsb g dy u) (constant S128x128 .f32 0x00000000#32))
    shapeCasts_S128x128_S128x128

/-- The sum of each column. -/
def colsum (x : FVec F S128x1024 .f32) : FVec F S1x1024 .f32 :=
  shapeCast S1x1024 (multiReduction .add [0] S1024 x 0x00000000#32 reduces_S128x1024_S1024 (.inl rfl) rfl) shapeCasts_S1024_S1x1024

/-- The layer norm's backward pass: the gradient of `gelu v` from the gradient `n` of the normalised values. -/
def dgv (lg : Vec F S1x1024 .f32) (v n : FVec F S128x1024 .f32) : FVec F S128x1024 .f32 :=
  mulf (bc (rs v)) (subf (subf (mulf n (br (row lg))) (bc (mean (mulf n (br (row lg))))))
    (mulf (xh v) (bc (mean (mulf (mulf n (br (row lg))) (xh v))))))

/-- A chunk's block of the gradient of `v`. -/
def dv (lg : Vec F S1x1024 .f32) (v n : FVec F S128x1024 .f32) : FVec F S128x1024 .bf16 :=
  truncf .bf16 (mulf (dgv lg v n) (geluD v)) bitsLt_bf16_f32

/-! ## The point's four chunks -/

/-- A group's weight gradient over the point's four chunks. -/
def dws4 (g : Fin 8) (lg lb : Vec F S1x1024 .f32) (D U V : Fin 4 → FVec F S128x1024 .f32) : FVec F S128x128 .f32 :=
  addf (addf (addf (addf (cst S128x128 0x00000000#32) (dwsT g lg lb (D 0) (U 0) (V 0))) (dwsT g lg lb (D 1) (U 1) (V 1)))
    (dwsT g lg lb (D 2) (U 2) (V 2))) (dwsT g lg lb (D 3) (U 3) (V 3))

/-- One chunk's additions to the bias gradient. -/
def dbs1 (a : FVec F S128x128 .f32) (D U : FVec F S128x1024 .f32) : FVec F S128x128 .f32 :=
  addf (addf (addf (addf (addf (addf (addf (addf a (dbsT 0 D U)) (dbsT 1 D U)) (dbsT 2 D U)) (dbsT 3 D U)) (dbsT 4 D U)) (dbsT 5 D U))
    (dbsT 6 D U)) (dbsT 7 D U)

/-- The bias gradient over the point's four chunks. -/
def dbs4 (D U : Fin 4 → FVec F S128x1024 .f32) : FVec F S128x128 .f32 :=
  dbs1 (dbs1 (dbs1 (dbs1 (cst S128x128 0x00000000#32) (D 0) (U 0)) (D 1) (U 1)) (D 2) (U 2)) (D 3) (U 3)

/-- The offset gradient over the four chunks. -/
def dlb4 (N : Fin 4 → FVec F S128x1024 .f32) : FVec F S1x1024 .f32 :=
  addf (addf (addf (addf (cst S1x1024 0x00000000#32) (colsum (N 0))) (colsum (N 1))) (colsum (N 2))) (colsum (N 3))

/-- The scale gradient over the four chunks. -/
def dlg4 (V N : Fin 4 → FVec F S128x1024 .f32) : FVec F S1x1024 .f32 :=
  addf (addf (addf (addf (cst S1x1024 0x00000000#32) (colsum (mulf (N 0) (xh (V 0))))) (colsum (mulf (N 1) (xh (V 1)))))
    (colsum (mulf (N 2) (xh (V 2))))) (colsum (mulf (N 3) (xh (V 3))))

/-! ## The stores, as pieces -/

theorem inb_tile : ∀ (q : Fin 4) (g : Fin 8) a, (![128 * q.val, 128 * g.val] : Fin 2 → Nat) a + S128x128.size a ≤ S512x1024.size a := by decide
theorem inb_rows : ∀ (q : Fin 4) a, (![128 * q.val, 0] : Fin 2 → Nat) a + S128x1024.size a ≤ S512x1024.size a := by decide
theorem inb_utile : ∀ (q : Fin 4) (g : Fin 8) a, (![128 * q.val, 128 * g.val] : Fin 2 → Nat) a + S128x128.size a ≤ S512x2048.size a := by decide
theorem inb_vrows : ∀ (q : Fin 4) a, (![128 * q.val, 1024] : Fin 2 → Nat) a + S128x1024.size a ≤ S512x2048.size a := by decide
theorem inb_group : ∀ (g : Fin 8) a, (![g.val, 0, 0] : Fin 3 → Nat) a + S1x128x128.size a ≤ S8x128x128.size a := by decide
theorem inb_lane : ∀ (g : Fin 8) a, (![0, g.val] : Fin 2 → Nat) a + S128x1.size a ≤ S128x128.size a := by decide

/-- The scratch store of one group. -/
def nPiece (W : Fin 8 → Vec F S1x128x128 .f32) (D U : Fin 4 → FVec F S128x1024 .f32) (q : Fin 4) (g : Fin 8) : View.Piece (Elt F) S512x1024 .f32 :=
  ⟨Rect.unit ![128 * q.val, 128 * g.val] S128x128.size (inb_tile q g), dvnT g (W g) (D q) (U q)⟩

/-- The scratch stores of one chunk, last first, before the stores `L`. -/
def nChunk (W : Fin 8 → Vec F S1x128x128 .f32) (D U : Fin 4 → FVec F S128x1024 .f32) (q : Fin 4) (L : List (View.Piece (Elt F) S512x1024 .f32)) :
    List (View.Piece (Elt F) S512x1024 .f32) :=
  nPiece W D U q 7 :: nPiece W D U q 6 :: nPiece W D U q 5 :: nPiece W D U q 4 :: nPiece W D U q 3 :: nPiece W D U q 2 :: nPiece W D U q 1 ::
    nPiece W D U q 0 :: L

/-- The store of one group of the gradient of `u`. -/
def uPiece (lg lb : Vec F S1x1024 .f32) (W : Fin 8 → Vec F S1x128x128 .f32) (B : Fin 8 → Vec F S128x1 .f32) (D U V : Fin 4 → FVec F S128x1024 .f32)
    (q : Fin 4) (g : Fin 8) : View.Piece (Elt F) S512x2048 .bf16 :=
  ⟨Rect.unit ![128 * q.val, 128 * g.val] S128x128.size (inb_utile q g), du g lg lb (W g) (B g) (D q) (U q) (V q)⟩

/-- The store of one chunk of the gradient of `v`. -/
def vPiece (lg : Vec F S1x1024 .f32) (V N : Fin 4 → FVec F S128x1024 .f32) (q : Fin 4) : View.Piece (Elt F) S512x2048 .bf16 :=
  ⟨Rect.unit ![128 * q.val, 1024] S128x1024.size (inb_vrows q), dv lg (V q) (N q)⟩

/-- The stores of one chunk, last first, before the stores `L`. -/
def uvChunk (lg lb : Vec F S1x1024 .f32) (W : Fin 8 → Vec F S1x128x128 .f32) (B : Fin 8 → Vec F S128x1 .f32) (D U V N : Fin 4 → FVec F S128x1024 .f32)
    (q : Fin 4) (L : List (View.Piece (Elt F) S512x2048 .bf16)) : List (View.Piece (Elt F) S512x2048 .bf16) :=
  vPiece lg V N q :: uPiece lg lb W B D U V q 7 :: uPiece lg lb W B D U V q 6 :: uPiece lg lb W B D U V q 5 :: uPiece lg lb W B D U V q 4 ::
    uPiece lg lb W B D U V q 3 :: uPiece lg lb W B D U V q 2 :: uPiece lg lb W B D U V q 1 :: uPiece lg lb W B D U V q 0 :: L

end Cert.KernelIdeal.Body

end
-- ==== Proof.BodyRun.lean ====
/- The stores that a run of the kernel's body leaves, in both cases (the first grid point, and a later one), are the
   pieces of `Body`: by unfolding both, once for each output. -/
module

public import proofs.«01_k».proof.Proof.Gen.KernelIdeal.Frame.RunA
public import proofs.«01_k».proof.Proof.Gen.KernelIdeal.Frame.RunB
public import proofs.«01_k».proof.Proof.Body

@[expose] public section

set_option maxRecDepth 16384

noncomputable section

namespace Cert.KernelIdeal.Body

open Idealize.ShloMosaic Idealize.ShloMosaic.TcCoe Idealize.SL Idealize.SL.Sem Cert.KernelIdeal.Gen

variable {F : FTy → Type} [FloatOps F] [Named F]

/-- The load of chunk `q` of a block of 512 rows. -/
def ldRows (a : Memref sig .tc .vmem S512x1024 .f32) (h : a.IsWhole) (x : Vec F S512x1024 .f32) (q : Fin 4) : FVec F S128x1024 .f32 :=
  View.readAt (Elt F) a.view (Rect.unit (s := S512x1024) ![128 * q.val, 0] S128x1024.size (inb_rows q)).toLoadRect (h.unread x)

/-- The load of a whole row. -/
def ldRow (a : Memref sig .tc .vmem S1x1024 .f32) (h : a.IsWhole) (x : Vec F S1x1024 .f32) : Vec F S1x1024 .f32 :=
  View.readAt (Elt F) a.view (Rect.unit (s := S1x1024) ![0, 0] S1x1024.size inb_S1x1024_S1x1024_0_0).toLoadRect (h.unread x)

/-- The load of a group's weights. -/
def ldGroup (a : Memref sig .tc .vmem S8x128x128 .f32) (h : a.IsWhole) (x : Vec F S8x128x128 .f32) (g : Fin 8) : Vec F S1x128x128 .f32 :=
  View.readAt (Elt F) a.view (Rect.unit (s := S8x128x128) ![g.val, 0, 0] S1x128x128.size (inb_group g)).toLoadRect (h.unread x)

/-- The load of a group's bias. -/
def ldLane (a : Memref sig .tc .vmem S128x128 .f32) (h : a.IsWhole) (x : Vec F S128x128 .f32) (g : Fin 8) : Vec F S128x1 .f32 :=
  View.readAt (Elt F) a.view (Rect.unit (s := S128x128) ![0, g.val] S128x1.size (inb_lane g)).toLoadRect (h.unread x)

/-- The scratch stores up to chunk `q`. -/
def nPieces (W : Fin 8 → Vec F S1x128x128 .f32) (D U : Fin 4 → FVec F S128x1024 .f32) : Fin 4 → List (View.Piece (Elt F) S512x1024 .f32)
  | 0 => nChunk W D U 0 []
  | 1 => nChunk W D U 1 (nChunk W D U 0 [])
  | 2 => nChunk W D U 2 (nChunk W D U 1 (nChunk W D U 0 []))
  | 3 => nChunk W D U 3 (nChunk W D U 2 (nChunk W D U 1 (nChunk W D U 0 [])))

/-- The gradient of chunk `q`'s normalised values, loaded back from the scratch. -/
def ldN (a : Memref sig .tc .vmem S512x1024 .f32) (W : Fin 8 → Vec F S1x128x128 .f32) (D U : Fin 4 → FVec F S128x1024 .f32) (q : Fin 4) : FVec F S128x1024 .f32 :=
  a.view.readCov (nPieces W D U q) (Rect.unit (s := S512x1024) ![128 * q.val, 0] S128x1024.size (inb_rows q)).toLoadRect

/-- All the stores of the first output. -/
def uvPieces (lg lb : Vec F S1x1024 .f32) (W : Fin 8 → Vec F S1x128x128 .f32) (B : Fin 8 → Vec F S128x1 .f32) (D U V N : Fin 4 → FVec F S128x1024 .f32) :
    List (View.Piece (Elt F) S512x2048 .bf16) :=
  uvChunk lg lb W B D U V N 3 (uvChunk lg lb W B D U V N 2 (uvChunk lg lb W B D U V N 1 (uvChunk lg lb W B D U V N 0 [])))

/-- The load of a whole 128 × 128 block. -/
def ldBlock (a : Memref sig .tc .vmem S128x128 .f32) (h : a.IsWhole) (x : Vec F S128x128 .f32) : Vec F S128x128 .f32 :=
  View.readAt (Elt F) a.view (Rect.unit (s := S128x128) ![0, 0] S128x128.size inb_S128x128_S128x128_0_0).toLoadRect (h.unread x)

/-- The stores of the second output, one for each group, last first. -/
def wsPieces (X : Fin 8 → FVec F S1x128x128 .f32) : List (View.Piece (Elt F) S8x128x128 .f32) :=
  let p (g : Fin 8) : View.Piece (Elt F) S8x128x128 .f32 := ⟨Rect.unit ![g.val, 0, 0] S1x128x128.size (inb_group g), X g⟩
  [p 7, p 6, p 5, p 4, p 3, p 2, p 1, p 0]

/-- The store of the third output. -/
def bsPieces (x : FVec F S128x128 .f32) : List (View.Piece (Elt F) S128x128 .f32) :=
  [⟨Rect.unit ![0, 0] S128x128.size inb_S128x128_S128x128_0_0, x⟩]

/-- The store of the fourth or of the fifth output. -/
def rowPieces (x : FVec F S1x1024 .f32) : List (View.Piece (Elt F) S1x1024 .f32) :=
  [⟨Rect.unit ![0, 0] S1x1024.size inb_S1x1024_S1x1024_0_0, x⟩]

/-- A group's matrix as a block of the second output. -/
def lift (x : FVec F S128x128 .f32) : FVec F S1x128x128 .f32 := shapeCast S1x128x128 x shapeCasts_S128x128_S1x128x128

/-- What a later point stores of the second output: what was there plus its own part. -/
def addWs (old : Vec F S1x128x128 .f32) (x : FVec F S128x128 .f32) : FVec F S1x128x128 .f32 :=
  lift (addf (shapeCast S128x128 old shapeCasts_S1x128x128_S128x128) x)

/-- The same for the third output. -/
def addBs (old : Vec F S128x128 .f32) (x : FVec F S128x128 .f32) : FVec F S128x128 .f32 :=
  addf (shapeCast S128x128 old shapeCasts_S128x128_S128x128) x

/-- The same for the fourth and fifth output. -/
def addRow (old : Vec F S1x1024 .f32) (x : FVec F S1x1024 .f32) : FVec F S1x1024 .f32 :=
  addf (row old) x

/-- The stores of the first output, at the first point. -/
theorem runA_7 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6).1 =
      uvPieces (ldRow arg4 harg4 x3) (ldRow arg5 harg5 x4) (ldGroup arg6 harg6 x5) (ldLane arg7 harg7 x6) (ldRows arg1 harg1 x0) (ldRows arg2 harg2 x1) (ldRows arg3 harg3 x2) (ldN arg13 (ldGroup arg6 harg6 x5) (ldRows arg1 harg1 x0) (ldRows arg2 harg2 x1)) := by
  sl_kernel_rfl

/-- The stores of the second output, at the first point. -/
theorem runA_8 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6).2.1 =
      wsPieces (fun g => lift (dws4 g (ldRow arg4 harg4 x3) (ldRow arg5 harg5 x4) (ldRows arg1 harg1 x0) (ldRows arg2 harg2 x1) (ldRows arg3 harg3 x2))) := by
  sl_kernel_rfl

/-- The stores of the third output, at the first point. -/
theorem runA_9 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6).2.2.1 =
      bsPieces (dbs4 (ldRows arg1 harg1 x0) (ldRows arg2 harg2 x1)) := by
  sl_kernel_rfl

/-- The stores of the fourth output, at the first point. -/
theorem runA_10 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6).2.2.2.1 =
      rowPieces (dlg4 (ldRows arg3 harg3 x2) (ldN arg13 (ldGroup arg6 harg6 x5) (ldRows arg1 harg1 x0) (ldRows arg2 harg2 x1))) := by
  sl_kernel_rfl

/-- The stores of the fifth output, at the first point. -/
theorem runA_11 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6).2.2.2.2.1 =
      rowPieces (dlb4 (ldN arg13 (ldGroup arg6 harg6 x5) (ldRows arg1 harg1 x0) (ldRows arg2 harg2 x1))) := by
  sl_kernel_rfl

/-- The stores of the first output, at a later point. -/
theorem runB_7 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6 xo8 xo9 xo10 xo11) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6 xo8 xo9 xo10 xo11).1 =
      uvPieces (ldRow arg4 harg4 x3) (ldRow arg5 harg5 x4) (ldGroup arg6 harg6 x5) (ldLane arg7 harg7 x6) (ldRows arg1 harg1 x0) (ldRows arg2 harg2 x1) (ldRows arg3 harg3 x2) (ldN arg13 (ldGroup arg6 harg6 x5) (ldRows arg1 harg1 x0) (ldRows arg2 harg2 x1)) := by
  sl_kernel_rfl

/-- The stores of the second output, at a later point. -/
theorem runB_8 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6 xo8 xo9 xo10 xo11) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6 xo8 xo9 xo10 xo11).2.1 =
      wsPieces (fun g => addWs (ldGroup arg9 harg9 xo8 g) (dws4 g (ldRow arg4 harg4 x3) (ldRow arg5 harg5 x4) (ldRows arg1 harg1 x0) (ldRows arg2 harg2 x1) (ldRows arg3 harg3 x2))) := by
  sl_kernel_rfl

/-- The stores of the third output, at a later point. -/
theorem runB_9 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6 xo8 xo9 xo10 xo11) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6 xo8 xo9 xo10 xo11).2.2.1 =
      bsPieces (addBs (ldBlock arg10 harg10 xo9) (dbs4 (ldRows arg1 harg1 x0) (ldRows arg2 harg2 x1))) := by
  sl_kernel_rfl

/-- The stores of the fourth output, at a later point. -/
theorem runB_10 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6 xo8 xo9 xo10 xo11) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6 xo8 xo9 xo10 xo11).2.2.2.1 =
      rowPieces (addRow (ldRow arg11 harg11 xo10) (dlg4 (ldRows arg3 harg3 x2) (ldN arg13 (ldGroup arg6 harg6 x5) (ldRows arg1 harg1 x0) (ldRows arg2 harg2 x1)))) := by
  sl_kernel_rfl

/-- The stores of the fifth output, at a later point. -/
theorem runB_11 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7 hc8 hc9 hc10 hc11 hc12 hc13 hc14 hc15 hc16 hc17 hc18 hc19 hc20 hc21) (x0 x1 x2 x3 x4 x5 x6 xo8 xo9 xo10 xo11) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 hc16 hc17 hc18 hc19 hc20 hc21 x0 x1 x2 x3 x4 x5 x6 xo8 xo9 xo10 xo11).2.2.2.2.1 =
      rowPieces (addRow (ldRow arg12 harg12 xo11) (dlb4 (ldN arg13 (ldGroup arg6 harg6 x5) (ldRows arg1 harg1 x0) (ldRows arg2 harg2 x1)))) := by
  sl_kernel_rfl

end Cert.KernelIdeal.Body

end
-- ==== Proof.Spec.lean ====
/- The mathematics of the backward pass of the spatial gating unit, over the real numbers: the GELU in its tanh form and
   its derivative, the layer norm of a row, the gate of a chunk of 128 rows and eight groups of 128 columns, and the
   gradients of each. -/
module

public import Idealize.ShloMosaic.PureOps.Ideal

@[expose] public section

noncomputable section

namespace Cert.Gmlp

/-- The number that the 32-bit word of √(2/π) denotes. -/
def cR : ℝ := 13386282 / 16777216

/-- The cubic term's coefficient, 0.044715. -/
def kR : ℝ := 8943 / 200000

/-- The number that the 32-bit word of 10⁻⁶ denotes. -/
def eps : ℝ := 8796093 / 8796093022208

/-- The tanh of the GELU. -/
def th (x : ℝ) : ℝ := Real.tanh (cR * (x + kR * x * x * x))

/-- The tanh form of the GELU. -/
def gelu (x : ℝ) : ℝ := 1 / 2 * x * (1 + th x)

/-- Its derivative. -/
def geluD (x : ℝ) : ℝ := 1 / 2 * (1 + th x) + 1 / 2 * x * (1 - th x * th x) * cR * (1 + 3 * kR * x * x)

/-! ## The layer norm of a row -/

/-- The mean of a row. -/
def mean (x : Fin 1024 → ℝ) : ℝ := (∑ k, x k) / 1024

/-- A row's GELU less its mean. -/
def cen (v : Fin 1024 → ℝ) (j : Fin 1024) : ℝ := gelu (v j) - mean (fun k => gelu (v k))

/-- The variance and the ε. -/
def var (v : Fin 1024 → ℝ) : ℝ := mean (fun k => cen v k * cen v k) + eps

/-- The reciprocal standard deviation. -/
def rs (v : Fin 1024 → ℝ) : ℝ := (√(var v))⁻¹

/-- The normalised row. -/
def xh (v : Fin 1024 → ℝ) (j : Fin 1024) : ℝ := cen v j * rs v

/-- The scaled and shifted row. -/
def vn (lg lb v : Fin 1024 → ℝ) (j : Fin 1024) : ℝ := xh v j * lg j + lb j

theorem eps_pos : 0 < eps := by unfold eps; norm_num

theorem var_pos (v : Fin 1024 → ℝ) : 0 < var v :=
  add_pos_of_nonneg_of_pos (div_nonneg (Finset.sum_nonneg fun k _ => mul_self_nonneg _) (by norm_num)) eps_pos

/-! ## The gate of a chunk -/

/-- Column `d` of group `g`. -/
def col (g : Fin 8) (d : Fin 128) : Fin 1024 := ⟨128 * g.val + d.val, by omega⟩

/-- The group of a column. -/
def grp (j : Fin 1024) : Fin 8 := ⟨j.val / 128, by omega⟩

/-- The column of a column within its group. -/
def lane (j : Fin 1024) : Fin 128 := ⟨j.val % 128, by omega⟩

theorem col_grp_lane (j : Fin 1024) : col (grp j) (lane j) = j := Fin.ext (Nat.div_add_mod _ _)

theorem grp_col (g : Fin 8) (d : Fin 128) : grp (col g d) = g := Fin.ext (by show (128 * g.val + d.val) / 128 = g.val; omega)

theorem lane_col (g : Fin 8) (d : Fin 128) : lane (col g d) = d := Fin.ext (by show (128 * g.val + d.val) % 128 = d.val; omega)

/-- A group's weights, zero above the diagonal. -/
def wm (W : Fin 128 → Fin 128 → ℝ) (a b : Fin 128) : ℝ := if b.val ≤ a.val then W a b else 0

/-- The gate. -/
def sg (lg lb : Fin 1024 → ℝ) (W : Fin 128 → Fin 128 → ℝ) (B : Fin 128 → ℝ) (V : Fin 128 → Fin 1024 → ℝ) (g : Fin 8) (a d : Fin 128) : ℝ :=
  ∑ b, wm W a b * vn lg lb (V b) (col g d) + B a

/-- The gradient of the gate. -/
def ds (D U : Fin 128 → Fin 1024 → ℝ) (a : Fin 128) (j : Fin 1024) : ℝ := D a j * gelu (U a j)

/-- The gradient of `u`. -/
def du (lg lb : Fin 1024 → ℝ) (W : Fin 128 → Fin 128 → ℝ) (B : Fin 128 → ℝ) (D U V : Fin 128 → Fin 1024 → ℝ) (g : Fin 8) (a d : Fin 128) : ℝ :=
  D a (col g d) * sg lg lb W B V g a d * geluD (U a (col g d))

/-- A chunk's part of the gradient of a group's weights. -/
def dws (lg lb : Fin 1024 → ℝ) (D U V : Fin 128 → Fin 1024 → ℝ) (g : Fin 8) (a b : Fin 128) : ℝ :=
  if b.val ≤ a.val then ∑ d, ds D U a (col g d) * vn lg lb (V b) (col g d) else 0

/-- A chunk's part of the gradient of a group's bias. -/
def dbs (D U : Fin 128 → Fin 1024 → ℝ) (g : Fin 8) (a : Fin 128) : ℝ := ∑ d, ds D U a (col g d)

/-- The gradient of the scaled and shifted rows, in column `j`. -/
def dvn (W : Fin 8 → Fin 128 → Fin 128 → ℝ) (D U : Fin 128 → Fin 1024 → ℝ) (b : Fin 128) (j : Fin 1024) : ℝ :=
  ∑ a, wm (W (grp j)) a b * ds D U a j

/-- The layer norm's backward pass on a row, from the gradient `n`. -/
def dgv (lg v n : Fin 1024 → ℝ) (j : Fin 1024) : ℝ :=
  rs v * (n j * lg j - mean (fun k => n k * lg k) - xh v j * mean (fun k => n k * lg k * xh v k))

/-- The gradient of `v`. -/
def dv (lg v n : Fin 1024 → ℝ) (j : Fin 1024) : ℝ := dgv lg v n j * geluD (v j)

/-! ## The four chunks of a grid point -/

/-- Row `p` of chunk `q`. -/
def row4 (q : Fin 4) (p : Fin 128) : Fin 512 := ⟨128 * q.val + p.val, by omega⟩

/-- The chunk of a row. -/
def chk (r : Fin 512) : Fin 4 := ⟨r.val / 128, by omega⟩

/-- The row within its chunk. -/
def sub (r : Fin 512) : Fin 128 := ⟨r.val % 128, by omega⟩

theorem row4_chk_sub (r : Fin 512) : row4 (chk r) (sub r) = r := Fin.ext (Nat.div_add_mod _ _)

theorem chk_row4 (q : Fin 4) (p : Fin 128) : chk (row4 q p) = q := Fin.ext (by show (128 * q.val + p.val) / 128 = q.val; omega)

theorem sub_row4 (q : Fin 4) (p : Fin 128) : sub (row4 q p) = p := Fin.ext (by show (128 * q.val + p.val) % 128 = p.val; omega)

/-- Chunk `q` of a point's rows. -/
def chunk (X : Fin 512 → Fin 1024 → ℝ) (q : Fin 4) (p : Fin 128) : Fin 1024 → ℝ := X (row4 q p)

end Cert.Gmlp

end
-- ==== Proof.BodyVal.lean ====
/- The values of `Body`'s functions over the real numbers: where the blocks hold real numbers, each function's element
   is the real number that `Spec` defines. -/
module

public import Idealize.ShloMosaic.Lib.Pointwise
public import proofs.«01_k».proof.Proof.Body
public import proofs.«01_k».proof.Proof.Spec

@[expose] public section

set_option maxRecDepth 16384

noncomputable section

namespace Cert.KernelIdeal.Body

open Idealize.ShloMosaic Idealize.SL.Sem Cert.KernelIdeal.Gen

theorem ofBits_half : Ideal.ofBits .f32 0x3F000000#32 = ((1 / 2 : ℝ) : EReal) := by
  simp [Ideal.ofBits, Ideal.ieee, -EReal.coe_mul]; try norm_num

theorem ofBits_c : Ideal.ofBits .f32 0x3F4C422A#32 = (Gmlp.cR : EReal) := by
  simp [Ideal.ofBits, Ideal.ieee, -EReal.coe_mul, Gmlp.cR]; try norm_num

theorem ofBits_1024 : Ideal.ofBits .f32 0x44800000#32 = ((1024 : ℝ) : EReal) := by
  simp [Ideal.ofBits, Ideal.ieee, -EReal.coe_mul]; try norm_num

theorem ofBits_eps : Ideal.ofBits .f32 0x358637BD#32 = (Gmlp.eps : EReal) := by
  simp [Ideal.ofBits, Ideal.ieee, -EReal.coe_mul, Gmlp.eps]; try norm_num

theorem named_gelu : Named.named (F := Ideal) κ "gelu" (φ := .f32) 0x3D372713#32 = (Gmlp.kR : EReal) :=
  IdealRules.named_const.ideal_named_scalar _ _ _ _ rfl

theorem named_gelu3 : Named.named (F := Ideal) κ "gelu3" (φ := .f32) 0x3E095D4F#32 = ((3 * Gmlp.kR : ℝ) : EReal) :=
  (IdealRules.named_const.ideal_named_scalar _ _ _ ((26829 / 200000 : ℝ) : EReal) rfl).trans (by congr 1; unfold Gmlp.kR; norm_num)

/-- A sum of real numbers is their real sum. -/
theorem sum_coe {n : Nat} (f : Fin n → EReal) (r : Fin n → ℝ) (h : ∀ k, f k = (r k : EReal)) : ∑ k, f k = ((∑ k, r k : ℝ) : EReal) := by
  rw [Finset.sum_congr rfl fun k _ => h k]
  exact (map_sum (⟨⟨Real.toEReal, rfl⟩, EReal.coe_add⟩ : ℝ →+ EReal) r Finset.univ).symm

variable {S : Shape}

theorem th_val (x : FVec Ideal S .f32) (i : S.Idx) (r : ℝ) (h : x i = (r : EReal)) : th x i = (Gmlp.th r : EReal) := by
  pointwise [th, cst]
  rw [h, ofBits_c, named_gelu]
  norm_cast

theorem gelu_val (x : FVec Ideal S .f32) (i : S.Idx) (r : ℝ) (h : x i = (r : EReal)) : gelu x i = (Gmlp.gelu r : EReal) := by
  pointwise [gelu, cst]
  rw [th_val x i r h, h, ofBits_half]
  norm_cast

theorem geluD_val (x : FVec Ideal S .f32) (i : S.Idx) (r : ℝ) (h : x i = (r : EReal)) : geluD x i = (Gmlp.geluD r : EReal) := by
  pointwise [geluD, cst]
  rw [th_val x i r h, h, ofBits_half, ofBits_c, named_gelu3]
  norm_cast

theorem mean_val (x : FVec Ideal S128x1024 .f32) (a : Fin 128) (r : Fin 1024 → ℝ) (h : ∀ k, x (ix2 a k) = (r k : EReal)) (z : Fin 1) :
    mean x (ix2 a z) = (Gmlp.mean r : EReal) := by
  pointwise [mean, cst]
  rw [sum_coe _ r h, ofBits_1024, Ideal.div_coe (by norm_num), ← EReal.coe_mul]
  congr 1
  unfold Gmlp.mean
  ring

/-- A block of 128 rows holds the real numbers `X`. -/
def Is (x : FVec Ideal S128x1024 .f32) (X : Fin 128 → Fin 1024 → ℝ) : Prop := ∀ a b, x (ix2 a b) = (X a b : EReal)

/-- A row holds the real numbers `X`. -/
def IsRow (x : Vec Ideal S1x1024 .f32) (X : Fin 1024 → ℝ) : Prop := ∀ a b, x (ix2 a b) = (X b : EReal)

/-- A group's weights are the real numbers `X`. -/
def IsW (x : Vec Ideal S1x128x128 .f32) (X : Fin 128 → Fin 128 → ℝ) : Prop := ∀ z a b, x (ix3 z a b) = (X a b : EReal)

/-- A group's bias is the real numbers `X`. -/
def IsB (x : Vec Ideal S128x1 .f32) (X : Fin 128 → ℝ) : Prop := ∀ a z, x (ix2 a z) = (X a : EReal)

variable {dy u v n : FVec Ideal S128x1024 .f32} {D U V N : Fin 128 → Fin 1024 → ℝ} {lg lb : Vec Ideal S1x1024 .f32} {LG LB : Fin 1024 → ℝ}
  {w : Vec Ideal S1x128x128 .f32} {W : Fin 128 → Fin 128 → ℝ} {b : Vec Ideal S128x1 .f32} {B : Fin 128 → ℝ}

theorem cen_val (hv : Is v V) (a : Fin 128) (j : Fin 1024) : cen v (ix2 a j) = (Gmlp.cen (V a) j : EReal) := by
  pointwise [cen, bc]
  rw [gelu_val v _ _ (hv a j), mean_val (gelu v) a (fun k => Gmlp.gelu (V a k)) (fun k => gelu_val v _ _ (hv a k))]
  norm_cast

theorem rs_val (hv : Is v V) (a : Fin 128) (z : Fin 1) : rs v (ix2 a z) = (Gmlp.rs (V a) : EReal) := by
  have h := mean_val (mulf (cen v) (cen v)) a (fun k => Gmlp.cen (V a) k * Gmlp.cen (V a) k)
    (fun k => by pointwise; rw [cen_val hv]; norm_cast) z
  have hp := Gmlp.var_pos (V a)
  pointwise [rs, cst]
  rw [h, ofBits_eps, ← EReal.coe_add]
  rw [show Gmlp.mean (fun k => Gmlp.cen (V a) k * Gmlp.cen (V a) k) + Gmlp.eps = Gmlp.var (V a) from rfl, Ideal.rsqrt_coe, if_neg hp.not_gt, if_neg hp.ne']
  rfl

theorem xh_val (hv : Is v V) : Is (xh v) (fun a => Gmlp.xh (V a)) := fun a j => by
  pointwise [xh, bc]
  rw [cen_val hv, rs_val hv]
  norm_cast

theorem br_val (h : IsRow lg LG) (a : Fin 128) (j : Fin 1024) : br (row lg) (ix2 a j) = (LG j : EReal) := by
  pointwise [br, row]
  exact h _ _

theorem vn_val (hg : IsRow lg LG) (hb : IsRow lb LB) (hv : Is v V) : Is (vn lg lb v) (fun a => Gmlp.vn LG LB (V a)) := fun a j => by
  pointwise [vn]
  rw [xh_val hv, br_val hg, br_val hb]
  norm_cast

theorem col_val (hv : Is v V) (g : Fin 8) (a d : Fin 128) : col g v (ix2 a d) = (V a (Gmlp.col g d) : EReal) := by
  pointwise [col]
  exact hv a (Gmlp.col g d)

/-- The lower triangle's comparison. -/
theorem cmpi_sge_fin : ∀ p q : Fin 128, IntOp.cmpi .sge (BitVec.ofNat 32 p.val) (BitVec.ofNat 32 q.val) = if q.val ≤ p.val then 1#1 else 0#1 := by
  decide +kernel

/-- The lane's comparison. -/
theorem cmpi_eq_fin : ∀ (p : Fin 128) (g : Fin 8), IntOp.cmpi .eq (BitVec.ofNat 32 p.val) (BitVec.ofNat 32 g.val) = if p.val = g.val then 1#1 else 0#1 := by
  decide +kernel

theorem wm_val (hw : IsW w W) (p q : Fin 128) : wm w (ix2 p q) = (Gmlp.wm W p q : EReal) := by
  pointwise [wm, tril, cst]
  rw [cmpi_sge_fin]
  unfold Gmlp.wm
  split
  · exact hw _ _ _
  · rfl

theorem sg_val (hg : IsRow lg LG) (hb : IsRow lb LB) (hw : IsW w W) (hB : IsB b B) (hv : Is v V) (g : Fin 8) (p q : Fin 128) :
    sg g lg lb w b v (ix2 p q) = (Gmlp.sg LG LB W B V g p q : EReal) := by
  pointwise [sg]
  rw [sum_coe _ (fun k => Gmlp.wm W p k * Gmlp.vn LG LB (V k) (Gmlp.col g q)) (fun k => by
    rw [wm_val hw]; pointwise [vg]; rw [col_val (vn_val hg hb hv)]; norm_cast), hB]
  norm_cast

theorem ds_val (hd : Is dy D) (hu : Is u U) (g : Fin 8) (p q : Fin 128) : ds g dy u (ix2 p q) = (Gmlp.ds D U p (Gmlp.col g q) : EReal) := by
  pointwise [ds]
  rw [col_val hd, col_val (V := fun p k => Gmlp.gelu (U p k)) (fun p k => gelu_val u _ _ (hu p k))]
  norm_cast

theorem du_val (hg : IsRow lg LG) (hb : IsRow lb LB) (hw : IsW w W) (hB : IsB b B) (hd : Is dy D) (hu : Is u U) (hv : Is v V) (g : Fin 8) (p q : Fin 128) :
    du g lg lb w b dy u v (ix2 p q) = (Gmlp.du LG LB W B D U V g p q : EReal) := by
  pointwise [du]
  rw [col_val hd, sg_val hg hb hw hB hv, geluD_val (col g u) _ _ (col_val hu g p q)]
  norm_cast

theorem dwsT_val (hg : IsRow lg LG) (hb : IsRow lb LB) (hd : Is dy D) (hu : Is u U) (hv : Is v V) (g : Fin 8) (p q : Fin 128) :
    dwsT g lg lb dy u v (ix2 p q) = (Gmlp.dws LG LB D U V g p q : EReal) := by
  pointwise [dwsT, tril, cst]
  rw [cmpi_sge_fin]
  unfold Gmlp.dws
  split
  · change ∑ x, dsb g dy u (ix2 p x) * vg g lg lb v (ix2 q x) = _
    refine sum_coe _ (fun k => Gmlp.ds D U p (Gmlp.col g k) * Gmlp.vn LG LB (V q) (Gmlp.col g k)) fun k => ?_
    pointwise [dsb, vg]
    rw [ds_val hd hu, col_val (vn_val hg hb hv)]
    norm_cast
  · rfl

theorem dbsT_val (hd : Is dy D) (hu : Is u U) (g : Fin 8) (p q : Fin 128) :
    dbsT g dy u (ix2 p q) = ((if q.val = g.val then Gmlp.dbs D U g p else 0 : ℝ) : EReal) := by
  pointwise [dbsT, cst]
  rw [cmpi_eq_fin, sum_coe _ (fun k => Gmlp.ds D U p (Gmlp.col g k)) (fun k => ds_val hd hu g p k)]
  split
  · rfl
  · rfl

theorem dvnT_val (hw : IsW w W) (hd : Is dy D) (hu : Is u U) (g : Fin 8) (p q : Fin 128) :
    dvnT g w dy u (ix2 p q) = ((∑ a, Gmlp.wm W a p * Gmlp.ds D U a (Gmlp.col g q) : ℝ) : EReal) := by
  pointwise [dvnT]
  exact sum_coe _ (fun k => Gmlp.wm W k p * Gmlp.ds D U k (Gmlp.col g q)) (fun k => by
    rw [wm_val hw]; pointwise [dsb]; rw [ds_val hd hu]; norm_cast)

theorem colsum_val (hv : Is v V) (z : Fin 1) (j : Fin 1024) : colsum v (ix2 z j) = ((∑ a, V a j : ℝ) : EReal) := by
  pointwise [colsum]
  exact sum_coe _ _ (fun k => hv k j)

theorem dgv_val (hg : IsRow lg LG) (hv : Is v V) (hn : Is n N) : Is (dgv lg v n) (fun a => Gmlp.dgv LG (V a) (N a)) := fun a j => by
  have h1 : Is (mulf n (br (row lg))) (fun a k => N a k * LG k) := fun a k => by pointwise; rw [hn, br_val hg]; norm_cast
  have h2 : Is (mulf (mulf n (br (row lg))) (xh v)) (fun a k => N a k * LG k * Gmlp.xh (V a) k) := fun a k => by
    pointwise; rw [hn, br_val hg, xh_val hv]; norm_cast
  have m1 := mean_val _ a _ (h1 a) 0
  have m2 := mean_val _ a _ (h2 a) 0
  pointwise [dgv, bc]
  rw [rs_val hv, hn, br_val hg, xh_val hv, m1, m2]
  norm_cast

theorem dv_val (hg : IsRow lg LG) (hv : Is v V) (hn : Is n N) (a : Fin 128) (j : Fin 1024) :
    dv lg v n (ix2 a j) = (Gmlp.dv LG (V a) (N a) j : EReal) := by
  pointwise [dv]
  rw [dgv_val hg hv hn, geluD_val v _ _ (hv a j)]
  norm_cast

end Cert.KernelIdeal.Body

end
-- ==== Proof.PointVal.lean ====
/- What a grid point leaves in each output's block, over the real numbers: the stores of `BodyRun` read at an index. -/
module

public import proofs.«01_k».proof.Proof.BodyRun
public import proofs.«01_k».proof.Proof.BodyVal
public import Idealize.ShloMosaic.Lib.Pipeline.Value
public import Idealize.ShloMosaic.Lib.WholeRead

@[expose] public section

set_option maxRecDepth 16384

noncomputable section

namespace Cert.KernelIdeal.Body

open Idealize.ShloMosaic Idealize.ShloMosaic.TcCoe Idealize.SL Idealize.SL.Sem Cert.KernelIdeal.Gen
open Cert.Gmlp (chunk row4 chk sub)

/-- A block of 512 rows holds the real numbers `X`. -/
def Is4 (x : Vec Ideal S512x1024 .f32) (X : Fin 512 → Fin 1024 → ℝ) : Prop := ∀ a b, x (ix2 a b) = (X a b : EReal)

/-- The eight groups' weights are the real numbers `X`. -/
def IsWs (x : Vec Ideal S8x128x128 .f32) (X : Fin 8 → Fin 128 → Fin 128 → ℝ) : Prop := ∀ g a b, x (ix3 g a b) = (X g a b : EReal)

/-- The first eight lanes hold the groups' biases. -/
def IsBs (x : Vec Ideal S128x128 .f32) (X : Fin 8 → Fin 128 → ℝ) : Prop := ∀ a (g : Fin 8), x (ix2 a ⟨g.val, by omega⟩) = (X g a : EReal)

theorem ldRows_val {a : Memref sig .tc .vmem S512x1024 .f32} {h : a.IsWhole} {x : Vec Ideal S512x1024 .f32} {X : Fin 512 → Fin 1024 → ℝ} (hx : Is4 x X)
    (q : Fin 4) : Is (ldRows a h x q) (chunk X q) := fun p j => by
  unfold ldRows
  rw [h.readAt_unread, chunk, ← hx]
  pointwise
  rfl

theorem ldRow_val {a : Memref sig .tc .vmem S1x1024 .f32} {h : a.IsWhole} {x : Vec Ideal S1x1024 .f32} {X : Fin 1024 → ℝ} (hx : IsRow x X) :
    IsRow (ldRow a h x) X := fun z j => by
  unfold ldRow
  rw [h.readAt_unread, ← hx 0 j]
  pointwise

theorem ldGroup_val {a : Memref sig .tc .vmem S8x128x128 .f32} {h : a.IsWhole} {x : Vec Ideal S8x128x128 .f32} {X : Fin 8 → Fin 128 → Fin 128 → ℝ} (hx : IsWs x X)
    (g : Fin 8) : IsW (ldGroup a h x g) (X g) := fun z p q => by
  unfold ldGroup
  rw [h.readAt_unread, ← hx]
  pointwise

theorem ldLane_val {a : Memref sig .tc .vmem S128x128 .f32} {h : a.IsWhole} {x : Vec Ideal S128x128 .f32} {X : Fin 8 → Fin 128 → ℝ} (hx : IsBs x X)
    (g : Fin 8) : IsB (ldLane a h x g) (X g) := fun p z => by
  unfold ldLane
  rw [h.readAt_unread, ← hx]
  pointwise

/-! ## The stores -/

variable {F : FTy → Type} [FloatOps F] [Named F]

theorem mem_nChunk {Wt : Fin 8 → Vec F S1x128x128 .f32} {Dt Ut : Fin 4 → FVec F S128x1024 .f32} {q : Fin 4} {L : List (View.Piece (Elt F) S512x1024 .f32)}
    {pc : View.Piece (Elt F) S512x1024 .f32} (h : pc ∈ nChunk Wt Dt Ut q L) : (∃ g, pc = nPiece Wt Dt Ut q g) ∨ pc ∈ L := by
  simp only [nChunk, List.mem_cons] at h
  rcases h with h | h | h | h | h | h | h | h | h
  exacts [.inl ⟨_, h⟩, .inl ⟨_, h⟩, .inl ⟨_, h⟩, .inl ⟨_, h⟩, .inl ⟨_, h⟩, .inl ⟨_, h⟩, .inl ⟨_, h⟩, .inl ⟨_, h⟩, .inr h]

theorem nPiece_mem (Wt : Fin 8 → Vec F S1x128x128 .f32) (Dt Ut : Fin 4 → FVec F S128x1024 .f32) (q : Fin 4) (L : List (View.Piece (Elt F) S512x1024 .f32))
    (g : Fin 8) : nPiece Wt Dt Ut q g ∈ nChunk Wt Dt Ut q L := by
  unfold nChunk
  fin_cases g <;> simp

theorem mem_nPieces {Wt : Fin 8 → Vec F S1x128x128 .f32} {Dt Ut : Fin 4 → FVec F S128x1024 .f32} {q : Fin 4} {pc : View.Piece (Elt F) S512x1024 .f32}
    (h : pc ∈ nPieces Wt Dt Ut q) : ∃ q' g, pc = nPiece Wt Dt Ut q' g := by
  have step : ∀ (q : Fin 4) (L), (pc ∈ L → ∃ q' g, pc = nPiece Wt Dt Ut q' g) → pc ∈ nChunk Wt Dt Ut q L → ∃ q' g, pc = nPiece Wt Dt Ut q' g :=
    fun q L hL h => (mem_nChunk h).elim (fun ⟨g, e⟩ => ⟨q, g, e⟩) hL
  have s0 := step 0 [] (fun h => absurd h List.not_mem_nil)
  have s1 := step 1 _ s0
  have s2 := step 2 _ s1
  fin_cases q
  exacts [s0 h, s1 h, s2 h, step 3 _ s2 h]

theorem nPiece_mem_pieces (Wt : Fin 8 → Vec F S1x128x128 .f32) (Dt Ut : Fin 4 → FVec F S128x1024 .f32) (q : Fin 4) (g : Fin 8) :
    nPiece Wt Dt Ut q g ∈ nPieces Wt Dt Ut q := by
  fin_cases q <;> exact nPiece_mem Wt Dt Ut _ _ g

theorem mem_uvChunk {lg lb : Vec F S1x1024 .f32} {Wt : Fin 8 → Vec F S1x128x128 .f32} {Bt : Fin 8 → Vec F S128x1 .f32} {Dt Ut Vt Nt : Fin 4 → FVec F S128x1024 .f32}
    {q : Fin 4} {L : List (View.Piece (Elt F) S512x2048 .bf16)} {pc : View.Piece (Elt F) S512x2048 .bf16} (h : pc ∈ uvChunk lg lb Wt Bt Dt Ut Vt Nt q L) :
    pc = vPiece lg Vt Nt q ∨ (∃ g, pc = uPiece lg lb Wt Bt Dt Ut Vt q g) ∨ pc ∈ L := by
  simp only [uvChunk, List.mem_cons] at h
  rcases h with h | h | h | h | h | h | h | h | h | h
  exacts [.inl h, .inr (.inl ⟨_, h⟩), .inr (.inl ⟨_, h⟩), .inr (.inl ⟨_, h⟩), .inr (.inl ⟨_, h⟩), .inr (.inl ⟨_, h⟩), .inr (.inl ⟨_, h⟩), .inr (.inl ⟨_, h⟩),
    .inr (.inl ⟨_, h⟩), .inr (.inr h)]

theorem mem_uvPieces {lg lb : Vec F S1x1024 .f32} {Wt : Fin 8 → Vec F S1x128x128 .f32} {Bt : Fin 8 → Vec F S128x1 .f32} {Dt Ut Vt Nt : Fin 4 → FVec F S128x1024 .f32}
    {pc : View.Piece (Elt F) S512x2048 .bf16} (h : pc ∈ uvPieces lg lb Wt Bt Dt Ut Vt Nt) :
    ∃ q, pc = vPiece lg Vt Nt q ∨ ∃ g, pc = uPiece lg lb Wt Bt Dt Ut Vt q g := by
  rcases mem_uvChunk h with h | h | h
  · exact ⟨_, .inl h⟩
  · exact ⟨_, .inr h⟩
  rcases mem_uvChunk h with h | h | h
  · exact ⟨_, .inl h⟩
  · exact ⟨_, .inr h⟩
  rcases mem_uvChunk h with h | h | h
  · exact ⟨_, .inl h⟩
  · exact ⟨_, .inr h⟩
  rcases mem_uvChunk h with h | h | h
  · exact ⟨_, .inl h⟩
  · exact ⟨_, .inr h⟩
  exact absurd h List.not_mem_nil

theorem vPiece_mem (lg lb : Vec F S1x1024 .f32) (Wt : Fin 8 → Vec F S1x128x128 .f32) (Bt : Fin 8 → Vec F S128x1 .f32) (Dt Ut Vt Nt : Fin 4 → FVec F S128x1024 .f32)
    (q : Fin 4) : vPiece lg Vt Nt q ∈ uvPieces lg lb Wt Bt Dt Ut Vt Nt := by
  unfold uvPieces uvChunk
  fin_cases q <;> simp

theorem uPiece_mem (lg lb : Vec F S1x1024 .f32) (Wt : Fin 8 → Vec F S1x128x128 .f32) (Bt : Fin 8 → Vec F S128x1 .f32) (Dt Ut Vt Nt : Fin 4 → FVec F S128x1024 .f32)
    (q : Fin 4) (g : Fin 8) : uPiece lg lb Wt Bt Dt Ut Vt q g ∈ uvPieces lg lb Wt Bt Dt Ut Vt Nt := by
  have h : ∀ L, uPiece lg lb Wt Bt Dt Ut Vt q g ∈ uvChunk lg lb Wt Bt Dt Ut Vt Nt q L := fun L => by
    unfold uvChunk
    fin_cases g <;> simp
  have up : ∀ (q' : Fin 4) (L), uPiece lg lb Wt Bt Dt Ut Vt q g ∈ L → uPiece lg lb Wt Bt Dt Ut Vt q g ∈ uvChunk lg lb Wt Bt Dt Ut Vt Nt q' L := fun q' L hL => by
    unfold uvChunk
    iterate 9 apply List.mem_cons_of_mem
    exact hL
  unfold uvPieces
  match q with
  | 0 => exact up 3 _ (up 2 _ (up 1 _ (h _)))
  | 1 => exact up 3 _ (up 2 _ (h _))
  | 2 => exact up 3 _ (h _)
  | 3 => exact h _

/-! ## The scratch read back -/

section Vals

variable {lg lb : Vec Ideal S1x1024 .f32} {LG LB : Fin 1024 → ℝ} {Wt : Fin 8 → Vec Ideal S1x128x128 .f32} {W : Fin 8 → Fin 128 → Fin 128 → ℝ}
  {Bt : Fin 8 → Vec Ideal S128x1 .f32} {B : Fin 8 → Fin 128 → ℝ} {Dt Ut Vt Nt : Fin 4 → FVec Ideal S128x1024 .f32} {D U V N : Fin 512 → Fin 1024 → ℝ}

/-- The gradient of the scaled and shifted rows of a point's four chunks. -/
def dvn4 (W : Fin 8 → Fin 128 → Fin 128 → ℝ) (D U : Fin 512 → Fin 1024 → ℝ) (r : Fin 512) (j : Fin 1024) : ℝ :=
  Gmlp.dvn W (chunk D (chk r)) (chunk U (chk r)) (sub r) j

theorem chunk_dvn4 (q : Fin 4) (p : Fin 128) : chunk (dvn4 W D U) q p = Gmlp.dvn W (chunk D q) (chunk U q) p := by
  funext j
  unfold chunk dvn4
  rw [Gmlp.chk_row4, Gmlp.sub_row4]
  rfl

theorem emb_tile (q : Fin 4) (g : Fin 8) (p d : Fin 128) :
    (Rect.unit (s := S512x1024) ![128 * q.val, 128 * g.val] S128x128.size (inb_tile q g)).idx (ix2 p d) = ix2 (row4 q p) (Gmlp.col g d) := by
  pointwise
  idx_ext

theorem ldN_val {a : Memref sig .tc .vmem S512x1024 .f32} (hW : ∀ g, IsW (Wt g) (W g)) (hD : ∀ q, Is (Dt q) (chunk D q)) (hU : ∀ q, Is (Ut q) (chunk U q))
    (q : Fin 4) : Is (ldN a Wt Dt Ut q) (chunk (dvn4 W D U) q) := fun p j => by
  unfold ldN
  rw [View.readCov_eq_canon']
  have e : (Rect.unit (s := S512x1024) ![128 * q.val, 0] S128x1024.size (inb_rows q)).toLoadRect.idx (ix2 p j) = ix2 (row4 q p) j := by
    pointwise
    idx_ext
  refine (congrArg _ e).trans ?_
  refine (View.canon_apply_of_pieces (fun y => ((dvn4 W D U (y 0) (y 1) : ℝ) : EReal)) (nPieces Wt Dt Ut q) ?_ _ ?_).trans rfl
  · rintro pc hp x
    obtain ⟨q', g, rfl⟩ := mem_nPieces hp
    obtain ⟨p', d, rfl⟩ : ∃ p' d, x = ix2 p' d := ⟨_, _, eq_ix2 x⟩
    refine (dvnT_val (hW g) (hD q') (hU q') g p' d).trans ?_
    rw [show (nPiece Wt Dt Ut q' g).1.emb (ix2 p' d) = ix2 (row4 q' p') (Gmlp.col g d) from emb_tile q' g p' d]
    simp only [ix2_0, ix2_1, dvn4, Gmlp.chk_row4, Gmlp.sub_row4, Gmlp.dvn, Gmlp.grp_col]
  · refine ⟨_, nPiece_mem_pieces Wt Dt Ut q (Gmlp.grp j), ?_⟩
    have h := (nPiece Wt Dt Ut q (Gmlp.grp j)).1.idx_mem (ix2 p (Gmlp.lane j))
    rwa [show (nPiece Wt Dt Ut q (Gmlp.grp j)).1.idx (ix2 p (Gmlp.lane j)) = ix2 (row4 q p) j from (emb_tile q _ p _).trans (by rw [Gmlp.col_grp_lane])] at h

/-! ## The outputs' blocks -/

/-- The gradients of `u` and `v` side by side, at row `r` of the point and column `j`. -/
def uv (LG LB : Fin 1024 → ℝ) (W : Fin 8 → Fin 128 → Fin 128 → ℝ) (B : Fin 8 → Fin 128 → ℝ) (D U V : Fin 512 → Fin 1024 → ℝ) (r : Fin 512) (j : Fin 2048) : ℝ :=
  if h : j.val < 1024 then
    Gmlp.du LG LB (W (Gmlp.grp ⟨j.val, h⟩)) (B (Gmlp.grp ⟨j.val, h⟩)) (chunk D (chk r)) (chunk U (chk r)) (chunk V (chk r)) (Gmlp.grp ⟨j.val, h⟩) (sub r)
      (Gmlp.lane ⟨j.val, h⟩)
  else Gmlp.dv LG (V r) (dvn4 W D U r) ⟨j.val - 1024, by omega⟩

theorem uv_left (LG LB : Fin 1024 → ℝ) (W : Fin 8 → Fin 128 → Fin 128 → ℝ) (B : Fin 8 → Fin 128 → ℝ) (D U V : Fin 512 → Fin 1024 → ℝ) (r : Fin 512) (k : Fin 1024) :
    uv LG LB W B D U V r ⟨k.val, by omega⟩ =
      Gmlp.du LG LB (W (Gmlp.grp k)) (B (Gmlp.grp k)) (chunk D (chk r)) (chunk U (chk r)) (chunk V (chk r)) (Gmlp.grp k) (sub r) (Gmlp.lane k) :=
  dif_pos k.isLt

theorem uv_right (LG LB : Fin 1024 → ℝ) (W : Fin 8 → Fin 128 → Fin 128 → ℝ) (B : Fin 8 → Fin 128 → ℝ) (D U V : Fin 512 → Fin 1024 → ℝ) (r : Fin 512) (k : Fin 1024) :
    uv LG LB W B D U V r ⟨1024 + k.val, by omega⟩ = Gmlp.dv LG (V r) (dvn4 W D U r) k := by
  refine (dif_neg (show ¬ 1024 + k.val < 1024 by omega)).trans ?_
  congr 1
  exact Fin.ext (by simp)

theorem emb_utile (q : Fin 4) (g : Fin 8) (p d : Fin 128) :
    (Rect.unit (s := S512x2048) ![128 * q.val, 128 * g.val] S128x128.size (inb_utile q g)).idx (ix2 p d) =
      ix2 (row4 q p) ⟨(Gmlp.col g d).val, by omega⟩ := by
  pointwise
  idx_ext

theorem emb_vrows (q : Fin 4) (p : Fin 128) (j : Fin 1024) :
    (Rect.unit (s := S512x2048) ![128 * q.val, 1024] S128x1024.size (inb_vrows q)).idx (ix2 p j) = ix2 (row4 q p) ⟨1024 + j.val, by omega⟩ := by
  pointwise
  idx_ext

theorem uv_val (hg : IsRow lg LG) (hb : IsRow lb LB) (hW : ∀ g, IsW (Wt g) (W g)) (hB : ∀ g, IsB (Bt g) (B g)) (hD : ∀ q, Is (Dt q) (chunk D q))
    (hU : ∀ q, Is (Ut q) (chunk U q)) (hV : ∀ q, Is (Vt q) (chunk V q)) (hN : ∀ q, Is (Nt q) (chunk (dvn4 W D U) q)) (r : Fin 512) (j : Fin 2048) :
    View.canon (uvPieces lg lb Wt Bt Dt Ut Vt Nt) (ix2 r j) = (uv LG LB W B D U V r j : EReal) := by
  refine (View.canon_apply_of_pieces (fun y => ((uv LG LB W B D U V (y 0) (y 1) : ℝ) : EReal)) _ ?_ _ ?_).trans rfl
  · rintro pc hp x
    obtain ⟨q, rfl | ⟨g, rfl⟩⟩ := mem_uvPieces hp
    · obtain ⟨p, k, rfl⟩ : ∃ p k, x = ix2 p k := ⟨_, _, eq_ix2 x⟩
      refine (dv_val hg (hV q) (hN q) p k).trans ?_
      rw [show (vPiece lg Vt Nt q).1.emb (ix2 p k) = ix2 (row4 q p) ⟨1024 + k.val, by omega⟩ from emb_vrows q p k]
      exact congrArg _ (uv_right LG LB W B D U V (row4 q p) k).symm
    · obtain ⟨p, d, rfl⟩ : ∃ p d, x = ix2 p d := ⟨_, _, eq_ix2 x⟩
      refine (du_val hg hb (hW g) (hB g) (hD q) (hU q) (hV q) g p d).trans ?_
      rw [show (uPiece lg lb Wt Bt Dt Ut Vt q g).1.emb (ix2 p d) = ix2 (row4 q p) ⟨(Gmlp.col g d).val, by omega⟩ from emb_utile q g p d]
      refine congrArg _ (.trans ?_ (uv_left LG LB W B D U V (row4 q p) (Gmlp.col g d)).symm)
      simp only [Gmlp.chk_row4, Gmlp.sub_row4, Gmlp.grp_col, Gmlp.lane_col]
  · by_cases h : j.val < 1024
    · refine ⟨_, uPiece_mem lg lb Wt Bt Dt Ut Vt Nt (chk r) (Gmlp.grp ⟨j.val, h⟩), ?_⟩
      have hm := (uPiece lg lb Wt Bt Dt Ut Vt (chk r) (Gmlp.grp ⟨j.val, h⟩)).1.idx_mem (ix2 (sub r) (Gmlp.lane ⟨j.val, h⟩))
      rwa [show (uPiece lg lb Wt Bt Dt Ut Vt (chk r) (Gmlp.grp ⟨j.val, h⟩)).1.idx (ix2 (sub r) (Gmlp.lane ⟨j.val, h⟩)) = ix2 r j from
        (emb_utile _ _ _ _).trans (by simp only [Gmlp.row4_chk_sub, Gmlp.col_grp_lane])] at hm
    · refine ⟨_, vPiece_mem lg lb Wt Bt Dt Ut Vt Nt (chk r), ?_⟩
      have hm := (vPiece lg Vt Nt (chk r)).1.idx_mem (ix2 (sub r) (⟨j.val - 1024, by omega⟩ : Fin 1024))
      rwa [show (vPiece lg Vt Nt (chk r)).1.idx (ix2 (sub r) (⟨j.val - 1024, by omega⟩ : Fin 1024)) = ix2 r j from
        (emb_vrows _ _ _).trans (by
          rw [Gmlp.row4_chk_sub]
          exact congrArg _ (Fin.ext (by show 1024 + (j.val - 1024) = j.val; omega)))] at hm

/-- A point's part of the gradient of a group's weights. -/
def dws4R (LG LB : Fin 1024 → ℝ) (D U V : Fin 512 → Fin 1024 → ℝ) (g : Fin 8) (a b : Fin 128) : ℝ :=
  ∑ q, Gmlp.dws LG LB (chunk D q) (chunk U q) (chunk V q) g a b

/-- A point's part of the gradient of a group's bias. -/
def dbs4R (D U : Fin 512 → Fin 1024 → ℝ) (g : Fin 8) (a : Fin 128) : ℝ := ∑ q, Gmlp.dbs (chunk D q) (chunk U q) g a

theorem dws4_val (hg : IsRow lg LG) (hb : IsRow lb LB) (hD : ∀ q, Is (Dt q) (chunk D q)) (hU : ∀ q, Is (Ut q) (chunk U q))
    (hV : ∀ q, Is (Vt q) (chunk V q)) (g : Fin 8) (a b : Fin 128) : dws4 g lg lb Dt Ut Vt (ix2 a b) = (dws4R LG LB D U V g a b : EReal) := by
  pointwise [dws4, cst]
  rw [dwsT_val hg hb (hD 0) (hU 0) (hV 0), dwsT_val hg hb (hD 1) (hU 1) (hV 1), dwsT_val hg hb (hD 2) (hU 2) (hV 2), dwsT_val hg hb (hD 3) (hU 3) (hV 3)]
  unfold dws4R
  rw [Fin.sum_univ_four]
  norm_cast

theorem dbs1_val {acc : FVec Ideal S128x128 .f32} {r : ℝ} {dy u : FVec Ideal S128x1024 .f32} {X Y : Fin 128 → Fin 1024 → ℝ} (hd : Is dy X) (hu : Is u Y)
    (p l : Fin 128) (h : acc (ix2 p l) = (r : EReal)) :
    dbs1 acc dy u (ix2 p l) = ((r + if hl : l.val < 8 then Gmlp.dbs X Y ⟨l.val, hl⟩ p else 0 : ℝ) : EReal) := by
  pointwise [dbs1]
  simp only [dbsT_val hd hu, h, ← EReal.coe_add]
  congr 1
  by_cases hl : l.val < 8
  · rw [dif_pos hl]
    obtain ⟨l, hl'⟩ := l
    simp only at hl ⊢
    interval_cases l <;> simp <;> rfl
  · rw [dif_neg hl]
    have : ∀ g : Fin 8, ¬ l.val = g.val := fun g => by omega
    simp [show ¬ l.val = 0 by omega, show ¬ l.val = 1 by omega, show ¬ l.val = 2 by omega, show ¬ l.val = 3 by omega, show ¬ l.val = 4 by omega,
      show ¬ l.val = 5 by omega, show ¬ l.val = 6 by omega, show ¬ l.val = 7 by omega]

theorem dbs4_val (hD : ∀ q, Is (Dt q) (chunk D q)) (hU : ∀ q, Is (Ut q) (chunk U q)) (p l : Fin 128) :
    dbs4 Dt Ut (ix2 p l) = ((if hl : l.val < 8 then dbs4R D U ⟨l.val, hl⟩ p else 0 : ℝ) : EReal) := by
  have h0 : cst (F := Ideal) S128x128 0x00000000#32 (ix2 p l) = ((0 : ℝ) : EReal) := by pointwise [cst]; rfl
  refine (dbs1_val (hD 3) (hU 3) p l (dbs1_val (hD 2) (hU 2) p l (dbs1_val (hD 1) (hU 1) p l (dbs1_val (hD 0) (hU 0) p l h0)))).trans ?_
  congr 1
  unfold dbs4R
  split
  · rw [Fin.sum_univ_four, zero_add]
  · norm_num

/-- A point's part of the gradient of the offset. -/
def dlb4R (N : Fin 512 → Fin 1024 → ℝ) (j : Fin 1024) : ℝ := ∑ q, ∑ p, chunk N q p j

/-- A point's part of the gradient of the scale. -/
def dlg4R (V N : Fin 512 → Fin 1024 → ℝ) (j : Fin 1024) : ℝ := ∑ q, ∑ p, chunk N q p j * Gmlp.xh (chunk V q p) j

theorem dlb4_val (hN : ∀ q, Is (Nt q) (chunk N q)) (z : Fin 1) (j : Fin 1024) : dlb4 Nt (ix2 z j) = (dlb4R N j : EReal) := by
  pointwise [dlb4, cst]
  rw [colsum_val (hN 0), colsum_val (hN 1), colsum_val (hN 2), colsum_val (hN 3)]
  unfold dlb4R
  rw [Fin.sum_univ_four]
  norm_cast

theorem dlg4_val (hV : ∀ q, Is (Vt q) (chunk V q)) (hN : ∀ q, Is (Nt q) (chunk N q)) (z : Fin 1) (j : Fin 1024) :
    dlg4 Vt Nt (ix2 z j) = (dlg4R V N j : EReal) := by
  have h : ∀ q, Is (mulf (Nt q) (xh (Vt q))) (fun p j => chunk N q p j * Gmlp.xh (chunk V q p) j) := fun q p j => by
    pointwise
    rw [hN q, xh_val (hV q)]
    norm_cast
  pointwise [dlg4, cst]
  rw [colsum_val (h 0), colsum_val (h 1), colsum_val (h 2), colsum_val (h 3)]
  unfold dlg4R
  rw [Fin.sum_univ_four]
  norm_cast

theorem wsPieces_val (X : Fin 8 → FVec Ideal S1x128x128 .f32) (g : Fin 8) (a b : Fin 128) : View.canon (wsPieces X) (ix3 g a b) = X g (ix3 0 a b) := by
  have e : ∀ (g : Fin 8) (a b : Fin 128), (Rect.unit (s := S8x128x128) ![g.val, 0, 0] S1x128x128.size (inb_group g)).idx (ix3 0 a b) = ix3 g a b := fun g a b => by
    pointwise
  refine (View.canon_apply_of_pieces (fun y => X (y 0) (ix3 0 (y 1) (y 2))) _ ?_ _ ?_).trans rfl
  · intro pc hp x
    obtain ⟨g, rfl⟩ : ∃ g : Fin 8, pc = ⟨Rect.unit ![g.val, 0, 0] S1x128x128.size (inb_group g), X g⟩ := by
      simp only [wsPieces, List.mem_cons, List.not_mem_nil, or_false] at hp
      rcases hp with h | h | h | h | h | h | h | h <;> exact ⟨_, h⟩
    obtain ⟨z, p, q, rfl⟩ : ∃ z p q, x = ix3 z p q := ⟨_, _, _, eq_ix3 x⟩
    obtain rfl : z = 0 := Subsingleton.elim _ _
    rw [show (Rect.unit (s := S8x128x128) ![g.val, 0, 0] S1x128x128.size (inb_group g)).emb (ix3 0 p q) = ix3 g p q from e g p q]
    rfl
  · refine ⟨⟨Rect.unit ![g.val, 0, 0] S1x128x128.size (inb_group g), X g⟩, ?_, ?_⟩
    · unfold wsPieces
      fin_cases g <;> simp
    · have hm := (Rect.unit (s := S8x128x128) ![g.val, 0, 0] S1x128x128.size (inb_group g)).idx_mem (ix3 0 a b)
      rwa [e] at hm

theorem hz : (![0, 0] : Fin 2 → Nat) = fun _ => 0 := funext fun a => by fin_cases a <;> rfl

theorem bsPieces_val (x : FVec F S128x128 .f32) : View.canon (bsPieces x) = x := View.canon_unit_zero (S := S128x128) hz _ _

theorem rowPieces_val (x : FVec F S1x1024 .f32) : View.canon (rowPieces x) = x := View.canon_unit_zero (S := S1x1024) hz _ _

end Vals

end Cert.KernelIdeal.Body

end
-- ==== Proof.Out.lean ====
/- What the run leaves in each output's block after each grid point, over the real numbers. -/
module

public import proofs.«01_k».proof.Proof.Gen.KernelIdeal.Value
public import proofs.«01_k».proof.Proof.PointVal

@[expose] public section

set_option maxRecDepth 16384

noncomputable section

namespace Cert.KernelIdeal.Body

open Idealize.ShloMosaic Idealize.ShloMosaic.TcCoe Idealize.SL Idealize.SL.Sem Cert.KernelIdeal.Gen
open Cert.Gmlp (chunk row4 chk sub)

/-- The blocks that the run reads at point `t` are real numbers. -/
structure Blk (m : (ℓ : Loc nD τ sig) → Buf (Elt Ideal) ℓ) (c : Dev nD) (t : Fin cfg0.N) (LG LB : Fin 1024 → ℝ) (W : Fin 8 → Fin 128 → Fin 128 → ℝ)
    (B : Fin 8 → Fin 128 → ℝ) (D U V : Fin 512 → Fin 1024 → ℝ) : Prop where
  dy : Is4 (iblk m c 0 t) D
  u : Is4 (iblk m c 1 t) U
  v : Is4 (iblk m c 2 t) V
  lg : IsRow (iblk m c 3 t) LG
  lb : IsRow (iblk m c 4 t) LB
  ws : IsWs (iblk m c 5 t) W
  bs : IsBs (iblk m c 6 t) B

/-- The four small outputs' blocks hold the real numbers given. -/
structure Acc (o : Vec Ideal S512x2048 .bf16 × Vec Ideal S8x128x128 .f32 × Vec Ideal S128x128 .f32 × Vec Ideal S1x1024 .f32 × Vec Ideal S1x1024 .f32)
    (ws : Fin 8 → Fin 128 → Fin 128 → ℝ) (bs : Fin 8 → Fin 128 → ℝ) (lg lb : Fin 1024 → ℝ) : Prop where
  ws : ∀ g a b, o.2.1 (ix3 g a b) = (ws g a b : EReal)
  bs : ∀ p l, o.2.2.1 (ix2 p l) = ((if hl : l.val < 8 then bs ⟨l.val, hl⟩ p else 0 : ℝ) : EReal)
  lg : ∀ z j, o.2.2.2.1 (ix2 z j) = (lg j : EReal)
  lb : ∀ z j, o.2.2.2.2 (ix2 z j) = (lb j : EReal)

section

variable {m : (ℓ : Loc nD τ sig) → Buf (Elt Ideal) ℓ} {c : Dev nD} {t : Fin cfg0.N} {LG LB : Fin 1024 → ℝ} {W : Fin 8 → Fin 128 → Fin 128 → ℝ}
  {B : Fin 8 → Fin 128 → ℝ} {D U V : Fin 512 → Fin 1024 → ℝ}

/-- The first output's block at the first point. -/
theorem uvA (H : Blk m c t LG LB W B D U V) (h : t.val = 0) (r : Fin 512) (j : Fin 2048) :
    (outsAt0 m c t.val t.isLt).1 (ix2 r j) = (uv LG LB W B D U V r j : EReal) := by
  rw [outsAt0_A m c t (by omega) (by omega) (by omega) (by omega) (by omega) (by omega) (by omega) (by omega) (by omega) (by omega) (by omega) (by omega) (by omega) (by omega) (by omega) (by omega) (by omega) (by omega) (by omega) (by omega) (by omega) (by omega)]
  dsimp only
  unfold out0_A_7
  rw [View.read_writes_junk_eq_canon, runA_7]
  exact uv_val (ldRow_val H.lg) (ldRow_val H.lb) (ldGroup_val H.ws) (ldLane_val H.bs) (ldRows_val H.dy) (ldRows_val H.u) (ldRows_val H.v)
    (ldN_val (ldGroup_val H.ws) (ldRows_val H.dy) (ldRows_val H.u)) r j

/-- The first output's block at a later point. -/
theorem uvB (H : Blk m c t LG LB W B D U V) (h : ¬ t.val % 4 = 0) (h' : 1 ≤ t.val) (r : Fin 512) (j : Fin 2048) :
    (outsAt0 m c t.val t.isLt).1 (ix2 r j) = (uv LG LB W B D U V r j : EReal) := by
  rw [outsAt0_B m c t (by omega) (by omega) (by omega) (by omega) (by omega) (by omega) (by omega) (by omega) (by omega) (by omega) (by omega) (by omega) (by omega) (by omega) (by omega) (by omega) (by omega) (by omega) (by omega) (by omega) (by omega) (by omega)]
  dsimp only
  unfold out0_B_7
  rw [View.read_writes_junk_eq_canon, runB_7]
  exact uv_val (ldRow_val H.lg) (ldRow_val H.lb) (ldGroup_val H.ws) (ldLane_val H.bs) (ldRows_val H.dy) (ldRows_val H.u) (ldRows_val H.v)
    (ldN_val (ldGroup_val H.ws) (ldRows_val H.dy) (ldRows_val H.u)) r j

/-- A matrix as a block of one group. -/
theorem lift_val (x : FVec Ideal S128x128 .f32) (a b : Fin 128) : lift x (ix3 0 a b) = x (ix2 a b) := by
  pointwise [lift]

theorem addWs_val (old : Vec Ideal S1x128x128 .f32) (x : FVec Ideal S128x128 .f32) (a b : Fin 128) :
    addWs old x (ix3 0 a b) = old (ix3 0 a b) + x (ix2 a b) := by
  pointwise [addWs, lift]

theorem ldBlock_val {a : Memref sig .tc .vmem S128x128 .f32} {h : a.IsWhole} {x : Vec Ideal S128x128 .f32} (p q : Fin 128) :
    ldBlock a h x (ix2 p q) = x (ix2 p q) := by
  unfold ldBlock
  rw [h.readAt_unread]
  pointwise

theorem addBs_val (old : Vec Ideal S128x128 .f32) (x : FVec Ideal S128x128 .f32) (a b : Fin 128) : addBs old x (ix2 a b) = old (ix2 a b) + x (ix2 a b) := by
  pointwise [addBs]

theorem addRow_val (old : Vec Ideal S1x1024 .f32) (x : FVec Ideal S1x1024 .f32) (a : Fin 1) (b : Fin 1024) :
    addRow old x (ix2 a b) = old (ix2 a b) + x (ix2 a b) := by
  pointwise [addRow, row]

/-- The four small outputs at the first point. -/
theorem accA (H : Blk m c t LG LB W B D U V) (h : t.val = 0) :
    Acc (outsAt0 m c t.val t.isLt) (dws4R LG LB D U V) (dbs4R D U) (dlg4R V (dvn4 W D U)) (dlb4R (dvn4 W D U)) := by
  rw [outsAt0_A m c t (by omega) (by omega) (by omega) (by omega) (by omega) (by omega) (by omega) (by omega) (by omega) (by omega) (by omega) (by omega) (by omega) (by omega) (by omega) (by omega) (by omega) (by omega) (by omega) (by omega) (by omega) (by omega)]
  constructor
  · intro g a b
    dsimp only
    unfold out0_A_8
    rw [View.read_writes_junk_eq_canon, runA_8, wsPieces_val, lift_val]
    exact dws4_val (ldRow_val H.lg) (ldRow_val H.lb) (ldRows_val H.dy) (ldRows_val H.u) (ldRows_val H.v) g a b
  · intro p l
    dsimp only
    unfold out0_A_9
    rw [View.read_writes_junk_eq_canon, runA_9, bsPieces_val]
    exact dbs4_val (ldRows_val H.dy) (ldRows_val H.u) p l
  · intro z j
    dsimp only
    unfold out0_A_10
    rw [View.read_writes_junk_eq_canon, runA_10, rowPieces_val]
    exact dlg4_val (ldRows_val H.v) (ldN_val (ldGroup_val H.ws) (ldRows_val H.dy) (ldRows_val H.u)) z j
  · intro z j
    dsimp only
    unfold out0_A_11
    rw [View.read_writes_junk_eq_canon, runA_11, rowPieces_val]
    exact dlb4_val (ldN_val (ldGroup_val H.ws) (ldRows_val H.dy) (ldRows_val H.u)) z j

/-- The four small outputs at a later point: what was there plus the point's own part. -/
theorem accB (H : Blk m c t LG LB W B D U V) (h : ¬ t.val % 4 = 0) (h' : 1 ≤ t.val) {ws bs lg lb}
    (O : Acc (outsAt0 m c (t.val - 1) (Nat.lt_of_le_of_lt (Nat.sub_le _ _) t.isLt)) ws bs lg lb) :
    Acc (outsAt0 m c t.val t.isLt) (fun g a b => ws g a b + dws4R LG LB D U V g a b) (fun g a => bs g a + dbs4R D U g a)
      (fun j => lg j + dlg4R V (dvn4 W D U) j) (fun j => lb j + dlb4R (dvn4 W D U) j) := by
  rw [outsAt0_B m c t (by omega) (by omega) (by omega) (by omega) (by omega) (by omega) (by omega) (by omega) (by omega) (by omega) (by omega) (by omega) (by omega) (by omega) (by omega) (by omega) (by omega) (by omega) (by omega) (by omega) (by omega) (by omega)]
  constructor
  · intro g a b
    dsimp only
    unfold out0_B_8
    rw [View.read_writes_junk_eq_canon, runB_8, wsPieces_val, addWs_val,
      dws4_val (ldRow_val H.lg) (ldRow_val H.lb) (ldRows_val H.dy) (ldRows_val H.u) (ldRows_val H.v) g a b, ldGroup_val O.ws, EReal.coe_add]
  · intro p l
    dsimp only
    unfold out0_B_9
    rw [View.read_writes_junk_eq_canon, runB_9, bsPieces_val, addBs_val, ldBlock_val, O.bs,
      dbs4_val (ldRows_val H.dy) (ldRows_val H.u) p l, ← EReal.coe_add]
    split
    · rfl
    · norm_num
  · intro z j
    dsimp only
    unfold out0_B_10
    rw [View.read_writes_junk_eq_canon, runB_10, rowPieces_val, addRow_val,
      dlg4_val (ldRows_val H.v) (ldN_val (ldGroup_val H.ws) (ldRows_val H.dy) (ldRows_val H.u)) z j, ldRow_val O.lg, EReal.coe_add]
  · intro z j
    dsimp only
    unfold out0_B_11
    rw [View.read_writes_junk_eq_canon, runB_11, rowPieces_val, addRow_val,
      dlb4_val (ldN_val (ldGroup_val H.ws) (ldRows_val H.dy) (ldRows_val H.u)) z j, ldRow_val O.lb, EReal.coe_add]

end

section

variable {m : (ℓ : Loc nD τ sig) → Buf (Elt Ideal) ℓ} {c : Dev nD} {LG LB : Fin 1024 → ℝ} {W : Fin 8 → Fin 128 → Fin 128 → ℝ}
  {B : Fin 8 → Fin 128 → ℝ} {D U V : Fin cfg0.N → Fin 512 → Fin 1024 → ℝ}

/-- The first output's block at any point. -/
theorem uv_at (H : ∀ t, Blk m c t LG LB W B (D t) (U t) (V t)) (t : Fin cfg0.N) (r : Fin 512) (j : Fin 2048) :
    (outsAt0 m c t.val t.isLt).1 (ix2 r j) = (uv LG LB W B (D t) (U t) (V t) r j : EReal) := by
  have hN : t.val < 4 := lt_of_lt_of_eq t.isLt (show cfg0.N = 4 from N_0)
  by_cases h : t.val = 0
  · exact uvA (H t) h r j
  · exact uvB (H t) (by omega) (by omega) r j

/-- The four small outputs after the last point: the four points' parts. -/
theorem acc_last (H : ∀ t, Blk m c t LG LB W B (D t) (U t) (V t)) :
    Acc (outsAt0 m c t0_3.val t0_3.isLt) (fun g a b => ∑ t, dws4R LG LB (D t) (U t) (V t) g a b) (fun g a => ∑ t, dbs4R (D t) (U t) g a)
      (fun j => ∑ t, dlg4R (V t) (dvn4 W (D t) (U t)) j) (fun j => ∑ t, dlb4R (dvn4 W (D t) (U t)) j) := by
  have h0 := accA (H t0_0) rfl
  have h1 := accB (t := t0_1) (H t0_1) (by decide) (by decide) h0
  have h2 := accB (t := t0_2) (H t0_2) (by decide) (by decide) h1
  have h3 := accB (t := t0_3) (H t0_3) (by decide) (by decide) h2
  have e : ∀ f : Fin cfg0.N → ℝ, ∑ t, f t = f t0_0 + f t0_1 + f t0_2 + f t0_3 := fun f => Fin.sum_univ_four f
  simpa only [e] using h3

end

end Cert.KernelIdeal.Body

end
-- ==== Proof.Arrays.lean ====
/- The kernel's result arrays over the real numbers: the blocks that the run reads are the arguments' rows, and the
   arrays after the run are made of the outputs' blocks. -/
module

public import proofs.«01_k».proof.Proof.Out
public import Idealize.ShloMosaic.Lib.Pipeline.ValueKit
public import Idealize.ShloMosaic.Lib.Claim

@[expose] public section

set_option maxRecDepth 16384

noncomputable section

namespace Cert.KernelIdeal.Body

open Idealize.ShloMosaic Idealize.ShloMosaic.TcCoe Idealize.SL Idealize.SL.Sem Cert.KernelIdeal.Gen
open Cert.Gmlp (chunk row4 chk sub)

/-- The arguments are real numbers. -/
structure Args (m : (ℓ : Loc nD τ sig) → Buf (Elt Ideal) ℓ) (c : Dev nD) (AD : Fin 2048 → Fin 1024 → ℝ) (Z : Fin 2048 → Fin 10240 → ℝ) (LG LB : Fin 1024 → ℝ)
    (W : Fin 8 → Fin 128 → Fin 128 → ℝ) (B : Fin 8 → Fin 128 → ℝ) : Prop where
  dy : ∀ a b, m ((c : Thread nD τ).loc main_arg0) (ix2 a b) = (AD a b : EReal)
  z : ∀ a b, m ((c : Thread nD τ).loc main_arg1) (ix2 a b) = (Z a b : EReal)
  lg : ∀ a, m ((c : Thread nD τ).loc main_arg2) (ix1 a) = (LG a : EReal)
  lb : ∀ a, m ((c : Thread nD τ).loc main_arg3) (ix1 a) = (LB a : EReal)
  ws : ∀ g a b, m ((c : Thread nD τ).loc main_arg4) (ix3 g a b) = (W g a b : EReal)
  bs : ∀ g a, m ((c : Thread nD τ).loc main_arg5) (ix2 g a) = (B g a : EReal)

theorem lt4 (t : Fin cfg0.N) : t.val < 4 := lt_of_lt_of_eq t.isLt (show cfg0.N = 4 from N_0)

/-- Row `r` of point `t`. -/
def rw4 (t : Fin cfg0.N) (r : Fin 512) : Fin 2048 := ⟨512 * t.val + r.val, by have := lt4 t; omega⟩

/-- The rows of a point. -/
def rows (X : Fin 2048 → Fin 1024 → ℝ) (t : Fin cfg0.N) (r : Fin 512) : Fin 1024 → ℝ := X (rw4 t r)

/-- The first 1024 columns. -/
def lo (Z : Fin 2048 → Fin 10240 → ℝ) (a : Fin 2048) (j : Fin 1024) : ℝ := Z a ⟨j.val, by omega⟩

/-- The next 1024 columns. -/
def hi (Z : Fin 2048 → Fin 10240 → ℝ) (a : Fin 2048) (j : Fin 1024) : ℝ := Z a ⟨1024 + j.val, by omega⟩

section

variable {m : (ℓ : Loc nD τ sig) → Buf (Elt Ideal) ℓ} {c : Dev nD} {AD : Fin 2048 → Fin 1024 → ℝ} {Z : Fin 2048 → Fin 10240 → ℝ} {LG LB : Fin 1024 → ℝ}
  {W : Fin 8 → Fin 128 → Fin 128 → ℝ} {B : Fin 8 → Fin 128 → ℝ}

theorem idx : ∀ t : Fin cfg0.N, win0_0.index t = ![t.val, 0] ∧ win0_1.index t = ![t.val, 0] ∧ win0_2.index t = ![t.val, 1] ∧ win0_3.index t = ![0, 0] ∧
    win0_4.index t = ![0, 0] ∧ win0_5.index t = ![0, 0, 0] ∧ win0_6.index t = ![0, 0] ∧ win0_7.index t = ![t.val, 0] := by
  decide +kernel

theorem blk (A : Args m c AD Z LG LB W B) (t : Fin cfg0.N) : Blk m c t LG LB W B (rows AD t) (rows (lo Z) t) (rows (hi Z) t) where
  dy a b := by
    unfold rows; rw [← A.dy]
    blk_ext [iblk, V, idx t, rw4]
  u a b := by
    unfold rows lo; rw [← A.z]
    blk_ext [iblk, V, idx t, rw4]
  v a b := by
    unfold rows hi; rw [← A.z]
    blk_ext [iblk, V, idx t, rw4]
  lg a b := by
    rw [← A.lg]
    have e : (win0_3.blk t).view.emb (ix2 a b) = ix2 a b := by blk_ext [idx t]
    blk_simp [iblk]
    rw [e]
    unfold V
    simp only [hostOps0, hostOps0_1, List.flatten_cons, List.flatten_nil, List.append_nil, List.cons_append, List.nil_append]
    entry_read
    pointwise
  lb a b := by
    rw [← A.lb]
    have e : (win0_4.blk t).view.emb (ix2 a b) = ix2 a b := by blk_ext [idx t]
    blk_simp [iblk]
    rw [e]
    unfold V
    simp only [hostOps0, hostOps0_1, List.flatten_cons, List.flatten_nil, List.append_nil, List.cons_append, List.nil_append]
    entry_read
    pointwise
  ws g a b := by
    rw [← A.ws]
    blk_ext [iblk, V, idx t]
  bs a g := by
    rw [← A.bs]
    have e : (win0_6.blk t).view.emb (ix2 a (⟨g.val, by omega⟩ : Fin 128)) = ix2 a (⟨g.val, by omega⟩ : Fin 128) := by blk_ext [idx t]
    blk_simp [iblk]
    rw [e]
    unfold V
    simp only [hostOps0, hostOps0_1, List.flatten_cons, List.flatten_nil, List.append_nil, List.cons_append, List.nil_append]
    entry_read
    show pad S128x128 ![0, 0] ![0, 120] ![0, 0] (transpose S128x8 [1, 0] (m (c, Proc.tc.devRef main_arg5)) transposes_S8x128_S128x8_1_0)
      (sitofp (F := Ideal) .f32 (constantI S_ 32 0#32)) pads_S128x8_S128x128_000_01200 h_S_ (ix2 a (⟨g.val, by omega⟩ : Fin 128)) = _
    pointwise

/-- The gradients of the two operands side by side, row by row of the whole arrays. -/
def uvArr (LG LB : Fin 1024 → ℝ) (W : Fin 8 → Fin 128 → Fin 128 → ℝ) (B : Fin 8 → Fin 128 → ℝ) (AD : Fin 2048 → Fin 1024 → ℝ) (Z : Fin 2048 → Fin 10240 → ℝ)
    (i j : Fin 2048) : ℝ :=
  let t : Fin cfg0.N := ⟨i.val / 512, by rw [show cfg0.N = 4 from N_0]; omega⟩
  uv LG LB W B (rows AD t) (rows (lo Z) t) (rows (hi Z) t) ⟨i.val % 512, by omega⟩ j

theorem uvArr_rw4 (t : Fin cfg0.N) (r : Fin 512) (j : Fin 2048) :
    uvArr LG LB W B AD Z (rw4 t r) j = uv LG LB W B (rows AD t) (rows (lo Z) t) (rows (hi Z) t) r j := by
  have h1 : (⟨(rw4 t r).val / 512, by rw [show cfg0.N = 4 from N_0]; omega⟩ : Fin cfg0.N) = t := Fin.ext (by simp only [rw4]; omega)
  have h2 : (⟨(rw4 t r).val % 512, by omega⟩ : Fin 512) = r := Fin.ext (by simp only [rw4]; omega)
  unfold uvArr
  dsimp only
  rw [h1, h2]

/-- The same as contents of the first result. -/
def G7 (LG LB : Fin 1024 → ℝ) (W : Fin 8 → Fin 128 → Fin 128 → ℝ) (B : Fin 8 → Fin 128 → ℝ) (AD : Fin 2048 → Fin 1024 → ℝ) (Z : Fin 2048 → Fin 10240 → ℝ)
    (y : S2048x2048.Idx) : EReal := (uvArr LG LB W B AD Z (y 0) (y 1) : EReal)

/-- The first result: the gradients of the two operands side by side. -/
theorem arr7 (A : Args m c AD Z LG LB W B) (i : Fin 2048) (j : Fin 2048) :
    (dats m 0 c).arrAt 7 cfg0.N (ix2 i j) = (uvArr LG LB W B AD Z i j : EReal) := by
  have h := (dats m 0 c).arrAt_eq_of_covers 7 (G7 LG LB W B AD Z) (by decide +kernel) fun t hf y => ?_
  · exact congrFun h (ix2 i j)
  · obtain ⟨r, k, rfl⟩ : ∃ r k, y = ix2 r k := ⟨_, _, eq_ix2 y⟩
    have e : (win0_7.blk t).view.emb (ix2 r k) = ix2 (rw4 t r) k := by blk_ext [idx t, rw4]
    blk_simp
    rw [after0_7]
    refine (uv_at (blk A) t r k).trans ?_
    refine Eq.trans ?_ (congrArg (G7 LG LB W B AD Z) e).symm
    exact congrArg _ (uvArr_rw4 t r k).symm

theorem arr8 (A : Args m c AD Z LG LB W B) (g : Fin 8) (a b : Fin 128) :
    (dats m 0 c).arrAt 8 cfg0.N (ix3 g a b) = ((∑ t, dws4R LG LB (rows AD t) (rows (lo Z) t) (rows (hi Z) t) g a b : ℝ) : EReal) := by
  have h := (dats m 0 c).arrAt_eq_of_after_last 8 t0_3 (by decide +kernel)
    (fun y : S8x128x128.Idx => ((∑ t, dws4R LG LB (rows AD t) (rows (lo Z) t) (rows (hi Z) t) (y 0) (y 1) (y 2) : ℝ) : EReal)) fun y => ?_
  · exact congrFun h (ix3 g a b)
  · obtain ⟨g, a, b, rfl⟩ : ∃ g a b, y = ix3 g a b := ⟨_, _, _, eq_ix3 y⟩
    rw [after0_8]
    exact (acc_last (blk A)).ws g a b

theorem arr9 (A : Args m c AD Z LG LB W B) (p l : Fin 128) :
    (dats m 0 c).arrAt 9 cfg0.N (ix2 p l) =
      ((if hl : l.val < 8 then ∑ t, dbs4R (rows AD t) (rows (lo Z) t) ⟨l.val, hl⟩ p else 0 : ℝ) : EReal) := by
  have h := (dats m 0 c).arrAt_eq_of_after_last 9 t0_3 (by decide +kernel)
    (fun y : S128x128.Idx => (((fun p l : Fin 128 => if hl : l.val < 8 then ∑ t, dbs4R (rows AD t) (rows (lo Z) t) ⟨l.val, hl⟩ p else 0) (y 0) (y 1) : ℝ) : EReal)) fun y => ?_
  · exact congrFun h (ix2 p l)
  · obtain ⟨p, l, rfl⟩ : ∃ p l, y = ix2 p l := ⟨_, _, eq_ix2 y⟩
    rw [after0_9]
    exact (acc_last (blk A)).bs p l

theorem arr10 (A : Args m c AD Z LG LB W B) (z : Fin 1) (j : Fin 1024) :
    (dats m 0 c).arrAt 10 cfg0.N (ix2 z j) = ((∑ t, dlg4R (rows (hi Z) t) (dvn4 W (rows AD t) (rows (lo Z) t)) j : ℝ) : EReal) := by
  have h := (dats m 0 c).arrAt_eq_of_after_last 10 t0_3 (by decide +kernel)
    (fun y : S1x1024.Idx => ((∑ t, dlg4R (rows (hi Z) t) (dvn4 W (rows AD t) (rows (lo Z) t)) (y 1) : ℝ) : EReal)) fun y => ?_
  · exact congrFun h (ix2 z j)
  · obtain ⟨z, j, rfl⟩ : ∃ z j, y = ix2 z j := ⟨_, _, eq_ix2 y⟩
    rw [after0_10]
    exact (acc_last (blk A)).lg z j

theorem arr11 (A : Args m c AD Z LG LB W B) (z : Fin 1) (j : Fin 1024) :
    (dats m 0 c).arrAt 11 cfg0.N (ix2 z j) = ((∑ t, dlb4R (dvn4 W (rows AD t) (rows (lo Z) t)) j : ℝ) : EReal) := by
  have h := (dats m 0 c).arrAt_eq_of_after_last 11 t0_3 (by decide +kernel)
    (fun y : S1x1024.Idx => ((∑ t, dlb4R (dvn4 W (rows AD t) (rows (lo Z) t)) (y 1) : ℝ) : EReal)) fun y => ?_
  · exact congrFun h (ix2 z j)
  · obtain ⟨z, j, rfl⟩ : ∃ z j, y = ix2 z j := ⟨_, _, eq_ix2 y⟩
    rw [after0_11]
    exact (acc_last (blk A)).lb z j

end

end Cert.KernelIdeal.Body

end
-- ==== Proof.RefVal.lean ====
/- The reference's values over the real numbers: where the arguments hold real numbers, each operation's element is the
   real number that `Spec` defines. -/
module

public import Idealize.ShloMosaic.Lib.Pointwise
public import proofs.«01_k».proof.Proof.Gen.ReferenceIdeal.Read
public import proofs.«01_k».proof.Proof.BodyVal

@[expose] public section

set_option maxRecDepth 16384

noncomputable section

namespace Cert.ReferenceIdeal.Val

open Idealize.ShloMosaic Idealize.SL.Sem Cert.ReferenceIdeal.Gen Cert.ReferenceIdeal.Read
open Cert.KernelIdeal.Body (ofBits_half ofBits_c ofBits_1024 ofBits_eps sum_coe cmpi_sge_fin)

theorem ofBits_44715 : Ideal.ofBits .f32 0x472EAB00#32 = ((44715 : ℝ) : EReal) := by
  simp [Ideal.ofBits, Ideal.ieee, -EReal.coe_mul]; try norm_num

theorem ofBits_million : Ideal.ofBits .f32 0x49742400#32 = ((1000000 : ℝ) : EReal) := by
  simp [Ideal.ofBits, Ideal.ieee, -EReal.coe_mul]; try norm_num

theorem ofBits_two : Ideal.ofBits .f32 0x40000000#32 = ((2 : ℝ) : EReal) := by
  simp [Ideal.ofBits, Ideal.ieee, -EReal.coe_mul]; try norm_num

theorem ofBits_three : Ideal.ofBits .f32 0x40400000#32 = ((3 : ℝ) : EReal) := by
  simp [Ideal.ofBits, Ideal.ieee, -EReal.coe_mul]; try norm_num

theorem ofBits_neg_half : Ideal.ofBits .f32 0xBF000000#32 = ((-(1 / 2) : ℝ) : EReal) := by
  simp [Ideal.ofBits, Ideal.ieee, -EReal.coe_mul]; try norm_num

/-- The arguments hold real numbers. -/
structure Holds (x0 : (⟨S2048x1024, .f32⟩ : BufTy).Contents (Elt Ideal)) (x1 : (⟨S2048x10240, .f32⟩ : BufTy).Contents (Elt Ideal))
    (x2 x3 : (⟨S1024, .f32⟩ : BufTy).Contents (Elt Ideal)) (x4 : (⟨S8x128x128, .f32⟩ : BufTy).Contents (Elt Ideal))
    (x5 : (⟨S8x128, .f32⟩ : BufTy).Contents (Elt Ideal)) (AD : Fin 2048 → Fin 1024 → ℝ) (Z : Fin 2048 → Fin 10240 → ℝ)
    (LG LB : Fin 1024 → ℝ) (W : Fin 8 → Fin 128 → Fin 128 → ℝ) (B : Fin 8 → Fin 128 → ℝ) : Prop where
  dy : ∀ a j, x0 (ix2 a j) = (AD a j : EReal)
  z : ∀ a j, x1 (ix2 a j) = (Z a j : EReal)
  lg : ∀ j, x2 (ix1 j) = (LG j : EReal)
  lb : ∀ j, x3 (ix1 j) = (LB j : EReal)
  ws : ∀ g a b, x4 (ix3 g a b) = (W g a b : EReal)
  bs : ∀ g a, x5 (ix2 g a) = (B g a : EReal)

/-- The first 1024 columns. -/
def lo (Z : Fin 2048 → Fin 10240 → ℝ) (a : Fin 2048) (j : Fin 1024) : ℝ := Z a ⟨j.val, by omega⟩

/-- The next 1024 columns. -/
def hi (Z : Fin 2048 → Fin 10240 → ℝ) (a : Fin 2048) (j : Fin 1024) : ℝ := Z a ⟨1024 + j.val, by omega⟩

variable {x0 : (⟨S2048x1024, .f32⟩ : BufTy).Contents (Elt Ideal)} {x1 : (⟨S2048x10240, .f32⟩ : BufTy).Contents (Elt Ideal)}
  {x2 x3 : (⟨S1024, .f32⟩ : BufTy).Contents (Elt Ideal)} {x4 : (⟨S8x128x128, .f32⟩ : BufTy).Contents (Elt Ideal)}
  {x5 : (⟨S8x128, .f32⟩ : BufTy).Contents (Elt Ideal)} {AD : Fin 2048 → Fin 1024 → ℝ} {Z : Fin 2048 → Fin 10240 → ℝ}
  {LG LB : Fin 1024 → ℝ} {W : Fin 8 → Fin 128 → Fin 128 → ℝ} {B : Fin 8 → Fin 128 → ℝ}

theorem u_val (H : Holds x0 x1 x2 x3 x4 x5 AD Z LG LB W B) (a : Fin 2048) (j : Fin 1024) : val_main_v1 (F := Ideal) x1 (ix2 a j) = (lo Z a j : EReal) := by
  pointwise [val_main_v1, val_main_v0]
  exact H.z _ _

theorem v_val (H : Holds x0 x1 x2 x3 x4 x5 AD Z LG LB W B) (a : Fin 2048) (j : Fin 1024) : val_main_v26 (F := Ideal) x1 (ix2 a j) = (hi Z a j : EReal) := by
  pointwise [val_main_v26, val_main_v0]
  exact H.z _ _

theorem th_real (x : ℝ) : Real.tanh (Gmlp.cR * (x + x * x * x * 44715 * (1 / 1000000))) = Gmlp.th x := by
  unfold Gmlp.th Gmlp.kR
  congr 2
  ring

theorem thu_val (H : Holds x0 x1 x2 x3 x4 x5 AD Z LG LB W B) (a : Fin 2048) (j : Fin 1024) :
    val_main_v14 (F := Ideal) x1 (ix2 a j) = (Gmlp.th (lo Z a j) : EReal) := by
  pointwise [val_main_v14, val_main_v13, val_main_v12, val_main_cst_2, val_main_v11, val_main_v10, val_main_v9, val_main_cst_1, val_main_v8, val_main_v7, val_main_cst_0, val_main_v3, val_main_v2]
  rw [u_val H, ofBits_c, ofBits_44715, ofBits_million, Ideal.div_coe (by norm_num), ← th_real]
  norm_cast

theorem thv_val (H : Holds x0 x1 x2 x3 x4 x5 AD Z LG LB W B) (a : Fin 2048) (j : Fin 1024) :
    val_main_v39 (F := Ideal) x1 (ix2 a j) = (Gmlp.th (hi Z a j) : EReal) := by
  pointwise [val_main_v39, val_main_v38, val_main_v37, val_main_cst_10, val_main_v36, val_main_v35, val_main_v34, val_main_cst_9, val_main_v33, val_main_v32, val_main_cst_8, val_main_v28, val_main_v27]
  rw [v_val H, ofBits_c, ofBits_44715, ofBits_million, Ideal.div_coe (by norm_num), ← th_real]
  norm_cast

theorem halfu_val (H : Holds x0 x1 x2 x3 x4 x5 AD Z LG LB W B) (a : Fin 2048) (j : Fin 1024) :
    val_main_v23 (F := Ideal) x1 (ix2 a j) = ((1 / 2 * (1 + Gmlp.th (lo Z a j)) : ℝ) : EReal) := by
  pointwise [val_main_v23, val_main_v22, val_main_cst_6, val_main_v21, val_main_v20, val_main_cst_5]
  rw [thu_val H, ofBits_half]
  norm_cast

theorem halfv_val (H : Holds x0 x1 x2 x3 x4 x5 AD Z LG LB W B) (a : Fin 2048) (j : Fin 1024) :
    val_main_v48 (F := Ideal) x1 (ix2 a j) = ((1 / 2 * (1 + Gmlp.th (hi Z a j)) : ℝ) : EReal) := by
  pointwise [val_main_v48, val_main_v47, val_main_cst_14, val_main_v46, val_main_v45, val_main_cst_13]
  rw [thv_val H, ofBits_half]
  norm_cast

theorem gelu_real (x : ℝ) : x * (1 / 2 * (1 + Gmlp.th x)) = Gmlp.gelu x := by unfold Gmlp.gelu; ring

theorem gu_val (H : Holds x0 x1 x2 x3 x4 x5 AD Z LG LB W B) (z : Fin 1) (a : Fin 2048) (j : Fin 1024) :
    val_main_v25 (F := Ideal) x1 (ix3 z a j) = (Gmlp.gelu (lo Z a j) : EReal) := by
  pointwise [val_main_v25, val_main_v24]
  rw [halfu_val H, u_val H, ← gelu_real]
  norm_cast

theorem gv_val (H : Holds x0 x1 x2 x3 x4 x5 AD Z LG LB W B) (z : Fin 1) (a : Fin 2048) (j : Fin 1024) :
    val_main_v50 (F := Ideal) x1 (ix3 z a j) = (Gmlp.gelu (hi Z a j) : EReal) := by
  pointwise [val_main_v50, val_main_v49]
  rw [halfv_val H, v_val H, ← gelu_real]
  norm_cast

theorem mean_val (H : Holds x0 x1 x2 x3 x4 x5 AD Z LG LB W B) (z : Fin 1) (a : Fin 2048) (y : Fin 1) :
    val_main_v54 (F := Ideal) x1 (ix3 z a y) = (Gmlp.mean (fun k => Gmlp.gelu (hi Z a k)) : EReal) := by
  pointwise [val_main_v54, val_main_v53, val_main_cst_16, val_main_v52, val_main_v51, val_main_cst_15]
  rw [sum_coe _ _ (fun k => gv_val H _ a k), ofBits_1024, Ideal.div_coe (by norm_num), ← EReal.coe_mul]
  congr 1
  unfold Gmlp.mean
  ring

theorem cen_val (H : Holds x0 x1 x2 x3 x4 x5 AD Z LG LB W B) (z : Fin 1) (a : Fin 2048) (j : Fin 1024) :
    val_main_v56 (F := Ideal) x1 (ix3 z a j) = (Gmlp.cen (hi Z a) j : EReal) := by
  pointwise [val_main_v56, val_main_v55]
  rw [gv_val H, mean_val H]
  norm_cast

theorem cen'_val (H : Holds x0 x1 x2 x3 x4 x5 AD Z LG LB W B) (z : Fin 1) (a : Fin 2048) (j : Fin 1024) :
    val_main_v65 (F := Ideal) x1 (ix3 z a j) = (Gmlp.cen (hi Z a) j : EReal) := by
  pointwise [val_main_v65, val_main_v64]
  rw [gv_val H, mean_val H]
  norm_cast

theorem var_val (H : Holds x0 x1 x2 x3 x4 x5 AD Z LG LB W B) (z : Fin 1) (a : Fin 2048) (y : Fin 1) :
    val_main_v67 (F := Ideal) x1 (ix3 z a y) = (Gmlp.var (hi Z a) : EReal) := by
  pointwise [val_main_v67, val_main_v66, val_main_cst_20, val_main_v63, val_main_v62, val_main_cst_19, val_main_v61, val_main_v60, val_main_cst_18]
  rw [sum_coe _ (fun k => Gmlp.cen (hi Z a) k * Gmlp.cen (hi Z a) k) (fun k => by pointwise [val_main_v57]; rw [cen_val H]; norm_cast), ofBits_1024, ofBits_eps, Ideal.div_coe (by norm_num), ← EReal.coe_mul, ← EReal.coe_add]
  congr 1
  unfold Gmlp.var Gmlp.mean
  ring

theorem rs_val (H : Holds x0 x1 x2 x3 x4 x5 AD Z LG LB W B) (z : Fin 1) (a : Fin 2048) (y : Fin 1) :
    val_main_v68 (F := Ideal) x1 (ix3 z a y) = (Gmlp.rs (hi Z a) : EReal) := by
  have hp := Gmlp.var_pos (hi Z a)
  pointwise [val_main_v68]
  rw [var_val H, Ideal.rsqrt_coe, if_neg hp.not_gt, if_neg hp.ne']
  rfl

/-- The factor of the variance's gradient. -/
theorem fac_val (H : Holds x0 x1 x2 x3 x4 x5 AD Z LG LB W B) (z : Fin 1) (a : Fin 2048) (y : Fin 1) :
    val_main_v71 (F := Ideal) x1 (ix3 z a y) = ((-(1 / 2) * (Gmlp.rs (hi Z a) * (1 / Gmlp.var (hi Z a))) : ℝ) : EReal) := by
  have hp := Gmlp.var_pos (hi Z a)
  pointwise [val_main_v71, val_main_v70, val_main_cst_21, val_main_v69]
  rw [var_val H, rs_val H, ofBits_neg_half, Ideal.div_coe hp.ne']
  norm_cast

theorem xh_val (H : Holds x0 x1 x2 x3 x4 x5 AD Z LG LB W B) (z : Fin 1) (a : Fin 2048) (j : Fin 1024) :
    val_main_v73 (F := Ideal) x1 (ix3 z a j) = (Gmlp.xh (hi Z a) j : EReal) := by
  pointwise [val_main_v73, val_main_v72]
  rw [cen'_val H, rs_val H]
  norm_cast

theorem vn_val (H : Holds x0 x1 x2 x3 x4 x5 AD Z LG LB W B) (z : Fin 1) (a : Fin 2048) (j : Fin 1024) :
    val_main_v79 (F := Ideal) x1 x2 x3 (ix3 z a j) = (Gmlp.vn LG LB (hi Z a) j : EReal) := by
  pointwise [val_main_v79, val_main_v78, val_main_v77, val_main_v76, val_main_v75, val_main_v74]
  rw [xh_val H, H.lg, H.lb]
  norm_cast

/-- Row `p` of chunk `n`. -/
def row16 (n : Fin 16) (p : Fin 128) : Fin 2048 := ⟨128 * n.val + p.val, by omega⟩

/-- The chunk of a row. -/
def chk16 (a : Fin 2048) : Fin 16 := ⟨a.val / 128, by omega⟩

/-- The row within its chunk. -/
def sub16 (a : Fin 2048) : Fin 128 := ⟨a.val % 128, by omega⟩

theorem row16_chk_sub (a : Fin 2048) : row16 (chk16 a) (sub16 a) = a := Fin.ext (Nat.div_add_mod _ _)

/-- Chunk `n` of the rows. -/
def ck (X : Fin 2048 → Fin 1024 → ℝ) (n : Fin 16) (p : Fin 128) : Fin 1024 → ℝ := X (row16 n p)

/-! ## Sums over several axes -/

/-- The sum over the chunks and the columns of a group. -/
theorem reduce_chunks (v : S1x16x128x8x128.Idx → EReal) (c : EReal) (z : Fin 1) (p : Fin 128) (g : Fin 8) :
    Ideal.hostReduceAdd reducesTo_S1x16x128x8x128_S1x128x8_d1_4 v c (ix3 z p g) = c + ∑ n : Fin 16, ∑ d : Fin 128, v (ix5 z n p g d) := by
  refine congrArg (c + ·) ((Finset.sum_filter_eq_sum_of_fiber _ (fun k : Fin 16 × Fin 128 => (ix5 z k.1 p g k.2 : S1x16x128x8x128.Idx))
    (fun _ _ e => Prod.ext (congrFun e 1) (congrFun e 4)) (fun i => ?_) v).trans ?_)
  · constructor
    · intro e
      refine ⟨(i 1, i 4), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext b
      apply Fin.ext
      match b with
      | ⟨0, _⟩ => rfl
      | ⟨1, _⟩ => rfl
      | ⟨2, _⟩ => rfl
  · simp only [Fintype.sum_prod_type]

/-- The sum over three axes of size one. -/
theorem reduce_units (v : S1x1x128x8x1.Idx → EReal) (c : EReal) (p : Fin 128) (g : Fin 8) :
    Ideal.hostReduceAdd reducesTo_S1x1x128x8x1_S128x8_d0_1_4 v c (ix2 p g) = c + v (ix5 0 0 p g 0) := by
  refine congrArg (c + ·) ((Finset.sum_filter_eq_sum_of_fiber _ (fun _ : Fin 1 => (ix5 0 0 p g 0 : S1x1x128x8x1.Idx))
    (fun _ _ _ => Subsingleton.elim _ _) (fun i => ?_) v).trans ?_)
  · constructor
    · intro e
      refine ⟨0, ?_⟩
      funext a; apply Fin.ext
      match a with
      | ⟨0, _⟩ => exact (Nat.lt_one_iff.1 (i 0).isLt).symm
      | ⟨1, _⟩ => exact (Nat.lt_one_iff.1 (i 1).isLt).symm
      | ⟨2, _⟩ => exact (congrArg Fin.val (congrFun e 0)).symm
      | ⟨3, _⟩ => exact (congrArg Fin.val (congrFun e 1)).symm
      | ⟨4, _⟩ => exact (Nat.lt_one_iff.1 (i 4).isLt).symm
    · rintro ⟨k, rfl⟩
      funext b
      apply Fin.ext
      match b with
      | ⟨0, _⟩ => rfl
      | ⟨1, _⟩ => rfl
  · exact Fin.sum_univ_one _

/-- The sum over two leading axes of size one. -/
theorem reduce_row (v : S1x1x1024.Idx → EReal) (c : EReal) (j : Fin 1024) :
    Ideal.hostReduceAdd reducesTo_S1x1x1024_S1024_d0_1 v c (ix1 j) = c + v (ix3 0 0 j) := by
  refine congrArg (c + ·) ((Finset.sum_filter_eq_sum_of_fiber _ (fun _ : Fin 1 => (ix3 0 0 j : S1x1x1024.Idx))
    (fun _ _ _ => Subsingleton.elim _ _) (fun i => ?_) v).trans ?_)
  · constructor
    · intro e
      refine ⟨0, ?_⟩
      funext a; apply Fin.ext
      match a with
      | ⟨0, _⟩ => exact (Nat.lt_one_iff.1 (i 0).isLt).symm
      | ⟨1, _⟩ => exact (Nat.lt_one_iff.1 (i 1).isLt).symm
      | ⟨2, _⟩ => exact (congrArg Fin.val (congrFun e 0)).symm
    · rintro ⟨k, rfl⟩
      funext b
      apply Fin.ext
      match b with
      | ⟨0, _⟩ => rfl
  · exact Fin.sum_univ_one _

/-- The sum over the first and the last axis, of size one. -/
theorem reduce_col (v : S1x2048x1.Idx → EReal) (c : EReal) (a : Fin 2048) :
    Ideal.hostReduceAdd reducesTo_S1x2048x1_S2048_d0_2 v c (ix1 a) = c + v (ix3 0 a 0) := by
  refine congrArg (c + ·) ((Finset.sum_filter_eq_sum_of_fiber _ (fun _ : Fin 1 => (ix3 0 a 0 : S1x2048x1.Idx))
    (fun _ _ _ => Subsingleton.elim _ _) (fun i => ?_) v).trans ?_)
  · constructor
    · intro e
      refine ⟨0, ?_⟩
      funext a; apply Fin.ext
      match a with
      | ⟨0, _⟩ => exact (Nat.lt_one_iff.1 (i 0).isLt).symm
      | ⟨1, _⟩ => exact (congrArg Fin.val (congrFun e 0)).symm
      | ⟨2, _⟩ => exact (Nat.lt_one_iff.1 (i 2).isLt).symm
    · rintro ⟨k, rfl⟩
      funext b
      apply Fin.ext
      match b with
      | ⟨0, _⟩ => rfl
  · exact Fin.sum_univ_one _

/-- The contracted indices: the batch, a chunk, a column of a group. -/
def contrEquiv : Fin 1 × Fin 16 × Fin 128 ≃ (dot_S8x1x16x128x128_S1x16x128x8x128_S8x128x128_123_014_4_2_0_3).contr.Idx where
  toFun k := fun a => match a with
    | ⟨0, _⟩ => k.1
    | ⟨1, _⟩ => k.2.1
    | ⟨2, _⟩ => k.2.2
  invFun k := (k ⟨0, by decide⟩, k ⟨1, by decide⟩, k ⟨2, by decide⟩)
  left_inv _ := rfl
  right_inv k := funext fun a => match a with
    | ⟨0, _⟩ => rfl
    | ⟨1, _⟩ => rfl
    | ⟨2, _⟩ => rfl

/-- The product that contracts the batch, the chunks and a group's columns. -/
theorem dot_chunks (l : S8x1x16x128x128.Idx → EReal) (r : S1x16x128x8x128.Idx → EReal) (c : S8x128x128.Idx → EReal) (g : Fin 8) (p q : Fin 128) :
    Ideal.matmul dot_S8x1x16x128x128_S1x16x128x8x128_S8x128x128_123_014_4_2_0_3 l r c (ix3 g p q)
      = c (ix3 g p q) + ∑ n : Fin 16, ∑ d : Fin 128, l (ix5 g 0 n d p) * r (ix5 0 n q g d) := by
  refine congrArg (c (ix3 g p q) + ·) ?_
  refine (Fintype.sum_equiv contrEquiv (fun k => l (DotDims.lhsIdx dot_S8x1x16x128x128_S1x16x128x8x128_S8x128x128_123_014_4_2_0_3 (ix3 g p q) (contrEquiv k))
    * r (DotDims.rhsIdx dot_S8x1x16x128x128_S1x16x128x8x128_S8x128x128_123_014_4_2_0_3 (ix3 g p q) (contrEquiv k))) _ (fun _ => rfl)).symm.trans ?_
  rw [Fintype.sum_prod_type, Fin.sum_univ_one, Fintype.sum_prod_type]
  refine Finset.sum_congr rfl fun n _ => Finset.sum_congr rfl fun d _ => ?_
  congr 1
  · refine congrArg l (funext fun a => Fin.ext ?_)
    match a with
    | ⟨0, _⟩ => rfl
    | ⟨1, _⟩ => rfl
    | ⟨2, _⟩ => rfl
    | ⟨3, _⟩ => rfl
    | ⟨4, _⟩ => rfl
  · refine congrArg r (funext fun a => Fin.ext ?_)
    match a with
    | ⟨0, _⟩ => rfl
    | ⟨1, _⟩ => rfl
    | ⟨2, _⟩ => rfl
    | ⟨3, _⟩ => rfl
    | ⟨4, _⟩ => rfl

/-! ## The gate -/

theorem idx_row (n : Fin 16) (p : Fin 128) (g : Fin 8) (d : Fin 128) :
    (ix3 0 ⟨n.val * 128 + p.val, by omega⟩ ⟨g.val * 128 + d.val, by omega⟩ : S1x2048x1024.Idx) = ix3 0 (row16 n p) (Gmlp.col g d) := by
  have h1 : n.val * 128 + p.val = 128 * n.val + p.val := by omega
  have h2 : g.val * 128 + d.val = 128 * g.val + d.val := by omega
  rw [show (⟨n.val * 128 + p.val, by omega⟩ : Fin 2048) = row16 n p from Fin.ext h1, show (⟨g.val * 128 + d.val, by omega⟩ : Fin 1024) = Gmlp.col g d from Fin.ext h2]

theorem vnc_val (H : Holds x0 x1 x2 x3 x4 x5 AD Z LG LB W B) (z : Fin 1) (n : Fin 16) (p : Fin 128) (g : Fin 8) (d : Fin 128) :
    val_main_v80 (F := Ideal) x1 x2 x3 (ix5 z n p g d) = (Gmlp.vn LG LB (ck (hi Z) n p) (Gmlp.col g d) : EReal) := by
  have h := vn_val H 0 (row16 n p) (Gmlp.col g d)
  pointwise [val_main_v80]
  refine Eq.trans (congrArg _ ?_) h
  exact idx_row n p g d

theorem sitofp_zero : (FloatOps.sitofp .f32 0#32 : Ideal .f32) = ((0 : ℝ) : EReal) := by
  show (((0#32 : BitVec 32).toInt : ℝ) : EReal) = _
  simp

theorem wm_val (H : Holds x0 x1 x2 x3 x4 x5 AD Z LG LB W B) (g : Fin 8) (p q : Fin 128) :
    val_main_v84_0 (F := Ideal) x4 (ix3 g p q) = (Gmlp.wm (W g) p q : EReal) := by
  pointwise [val_main_v84_0, val_main_v84_1, val_main_v83, val_main_v82, val_main_v81, val_main_c, val_main_call0_v4, val_main_call0_v2, val_main_call0_v1, val_main_call0_v0, val_main_call0_c, val_main_call0_v3, val_main_call0_v5, val_main_call0_c_0, val_main_call1_v2, val_main_call1_v0, val_main_c_22]
  rw [show IntOp.addi (BitVec.ofNat 32 p.val) 0#32 = BitVec.ofNat 32 p.val from BitVec.add_zero _, cmpi_sge_fin]
  unfold Gmlp.wm
  split
  · exact H.ws _ _ _
  · exact sitofp_zero

theorem sg_val (H : Holds x0 x1 x2 x3 x4 x5 AD Z LG LB W B) (z : Fin 1) (n : Fin 16) (p : Fin 128) (g : Fin 8) (d : Fin 128) :
    val_main_v90 (F := Ideal) x1 x2 x3 x4 x5 (ix5 z n p g d) = (Gmlp.sg LG LB (W g) (B g) (ck (hi Z) n) g p d : EReal) := by
  pointwise [val_main_v90, val_main_v89, val_main_v88, val_main_v87, val_main_v86, val_main_v85]
  rw [sum_coe _ (fun b => Gmlp.wm (W g) p b * Gmlp.vn LG LB (ck (hi Z) n b) (Gmlp.col g d)) (fun b => by
    rw [vnc_val H, wm_val H, mul_comm]; norm_cast), H.bs]
  norm_cast

theorem sgr_val (H : Holds x0 x1 x2 x3 x4 x5 AD Z LG LB W B) (z : Fin 1) (a : Fin 2048) (j : Fin 1024) :
    val_main_v91 (F := Ideal) x1 x2 x3 x4 x5 (ix3 z a j)
      = (Gmlp.sg LG LB (W (Gmlp.grp j)) (B (Gmlp.grp j)) (ck (hi Z) (chk16 a)) (Gmlp.grp j) (sub16 a) (Gmlp.lane j) : EReal) := by
  pointwise [val_main_v91]
  exact sg_val H 0 (chk16 a) (sub16 a) (Gmlp.grp j) (Gmlp.lane j)

/-! ## The gradients of the gate, the weights and the biases -/

theorem ds_val (H : Holds x0 x1 x2 x3 x4 x5 AD Z LG LB W B) (z : Fin 1) (n : Fin 16) (p : Fin 128) (g : Fin 8) (d : Fin 128) :
    val_main_v97 (F := Ideal) x0 x1 (ix5 z n p g d) = (Gmlp.ds (ck AD n) (ck (lo Z) n) p (Gmlp.col g d) : EReal) := by
  have h : val_main_v95 (F := Ideal) x0 x1 (ix3 0 (row16 n p) (Gmlp.col g d)) = (Gmlp.ds (ck AD n) (ck (lo Z) n) p (Gmlp.col g d) : EReal) := by
    pointwise [val_main_v95, val_main_v94]
    rw [gu_val H, H.dy, mul_comm]
    unfold Gmlp.ds ck
    norm_cast
  pointwise [val_main_v97]
  exact Eq.trans (congrArg _ (idx_row n p g d)) h

theorem dsT_val (H : Holds x0 x1 x2 x3 x4 x5 AD Z LG LB W B) (g : Fin 8) (z : Fin 1) (n : Fin 16) (d p : Fin 128) :
    val_main_v102 (F := Ideal) x0 x1 (ix5 g z n d p) = (Gmlp.ds (ck AD n) (ck (lo Z) n) p (Gmlp.col g d) : EReal) := by
  pointwise [val_main_v102]
  exact ds_val H _ _ _ _ _

/-- The third result: the biases' gradient, its lanes beyond the eighth zero. -/
theorem dbs_val (H : Holds x0 x1 x2 x3 x4 x5 AD Z LG LB W B) (p l : Fin 128) :
    val_main_v178 (F := Ideal) x0 x1 (ix2 p l)
      = ((if hl : l.val < 8 then ∑ n, Gmlp.dbs (ck AD n) (ck (lo Z) n) ⟨l.val, hl⟩ p else 0 : ℝ) : EReal) := by
  have h : ∀ g : Fin 8, val_main_v177 (F := Ideal) x0 x1 (ix2 p g) = ((∑ n, Gmlp.dbs (ck AD n) (ck (lo Z) n) g p : ℝ) : EReal) := fun g => by
    pointwise [val_main_v177, val_main_v101, val_main_v100]
    rw [reduce_units]
    pointwise [val_main_v99, val_main_cst_24, val_main_v98]
    rw [reduce_chunks]
    pointwise [val_main_cst_23]
    exact sum_coe _ _ fun n => sum_coe _ _ fun d => ds_val H _ _ _ _ _
  pointwise [val_main_v178, val_main_call3_v0, val_main_c_48]
  by_cases hl : l.val < 8
  · rw [dif_pos hl, dif_pos hl]
    exact h ⟨l.val, hl⟩
  · rw [dif_neg hl, dif_neg hl]
    exact sitofp_zero

/-- The second result: the weights' gradient, zero above the diagonal. -/
theorem dws_val (H : Holds x0 x1 x2 x3 x4 x5 AD Z LG LB W B) (g : Fin 8) (p q : Fin 128) :
    val_main_v106 (F := Ideal) x0 x1 x2 x3 (ix3 g p q)
      = ((∑ n, Gmlp.dws LG LB (ck AD n) (ck (lo Z) n) (ck (hi Z) n) g p q : ℝ) : EReal) := by
  pointwise [val_main_v106, val_main_v84_1, val_main_v83, val_main_v82, val_main_v81, val_main_c, val_main_call0_v4, val_main_call0_v2, val_main_call0_v1, val_main_call0_v0, val_main_call0_c, val_main_call0_v3, val_main_call0_v5, val_main_call0_c_0, val_main_call2_v0, val_main_call2_cst, val_main_v103]
  rw [show IntOp.addi (BitVec.ofNat 32 p.val) 0#32 = BitVec.ofNat 32 p.val from BitVec.add_zero _, cmpi_sge_fin, dot_chunks]
  unfold Gmlp.dws
  by_cases h : q.val ≤ p.val
  · simp only [if_pos h]
    pointwise
    exact sum_coe _ _ fun n => sum_coe _ _ fun d => by rw [dsT_val H, vnc_val H]; norm_cast
  · simp only [if_neg h, Finset.sum_const_zero]
    rfl

/-! ## The gradient of the scaled and shifted rows -/

theorem dvn_val (H : Holds x0 x1 x2 x3 x4 x5 AD Z LG LB W B) (z : Fin 1) (a : Fin 2048) (j : Fin 1024) :
    val_main_v107 (F := Ideal) x0 x1 x4 (ix3 z a j) = (Gmlp.dvn W (ck AD (chk16 a)) (ck (lo Z) (chk16 a)) (sub16 a) j : EReal) := by
  have h : val_main_v104 (F := Ideal) x0 x1 x4 (ix5 (Gmlp.grp j) 0 (chk16 a) (Gmlp.lane j) (sub16 a))
      = (Gmlp.dvn W (ck AD (chk16 a)) (ck (lo Z) (chk16 a)) (sub16 a) j : EReal) := by
    pointwise [val_main_v104]
    exact sum_coe _ _ fun k => by rw [dsT_val H, wm_val H, Gmlp.col_grp_lane, mul_comm]; norm_cast
  rw [← h]
  pointwise [val_main_v107, val_main_v105]
  rfl

/-- The gradient of the scaled and shifted rows, over all rows. -/
def nR (W : Fin 8 → Fin 128 → Fin 128 → ℝ) (AD : Fin 2048 → Fin 1024 → ℝ) (Z : Fin 2048 → Fin 10240 → ℝ) (a : Fin 2048) (j : Fin 1024) : ℝ :=
  Gmlp.dvn W (ck AD (chk16 a)) (ck (lo Z) (chk16 a)) (sub16 a) j

/-- The fifth result: the gradient of the layer norm's shift. -/
theorem dlb_val (H : Holds x0 x1 x2 x3 x4 x5 AD Z LG LB W B) (z : Fin 1) (j : Fin 1024) :
    val_main_v180 (F := Ideal) x0 x1 x4 (ix2 z j) = ((∑ a, nR W AD Z a j : ℝ) : EReal) := by
  pointwise [val_main_v180, val_main_v110]
  rw [reduce_row]
  pointwise [val_main_v109, val_main_v108, val_main_cst_26, val_main_cst_25]
  exact sum_coe _ _ fun a => dvn_val H _ _ _

/-- The fourth result: the gradient of the layer norm's scale. -/
theorem dlg_val (H : Holds x0 x1 x2 x3 x4 x5 AD Z LG LB W B) (z : Fin 1) (j : Fin 1024) :
    val_main_v179 (F := Ideal) x0 x1 x4 (ix2 z j) = ((∑ a, nR W AD Z a j * Gmlp.xh (hi Z a) j : ℝ) : EReal) := by
  pointwise [val_main_v179, val_main_v116]
  rw [reduce_row]
  pointwise [val_main_v113, val_main_v112, val_main_cst_28, val_main_cst_27, val_main_v111]
  exact sum_coe _ _ fun a => by rw [dvn_val H, xh_val H, mul_comm]; norm_cast

/-! ## The layer norm's backward pass -/

theorem nlg_val (H : Holds x0 x1 x2 x3 x4 x5 AD Z LG LB W B) (z : Fin 1) (a : Fin 2048) (j : Fin 1024) :
    val_main_v115 (F := Ideal) x0 x1 x2 x4 (ix3 z a j) = ((nR W AD Z a j * LG j : ℝ) : EReal) := by
  pointwise [val_main_v115, val_main_v114, val_main_v74]
  rw [dvn_val H, H.lg]
  norm_cast

/-- The variance's gradient, over 1024. -/
def gvarR (LG : Fin 1024 → ℝ) (v n : Fin 1024 → ℝ) : ℝ :=
  (∑ k, Gmlp.cen v k * (n k * LG k)) * (-(1 / 2) * (Gmlp.rs v * (1 / Gmlp.var v))) * (1 / 1024)

theorem gvar_val (H : Holds x0 x1 x2 x3 x4 x5 AD Z LG LB W B) (a : Fin 2048) :
    val_main_v128 (F := Ideal) x0 x1 x2 x4 (ix1 a) = (gvarR LG (hi Z a) (nR W AD Z a) : EReal) := by
  pointwise [val_main_v128]
  rw [reduce_col]
  pointwise [val_main_v127, val_main_v126, val_main_cst_31, val_main_v122, val_main_v119, val_main_v118, val_main_cst_29, val_main_cst_32, val_main_v117]
  rw [sum_coe _ (fun k => Gmlp.cen (hi Z a) k * (nR W AD Z a k * LG k)) (fun k => by rw [cen'_val H, nlg_val H]; norm_cast), fac_val H, ofBits_1024,
    Ideal.div_coe (by norm_num)]
  unfold gvarR
  norm_cast

theorem t131_val (H : Holds x0 x1 x2 x3 x4 x5 AD Z LG LB W B) (z : Fin 1) (a : Fin 2048) (j : Fin 1024) :
    val_main_v131 (F := Ideal) x0 x1 x2 x4 (ix3 z a j) = ((gvarR LG (hi Z a) (nR W AD Z a) * (2 * Gmlp.cen (hi Z a) j) : ℝ) : EReal) := by
  pointwise [val_main_v131, val_main_v130, val_main_v129, val_main_v59, val_main_v58, val_main_cst_17]
  rw [gvar_val H, cen_val H, ofBits_two]
  norm_cast

theorem t121_val (H : Holds x0 x1 x2 x3 x4 x5 AD Z LG LB W B) (z : Fin 1) (a : Fin 2048) (j : Fin 1024) :
    val_main_v121 (F := Ideal) x0 x1 x2 x4 (ix3 z a j) = ((nR W AD Z a j * LG j * Gmlp.rs (hi Z a) : ℝ) : EReal) := by
  pointwise [val_main_v121, val_main_v120]
  rw [nlg_val H, rs_val H]
  norm_cast

/-- The mean's gradient, over 1024. -/
def gmeanR (LG : Fin 1024 → ℝ) (v n : Fin 1024 → ℝ) : ℝ :=
  (∑ k, -(n k * LG k * Gmlp.rs v) + ∑ k, -(gvarR LG v n * (2 * Gmlp.cen v k))) * (1 / 1024)

theorem gmean_val (H : Holds x0 x1 x2 x3 x4 x5 AD Z LG LB W B) (a : Fin 2048) :
    val_main_v139 (F := Ideal) x0 x1 x2 x4 (ix1 a) = (gmeanR LG (hi Z a) (nR W AD Z a) : EReal) := by
  pointwise [val_main_v139]
  rw [reduce_col]
  pointwise [val_main_v138, val_main_v137, val_main_cst_34, val_main_v136, val_main_v125, val_main_v124, val_main_cst_30, val_main_v134, val_main_v133, val_main_cst_33, val_main_cst_35, val_main_v123, val_main_v132]
  rw [sum_coe _ (fun k => -(nR W AD Z a k * LG k * Gmlp.rs (hi Z a))) (fun k => by rw [t121_val H]; norm_cast),
    sum_coe _ (fun k => -(gvarR LG (hi Z a) (nR W AD Z a) * (2 * Gmlp.cen (hi Z a) k))) (fun k => by rw [t131_val H]; norm_cast), ofBits_1024,
    Ideal.div_coe (by norm_num)]
  unfold gmeanR
  norm_cast

/-- The centred row's sum is zero. -/
theorem sum_cen (v : Fin 1024 → ℝ) : ∑ k, Gmlp.cen v k = 0 := by
  simp only [Gmlp.cen, Finset.sum_sub_distrib, Finset.sum_const, Finset.card_univ, Fintype.card_fin, nsmul_eq_mul, Gmlp.mean]
  push_cast
  ring

/-- The squared reciprocal standard deviation. -/
theorem rs_sq (v : Fin 1024 → ℝ) : Gmlp.rs v * Gmlp.rs v = 1 / Gmlp.var v := by
  unfold Gmlp.rs
  rw [← mul_inv, Real.mul_self_sqrt (Gmlp.var_pos v).le, one_div]

/-- The reference's sum of the three gradients is the layer norm's backward pass. -/
theorem dgv_real (LG v n : Fin 1024 → ℝ) (j : Fin 1024) :
    n j * LG j * Gmlp.rs v + gvarR LG v n * (2 * Gmlp.cen v j) + gmeanR LG v n = Gmlp.dgv LG v n j := by
  have h1 : ∑ k, -(n k * LG k * Gmlp.rs v) = -(∑ k, n k * LG k) * Gmlp.rs v := by
    rw [Finset.sum_neg_distrib, ← Finset.sum_mul, neg_mul]
  have h2 : ∑ k, -(gvarR LG v n * (2 * Gmlp.cen v k)) = 0 := by
    rw [Finset.sum_neg_distrib, ← Finset.mul_sum, ← Finset.mul_sum, sum_cen]; ring
  have h3 : ∑ k, n k * LG k * Gmlp.xh v k = (∑ k, Gmlp.cen v k * (n k * LG k)) * Gmlp.rs v := by
    rw [Finset.sum_mul]; exact Finset.sum_congr rfl fun k _ => by unfold Gmlp.xh; ring
  have h4 := rs_sq v
  unfold gmeanR Gmlp.dgv
  rw [h1, h2]
  simp only [Gmlp.mean, h3]
  simp only [Gmlp.xh, gvarR]
  rw [← h4]
  ring

theorem dgv_val (H : Holds x0 x1 x2 x3 x4 x5 AD Z LG LB W B) (a : Fin 2048) (j : Fin 1024) :
    val_main_v143 (F := Ideal) x0 x1 x2 x4 (ix2 a j) = (Gmlp.dgv LG (hi Z a) (nR W AD Z a) j : EReal) := by
  pointwise [val_main_v143, val_main_v142, val_main_v141, val_main_v140, val_main_v135, val_main_cst_36]
  rw [Fin.sum_univ_one, t121_val H, t131_val H, gmean_val H, ← dgv_real]
  norm_cast

/-- The reference's chain of the GELU's derivative. -/
theorem geluD_real (x s : ℝ) :
    s * (1 / 2 * (1 + Gmlp.th x)) + Gmlp.cR * (1 / 2 * (x * s) * ((1 + Gmlp.th x) * (1 - Gmlp.th x)))
      + Gmlp.cR * (1 / 2 * (x * s) * ((1 + Gmlp.th x) * (1 - Gmlp.th x))) * (1 / 1000000) * 44715 * (3 * (x * x)) = s * Gmlp.geluD x := by
  unfold Gmlp.geluD Gmlp.kR
  ring

theorem dv_val (H : Holds x0 x1 x2 x3 x4 x5 AD Z LG LB W B) (a : Fin 2048) (j : Fin 1024) :
    val_main_v157 (F := Ideal) x0 x1 x2 x4 (ix2 a j) = (Gmlp.dv LG (hi Z a) (nR W AD Z a) j : EReal) := by
  pointwise [val_main_v157, val_main_v156, val_main_v155, val_main_v154, val_main_cst_40, val_main_v153, val_main_v152, val_main_cst_39, val_main_v151, val_main_v150, val_main_v149, val_main_cst_38, val_main_v148, val_main_v147, val_main_v146, val_main_cst_37, val_main_v145, val_main_v144, val_main_v44, val_main_v43, val_main_v42, val_main_cst_12, val_main_v41, val_main_v40, val_main_cst_11, val_main_v31, val_main_v30, val_main_cst_7, val_main_v29]
  rw [dgv_val H, halfv_val H, thv_val H, v_val H, ofBits_c, ofBits_half, ofBits_three, ofBits_44715, ofBits_million, Ideal.div_coe (by norm_num)]
  unfold Gmlp.dv
  rw [← geluD_real]
  norm_cast

theorem gs_val (H : Holds x0 x1 x2 x3 x4 x5 AD Z LG LB W B) (a : Fin 2048) (j : Fin 1024) :
    val_main_v159 (F := Ideal) x0 x1 x2 x3 x4 x5 (ix2 a j)
      = ((AD a j * Gmlp.sg LG LB (W (Gmlp.grp j)) (B (Gmlp.grp j)) (ck (hi Z) (chk16 a)) (Gmlp.grp j) (sub16 a) (Gmlp.lane j) : ℝ) : EReal) := by
  pointwise [val_main_v159, val_main_v96, val_main_v94, val_main_cst_42]
  rw [Fin.sum_univ_one, sgr_val H, H.dy]
  norm_cast

theorem du_val (H : Holds x0 x1 x2 x3 x4 x5 AD Z LG LB W B) (a : Fin 2048) (j : Fin 1024) :
    val_main_v173 (F := Ideal) x0 x1 x2 x3 x4 x5 (ix2 a j)
      = (Gmlp.du LG LB (W (Gmlp.grp j)) (B (Gmlp.grp j)) (ck AD (chk16 a)) (ck (lo Z) (chk16 a)) (ck (hi Z) (chk16 a)) (Gmlp.grp j) (sub16 a) (Gmlp.lane j) : EReal) := by
  pointwise [val_main_v173, val_main_v172, val_main_v171, val_main_v170, val_main_cst_46, val_main_v169, val_main_v168, val_main_cst_45, val_main_v167, val_main_v166, val_main_v165, val_main_cst_44, val_main_v164, val_main_v163, val_main_v162, val_main_cst_43, val_main_v161, val_main_v160, val_main_v19, val_main_v18, val_main_v17, val_main_cst_4, val_main_v16, val_main_v15, val_main_cst_3, val_main_v6, val_main_v5, val_main_cst, val_main_v4]
  rw [gs_val H, halfu_val H, thu_val H, u_val H, ofBits_c, ofBits_half, ofBits_three, ofBits_44715, ofBits_million, Ideal.div_coe (by norm_num)]
  unfold Gmlp.du
  rw [Gmlp.col_grp_lane, show ck AD (chk16 a) (sub16 a) = AD a from congrArg AD (row16_chk_sub a), show ck (lo Z) (chk16 a) (sub16 a) = lo Z a from congrArg (lo Z) (row16_chk_sub a),
    ← geluD_real]
  norm_cast

/-- The first result's left half. -/
theorem duv_left (H : Holds x0 x1 x2 x3 x4 x5 AD Z LG LB W B) (a : Fin 2048) (j : Fin 2048) (h : j.val < 1024) :
    val_main_v176 (F := Ideal) x0 x1 x2 x3 x4 x5 (ix2 a j)
      = (Gmlp.du LG LB (W (Gmlp.grp ⟨j.val, h⟩)) (B (Gmlp.grp ⟨j.val, h⟩)) (ck AD (chk16 a)) (ck (lo Z) (chk16 a)) (ck (hi Z) (chk16 a)) (Gmlp.grp ⟨j.val, h⟩) (sub16 a) (Gmlp.lane ⟨j.val, h⟩) : EReal) := by
  pointwise [val_main_v176, val_main_v175, val_main_v174, val_main_v158, val_main_cst_47, val_main_cst_41]
  rw [dif_neg (by omega), dif_pos h, zero_add]
  exact du_val H a ⟨j.val, h⟩

/-- The first result's right half. -/
theorem duv_right (H : Holds x0 x1 x2 x3 x4 x5 AD Z LG LB W B) (a : Fin 2048) (j : Fin 2048) (h : 1024 ≤ j.val) :
    val_main_v176 (F := Ideal) x0 x1 x2 x3 x4 x5 (ix2 a j) = (Gmlp.dv LG (hi Z a) (nR W AD Z a) ⟨j.val - 1024, by omega⟩ : EReal) := by
  pointwise [val_main_v176, val_main_v175, val_main_v174, val_main_v158, val_main_cst_47, val_main_cst_41]
  rw [dif_pos (by omega), dif_neg (by omega), add_zero]
  exact dv_val H a ⟨j.val - 1024, by omega⟩

end Cert.ReferenceIdeal.Val

end
-- ==== Proof.Match.lean ====
/- The kernel's results are the reference's: the same real numbers, summed in another order. -/
module

public import proofs.«01_k».proof.Proof.Arrays
public import proofs.«01_k».proof.Proof.RefVal

@[expose] public section

set_option maxRecDepth 16384

noncomputable section

namespace Cert.Match

open Idealize.ShloMosaic Idealize.SL.Sem Cert.KernelIdeal.Gen
open Cert.KernelIdeal (cfg0)
open Cert.KernelIdeal.Body (rows rw4 lt4 dvn4 dws4R dbs4R dlb4R dlg4R uvArr)
open Cert.ReferenceIdeal.Val (lo hi ck row16 chk16 sub16 nR Holds)
open Cert.ReferenceIdeal.Read
open Cert.Gmlp (chunk chk sub row4)

/-- Chunk `q` of point `t`. -/
def nt (t : Fin cfg0.N) (q : Fin 4) : Fin 16 := ⟨4 * t.val + q.val, by have := lt4 t; omega⟩

theorem chunk_rows (X : Fin 2048 → Fin 1024 → ℝ) (t : Fin cfg0.N) (q : Fin 4) : chunk (rows X t) q = ck X (nt t q) :=
  funext fun p => congrArg X (Fin.ext (by show 512 * t.val + (128 * q.val + p.val) = 128 * (4 * t.val + q.val) + p.val; omega))

/-- The chunks, by grid point. -/
def chunksEquiv : Fin cfg0.N × Fin 4 ≃ Fin 16 where
  toFun x := nt x.1 x.2
  invFun n := (⟨n.val / 4, by rw [show cfg0.N = 4 from N_0]; omega⟩, ⟨n.val % 4, by omega⟩)
  left_inv x := Prod.ext (Fin.ext (by show (4 * x.1.val + x.2.val) / 4 = x.1.val; omega)) (Fin.ext (by show (4 * x.1.val + x.2.val) % 4 = x.2.val; omega))
  right_inv n := Fin.ext (Nat.div_add_mod _ _)

theorem sum_chunks (f : Fin 16 → ℝ) : ∑ t : Fin cfg0.N, ∑ q, f (nt t q) = ∑ n, f n :=
  (Fintype.sum_prod_type (fun x : Fin cfg0.N × Fin 4 => f (nt x.1 x.2))).symm.trans (Fintype.sum_equiv chunksEquiv _ _ fun _ => rfl)

/-- The rows, by chunk. -/
def rowsEquiv : Fin 16 × Fin 128 ≃ Fin 2048 where
  toFun x := row16 x.1 x.2
  invFun a := (chk16 a, sub16 a)
  left_inv x := Prod.ext (Fin.ext (by show (128 * x.1.val + x.2.val) / 128 = x.1.val; omega)) (Fin.ext (by show (128 * x.1.val + x.2.val) % 128 = x.2.val; omega))
  right_inv a := Cert.ReferenceIdeal.Val.row16_chk_sub a

theorem sum_rows (f : Fin 2048 → ℝ) : ∑ n, ∑ p, f (row16 n p) = ∑ a, f a :=
  (Fintype.sum_prod_type (fun x : Fin 16 × Fin 128 => f (row16 x.1 x.2))).symm.trans (Fintype.sum_equiv rowsEquiv _ _ fun _ => rfl)

theorem nR_row16 (W : Fin 8 → Fin 128 → Fin 128 → ℝ) (AD : Fin 2048 → Fin 1024 → ℝ) (Z : Fin 2048 → Fin 10240 → ℝ) (n : Fin 16) (p : Fin 128) (j : Fin 1024) :
    nR W AD Z (row16 n p) j = Gmlp.dvn W (ck AD n) (ck (lo Z) n) p j := by
  unfold nR
  rw [show chk16 (row16 n p) = n from congrArg Prod.fst (rowsEquiv.left_inv (n, p)), show sub16 (row16 n p) = p from congrArg Prod.snd (rowsEquiv.left_inv (n, p))]

variable {m : (ℓ : Loc Cert.KernelIdeal.nD Cert.KernelIdeal.τ Cert.KernelIdeal.sig) → Buf (Elt Ideal) ℓ} {c : Dev Cert.KernelIdeal.nD}
  {x0 : (⟨Cert.ReferenceIdeal.S2048x1024, .f32⟩ : BufTy).Contents (Elt Ideal)} {x1 : (⟨Cert.ReferenceIdeal.S2048x10240, .f32⟩ : BufTy).Contents (Elt Ideal)}
  {x2 x3 : (⟨Cert.ReferenceIdeal.S1024, .f32⟩ : BufTy).Contents (Elt Ideal)} {x4 : (⟨Cert.ReferenceIdeal.S8x128x128, .f32⟩ : BufTy).Contents (Elt Ideal)}
  {x5 : (⟨Cert.ReferenceIdeal.S8x128, .f32⟩ : BufTy).Contents (Elt Ideal)} {AD : Fin 2048 → Fin 1024 → ℝ} {Z : Fin 2048 → Fin 10240 → ℝ}
  {LG LB : Fin 1024 → ℝ} {W : Fin 8 → Fin 128 → Fin 128 → ℝ} {B : Fin 8 → Fin 128 → ℝ}

theorem res8 (A : Cert.KernelIdeal.Body.Args m c AD Z LG LB W B) (H : Holds x0 x1 x2 x3 x4 x5 AD Z LG LB W B) (y : Cert.KernelIdeal.S8x128x128.Idx) :
    val_main_v106 (F := Ideal) x0 x1 x2 x3 y = (dats m 0 c).arrAt 8 cfg0.N y := by
  obtain ⟨g, a, b, rfl⟩ : ∃ g a b, y = ix3 g a b := ⟨_, _, _, eq_ix3 y⟩
  refine (Cert.ReferenceIdeal.Val.dws_val H g a b).trans (Eq.trans (congrArg _ ?_) (Cert.KernelIdeal.Body.arr8 A g a b).symm)
  rw [← sum_chunks]
  refine Finset.sum_congr rfl fun t _ => Finset.sum_congr rfl fun q _ => ?_
  rw [chunk_rows, chunk_rows, chunk_rows]
  rfl

theorem res9 (A : Cert.KernelIdeal.Body.Args m c AD Z LG LB W B) (H : Holds x0 x1 x2 x3 x4 x5 AD Z LG LB W B) (y : Cert.KernelIdeal.S128x128.Idx) :
    val_main_v178 (F := Ideal) x0 x1 y = (dats m 0 c).arrAt 9 cfg0.N y := by
  obtain ⟨p, l, rfl⟩ : ∃ p l, y = ix2 p l := ⟨_, _, eq_ix2 y⟩
  refine (Cert.ReferenceIdeal.Val.dbs_val H p l).trans (Eq.trans (congrArg _ ?_) (Cert.KernelIdeal.Body.arr9 A p l).symm)
  by_cases hl : l.val < 8
  · rw [dif_pos hl, dif_pos hl, ← sum_chunks]
    refine Finset.sum_congr rfl fun t _ => Finset.sum_congr rfl fun q _ => ?_
    rw [chunk_rows, chunk_rows]
    rfl
  · rw [dif_neg hl, dif_neg hl]

theorem res10 (A : Cert.KernelIdeal.Body.Args m c AD Z LG LB W B) (H : Holds x0 x1 x2 x3 x4 x5 AD Z LG LB W B) (y : Cert.KernelIdeal.S1x1024.Idx) :
    val_main_v179 (F := Ideal) x0 x1 x4 y = (dats m 0 c).arrAt 10 cfg0.N y := by
  obtain ⟨z, j, rfl⟩ : ∃ z j, y = ix2 z j := ⟨_, _, eq_ix2 y⟩
  refine (Cert.ReferenceIdeal.Val.dlg_val H z j).trans (Eq.trans (congrArg _ ?_) (Cert.KernelIdeal.Body.arr10 A z j).symm)
  rw [← sum_rows, ← sum_chunks]
  refine Finset.sum_congr rfl fun t _ => Finset.sum_congr rfl fun q _ => Finset.sum_congr rfl fun p _ => ?_
  rw [nR_row16, Cert.KernelIdeal.Body.chunk_dvn4, chunk_rows, chunk_rows, chunk_rows]
  rfl

theorem res11 (A : Cert.KernelIdeal.Body.Args m c AD Z LG LB W B) (H : Holds x0 x1 x2 x3 x4 x5 AD Z LG LB W B) (y : Cert.KernelIdeal.S1x1024.Idx) :
    val_main_v180 (F := Ideal) x0 x1 x4 y = (dats m 0 c).arrAt 11 cfg0.N y := by
  obtain ⟨z, j, rfl⟩ : ∃ z j, y = ix2 z j := ⟨_, _, eq_ix2 y⟩
  refine (Cert.ReferenceIdeal.Val.dlb_val H z j).trans (Eq.trans (congrArg _ ?_) (Cert.KernelIdeal.Body.arr11 A z j).symm)
  rw [← sum_rows, ← sum_chunks]
  refine Finset.sum_congr rfl fun t _ => Finset.sum_congr rfl fun q _ => Finset.sum_congr rfl fun p _ => ?_
  rw [nR_row16, Cert.KernelIdeal.Body.chunk_dvn4, chunk_rows, chunk_rows]
  rfl

/-- The point of a row. -/
def pt (a : Fin 2048) : Fin cfg0.N := ⟨a.val / 512, by rw [show cfg0.N = 4 from N_0]; omega⟩

/-- The row within its point. -/
def rw' (a : Fin 2048) : Fin 512 := ⟨a.val % 512, by omega⟩

theorem rows_pt (X : Fin 2048 → Fin 1024 → ℝ) (a : Fin 2048) : rows X (pt a) (rw' a) = X a :=
  congrArg X (Fin.ext (Nat.div_add_mod _ _))

theorem chunk_pt (X : Fin 2048 → Fin 1024 → ℝ) (a : Fin 2048) : chunk (rows X (pt a)) (chk (rw' a)) = ck X (chk16 a) := by
  rw [chunk_rows]
  refine congrArg (ck X) (Fin.ext ?_)
  show 4 * (a.val / 512) + a.val % 512 / 128 = a.val / 128
  omega

theorem sub_pt (a : Fin 2048) : sub (rw' a) = sub16 a := Fin.ext (by show a.val % 512 % 128 = a.val % 128; omega)

theorem dvn4_pt (W : Fin 8 → Fin 128 → Fin 128 → ℝ) (AD : Fin 2048 → Fin 1024 → ℝ) (Z : Fin 2048 → Fin 10240 → ℝ) (a : Fin 2048) :
    dvn4 W (rows AD (pt a)) (rows (lo Z) (pt a)) (rw' a) = nR W AD Z a := by
  funext j
  unfold dvn4 nR
  rw [chunk_pt, chunk_pt, sub_pt]

theorem res7 (A : Cert.KernelIdeal.Body.Args m c AD Z LG LB W B) (H : Holds x0 x1 x2 x3 x4 x5 AD Z LG LB W B) (y : Cert.KernelIdeal.S2048x2048.Idx) :
    val_main_v176 (F := Ideal) x0 x1 x2 x3 x4 x5 y = (dats m 0 c).arrAt 7 cfg0.N y := by
  obtain ⟨a, j, rfl⟩ : ∃ a j, y = ix2 a j := ⟨_, _, eq_ix2 y⟩
  refine Eq.trans ?_ (Cert.KernelIdeal.Body.arr7 A a j).symm
  have e : uvArr LG LB W B AD Z a j = Cert.KernelIdeal.Body.uv LG LB W B (rows AD (pt a)) (rows (lo Z) (pt a)) (rows (hi Z) (pt a)) (rw' a) j := rfl
  rw [e]
  unfold Cert.KernelIdeal.Body.uv
  by_cases h : j.val < 1024
  · rw [dif_pos h, chunk_pt, chunk_pt, chunk_pt, sub_pt]
    exact Cert.ReferenceIdeal.Val.duv_left H a j h
  · rw [dif_neg h, rows_pt, dvn4_pt]
    exact Cert.ReferenceIdeal.Val.duv_right H a j (not_lt.1 h)

end Cert.Match

end
-- ==== Proof.Finite.lean ====
/- What the precondition says: every element of every argument is a real number. -/
module

public import Idealize.ShloMosaic.Lib.Pointwise
public import Idealize.ShloMosaic.Lib.ReduceAll
public import proofs.«01_k».proof.Pre_finite

@[expose] public section

noncomputable section

namespace Cert.Pre_finite.Val

open Idealize.ShloMosaic Cert.Pre_finite

/-- The shape relations of the predicate's operations. -/
theorem facts : Cert.Pre_finite.Facts where
  bcast_S_S2048x1024 := by decide
  reducesTo_S2048x1024_S_d0_1 := by decide
  h_S_ := by decide
  bcast_S_S2048x10240 := by decide
  reducesTo_S2048x10240_S_d0_1 := by decide
  bcast_S_S1024 := by decide
  reducesTo_S1024_S_d0 := by decide
  bcast_S_S8x128x128 := by decide
  reducesTo_S8x128x128_S_d0_1_2 := by decide
  bcast_S_S8x128 := by decide
  reducesTo_S8x128_S_d0_1 := by decide

instance : Subsingleton S_.Idx := ⟨fun a b => funext fun i => i.elim0⟩

theorem ofBits_inf : Ideal.ofBits .f32 0x7F800000#32 = (⊤ : EReal) := by
  simp [Ideal.ofBits, Ideal.ieee]

/-- An element below the infinity in absolute value is a real number. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ r : ℝ, x i = (r : EReal) := by
  have h1 := Host.reduce_andi_all _ _ hr hu j h i
  pointwise at h1
  rw [ofBits_inf] at h1
  generalize x i = y at h1
  induction y using EReal.rec with
  | coe r => exact ⟨r, rfl⟩
  | bot => exact absurd h1 (by decide)
  | top => exact absurd h1 (by decide)

/-- The precondition: each argument's elements are real numbers. -/
theorem reals [Cert.Pre_finite.Facts] (x0 : FVec Ideal S2048x1024 .f32) (x1 : FVec Ideal S2048x10240 .f32) (x2 x3 : FVec Ideal S1024 .f32)
    (x4 : FVec Ideal S8x128x128 .f32) (x5 : FVec Ideal S8x128 .f32) (h : Cert.Pre_finite.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ ∀ i, ∃ r : ℝ, x5 i = (r : EReal) := by
  have hj := congrFun h ix0
  have and1 : ∀ a b : BitVec 1, IntOp.andi a b = 1#1 → a = 1#1 ∧ b = 1#1 := by decide
  have e5 := and1 _ _ hj
  have e4 := and1 _ _ e5.1
  have e3 := and1 _ _ e4.1
  have e2 := and1 _ _ e3.1
  have e1 := and1 _ _ e2.1
  exact ⟨real_of_all x0 _ _ _ _ e1.1, real_of_all x1 _ _ _ _ e1.2, real_of_all x2 _ _ _ _ e2.2, real_of_all x3 _ _ _ _ e3.2,
    real_of_all x4 _ _ _ _ e4.2, real_of_all x5 _ _ _ _ e5.2⟩

end Cert.Pre_finite.Val

end
-- ==== Proof.GmlpClaims.lean ====
/- The claims about the gating unit's backward pass: its frames, the named constants, and that the kernel computes the
   reference where the arguments are finite. -/
module

public import proofs.«01_k».proof.Defs
public import proofs.«01_k».proof.Proof.Gen.Kernel.Frame
public import proofs.«01_k».proof.Proof.Match
public import proofs.«01_k».proof.Proof.Finite
public import Idealize.ShloMosaic.Adequacy
public import Idealize.ShloMosaic.Init

@[expose] public section

set_option maxRecDepth 16384

noncomputable section

namespace Cert.GmlpClaims

open Idealize.ShloMosaic Idealize.ShloMosaic.StableHlo Idealize.SL.Sem

/-- The kernel's frame. -/
theorem frame_kernel : Cert.quiescent_Kernel (hKernel := Cert.Kernel.Gen.facts) := fun m ρ _ => Cert.Kernel.Gen.frame m ρ

/-- The idealized kernel's frame. -/
theorem frame_ideal : Cert.quiescent_KernelIdeal (hKernelIdeal := Cert.KernelIdeal.Gen.facts) := fun m ρ _ => Cert.KernelIdeal.Gen.frame m ρ

/-- The same under the precondition. -/
theorem frame_ideal_pre : Cert.quiescent_KernelIdeal_pre_finite (hKernelIdeal := Cert.KernelIdeal.Gen.facts) (hPre_finite := Cert.Pre_finite.Val.facts) :=
  fun m ρ _ => Cert.KernelIdeal.Gen.frame m ρ

/-- The reference's frame. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩) (Cert.ReferenceIdeal.Value.run (F := Ideal) m ρ)

/-- The same under the precondition. -/
theorem frame_ref_pre : Cert.quiescent_ReferenceIdeal_pre_finite (hReferenceIdeal := Cert.ReferenceIdeal.Gen.facts) (hPre_finite := Cert.Pre_finite.Val.facts) :=
  fun m ρ _ => frame_ref m ρ trivial

/-- The named constants' words round the named numbers. -/
theorem preserves : Cert.preserves_Kernel_KernelIdeal :=
  ⟨IdealRules.named_const.statement Cert.KernelIdeal.κ "gelu" .f32 0x3D372713#32 ((8943 / 200000 : ℝ) : EReal) rfl,
    IdealRules.named_const.statement Cert.KernelIdeal.κ "gelu3" .f32 0x3E095D4F#32 ((26829 / 200000 : ℝ) : EReal) rfl⟩

/-- Every result of the kernel is the reference's, where the arguments are finite. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Val.facts) := by
  haveI := Cert.Pre_finite.Val.facts
  haveI := Cert.ReferenceIdeal.Gen.facts
  haveI := Cert.KernelIdeal.Gen.facts
  intro m ρ m' ρ' hpre hagree
  refine ⟨_, _, _, _, _, Cert.KernelIdeal.Value.run_blocks m ρ, ?_⟩
  refine (θ_run Cert.ReferenceIdeal.defs _ _).mono (fun _ h c => ?_) (Cert.ReferenceIdeal.Value.run (F := Ideal) m' ρ')
  obtain ⟨h0, h1, h2, h3, h4, h5⟩ := Cert.Pre_finite.Val.reals _ _ _ _ _ _ (hpre c)
  choose r0 h0 using h0
  choose r1 h1 using h1
  choose r2 h2 using h2
  choose r3 h3 using h3
  choose r4 h4 using h4
  choose r5 h5 using h5
  have A : Cert.KernelIdeal.Body.Args m c (fun a b => r0 (ix2 a b)) (fun a b => r1 (ix2 a b)) (fun a => r2 (ix1 a)) (fun a => r3 (ix1 a))
      (fun g a b => r4 (ix3 g a b)) (fun g a => r5 (ix2 g a)) :=
    ⟨fun _ _ => h0 _, fun _ _ => h1 _, fun _ => h2 _, fun _ => h3 _, fun _ _ _ => h4 _, fun _ _ => h5 _⟩
  obtain ⟨e0, e1, e2, e3, e4, e5⟩ := hagree c
  have H : Cert.ReferenceIdeal.Val.Holds
      (launchContents m' c (Proc.devRef .tc Cert.ReferenceIdeal.main_arg0)) (launchContents m' c (Proc.devRef .tc Cert.ReferenceIdeal.main_arg1))
      (launchContents m' c (Proc.devRef .tc Cert.ReferenceIdeal.main_arg2)) (launchContents m' c (Proc.devRef .tc Cert.ReferenceIdeal.main_arg3))
      (launchContents m' c (Proc.devRef .tc Cert.ReferenceIdeal.main_arg4)) (launchContents m' c (Proc.devRef .tc Cert.ReferenceIdeal.main_arg5))
      (fun a b => r0 (ix2 a b)) (fun a b => r1 (ix2 a b)) (fun a => r2 (ix1 a)) (fun a => r3 (ix1 a)) (fun g a b => r4 (ix3 g a b)) (fun g a => r5 (ix2 g a)) :=
    ⟨fun a b => (congrFun e0 _).trans (h0 _), fun a b => (congrFun e1 _).trans (h1 _), fun a => (congrFun e2 _).trans (h2 _), fun a => (congrFun e3 _).trans (h3 _),
      fun g a b => (congrFun e4 _).trans (h4 _), fun g a => (congrFun e5 _).trans (h5 _)⟩
  refine ⟨?_, ?_, ?_, ?_, ?_, (h c).2.2.2.2.2⟩
  · exact (h c).1.trans ((Cert.ReferenceIdeal.Read.val_main_v176_eq _).trans (funext (Cert.Match.res7 A H)))
  · exact (h c).2.1.trans ((Cert.ReferenceIdeal.Read.val_main_v106_eq _).trans (funext (Cert.Match.res8 A H)))
  · exact (h c).2.2.1.trans ((Cert.ReferenceIdeal.Read.val_main_v178_eq _).trans (funext (Cert.Match.res9 A H)))
  · exact (h c).2.2.2.1.trans ((Cert.ReferenceIdeal.Read.val_main_v179_eq _).trans (funext (Cert.Match.res10 A H)))
  · exact (h c).2.2.2.2.1.trans ((Cert.ReferenceIdeal.Read.val_main_v180_eq _).trans (funext (Cert.Match.res11 A H)))

end Cert.GmlpClaims

end
-- ==== Proof.NormRow.lean ====
/- The root-mean-square norm of a row of extended real numbers and its backward pass. -/
module

public import Idealize.ShloMosaic.PureOps.Ideal

@[expose] public section

noncomputable section

namespace Cert.Norm

open Idealize.ShloMosaic

/-- The number of columns, as the 32-bit word denotes it. -/
def width : EReal := Ideal.ofBits .f32 0x45000000#32

theorem width_eq : width = ((2048 : ℝ) : EReal) := by
  unfold width; simp [Ideal.ofBits, Ideal.ieee, -EReal.coe_mul]; try norm_num

/-- The small constant under the root. -/
def eps : EReal := Ideal.ofBits .f32 0x358637BD#32

theorem eps_eq : eps = ((8796093 / 8796093022208 : ℝ) : EReal) := by
  unfold eps; simp [Ideal.ofBits, Ideal.ieee, -EReal.coe_mul]; try norm_num

/-- The mean of a row. -/
def mean (x : Fin 2048 → EReal) : EReal := Ideal.div (∑ k, x k) width

/-- A row's mean square and the small constant. -/
def ms (x : Fin 2048 → EReal) : EReal := mean (fun k => x k * x k) + eps

/-- The reciprocal root. -/
def rr (x : Fin 2048 → EReal) : EReal := Ideal.rsqrt (ms x)

/-- The normalised row. -/
def xh (x : Fin 2048 → EReal) (j : Fin 2048) : EReal := x j * rr x

/-- The backward pass in closed form, from the gradient `d` of the normalised row. -/
def back (d x : Fin 2048 → EReal) (j : Fin 2048) : EReal := rr x * (d j - xh x j * mean (fun k => d k * xh x k))

/-- The gradient of each square, by the chain rule through the root. -/
def sq (d x : Fin 2048 → EReal) : EReal :=
  Ideal.div ((∑ k, x k * d k) * (((-(1 / 2) : ℝ) : EReal) * Ideal.div (rr x) (ms x))) width

/-- The backward pass by the chain rule. -/
def chain (d x : Fin 2048 → EReal) (j : Fin 2048) : EReal := d j * rr x + x j * sq d x + sq d x * x j

theorem mul_self_nonneg (a : EReal) : 0 ≤ a * a := by
  induction a using EReal.rec with
  | bot => simp
  | top => simp
  | coe r => exact_mod_cast _root_.mul_self_nonneg r

/-- A row with an infinite element has an infinite mean square. -/
theorem ms_top {x : Fin 2048 → EReal} {k : Fin 2048} (h : x k = ⊤ ∨ x k = ⊥) : ms x = ⊤ := by
  have e : x k * x k = ⊤ := by rcases h with h | h <;> rw [h] <;> simp
  have s : ∑ k, x k * x k = ⊤ :=
    top_le_iff.mp (e ▸ Finset.single_le_sum (f := fun k => x k * x k) (fun i _ => mul_self_nonneg (x i)) (Finset.mem_univ k))
  unfold ms mean
  rw [s, width_eq, Ideal.div_coe (by norm_num), EReal.top_mul_coe_of_pos (by norm_num), eps_eq, EReal.top_add_coe]

theorem rr_top {x : Fin 2048 → EReal} (h : ms x = ⊤) : rr x = 0 := by
  unfold rr; rw [h]; rfl

/-- A nonnegative real factor goes through a sum. -/
theorem sum_mul_coe {ι : Type*} (s : Finset ι) (f : ι → EReal) {r : ℝ} (h : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), EReal.left_distrib_of_nonneg_of_ne_top
      (by exact_mod_cast h) (EReal.coe_ne_top r), mul_comm (r : EReal), mul_comm (r : EReal)]

theorem sum_coe (f : Fin 2048 → ℝ) : ∑ k, (f k : EReal) = ((∑ k, f k : ℝ) : EReal) :=
  (map_sum (⟨⟨(fun x : ℝ => (x : EReal)), EReal.coe_zero⟩, EReal.coe_add⟩ : ℝ →+ EReal) f Finset.univ).symm

/-- A row of real numbers has a positive mean square. -/
theorem ms_real (X : Fin 2048 → ℝ) : ∃ M : ℝ, 0 < M ∧ ms (fun k => (X k : EReal)) = (M : EReal) := by
  refine ⟨(∑ k, X k * X k) * (1 / 2048) + 8796093 / 8796093022208, ?_, ?_⟩
  · have := Finset.sum_nonneg (s := Finset.univ) fun k _ => _root_.mul_self_nonneg (X k)
    positivity
  · unfold ms mean
    simp only [← EReal.coe_mul]
    rw [sum_coe, width_eq, Ideal.div_coe (by norm_num), eps_eq, ← EReal.coe_mul, ← EReal.coe_add]

/-- The reciprocal root of a positive real number. -/
theorem rsqrt_pos {M : ℝ} (h : 0 < M) : Ideal.rsqrt (M : EReal) = (((√M)⁻¹ : ℝ) : EReal) := by
  show (if M < 0 then _ else if M = 0 then _ else _) = _
  rw [if_neg (not_lt.mpr h.le), if_neg h.ne']

/-- Twice a number. -/
theorem twice (a : EReal) : a + a = a * ((2 : ℝ) : EReal) := by
  rw [show ((2 : ℝ) : EReal) = 1 + 1 by norm_cast, mul_comm, EReal.right_distrib_of_nonneg (by norm_num) (by norm_num), one_mul]

/-- The two backward passes agree at every row. -/
theorem chain_eq (d x : Fin 2048 → EReal) (j : Fin 2048) : chain d x j = back d x j := by
  by_cases h : ∃ k, x k = ⊤ ∨ x k = ⊥
  · obtain ⟨k, h⟩ := h
    have e := ms_top h
    unfold chain back sq
    rw [rr_top e, e, show Ideal.div 0 ⊤ = 0 by simp [Ideal.div], width_eq, Ideal.div_coe (by norm_num)]
    simp
  · have hx : ∀ k, ∃ r : ℝ, x k = (r : EReal) := fun k => by
      induction e : x k using EReal.rec with
      | bot => exact absurd ⟨k, Or.inr e⟩ h
      | top => exact absurd ⟨k, Or.inl e⟩ h
      | coe r => exact ⟨r, rfl⟩
    choose X hX using hx
    obtain rfl : x = fun k => (X k : EReal) := funext hX
    obtain ⟨M, hM, eM⟩ := ms_real X
    have er : rr (fun k => (X k : EReal)) = (((√M)⁻¹ : ℝ) : EReal) := by unfold rr; rw [eM, rsqrt_pos hM]
    set ρ : ℝ := (√M)⁻¹ with hρ
    have pos : 0 ≤ ρ := inv_nonneg.mpr (Real.sqrt_nonneg M)
    have sqr : 1 / M = ρ * ρ := by
      rw [hρ, ← mul_inv, Real.mul_self_sqrt hM.le, one_div]
    unfold chain back sq xh mean
    rw [er, eM, width_eq, Ideal.div_coe hM.ne', Ideal.div_coe (by norm_num), Ideal.div_coe (by norm_num), sqr]
    have e1 : ∑ k, d k * ((X k : EReal) * (ρ : EReal)) = (∑ k, (X k : EReal) * d k) * (ρ : EReal) := by
      rw [← sum_mul_coe _ _ pos]
      exact Finset.sum_congr rfl fun k _ => by rw [← mul_assoc, mul_comm (d k)]
    rw [e1]
    generalize ∑ k, (X k : EReal) * d k = S
    rw [sub_eq_add_neg, EReal.left_distrib_of_nonneg_of_ne_top (by exact_mod_cast pos) (EReal.coe_ne_top ρ), add_assoc, mul_comm (d j)]
    refine congrArg (HAdd.hAdd ((ρ : EReal) * d j)) ?_
    have e2 : (X j : EReal) * (S * (((-(1 / 2) : ℝ) : EReal) * ((ρ : EReal) * ((ρ * ρ : ℝ) : EReal))) * ((1 / 2048 : ℝ) : EReal)) =
        S * ((X j * (-(1 / 2) * (ρ * (ρ * ρ)) * (1 / 2048)) : ℝ) : EReal) := by
      simp only [EReal.coe_mul]
      ac_rfl
    rw [mul_comm _ (X j : EReal), e2, twice, mul_assoc, ← EReal.coe_mul]
    have e3 : (X j : EReal) * (ρ : EReal) * (S * (ρ : EReal) * ((1 / 2048 : ℝ) : EReal)) = S * ((X j * ρ * ρ * (1 / 2048) : ℝ) : EReal) := by
      simp only [EReal.coe_mul]
      ac_rfl
    rw [e3, ← mul_neg, ← EReal.coe_neg, mul_left_comm (ρ : EReal), ← EReal.coe_mul]
    congr 2
    ring

/-- A sum over the rows, block by block. -/
theorem sum_blocks (f : Fin 2048 → EReal) : ∑ r, f r = ∑ t : Fin 8, ∑ p : Fin 256, f ⟨256 * t.val + p.val, by omega⟩ := by
  rw [← Fintype.sum_prod_type' (f := fun (t : Fin 8) (p : Fin 256) => f ⟨256 * t.val + p.val, by omega⟩)]
  refine (Fintype.sum_equiv (finProdFinEquiv (m := 8) (n := 256)) _ _ fun x => ?_).symm
  exact congrArg f (Fin.ext (by show 256 * x.1.val + x.2.val = x.2.val + 256 * x.1.val; omega))

/-- A sum over the rows, accumulated block by block. -/
theorem acc_blocks (f : Fin 2048 → EReal) (a : (n : ℕ) → n < 8 → EReal)
    (h0 : a 0 (by decide) = ∑ p : Fin 256, f ⟨256 * 0 + p.val, by omega⟩)
    (hs : ∀ (n : ℕ) (h : n < 8), 1 ≤ n → a n h = a (n - 1) (by omega) + ∑ p : Fin 256, f ⟨256 * n + p.val, by omega⟩) :
    a 7 (by decide) = ∑ r, f r := by
  rw [sum_blocks, Fin.sum_univ_eight]
  refine (hs 7 (by decide) (by decide)).trans (congrArg (fun b : EReal => b + _) ?_)
  refine (hs 6 (by decide) (by decide)).trans (congrArg (fun b : EReal => b + _) ?_)
  refine (hs 5 (by decide) (by decide)).trans (congrArg (fun b : EReal => b + _) ?_)
  refine (hs 4 (by decide) (by decide)).trans (congrArg (fun b : EReal => b + _) ?_)
  refine (hs 3 (by decide) (by decide)).trans (congrArg (fun b : EReal => b + _) ?_)
  refine (hs 2 (by decide) (by decide)).trans (congrArg (fun b : EReal => b + _) ?_)
  refine (hs 1 (by decide) (by decide)).trans (congrArg (fun b : EReal => b + _) ?_)
  exact h0

theorem one : Ideal.ofBits .f32 0x3F800000#32 = (1 : EReal) := by
  simp [Ideal.ofBits, Ideal.ieee, -EReal.coe_mul]; norm_num

theorem zero : Ideal.ofBits .f32 0x00000000#32 = (0 : EReal) := by simp [Ideal.ofBits, Ideal.ieee]

theorem neg_half : Ideal.ofBits .f32 0xBF000000#32 = ((-(1 / 2) : ℝ) : EReal) := by
  simp [Ideal.ofBits, Ideal.ieee, -EReal.coe_mul]; norm_num

theorem zsum (s : EReal) : Ideal.ofBits .f32 0x00000000#32 + s = s := by rw [zero, zero_add]

/-- The normalised row, scaled and shifted. -/
def modulated (x g sc sh : Fin 2048 → EReal) (j : Fin 2048) : EReal := xh x j * g j * (1 + sc j) + sh j

end Cert.Norm

end
-- ==== Proof.AfwMat.lean ====
/- The modulation: the product of the conditioning with w_ada. -/
module

public import Idealize.ShloMosaic.Lib.Pointwise
public import Idealize.ShloMosaic.Lib.Pipeline.ValueKit
public import Idealize.ShloMosaic.Lib.Claim
public import proofs.«01_k».proof.Defs
public import proofs.«01_k».proof.Proof.NormRow
public import proofs.«01_k».proof.Proof.Gen.Afw.Frame
public import proofs.«01_k».proof.Proof.Gen.AfwIdeal.Value
public import proofs.«01_k».proof.Proof.Gen.AfwRefIdeal.Run
public import proofs.«01_k».proof.Proof.Gen.AfwRefIdeal.Read
public import Idealize.ShloMosaic.Adequacy
public import Idealize.ShloMosaic.Init

@[expose] public section

set_option maxRecDepth 16384

noncomputable section

namespace Cert.AfwIdeal.Mat

open Idealize.ShloMosaic Idealize.ShloMosaic.TcCoe Idealize.SL Idealize.SL.Sem Cert.AfwIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

/-- A number times its logistic function. -/
def silu (a : EReal) : EReal := a * Ideal.div 1 (1 + Ideal.exp (-a))

/-- A block's product and its bias. -/
def prod (c : Vec Ideal S8x2048 .f32) (w : Vec Ideal S2048x512 .f32) (b : Vec Ideal S1x512 .f32) (p : Fin 8) (q : Fin 512) : EReal :=
  (∑ k : Fin 2048, silu (c (ix2 p k)) * w (ix2 k q)) + b (ix2 0 q)

theorem pay1 (c : Vec Ideal S8x2048 .f32) (w : Vec Ideal S2048x512 .f32) (b : Vec Ideal S1x512 .f32) (p : Fin 8) (q : Fin 512) :
    k0_pay1 c w b (ix2 p q) = prod c w b p q := by
  pointwise [k0_pay1]
  simp only [zero_sub]
  rfl

theorem out3 (c : Vec Ideal S8x2048 .f32) (w : Vec Ideal S2048x512 .f32) (b : Vec Ideal S1x512 .f32) (p : Fin 8) (q : Fin 512) :
    out0_3 c w b (ix2 p q) = prod c w b p q := by
  unfold out0_3
  rw [View.canon_unit_zero (S := S8x512) z2]
  simp only [View.ld_unit_zero (S := S8x2048) z2, View.ld_unit_zero (S := S2048x512) z2, View.ld_unit_zero (S := S1x512) z2]
  exact pay1 c w b p q

theorem ltN (t : Fin cfg0.N) : t.val < 6 := lt_of_lt_of_eq t.isLt (show cfg0.N = 6 from N_0)

/-- Column `q` of a point's block. -/
def col (t : Fin cfg0.N) (q : Fin 512) : Fin 3072 := ⟨512 * t.val + q.val, by have := ltN t; omega⟩

theorem idx : ∀ t : Fin cfg0.N, win0_0.index t = ![0, 0] ∧ win0_1.index t = ![0, t.val] ∧ win0_2.index t = ![0, t.val] ∧ win0_3.index t = ![0, t.val] := by
  decide +kernel

/-- The modulation. -/
def G (c : Vec Ideal S8x2048 .f32) (w : Vec Ideal S2048x3072 .f32) (b : Vec Ideal S1x3072 .f32) (i : S8x3072.Idx) : EReal :=
  (∑ k : Fin 2048, silu (c (ix2 (i 0) k)) * w (ix2 k (i 1))) + b (ix2 0 (i 1))

section

variable {m : (ℓ : Loc nD τ sig) → Buf (Elt Ideal) ℓ} {c : Dev nD}

theorem blk0 (t : Fin cfg0.N) (p : Fin 8) (k : Fin 2048) : iblk m c 0 t (ix2 p k) = (m ((c : Thread nD τ).loc main_arg0)) (ix2 p k) := by
  have e : (win0_0.blk t).view.emb (ix2 p k) = ix2 p k := by blk_ext [idx t]
  blk_simp [iblk]
  rw [e]

theorem blk1 (t : Fin cfg0.N) (k : Fin 2048) (q : Fin 512) : iblk m c 1 t (ix2 k q) = (m ((c : Thread nD τ).loc main_arg1)) (ix2 k (col t q)) := by
  have e : (win0_1.blk t).view.emb (ix2 k q) = ix2 k (col t q) := by blk_ext [idx t, col]
  blk_simp [iblk]
  rw [e]

theorem blk2 (t : Fin cfg0.N) (z : Fin 1) (q : Fin 512) : iblk m c 2 t (ix2 z q) = (m ((c : Thread nD τ).loc main_arg2)) (ix2 z (col t q)) := by
  have e : (win0_2.blk t).view.emb (ix2 z q) = ix2 z (col t q) := by blk_ext [idx t, col]
  blk_simp [iblk]
  rw [e]

theorem arr3 : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p, q, rfl⟩ : ∃ p q, y = ix2 p q := ⟨_, _, eq_ix2 y⟩
  have e : (win0_3.blk t).view.emb (ix2 p q) = ix2 p (col t q) := by blk_ext [idx t, col]
  blk_simp
  rw [after0_3, out3]
  refine Eq.trans ?_ (congrArg (G _ _ _) e).symm
  refine congrArg₂ (fun a b : EReal => a + b) (Finset.sum_congr rfl fun k _ => ?_) (blk2 t 0 q)
  exact congrArg₂ (fun a b : EReal => a * b) (congrArg silu (blk0 t p k)) (blk1 t k q)

end

section

open Cert.AfwRefIdeal.Read

variable (c : Vec Ideal S8x2048 .f32) (w : Vec Ideal S2048x3072 .f32) (b : Vec Ideal S1x3072 .f32)

theorem r0 (i : S8x2048.Idx) : val_main_v0 (F := Ideal) c i = silu (c i) :=
  congrArg (fun a : EReal => c i * Ideal.div a (a + Ideal.exp (-c i))) one

theorem ref3 : val_main_v3 (F := Ideal) c w b = G c w b := by
  funext i
  refine congrArg₂ (fun a b : EReal => a + b) ((val_main_v1_apply c w i).trans (Finset.sum_congr rfl fun k _ => ?_)) ?_
  · exact congrArg₂ (fun a b : EReal => a * b) ((r0 c _).trans (congrArg (fun j => silu (c j)) ((eq_ix2 _).trans (congrArg₂ ix2 (Fin.ext rfl) (Fin.ext rfl))))) (congrArg w ((eq_ix2 _).trans (congrArg₂ ix2 (Fin.ext rfl) (Fin.ext rfl))))
  · exact (val_main_v2_apply b i).trans (congrArg b ((eq_ix2 _).trans (congrArg₂ ix2 (Fin.ext rfl) (Fin.ext rfl))))

end

end Cert.AfwIdeal.Mat

namespace Cert.AfwClaims

open Idealize.ShloMosaic Idealize.SL.Sem

/-- The kernel's frame. -/
theorem frame_kernel : Cert.quiescent_Afw (hAfw := Cert.Afw.Gen.facts) := fun m ρ _ => Cert.Afw.Gen.frame m ρ

/-- The idealized kernel's frame. -/
theorem frame_ideal : Cert.quiescent_AfwIdeal (hAfwIdeal := Cert.AfwIdeal.Gen.facts) := fun m ρ _ => Cert.AfwIdeal.Gen.frame m ρ

/-- The reference's frame. -/
theorem frame_ref : Cert.quiescent_AfwRefIdeal (hAfwRefIdeal := Cert.AfwRefIdeal.Gen.facts) := fun m ρ _ =>
  (θ_run Cert.AfwRefIdeal.defs _ _).mono
    (fun r h => ⟨fun c => (h c).2, Idealize.ShloMosaic.sem_eq_zero_of_no_sems (by decide) r.2⟩) (Cert.AfwRefIdeal.Value.run (F := Ideal) m ρ)

/-- The idealized kernel keeps what the kernel computes. -/
theorem preserves : Cert.preserves_Afw_AfwIdeal := trivial

/-- The kernel's results are the reference's. -/
theorem algebraic : Cert.algebraic_AfwIdeal_AfwRefIdeal (hAfwIdeal := Cert.AfwIdeal.Gen.facts) (hAfwRefIdeal := Cert.AfwRefIdeal.Gen.facts) := by
  haveI := Cert.AfwIdeal.Gen.facts
  haveI := Cert.AfwRefIdeal.Gen.facts
  intro m ρ m' ρ' _ hagree
  refine ⟨_, Cert.AfwIdeal.Value.run_blocks m ρ, ?_⟩
  refine (θ_run Cert.AfwRefIdeal.defs _ _).mono (fun _ h c => ?_) (Cert.AfwRefIdeal.Value.run (F := Ideal) m' ρ')
  obtain ⟨e0, e1, e2⟩ := hagree c
  obtain ⟨h0, h⟩ := h c
  refine ⟨h0.trans ?_, h⟩
  · refine (Cert.AfwRefIdeal.Read.val_main_v3_eq _ _ _).trans ((Cert.AfwIdeal.Mat.ref3 _ _ _).trans ?_)
    rw [e0, e1, e2]
    exact Cert.AfwIdeal.Mat.arr3.symm

end Cert.AfwClaims

end
-- ==== Proof.FlsMat.lean ====
/- The loss with the last norm, and its backward pass. -/
module

public import Idealize.ShloMosaic.Lib.Pointwise
public import Idealize.ShloMosaic.Lib.Pipeline.ValueKit
public import Idealize.ShloMosaic.Lib.Claim
public import proofs.«01_k».proof.Defs
public import Idealize.ShloMosaic.Lib.WholeRead
public import proofs.«01_k».proof.Proof.NormRow
public import proofs.«01_k».proof.Proof.Gen.Fls.Frame
public import proofs.«01_k».proof.Proof.Gen.FlsIdeal.Value
public import proofs.«01_k».proof.Proof.Gen.FlsRefIdeal.Run
public import proofs.«01_k».proof.Proof.Gen.FlsRefIdeal.Read
public import Idealize.ShloMosaic.Adequacy
public import Idealize.ShloMosaic.Init

@[expose] public section

set_option maxRecDepth 16384

noncomputable section

namespace Cert.FlsIdeal.Mat

open Idealize.ShloMosaic Idealize.ShloMosaic.TcCoe Idealize.SL Idealize.SL.Sem Cert.FlsIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

section

variable {F : FTy → Type} [FloatOps F]

/-- The load of a whole block of rows. -/
def ldB (a : Memref sig .tc .vmem S256x2048 .f32) (h : a.IsWhole) (x : Vec F S256x2048 .f32) : Vec F S256x2048 .f32 :=
  View.readAt (Elt F) a.view (Rect.unit (s := S256x2048) ![0, 0] S256x2048.size inb_S256x2048_S256x2048_0_0).toLoadRect (h.unread x)

/-- The load of a whole row. -/
def ldR (a : Memref sig .tc .vmem S1x2048 .f32) (h : a.IsWhole) (x : Vec F S1x2048 .f32) : Vec F S1x2048 .f32 :=
  View.readAt (Elt F) a.view (Rect.unit (s := S1x2048) ![0, 0] S1x2048.size inb_S1x2048_S1x2048_0_0).toLoadRect (h.unread x)

theorem ldB_eq (a : Memref sig .tc .vmem S256x2048 .f32) (h : a.IsWhole) (x : Vec F S256x2048 .f32) : ldB a h x = x := by
  unfold ldB
  funext y
  obtain ⟨p, q, rfl⟩ : ∃ p q, y = ix2 p q := ⟨_, _, eq_ix2 y⟩
  rw [h.readAt_unread]
  pointwise

theorem ldR_eq (a : Memref sig .tc .vmem S1x2048 .f32) (h : a.IsWhole) (x : Vec F S1x2048 .f32) : ldR a h x = x := by
  unfold ldR
  funext y
  obtain ⟨p, q, rfl⟩ : ∃ p q, y = ix2 p q := ⟨_, _, eq_ix2 y⟩
  obtain rfl : p = 0 := Subsingleton.elim _ _
  rw [h.readAt_unread]
  pointwise

/-- The store of a whole block of rows. -/
def stB (x : FVec F S256x2048 .f32) : List (View.Piece (Elt F) S256x2048 .f32) := [⟨Rect.unit ![0, 0] S256x2048.size inb_S256x2048_S256x2048_0_0, x⟩]

/-- The store of a whole block of rows in bf16. -/
def stH (x : FVec F S256x2048 .bf16) : List (View.Piece (Elt F) S256x2048 .bf16) := [⟨Rect.unit ![0, 0] S256x2048.size inb_S256x2048_S256x2048_0_0, x⟩]

theorem stH_eq (x : FVec F S256x2048 .bf16) : View.canon (stH x) = x := View.canon_unit_zero (S := S256x2048) z2 _ _

/-- The store of a whole row. -/
def stR (x : FVec F S1x2048 .f32) : List (View.Piece (Elt F) S1x2048 .f32) := [⟨Rect.unit ![0, 0] S1x2048.size inb_S1x2048_S1x2048_0_0, x⟩]

theorem stB_eq (x : FVec F S256x2048 .f32) : View.canon (stB x) = x := View.canon_unit_zero (S := S256x2048) z2 _ _

theorem stR_eq (x : FVec F S1x2048 .f32) : View.canon (stR x) = x := View.canon_unit_zero (S := S1x2048) z2 _ _

/-- The load of the lanes of the loss. -/
def ldL (a : Memref sig .tc .vmem S1x128 .f32) (h : a.IsWhole) (x : Vec F S1x128 .f32) : Vec F S1x128 .f32 :=
  View.readAt (Elt F) a.view (Rect.unit (s := S1x128) ![0, 0] S1x128.size inb_S1x128_S1x128_0_0).toLoadRect (h.unread x)

theorem ldL_eq (a : Memref sig .tc .vmem S1x128 .f32) (h : a.IsWhole) (x : Vec F S1x128 .f32) : ldL a h x = x := by
  funext y
  obtain ⟨p, q, rfl⟩ : ∃ p q, y = ix2 p q := ⟨_, _, eq_ix2 y⟩
  obtain rfl : p = 0 := Subsingleton.elim _ _
  unfold ldL
  rw [h.readAt_unread]
  pointwise

/-- The store of the lanes of the loss. -/
def stL (x : FVec F S1x128 .f32) : List (View.Piece (Elt F) S1x128 .f32) := [⟨Rect.unit ![0, 0] S1x128.size inb_S1x128_S1x128_0_0, x⟩]

theorem stL_eq (x : FVec F S1x128 .f32) : View.canon (stL x) = x := View.canon_unit_zero (S := S1x128) z2 _ _

/-- The store of the first output, at the first point. -/
theorem runA_5 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4).1 =
      stB (k0_pay1 (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32)) := by
  sl_kernel_rfl

/-- The store of the second output, at the first point. -/
theorem runA_6 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4).2.1 =
      stH (k0_pay2 (ldR arg3 harg3 x2) (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32)) := by
  sl_kernel_rfl

/-- The store of the third output, at the first point. -/
theorem runA_7 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4).2.2.1 =
      stL (k0_pay3 (k0_pay13 (ldB arg2 harg2 x1) (ldR arg3 harg3 x2) (ldR arg4 harg4 x3) (ldB arg1 harg1 x0) (ldB arg5 harg5 x4))) := by
  sl_kernel_rfl

/-- The store of the fourth output, at the first point. -/
theorem runA_8 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4).2.2.2.1 =
      stR (k0_pay5 (k0_pay11 (ldB arg2 harg2 x1) (ldR arg3 harg3 x2) (ldB arg1 harg1 x0)) (k0_pay14 (ldB arg2 harg2 x1) (ldR arg3 harg3 x2) (ldR arg4 harg4 x3) (ldB arg1 harg1 x0) (ldB arg5 harg5 x4))) := by
  sl_kernel_rfl

/-- The store of the fifth output, at the first point. -/
theorem runA_9 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4).2.2.2.2.1 =
      stR (k0_pay7 (ldB arg2 harg2 x1) (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32)) := by
  sl_kernel_rfl

/-- The store of the first output, at a later point. -/
theorem runB_5 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4 xo7 xo8 xo9) :
    (kernelRun0_B (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4 xo7 xo8 xo9).1 =
      stB (k0_pay1 (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32)) := by
  sl_kernel_rfl

/-- The store of the second output, at a later point. -/
theorem runB_6 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4 xo7 xo8 xo9) :
    (kernelRun0_B (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4 xo7 xo8 xo9).2.1 =
      stH (k0_pay2 (ldR arg3 harg3 x2) (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32)) := by
  sl_kernel_rfl

/-- The store of the third output, at a later point. -/
theorem runB_7 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4 xo7 xo8 xo9) :
    (kernelRun0_B (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4 xo7 xo8 xo9).2.2.1 =
      stL (k0_pay4 (k0_pay13 (ldB arg2 harg2 x1) (ldR arg3 harg3 x2) (ldR arg4 harg4 x3) (ldB arg1 harg1 x0) (ldB arg5 harg5 x4)) (ldL arg8 harg8 xo7)) := by
  sl_kernel_rfl

/-- The store of the fourth output, at a later point. -/
theorem runB_8 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4 xo7 xo8 xo9) :
    (kernelRun0_B (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4 xo7 xo8 xo9).2.2.2.1 =
      stR (k0_pay6 (k0_pay11 (ldB arg2 harg2 x1) (ldR arg3 harg3 x2) (ldB arg1 harg1 x0)) (k0_pay14 (ldB arg2 harg2 x1) (ldR arg3 harg3 x2) (ldR arg4 harg4 x3) (ldB arg1 harg1 x0) (ldB arg5 harg5 x4)) (ldR arg9 harg9 xo8)) := by
  sl_kernel_rfl

/-- The store of the fifth output, at a later point. -/
theorem runB_9 (c : Dev nD) (i : grid0.Coords) (arg1) (harg1) (arg2) (harg2) (arg3) (harg3) (arg4) (harg4) (arg5) (harg5) (arg6) (harg6) (arg7) (harg7) (arg8) (harg8) (arg9) (harg9) (arg10) (harg10) (hc0 hc1 hc2 hc3 hc4 hc5) (x0 x1 x2 x3 x4 xo7 xo8 xo9) :
    (kernelRun0_B (F := F) c i arg1 harg1 arg2 harg2 arg3 harg3 arg4 harg4 arg5 harg5 arg6 harg6 arg7 harg7 arg8 harg8 arg9 harg9 arg10 harg10 hc0 hc1 hc2 hc3 hc4 hc5 x0 x1 x2 x3 x4 xo7 xo8 xo9).2.2.2.2.1 =
      stR (k0_pay8 (ldB arg2 harg2 x1) (k0_pay10 (ldB arg2 harg2 x1) (ldR arg3 harg3 x2) (ldB arg1 harg1 x0)) (k0_pay11 (ldB arg2 harg2 x1) (ldR arg3 harg3 x2) (ldB arg1 harg1 x0)) (k0_pay15 (ldB arg2 harg2 x1) (ldR arg3 harg3 x2) (ldR arg4 harg4 x3) (ldB arg1 harg1 x0) (ldB arg5 harg5 x4)) (k0_pay16 (ldB arg2 harg2 x1) (ldR arg3 harg3 x2) (ldR arg4 harg4 x3) (ldB arg1 harg1 x0) (ldB arg5 harg5 x4)) (Scalar.ofBits .f32 0x45000000#32) (ldR arg10 harg10 xo9)) := by
  sl_kernel_rfl

end

/-- A row and the gated row added to it. -/
def plus (x gt f : Fin 2048 → EReal) (k : Fin 2048) : EReal := x k + gt k * f k

/-- The error of the normalised and scaled row. -/
def err (u g t : Fin 2048 → EReal) (k : Fin 2048) : EReal := xh u k * g k - t k

/-- The gradient of the scaled row. -/
def dy (u g t : Fin 2048 → EReal) (k : Fin 2048) : EReal := Ideal.div (err u g t k) width

/-- The gradient of the normalised row. -/
def dn (u g t : Fin 2048 → EReal) (k : Fin 2048) : EReal := dy u g t k * g k

/-- A row's part of the loss. -/
def part (u g t : Fin 2048 → EReal) : EReal := (∑ k, err u g t k * err u g t k) * ((1 / 2 * (1 / 2048) : ℝ) : EReal)

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; try norm_num

/-- The parts of a block's rows. -/
theorem parts {ι : Type*} (s : Finset ι) (f : ι → EReal) :
    Ideal.div (((1 / 2 : ℝ) : EReal) * ∑ p ∈ s, f p) width = ∑ p ∈ s, f p * ((1 / 2 * (1 / 2048) : ℝ) : EReal) := by
  rw [sum_mul_coe _ _ (by norm_num), width_eq, Ideal.div_coe (by norm_num), mul_comm ((1 / 2 : ℝ) : EReal), mul_assoc, ← EReal.coe_mul]

/-- Half the sum of the rows' mean squares. -/
theorem halves (f : Fin 2048 → EReal) :
    Ideal.ofBits .f32 0x3F000000#32 * ∑ r, Ideal.div (f r) width = ∑ r, f r * ((1 / 2 * (1 / 2048) : ℝ) : EReal) := by
  rw [sum_mul_coe _ _ (by norm_num), half, width_eq]
  simp only [Ideal.div_coe (show (2048 : ℝ) ≠ 0 by norm_num)]
  rw [sum_mul_coe _ _ (by norm_num), mul_left_comm, ← EReal.coe_mul]

/-- The gradient of half a mean square. -/
theorem grad (e : EReal) :
    Ideal.div (Ideal.ofBits .f32 0x3F000000#32 * Ideal.ofBits .f32 0x3F800000#32) width * (Ideal.ofBits .f32 0x40000000#32 * e) = Ideal.div e width := by
  rw [half, one, two, mul_one, width_eq, Ideal.div_coe (by norm_num), Ideal.div_coe (by norm_num), ← mul_assoc, ← EReal.coe_mul, ← EReal.coe_mul, mul_comm]
  congr 2
  norm_num

section

variable (x f tg : Vec Ideal S256x2048 .f32) (gt g : Vec Ideal S1x2048 .f32) (p : Fin 256) (j : Fin 2048)

/-- Row `p` of a block. -/
def rowB (x : Vec Ideal S256x2048 .f32) (p : Fin 256) (k : Fin 2048) : EReal := x (ix2 p k)

/-- A row's only line. -/
def line (x : Vec Ideal S1x2048 .f32) (k : Fin 2048) : EReal := x (ix2 0 k)

theorem pay9 : k0_pay9 f gt x (ix2 p j) = plus (rowB x p) (line gt) (rowB f p) j := by
  pointwise [k0_pay9]
  rfl

theorem pay10 (z : Fin 1) : k0_pay10 f gt x (ix2 p z) = rr (plus (rowB x p) (line gt) (rowB f p)) := by
  pointwise [k0_pay10]
  simp only [pay9]
  rfl

theorem pay11 : k0_pay11 f gt x (ix2 p j) = xh (plus (rowB x p) (line gt) (rowB f p)) j := by
  pointwise [k0_pay11]
  simp only [pay9, pay10]
  rfl

theorem pay12 : k0_pay12 f gt g x tg (ix2 p j) = err (plus (rowB x p) (line gt) (rowB f p)) (line g) (rowB tg p) j := by
  pointwise [k0_pay12]
  simp only [pay11]
  rfl

theorem pay14 : k0_pay14 f gt g x tg (ix2 p j) = dy (plus (rowB x p) (line gt) (rowB f p)) (line g) (rowB tg p) j := by
  pointwise [k0_pay14]
  simp only [pay12]
  rfl

theorem pay15 : k0_pay15 f gt g x tg (ix2 p j) = dn (plus (rowB x p) (line gt) (rowB f p)) (line g) (rowB tg p) j := by
  pointwise [k0_pay15]
  simp only [pay14]
  rfl

theorem pay16 (z : Fin 1) : k0_pay16 f gt g x tg (ix2 p z) = ∑ k, dn (plus (rowB x p) (line gt) (rowB f p)) (line g) (rowB tg p) k * xh (plus (rowB x p) (line gt) (rowB f p)) k := by
  pointwise [k0_pay16]
  simp only [pay11, pay15]

theorem pay1 : k0_pay1 (k0_pay10 f gt x) (k0_pay11 f gt x) (k0_pay15 f gt g x tg) (k0_pay16 f gt g x tg) (Scalar.ofBits .f32 0x45000000#32) (ix2 p j) = back (dn (plus (rowB x p) (line gt) (rowB f p)) (line g) (rowB tg p)) (plus (rowB x p) (line gt) (rowB f p)) j := by
  pointwise [k0_pay1]
  simp only [pay10, pay11, pay15, pay16]
  rfl

theorem pay2 : k0_pay2 gt (k0_pay10 f gt x) (k0_pay11 f gt x) (k0_pay15 f gt g x tg) (k0_pay16 f gt g x tg) (Scalar.ofBits .f32 0x45000000#32) (ix2 p j) = back (dn (plus (rowB x p) (line gt) (rowB f p)) (line g) (rowB tg p)) (plus (rowB x p) (line gt) (rowB f p)) j * line gt j := by
  pointwise [k0_pay2]
  exact congrArg (fun a : EReal => a * line gt j) (pay1 x f tg gt g p j)

theorem pay13 (y z : Fin 1) : k0_pay13 f gt g x tg (ix2 y z) = ∑ p, part (plus (rowB x p) (line gt) (rowB f p)) (line g) (rowB tg p) := by
  refine Eq.trans ?_ (parts Finset.univ fun p => ∑ k, err (plus (rowB x p) (line gt) (rowB f p)) (line g) (rowB tg p) k * err (plus (rowB x p) (line gt) (rowB f p)) (line g) (rowB tg p) k)
  rw [← half]
  pointwise [k0_pay13]
  simp only [pay12]
  rfl

theorem pay3 (z : Fin 1) (l : Fin 128) : k0_pay3 (k0_pay13 f gt g x tg) (ix2 z l) = ∑ p, part (plus (rowB x p) (line gt) (rowB f p)) (line g) (rowB tg p) := by
  pointwise [k0_pay3]
  simp only [pay13]

theorem pay5 (z : Fin 1) : k0_pay5 (k0_pay11 f gt x) (k0_pay14 f gt g x tg) (ix2 z j) = ∑ p, dy (plus (rowB x p) (line gt) (rowB f p)) (line g) (rowB tg p) j * xh (plus (rowB x p) (line gt) (rowB f p)) j := by
  pointwise [k0_pay5]
  simp only [pay11, pay14]

theorem pay7 (z : Fin 1) : k0_pay7 f (k0_pay10 f gt x) (k0_pay11 f gt x) (k0_pay15 f gt g x tg) (k0_pay16 f gt g x tg) (Scalar.ofBits .f32 0x45000000#32) (ix2 z j) = ∑ p, back (dn (plus (rowB x p) (line gt) (rowB f p)) (line g) (rowB tg p)) (plus (rowB x p) (line gt) (rowB f p)) j * rowB f p j := by
  pointwise [k0_pay7]
  exact Finset.sum_congr rfl fun p _ => congrArg (fun a : EReal => a * rowB f p j) (pay1 x f tg gt g p j)

theorem pay4 (v : FVec Ideal S1x1 .f32) (old : Vec Ideal S1x128 .f32) (z : Fin 1) (l : Fin 128) :
    k0_pay4 (F := Ideal) v old (ix2 z l) = (fun a b : EReal => a + b) (old (ix2 z l)) (k0_pay3 (F := Ideal) v (ix2 z l)) := by
  pointwise [k0_pay4]

theorem pay6 (a b : FVec Ideal S256x2048 .f32) (old : Vec Ideal S1x2048 .f32) (z : Fin 1) :
    k0_pay6 (F := Ideal) a b old (ix2 z j) = (fun a b : EReal => a + b) (old (ix2 z j)) (k0_pay5 (F := Ideal) a b (ix2 z j)) := by
  pointwise [k0_pay6]

theorem pay8 (a : FVec Ideal S256x1 .f32) (b d : FVec Ideal S256x2048 .f32) (e : FVec Ideal S256x1 .f32) (s : Ideal .f32) (old : Vec Ideal S1x2048 .f32) (z : Fin 1) :
    k0_pay8 (F := Ideal) f a b d e s old (ix2 z j) = (fun a b : EReal => a + b) (old (ix2 z j)) (k0_pay7 (F := Ideal) f a b d e s (ix2 z j)) := by
  pointwise [k0_pay8]

end

section

variable {m : (ℓ : Loc nD τ sig) → Buf (Elt Ideal) ℓ} {c : Dev nD}

theorem ltN (t : Fin cfg0.N) : t.val < 8 := lt_of_lt_of_eq t.isLt (show cfg0.N = 8 from N_0)

theorem ptA_5 (t : Fin cfg0.N) (h : t.val = 0) : (outsAt0 m c t.val t.isLt).1 = k0_pay1 (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  have := ltN t
  rw [outsAt0_A m c t (by omega) (by omega) (by omega) (by omega) (by omega) (by omega)]
  dsimp only
  unfold out0_A_5
  rw [View.read_writes_junk_eq_canon, runA_5, stB_eq]
  simp only [ldB_eq, ldR_eq]

theorem ptA_6 (t : Fin cfg0.N) (h : t.val = 0) : (outsAt0 m c t.val t.isLt).2.1 = k0_pay2 (iblk m c 2 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  have := ltN t
  rw [outsAt0_A m c t (by omega) (by omega) (by omega) (by omega) (by omega) (by omega)]
  dsimp only
  unfold out0_A_6
  rw [View.read_writes_junk_eq_canon, runA_6, stH_eq]
  simp only [ldB_eq, ldR_eq]

theorem ptA_7 (t : Fin cfg0.N) (h : t.val = 0) : (outsAt0 m c t.val t.isLt).2.2.1 = k0_pay3 (k0_pay13 (iblk m c 1 t) (iblk m c 2 t) (iblk m c 3 t) (iblk m c 0 t) (iblk m c 4 t)) := by
  have := ltN t
  rw [outsAt0_A m c t (by omega) (by omega) (by omega) (by omega) (by omega) (by omega)]
  dsimp only
  unfold out0_A_7
  rw [View.read_writes_junk_eq_canon, runA_7, stL_eq]
  simp only [ldB_eq, ldR_eq]

theorem ptA_8 (t : Fin cfg0.N) (h : t.val = 0) : (outsAt0 m c t.val t.isLt).2.2.2.1 = k0_pay5 (k0_pay11 (iblk m c 1 t) (iblk m c 2 t) (iblk m c 0 t)) (k0_pay14 (iblk m c 1 t) (iblk m c 2 t) (iblk m c 3 t) (iblk m c 0 t) (iblk m c 4 t)) := by
  have := ltN t
  rw [outsAt0_A m c t (by omega) (by omega) (by omega) (by omega) (by omega) (by omega)]
  dsimp only
  unfold out0_A_8
  rw [View.read_writes_junk_eq_canon, runA_8, stR_eq]
  simp only [ldB_eq, ldR_eq]

theorem ptA_9 (t : Fin cfg0.N) (h : t.val = 0) : (outsAt0 m c t.val t.isLt).2.2.2.2 = k0_pay7 (iblk m c 1 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  have := ltN t
  rw [outsAt0_A m c t (by omega) (by omega) (by omega) (by omega) (by omega) (by omega)]
  dsimp only
  unfold out0_A_9
  rw [View.read_writes_junk_eq_canon, runA_9, stR_eq]
  simp only [ldB_eq, ldR_eq]

theorem ptB_5 (t : Fin cfg0.N) (h : 1 ≤ t.val) : (outsAt0 m c t.val t.isLt).1 = k0_pay1 (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  have := ltN t
  rw [outsAt0_B m c t (by omega) (by omega) (by omega) (by omega) (by omega) (by omega)]
  dsimp only
  unfold out0_B_5
  rw [View.read_writes_junk_eq_canon, runB_5, stB_eq]
  simp only [ldB_eq, ldR_eq]

theorem ptB_6 (t : Fin cfg0.N) (h : 1 ≤ t.val) : (outsAt0 m c t.val t.isLt).2.1 = k0_pay2 (iblk m c 2 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  have := ltN t
  rw [outsAt0_B m c t (by omega) (by omega) (by omega) (by omega) (by omega) (by omega)]
  dsimp only
  unfold out0_B_6
  rw [View.read_writes_junk_eq_canon, runB_6, stH_eq]
  simp only [ldB_eq, ldR_eq]

theorem ptB_7 (t : Fin cfg0.N) (h : 1 ≤ t.val) : (outsAt0 m c t.val t.isLt).2.2.1 = k0_pay4 (k0_pay13 (iblk m c 1 t) (iblk m c 2 t) (iblk m c 3 t) (iblk m c 0 t) (iblk m c 4 t)) (outsAt0 m c (t.val - 1) (Nat.lt_of_le_of_lt (Nat.sub_le _ _) t.isLt)).2.2.1 := by
  have := ltN t
  rw [outsAt0_B m c t (by omega) (by omega) (by omega) (by omega) (by omega) (by omega)]
  dsimp only
  unfold out0_B_7
  rw [View.read_writes_junk_eq_canon, runB_7, stL_eq]
  simp only [ldB_eq, ldR_eq, ldL_eq]

theorem ptB_8 (t : Fin cfg0.N) (h : 1 ≤ t.val) : (outsAt0 m c t.val t.isLt).2.2.2.1 = k0_pay6 (k0_pay11 (iblk m c 1 t) (iblk m c 2 t) (iblk m c 0 t)) (k0_pay14 (iblk m c 1 t) (iblk m c 2 t) (iblk m c 3 t) (iblk m c 0 t) (iblk m c 4 t)) (outsAt0 m c (t.val - 1) (Nat.lt_of_le_of_lt (Nat.sub_le _ _) t.isLt)).2.2.2.1 := by
  have := ltN t
  rw [outsAt0_B m c t (by omega) (by omega) (by omega) (by omega) (by omega) (by omega)]
  dsimp only
  unfold out0_B_8
  rw [View.read_writes_junk_eq_canon, runB_8, stR_eq]
  simp only [ldB_eq, ldR_eq]

theorem ptB_9 (t : Fin cfg0.N) (h : 1 ≤ t.val) : (outsAt0 m c t.val t.isLt).2.2.2.2 = k0_pay8 (iblk m c 1 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) (outsAt0 m c (t.val - 1) (Nat.lt_of_le_of_lt (Nat.sub_le _ _) t.isLt)).2.2.2.2 := by
  have := ltN t
  rw [outsAt0_B m c t (by omega) (by omega) (by omega) (by omega) (by omega) (by omega)]
  dsimp only
  unfold out0_B_9
  rw [View.read_writes_junk_eq_canon, runB_9, stR_eq]
  simp only [ldB_eq, ldR_eq]

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] := by
  decide +kernel

/-- Row `p` of a point's block. -/
def row (t : Fin cfg0.N) (p : Fin 256) : Fin 2048 := ⟨256 * t.val + p.val, by have := ltN t; omega⟩

/-- Row `p` of an array. -/
def rowA (x : Vec Ideal S2048x2048 .f32) (p : Fin 2048) (k : Fin 2048) : EReal := x (ix2 p k)

theorem blk0 (t : Fin cfg0.N) (p : Fin 256) : rowB (iblk m c 0 t) p = rowA (m ((c : Thread nD τ).loc main_arg0)) (row t p) := by
  funext k
  have e : (win0_0.blk t).view.emb (ix2 p k) = ix2 (row t p) k := by blk_ext [idx t, row]
  unfold rowB rowA
  blk_simp [iblk]
  rw [e]

theorem blk1 (t : Fin cfg0.N) (p : Fin 256) : rowB (iblk m c 1 t) p = rowA (m ((c : Thread nD τ).loc main_arg1)) (row t p) := by
  funext k
  have e : (win0_1.blk t).view.emb (ix2 p k) = ix2 (row t p) k := by blk_ext [idx t, row]
  unfold rowB rowA
  blk_simp [iblk]
  rw [e]

theorem blk4 (t : Fin cfg0.N) (p : Fin 256) : rowB (iblk m c 4 t) p = rowA (m ((c : Thread nD τ).loc main_arg4)) (row t p) := by
  funext k
  have e : (win0_4.blk t).view.emb (ix2 p k) = ix2 (row t p) k := by blk_ext [idx t, row]
  unfold rowB rowA
  blk_simp [iblk]
  rw [e]

theorem blk2 (t : Fin cfg0.N) : line (iblk m c 2 t) = line (m ((c : Thread nD τ).loc main_arg2)) := by
  funext k
  have e : (win0_2.blk t).view.emb (ix2 (0 : Fin 1) k) = ix2 (0 : Fin 1) k := by blk_ext [idx t]
  unfold line
  blk_simp [iblk]
  rw [e]

theorem blk3 (t : Fin cfg0.N) : line (iblk m c 3 t) = line (m ((c : Thread nD τ).loc main_arg3)) := by
  funext k
  have e : (win0_3.blk t).view.emb (ix2 (0 : Fin 1) k) = ix2 (0 : Fin 1) k := by blk_ext [idx t]
  unfold line
  blk_simp [iblk]
  rw [e]

end

section

variable (x f : Vec Ideal S2048x2048 .f32) (gt g : Vec Ideal S1x2048 .f32) (tg : Vec Ideal S2048x2048 .f32)

/-- Row `r` of the last residual sum. -/
def un (r : Fin 2048) : Fin 2048 → EReal := plus (rowA x r) (line gt) (rowA f r)

/-- The rows' gradient. -/
def Gx (i : S2048x2048.Idx) : EReal := back (dn (un x f gt (i 0)) (line g) (rowA tg (i 0))) (un x f gt (i 0)) (i 1)

/-- The gradient of the branch that the gate multiplies. -/
def Gf (i : S2048x2048.Idx) : EReal := Gx x f gt g tg i * line gt (i 1)

/-- The loss, on every lane. -/
def Gl (_ : S1x128.Idx) : EReal := ∑ r : Fin 2048, part (un x f gt r) (line g) (rowA tg r)

/-- The norm's scale's gradient. -/
def Gg (i : S1x2048.Idx) : EReal := ∑ r : Fin 2048, dy (un x f gt r) (line g) (rowA tg r) (i 1) * xh (un x f gt r) (i 1)

/-- The gate's gradient. -/
def Gt (i : S1x2048.Idx) : EReal := ∑ r : Fin 2048, Gx x f gt g tg (ix2 r (i 1)) * rowA f r (i 1)

end

section

variable {m : (ℓ : Loc nD τ sig) → Buf (Elt Ideal) ℓ} {c : Dev nD}

theorem pt5 (t : Fin cfg0.N) : (outsAt0 m c t.val t.isLt).1 = k0_pay1 (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  by_cases h : t.val = 0
  · exact ptA_5 t h
  · exact ptB_5 t (by omega)

theorem pt6 (t : Fin cfg0.N) : (outsAt0 m c t.val t.isLt).2.1 = k0_pay2 (iblk m c 2 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) := by
  by_cases h : t.val = 0
  · exact ptA_6 t h
  · exact ptB_6 t (by omega)

theorem arr5 : (dats m 0 c).arrAt 5 cfg0.N = Gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, pt5, pay1, blk0, blk1, blk2, blk3, blk4]
  exact (congrArg (Gx _ _ _ _ _) e).symm

theorem arr6 : (dats m 0 c).arrAt 6 cfg0.N = Gf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, pt6, pay2, blk0, blk1, blk2, blk3, blk4]
  exact (congrArg (Gf _ _ _ _ _) e).symm

theorem part7 (t : Fin cfg0.N) (z : Fin 1) (j : Fin 128) : k0_pay3 (k0_pay13 (iblk m c 1 t) (iblk m c 2 t) (iblk m c 3 t) (iblk m c 0 t) (iblk m c 4 t)) (ix2 z j) = ∑ p : Fin 256, (fun r => part (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r)) (row t p) := by
  rw [pay3]
  refine Finset.sum_congr rfl fun p _ => ?_
  rw [blk0, blk1, blk2, blk3, blk4]
  rfl

theorem acc7 (z : Fin 1) (j : Fin 128) : (outsAt0 m c t0_7.val t0_7.isLt).2.2.1 (ix2 z j) = ∑ r : Fin 2048, part (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r) := by
  refine acc_blocks (fun r => part (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r))
    (fun n hn => (outsAt0 m c n (lt_of_lt_of_eq hn (show 8 = cfg0.N from N_0.symm))).2.2.1 (ix2 z j)) ?_ fun n hn h => ?_
  · exact (congrFun (ptA_7 t0_0 rfl) _).trans (part7 t0_0 z j)
  · have hN := lt_of_lt_of_eq hn (show 8 = cfg0.N from N_0.symm)
    refine (congrFun (ptB_7 ⟨n, hN⟩ h) _).trans ((pay4 _ _ _ _).trans ?_)
    exact congrArg (HAdd.hAdd ((outsAt0 m c (n - 1) (Nat.lt_of_le_of_lt (Nat.sub_le _ _) hN)).2.2.1 (ix2 z j) : EReal)) (part7 ⟨n, hN⟩ z j)

theorem arr7 : (dats m 0 c).arrAt 7 cfg0.N = Gl (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun y => ?_
  obtain ⟨z, j, rfl⟩ : ∃ z j, y = ix2 z j := ⟨_, _, eq_ix2 y⟩
  rw [after0_7]
  exact acc7 z j

theorem part8 (t : Fin cfg0.N) (z : Fin 1) (j : Fin 2048) : k0_pay5 (k0_pay11 (iblk m c 1 t) (iblk m c 2 t) (iblk m c 0 t)) (k0_pay14 (iblk m c 1 t) (iblk m c 2 t) (iblk m c 3 t) (iblk m c 0 t) (iblk m c 4 t)) (ix2 z j) = ∑ p : Fin 256, (fun r => dy (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r) j * xh (un (m ((c : Thread nD τ).loc main_arg0)) (m ((c : Thread nD τ).loc main_arg1)) (m ((c : Thread nD τ).loc main_arg2)) r) j) (row t p) := by
  rw [pay5]
  refine Finset.sum_congr rfl fun p _ => ?_
  rw [blk0, blk1, blk2, blk3, blk4]
  rfl

theorem acc8 (z : Fin 1) (j : Fin 2048) : (outsAt0 m c t0_7.val t0_7.isLt).2.2.2.1 (ix2 z j) = ∑ r : Fin 2048, dy (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r) j * xh (un (m ((c : Thread nD τ).loc main_arg0)) (m ((c : Thread nD τ).loc main_arg1)) (m ((c : Thread nD τ).loc main_arg2)) r) j := by
  refine acc_blocks (fun r => dy (un (m ((c : Thread nD τ).loc main_arg0)) (m ((c : Thread nD τ).loc main_arg1)) (m ((c : Thread nD τ).loc main_arg2)) r) (line (m ((c : Thread nD τ).loc main_arg3))) (rowA (m ((c : Thread nD τ).loc main_arg4)) r) j * xh (un (m ((c : Thread nD τ).loc main_arg0)) (m ((c : Thread nD τ).loc main_arg1)) (m ((c : Thread nD τ).loc main_arg2)) r) j)
    (fun n hn => (outsAt0 m c n (lt_of_lt_of_eq hn (show 8 = cfg0.N from N_0.symm))).2.2.2.1 (ix2 z j)) ?_ fun n hn h => ?_
  · exact (congrFun (ptA_8 t0_0 rfl) _).trans (part8 t0_0 z j)
  · have hN := lt_of_lt_of_eq hn (show 8 = cfg0.N from N_0.symm)
    refine (congrFun (ptB_8 ⟨n, hN⟩ h) _).trans ((pay6 _ _ _ _ _).trans ?_)
    exact congrArg (HAdd.hAdd ((outsAt0 m c (n - 1) (Nat.lt_of_le_of_lt (Nat.sub_le _ _) hN)).2.2.2.1 (ix2 z j) : EReal)) (part8 ⟨n, hN⟩ z j)

theorem arr8 : (dats m 0 c).arrAt 8 cfg0.N = Gg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun y => ?_
  obtain ⟨z, j, rfl⟩ : ∃ z j, y = ix2 z j := ⟨_, _, eq_ix2 y⟩
  rw [after0_8]
  exact acc8 z j

theorem part9 (t : Fin cfg0.N) (z : Fin 1) (j : Fin 2048) : k0_pay7 (iblk m c 1 t) (k0_pay10 (iblk m c 1 t) (iblk m c 2 t) (iblk m c 0 t)) (k0_pay11 (iblk m c 1 t) (iblk m c 2 t) (iblk m c 0 t)) (k0_pay15 (iblk m c 1 t) (iblk m c 2 t) (iblk m c 3 t) (iblk m c 0 t) (iblk m c 4 t)) (k0_pay16 (iblk m c 1 t) (iblk m c 2 t) (iblk m c 3 t) (iblk m c 0 t) (iblk m c 4 t)) (Scalar.ofBits .f32 0x45000000#32) (ix2 z j) = ∑ p : Fin 256, (fun r => Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg1)) r j) (row t p) := by
  rw [pay7]
  refine Finset.sum_congr rfl fun p _ => ?_
  rw [blk0, blk1, blk2, blk3, blk4]
  rfl

theorem acc9 (z : Fin 1) (j : Fin 2048) : (outsAt0 m c t0_7.val t0_7.isLt).2.2.2.2 (ix2 z j) = ∑ r : Fin 2048, Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg1)) r j := by
  refine acc_blocks (fun r => Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg1)) r j)
    (fun n hn => (outsAt0 m c n (lt_of_lt_of_eq hn (show 8 = cfg0.N from N_0.symm))).2.2.2.2 (ix2 z j)) ?_ fun n hn h => ?_
  · exact (congrFun (ptA_9 t0_0 rfl) _).trans (part9 t0_0 z j)
  · have hN := lt_of_lt_of_eq hn (show 8 = cfg0.N from N_0.symm)
    refine (congrFun (ptB_9 ⟨n, hN⟩ h) _).trans ((pay8 _ _ _ _ _ _ _ _ _).trans ?_)
    exact congrArg (HAdd.hAdd ((outsAt0 m c (n - 1) (Nat.lt_of_le_of_lt (Nat.sub_le _ _) hN)).2.2.2.2 (ix2 z j) : EReal)) (part9 ⟨n, hN⟩ z j)

theorem arr9 : (dats m 0 c).arrAt 9 cfg0.N = Gt (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_7 (by decide +kernel) _ fun y => ?_
  obtain ⟨z, j, rfl⟩ : ∃ z j, y = ix2 z j := ⟨_, _, eq_ix2 y⟩
  rw [after0_9]
  exact acc9 z j

end

section

open Cert.FlsRefIdeal.Read

variable (x f : Vec Ideal S2048x2048 .f32) (gt g : Vec Ideal S1x2048 .f32) (tg : Vec Ideal S2048x2048 .f32)

theorem entry (x : Vec Ideal S2048x2048 .f32) (i : S2048x2048.Idx) : x i = rowA x (i 0) (i 1) := congrArg x (eq_ix2 i)

theorem r2 (i : S2048x2048.Idx) : val_main_v2 (F := Ideal) x f gt i = un x f gt (i 0) (i 1) :=
  congrArg₂ (fun a b : EReal => a + b) (entry x i) (congrArg₂ (fun a b : EReal => a * b) ((val_main_v0_apply gt i).trans (congrArg gt ((eq_ix2 _).trans (congrArg₂ ix2 (Fin.ext rfl) (Fin.ext rfl))))) (entry f i))

theorem r9 (i : FlsRefIdeal.S2048x1.Idx) : val_main_v9 (F := Ideal) x f gt i = ms (un x f gt (i 0)) := by
  refine congrArg (fun s : EReal => Ideal.div s width + eps) ?_
  refine (val_main_v5_apply x f gt i).trans ((val_main_v4_apply x f gt _).trans ((zsum _).trans ?_))
  refine Finset.sum_congr rfl fun k _ => ?_
  exact congrArg (fun a : EReal => a * a) (r2 x f gt _)

theorem r10 (i : FlsRefIdeal.S2048x1.Idx) : val_main_v10 (F := Ideal) x f gt i = rr (un x f gt (i 0)) := congrArg Ideal.rsqrt (r9 x f gt i)

theorem r13 (i : FlsRefIdeal.S2048x1.Idx) : val_main_v13 (F := Ideal) x f gt i = ((-(1 / 2) : ℝ) : EReal) * Ideal.div (rr (un x f gt (i 0))) (ms (un x f gt (i 0))) :=
  congrArg₂ (fun a b : EReal => a * b) neg_half (congrArg₂ Ideal.div (r10 x f gt i) (r9 x f gt i))

theorem r15 (i : S2048x2048.Idx) : val_main_v15 (F := Ideal) x f gt i = xh (un x f gt (i 0)) (i 1) :=
  congrArg₂ (fun a b : EReal => a * b) (r2 x f gt i) ((val_main_v14_apply x f gt i).trans (r10 x f gt _))

theorem r18 (i : S2048x2048.Idx) : val_main_v18 (F := Ideal) x f gt g tg i = err (un x f gt (i 0)) (line g) (rowA tg (i 0)) (i 1) := by
  refine congrArg₂ (fun a b : EReal => a - b) (congrArg₂ (fun a b : EReal => a * b) (r15 x f gt i) ?_) (entry tg i)
  exact (val_main_v16_apply g i).trans (congrArg g ((eq_ix2 _).trans (congrArg₂ ix2 (Fin.ext rfl) (Fin.ext rfl))))

theorem r32 (i : S2048x2048.Idx) : val_main_v32 (F := Ideal) x f gt g tg i = dy (un x f gt (i 0)) (line g) (rowA tg (i 0)) (i 1) :=
  (grad (val_main_v18 (F := Ideal) x f gt g tg i)).trans (congrArg (fun e : EReal => Ideal.div e width) (r18 x f gt g tg i))

theorem r38 (i : S2048x2048.Idx) : val_main_v38 (F := Ideal) x f gt g tg i = dn (un x f gt (i 0)) (line g) (rowA tg (i 0)) (i 1) :=
  congrArg₂ (fun a b : EReal => a * b) (r32 x f gt g tg i) ((val_main_v37_apply g i).trans (congrArg g ((eq_ix2 _).trans (congrArg₂ ix2 (Fin.ext rfl) (Fin.ext rfl)))))

theorem r40 (i : FlsRefIdeal.S2048.Idx) : val_main_v40 (F := Ideal) x f gt g tg i = ∑ k, un x f gt (i 0) k * dn (un x f gt (i 0)) (line g) (rowA tg (i 0)) k := by
  refine (val_main_v40_apply x f gt g tg i).trans ((zsum _).trans ?_)
  refine Finset.sum_congr rfl fun k _ => ?_
  exact congrArg₂ (fun a b : EReal => a * b) (r2 x f gt _) (r38 x f gt g tg _)

theorem r46 (i : FlsRefIdeal.S2048x1.Idx) : val_main_v46 (F := Ideal) x f gt g tg i = sq (dn (un x f gt (i 0)) (line g) (rowA tg (i 0))) (un x f gt (i 0)) := by
  have h1 : (i 1).val < 1 := (i 1).isLt
  have e : idx_main_v41 i 0 = i 0 := Fin.ext (by show (i 0).val * 1 + (i 1).val = (i 0).val; omega)
  refine congrArg (fun s : EReal => Ideal.div s width) (congrArg₂ (fun a b : EReal => a * b) ((val_main_v41_apply x f gt g tg i).trans ((r40 x f gt g tg _).trans ?_)) (r13 x f gt i))
  rw [e]

theorem r48 (i : S2048x2048.Idx) : val_main_v48 (F := Ideal) x f gt g tg i = sq (dn (un x f gt (i 0)) (line g) (rowA tg (i 0))) (un x f gt (i 0)) := by
  refine (val_main_v48_apply x f gt g tg i).trans ((val_main_v47_apply x f gt g tg _).trans ((zsum _).trans ?_))
  refine (Fin.sum_univ_one _).trans ?_
  exact r46 x f gt g tg _

theorem ref52 : val_main_v52 (F := Ideal) x f gt g tg = Gx x f gt g tg := by
  funext i
  refine Eq.trans ?_ (chain_eq (dn (un x f gt (i 0)) (line g) (rowA tg (i 0))) (un x f gt (i 0)) (i 1))
  refine congrArg₂ (fun a b : EReal => a + b) (congrArg₂ (fun a b : EReal => a + b) ?_ ?_) ?_
  · exact congrArg₂ (fun a b : EReal => a * b) (r38 x f gt g tg i) ((val_main_v42_apply x f gt i).trans (r10 x f gt _))
  · exact congrArg₂ (fun a b : EReal => a * b) (r2 x f gt i) (r48 x f gt g tg i)
  · exact congrArg₂ (fun a b : EReal => a * b) (r48 x f gt g tg i) (r2 x f gt i)

theorem ref58 : val_main_v58 (F := Ideal) x f gt g tg = Gf x f gt g tg := by
  funext i
  refine (mul_comm _ _).trans (congrArg₂ (fun a b : EReal => a * b) (congrFun (ref52 x f gt g tg) i) ?_)
  exact (val_main_v53_apply gt i).trans (congrArg gt ((eq_ix2 _).trans (congrArg₂ ix2 (Fin.ext rfl) (Fin.ext rfl))))

theorem r22 (i : FlsRefIdeal.S2048.Idx) : val_main_v22 (F := Ideal) x f gt g tg i =
    ∑ k, err (un x f gt (i 0)) (line g) (rowA tg (i 0)) k * err (un x f gt (i 0)) (line g) (rowA tg (i 0)) k := by
  refine (val_main_v22_apply x f gt g tg i).trans ((zsum _).trans ?_)
  refine Finset.sum_congr rfl fun k _ => ?_
  exact congrArg (fun a : EReal => a * a) (r18 x f gt g tg _)

theorem r25 (i : FlsRefIdeal.S_.Idx) : val_main_v25 (F := Ideal) x f gt g tg i =
    ∑ r, Ideal.div (∑ k, err (un x f gt r) (line g) (rowA tg r) k * err (un x f gt r) (line g) (rowA tg r) k) width := by
  refine (val_main_v25_apply x f gt g tg i).trans ((zsum _).trans ?_)
  refine Fintype.sum_equiv ⟨fun j : FlsRefIdeal.S2048.Idx => (j 0 : Fin 2048), ix1, fun j => (eq_ix1 j).symm, fun _ => rfl⟩ _ _ fun j => ?_
  exact congrArg (fun s : EReal => Ideal.div s width) (r22 x f gt g tg j)

theorem ref59 : val_main_v59 (F := Ideal) x f gt g tg = Gl x f gt g tg := by
  funext i
  refine (val_main_v59_apply x f gt g tg i).trans ?_
  refine Eq.trans ?_ (halves fun r => ∑ k, err (un x f gt r) (line g) (rowA tg r) k * err (un x f gt r) (line g) (rowA tg r) k)
  exact congrArg (fun s : EReal => Ideal.ofBits .f32 0x3F000000#32 * s) (r25 x f gt g tg _)

/-- The column that a row's reshaped sum reads. -/
theorem flat (i : S1x2048.Idx) (k : Fin 2048) (h : k.val = (i 0).val * 2048 + (i 1).val) : k = i 1 := by
  have h0 : (i 0).val < 1 := (i 0).isLt
  exact Fin.ext (by omega)

theorem ref36 : val_main_v36 (F := Ideal) x f gt g tg = Gg x f gt g tg := by
  funext i
  refine (val_main_v36_apply x f gt g tg i).trans ((val_main_v35_apply x f gt g tg _).trans ((zsum _).trans ?_))
  refine Finset.sum_congr rfl fun r _ => ?_
  rw [← flat i (idx_main_v35 (idx_main_v36 i) r 1) rfl, mul_comm]
  exact congrArg₂ (fun a b : EReal => a * b) (r15 x f gt _) (r32 x f gt g tg _)

theorem ref57 : val_main_v57 (F := Ideal) x f gt g tg = Gt x f gt g tg := by
  funext i
  refine (val_main_v57_apply x f gt g tg i).trans ((val_main_v56_apply x f gt g tg _).trans ((zsum _).trans ?_))
  refine Finset.sum_congr rfl fun r _ => ?_
  rw [← flat i (idx_main_v56 (idx_main_v57 i) r 1) rfl]
  exact congrArg₂ (fun a b : EReal => a * b) ((congrFun (ref52 x f gt g tg) _).trans (congrArg (Gx x f gt g tg) ((eq_ix2 _).trans (congrArg₂ ix2 (Fin.ext rfl) (Fin.ext rfl))))) (entry f _)

end

end Cert.FlsIdeal.Mat

namespace Cert.FlsClaims

open Idealize.ShloMosaic Idealize.SL.Sem

/-- The kernel's frame. -/
theorem frame_kernel : Cert.quiescent_Fls (hFls := Cert.Fls.Gen.facts) := fun m ρ _ => Cert.Fls.Gen.frame m ρ

/-- The idealized kernel's frame. -/
theorem frame_ideal : Cert.quiescent_FlsIdeal (hFlsIdeal := Cert.FlsIdeal.Gen.facts) := fun m ρ _ => Cert.FlsIdeal.Gen.frame m ρ

/-- The reference's frame. -/
theorem frame_ref : Cert.quiescent_FlsRefIdeal (hFlsRefIdeal := Cert.FlsRefIdeal.Gen.facts) := fun m ρ _ =>
  (θ_run Cert.FlsRefIdeal.defs _ _).mono
    (fun r h => ⟨fun c => (h c).2.2.2.2.2, Idealize.ShloMosaic.sem_eq_zero_of_no_sems (by decide) r.2⟩) (Cert.FlsRefIdeal.Value.run (F := Ideal) m ρ)

/-- The idealized kernel keeps what the kernel computes. -/
theorem preserves : Cert.preserves_Fls_FlsIdeal := trivial

/-- The kernel's results are the reference's. -/
theorem algebraic : Cert.algebraic_FlsIdeal_FlsRefIdeal (hFlsIdeal := Cert.FlsIdeal.Gen.facts) (hFlsRefIdeal := Cert.FlsRefIdeal.Gen.facts) := by
  haveI := Cert.FlsIdeal.Gen.facts
  haveI := Cert.FlsRefIdeal.Gen.facts
  intro m ρ m' ρ' _ hagree
  refine ⟨_, _, _, _, _, Cert.FlsIdeal.Value.run_blocks m ρ, ?_⟩
  refine (θ_run Cert.FlsRefIdeal.defs _ _).mono (fun _ h c => ?_) (Cert.FlsRefIdeal.Value.run (F := Ideal) m' ρ')
  obtain ⟨e0, e1, e2, e3, e4⟩ := hagree c
  obtain ⟨h0, h1, h2, h3, h4, h⟩ := h c
  refine ⟨h0.trans ?_, h1.trans ?_, h2.trans ?_, h3.trans ?_, h4.trans ?_, h⟩
  · refine (Cert.FlsRefIdeal.Read.val_main_v52_eq _ _).trans ((Cert.FlsIdeal.Mat.ref52 _ _ _ _ _).trans ?_)
    rw [e0, e1, e2, e3, e4]
    exact Cert.FlsIdeal.Mat.arr5.symm
  · refine (Cert.FlsRefIdeal.Read.val_main_v58_eq _ _).trans ((Cert.FlsIdeal.Mat.ref58 _ _ _ _ _).trans ?_)
    rw [e0, e1, e2, e3, e4]
    exact Cert.FlsIdeal.Mat.arr6.symm
  · refine (Cert.FlsRefIdeal.Read.val_main_v59_eq _ _ _ _ _).trans ((Cert.FlsIdeal.Mat.ref59 _ _ _ _ _).trans ?_)
    rw [e0, e1, e2, e3, e4]
    exact Cert.FlsIdeal.Mat.arr7.symm
  · refine (Cert.FlsRefIdeal.Read.val_main_v36_eq _ _ _ _ _).trans ((Cert.FlsIdeal.Mat.ref36 _ _ _ _ _).trans ?_)
    rw [e0, e1, e2, e3, e4]
    exact Cert.FlsIdeal.Mat.arr8.symm
  · refine (Cert.FlsRefIdeal.Read.val_main_v57_eq _ _).trans ((Cert.FlsIdeal.Mat.ref57 _ _ _ _ _).trans ?_)
    rw [e0, e1, e2, e3, e4]
    exact Cert.FlsIdeal.Mat.arr9.symm

end Cert.FlsClaims

end
-- ==== Proof.GfwMat.lean ====
/- The forward pass of the spatial gating unit: the GELU of both halves, the layer norm of the second, the causally
   masked mixing of each chunk of 128 rows in eight groups of columns, and the product with the first. -/
module

public import Idealize.ShloMosaic.Lib.Pointwise
public import Idealize.ShloMosaic.Lib.Pipeline.ValueKit
public import Idealize.ShloMosaic.Lib.Claim
public import proofs.«01_k».proof.Defs
public import proofs.«01_k».proof.Proof.Spec
public import proofs.«01_k».proof.Proof.Gen.Gfw.Frame
public import proofs.«01_k».proof.Proof.Gen.GfwIdeal.Value
public import proofs.«01_k».proof.Proof.Gen.GfwRefIdeal.Run
public import proofs.«01_k».proof.Proof.Gen.GfwRefIdeal.Read
public import Idealize.ShloMosaic.Adequacy
public import Idealize.ShloMosaic.Init

@[expose] public section

set_option maxRecDepth 16384

noncomputable section

namespace Cert.GfwIdeal.Mat

open Idealize.ShloMosaic Idealize.ShloMosaic.TcCoe Idealize.SL Idealize.SL.Sem Cert.GfwIdeal.Gen

open Cert.Gmlp (row4 chk sub grp lane)

/-! ## A grid point's body, written once for all chunks and groups -/

section

variable {F : FTy → Type} [FloatOps F] [Named F]

theorem slices_col : ∀ g : Fin 8, S128x1024.Slices ![0, 128 * g.val] S128x128 := by decide
theorem inb_tile : ∀ (q : Fin 4) (g : Fin 8) a, (![128 * q.val, 128 * g.val] : Fin 2 → Nat) a + S128x128.size a ≤ S512x1024.size a := by decide
theorem inb_rows : ∀ (q : Fin 4) a, (![128 * q.val, 0] : Fin 2 → Nat) a + S128x1024.size a ≤ S512x1024.size a := by decide
theorem inb_group : ∀ (g : Fin 8) a, (![g.val, 0, 0] : Fin 3 → Nat) a + S1x128x128.size a ≤ S8x128x128.size a := by decide
theorem inb_lane : ∀ (g : Fin 8) a, (![0, g.val] : Fin 2 → Nat) a + S128x1.size a ≤ S128x128.size a := by decide

/-- The constant vector of a 32-bit word. -/
def cst (S : Shape) (b : BitVec 32) : FVec F S .f32 := broadcast S (Scalar.ofBits .f32 b)

/-- The tanh form of the GELU. -/
def gelu (x : FVec F S128x1024 .f32) : FVec F S128x1024 .f32 :=
  mulf (mulf (cst S128x1024 0x3F000000#32) x) (addf (cst S128x1024 0x3F800000#32)
    (tanh (mulf (cst S128x1024 0x3F4C422A#32)
      (addf x (mulf (mulf (mulf (broadcast S128x1024 (Named.named κ "gelu" 0x3D372713#32)) x) x) x)))))

/-- The mean of each row. -/
def mean (x : FVec F S128x1024 .f32) : FVec F S128x1 .f32 :=
  divf (shapeCast S128x1 (multiReduction .add [1] S128 x 0x00000000#32 reduces_S128x1024_S128 (.inl rfl) rfl) shapeCasts_S128_S128x1)
    (cst S128x1 0x44800000#32)

/-- A row less its mean. -/
def cen (x : FVec F S128x1024 .f32) : FVec F S128x1024 .f32 := subf x (broadcastTo S128x1024 (mean x) broadcasts_S128x1_S128x1024)

/-- A row of factors spread over the rows. -/
def br (x : Vec F S1x1024 .f32) : FVec F S128x1024 .f32 :=
  broadcastTo S128x1024 (shapeCast S1x1024 x shapeCasts_S1x1024_S1x1024) broadcasts_S1x1024_S128x1024

/-- The layer norm of each row. -/
def norm (lg lb : Vec F S1x1024 .f32) (x : FVec F S128x1024 .f32) : FVec F S128x1024 .f32 :=
  addf (mulf (mulf (cen x) (broadcastTo S128x1024 (rsqrt (addf (mean (mulf (cen x) (cen x))) (cst S128x1 0x358637BD#32)))
    broadcasts_S128x1_S128x1024)) (br lg)) (br lb)

/-- Group `g`'s columns. -/
def cols (g : Fin 8) (x : FVec F S128x1024 .f32) : FVec F S128x128 .f32 := extractStridedSlice S128x128 ![0, 128 * g.val] x (slices_col g)

/-- A group's weights below the diagonal. -/
def wm (w : Vec F S1x128x128 .f32) : FVec F S128x128 .bf16 :=
  truncf .bf16 (select (cmpi .sge (iota .tc S128x128 32 [0] iota_S128x128_d0_w32) (iota .tc S128x128 32 [1] iota_S128x128_d1_w32))
    (shapeCast S128x128 w shapeCasts_S1x128x128_S128x128) (cst S128x128 0x00000000#32)) bitsLt_bf16_f32

/-- The block of a chunk and a group. -/
def tile (g : Fin 8) (u v : FVec F S128x1024 .f32) (lg lb : Vec F S1x1024 .f32) (w : Vec F S1x128x128 .f32) (b : Vec F S128x1 .f32) : FVec F S128x128 .bf16 :=
  truncf .bf16 (mulf (cols g (gelu u))
    (addf (matmul dot_S128x128_S128x128_S128x128_1_0_0_1_n_n none (wm w) (truncf .bf16 (cols g (norm lg lb (gelu v))) bitsLt_bf16_f32)
        (constant S128x128 .f32 0x00000000#32))
      (broadcastTo S128x128 (shapeCast S128x1 b shapeCasts_S128x1_S128x1) broadcasts_S128x1_S128x128))) bitsLt_bf16_f32

variable (x0 x1 : Vec F S512x1024 .f32) (x2 x3 : Vec F S1x1024 .f32) (x4 : Vec F S8x128x128 .f32) (x5 : Vec F S128x128 .f32)

/-- The store of a chunk and a group. -/
def piece (q : Fin 4) (g : Fin 8) : View.Piece (Elt F) S512x1024 .bf16 :=
  ⟨Rect.unit ![128 * q.val, 128 * g.val] S128x128.size (inb_tile q g),
    tile g (View.ld x0 (Rect.unit (s := S512x1024) ![128 * q.val, 0] S128x1024.size (inb_rows q)))
      (View.ld x1 (Rect.unit (s := S512x1024) ![128 * q.val, 0] S128x1024.size (inb_rows q))) (View.ld x2 r0_1) (View.ld x3 r0_1)
      (View.ld x4 (Rect.unit (s := S8x128x128) ![g.val, 0, 0] S1x128x128.size (inb_group g)))
      (View.ld x5 (Rect.unit (s := S128x128) ![0, g.val] S128x1.size (inb_lane g)))⟩

/-- The stores of a chunk, last first, before the stores `L`. -/
def stores (q : Fin 4) (L : List (View.Piece (Elt F) S512x1024 .bf16)) : List (View.Piece (Elt F) S512x1024 .bf16) :=
  piece x0 x1 x2 x3 x4 x5 q 7 :: piece x0 x1 x2 x3 x4 x5 q 6 :: piece x0 x1 x2 x3 x4 x5 q 5 :: piece x0 x1 x2 x3 x4 x5 q 4 ::
    piece x0 x1 x2 x3 x4 x5 q 3 :: piece x0 x1 x2 x3 x4 x5 q 2 :: piece x0 x1 x2 x3 x4 x5 q 1 :: piece x0 x1 x2 x3 x4 x5 q 0 :: L

/-- The stores of a point, last first. -/
def pieces : List (View.Piece (Elt F) S512x1024 .bf16) :=
  stores x0 x1 x2 x3 x4 x5 3 (stores x0 x1 x2 x3 x4 x5 2 (stores x0 x1 x2 x3 x4 x5 1 (stores x0 x1 x2 x3 x4 x5 0 [])))

theorem out_eq : out0_6 x0 x1 x2 x3 x4 x5 = View.canon (pieces x0 x1 x2 x3 x4 x5) := by
  rfl

variable {x0 x1 x2 x3 x4 x5}

theorem mem_stores {q : Fin 4} {L : List (View.Piece (Elt F) S512x1024 .bf16)} {pc : View.Piece (Elt F) S512x1024 .bf16}
    (h : pc ∈ stores x0 x1 x2 x3 x4 x5 q L) : (∃ g, pc = piece x0 x1 x2 x3 x4 x5 q g) ∨ pc ∈ L := by
  simp only [stores, List.mem_cons] at h
  rcases h with h | h | h | h | h | h | h | h | h
  exacts [.inl ⟨_, h⟩, .inl ⟨_, h⟩, .inl ⟨_, h⟩, .inl ⟨_, h⟩, .inl ⟨_, h⟩, .inl ⟨_, h⟩, .inl ⟨_, h⟩, .inl ⟨_, h⟩, .inr h]

theorem mem_pieces {pc : View.Piece (Elt F) S512x1024 .bf16} (h : pc ∈ pieces x0 x1 x2 x3 x4 x5) : ∃ q g, pc = piece x0 x1 x2 x3 x4 x5 q g := by
  rcases mem_stores h with h | h
  · exact ⟨_, h⟩
  rcases mem_stores h with h | h
  · exact ⟨_, h⟩
  rcases mem_stores h with h | h
  · exact ⟨_, h⟩
  rcases mem_stores h with h | h
  · exact ⟨_, h⟩
  exact absurd h List.not_mem_nil

theorem piece_mem (q : Fin 4) (g : Fin 8) : piece x0 x1 x2 x3 x4 x5 q g ∈ pieces x0 x1 x2 x3 x4 x5 := by
  have h : ∀ L, piece x0 x1 x2 x3 x4 x5 q g ∈ stores x0 x1 x2 x3 x4 x5 q L := fun L => by
    unfold stores
    fin_cases g <;> simp
  have up : ∀ (q' : Fin 4) (L), piece x0 x1 x2 x3 x4 x5 q g ∈ L → piece x0 x1 x2 x3 x4 x5 q g ∈ stores x0 x1 x2 x3 x4 x5 q' L := fun q' L hL => by
    unfold stores
    iterate 8 apply List.mem_cons_of_mem
    exact hL
  unfold pieces
  match q with
  | 0 => exact up 3 _ (up 2 _ (up 1 _ (h _)))
  | 1 => exact up 3 _ (up 2 _ (h _))
  | 2 => exact up 3 _ (h _)
  | 3 => exact h _

end

/-! ## The mathematics, over the extended real numbers -/

/-- The tanh form of the GELU. -/
def gl (x : EReal) : EReal :=
  Ideal.ofBits .f32 0x3F000000#32 * x * (1 +
    Ideal.tanh (Ideal.ofBits .f32 0x3F4C422A#32 * (x + ((8943 / 200000 : ℝ) : EReal) * x * x * x)))

/-- The mean of a row. -/
def mu (v : Fin 1024 → EReal) : EReal := Ideal.div (∑ k, v k) (Ideal.ofBits .f32 0x44800000#32)

/-- A row less its mean. -/
def ce (v : Fin 1024 → EReal) (j : Fin 1024) : EReal := v j - mu v

/-- The layer norm of a row. -/
def nr (lg lb v : Fin 1024 → EReal) (j : Fin 1024) : EReal :=
  ce v j * Ideal.rsqrt (mu (fun k => ce v k * ce v k) + Ideal.ofBits .f32 0x358637BD#32) * lg j + lb j

/-- A group's weights, zero above the diagonal. -/
def mk (w : Fin 128 → Fin 128 → EReal) (a b : Fin 128) : EReal := if b.val ≤ a.val then w a b else 0

/-- The unit's result at row `p` of a chunk and column `j`. -/
def unit (lg lb : Fin 1024 → EReal) (w : Fin 128 → Fin 128 → EReal) (b : Fin 128 → EReal) (u : EReal) (v : Fin 128 → Fin 1024 → EReal) (p : Fin 128) (j : Fin 1024) : EReal :=
  gl u * (∑ k : Fin 128, mk w p k * nr lg lb (fun i => gl (v k i)) j + b p)

theorem cmpi_sge_fin : ∀ p q : Fin 128, IntOp.cmpi .sge (BitVec.ofNat 32 p.val) (BitVec.ofNat 32 q.val) = if q.val ≤ p.val then 1#1 else 0#1 := by
  decide +kernel

theorem named_gelu : Named.named (F := Ideal) κ "gelu" (φ := .f32) 0x3D372713#32 = ((8943 / 200000 : ℝ) : EReal) :=
  IdealRules.named_const.ideal_named_scalar _ _ _ _ rfl

/-! ## The body's values -/

theorem gelu_val (x : FVec Ideal S128x1024 .f32) (i : S128x1024.Idx) : gelu x i = gl (x i) := by
  pointwise [gelu, cst]
  rw [named_gelu]
  rfl

theorem mean_val (x : FVec Ideal S128x1024 .f32) (a : Fin 128) (z : Fin 1) : mean x (ix2 a z) = mu (fun k => x (ix2 a k)) := by
  pointwise [mean, cst]
  rfl

theorem cen_val (x : FVec Ideal S128x1024 .f32) (a : Fin 128) (j : Fin 1024) : cen x (ix2 a j) = ce (fun k => x (ix2 a k)) j := by
  pointwise [cen]
  rw [mean_val]
  rfl

theorem br_val (x : Vec Ideal S1x1024 .f32) (a : Fin 128) (j : Fin 1024) : br x (ix2 a j) = x (ix2 0 j) := by
  pointwise [br]

theorem norm_val (lg lb : Vec Ideal S1x1024 .f32) (x : FVec Ideal S128x1024 .f32) (a : Fin 128) (j : Fin 1024) :
    norm lg lb x (ix2 a j) = nr (fun k => lg (ix2 0 k)) (fun k => lb (ix2 0 k)) (fun k => x (ix2 a k)) j := by
  have h : ∀ k, mulf (cen x) (cen x) (ix2 a k) = ce (fun k => x (ix2 a k)) k * ce (fun k => x (ix2 a k)) k := fun k => by
    pointwise
    rw [cen_val]
  pointwise [norm, cst]
  rw [cen_val, mean_val, br_val, br_val]
  simp only [h]
  rfl

theorem wm_val (w : Vec Ideal S1x128x128 .f32) (p q : Fin 128) : wm w (ix2 p q) = mk (fun a b => w (ix3 0 a b)) p q := by
  pointwise [wm, cst]
  rw [cmpi_sge_fin]
  unfold mk
  split
  · rfl
  · rfl

theorem cols_val (g : Fin 8) (x : FVec Ideal S128x1024 .f32) (p d : Fin 128) : cols g x (ix2 p d) = x (ix2 p (Gmlp.col g d)) := by
  pointwise [cols]
  rfl

theorem tile_val (g : Fin 8) (u v : FVec Ideal S128x1024 .f32) (lg lb : Vec Ideal S1x1024 .f32) (w : Vec Ideal S1x128x128 .f32) (b : Vec Ideal S128x1 .f32)
    (p d : Fin 128) : tile g u v lg lb w b (ix2 p d) =
      unit (fun k => lg (ix2 0 k)) (fun k => lb (ix2 0 k)) (fun a b => w (ix3 0 a b)) (fun a => b (ix2 a 0)) (u (ix2 p (Gmlp.col g d))) (fun a k => v (ix2 a k))
        p (Gmlp.col g d) := by
  pointwise [tile]
  simp only [cols_val, wm_val, norm_val, gelu_val]
  rfl

theorem emb_tile (q : Fin 4) (g : Fin 8) (p d : Fin 128) :
    (Rect.unit (s := S512x1024) ![128 * q.val, 128 * g.val] S128x128.size (inb_tile q g)).idx (ix2 p d) = ix2 (row4 q p) (Gmlp.col g d) := by
  pointwise
  idx_ext

/-- The block a point leaves, at row `r` and column `j`. -/
theorem out_val (x0 x1 : Vec Ideal S512x1024 .f32) (x2 x3 : Vec Ideal S1x1024 .f32) (x4 : Vec Ideal S8x128x128 .f32) (x5 : Vec Ideal S128x128 .f32)
    (r : Fin 512) (j : Fin 1024) : out0_6 x0 x1 x2 x3 x4 x5 (ix2 r j) =
      unit (fun k => x2 (ix2 0 k)) (fun k => x3 (ix2 0 k)) (fun a b => x4 (ix3 (grp j) a b)) (fun a => x5 (ix2 a ⟨(grp j).val, by omega⟩))
        (x0 (ix2 r j)) (fun a k => x1 (ix2 (row4 (chk r) a) k)) (sub r) j := by
  rw [out_eq]
  refine (View.canon_apply_of_pieces (fun y : S512x1024.Idx => unit (fun k => x2 (ix2 0 k)) (fun k => x3 (ix2 0 k)) (fun a b => x4 (ix3 (grp (y 1)) a b))
    (fun a => x5 (ix2 a ⟨(grp (y 1)).val, by omega⟩)) (x0 (ix2 (y 0) (y 1))) (fun a k => x1 (ix2 (row4 (chk (y 0)) a) k)) (sub (y 0)) (y 1))
    _ ?_ _ ?_).trans rfl
  · rintro pc hp x
    obtain ⟨q, g, rfl⟩ := mem_pieces hp
    obtain ⟨p, d, rfl⟩ : ∃ p d, x = ix2 p d := ⟨_, _, eq_ix2 x⟩
    refine (tile_val g _ _ _ _ _ _ p d).trans ?_
    rw [show (piece x0 x1 x2 x3 x4 x5 q g).1.emb (ix2 p d) = ix2 (row4 q p) (Gmlp.col g d) from emb_tile q g p d]
    simp only [ix2_0, ix2_1, Gmlp.chk_row4, Gmlp.sub_row4, Gmlp.grp_col]
    congr 1
    · funext k; exact congrArg x2 (by pointwise)
    · funext k; exact congrArg x3 (by pointwise)
    · funext a b; exact congrArg x4 (by pointwise)
    · funext a; exact congrArg x5 (by pointwise)
    · exact congrArg x0 (by pointwise; idx_ext)
    · funext a k; exact congrArg x1 (by pointwise; idx_ext)
  · refine ⟨_, piece_mem (chk r) (grp j), ?_⟩
    have h := (piece x0 x1 x2 x3 x4 x5 (chk r) (grp j)).1.idx_mem (ix2 (sub r) (lane j))
    rwa [show (piece x0 x1 x2 x3 x4 x5 (chk r) (grp j)).1.idx (ix2 (sub r) (lane j)) = ix2 r j from
      (emb_tile _ _ _ _).trans (by rw [Gmlp.row4_chk_sub, Gmlp.col_grp_lane])] at h

/-! ## The whole array -/

theorem ltN (t : Fin cfg0.N) : t.val < 4 := lt_of_lt_of_eq t.isLt (show cfg0.N = 4 from N_0)

theorem idx : ∀ t : Fin cfg0.N, win0_0.index t = ![t.val, 0] ∧ win0_1.index t = ![t.val, 1] ∧ win0_2.index t = ![0, 0] ∧ win0_3.index t = ![0, 0] ∧
    win0_4.index t = ![0, 0, 0] ∧ win0_5.index t = ![0, 0] ∧ win0_6.index t = ![t.val, 0] := by
  decide +kernel

/-- Row `r` of a point's block. -/
def row (t : Fin cfg0.N) (r : Fin 512) : Fin 2048 := ⟨512 * t.val + r.val, by have := ltN t; omega⟩

/-- Row `b` of the chunk of row `a`. -/
def mate (a : Fin 2048) (b : Fin 128) : Fin 2048 := ⟨128 * (a.val / 128) + b.val, by omega⟩

/-- The row within its chunk. -/
def low (a : Fin 2048) : Fin 128 := ⟨a.val % 128, by omega⟩

/-- Column `j` of the two halves that the unit reads. -/
def lo (j : Fin 1024) : Fin 10240 := ⟨j.val, by omega⟩
def hi (j : Fin 1024) : Fin 10240 := ⟨1024 + j.val, by omega⟩

theorem mate_row (t : Fin cfg0.N) (r : Fin 512) (b : Fin 128) : row t (row4 (chk r) b) = mate (row t r) b :=
  Fin.ext (by show 512 * t.val + (128 * (r.val / 128) + b.val) = 128 * ((512 * t.val + r.val) / 128) + b.val; omega)

theorem low_row (t : Fin cfg0.N) (r : Fin 512) : sub r = low (row t r) := Fin.ext (by show r.val % 128 = (512 * t.val + r.val) % 128; omega)

/-- The result. -/
def G (z : Vec Ideal S2048x10240 .f32) (lg lb : Vec Ideal S1024 .f32) (w : Vec Ideal S8x128x128 .f32) (b : Vec Ideal S8x128 .f32) (i : S2048x1024.Idx) : EReal :=
  unit (fun k => lg (ix1 k)) (fun k => lb (ix1 k)) (fun p q => w (ix3 (grp (i 1)) p q)) (fun p => b (ix2 (grp (i 1)) p)) (z (ix2 (i 0) (lo (i 1))))
    (fun a k => z (ix2 (mate (i 0) a) (hi k))) (low (i 0)) (i 1)

section

variable {m : (ℓ : Loc nD τ sig) → Buf (Elt Ideal) ℓ} {c : Dev nD}

theorem blk0 (t : Fin cfg0.N) (r : Fin 512) (j : Fin 1024) : iblk m c 0 t (ix2 r j) = m ((c : Thread nD τ).loc main_arg0) (ix2 (row t r) (lo j)) := by
  blk_ext [iblk, V, idx t, row, lo]

theorem blk1 (t : Fin cfg0.N) (r : Fin 512) (j : Fin 1024) : iblk m c 1 t (ix2 r j) = m ((c : Thread nD τ).loc main_arg0) (ix2 (row t r) (hi j)) := by
  blk_ext [iblk, V, idx t, row, hi]

theorem blk2 (t : Fin cfg0.N) (j : Fin 1024) : iblk m c 2 t (ix2 0 j) = m ((c : Thread nD τ).loc main_arg1) (ix1 j) := by
  have e : (win0_2.blk t).view.emb (ix2 (0 : Fin 1) j) = ix2 (0 : Fin 1) j := by blk_ext [idx t]
  blk_simp [iblk]
  rw [e]
  unfold V
  simp only [hostOps0, hostOps0_1, List.flatten_cons, List.flatten_nil, List.append_nil, List.cons_append, List.nil_append]
  entry_read
  pointwise

theorem blk3 (t : Fin cfg0.N) (j : Fin 1024) : iblk m c 3 t (ix2 0 j) = m ((c : Thread nD τ).loc main_arg2) (ix1 j) := by
  have e : (win0_3.blk t).view.emb (ix2 (0 : Fin 1) j) = ix2 (0 : Fin 1) j := by blk_ext [idx t]
  blk_simp [iblk]
  rw [e]
  unfold V
  simp only [hostOps0, hostOps0_1, List.flatten_cons, List.flatten_nil, List.append_nil, List.cons_append, List.nil_append]
  entry_read
  pointwise

theorem blk4 (t : Fin cfg0.N) (g : Fin 8) (a b : Fin 128) : iblk m c 4 t (ix3 g a b) = m ((c : Thread nD τ).loc main_arg3) (ix3 g a b) := by
  blk_ext [iblk, V, idx t]

theorem blk5 (t : Fin cfg0.N) (a : Fin 128) (g : Fin 8) :
    iblk m c 5 t (ix2 a (⟨g.val, by omega⟩ : Fin 128)) = m ((c : Thread nD τ).loc main_arg4) (ix2 g a) := by
  have e : (win0_5.blk t).view.emb (ix2 a (⟨g.val, by omega⟩ : Fin 128)) = ix2 a (⟨g.val, by omega⟩ : Fin 128) := by blk_ext [idx t]
  blk_simp [iblk]
  rw [e]
  unfold V
  simp only [hostOps0, hostOps0_1, List.flatten_cons, List.flatten_nil, List.append_nil, List.cons_append, List.nil_append]
  entry_read
  show pad S128x128 ![0, 0] ![0, 120] ![0, 0] (transpose S128x8 [1, 0] (m (c, Proc.tc.devRef main_arg4)) transposes_S8x128_S128x8_1_0)
    (sitofp (F := Ideal) .f32 (constantI S_ 32 0#32)) pads_S128x8_S128x128_000_01200 h_S_ (ix2 a (⟨g.val, by omega⟩ : Fin 128)) = _
  pointwise

theorem arr6 : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, j, rfl⟩ : ∃ r j, y = ix2 r j := ⟨_, _, eq_ix2 y⟩
  have e : (win0_6.blk t).view.emb (ix2 r j) = ix2 (row t r) j := by blk_ext [idx t, row]
  blk_simp
  rw [after0_6, out_val]
  refine Eq.trans ?_ (congrArg (G _ _ _ _ _) e).symm
  unfold G
  simp only [ix2_0, ix2_1]
  rw [← low_row]
  congr 1
  · funext k; exact blk2 t k
  · funext k; exact blk3 t k
  · funext a b; exact blk4 t _ a b
  · funext a; exact blk5 t a _
  · exact blk0 t r j
  · funext a k
    rw [← mate_row]
    exact blk1 t _ k

end

/-! ## The reference's values -/

section

open Cert.GfwRefIdeal.Read

variable (z : Vec Ideal S2048x10240 .f32) (lg lb : Vec Ideal S1024 .f32) (w : Vec Ideal S8x128x128 .f32) (b : Vec Ideal S8x128 .f32)

theorem ofBits_44715 : Ideal.ofBits .f32 0x472EAB00#32 = ((44715 : ℝ) : EReal) := by
  simp [Ideal.ofBits, Ideal.ieee, -EReal.coe_mul]; try norm_num

theorem ofBits_million : Ideal.ofBits .f32 0x49742400#32 = ((1000000 : ℝ) : EReal) := by
  simp [Ideal.ofBits, Ideal.ieee, -EReal.coe_mul]; try norm_num

/-- The reference's GELU, whose coefficient is a quotient. -/
theorem gl_eq (x : EReal) : x * (Ideal.ofBits .f32 0x3F000000#32 * (1 + Ideal.tanh (Ideal.ofBits .f32 0x3F4C422A#32 *
    (x + Ideal.div (x * x * x * Ideal.ofBits .f32 0x472EAB00#32) (Ideal.ofBits .f32 0x49742400#32))))) = gl x := by
  rw [ofBits_44715, ofBits_million, Ideal.div_coe (by norm_num), mul_assoc (x * x * x), ← EReal.coe_mul,
    show (44715 * (1 / 1000000) : ℝ) = 8943 / 200000 by norm_num]
  unfold gl
  rw [mul_comm (x * x * x), ← mul_assoc, ← mul_assoc, ← mul_assoc, mul_comm x]

theorem gu (i : Fin 1) (a : Fin 2048) (j : Fin 1024) : val_main_v17 (F := Ideal) z (ix3 i a j) = gl (z (ix2 a (lo j))) := by
  have h : val_main_v1 (F := Ideal) z (ix2 a j) = z (ix2 a (lo j)) := by
    pointwise [val_main_v1, val_main_v0]
    rfl
  rw [← gl_eq, ← h]
  pointwise [val_main_v17, val_main_v16, val_main_v15, val_main_v14, val_main_cst_3, val_main_v13, val_main_v12, val_main_cst_2, val_main_v11, val_main_v10,
    val_main_v9, val_main_cst_1, val_main_v8, val_main_v7, val_main_v6, val_main_cst_0, val_main_v5, val_main_v4, val_main_cst, val_main_v3, val_main_v2]

theorem gv (i : Fin 1) (a : Fin 2048) (j : Fin 1024) : val_main_v34 (F := Ideal) z (ix3 i a j) = gl (z (ix2 a (hi j))) := by
  have h : val_main_v18 (F := Ideal) z (ix2 a j) = z (ix2 a (hi j)) := by
    pointwise [val_main_v18, val_main_v0]
    rfl
  rw [← gl_eq, ← h]
  pointwise [val_main_v34, val_main_v33, val_main_v32, val_main_v31, val_main_cst_8, val_main_v30, val_main_v29, val_main_cst_7, val_main_v28, val_main_v27,
    val_main_v26, val_main_cst_6, val_main_v25, val_main_v24, val_main_v23, val_main_cst_5, val_main_v22, val_main_v21, val_main_cst_4, val_main_v20, val_main_v19]

/-- The second half's row, after the GELU. -/
def rv (a : Fin 2048) (k : Fin 1024) : EReal := gl (z (ix2 a (hi k)))

theorem rmean (i : Fin 1) (a : Fin 2048) (y : Fin 1) : val_main_v38 (F := Ideal) z (ix3 i a y) = mu (rv z a) := by
  pointwise [val_main_v38, val_main_v37, val_main_cst_10, val_main_v36, val_main_v35, val_main_cst_9]
  simp only [gv]
  rfl

theorem rcen (i : Fin 1) (a : Fin 2048) (j : Fin 1024) : val_main_v40 (F := Ideal) z (ix3 i a j) = ce (rv z a) j := by
  pointwise [val_main_v40, val_main_v39]
  rw [gv, rmean]
  rfl

theorem rvar (i : Fin 1) (a : Fin 2048) (y : Fin 1) : val_main_v45 (F := Ideal) z (ix3 i a y) = mu (fun k => ce (rv z a) k * ce (rv z a) k) := by
  have h : ∀ (i : Fin 1) k, val_main_v41 (F := Ideal) z (ix3 i a k) = ce (rv z a) k * ce (rv z a) k := fun i k => by
    pointwise [val_main_v41]
    rw [rcen]
  pointwise [val_main_v45, val_main_v44, val_main_cst_12, val_main_v43, val_main_v42, val_main_cst_11]
  simp only [h]
  rfl

theorem rnorm (i : Fin 1) (a : Fin 2048) (j : Fin 1024) :
    val_main_v58 (F := Ideal) z lg lb (ix3 i a j) = nr (fun k => lg (ix1 k)) (fun k => lb (ix1 k)) (rv z a) j := by
  pointwise [val_main_v58, val_main_v57, val_main_v56, val_main_v55, val_main_v54, val_main_v53, val_main_v52, val_main_v51, val_main_v50, val_main_v49, val_main_v48,
    val_main_cst_13, val_main_v47, val_main_v46]
  rw [rvar, rmean, gv]
  rfl

/-- Row `p` of chunk `n`. -/
def row16 (n : Fin 16) (p : Fin 128) : Fin 2048 := ⟨128 * n.val + p.val, by omega⟩

theorem idx_row (n : Fin 16) (p : Fin 128) (g : Fin 8) (d : Fin 128) :
    (ix3 0 ⟨n.val * 128 + p.val, by omega⟩ ⟨g.val * 128 + d.val, by omega⟩ : Shape.Idx ⟨3, ![1, 2048, 1024]⟩) = ix3 0 (row16 n p) (Gmlp.col g d) := by
  have h1 : n.val * 128 + p.val = 128 * n.val + p.val := by omega
  have h2 : g.val * 128 + d.val = 128 * g.val + d.val := by omega
  rw [show (⟨n.val * 128 + p.val, by omega⟩ : Fin 2048) = row16 n p from Fin.ext h1, show (⟨g.val * 128 + d.val, by omega⟩ : Fin 1024) = Gmlp.col g d from Fin.ext h2]

theorem rnc (i : Fin 1) (n : Fin 16) (p : Fin 128) (g : Fin 8) (d : Fin 128) :
    val_main_v59 (F := Ideal) z lg lb (ix5 i n p g d) = nr (fun k => lg (ix1 k)) (fun k => lb (ix1 k)) (rv z (row16 n p)) (Gmlp.col g d) := by
  have h := rnorm z lg lb 0 (row16 n p) (Gmlp.col g d)
  pointwise [val_main_v59]
  exact Eq.trans (congrArg _ (idx_row n p g d)) h

theorem rwm (g : Fin 8) (p q : Fin 128) : val_main_v63 (F := Ideal) w (ix3 g p q) = mk (fun a b => w (ix3 g a b)) p q := by
  pointwise [val_main_v63, val_main_v62, val_main_v61, val_main_v60, val_main_c, val_main_call0_v4, val_main_call0_v2, val_main_call0_v1, val_main_call0_v0,
    val_main_call0_c, val_main_call0_v3, val_main_call0_v5, val_main_call0_c_0, val_main_call1_v1, val_main_call1_v2, val_main_call1_v0, val_main_c_14]
  rw [show IntOp.addi (BitVec.ofNat 32 p.val) 0#32 = BitVec.ofNat 32 p.val from BitVec.add_zero _, cmpi_sge_fin]
  unfold mk
  split
  · rfl
  · show (((0#32 : BitVec 32).toInt : ℝ) : EReal) = _
    simp

theorem rgate (i : Fin 1) (n : Fin 16) (p : Fin 128) (g : Fin 8) (d : Fin 128) : val_main_v69 (F := Ideal) z lg lb w b (ix5 i n p g d) =
    ∑ k : Fin 128, mk (fun a b => w (ix3 g a b)) p k * nr (fun k => lg (ix1 k)) (fun k => lb (ix1 k)) (rv z (row16 n k)) (Gmlp.col g d) + b (ix2 g p) := by
  pointwise [val_main_v69, val_main_v68, val_main_v67, val_main_v66, val_main_v65, val_main_v64]
  simp only [rnc, rwm, mul_comm (nr _ _ _ _)]

theorem rgate' (i : Fin 1) (a : Fin 2048) (j : Fin 1024) : val_main_v70 (F := Ideal) z lg lb w b (ix3 i a j) =
    ∑ k : Fin 128, mk (fun p q => w (ix3 (grp j) p q)) (low a) k * nr (fun k => lg (ix1 k)) (fun k => lb (ix1 k)) (rv z (mate a k)) j + b (ix2 (grp j) (low a)) := by
  have h := rgate z lg lb w b 0 ⟨a.val / 128, by omega⟩ (low a) (grp j) (lane j)
  rw [Gmlp.col_grp_lane] at h
  pointwise [val_main_v70]
  exact h

theorem ref73 : val_main_v73 (F := Ideal) z lg lb w b = G z lg lb w b := by
  funext i
  obtain ⟨a, j, rfl⟩ : ∃ a j, i = ix2 a j := ⟨_, _, eq_ix2 i⟩
  pointwise [val_main_v73, val_main_v72, val_main_v71]
  rw [gu, rgate']
  rfl

end

end Cert.GfwIdeal.Mat

namespace Cert.GfwClaims

open Idealize.ShloMosaic Idealize.SL.Sem

/-- The kernel's frame. -/
theorem frame_kernel : Cert.quiescent_Gfw (hGfw := Cert.Gfw.Gen.facts) := fun m ρ _ => Cert.Gfw.Gen.frame m ρ

/-- The idealized kernel's frame. -/
theorem frame_ideal : Cert.quiescent_GfwIdeal (hGfwIdeal := Cert.GfwIdeal.Gen.facts) := fun m ρ _ => Cert.GfwIdeal.Gen.frame m ρ

/-- The reference's frame. -/
theorem frame_ref : Cert.quiescent_GfwRefIdeal (hGfwRefIdeal := Cert.GfwRefIdeal.Gen.facts) := fun m ρ _ =>
  (θ_run Cert.GfwRefIdeal.defs _ _).mono
    (fun r h => ⟨fun c => (h c).2, Idealize.ShloMosaic.sem_eq_zero_of_no_sems (by decide) r.2⟩) (Cert.GfwRefIdeal.Value.run (F := Ideal) m ρ)

/-- The idealized kernel keeps what the kernel computes. -/
theorem preserves : Cert.preserves_Gfw_GfwIdeal :=
  IdealRules.named_const.statement Cert.GfwIdeal.κ "gelu" .f32 0x3D372713#32 ((8943 / 200000 : ℝ) : EReal) rfl

/-- The kernel's results are the reference's. -/
theorem algebraic : Cert.algebraic_GfwIdeal_GfwRefIdeal (hGfwIdeal := Cert.GfwIdeal.Gen.facts) (hGfwRefIdeal := Cert.GfwRefIdeal.Gen.facts) := by
  haveI := Cert.GfwIdeal.Gen.facts
  haveI := Cert.GfwRefIdeal.Gen.facts
  intro m ρ m' ρ' _ hagree
  refine ⟨_, Cert.GfwIdeal.Value.run_blocks m ρ, ?_⟩
  refine (θ_run Cert.GfwRefIdeal.defs _ _).mono (fun _ h c => ?_) (Cert.GfwRefIdeal.Value.run (F := Ideal) m' ρ')
  obtain ⟨e0, e1, e2, e3, e4⟩ := hagree c
  obtain ⟨h0, h⟩ := h c
  refine ⟨h0.trans ?_, h⟩
  · refine (Cert.GfwRefIdeal.Read.val_main_v73_eq _ _).trans ((Cert.GfwIdeal.Mat.ref73 _ _ _ _ _).trans ?_)
    rw [e0, e1, e2, e3, e4]
    exact Cert.GfwIdeal.Mat.arr6.symm

end Cert.GfwClaims

end
-- ==== Proof.MrgMat.lean ====
/- The two branch products and their gated sum. -/
module

public import Idealize.ShloMosaic.Lib.Pointwise
public import Idealize.ShloMosaic.Lib.Pipeline.ValueKit
public import Idealize.ShloMosaic.Lib.Claim
public import proofs.«01_k».proof.Defs
public import proofs.«01_k».proof.Proof.NormRow
public import proofs.«01_k».proof.Proof.Gen.Mrg.Frame
public import proofs.«01_k».proof.Proof.Gen.MrgIdeal.Value
public import proofs.«01_k».proof.Proof.Gen.MrgRefIdeal.Run
public import proofs.«01_k».proof.Proof.Gen.MrgRefIdeal.Read
public import Idealize.ShloMosaic.Adequacy
public import Idealize.ShloMosaic.Init

@[expose] public section

set_option maxRecDepth 16384

noncomputable section

namespace Cert.MrgIdeal.Mat

open Idealize.ShloMosaic Idealize.ShloMosaic.TcCoe Idealize.SL Idealize.SL.Sem Cert.MrgIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

/-- The logistic function. -/
def logi (a : EReal) : EReal := Ideal.div 1 (1 + Ideal.exp (-a))

/-- A block's product. -/
def prod (x : Vec Ideal S512x1024 .bf16) (w : Vec Ideal S1024x1024 .bf16) (p : Fin 512) (q : Fin 1024) : EReal := ∑ k : Fin 1024, x (ix2 p k) * w (ix2 k q)

section

variable (x y : Vec Ideal S512x1024 .bf16) (w v : Vec Ideal S1024x1024 .bf16) (za zb : Vec Ideal S512x1024 .f32) (ba bb : Vec Ideal S1x1024 .f32)
  (p : Fin 512) (q : Fin 1024)

theorem pay2 : k0_pay2 x w (ix2 p q) = prod x w p q := by
  pointwise [k0_pay2]
  rfl

theorem pay3 : k0_pay3 x w (ix2 p q) = prod x w p q := by
  pointwise [k0_pay3]
  rfl

theorem pay4 : k0_pay4 x w (ix2 p q) = prod x w p q := pay2 x w p q

theorem pay5 : k0_pay5 x w (ix2 p q) = prod x w p q := pay3 x w p q

theorem pay6 : k0_pay6 za ba (ix2 p q) = logi (za (ix2 p q) + ba (ix2 0 q)) := by
  pointwise [k0_pay6]
  simp only [zero_sub]
  rfl

theorem pay1 : k0_pay1 (k0_pay2 x w) (k0_pay3 y v) (k0_pay6 za ba) (k0_pay7 zb bb) (k0_pay8 (F := Ideal)) (ix2 p q) =
    (fun a b c d : EReal => a * b + c * d) (logi (za (ix2 p q) + ba (ix2 0 q))) (prod x w p q) (logi (zb (ix2 p q) + bb (ix2 0 q))) (prod y v p q) := by
  pointwise [k0_pay1, k0_pay7, k0_pay8]
  simp only [pay2, pay3, pay6, zero_sub]
  rfl

theorem out8 : out0_8 x y w v za zb ba bb (ix2 p q) = prod x w p q := by
  unfold out0_8
  rw [View.canon_unit_zero (S := S512x1024) z2]
  simp only [View.ld_unit_zero (S := S512x1024) z2, View.ld_unit_zero (S := S1024x1024) z2, View.ld_unit_zero (S := S1x1024) z2]
  exact pay4 x w p q

theorem out9 : out0_9 x y w v za zb ba bb (ix2 p q) = prod y v p q := by
  unfold out0_9
  rw [View.canon_unit_zero (S := S512x1024) z2]
  simp only [View.ld_unit_zero (S := S512x1024) z2, View.ld_unit_zero (S := S1024x1024) z2, View.ld_unit_zero (S := S1x1024) z2]
  exact pay5 y v p q

theorem out10 : out0_10 x y w v za zb ba bb (ix2 p q) =
    (fun a b c d : EReal => a * b + c * d) (logi (za (ix2 p q) + ba (ix2 0 q))) (prod x w p q) (logi (zb (ix2 p q) + bb (ix2 0 q))) (prod y v p q) := by
  unfold out0_10
  rw [View.canon_unit_zero (S := S512x1024) z2]
  simp only [View.ld_unit_zero (S := S512x1024) z2, View.ld_unit_zero (S := S1024x1024) z2, View.ld_unit_zero (S := S1x1024) z2]
  exact pay1 x y w v za zb ba bb p q

end

theorem ltN (t : Fin cfg0.N) : t.val < 8 := lt_of_lt_of_eq t.isLt (show cfg0.N = 8 from N_0)

/-- Row `p` of a point's block. -/
def row (t : Fin cfg0.N) (p : Fin 512) : Fin 2048 := ⟨512 * (t.val % 4) + p.val, by omega⟩

/-- Column `q` of a point's block. -/
def col (t : Fin cfg0.N) (q : Fin 1024) : Fin 2048 := ⟨1024 * (t.val / 4) + q.val, by have := ltN t; omega⟩

/-- Column `j` of the first gate's part of `z`, of the second's, and of the two parts of the bias. -/
def zlo (j : Fin 2048) : Fin 10240 := ⟨6144 + j.val, by omega⟩
def zhi (j : Fin 2048) : Fin 10240 := ⟨8192 + j.val, by omega⟩
def blo (j : Fin 2048) : Fin 4096 := ⟨j.val, by omega⟩
def bhi (j : Fin 2048) : Fin 4096 := ⟨2048 + j.val, by omega⟩

theorem idx : ∀ t : Fin cfg0.N, win0_0.index t = ![t.val % 4, 0] ∧ win0_1.index t = ![t.val % 4, 0] ∧ win0_2.index t = ![0, t.val / 4] ∧ win0_3.index t = ![0, t.val / 4] ∧ win0_4.index t = ![t.val % 4, 6 + t.val / 4] ∧ win0_5.index t = ![t.val % 4, 8 + t.val / 4] ∧ win0_6.index t = ![0, t.val / 4] ∧ win0_7.index t = ![0, 2 + t.val / 4] ∧ win0_8.index t = ![t.val % 4, t.val / 4] ∧ win0_9.index t = ![t.val % 4, t.val / 4] ∧ win0_10.index t = ![t.val % 4, t.val / 4] := by
  decide +kernel

/-- The product. -/
def P (x : Vec Ideal S2048x1024 .bf16) (w : Vec Ideal S1024x2048 .bf16) (i : S2048x2048.Idx) : EReal := ∑ k : Fin 1024, x (ix2 (i 0) k) * w (ix2 k (i 1))

/-- The two gates. -/
def ga (z : Vec Ideal S2048x10240 .f32) (b : Vec Ideal S1x4096 .f32) (i : S2048x2048.Idx) : EReal := logi (z (ix2 (i 0) (zlo (i 1))) + b (ix2 0 (blo (i 1))))
def gb (z : Vec Ideal S2048x10240 .f32) (b : Vec Ideal S1x4096 .f32) (i : S2048x2048.Idx) : EReal := logi (z (ix2 (i 0) (zhi (i 1))) + b (ix2 0 (bhi (i 1))))

/-- The gated sum of the two products. -/
def G (x y : Vec Ideal S2048x1024 .bf16) (w v : Vec Ideal S1024x2048 .bf16) (z : Vec Ideal S2048x10240 .f32) (b : Vec Ideal S1x4096 .f32) (i : S2048x2048.Idx) : EReal :=
  ga z b i * P x w i + gb z b i * P y v i

section

variable {m : (ℓ : Loc nD τ sig) → Buf (Elt Ideal) ℓ} {c : Dev nD}

theorem blk0 (t : Fin cfg0.N) (p : Fin 512) (q : Fin 1024) : iblk m c 0 t (ix2 p q) = (m ((c : Thread nD τ).loc main_arg0)) (ix2 (row t p) q) := by
  have e : (win0_0.blk t).view.emb (ix2 p q) = ix2 (row t p) q := by blk_ext [idx t, row, col, zlo, zhi, blo, bhi]
  blk_simp [iblk]
  rw [e]

theorem blk1 (t : Fin cfg0.N) (p : Fin 512) (q : Fin 1024) : iblk m c 1 t (ix2 p q) = (m ((c : Thread nD τ).loc main_arg1)) (ix2 (row t p) q) := by
  have e : (win0_1.blk t).view.emb (ix2 p q) = ix2 (row t p) q := by blk_ext [idx t, row, col, zlo, zhi, blo, bhi]
  blk_simp [iblk]
  rw [e]

theorem blk2 (t : Fin cfg0.N) (p : Fin 1024) (q : Fin 1024) : iblk m c 2 t (ix2 p q) = (m ((c : Thread nD τ).loc main_arg2)) (ix2 p (col t q)) := by
  have e : (win0_2.blk t).view.emb (ix2 p q) = ix2 p (col t q) := by blk_ext [idx t, row, col, zlo, zhi, blo, bhi]
  blk_simp [iblk]
  rw [e]

theorem blk3 (t : Fin cfg0.N) (p : Fin 1024) (q : Fin 1024) : iblk m c 3 t (ix2 p q) = (m ((c : Thread nD τ).loc main_arg3)) (ix2 p (col t q)) := by
  have e : (win0_3.blk t).view.emb (ix2 p q) = ix2 p (col t q) := by blk_ext [idx t, row, col, zlo, zhi, blo, bhi]
  blk_simp [iblk]
  rw [e]

theorem blk4 (t : Fin cfg0.N) (p : Fin 512) (q : Fin 1024) : iblk m c 4 t (ix2 p q) = (m ((c : Thread nD τ).loc main_arg4)) (ix2 (row t p) (zlo (col t q))) := by
  have e : (win0_4.blk t).view.emb (ix2 p q) = ix2 (row t p) (zlo (col t q)) := by blk_ext [idx t, row, col, zlo, zhi, blo, bhi]
  blk_simp [iblk]
  rw [e]

theorem blk5 (t : Fin cfg0.N) (p : Fin 512) (q : Fin 1024) : iblk m c 5 t (ix2 p q) = (m ((c : Thread nD τ).loc main_arg4)) (ix2 (row t p) (zhi (col t q))) := by
  have e : (win0_5.blk t).view.emb (ix2 p q) = ix2 (row t p) (zhi (col t q)) := by blk_ext [idx t, row, col, zlo, zhi, blo, bhi]
  blk_simp [iblk]
  rw [e]

theorem blk6 (t : Fin cfg0.N) (p : Fin 1) (q : Fin 1024) : iblk m c 6 t (ix2 p q) = (m ((c : Thread nD τ).loc main_arg5)) (ix2 p (blo (col t q))) := by
  have e : (win0_6.blk t).view.emb (ix2 p q) = ix2 p (blo (col t q)) := by blk_ext [idx t, row, col, zlo, zhi, blo, bhi]
  blk_simp [iblk]
  rw [e]

theorem blk7 (t : Fin cfg0.N) (p : Fin 1) (q : Fin 1024) : iblk m c 7 t (ix2 p q) = (m ((c : Thread nD τ).loc main_arg5)) (ix2 p (bhi (col t q))) := by
  have e : (win0_7.blk t).view.emb (ix2 p q) = ix2 p (bhi (col t q)) := by blk_ext [idx t, row, col, zlo, zhi, blo, bhi]
  blk_simp [iblk]
  rw [e]

theorem pointA (t : Fin cfg0.N) (p : Fin 512) (q : Fin 1024) : prod (iblk m c 0 t) (iblk m c 2 t) p q = P (m ((c : Thread nD τ).loc main_arg0)) (m ((c : Thread nD τ).loc main_arg2)) (ix2 (row t p) (col t q)) :=
  Finset.sum_congr rfl fun k _ => congrArg₂ (fun a b : EReal => a * b) (blk0 t p k) (blk2 t k q)

theorem pointB (t : Fin cfg0.N) (p : Fin 512) (q : Fin 1024) : prod (iblk m c 1 t) (iblk m c 3 t) p q = P (m ((c : Thread nD τ).loc main_arg1)) (m ((c : Thread nD τ).loc main_arg3)) (ix2 (row t p) (col t q)) :=
  Finset.sum_congr rfl fun k _ => congrArg₂ (fun a b : EReal => a * b) (blk1 t p k) (blk3 t k q)

theorem arr8 : (dats m 0 c).arrAt 8 cfg0.N = P (m ((c : Thread nD τ).loc main_arg0)) (m ((c : Thread nD τ).loc main_arg2)) := by
  refine (dats m 0 c).arrAt_eq_of_covers 8 _ (by decide +kernel) fun t hf y => ?_
  obtain ⟨p, q, rfl⟩ : ∃ p q, y = ix2 p q := ⟨_, _, eq_ix2 y⟩
  have e : (win0_8.blk t).view.emb (ix2 p q) = ix2 (row t p) (col t q) := by blk_ext [idx t, row, col]
  blk_simp
  rw [after0_8, out8]
  exact (pointA t p q).trans (congrArg (P _ _) e).symm

theorem arr9 : (dats m 0 c).arrAt 9 cfg0.N = P (m ((c : Thread nD τ).loc main_arg1)) (m ((c : Thread nD τ).loc main_arg3)) := by
  refine (dats m 0 c).arrAt_eq_of_covers 9 _ (by decide +kernel) fun t hf y => ?_
  obtain ⟨p, q, rfl⟩ : ∃ p q, y = ix2 p q := ⟨_, _, eq_ix2 y⟩
  have e : (win0_9.blk t).view.emb (ix2 p q) = ix2 (row t p) (col t q) := by blk_ext [idx t, row, col]
  blk_simp
  rw [after0_9, out9]
  exact (pointB t p q).trans (congrArg (P _ _) e).symm

theorem arr10 : (dats m 0 c).arrAt 10 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨p, q, rfl⟩ : ∃ p q, y = ix2 p q := ⟨_, _, eq_ix2 y⟩
  have e : (win0_10.blk t).view.emb (ix2 p q) = ix2 (row t p) (col t q) := by blk_ext [idx t, row, col]
  blk_simp
  rw [after0_10, out10]
  refine Eq.trans ?_ (congrArg (G _ _ _ _ _ _) e).symm
  refine congrArg₂ (fun a b : EReal => a + b) (congrArg₂ (fun a b : EReal => a * b) (congrArg logi ?_) (pointA t p q)) (congrArg₂ (fun a b : EReal => a * b) (congrArg logi ?_) (pointB t p q))
  · exact congrArg₂ (fun a b : EReal => a + b) (blk4 t p q) (blk6 t 0 q)
  · exact congrArg₂ (fun a b : EReal => a + b) (blk5 t p q) (blk7 t 0 q)

end

section

open Cert.MrgRefIdeal.Read

variable (x y : Vec Ideal S2048x1024 .bf16) (w v : Vec Ideal S1024x2048 .bf16) (z : Vec Ideal S2048x10240 .f32) (b : Vec Ideal S1x4096 .f32)

theorem ref2 : val_main_v2 (F := Ideal) x w = P x w := by
  funext i
  refine (val_main_v2_apply x w i).trans (Finset.sum_congr rfl fun k _ => ?_)
  exact congrArg₂ (fun a b : EReal => a * b) (congrArg x ((eq_ix2 _).trans (congrArg₂ ix2 (Fin.ext rfl) (Fin.ext rfl)))) (congrArg w ((eq_ix2 _).trans (congrArg₂ ix2 (Fin.ext rfl) (Fin.ext rfl))))

theorem ref5 : val_main_v5 (F := Ideal) y v = P y v := by
  funext i
  refine (val_main_v5_apply y v i).trans (Finset.sum_congr rfl fun k _ => ?_)
  exact congrArg₂ (fun a b : EReal => a * b) (congrArg y ((eq_ix2 _).trans (congrArg₂ ix2 (Fin.ext rfl) (Fin.ext rfl)))) (congrArg v ((eq_ix2 _).trans (congrArg₂ ix2 (Fin.ext rfl) (Fin.ext rfl))))

theorem ref26 : val_main_v26 (F := Ideal) x w = P x w := ref2 x w

theorem ref27 : val_main_v27 (F := Ideal) y v = P y v := ref5 y v

theorem r9 (i : S2048x2048.Idx) : val_main_v9 (F := Ideal) z b i = (fun a b : EReal => a + b) (z (ix2 (i 0) (zlo (i 1)))) (b (ix2 0 (blo (i 1)))) := by
  refine congrArg₂ (fun a b : EReal => a + b) ((val_main_v6_apply z i).trans ?_) ((val_main_v8_apply b i).trans ((val_main_v7_apply b _).trans ?_))
  · exact (congrArg z ((eq_ix2 _).trans (congrArg₂ ix2 (Fin.ext rfl) (Fin.ext rfl))))
  · exact (congrArg b ((eq_ix2 _).trans (congrArg₂ ix2 (Fin.ext rfl) (Fin.ext rfl))))

theorem r19 (i : S2048x2048.Idx) : val_main_v19 (F := Ideal) z b i = (fun a b : EReal => a + b) (z (ix2 (i 0) (zhi (i 1)))) (b (ix2 0 (bhi (i 1)))) := by
  refine congrArg₂ (fun a b : EReal => a + b) ((val_main_v16_apply z i).trans ?_) ((val_main_v18_apply b i).trans ((val_main_v17_apply b _).trans ?_))
  · exact (congrArg z ((eq_ix2 _).trans (congrArg₂ ix2 (Fin.ext rfl) (Fin.ext rfl))))
  · exact (congrArg b ((eq_ix2 _).trans (congrArg₂ ix2 (Fin.ext rfl) (Fin.ext rfl))))

theorem r15 (i : S2048x2048.Idx) : val_main_v15 (F := Ideal) z b i = ga z b i :=
  congrArg₂ (fun a s : EReal => Ideal.div a (a + Ideal.exp (-s))) one (r9 z b i)

theorem r25 (i : S2048x2048.Idx) : val_main_v25 (F := Ideal) z b i = gb z b i :=
  congrArg₂ (fun a s : EReal => Ideal.div a (a + Ideal.exp (-s))) one (r19 z b i)

theorem ref31 : val_main_v31 (F := Ideal) x y w v z b = G x y w v z b := by
  funext i
  exact congrArg₂ (fun a b : EReal => a + b) (congrArg₂ (fun a b : EReal => a * b) (r15 z b i) (congrFun (ref2 x w) i))
    (congrArg₂ (fun a b : EReal => a * b) (r25 z b i) (congrFun (ref5 y v) i))

end

end Cert.MrgIdeal.Mat

namespace Cert.MrgClaims

open Idealize.ShloMosaic Idealize.SL.Sem

/-- The kernel's frame. -/
theorem frame_kernel : Cert.quiescent_Mrg (hMrg := Cert.Mrg.Gen.facts) := fun m ρ _ => Cert.Mrg.Gen.frame m ρ

/-- The idealized kernel's frame. -/
theorem frame_ideal : Cert.quiescent_MrgIdeal (hMrgIdeal := Cert.MrgIdeal.Gen.facts) := fun m ρ _ => Cert.MrgIdeal.Gen.frame m ρ

/-- The reference's frame. -/
theorem frame_ref : Cert.quiescent_MrgRefIdeal (hMrgRefIdeal := Cert.MrgRefIdeal.Gen.facts) := fun m ρ _ =>
  (θ_run Cert.MrgRefIdeal.defs _ _).mono
    (fun r h => ⟨fun c => (h c).2.2.2, Idealize.ShloMosaic.sem_eq_zero_of_no_sems (by decide) r.2⟩) (Cert.MrgRefIdeal.Value.run (F := Ideal) m ρ)

/-- The idealized kernel keeps what the kernel computes. -/
theorem preserves : Cert.preserves_Mrg_MrgIdeal := trivial

/-- The kernel's results are the reference's. -/
theorem algebraic : Cert.algebraic_MrgIdeal_MrgRefIdeal (hMrgIdeal := Cert.MrgIdeal.Gen.facts) (hMrgRefIdeal := Cert.MrgRefIdeal.Gen.facts) := by
  haveI := Cert.MrgIdeal.Gen.facts
  haveI := Cert.MrgRefIdeal.Gen.facts
  intro m ρ m' ρ' _ hagree
  refine ⟨_, _, _, Cert.MrgIdeal.Value.run_blocks m ρ, ?_⟩
  refine (θ_run Cert.MrgRefIdeal.defs _ _).mono (fun _ h c => ?_) (Cert.MrgRefIdeal.Value.run (F := Ideal) m' ρ')
  obtain ⟨e0, e1, e2, e3, e4, e5⟩ := hagree c
  obtain ⟨h0, h1, h2, h⟩ := h c
  refine ⟨h0.trans ?_, h1.trans ?_, h2.trans ?_, h⟩
  · refine (Cert.MrgRefIdeal.Read.val_main_v26_eq _ _).trans ((Cert.MrgIdeal.Mat.ref26 _ _).trans ?_)
    rw [e0, e2]
    exact Cert.MrgIdeal.Mat.arr8.symm
  · refine (Cert.MrgRefIdeal.Read.val_main_v27_eq _ _).trans ((Cert.MrgIdeal.Mat.ref27 _ _).trans ?_)
    rw [e1, e3]
    exact Cert.MrgIdeal.Mat.arr9.symm
  · refine (Cert.MrgRefIdeal.Read.val_main_v31_eq _ _ _ _ _ _).trans ((Cert.MrgIdeal.Mat.ref31 _ _ _ _ _ _).trans ?_)
    rw [e0, e1, e2, e3, e4, e5]
    exact Cert.MrgIdeal.Mat.arr10.symm

end Cert.MrgClaims

end
-- ==== Proof.Nb2Mat.lean ====
/- The backward pass of the second norm, and of the gate that multiplies the branch before it. -/
module

public import Idealize.ShloMosaic.Lib.Pointwise
public import Idealize.ShloMosaic.Lib.Pipeline.ValueKit
public import Idealize.ShloMosaic.Lib.Claim
public import proofs.«01_k».proof.Defs
public import Idealize.ShloMosaic.Lib.WholeRead
public import proofs.«01_k».proof.Proof.NormRow
public import proofs.«01_k».proof.Proof.Gen.Nb2.Frame
public import proofs.«01_k».proof.Proof.Gen.Nb2Ideal.Value
public import proofs.«01_k».proof.Proof.Gen.Nb2RefIdeal.Run
public import proofs.«01_k».proof.Proof.Gen.Nb2RefIdeal.Read
public import Idealize.ShloMosaic.Adequacy
public import Idealize.ShloMosaic.Init

@[expose] public section

set_option maxRecDepth 16384

noncomputable section

namespace Cert.Nb2Ideal.Mat

open Idealize.ShloMosaic Idealize.ShloMosaic.TcCoe Idealize.SL Idealize.SL.Sem Cert.Nb2Ideal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

section

variable {F : FTy → Type} [FloatOps F]

/-- The load of a whole block of rows. -/
def ldB (a : Memref sig .tc .vmem S256x2048 .f32) (h : a.IsWhole) (x : Vec F S256x2048 .f32) : Vec F S256x2048 .f32 :=
  View.readAt (Elt F) a.view (Rect.unit (s := S256x2048) ![0, 0] S256x2048.size inb_S256x2048_S256x2048_0_0).toLoadRect (h.unread x)

/-- The load of a whole row. -/
def ldR (a : Memref sig .tc .vmem S1x2048 .f32) (h : a.IsWhole) (x : Vec F S1x2048 .f32) : Vec F S1x2048 .f32 :=
  View.readAt (Elt F) a.view (Rect.unit (s := S1x2048) ![0, 0] S1x2048.size inb_S1x2048_S1x2048_0_0).toLoadRect (h.unread x)

theorem ldB_eq (a : Memref sig .tc .vmem S256x2048 .f32) (h : a.IsWhole) (x : Vec F S256x2048 .f32) : ldB a h x = x := by
  unfold ldB
  funext y
  obtain ⟨p, q, rfl⟩ : ∃ p q, y = ix2 p q := ⟨_, _, eq_ix2 y⟩
  rw [h.readAt_unread]
  pointwise

theorem ldR_eq (a : Memref sig .tc .vmem S1x2048 .f32) (h : a.IsWhole) (x : Vec F S1x2048 .f32) : ldR a h x = x := by
  unfold ldR
  funext y
  obtain ⟨p, q, rfl⟩ : ∃ p q, y = ix2 p q := ⟨_, _, eq_ix2 y⟩
  obtain rfl : p = 0 := Subsingleton.elim _ _
  rw [h.readAt_unread]
  pointwise

/-- The store of a whole block of rows. -/
def stB (x : FVec F S256x2048 .f32) : List (View.Piece (Elt F) S256x2048 .f32) := [⟨Rect.unit ![0, 0] S256x2048.size inb_S256x2048_S256x2048_0_0, x⟩]

/-- The store of a whole block of rows in bf16. -/
def stH (x : FVec F S256x2048 .bf16) : List (View.Piece (Elt F) S256x2048 .bf16) := [⟨Rect.unit ![0, 0] S256x2048.size inb_S256x2048_S256x2048_0_0, x⟩]

theorem stH_eq (x : FVec F S256x2048 .bf16) : View.canon (stH x) = x := View.canon_unit_zero (S := S256x2048) z2 _ _

/-- The store of a whole row. -/
def stR (x : FVec F S1x2048 .f32) : List (View.Piece (Elt F) S1x2048 .f32) := [⟨Rect.unit ![0, 0] S1x2048.size inb_S1x2048_S1x2048_0_0, x⟩]

theorem stB_eq (x : FVec F S256x2048 .f32) : View.canon (stB x) = x := View.canon_unit_zero (S := S256x2048) z2 _ _

theorem stR_eq (x : FVec F S1x2048 .f32) : View.canon (stR x) = x := View.canon_unit_zero (S := S1x2048) z2 _ _

/-- The store of the first output, at the first point. -/
theorem runA_7 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).1 =
      stB (k0_pay5 (ldR arg4 harg4 x3) (ldB arg2 harg2 x1) (ldB arg1 harg1 x0) (ldR arg5 harg5 x4) (ldB arg3 harg3 x2)) := by
  sl_kernel_rfl

/-- The store of the second output, at the first point. -/
theorem runA_8 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).2.1 =
      stH (k0_pay12 (k0_pay5 (ldR arg4 harg4 x3) (ldB arg2 harg2 x1) (ldB arg1 harg1 x0) (ldR arg5 harg5 x4) (ldB arg3 harg3 x2)) (ldR arg7 harg7 x6)) := by
  sl_kernel_rfl

/-- The store of the third output, at the first point. -/
theorem runA_9 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).2.2.1 =
      stR (k0_pay6 (ldB arg1 harg1 x0)) := by
  sl_kernel_rfl

/-- The store of the fourth output, at the first point. -/
theorem runA_10 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).2.2.2.1 =
      stR (k0_pay8 (ldR arg4 harg4 x3) (k0_pay3 (ldB arg2 harg2 x1)) (ldB arg1 harg1 x0)) := by
  sl_kernel_rfl

/-- The store of the fifth output, at the first point. -/
theorem runA_11 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).2.2.2.2.1 =
      stR (k0_pay10 (k0_pay3 (ldB arg2 harg2 x1)) (k0_pay4 (ldB arg1 harg1 x0) (ldR arg5 harg5 x4))) := by
  sl_kernel_rfl

/-- The store of the sixth output, at the first point. -/
theorem runA_12 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6) :
    (kernelRun0_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6).2.2.2.2.2.1 =
      stR (k0_pay13 (k0_pay5 (ldR arg4 harg4 x3) (ldB arg2 harg2 x1) (ldB arg1 harg1 x0) (ldR arg5 harg5 x4) (ldB arg3 harg3 x2)) (ldB arg6 harg6 x5)) := by
  sl_kernel_rfl

/-- The store of the first output, at a later point. -/
theorem runB_7 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).1 =
      stB (k0_pay5 (ldR arg4 harg4 x3) (ldB arg2 harg2 x1) (ldB arg1 harg1 x0) (ldR arg5 harg5 x4) (ldB arg3 harg3 x2)) := by
  sl_kernel_rfl

/-- The store of the second output, at a later point. -/
theorem runB_8 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).2.1 =
      stH (k0_pay12 (k0_pay5 (ldR arg4 harg4 x3) (ldB arg2 harg2 x1) (ldB arg1 harg1 x0) (ldR arg5 harg5 x4) (ldB arg3 harg3 x2)) (ldR arg7 harg7 x6)) := by
  sl_kernel_rfl

/-- The store of the third output, at a later point. -/
theorem runB_9 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).2.2.1 =
      stR (k0_pay7 (k0_pay6 (ldB arg1 harg1 x0)) (ldR arg10 harg10 xo9)) := by
  sl_kernel_rfl

/-- The store of the fourth output, at a later point. -/
theorem runB_10 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).2.2.2.1 =
      stR (k0_pay9 (ldR arg4 harg4 x3) (k0_pay3 (ldB arg2 harg2 x1)) (ldB arg1 harg1 x0) (ldR arg11 harg11 xo10)) := by
  sl_kernel_rfl

/-- The store of the fifth output, at a later point. -/
theorem runB_11 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).2.2.2.2.1 =
      stR (k0_pay11 (k0_pay3 (ldB arg2 harg2 x1)) (k0_pay4 (ldB arg1 harg1 x0) (ldR arg5 harg5 x4)) (ldR arg12 harg12 xo11)) := by
  sl_kernel_rfl

/-- The store of the sixth output, at a later point. -/
theorem runB_12 (c : Dev nD) (i : grid0.Coords) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3 hc4 hc5 hc6 hc7) (x0 x1 x2 x3 x4 x5 x6 xo9 xo10 xo11 xo12) :
    (kernelRun0_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 x6 xo9 xo10 xo11 xo12).2.2.2.2.2.1 =
      stR (k0_pay1 (k0_pay13 (k0_pay5 (ldR arg4 harg4 x3) (ldB arg2 harg2 x1) (ldB arg1 harg1 x0) (ldR arg5 harg5 x4) (ldB arg3 harg3 x2)) (ldB arg6 harg6 x5)) (ldR arg13 harg13 xo12)) := by
  sl_kernel_rfl

end

section

variable (g sc : Vec Ideal S1x2048 .f32) (x dh dr : Vec Ideal S256x2048 .f32) (p : Fin 256) (j : Fin 2048)

/-- Row `p` of a block. -/
def rowB (x : Vec Ideal S256x2048 .f32) (p : Fin 256) (k : Fin 2048) : EReal := x (ix2 p k)

/-- A row's only line. -/
def line (x : Vec Ideal S1x2048 .f32) (k : Fin 2048) : EReal := x (ix2 0 k)

theorem pay2 (z : Fin 1) : k0_pay2 x (ix2 p z) = rr (rowB x p) := by
  pointwise [k0_pay2]
  rfl

theorem pay3 : k0_pay3 x (ix2 p j) = xh (rowB x p) j := by
  pointwise [k0_pay3]
  simp only [pay2]
  rfl

theorem pay4 : k0_pay4 dh sc (ix2 p j) = rowB dh p j * (1 + line sc j) := by
  pointwise [k0_pay4]
  rfl

theorem pay5 : k0_pay5 g x dh sc dr (ix2 p j) = rowB dr p j + back (fun k => rowB dh p k * (1 + line sc k) * line g k) (rowB x p) j := by
  pointwise [k0_pay5]
  simp only [pay2, pay3, pay4]
  rfl

theorem pay6 (z : Fin 1) : k0_pay6 dh (ix2 z j) = ∑ p, rowB dh p j := by
  pointwise [k0_pay6]
  rfl

theorem pay8 (z : Fin 1) : k0_pay8 g (k0_pay3 x) dh (ix2 z j) = ∑ p, rowB dh p j * xh (rowB x p) j * line g j := by
  pointwise [k0_pay8]
  simp only [pay3]
  rfl

theorem pay10 (z : Fin 1) : k0_pay10 (k0_pay3 x) (k0_pay4 dh sc) (ix2 z j) = ∑ p, rowB dh p j * (1 + line sc j) * xh (rowB x p) j := by
  pointwise [k0_pay10]
  simp only [pay3, pay4]

theorem pay12 (d : FVec Ideal S256x2048 .f32) (gt : Vec Ideal S1x2048 .f32) :
    k0_pay12 (F := Ideal) d gt (ix2 p j) = (fun a b : EReal => a * b) (d (ix2 p j)) (line gt j) := by
  pointwise [k0_pay12]
  rfl

theorem pay13 (d : FVec Ideal S256x2048 .f32) (y : Vec Ideal S256x2048 .f32) (z : Fin 1) :
    k0_pay13 (F := Ideal) d y (ix2 z j) = ∑ p, (fun a b : EReal => a * b) (d (ix2 p j)) (rowB y p j) := by
  pointwise [k0_pay13]
  rfl

theorem pay1 (v : FVec Ideal S1x2048 .f32) (old : Vec Ideal S1x2048 .f32) (z : Fin 1) :
    k0_pay1 (F := Ideal) v old (ix2 z j) = (fun a b : EReal => a + b) (old (ix2 z j)) (v (ix2 z j)) := by
  pointwise [k0_pay1]

theorem pay7 (v : FVec Ideal S1x2048 .f32) (old : Vec Ideal S1x2048 .f32) (z : Fin 1) :
    k0_pay7 (F := Ideal) v old (ix2 z j) = (fun a b : EReal => a + b) (old (ix2 z j)) (v (ix2 z j)) := by
  pointwise [k0_pay7]

theorem pay9 (x : Vec Ideal S256x2048 .f32) (old : Vec Ideal S1x2048 .f32) (z : Fin 1) :
    k0_pay9 g x dh old (ix2 z j) = (fun a b : EReal => a + b) (old (ix2 z j)) (k0_pay8 g x dh (ix2 z j)) := by
  pointwise [k0_pay9]

theorem pay11 (x y : FVec Ideal S256x2048 .f32) (old : Vec Ideal S1x2048 .f32) (z : Fin 1) :
    k0_pay11 (F := Ideal) x y old (ix2 z j) = (fun a b : EReal => a + b) (old (ix2 z j)) (k0_pay10 (F := Ideal) x y (ix2 z j)) := by
  pointwise [k0_pay11]

end

section

variable {m : (ℓ : Loc nD τ sig) → Buf (Elt Ideal) ℓ} {c : Dev nD}

theorem ltN (t : Fin cfg0.N) : t.val < 8 := lt_of_lt_of_eq t.isLt (show cfg0.N = 8 from N_0)

theorem ptA_7 (t : Fin cfg0.N) (h : t.val = 0) : (outsAt0 m c t.val t.isLt).1 = k0_pay5 (iblk m c 3 t) (iblk m c 1 t) (iblk m c 0 t) (iblk m c 4 t) (iblk m c 2 t) := by
  have := ltN t
  rw [outsAt0_A m c t (by omega) (by omega) (by omega) (by omega) (by omega) (by omega) (by omega) (by omega)]
  dsimp only
  unfold out0_A_7
  rw [View.read_writes_junk_eq_canon, runA_7, stB_eq]
  simp only [ldB_eq, ldR_eq]

theorem ptA_8 (t : Fin cfg0.N) (h : t.val = 0) : (outsAt0 m c t.val t.isLt).2.1 = k0_pay12 (k0_pay5 (iblk m c 3 t) (iblk m c 1 t) (iblk m c 0 t) (iblk m c 4 t) (iblk m c 2 t)) (iblk m c 6 t) := by
  have := ltN t
  rw [outsAt0_A m c t (by omega) (by omega) (by omega) (by omega) (by omega) (by omega) (by omega) (by omega)]
  dsimp only
  unfold out0_A_8
  rw [View.read_writes_junk_eq_canon, runA_8, stH_eq]
  simp only [ldB_eq, ldR_eq]

theorem ptA_9 (t : Fin cfg0.N) (h : t.val = 0) : (outsAt0 m c t.val t.isLt).2.2.1 = k0_pay6 (iblk m c 0 t) := by
  have := ltN t
  rw [outsAt0_A m c t (by omega) (by omega) (by omega) (by omega) (by omega) (by omega) (by omega) (by omega)]
  dsimp only
  unfold out0_A_9
  rw [View.read_writes_junk_eq_canon, runA_9, stR_eq]
  simp only [ldB_eq, ldR_eq]

theorem ptA_10 (t : Fin cfg0.N) (h : t.val = 0) : (outsAt0 m c t.val t.isLt).2.2.2.1 = k0_pay8 (iblk m c 3 t) (k0_pay3 (iblk m c 1 t)) (iblk m c 0 t) := by
  have := ltN t
  rw [outsAt0_A m c t (by omega) (by omega) (by omega) (by omega) (by omega) (by omega) (by omega) (by omega)]
  dsimp only
  unfold out0_A_10
  rw [View.read_writes_junk_eq_canon, runA_10, stR_eq]
  simp only [ldB_eq, ldR_eq]

theorem ptA_11 (t : Fin cfg0.N) (h : t.val = 0) : (outsAt0 m c t.val t.isLt).2.2.2.2.1 = k0_pay10 (k0_pay3 (iblk m c 1 t)) (k0_pay4 (iblk m c 0 t) (iblk m c 4 t)) := by
  have := ltN t
  rw [outsAt0_A m c t (by omega) (by omega) (by omega) (by omega) (by omega) (by omega) (by omega) (by omega)]
  dsimp only
  unfold out0_A_11
  rw [View.read_writes_junk_eq_canon, runA_11, stR_eq]
  simp only [ldB_eq, ldR_eq]

theorem ptA_12 (t : Fin cfg0.N) (h : t.val = 0) : (outsAt0 m c t.val t.isLt).2.2.2.2.2 = k0_pay13 (k0_pay5 (iblk m c 3 t) (iblk m c 1 t) (iblk m c 0 t) (iblk m c 4 t) (iblk m c 2 t)) (iblk m c 5 t) := by
  have := ltN t
  rw [outsAt0_A m c t (by omega) (by omega) (by omega) (by omega) (by omega) (by omega) (by omega) (by omega)]
  dsimp only
  unfold out0_A_12
  rw [View.read_writes_junk_eq_canon, runA_12, stR_eq]
  simp only [ldB_eq, ldR_eq]

theorem ptB_7 (t : Fin cfg0.N) (h : 1 ≤ t.val) : (outsAt0 m c t.val t.isLt).1 = k0_pay5 (iblk m c 3 t) (iblk m c 1 t) (iblk m c 0 t) (iblk m c 4 t) (iblk m c 2 t) := by
  have := ltN t
  rw [outsAt0_B m c t (by omega) (by omega) (by omega) (by omega) (by omega) (by omega) (by omega) (by omega)]
  dsimp only
  unfold out0_B_7
  rw [View.read_writes_junk_eq_canon, runB_7, stB_eq]
  simp only [ldB_eq, ldR_eq]

theorem ptB_8 (t : Fin cfg0.N) (h : 1 ≤ t.val) : (outsAt0 m c t.val t.isLt).2.1 = k0_pay12 (k0_pay5 (iblk m c 3 t) (iblk m c 1 t) (iblk m c 0 t) (iblk m c 4 t) (iblk m c 2 t)) (iblk m c 6 t) := by
  have := ltN t
  rw [outsAt0_B m c t (by omega) (by omega) (by omega) (by omega) (by omega) (by omega) (by omega) (by omega)]
  dsimp only
  unfold out0_B_8
  rw [View.read_writes_junk_eq_canon, runB_8, stH_eq]
  simp only [ldB_eq, ldR_eq]

theorem ptB_9 (t : Fin cfg0.N) (h : 1 ≤ t.val) : (outsAt0 m c t.val t.isLt).2.2.1 = k0_pay7 (k0_pay6 (iblk m c 0 t)) (outsAt0 m c (t.val - 1) (Nat.lt_of_le_of_lt (Nat.sub_le _ _) t.isLt)).2.2.1 := by
  have := ltN t
  rw [outsAt0_B m c t (by omega) (by omega) (by omega) (by omega) (by omega) (by omega) (by omega) (by omega)]
  dsimp only
  unfold out0_B_9
  rw [View.read_writes_junk_eq_canon, runB_9, stR_eq]
  simp only [ldB_eq, ldR_eq]

theorem ptB_10 (t : Fin cfg0.N) (h : 1 ≤ t.val) : (outsAt0 m c t.val t.isLt).2.2.2.1 = k0_pay9 (iblk m c 3 t) (k0_pay3 (iblk m c 1 t)) (iblk m c 0 t) (outsAt0 m c (t.val - 1) (Nat.lt_of_le_of_lt (Nat.sub_le _ _) t.isLt)).2.2.2.1 := by
  have := ltN t
  rw [outsAt0_B m c t (by omega) (by omega) (by omega) (by omega) (by omega) (by omega) (by omega) (by omega)]
  dsimp only
  unfold out0_B_10
  rw [View.read_writes_junk_eq_canon, runB_10, stR_eq]
  simp only [ldB_eq, ldR_eq]

theorem ptB_11 (t : Fin cfg0.N) (h : 1 ≤ t.val) : (outsAt0 m c t.val t.isLt).2.2.2.2.1 = k0_pay11 (k0_pay3 (iblk m c 1 t)) (k0_pay4 (iblk m c 0 t) (iblk m c 4 t)) (outsAt0 m c (t.val - 1) (Nat.lt_of_le_of_lt (Nat.sub_le _ _) t.isLt)).2.2.2.2.1 := by
  have := ltN t
  rw [outsAt0_B m c t (by omega) (by omega) (by omega) (by omega) (by omega) (by omega) (by omega) (by omega)]
  dsimp only
  unfold out0_B_11
  rw [View.read_writes_junk_eq_canon, runB_11, stR_eq]
  simp only [ldB_eq, ldR_eq]

theorem ptB_12 (t : Fin cfg0.N) (h : 1 ≤ t.val) : (outsAt0 m c t.val t.isLt).2.2.2.2.2 = k0_pay1 (k0_pay13 (k0_pay5 (iblk m c 3 t) (iblk m c 1 t) (iblk m c 0 t) (iblk m c 4 t) (iblk m c 2 t)) (iblk m c 5 t)) (outsAt0 m c (t.val - 1) (Nat.lt_of_le_of_lt (Nat.sub_le _ _) t.isLt)).2.2.2.2.2 := by
  have := ltN t
  rw [outsAt0_B m c t (by omega) (by omega) (by omega) (by omega) (by omega) (by omega) (by omega) (by omega)]
  dsimp only
  unfold out0_B_12
  rw [View.read_writes_junk_eq_canon, runB_12, stR_eq]
  simp only [ldB_eq, ldR_eq]

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![t.val, 0] ∧ win0_8.index t = ![t.val, 0] := by
  decide +kernel

/-- Row `p` of a point's block. -/
def row (t : Fin cfg0.N) (p : Fin 256) : Fin 2048 := ⟨256 * t.val + p.val, by have := ltN t; omega⟩

/-- Row `p` of an array. -/
def rowA (x : Vec Ideal S2048x2048 .f32) (p : Fin 2048) (k : Fin 2048) : EReal := x (ix2 p k)

theorem blk0 (t : Fin cfg0.N) (p : Fin 256) : rowB (iblk m c 0 t) p = rowA (m ((c : Thread nD τ).loc main_arg0)) (row t p) := by
  funext k
  have e : (win0_0.blk t).view.emb (ix2 p k) = ix2 (row t p) k := by blk_ext [idx t, row]
  unfold rowB rowA
  blk_simp [iblk]
  rw [e]

theorem blk1 (t : Fin cfg0.N) (p : Fin 256) : rowB (iblk m c 1 t) p = rowA (m ((c : Thread nD τ).loc main_arg1)) (row t p) := by
  funext k
  have e : (win0_1.blk t).view.emb (ix2 p k) = ix2 (row t p) k := by blk_ext [idx t, row]
  unfold rowB rowA
  blk_simp [iblk]
  rw [e]

theorem blk2 (t : Fin cfg0.N) (p : Fin 256) : rowB (iblk m c 2 t) p = rowA (m ((c : Thread nD τ).loc main_arg2)) (row t p) := by
  funext k
  have e : (win0_2.blk t).view.emb (ix2 p k) = ix2 (row t p) k := by blk_ext [idx t, row]
  unfold rowB rowA
  blk_simp [iblk]
  rw [e]

theorem blk5 (t : Fin cfg0.N) (p : Fin 256) : rowB (iblk m c 5 t) p = rowA (m ((c : Thread nD τ).loc main_arg5)) (row t p) := by
  funext k
  have e : (win0_5.blk t).view.emb (ix2 p k) = ix2 (row t p) k := by blk_ext [idx t, row]
  unfold rowB rowA
  blk_simp [iblk]
  rw [e]

theorem blk3 (t : Fin cfg0.N) : line (iblk m c 3 t) = line (m ((c : Thread nD τ).loc main_arg3)) := by
  funext k
  have e : (win0_3.blk t).view.emb (ix2 (0 : Fin 1) k) = ix2 (0 : Fin 1) k := by blk_ext [idx t]
  unfold line
  blk_simp [iblk]
  rw [e]

theorem blk4 (t : Fin cfg0.N) : line (iblk m c 4 t) = line (m ((c : Thread nD τ).loc main_arg4)) := by
  funext k
  have e : (win0_4.blk t).view.emb (ix2 (0 : Fin 1) k) = ix2 (0 : Fin 1) k := by blk_ext [idx t]
  unfold line
  blk_simp [iblk]
  rw [e]

theorem blk6 (t : Fin cfg0.N) : line (iblk m c 6 t) = line (m ((c : Thread nD τ).loc main_arg6)) := by
  funext k
  have e : (win0_6.blk t).view.emb (ix2 (0 : Fin 1) k) = ix2 (0 : Fin 1) k := by blk_ext [idx t]
  unfold line
  blk_simp [iblk]
  rw [e]

end

section

variable (dh x dr : Vec Ideal S2048x2048 .f32) (g sc : Vec Ideal S1x2048 .f32)

/-- The gradient of the norm's result before the scale by `g`, in row `p`. -/
def dn (p k : Fin 2048) : EReal := rowA dh p k * (1 + line sc k) * line g k

/-- The rows' gradient. -/
def Gx (i : S2048x2048.Idx) : EReal := rowA dr (i 0) (i 1) + back (dn dh g sc (i 0)) (rowA x (i 0)) (i 1)

/-- The gradient of the branch that the gate multiplies. -/
def Gb (gt : Vec Ideal S1x2048 .f32) (i : S2048x2048.Idx) : EReal := Gx dh x dr g sc i * line gt (i 1)

/-- The gate's gradient. -/
def Gt (y : Vec Ideal S2048x2048 .f32) (i : S1x2048.Idx) : EReal := ∑ r : Fin 2048, Gx dh x dr g sc (ix2 r (i 1)) * rowA y r (i 1)

/-- The shift's gradient. -/
def Gsh (i : S1x2048.Idx) : EReal := ∑ r : Fin 2048, rowA dh r (i 1)

/-- The scale's gradient. -/
def Gsc (i : S1x2048.Idx) : EReal := ∑ r : Fin 2048, rowA dh r (i 1) * xh (rowA x r) (i 1) * line g (i 1)

/-- The norm's own scale's gradient. -/
def Gg (i : S1x2048.Idx) : EReal := ∑ r : Fin 2048, rowA dh r (i 1) * (1 + line sc (i 1)) * xh (rowA x r) (i 1)

end

section

variable {m : (ℓ : Loc nD τ sig) → Buf (Elt Ideal) ℓ} {c : Dev nD}

theorem pt7 (t : Fin cfg0.N) : (outsAt0 m c t.val t.isLt).1 = k0_pay5 (iblk m c 3 t) (iblk m c 1 t) (iblk m c 0 t) (iblk m c 4 t) (iblk m c 2 t) := by
  by_cases h : t.val = 0
  · exact ptA_7 t h
  · exact ptB_7 t (by omega)

theorem pt8 (t : Fin cfg0.N) : (outsAt0 m c t.val t.isLt).2.1 =
    k0_pay12 (k0_pay5 (iblk m c 3 t) (iblk m c 1 t) (iblk m c 0 t) (iblk m c 4 t) (iblk m c 2 t)) (iblk m c 6 t) := by
  by_cases h : t.val = 0
  · exact ptA_8 t h
  · exact ptB_8 t (by omega)

theorem point (t : Fin cfg0.N) (p : Fin 256) (q : Fin 2048) : k0_pay5 (iblk m c 3 t) (iblk m c 1 t) (iblk m c 0 t) (iblk m c 4 t) (iblk m c 2 t) (ix2 p q) =
    Gx (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) q) := by
  rw [pay5, blk0, blk1, blk2, blk3, blk4]
  rfl

theorem arr7 : (dats m 0 c).arrAt 7 cfg0.N = Gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, pt7, point]
  exact (congrArg (Gx _ _ _ _ _) e).symm

theorem arr8 : (dats m 0 c).arrAt 8 cfg0.N = Gb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 8 _ (by decide +kernel) fun t hf y => ?_
  obtain ⟨p, q, rfl⟩ : ∃ p q, y = ix2 p q := ⟨_, _, eq_ix2 y⟩
  have e : (win0_8.blk t).view.emb (ix2 p q) = ix2 (row t p) q := by blk_ext [idx t, row]
  blk_simp
  rw [after0_8, pt8, pay12, point, blk6]
  exact (congrArg (Gb _ _ _ _ _ _) e).symm

theorem part9 (t : Fin cfg0.N) (z : Fin 1) (j : Fin 2048) : k0_pay6 (iblk m c 0 t) (ix2 z j) = ∑ p : Fin 256, (fun r => rowA (m ((c : Thread nD τ).loc main_arg0)) r j) (row t p) := by
  rw [pay6]
  refine Finset.sum_congr rfl fun p _ => ?_
  rw [blk0]

theorem acc9 (z : Fin 1) (j : Fin 2048) : (outsAt0 m c t0_7.val t0_7.isLt).2.2.1 (ix2 z j) = ∑ r : Fin 2048, rowA (m ((c : Thread nD τ).loc main_arg0)) r j := by
  refine acc_blocks (fun r => rowA (m ((c : Thread nD τ).loc main_arg0)) r j)
    (fun n hn => (outsAt0 m c n (lt_of_lt_of_eq hn (show 8 = cfg0.N from N_0.symm))).2.2.1 (ix2 z j)) ?_ fun n hn h => ?_
  · exact (congrFun (ptA_9 t0_0 rfl) _).trans (part9 t0_0 z j)
  · have hN := lt_of_lt_of_eq hn (show 8 = cfg0.N from N_0.symm)
    refine (congrFun (ptB_9 ⟨n, hN⟩ h) _).trans ((pay7 _ _ _ _).trans ?_)
    exact congrArg (HAdd.hAdd ((outsAt0 m c (n - 1) (Nat.lt_of_le_of_lt (Nat.sub_le _ _) hN)).2.2.1 (ix2 z j) : EReal)) (part9 ⟨n, hN⟩ z j)

theorem arr9 : (dats m 0 c).arrAt 9 cfg0.N = Gsh (m ((c : Thread nD τ).loc main_arg0)) := by
  refine (dats m 0 c).arrAt_eq_of_after_last 9 t0_7 (by decide +kernel) _ fun y => ?_
  obtain ⟨z, j, rfl⟩ : ∃ z j, y = ix2 z j := ⟨_, _, eq_ix2 y⟩
  rw [after0_9]
  exact acc9 z j

theorem part10 (t : Fin cfg0.N) (z : Fin 1) (j : Fin 2048) : k0_pay8 (iblk m c 3 t) (k0_pay3 (iblk m c 1 t)) (iblk m c 0 t) (ix2 z j) = ∑ p : Fin 256, (fun r => rowA (m ((c : Thread nD τ).loc main_arg0)) r j * xh (rowA (m ((c : Thread nD τ).loc main_arg1)) r) j * line (m ((c : Thread nD τ).loc main_arg3)) j) (row t p) := by
  rw [pay8]
  refine Finset.sum_congr rfl fun p _ => ?_
  rw [blk0, blk1, blk3]

theorem acc10 (z : Fin 1) (j : Fin 2048) : (outsAt0 m c t0_7.val t0_7.isLt).2.2.2.1 (ix2 z j) = ∑ r : Fin 2048, rowA (m ((c : Thread nD τ).loc main_arg0)) r j * xh (rowA (m ((c : Thread nD τ).loc main_arg1)) r) j * line (m ((c : Thread nD τ).loc main_arg3)) j := by
  refine acc_blocks (fun r => rowA (m ((c : Thread nD τ).loc main_arg0)) r j * xh (rowA (m ((c : Thread nD τ).loc main_arg1)) r) j * line (m ((c : Thread nD τ).loc main_arg3)) j)
    (fun n hn => (outsAt0 m c n (lt_of_lt_of_eq hn (show 8 = cfg0.N from N_0.symm))).2.2.2.1 (ix2 z j)) ?_ fun n hn h => ?_
  · exact (congrFun (ptA_10 t0_0 rfl) _).trans (part10 t0_0 z j)
  · have hN := lt_of_lt_of_eq hn (show 8 = cfg0.N from N_0.symm)
    refine (congrFun (ptB_10 ⟨n, hN⟩ h) _).trans ((pay9 _ _ _ _ _ _).trans ?_)
    exact congrArg (HAdd.hAdd ((outsAt0 m c (n - 1) (Nat.lt_of_le_of_lt (Nat.sub_le _ _) hN)).2.2.2.1 (ix2 z j) : EReal)) (part10 ⟨n, hN⟩ z j)

theorem arr10 : (dats m 0 c).arrAt 10 cfg0.N = Gsc (m ((c : Thread nD τ).loc main_arg0)) (m ((c : Thread nD τ).loc main_arg1)) (m ((c : Thread nD τ).loc main_arg3)) := by
  refine (dats m 0 c).arrAt_eq_of_after_last 10 t0_7 (by decide +kernel) _ fun y => ?_
  obtain ⟨z, j, rfl⟩ : ∃ z j, y = ix2 z j := ⟨_, _, eq_ix2 y⟩
  rw [after0_10]
  exact acc10 z j

theorem part11 (t : Fin cfg0.N) (z : Fin 1) (j : Fin 2048) : k0_pay10 (k0_pay3 (iblk m c 1 t)) (k0_pay4 (iblk m c 0 t) (iblk m c 4 t)) (ix2 z j) = ∑ p : Fin 256, (fun r => rowA (m ((c : Thread nD τ).loc main_arg0)) r j * (1 + line (m ((c : Thread nD τ).loc main_arg4)) j) * xh (rowA (m ((c : Thread nD τ).loc main_arg1)) r) j) (row t p) := by
  rw [pay10]
  refine Finset.sum_congr rfl fun p _ => ?_
  rw [blk0, blk1, blk4]

theorem acc11 (z : Fin 1) (j : Fin 2048) : (outsAt0 m c t0_7.val t0_7.isLt).2.2.2.2.1 (ix2 z j) = ∑ r : Fin 2048, rowA (m ((c : Thread nD τ).loc main_arg0)) r j * (1 + line (m ((c : Thread nD τ).loc main_arg4)) j) * xh (rowA (m ((c : Thread nD τ).loc main_arg1)) r) j := by
  refine acc_blocks (fun r => rowA (m ((c : Thread nD τ).loc main_arg0)) r j * (1 + line (m ((c : Thread nD τ).loc main_arg4)) j) * xh (rowA (m ((c : Thread nD τ).loc main_arg1)) r) j)
    (fun n hn => (outsAt0 m c n (lt_of_lt_of_eq hn (show 8 = cfg0.N from N_0.symm))).2.2.2.2.1 (ix2 z j)) ?_ fun n hn h => ?_
  · exact (congrFun (ptA_11 t0_0 rfl) _).trans (part11 t0_0 z j)
  · have hN := lt_of_lt_of_eq hn (show 8 = cfg0.N from N_0.symm)
    refine (congrFun (ptB_11 ⟨n, hN⟩ h) _).trans ((pay11 _ _ _ _ _).trans ?_)
    exact congrArg (HAdd.hAdd ((outsAt0 m c (n - 1) (Nat.lt_of_le_of_lt (Nat.sub_le _ _) hN)).2.2.2.2.1 (ix2 z j) : EReal)) (part11 ⟨n, hN⟩ z j)

theorem arr11 : (dats m 0 c).arrAt 11 cfg0.N = Gg (m ((c : Thread nD τ).loc main_arg0)) (m ((c : Thread nD τ).loc main_arg1)) (m ((c : Thread nD τ).loc main_arg4)) := by
  refine (dats m 0 c).arrAt_eq_of_after_last 11 t0_7 (by decide +kernel) _ fun y => ?_
  obtain ⟨z, j, rfl⟩ : ∃ z j, y = ix2 z j := ⟨_, _, eq_ix2 y⟩
  rw [after0_11]
  exact acc11 z j

theorem part12 (t : Fin cfg0.N) (z : Fin 1) (j : Fin 2048) : k0_pay13 (k0_pay5 (iblk m c 3 t) (iblk m c 1 t) (iblk m c 0 t) (iblk m c 4 t) (iblk m c 2 t)) (iblk m c 5 t) (ix2 z j) = ∑ p : Fin 256, (fun r => Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg5)) r j) (row t p) := by
  rw [pay13]
  refine Finset.sum_congr rfl fun p _ => ?_
  rw [point, blk5]

theorem acc12 (z : Fin 1) (j : Fin 2048) : (outsAt0 m c t0_7.val t0_7.isLt).2.2.2.2.2 (ix2 z j) = ∑ r : Fin 2048, Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg5)) r j := by
  refine acc_blocks (fun r => Gx (m ((c : Thread nD τ).loc main_arg0)) (m ((c : Thread nD τ).loc main_arg1)) (m ((c : Thread nD τ).loc main_arg2)) (m ((c : Thread nD τ).loc main_arg3)) (m ((c : Thread nD τ).loc main_arg4)) (ix2 r j) * rowA (m ((c : Thread nD τ).loc main_arg5)) r j)
    (fun n hn => (outsAt0 m c n (lt_of_lt_of_eq hn (show 8 = cfg0.N from N_0.symm))).2.2.2.2.2 (ix2 z j)) ?_ fun n hn h => ?_
  · exact (congrFun (ptA_12 t0_0 rfl) _).trans (part12 t0_0 z j)
  · have hN := lt_of_lt_of_eq hn (show 8 = cfg0.N from N_0.symm)
    refine (congrFun (ptB_12 ⟨n, hN⟩ h) _).trans ((pay1 _ _ _ _).trans ?_)
    exact congrArg (HAdd.hAdd ((outsAt0 m c (n - 1) (Nat.lt_of_le_of_lt (Nat.sub_le _ _) hN)).2.2.2.2.2 (ix2 z j) : EReal)) (part12 ⟨n, hN⟩ z j)

theorem arr12 : (dats m 0 c).arrAt 12 cfg0.N = Gt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_7 (by decide +kernel) _ fun y => ?_
  obtain ⟨z, j, rfl⟩ : ∃ z j, y = ix2 z j := ⟨_, _, eq_ix2 y⟩
  rw [after0_12]
  exact acc12 z j

end

section

open Cert.Nb2RefIdeal.Read

variable (dh x dr : Vec Ideal S2048x2048 .f32) (g sc : Vec Ideal S1x2048 .f32)

theorem entry (x : Vec Ideal S2048x2048 .f32) (i : S2048x2048.Idx) : x i = rowA x (i 0) (i 1) := congrArg x (eq_ix2 i)

theorem r7 (i : Nb2RefIdeal.S2048x1.Idx) : val_main_v7 (F := Ideal) x i = ms (rowA x (i 0)) := by
  refine congrArg (fun s : EReal => Ideal.div s width + eps) ?_
  refine (val_main_v3_apply x i).trans ((val_main_v2_apply x _).trans ((zsum _).trans ?_))
  refine Finset.sum_congr rfl fun k _ => ?_
  exact congrArg (fun a : EReal => a * a) (entry x _)

theorem r8 (i : Nb2RefIdeal.S2048x1.Idx) : val_main_v8 (F := Ideal) x i = rr (rowA x (i 0)) := congrArg Ideal.rsqrt (r7 x i)

theorem r13 (i : S2048x2048.Idx) : val_main_v13 (F := Ideal) x i = xh (rowA x (i 0)) (i 1) :=
  congrArg₂ (fun a b : EReal => a * b) (entry x i) ((val_main_v12_apply x i).trans (r8 x _))

theorem r17 (i : S1x2048.Idx) (k : Fin 2048) (h : i = ix2 0 k) : val_main_v17 (F := Ideal) sc i = 1 + line sc k := by
  rw [h]
  exact congrArg (fun a : EReal => a + line sc k) one

theorem r22 (i : S2048x2048.Idx) : val_main_v22 (F := Ideal) dh i = rowA dh (i 0) (i 1) := by
  refine (val_main_v22_apply dh i).trans ((entry dh _).trans (congrArg₂ (rowA dh) (Fin.ext ?_) (Fin.ext ?_)))
  · have h0 : (i 0).val < 2048 := (i 0).isLt
    have h1 : (i 1).val < 2048 := (i 1).isLt
    show ((i 0).val * 2048 + (i 1).val) / 2048 = (i 0).val
    omega
  · have h0 : (i 0).val < 2048 := (i 0).isLt
    have h1 : (i 1).val < 2048 := (i 1).isLt
    show ((i 0).val * 2048 + (i 1).val) % 2048 = (i 1).val
    omega

theorem r29 (i : S2048x2048.Idx) : val_main_v29 (F := Ideal) dh sc i = rowA dh (i 0) (i 1) * (1 + line sc (i 1)) :=
  congrArg₂ (fun a b : EReal => a * b) (r22 dh i) ((val_main_v28_apply sc i).trans (r17 sc _ (i 1) ((eq_ix2 _).trans (congrArg₂ ix2 (Fin.ext rfl) (Fin.ext rfl)))))

theorem r34 (i : S2048x2048.Idx) : val_main_v34 (F := Ideal) dh g sc i = dn dh g sc (i 0) (i 1) :=
  congrArg₂ (fun a b : EReal => a * b) (r29 dh sc i) ((val_main_v33_apply g i).trans (congrArg g ((eq_ix2 _).trans (congrArg₂ ix2 (Fin.ext rfl) (Fin.ext rfl)))))

theorem r11 (i : Nb2RefIdeal.S2048x1.Idx) : val_main_v11 (F := Ideal) x i = ((-(1 / 2) : ℝ) : EReal) * Ideal.div (rr (rowA x (i 0))) (ms (rowA x (i 0))) :=
  congrArg₂ (fun a b : EReal => a * b) neg_half (congrArg₂ Ideal.div (r8 x i) (r7 x i))

theorem r36 (i : Nb2RefIdeal.S2048.Idx) : val_main_v36 (F := Ideal) dh x g sc i = ∑ k, rowA x (i 0) k * dn dh g sc (i 0) k := by
  refine (val_main_v36_apply dh x g sc i).trans ((zsum _).trans ?_)
  refine Finset.sum_congr rfl fun k _ => ?_
  exact congrArg₂ (fun a b : EReal => a * b) (entry x _) (r34 dh g sc _)

theorem r42 (i : Nb2RefIdeal.S2048x1.Idx) : val_main_v42 (F := Ideal) dh x g sc i = sq (dn dh g sc (i 0)) (rowA x (i 0)) := by
  have h1 : (i 1).val < 1 := (i 1).isLt
  have e : idx_main_v37 i 0 = i 0 := Fin.ext (by show (i 0).val * 1 + (i 1).val = (i 0).val; omega)
  refine congrArg (fun s : EReal => Ideal.div s width) (congrArg₂ (fun a b : EReal => a * b) ((val_main_v37_apply dh x g sc i).trans ((r36 dh x g sc _).trans ?_)) (r11 x i))
  rw [e]

theorem r44 (i : S2048x2048.Idx) : val_main_v44 (F := Ideal) dh x g sc i = sq (dn dh g sc (i 0)) (rowA x (i 0)) := by
  refine (val_main_v44_apply dh x g sc i).trans ((val_main_v43_apply dh x g sc _).trans ((zsum _).trans ?_))
  refine (Fin.sum_univ_one _).trans ?_
  exact r42 dh x g sc _

theorem ref49 : val_main_v49 (F := Ideal) dh x dr g sc = Gx dh x dr g sc := by
  funext i
  refine Eq.trans ?_ (congrArg (HAdd.hAdd (rowA dr (i 0) (i 1))) (chain_eq (dn dh g sc (i 0)) (rowA x (i 0)) (i 1)))
  refine congrArg₂ (fun a b : EReal => a + b) (entry dr i) ?_
  refine congrArg₂ (fun a b : EReal => a + b) (congrArg₂ (fun a b : EReal => a + b) ?_ ?_) ?_
  · exact congrArg₂ (fun a b : EReal => a * b) (r34 dh g sc i) ((val_main_v38_apply x i).trans (r8 x _))
  · exact congrArg₂ (fun a b : EReal => a * b) (entry x i) (r44 dh x g sc i)
  · exact congrArg₂ (fun a b : EReal => a * b) (r44 dh x g sc i) (entry x i)

theorem ref57 (gt : Vec Ideal S1x2048 .f32) : val_main_v57 (F := Ideal) dh x dr g sc gt = Gb dh x dr g sc gt := by
  funext i
  refine (mul_comm _ _).trans (congrArg₂ (fun a b : EReal => a * b) (congrFun (ref49 dh x dr g sc) i) ?_)
  exact (val_main_v52_apply gt i).trans (congrArg gt ((eq_ix2 _).trans (congrArg₂ ix2 (Fin.ext rfl) (Fin.ext rfl))))

/-- The column that a row's reshaped sum reads. -/
theorem flat (i : S1x2048.Idx) (k : Fin 2048) (h : k.val = (i 0).val * 2048 + (i 1).val) : k = i 1 := by
  have h0 : (i 0).val < 1 := (i 0).isLt
  exact Fin.ext (by omega)

theorem ref24 : val_main_v24 (F := Ideal) dh = Gsh dh := by
  funext i
  refine (val_main_v24_apply dh i).trans ((val_main_v23_apply dh _).trans ((zsum _).trans ?_))
  refine Finset.sum_congr rfl fun r _ => ?_
  exact (entry dh _).trans (congrArg (rowA dh r) (flat i _ rfl))

theorem ref27 : val_main_v27 (F := Ideal) dh x g = Gsc dh x g := by
  funext i
  refine (val_main_v27_apply dh x g i).trans ((val_main_v26_apply dh x g _).trans ((zsum _).trans ?_))
  refine Finset.sum_congr rfl fun r _ => ?_
  rw [← flat i (idx_main_v26 (idx_main_v27 i) r 1) rfl, mul_assoc, mul_comm]
  exact congrArg₂ (fun a b : EReal => a * b) (congrArg₂ (fun a b : EReal => a * b) (r13 x _)
    ((val_main_v14_apply g _).trans (congrArg g ((eq_ix2 _).trans (congrArg₂ ix2 (Fin.ext rfl) (Fin.ext rfl)))))) (r22 dh _)

theorem ref32 : val_main_v32 (F := Ideal) dh x sc = Gg dh x sc := by
  funext i
  refine (val_main_v32_apply dh x sc i).trans ((val_main_v31_apply dh x sc _).trans ((zsum _).trans ?_))
  refine Finset.sum_congr rfl fun r _ => ?_
  rw [← flat i (idx_main_v31 (idx_main_v32 i) r 1) rfl, mul_comm]
  exact congrArg₂ (fun a b : EReal => a * b) (r13 x _) (r29 dh sc _)

theorem ref56 (y : Vec Ideal S2048x2048 .f32) : val_main_v56 (F := Ideal) dh x dr g sc y = Gt dh x dr g sc y := by
  funext i
  refine (val_main_v56_apply dh x dr g sc y i).trans ((val_main_v55_apply dh x dr g sc y _).trans ((zsum _).trans ?_))
  refine Finset.sum_congr rfl fun r _ => ?_
  rw [← flat i (idx_main_v55 (idx_main_v56 i) r 1) rfl]
  exact congrArg₂ (fun a b : EReal => a * b) ((congrFun (ref49 dh x dr g sc) _).trans (congrArg (Gx dh x dr g sc) ((eq_ix2 _).trans (congrArg₂ ix2 (Fin.ext rfl) (Fin.ext rfl))))) (entry y _)

end

end Cert.Nb2Ideal.Mat

namespace Cert.Nb2Claims

open Idealize.ShloMosaic Idealize.SL.Sem

/-- The kernel's frame. -/
theorem frame_kernel : Cert.quiescent_Nb2 (hNb2 := Cert.Nb2.Gen.facts) := fun m ρ _ => Cert.Nb2.Gen.frame m ρ

/-- The idealized kernel's frame. -/
theorem frame_ideal : Cert.quiescent_Nb2Ideal (hNb2Ideal := Cert.Nb2Ideal.Gen.facts) := fun m ρ _ => Cert.Nb2Ideal.Gen.frame m ρ

/-- The reference's frame. -/
theorem frame_ref : Cert.quiescent_Nb2RefIdeal (hNb2RefIdeal := Cert.Nb2RefIdeal.Gen.facts) := fun m ρ _ =>
  (θ_run Cert.Nb2RefIdeal.defs _ _).mono
    (fun r h => ⟨fun c => (h c).2.2.2.2.2.2, Idealize.ShloMosaic.sem_eq_zero_of_no_sems (by decide) r.2⟩) (Cert.Nb2RefIdeal.Value.run (F := Ideal) m ρ)

/-- The idealized kernel keeps what the kernel computes. -/
theorem preserves : Cert.preserves_Nb2_Nb2Ideal := trivial

/-- The kernel's results are the reference's. -/
theorem algebraic : Cert.algebraic_Nb2Ideal_Nb2RefIdeal (hNb2Ideal := Cert.Nb2Ideal.Gen.facts) (hNb2RefIdeal := Cert.Nb2RefIdeal.Gen.facts) := by
  haveI := Cert.Nb2Ideal.Gen.facts
  haveI := Cert.Nb2RefIdeal.Gen.facts
  intro m ρ m' ρ' _ hagree
  refine ⟨_, _, _, _, _, _, Cert.Nb2Ideal.Value.run_blocks m ρ, ?_⟩
  refine (θ_run Cert.Nb2RefIdeal.defs _ _).mono (fun _ h c => ?_) (Cert.Nb2RefIdeal.Value.run (F := Ideal) m' ρ')
  obtain ⟨e0, e1, e2, e3, e4, e5, e6⟩ := hagree c
  obtain ⟨h0, h1, h2, h3, h4, h5, h⟩ := h c
  refine ⟨h0.trans ?_, h1.trans ?_, h2.trans ?_, h3.trans ?_, h4.trans ?_, h5.trans ?_, h⟩
  · refine (Cert.Nb2RefIdeal.Read.val_main_v49_eq _ _).trans ((Cert.Nb2Ideal.Mat.ref49 _ _ _ _ _).trans ?_)
    rw [e0, e1, e2, e3, e4]
    exact Cert.Nb2Ideal.Mat.arr7.symm
  · refine (Cert.Nb2RefIdeal.Read.val_main_v57_eq _ _).trans ((Cert.Nb2Ideal.Mat.ref57 _ _ _ _ _ _).trans ?_)
    rw [e0, e1, e2, e3, e4, e6]
    exact Cert.Nb2Ideal.Mat.arr8.symm
  · refine (Cert.Nb2RefIdeal.Read.val_main_v24_eq _).trans ((Cert.Nb2Ideal.Mat.ref24 _).trans ?_)
    rw [e0]
    exact Cert.Nb2Ideal.Mat.arr9.symm
  · refine (Cert.Nb2RefIdeal.Read.val_main_v27_eq _ _ _).trans ((Cert.Nb2Ideal.Mat.ref27 _ _ _).trans ?_)
    rw [e0, e1, e3]
    exact Cert.Nb2Ideal.Mat.arr10.symm
  · refine (Cert.Nb2RefIdeal.Read.val_main_v32_eq _ _ _).trans ((Cert.Nb2Ideal.Mat.ref32 _ _ _).trans ?_)
    rw [e0, e1, e4]
    exact Cert.Nb2Ideal.Mat.arr11.symm
  · refine (Cert.Nb2RefIdeal.Read.val_main_v56_eq _ _).trans ((Cert.Nb2Ideal.Mat.ref56 _ _ _ _ _ _).trans ?_)
    rw [e0, e1, e2, e3, e4, e5]
    exact Cert.Nb2Ideal.Mat.arr12.symm

end Cert.Nb2Claims

end
-- ==== Proof.NbwMat.lean ====
/- The backward pass of the first norm: the rows' gradient and the sums over the rows. -/
module

public import Idealize.ShloMosaic.Lib.Pointwise
public import Idealize.ShloMosaic.Lib.Pipeline.ValueKit
public import Idealize.ShloMosaic.Lib.Claim
public import proofs.«01_k».proof.Defs
public import Idealize.ShloMosaic.Lib.WholeRead
public import proofs.«01_k».proof.Proof.NormRow
public import proofs.«01_k».proof.Proof.Gen.Nbw.Frame
public import proofs.«01_k».proof.Proof.Gen.NbwIdeal.Value
public import proofs.«01_k».proof.Proof.Gen.NbwRefIdeal.Run
public import proofs.«01_k».proof.Proof.Gen.NbwRefIdeal.Read
public import Idealize.ShloMosaic.Adequacy
public import Idealize.ShloMosaic.Init

@[expose] public section

set_option maxRecDepth 16384

noncomputable section

namespace Cert.NbwIdeal.Mat

open Idealize.ShloMosaic Idealize.ShloMosaic.TcCoe Idealize.SL Idealize.SL.Sem Cert.NbwIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

section

variable {F : FTy → Type} [FloatOps F]

/-- The load of a whole block of rows. -/
def ldB (a : Memref sig .tc .vmem S256x2048 .f32) (h : a.IsWhole) (x : Vec F S256x2048 .f32) : Vec F S256x2048 .f32 :=
  View.readAt (Elt F) a.view (Rect.unit (s := S256x2048) ![0, 0] S256x2048.size inb_S256x2048_S256x2048_0_0).toLoadRect (h.unread x)

/-- The load of a whole row. -/
def ldR (a : Memref sig .tc .vmem S1x2048 .f32) (h : a.IsWhole) (x : Vec F S1x2048 .f32) : Vec F S1x2048 .f32 :=
  View.readAt (Elt F) a.view (Rect.unit (s := S1x2048) ![0, 0] S1x2048.size inb_S1x2048_S1x2048_0_0).toLoadRect (h.unread x)

theorem ldB_eq (a : Memref sig .tc .vmem S256x2048 .f32) (h : a.IsWhole) (x : Vec F S256x2048 .f32) : ldB a h x = x := by
  unfold ldB
  funext y
  obtain ⟨p, q, rfl⟩ : ∃ p q, y = ix2 p q := ⟨_, _, eq_ix2 y⟩
  rw [h.readAt_unread]
  pointwise

theorem ldR_eq (a : Memref sig .tc .vmem S1x2048 .f32) (h : a.IsWhole) (x : Vec F S1x2048 .f32) : ldR a h x = x := by
  unfold ldR
  funext y
  obtain ⟨p, q, rfl⟩ : ∃ p q, y = ix2 p q := ⟨_, _, eq_ix2 y⟩
  obtain rfl : p = 0 := Subsingleton.elim _ _
  rw [h.readAt_unread]
  pointwise

/-- The store of a whole block of rows. -/
def stB (x : FVec F S256x2048 .f32) : List (View.Piece (Elt F) S256x2048 .f32) := [⟨Rect.unit ![0, 0] S256x2048.size inb_S256x2048_S256x2048_0_0, x⟩]

/-- The store of a whole row. -/
def stR (x : FVec F S1x2048 .f32) : List (View.Piece (Elt F) S1x2048 .f32) := [⟨Rect.unit ![0, 0] S1x2048.size inb_S1x2048_S1x2048_0_0, x⟩]

theorem stB_eq (x : FVec F S256x2048 .f32) : View.canon (stB x) = x := View.canon_unit_zero (S := S256x2048) z2 _ _

theorem stR_eq (x : FVec F S1x2048 .f32) : View.canon (stR x) = x := View.canon_unit_zero (S := S1x2048) z2 _ _

/-- The store of the first output, at the first point. -/
theorem runA_5 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 hc0 hc1 hc2 hc3 hc4 hc5 x0 x1 x2 x3 x4).1 =
      stB (k0_pay9 (ldR arg4 harg4 x3) (ldB arg2 harg2 x1) (ldB arg1 harg1 x0) (ldR arg5 harg5 x4) (ldB arg3 harg3 x2)) := by
  sl_kernel_rfl

/-- The store of the second output, at the first point. -/
theorem runA_6 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 hc0 hc1 hc2 hc3 hc4 hc5 x0 x1 x2 x3 x4).2.1 =
      stR (k0_pay10 (ldB arg1 harg1 x0)) := by
  sl_kernel_rfl

/-- The store of the third output, at the first point. -/
theorem runA_7 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 hc0 hc1 hc2 hc3 hc4 hc5 x0 x1 x2 x3 x4).2.2.1 =
      stR (k0_pay2 (ldR arg4 harg4 x3) (k0_pay7 (ldB arg2 harg2 x1)) (ldB arg1 harg1 x0)) := by
  sl_kernel_rfl

/-- The store of the fourth output, at the first point. -/
theorem runA_8 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4) :
    (kernelRun0_A (F := F) c i arg1 harg1 arg2 harg2 arg3 harg3 arg4 harg4 arg5 harg5 arg6 harg6 arg7 harg7 arg8 harg8 arg9 harg9 hc0 hc1 hc2 hc3 hc4 hc5 x0 x1 x2 x3 x4).2.2.2.1 =
      stR (k0_pay4 (k0_pay7 (ldB arg2 harg2 x1)) (k0_pay8 (ldB arg1 harg1 x0) (ldR arg5 harg5 x4))) := by
  sl_kernel_rfl

/-- The store of the first output, at a later point. -/
theorem runB_5 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4 xo6 xo7 xo8) :
    (kernelRun0_B (F := F) c i arg1 harg1 arg2 harg2 arg3 harg3 arg4 harg4 arg5 harg5 arg6 harg6 arg7 harg7 arg8 harg8 arg9 harg9 hc0 hc1 hc2 hc3 hc4 hc5 x0 x1 x2 x3 x4 xo6 xo7 xo8).1 =
      stB (k0_pay9 (ldR arg4 harg4 x3) (ldB arg2 harg2 x1) (ldB arg1 harg1 x0) (ldR arg5 harg5 x4) (ldB arg3 harg3 x2)) := by
  sl_kernel_rfl

/-- The store of the second output, at a later point. -/
theorem runB_6 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4 xo6 xo7 xo8) :
    (kernelRun0_B (F := F) c i arg1 harg1 arg2 harg2 arg3 harg3 arg4 harg4 arg5 harg5 arg6 harg6 arg7 harg7 arg8 harg8 arg9 harg9 hc0 hc1 hc2 hc3 hc4 hc5 x0 x1 x2 x3 x4 xo6 xo7 xo8).2.1 =
      stR (k0_pay1 (k0_pay10 (ldB arg1 harg1 x0)) (ldR arg7 harg7 xo6)) := by
  sl_kernel_rfl

/-- The store of the third output, at a later point. -/
theorem runB_7 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4 xo6 xo7 xo8) :
    (kernelRun0_B (F := F) c i arg1 harg1 arg2 harg2 arg3 harg3 arg4 harg4 arg5 harg5 arg6 harg6 arg7 harg7 arg8 harg8 arg9 harg9 hc0 hc1 hc2 hc3 hc4 hc5 x0 x1 x2 x3 x4 xo6 xo7 xo8).2.2.1 =
      stR (k0_pay3 (ldR arg4 harg4 x3) (k0_pay7 (ldB arg2 harg2 x1)) (ldB arg1 harg1 x0) (ldR arg8 harg8 xo7)) := by
  sl_kernel_rfl

/-- The store of the fourth output, at a later point. -/
theorem runB_8 (c : Dev nD) (i : grid0.Coords) (arg1) (harg1) (arg2) (harg2) (arg3) (harg3) (arg4) (harg4) (arg5) (harg5) (arg6) (harg6) (arg7) (harg7) (arg8) (harg8) (arg9) (harg9) (hc0 hc1 hc2 hc3 hc4 hc5) (x0 x1 x2 x3 x4 xo6 xo7 xo8) :
    (kernelRun0_B (F := F) c i arg1 harg1 arg2 harg2 arg3 harg3 arg4 harg4 arg5 harg5 arg6 harg6 arg7 harg7 arg8 harg8 arg9 harg9 hc0 hc1 hc2 hc3 hc4 hc5 x0 x1 x2 x3 x4 xo6 xo7 xo8).2.2.2.1 =
      stR (k0_pay5 (k0_pay7 (ldB arg2 harg2 x1)) (k0_pay8 (ldB arg1 harg1 x0) (ldR arg5 harg5 x4)) (ldR arg9 harg9 xo8)) := by
  sl_kernel_rfl

end

section

variable (g sc : Vec Ideal S1x2048 .f32) (x dh dr : Vec Ideal S256x2048 .f32) (p : Fin 256) (j : Fin 2048)

/-- Row `p` of a block. -/
def rowB (x : Vec Ideal S256x2048 .f32) (p : Fin 256) (k : Fin 2048) : EReal := x (ix2 p k)

/-- A row's only line. -/
def line (x : Vec Ideal S1x2048 .f32) (k : Fin 2048) : EReal := x (ix2 0 k)

theorem pay6 (z : Fin 1) : k0_pay6 x (ix2 p z) = rr (rowB x p) := by
  pointwise [k0_pay6]
  rfl

theorem pay7 : k0_pay7 x (ix2 p j) = xh (rowB x p) j := by
  pointwise [k0_pay7]
  simp only [pay6]
  rfl

theorem pay8 : k0_pay8 dh sc (ix2 p j) = rowB dh p j * (1 + line sc j) := by
  pointwise [k0_pay8]
  rfl

theorem pay9 : k0_pay9 g x dh sc dr (ix2 p j) = rowB dr p j + back (fun k => rowB dh p k * (1 + line sc k) * line g k) (rowB x p) j := by
  pointwise [k0_pay9]
  simp only [pay6, pay7, pay8]
  rfl

theorem pay10 (z : Fin 1) : k0_pay10 dh (ix2 z j) = ∑ p, rowB dh p j := by
  pointwise [k0_pay10]
  rfl

theorem pay2 (z : Fin 1) : k0_pay2 g (k0_pay7 x) dh (ix2 z j) = ∑ p, rowB dh p j * xh (rowB x p) j * line g j := by
  pointwise [k0_pay2]
  simp only [pay7]
  rfl

theorem pay4 (z : Fin 1) : k0_pay4 (k0_pay7 x) (k0_pay8 dh sc) (ix2 z j) = ∑ p, rowB dh p j * (1 + line sc j) * xh (rowB x p) j := by
  pointwise [k0_pay4]
  simp only [pay7, pay8]

theorem pay1 (v old : Vec Ideal S1x2048 .f32) (z : Fin 1) : k0_pay1 v old (ix2 z j) = (fun a b : EReal => a + b) (old (ix2 z j)) (v (ix2 z j)) := by
  pointwise [k0_pay1]

theorem pay3 (x : Vec Ideal S256x2048 .f32) (old : Vec Ideal S1x2048 .f32) (z : Fin 1) :
    k0_pay3 g x dh old (ix2 z j) = (fun a b : EReal => a + b) (old (ix2 z j)) (k0_pay2 g x dh (ix2 z j)) := by
  pointwise [k0_pay3]

theorem pay5 (x y : FVec Ideal S256x2048 .f32) (old : Vec Ideal S1x2048 .f32) (z : Fin 1) :
    k0_pay5 (F := Ideal) x y old (ix2 z j) = (fun a b : EReal => a + b) (old (ix2 z j)) (k0_pay4 (F := Ideal) x y (ix2 z j)) := by
  pointwise [k0_pay5]

end

section

variable {m : (ℓ : Loc nD τ sig) → Buf (Elt Ideal) ℓ} {c : Dev nD}

theorem ltN (t : Fin cfg0.N) : t.val < 8 := lt_of_lt_of_eq t.isLt (show cfg0.N = 8 from N_0)

theorem ptA_5 (t : Fin cfg0.N) (h : t.val = 0) : (outsAt0 m c t.val t.isLt).1 = k0_pay9 (iblk m c 3 t) (iblk m c 1 t) (iblk m c 0 t) (iblk m c 4 t) (iblk m c 2 t) := by
  have := ltN t
  rw [outsAt0_A m c t (by omega) (by omega) (by omega) (by omega) (by omega) (by omega)]
  dsimp only
  unfold out0_A_5
  rw [View.read_writes_junk_eq_canon, runA_5, stB_eq]
  simp only [ldB_eq, ldR_eq]

theorem ptA_6 (t : Fin cfg0.N) (h : t.val = 0) : (outsAt0 m c t.val t.isLt).2.1 = k0_pay10 (iblk m c 0 t) := by
  have := ltN t
  rw [outsAt0_A m c t (by omega) (by omega) (by omega) (by omega) (by omega) (by omega)]
  dsimp only
  unfold out0_A_6
  rw [View.read_writes_junk_eq_canon, runA_6, stR_eq]
  simp only [ldB_eq, ldR_eq]

theorem ptA_7 (t : Fin cfg0.N) (h : t.val = 0) : (outsAt0 m c t.val t.isLt).2.2.1 = k0_pay2 (iblk m c 3 t) (k0_pay7 (iblk m c 1 t)) (iblk m c 0 t) := by
  have := ltN t
  rw [outsAt0_A m c t (by omega) (by omega) (by omega) (by omega) (by omega) (by omega)]
  dsimp only
  unfold out0_A_7
  rw [View.read_writes_junk_eq_canon, runA_7, stR_eq]
  simp only [ldB_eq, ldR_eq]

theorem ptA_8 (t : Fin cfg0.N) (h : t.val = 0) : (outsAt0 m c t.val t.isLt).2.2.2 = k0_pay4 (k0_pay7 (iblk m c 1 t)) (k0_pay8 (iblk m c 0 t) (iblk m c 4 t)) := by
  have := ltN t
  rw [outsAt0_A m c t (by omega) (by omega) (by omega) (by omega) (by omega) (by omega)]
  dsimp only
  unfold out0_A_8
  rw [View.read_writes_junk_eq_canon, runA_8, stR_eq]
  simp only [ldB_eq, ldR_eq]

theorem ptB_5 (t : Fin cfg0.N) (h : 1 ≤ t.val) : (outsAt0 m c t.val t.isLt).1 = k0_pay9 (iblk m c 3 t) (iblk m c 1 t) (iblk m c 0 t) (iblk m c 4 t) (iblk m c 2 t) := by
  have := ltN t
  rw [outsAt0_B m c t (by omega) (by omega) (by omega) (by omega) (by omega) (by omega)]
  dsimp only
  unfold out0_B_5
  rw [View.read_writes_junk_eq_canon, runB_5, stB_eq]
  simp only [ldB_eq, ldR_eq]

theorem ptB_6 (t : Fin cfg0.N) (h : 1 ≤ t.val) : (outsAt0 m c t.val t.isLt).2.1 = k0_pay1 (k0_pay10 (iblk m c 0 t)) (outsAt0 m c (t.val - 1) (Nat.lt_of_le_of_lt (Nat.sub_le _ _) t.isLt)).2.1 := by
  have := ltN t
  rw [outsAt0_B m c t (by omega) (by omega) (by omega) (by omega) (by omega) (by omega)]
  dsimp only
  unfold out0_B_6
  rw [View.read_writes_junk_eq_canon, runB_6, stR_eq]
  simp only [ldB_eq, ldR_eq]

theorem ptB_7 (t : Fin cfg0.N) (h : 1 ≤ t.val) : (outsAt0 m c t.val t.isLt).2.2.1 = k0_pay3 (iblk m c 3 t) (k0_pay7 (iblk m c 1 t)) (iblk m c 0 t) (outsAt0 m c (t.val - 1) (Nat.lt_of_le_of_lt (Nat.sub_le _ _) t.isLt)).2.2.1 := by
  have := ltN t
  rw [outsAt0_B m c t (by omega) (by omega) (by omega) (by omega) (by omega) (by omega)]
  dsimp only
  unfold out0_B_7
  rw [View.read_writes_junk_eq_canon, runB_7, stR_eq]
  simp only [ldB_eq, ldR_eq]

theorem ptB_8 (t : Fin cfg0.N) (h : 1 ≤ t.val) : (outsAt0 m c t.val t.isLt).2.2.2 = k0_pay5 (k0_pay7 (iblk m c 1 t)) (k0_pay8 (iblk m c 0 t) (iblk m c 4 t)) (outsAt0 m c (t.val - 1) (Nat.lt_of_le_of_lt (Nat.sub_le _ _) t.isLt)).2.2.2 := by
  have := ltN t
  rw [outsAt0_B m c t (by omega) (by omega) (by omega) (by omega) (by omega) (by omega)]
  dsimp only
  unfold out0_B_8
  rw [View.read_writes_junk_eq_canon, runB_8, stR_eq]
  simp only [ldB_eq, ldR_eq]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by
  decide +kernel

/-- Row `p` of a point's block. -/
def row (t : Fin cfg0.N) (p : Fin 256) : Fin 2048 := ⟨256 * t.val + p.val, by have := ltN t; omega⟩

/-- Row `p` of an array. -/
def rowA (x : Vec Ideal S2048x2048 .f32) (p : Fin 2048) (k : Fin 2048) : EReal := x (ix2 p k)

theorem blk0 (t : Fin cfg0.N) (p : Fin 256) : rowB (iblk m c 0 t) p = rowA (m ((c : Thread nD τ).loc main_arg0)) (row t p) := by
  funext k
  have e : (win0_0.blk t).view.emb (ix2 p k) = ix2 (row t p) k := by blk_ext [idx t, row]
  unfold rowB rowA
  blk_simp [iblk]
  rw [e]

theorem blk1 (t : Fin cfg0.N) (p : Fin 256) : rowB (iblk m c 1 t) p = rowA (m ((c : Thread nD τ).loc main_arg1)) (row t p) := by
  funext k
  have e : (win0_1.blk t).view.emb (ix2 p k) = ix2 (row t p) k := by blk_ext [idx t, row]
  unfold rowB rowA
  blk_simp [iblk]
  rw [e]

theorem blk2 (t : Fin cfg0.N) (p : Fin 256) : rowB (iblk m c 2 t) p = rowA (m ((c : Thread nD τ).loc main_arg2)) (row t p) := by
  funext k
  have e : (win0_2.blk t).view.emb (ix2 p k) = ix2 (row t p) k := by blk_ext [idx t, row]
  unfold rowB rowA
  blk_simp [iblk]
  rw [e]

theorem blk3 (t : Fin cfg0.N) : line (iblk m c 3 t) = line (m ((c : Thread nD τ).loc main_arg3)) := by
  funext k
  have e : (win0_3.blk t).view.emb (ix2 (0 : Fin 1) k) = ix2 (0 : Fin 1) k := by blk_ext [idx t]
  unfold line
  blk_simp [iblk]
  rw [e]

theorem blk4 (t : Fin cfg0.N) : line (iblk m c 4 t) = line (m ((c : Thread nD τ).loc main_arg4)) := by
  funext k
  have e : (win0_4.blk t).view.emb (ix2 (0 : Fin 1) k) = ix2 (0 : Fin 1) k := by blk_ext [idx t]
  unfold line
  blk_simp [iblk]
  rw [e]

end

section

variable (dh x dr : Vec Ideal S2048x2048 .f32) (g sc : Vec Ideal S1x2048 .f32)

/-- The gradient of the norm's result before the scale by `g`, in row `p`. -/
def dn (p k : Fin 2048) : EReal := rowA dh p k * (1 + line sc k) * line g k

/-- The rows' gradient. -/
def Gx (i : S2048x2048.Idx) : EReal := rowA dr (i 0) (i 1) + back (dn dh g sc (i 0)) (rowA x (i 0)) (i 1)

/-- The shift's gradient. -/
def Gsh (i : S1x2048.Idx) : EReal := ∑ r : Fin 2048, rowA dh r (i 1)

/-- The scale's gradient. -/
def Gsc (i : S1x2048.Idx) : EReal := ∑ r : Fin 2048, rowA dh r (i 1) * xh (rowA x r) (i 1) * line g (i 1)

/-- The norm's own scale's gradient. -/
def Gg (i : S1x2048.Idx) : EReal := ∑ r : Fin 2048, rowA dh r (i 1) * (1 + line sc (i 1)) * xh (rowA x r) (i 1)

end

section

variable {m : (ℓ : Loc nD τ sig) → Buf (Elt Ideal) ℓ} {c : Dev nD}

theorem pt5 (t : Fin cfg0.N) : (outsAt0 m c t.val t.isLt).1 = k0_pay9 (iblk m c 3 t) (iblk m c 1 t) (iblk m c 0 t) (iblk m c 4 t) (iblk m c 2 t) := by
  by_cases h : t.val = 0
  · exact ptA_5 t h
  · exact ptB_5 t (by omega)

theorem arr5 : (dats m 0 c).arrAt 5 cfg0.N = Gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, pt5, pay9, blk0, blk1, blk2, blk3, blk4]
  exact (congrArg (Gx _ _ _ _ _) e).symm

theorem part6 (t : Fin cfg0.N) (z : Fin 1) (j : Fin 2048) : k0_pay10 (iblk m c 0 t) (ix2 z j) = ∑ p : Fin 256, (fun r => rowA (m ((c : Thread nD τ).loc main_arg0)) r j) (row t p) := by
  rw [pay10]
  refine Finset.sum_congr rfl fun p _ => ?_
  rw [blk0]

theorem acc6 (z : Fin 1) (j : Fin 2048) : (outsAt0 m c t0_7.val t0_7.isLt).2.1 (ix2 z j) = ∑ r : Fin 2048, rowA (m ((c : Thread nD τ).loc main_arg0)) r j := by
  refine acc_blocks (fun r => rowA (m ((c : Thread nD τ).loc main_arg0)) r j)
    (fun n hn => (outsAt0 m c n (lt_of_lt_of_eq hn (show 8 = cfg0.N from N_0.symm))).2.1 (ix2 z j)) ?_ fun n hn h => ?_
  · exact (congrFun (ptA_6 t0_0 rfl) _).trans (part6 t0_0 z j)
  · have hN := lt_of_lt_of_eq hn (show 8 = cfg0.N from N_0.symm)
    refine (congrFun (ptB_6 ⟨n, hN⟩ h) _).trans ((pay1 _ _ _ _).trans ?_)
    exact congrArg (HAdd.hAdd ((outsAt0 m c (n - 1) (Nat.lt_of_le_of_lt (Nat.sub_le _ _) hN)).2.1 (ix2 z j) : EReal)) (part6 ⟨n, hN⟩ z j)

theorem arr6 : (dats m 0 c).arrAt 6 cfg0.N = Gsh (m ((c : Thread nD τ).loc main_arg0)) := by
  refine (dats m 0 c).arrAt_eq_of_after_last 6 t0_7 (by decide +kernel) _ fun y => ?_
  obtain ⟨z, j, rfl⟩ : ∃ z j, y = ix2 z j := ⟨_, _, eq_ix2 y⟩
  rw [after0_6]
  exact acc6 z j

theorem part7 (t : Fin cfg0.N) (z : Fin 1) (j : Fin 2048) : k0_pay2 (iblk m c 3 t) (k0_pay7 (iblk m c 1 t)) (iblk m c 0 t) (ix2 z j) = ∑ p : Fin 256, (fun r => rowA (m ((c : Thread nD τ).loc main_arg0)) r j * xh (rowA (m ((c : Thread nD τ).loc main_arg1)) r) j * line (m ((c : Thread nD τ).loc main_arg3)) j) (row t p) := by
  rw [pay2]
  refine Finset.sum_congr rfl fun p _ => ?_
  rw [blk0, blk1, blk3]

theorem acc7 (z : Fin 1) (j : Fin 2048) : (outsAt0 m c t0_7.val t0_7.isLt).2.2.1 (ix2 z j) = ∑ r : Fin 2048, rowA (m ((c : Thread nD τ).loc main_arg0)) r j * xh (rowA (m ((c : Thread nD τ).loc main_arg1)) r) j * line (m ((c : Thread nD τ).loc main_arg3)) j := by
  refine acc_blocks (fun r => rowA (m ((c : Thread nD τ).loc main_arg0)) r j * xh (rowA (m ((c : Thread nD τ).loc main_arg1)) r) j * line (m ((c : Thread nD τ).loc main_arg3)) j)
    (fun n hn => (outsAt0 m c n (lt_of_lt_of_eq hn (show 8 = cfg0.N from N_0.symm))).2.2.1 (ix2 z j)) ?_ fun n hn h => ?_
  · exact (congrFun (ptA_7 t0_0 rfl) _).trans (part7 t0_0 z j)
  · have hN := lt_of_lt_of_eq hn (show 8 = cfg0.N from N_0.symm)
    refine (congrFun (ptB_7 ⟨n, hN⟩ h) _).trans ((pay3 _ _ _ _ _ _).trans ?_)
    exact congrArg (HAdd.hAdd ((outsAt0 m c (n - 1) (Nat.lt_of_le_of_lt (Nat.sub_le _ _) hN)).2.2.1 (ix2 z j) : EReal)) (part7 ⟨n, hN⟩ z j)

theorem arr7 : (dats m 0 c).arrAt 7 cfg0.N = Gsc (m ((c : Thread nD τ).loc main_arg0)) (m ((c : Thread nD τ).loc main_arg1)) (m ((c : Thread nD τ).loc main_arg3)) := by
  refine (dats m 0 c).arrAt_eq_of_after_last 7 t0_7 (by decide +kernel) _ fun y => ?_
  obtain ⟨z, j, rfl⟩ : ∃ z j, y = ix2 z j := ⟨_, _, eq_ix2 y⟩
  rw [after0_7]
  exact acc7 z j

theorem part8 (t : Fin cfg0.N) (z : Fin 1) (j : Fin 2048) : k0_pay4 (k0_pay7 (iblk m c 1 t)) (k0_pay8 (iblk m c 0 t) (iblk m c 4 t)) (ix2 z j) = ∑ p : Fin 256, (fun r => rowA (m ((c : Thread nD τ).loc main_arg0)) r j * (1 + line (m ((c : Thread nD τ).loc main_arg4)) j) * xh (rowA (m ((c : Thread nD τ).loc main_arg1)) r) j) (row t p) := by
  rw [pay4]
  refine Finset.sum_congr rfl fun p _ => ?_
  rw [blk0, blk1, blk4]

theorem acc8 (z : Fin 1) (j : Fin 2048) : (outsAt0 m c t0_7.val t0_7.isLt).2.2.2 (ix2 z j) = ∑ r : Fin 2048, rowA (m ((c : Thread nD τ).loc main_arg0)) r j * (1 + line (m ((c : Thread nD τ).loc main_arg4)) j) * xh (rowA (m ((c : Thread nD τ).loc main_arg1)) r) j := by
  refine acc_blocks (fun r => rowA (m ((c : Thread nD τ).loc main_arg0)) r j * (1 + line (m ((c : Thread nD τ).loc main_arg4)) j) * xh (rowA (m ((c : Thread nD τ).loc main_arg1)) r) j)
    (fun n hn => (outsAt0 m c n (lt_of_lt_of_eq hn (show 8 = cfg0.N from N_0.symm))).2.2.2 (ix2 z j)) ?_ fun n hn h => ?_
  · exact (congrFun (ptA_8 t0_0 rfl) _).trans (part8 t0_0 z j)
  · have hN := lt_of_lt_of_eq hn (show 8 = cfg0.N from N_0.symm)
    refine (congrFun (ptB_8 ⟨n, hN⟩ h) _).trans ((pay5 _ _ _ _ _).trans ?_)
    exact congrArg (HAdd.hAdd ((outsAt0 m c (n - 1) (Nat.lt_of_le_of_lt (Nat.sub_le _ _) hN)).2.2.2 (ix2 z j) : EReal)) (part8 ⟨n, hN⟩ z j)

theorem arr8 : (dats m 0 c).arrAt 8 cfg0.N = Gg (m ((c : Thread nD τ).loc main_arg0)) (m ((c : Thread nD τ).loc main_arg1)) (m ((c : Thread nD τ).loc main_arg4)) := by
  refine (dats m 0 c).arrAt_eq_of_after_last 8 t0_7 (by decide +kernel) _ fun y => ?_
  obtain ⟨z, j, rfl⟩ : ∃ z j, y = ix2 z j := ⟨_, _, eq_ix2 y⟩
  rw [after0_8]
  exact acc8 z j

end

section

open Cert.NbwRefIdeal.Read

variable (dh x dr : Vec Ideal S2048x2048 .f32) (g sc : Vec Ideal S1x2048 .f32)

theorem entry (x : Vec Ideal S2048x2048 .f32) (i : S2048x2048.Idx) : x i = rowA x (i 0) (i 1) := congrArg x (eq_ix2 i)

theorem r7 (i : NbwRefIdeal.S2048x1.Idx) : val_main_v7 (F := Ideal) x i = ms (rowA x (i 0)) := by
  refine congrArg (fun s : EReal => Ideal.div s width + eps) ?_
  refine (val_main_v3_apply x i).trans ((val_main_v2_apply x _).trans ((zsum _).trans ?_))
  refine Finset.sum_congr rfl fun k _ => ?_
  exact congrArg (fun a : EReal => a * a) (entry x _)

theorem r8 (i : NbwRefIdeal.S2048x1.Idx) : val_main_v8 (F := Ideal) x i = rr (rowA x (i 0)) := congrArg Ideal.rsqrt (r7 x i)

theorem r13 (i : S2048x2048.Idx) : val_main_v13 (F := Ideal) x i = xh (rowA x (i 0)) (i 1) :=
  congrArg₂ (fun a b : EReal => a * b) (entry x i) ((val_main_v12_apply x i).trans (r8 x _))

theorem r17 (i : S1x2048.Idx) (k : Fin 2048) (h : i = ix2 0 k) : val_main_v17 (F := Ideal) sc i = 1 + line sc k := by
  rw [h]
  exact congrArg (fun a : EReal => a + line sc k) one

theorem r22 (i : S2048x2048.Idx) : val_main_v22 (F := Ideal) dh i = rowA dh (i 0) (i 1) := by
  refine (val_main_v22_apply dh i).trans ((entry dh _).trans (congrArg₂ (rowA dh) (Fin.ext ?_) (Fin.ext ?_)))
  · have h0 : (i 0).val < 2048 := (i 0).isLt
    have h1 : (i 1).val < 2048 := (i 1).isLt
    show ((i 0).val * 2048 + (i 1).val) / 2048 = (i 0).val
    omega
  · have h0 : (i 0).val < 2048 := (i 0).isLt
    have h1 : (i 1).val < 2048 := (i 1).isLt
    show ((i 0).val * 2048 + (i 1).val) % 2048 = (i 1).val
    omega

theorem r29 (i : S2048x2048.Idx) : val_main_v29 (F := Ideal) dh sc i = rowA dh (i 0) (i 1) * (1 + line sc (i 1)) :=
  congrArg₂ (fun a b : EReal => a * b) (r22 dh i) ((val_main_v28_apply sc i).trans (r17 sc _ (i 1) ((eq_ix2 _).trans (congrArg₂ ix2 (Fin.ext rfl) (Fin.ext rfl)))))

theorem r34 (i : S2048x2048.Idx) : val_main_v34 (F := Ideal) dh g sc i = dn dh g sc (i 0) (i 1) :=
  congrArg₂ (fun a b : EReal => a * b) (r29 dh sc i) ((val_main_v33_apply g i).trans (congrArg g ((eq_ix2 _).trans (congrArg₂ ix2 (Fin.ext rfl) (Fin.ext rfl)))))

theorem r11 (i : NbwRefIdeal.S2048x1.Idx) : val_main_v11 (F := Ideal) x i = ((-(1 / 2) : ℝ) : EReal) * Ideal.div (rr (rowA x (i 0))) (ms (rowA x (i 0))) :=
  congrArg₂ (fun a b : EReal => a * b) neg_half (congrArg₂ Ideal.div (r8 x i) (r7 x i))

theorem r36 (i : NbwRefIdeal.S2048.Idx) : val_main_v36 (F := Ideal) dh x g sc i = ∑ k, rowA x (i 0) k * dn dh g sc (i 0) k := by
  refine (val_main_v36_apply dh x g sc i).trans ((zsum _).trans ?_)
  refine Finset.sum_congr rfl fun k _ => ?_
  exact congrArg₂ (fun a b : EReal => a * b) (entry x _) (r34 dh g sc _)

theorem r42 (i : NbwRefIdeal.S2048x1.Idx) : val_main_v42 (F := Ideal) dh x g sc i = sq (dn dh g sc (i 0)) (rowA x (i 0)) := by
  have h1 : (i 1).val < 1 := (i 1).isLt
  have e : idx_main_v37 i 0 = i 0 := Fin.ext (by show (i 0).val * 1 + (i 1).val = (i 0).val; omega)
  refine congrArg (fun s : EReal => Ideal.div s width) (congrArg₂ (fun a b : EReal => a * b) ((val_main_v37_apply dh x g sc i).trans ((r36 dh x g sc _).trans ?_)) (r11 x i))
  rw [e]

theorem r44 (i : S2048x2048.Idx) : val_main_v44 (F := Ideal) dh x g sc i = sq (dn dh g sc (i 0)) (rowA x (i 0)) := by
  refine (val_main_v44_apply dh x g sc i).trans ((val_main_v43_apply dh x g sc _).trans ((zsum _).trans ?_))
  refine (Fin.sum_univ_one _).trans ?_
  exact r42 dh x g sc _

theorem ref49 : val_main_v49 (F := Ideal) dh x dr g sc = Gx dh x dr g sc := by
  funext i
  refine Eq.trans ?_ (congrArg (HAdd.hAdd (rowA dr (i 0) (i 1))) (chain_eq (dn dh g sc (i 0)) (rowA x (i 0)) (i 1)))
  refine congrArg₂ (fun a b : EReal => a + b) (entry dr i) ?_
  refine congrArg₂ (fun a b : EReal => a + b) (congrArg₂ (fun a b : EReal => a + b) ?_ ?_) ?_
  · exact congrArg₂ (fun a b : EReal => a * b) (r34 dh g sc i) ((val_main_v38_apply x i).trans (r8 x _))
  · exact congrArg₂ (fun a b : EReal => a * b) (entry x i) (r44 dh x g sc i)
  · exact congrArg₂ (fun a b : EReal => a * b) (r44 dh x g sc i) (entry x i)

/-- The column that a row's reshaped sum reads. -/
theorem flat (i : S1x2048.Idx) (k : Fin 2048) (h : k.val = (i 0).val * 2048 + (i 1).val) : k = i 1 := by
  have h0 : (i 0).val < 1 := (i 0).isLt
  exact Fin.ext (by omega)

theorem ref24 : val_main_v24 (F := Ideal) dh = Gsh dh := by
  funext i
  refine (val_main_v24_apply dh i).trans ((val_main_v23_apply dh _).trans ((zsum _).trans ?_))
  refine Finset.sum_congr rfl fun r _ => ?_
  exact (entry dh _).trans (congrArg (rowA dh r) (flat i _ rfl))

theorem ref27 : val_main_v27 (F := Ideal) dh x g = Gsc dh x g := by
  funext i
  refine (val_main_v27_apply dh x g i).trans ((val_main_v26_apply dh x g _).trans ((zsum _).trans ?_))
  refine Finset.sum_congr rfl fun r _ => ?_
  rw [← flat i (idx_main_v26 (idx_main_v27 i) r 1) rfl, mul_assoc, mul_comm]
  exact congrArg₂ (fun a b : EReal => a * b) (congrArg₂ (fun a b : EReal => a * b) (r13 x _)
    ((val_main_v14_apply g _).trans (congrArg g ((eq_ix2 _).trans (congrArg₂ ix2 (Fin.ext rfl) (Fin.ext rfl)))))) (r22 dh _)

theorem ref32 : val_main_v32 (F := Ideal) dh x sc = Gg dh x sc := by
  funext i
  refine (val_main_v32_apply dh x sc i).trans ((val_main_v31_apply dh x sc _).trans ((zsum _).trans ?_))
  refine Finset.sum_congr rfl fun r _ => ?_
  rw [← flat i (idx_main_v31 (idx_main_v32 i) r 1) rfl, mul_comm]
  exact congrArg₂ (fun a b : EReal => a * b) (r13 x _) (r29 dh sc _)

end

end Cert.NbwIdeal.Mat

namespace Cert.NbwClaims

open Idealize.ShloMosaic Idealize.SL.Sem

/-- The kernel's frame. -/
theorem frame_kernel : Cert.quiescent_Nbw (hNbw := Cert.Nbw.Gen.facts) := fun m ρ _ => Cert.Nbw.Gen.frame m ρ

/-- The idealized kernel's frame. -/
theorem frame_ideal : Cert.quiescent_NbwIdeal (hNbwIdeal := Cert.NbwIdeal.Gen.facts) := fun m ρ _ => Cert.NbwIdeal.Gen.frame m ρ

/-- The reference's frame. -/
theorem frame_ref : Cert.quiescent_NbwRefIdeal (hNbwRefIdeal := Cert.NbwRefIdeal.Gen.facts) := fun m ρ _ =>
  (θ_run Cert.NbwRefIdeal.defs _ _).mono
    (fun r h => ⟨fun c => (h c).2.2.2.2, Idealize.ShloMosaic.sem_eq_zero_of_no_sems (by decide) r.2⟩) (Cert.NbwRefIdeal.Value.run (F := Ideal) m ρ)

/-- The idealized kernel keeps what the kernel computes. -/
theorem preserves : Cert.preserves_Nbw_NbwIdeal := trivial

/-- The kernel's results are the reference's. -/
theorem algebraic : Cert.algebraic_NbwIdeal_NbwRefIdeal (hNbwIdeal := Cert.NbwIdeal.Gen.facts) (hNbwRefIdeal := Cert.NbwRefIdeal.Gen.facts) := by
  haveI := Cert.NbwIdeal.Gen.facts
  haveI := Cert.NbwRefIdeal.Gen.facts
  intro m ρ m' ρ' _ hagree
  refine ⟨_, _, _, _, Cert.NbwIdeal.Value.run_blocks m ρ, ?_⟩
  refine (θ_run Cert.NbwRefIdeal.defs _ _).mono (fun _ h c => ?_) (Cert.NbwRefIdeal.Value.run (F := Ideal) m' ρ')
  obtain ⟨e0, e1, e2, e3, e4⟩ := hagree c
  obtain ⟨h0, h1, h2, h3, h⟩ := h c
  refine ⟨h0.trans ?_, h1.trans ?_, h2.trans ?_, h3.trans ?_, h⟩
  · refine (Cert.NbwRefIdeal.Read.val_main_v49_eq _ _).trans ((Cert.NbwIdeal.Mat.ref49 _ _ _ _ _).trans ?_)
    rw [e0, e1, e2, e3, e4]
    exact Cert.NbwIdeal.Mat.arr5.symm
  · refine (Cert.NbwRefIdeal.Read.val_main_v24_eq _).trans ((Cert.NbwIdeal.Mat.ref24 _).trans ?_)
    rw [e0]
    exact Cert.NbwIdeal.Mat.arr6.symm
  · refine (Cert.NbwRefIdeal.Read.val_main_v27_eq _ _ _).trans ((Cert.NbwIdeal.Mat.ref27 _ _ _).trans ?_)
    rw [e0, e1, e3]
    exact Cert.NbwIdeal.Mat.arr7.symm
  · refine (Cert.NbwRefIdeal.Read.val_main_v32_eq _ _ _).trans ((Cert.NbwIdeal.Mat.ref32 _ _ _).trans ?_)
    rw [e0, e1, e4]
    exact Cert.NbwIdeal.Mat.arr8.symm

end Cert.NbwClaims

end
-- ==== Proof.Nf1Mat.lean ====
/- The first norm with its scale and shift. -/
module

public import Idealize.ShloMosaic.Lib.Pointwise
public import Idealize.ShloMosaic.Lib.Pipeline.ValueKit
public import Idealize.ShloMosaic.Lib.Claim
public import proofs.«01_k».proof.Defs
public import proofs.«01_k».proof.Proof.NormRow
public import proofs.«01_k».proof.Proof.Gen.Nf1.Frame
public import proofs.«01_k».proof.Proof.Gen.Nf1Ideal.Value
public import proofs.«01_k».proof.Proof.Gen.Nf1RefIdeal.Run
public import proofs.«01_k».proof.Proof.Gen.Nf1RefIdeal.Read
public import Idealize.ShloMosaic.Adequacy
public import Idealize.ShloMosaic.Init

@[expose] public section

set_option maxRecDepth 16384

noncomputable section

namespace Cert.Nf1Ideal.Mat

open Idealize.ShloMosaic Idealize.ShloMosaic.TcCoe Idealize.SL Idealize.SL.Sem Cert.Nf1Ideal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

/-- Row `p` of a block. -/
def rowB (x : Vec Ideal S256x2048 .f32) (p : Fin 256) (k : Fin 2048) : EReal := x (ix2 p k)

/-- A row's only line. -/
def line (x : Vec Ideal S1x2048 .f32) (k : Fin 2048) : EReal := x (ix2 0 k)

/-- Row `p` of an array. -/
def rowA (x : Vec Ideal S2048x2048 .f32) (p : Fin 2048) (k : Fin 2048) : EReal := x (ix2 p k)

theorem ltN (t : Fin cfg0.N) : t.val < 8 := lt_of_lt_of_eq t.isLt (show cfg0.N = 8 from N_0)

/-- Row `p` of a point's block. -/
def row (t : Fin cfg0.N) (p : Fin 256) : Fin 2048 := ⟨256 * t.val + p.val, by have := ltN t; omega⟩

section

variable (x : Vec Ideal S256x2048 .f32) (g sc sh : Vec Ideal S1x2048 .f32) (p : Fin 256) (j : Fin 2048)

theorem pay1 : k0_pay1 x g sc sh (ix2 p j) = modulated (rowB x p) (line g) (line sc) (line sh) j := by
  pointwise [k0_pay1]
  rfl

theorem out4 : out0_4 x g sc sh (ix2 p j) = modulated (rowB x p) (line g) (line sc) (line sh) j := by
  unfold out0_4
  rw [View.canon_unit_zero (S := S256x2048) z2]
  simp only [View.ld_unit_zero (S := S256x2048) z2, View.ld_unit_zero (S := S1x2048) z2]
  exact pay1 x g sc sh p j

end

theorem idx : ∀ t : Fin cfg0.N, win0_0.index t = ![t.val, 0] ∧ win0_1.index t = ![0, 0] ∧ win0_2.index t = ![0, 0] ∧ win0_3.index t = ![0, 0] ∧ win0_4.index t = ![t.val, 0] := by
  decide +kernel

/-- The normalised and modulated rows. -/
def G (x : Vec Ideal S2048x2048 .f32) (g sc sh : Vec Ideal S1x2048 .f32) (i : S2048x2048.Idx) : EReal :=
  modulated (rowA x (i 0)) (line g) (line sc) (line sh) (i 1)

section

variable {m : (ℓ : Loc nD τ sig) → Buf (Elt Ideal) ℓ} {c : Dev nD}

theorem blk0 (t : Fin cfg0.N) (p : Fin 256) : rowB (iblk m c 0 t) p = rowA (m ((c : Thread nD τ).loc main_arg0)) (row t p) := by
  funext k
  have e : (win0_0.blk t).view.emb (ix2 p k) = ix2 (row t p) k := by blk_ext [idx t, row]
  unfold rowB rowA
  blk_simp [iblk]
  rw [e]

theorem blk1 (t : Fin cfg0.N) : line (iblk m c 1 t) = line (m ((c : Thread nD τ).loc main_arg1)) := by
  funext k
  have e : (win0_1.blk t).view.emb (ix2 (0 : Fin 1) k) = ix2 (0 : Fin 1) k := by blk_ext [idx t]
  unfold line
  blk_simp [iblk]
  rw [e]

theorem blk2 (t : Fin cfg0.N) : line (iblk m c 2 t) = line (m ((c : Thread nD τ).loc main_arg2)) := by
  funext k
  have e : (win0_2.blk t).view.emb (ix2 (0 : Fin 1) k) = ix2 (0 : Fin 1) k := by blk_ext [idx t]
  unfold line
  blk_simp [iblk]
  rw [e]

theorem blk3 (t : Fin cfg0.N) : line (iblk m c 3 t) = line (m ((c : Thread nD τ).loc main_arg3)) := by
  funext k
  have e : (win0_3.blk t).view.emb (ix2 (0 : Fin 1) k) = ix2 (0 : Fin 1) k := by blk_ext [idx t]
  unfold line
  blk_simp [iblk]
  rw [e]

theorem arr4 : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, blk0, blk1, blk2, blk3]
  exact (congrArg (G _ _ _ _) e).symm

end

section

open Cert.Nf1RefIdeal.Read

variable (x : Vec Ideal S2048x2048 .f32) (g sc sh : Vec Ideal S1x2048 .f32)

theorem entry (x : Vec Ideal S2048x2048 .f32) (i : S2048x2048.Idx) : x i = rowA x (i 0) (i 1) := congrArg x (eq_ix2 i)

theorem r7 (i : Nf1RefIdeal.S2048x1.Idx) : val_main_v7 (F := Ideal) x i = rr (rowA x (i 0)) := by
  refine congrArg (fun s : EReal => Ideal.rsqrt (Ideal.div s width + eps)) ?_
  refine (val_main_v2_apply x i).trans ((val_main_v1_apply x _).trans ((zsum _).trans ?_))
  refine Finset.sum_congr rfl fun k _ => ?_
  exact congrArg (fun a : EReal => a * a) (entry x _)

theorem r9 (i : S2048x2048.Idx) : val_main_v9 (F := Ideal) x i = xh (rowA x (i 0)) (i 1) :=
  congrArg₂ (fun a b : EReal => a * b) (entry x i) ((val_main_v8_apply x i).trans (r7 x _))

theorem r13 (i : S1x2048.Idx) (k : Fin 2048) (h : i = ix2 0 k) : val_main_v13 (F := Ideal) sc i = 1 + line sc k := by
  rw [h]
  exact congrArg (fun a : EReal => a + line sc k) one

theorem ref18 : val_main_v18 (F := Ideal) x g sc sh = G x g sc sh := by
  funext i
  refine congrArg₂ (fun a b : EReal => a + b) (congrArg₂ (fun a b : EReal => a * b) (congrArg₂ (fun a b : EReal => a * b) (r9 x i) ?_) ?_) ?_
  · exact (val_main_v10_apply g i).trans (congrArg g ((eq_ix2 _).trans (congrArg₂ ix2 (Fin.ext rfl) (Fin.ext rfl))))
  · exact (val_main_v14_apply sc i).trans (r13 sc _ (i 1) ((eq_ix2 _).trans (congrArg₂ ix2 (Fin.ext rfl) (Fin.ext rfl))))
  · exact (val_main_v16_apply sh i).trans (congrArg sh ((eq_ix2 _).trans (congrArg₂ ix2 (Fin.ext rfl) (Fin.ext rfl))))

end

end Cert.Nf1Ideal.Mat

namespace Cert.Nf1Claims

open Idealize.ShloMosaic Idealize.SL.Sem

/-- The kernel's frame. -/
theorem frame_kernel : Cert.quiescent_Nf1 (hNf1 := Cert.Nf1.Gen.facts) := fun m ρ _ => Cert.Nf1.Gen.frame m ρ

/-- The idealized kernel's frame. -/
theorem frame_ideal : Cert.quiescent_Nf1Ideal (hNf1Ideal := Cert.Nf1Ideal.Gen.facts) := fun m ρ _ => Cert.Nf1Ideal.Gen.frame m ρ

/-- The reference's frame. -/
theorem frame_ref : Cert.quiescent_Nf1RefIdeal (hNf1RefIdeal := Cert.Nf1RefIdeal.Gen.facts) := fun m ρ _ =>
  (θ_run Cert.Nf1RefIdeal.defs _ _).mono
    (fun r h => ⟨fun c => (h c).2, Idealize.ShloMosaic.sem_eq_zero_of_no_sems (by decide) r.2⟩) (Cert.Nf1RefIdeal.Value.run (F := Ideal) m ρ)

/-- The idealized kernel keeps what the kernel computes. -/
theorem preserves : Cert.preserves_Nf1_Nf1Ideal := trivial

/-- The kernel's results are the reference's. -/
theorem algebraic : Cert.algebraic_Nf1Ideal_Nf1RefIdeal (hNf1Ideal := Cert.Nf1Ideal.Gen.facts) (hNf1RefIdeal := Cert.Nf1RefIdeal.Gen.facts) := by
  haveI := Cert.Nf1Ideal.Gen.facts
  haveI := Cert.Nf1RefIdeal.Gen.facts
  intro m ρ m' ρ' _ hagree
  refine ⟨_, Cert.Nf1Ideal.Value.run_blocks m ρ, ?_⟩
  refine (θ_run Cert.Nf1RefIdeal.defs _ _).mono (fun _ h c => ?_) (Cert.Nf1RefIdeal.Value.run (F := Ideal) m' ρ')
  obtain ⟨e0, e1, e2, e3⟩ := hagree c
  obtain ⟨h0, h⟩ := h c
  refine ⟨h0.trans ?_, h⟩
  · refine (Cert.Nf1RefIdeal.Read.val_main_v18_eq _ _ _ _).trans ((Cert.Nf1Ideal.Mat.ref18 _ _ _ _).trans ?_)
    rw [e0, e1, e2, e3]
    exact Cert.Nf1Ideal.Mat.arr4.symm

end Cert.Nf1Claims

end
-- ==== Proof.Nf2Mat.lean ====
/- The second norm with its scale and shift, of the rows with the gated branch added. -/
module

public import Idealize.ShloMosaic.Lib.Pointwise
public import Idealize.ShloMosaic.Lib.Pipeline.ValueKit
public import Idealize.ShloMosaic.Lib.Claim
public import proofs.«01_k».proof.Defs
public import proofs.«01_k».proof.Proof.NormRow
public import proofs.«01_k».proof.Proof.Gen.Nf2.Frame
public import proofs.«01_k».proof.Proof.Gen.Nf2Ideal.Value
public import proofs.«01_k».proof.Proof.Gen.Nf2RefIdeal.Run
public import proofs.«01_k».proof.Proof.Gen.Nf2RefIdeal.Read
public import Idealize.ShloMosaic.Adequacy
public import Idealize.ShloMosaic.Init

@[expose] public section

set_option maxRecDepth 16384

noncomputable section

namespace Cert.Nf2Ideal.Mat

open Idealize.ShloMosaic Idealize.ShloMosaic.TcCoe Idealize.SL Idealize.SL.Sem Cert.Nf2Ideal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

/-- Row `p` of a block. -/
def rowB (x : Vec Ideal S256x2048 .f32) (p : Fin 256) (k : Fin 2048) : EReal := x (ix2 p k)

/-- A row's only line. -/
def line (x : Vec Ideal S1x2048 .f32) (k : Fin 2048) : EReal := x (ix2 0 k)

/-- Row `p` of an array. -/
def rowA (x : Vec Ideal S2048x2048 .f32) (p : Fin 2048) (k : Fin 2048) : EReal := x (ix2 p k)

theorem ltN (t : Fin cfg0.N) : t.val < 8 := lt_of_lt_of_eq t.isLt (show cfg0.N = 8 from N_0)

/-- Row `p` of a point's block. -/
def row (t : Fin cfg0.N) (p : Fin 256) : Fin 2048 := ⟨256 * t.val + p.val, by have := ltN t; omega⟩

section

variable (x r : Vec Ideal S256x2048 .f32) (gt g sc sh : Vec Ideal S1x2048 .f32) (p : Fin 256) (j : Fin 2048)

/-- A row and the gated row added to it. -/
def plus (x gt r : Fin 2048 → EReal) (k : Fin 2048) : EReal := x k + gt k * r k

theorem pay1 : k0_pay1 x gt r (ix2 p j) = plus (rowB x p) (line gt) (rowB r p) j := by
  pointwise [k0_pay1]
  rfl

theorem pay2 : k0_pay2 x gt r g sc sh (ix2 p j) = modulated (plus (rowB x p) (line gt) (rowB r p)) (line g) (line sc) (line sh) j := by
  pointwise [k0_pay2]
  simp only [pay1]
  rfl

theorem out6 : out0_6 x r gt g sc sh (ix2 p j) = plus (rowB x p) (line gt) (rowB r p) j := by
  unfold out0_6
  rw [View.canon_unit_zero (S := S256x2048) z2]
  simp only [View.ld_unit_zero (S := S256x2048) z2, View.ld_unit_zero (S := S1x2048) z2]
  exact pay1 x r gt p j

theorem out7 : out0_7 x r gt g sc sh (ix2 p j) = modulated (plus (rowB x p) (line gt) (rowB r p)) (line g) (line sc) (line sh) j := by
  unfold out0_7
  rw [View.canon_unit_zero (S := S256x2048) z2]
  simp only [View.ld_unit_zero (S := S256x2048) z2, View.ld_unit_zero (S := S1x2048) z2]
  exact pay2 x r gt g sc sh p j

end

theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] := by
  decide +kernel

/-- The rows with the gated branch added. -/
def Gx (x r : Vec Ideal S2048x2048 .f32) (gt : Vec Ideal S1x2048 .f32) (i : S2048x2048.Idx) : EReal := plus (rowA x (i 0)) (line gt) (rowA r (i 0)) (i 1)

/-- Their norm with its scale and shift. -/
def Gh (x r : Vec Ideal S2048x2048 .f32) (gt g sc sh : Vec Ideal S1x2048 .f32) (i : S2048x2048.Idx) : EReal :=
  modulated (plus (rowA x (i 0)) (line gt) (rowA r (i 0))) (line g) (line sc) (line sh) (i 1)

section

variable {m : (ℓ : Loc nD τ sig) → Buf (Elt Ideal) ℓ} {c : Dev nD}

theorem blk0 (t : Fin cfg0.N) (p : Fin 256) : rowB (iblk m c 0 t) p = rowA (m ((c : Thread nD τ).loc main_arg0)) (row t p) := by
  funext k
  have e : (win0_0.blk t).view.emb (ix2 p k) = ix2 (row t p) k := by blk_ext [idx t, row]
  unfold rowB rowA
  blk_simp [iblk]
  rw [e]

theorem blk1 (t : Fin cfg0.N) (p : Fin 256) : rowB (iblk m c 1 t) p = rowA (m ((c : Thread nD τ).loc main_arg4)) (row t p) := by
  funext k
  have e : (win0_1.blk t).view.emb (ix2 p k) = ix2 (row t p) k := by blk_ext [idx t, row]
  unfold rowB rowA
  blk_simp [iblk]
  rw [e]

theorem blk2 (t : Fin cfg0.N) : line (iblk m c 2 t) = line (m ((c : Thread nD τ).loc main_arg5)) := by
  funext k
  have e : (win0_2.blk t).view.emb (ix2 (0 : Fin 1) k) = ix2 (0 : Fin 1) k := by blk_ext [idx t]
  unfold line
  blk_simp [iblk]
  rw [e]

theorem blk3 (t : Fin cfg0.N) : line (iblk m c 3 t) = line (m ((c : Thread nD τ).loc main_arg1)) := by
  funext k
  have e : (win0_3.blk t).view.emb (ix2 (0 : Fin 1) k) = ix2 (0 : Fin 1) k := by blk_ext [idx t]
  unfold line
  blk_simp [iblk]
  rw [e]

theorem blk4 (t : Fin cfg0.N) : line (iblk m c 4 t) = line (m ((c : Thread nD τ).loc main_arg2)) := by
  funext k
  have e : (win0_4.blk t).view.emb (ix2 (0 : Fin 1) k) = ix2 (0 : Fin 1) k := by blk_ext [idx t]
  unfold line
  blk_simp [iblk]
  rw [e]

theorem blk5 (t : Fin cfg0.N) : line (iblk m c 5 t) = line (m ((c : Thread nD τ).loc main_arg3)) := by
  funext k
  have e : (win0_5.blk t).view.emb (ix2 (0 : Fin 1) k) = ix2 (0 : Fin 1) k := by blk_ext [idx t]
  unfold line
  blk_simp [iblk]
  rw [e]

theorem arr6 : (dats m 0 c).arrAt 6 cfg0.N = Gx (m ((c : Thread nD τ).loc main_arg0)) (m ((c : Thread nD τ).loc main_arg4)) (m ((c : Thread nD τ).loc main_arg5)) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, blk0, blk1, blk2]
  exact (congrArg (Gx _ _ _) e).symm

theorem arr7 : (dats m 0 c).arrAt 7 cfg0.N = Gh (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3)) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, blk0, blk1, blk2, blk3, blk4, blk5]
  exact (congrArg (Gh _ _ _ _ _ _) e).symm

end

section

open Cert.Nf2RefIdeal.Read

variable (x r : Vec Ideal S2048x2048 .f32) (gt g sc sh : Vec Ideal S1x2048 .f32)

theorem entry (x : Vec Ideal S2048x2048 .f32) (i : S2048x2048.Idx) : x i = rowA x (i 0) (i 1) := congrArg x (eq_ix2 i)

theorem r2 (i : S2048x2048.Idx) : val_main_v2 (F := Ideal) x r gt i = plus (rowA x (i 0)) (line gt) (rowA r (i 0)) (i 1) :=
  congrArg₂ (fun a b : EReal => a + b) (entry x i) (congrArg₂ (fun a b : EReal => a * b)
    ((val_main_v0_apply gt i).trans (congrArg gt ((eq_ix2 _).trans (congrArg₂ ix2 (Fin.ext rfl) (Fin.ext rfl))))) (entry r i))

theorem ref2 : val_main_v2 (F := Ideal) x r gt = Gx x r gt := funext fun i => r2 x r gt i

theorem r10 (i : Nf2RefIdeal.S2048x1.Idx) : val_main_v10 (F := Ideal) x r gt i = rr (plus (rowA x (i 0)) (line gt) (rowA r (i 0))) := by
  refine congrArg (fun s : EReal => Ideal.rsqrt (Ideal.div s width + eps)) ?_
  refine (val_main_v5_apply x r gt i).trans ((val_main_v4_apply x r gt _).trans ((zsum _).trans ?_))
  refine Finset.sum_congr rfl fun k _ => ?_
  exact congrArg (fun a : EReal => a * a) (r2 x r gt _)

theorem r12 (i : S2048x2048.Idx) : val_main_v12 (F := Ideal) x r gt i = xh (plus (rowA x (i 0)) (line gt) (rowA r (i 0))) (i 1) :=
  congrArg₂ (fun a b : EReal => a * b) (r2 x r gt i) ((val_main_v11_apply x r gt i).trans (r10 x r gt _))

theorem r16 (i : S1x2048.Idx) (k : Fin 2048) (h : i = ix2 0 k) : val_main_v16 (F := Ideal) sc i = 1 + line sc k := by
  rw [h]
  exact congrArg (fun a : EReal => a + line sc k) one

theorem ref21 : val_main_v21 (F := Ideal) x g sc sh r gt = Gh x r gt g sc sh := by
  funext i
  refine congrArg₂ (fun a b : EReal => a + b) (congrArg₂ (fun a b : EReal => a * b) (congrArg₂ (fun a b : EReal => a * b) (r12 x r gt i) ?_) ?_) ?_
  · exact (val_main_v13_apply g i).trans (congrArg g ((eq_ix2 _).trans (congrArg₂ ix2 (Fin.ext rfl) (Fin.ext rfl))))
  · exact (val_main_v17_apply sc i).trans (r16 sc _ (i 1) ((eq_ix2 _).trans (congrArg₂ ix2 (Fin.ext rfl) (Fin.ext rfl))))
  · exact (val_main_v19_apply sh i).trans (congrArg sh ((eq_ix2 _).trans (congrArg₂ ix2 (Fin.ext rfl) (Fin.ext rfl))))

end

end Cert.Nf2Ideal.Mat

namespace Cert.Nf2Claims

open Idealize.ShloMosaic Idealize.SL.Sem

/-- The kernel's frame. -/
theorem frame_kernel : Cert.quiescent_Nf2 (hNf2 := Cert.Nf2.Gen.facts) := fun m ρ _ => Cert.Nf2.Gen.frame m ρ

/-- The idealized kernel's frame. -/
theorem frame_ideal : Cert.quiescent_Nf2Ideal (hNf2Ideal := Cert.Nf2Ideal.Gen.facts) := fun m ρ _ => Cert.Nf2Ideal.Gen.frame m ρ

/-- The reference's frame. -/
theorem frame_ref : Cert.quiescent_Nf2RefIdeal (hNf2RefIdeal := Cert.Nf2RefIdeal.Gen.facts) := fun m ρ _ =>
  (θ_run Cert.Nf2RefIdeal.defs _ _).mono
    (fun r h => ⟨fun c => (h c).2.2, Idealize.ShloMosaic.sem_eq_zero_of_no_sems (by decide) r.2⟩) (Cert.Nf2RefIdeal.Value.run (F := Ideal) m ρ)

/-- The idealized kernel keeps what the kernel computes. -/
theorem preserves : Cert.preserves_Nf2_Nf2Ideal := trivial

/-- The kernel's results are the reference's. -/
theorem algebraic : Cert.algebraic_Nf2Ideal_Nf2RefIdeal (hNf2Ideal := Cert.Nf2Ideal.Gen.facts) (hNf2RefIdeal := Cert.Nf2RefIdeal.Gen.facts) := by
  haveI := Cert.Nf2Ideal.Gen.facts
  haveI := Cert.Nf2RefIdeal.Gen.facts
  intro m ρ m' ρ' _ hagree
  refine ⟨_, _, Cert.Nf2Ideal.Value.run_blocks m ρ, ?_⟩
  refine (θ_run Cert.Nf2RefIdeal.defs _ _).mono (fun _ h c => ?_) (Cert.Nf2RefIdeal.Value.run (F := Ideal) m' ρ')
  obtain ⟨e0, e1, e2, e3, e4, e5⟩ := hagree c
  obtain ⟨h0, h1, h⟩ := h c
  refine ⟨h0.trans ?_, h1.trans ?_, h⟩
  · refine (Cert.Nf2RefIdeal.Read.val_main_v2_eq _ _ _).trans ((Cert.Nf2Ideal.Mat.ref2 _ _ _).trans ?_)
    rw [e0, e4, e5]
    exact Cert.Nf2Ideal.Mat.arr6.symm
  · refine (Cert.Nf2RefIdeal.Read.val_main_v21_eq _ _ _ _ _ _).trans ((Cert.Nf2Ideal.Mat.ref21 _ _ _ _ _ _).trans ?_)
    rw [e0, e1, e2, e3, e4, e5]
    exact Cert.Nf2Ideal.Mat.arr7.symm

end Cert.Nf2Claims

end
-- ==== Proof.ObwMat.lean ====
/- The backward pass of w_out's product and of the gates that merge the two branches. -/
module

public import Idealize.ShloMosaic.Lib.Pointwise
public import Idealize.ShloMosaic.Lib.Pipeline.ValueKit
public import Idealize.ShloMosaic.Lib.Claim
public import proofs.«01_k».proof.Defs
public import Idealize.ShloMosaic.Lib.WholeRead
public import proofs.«01_k».proof.Proof.NormRow
public import proofs.«01_k».proof.Proof.Gen.Obw.Frame
public import proofs.«01_k».proof.Proof.Gen.ObwIdeal.Value
public import proofs.«01_k».proof.Proof.Gen.ObwRefIdeal.Run
public import proofs.«01_k».proof.Proof.Gen.ObwRefIdeal.Read
public import Idealize.ShloMosaic.Adequacy
public import Idealize.ShloMosaic.Init

@[expose] public section

set_option maxRecDepth 16384

noncomputable section

namespace Cert.ObwIdeal.Mat

open Idealize.ShloMosaic Idealize.ShloMosaic.TcCoe Idealize.SL Idealize.SL.Sem Cert.ObwIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.Norm

section

variable {F : FTy → Type} [FloatOps F]

/-- The load of a block of rows of the product's gradient. -/
def ldD (a : Memref sig .tc .vmem S512x2048 .bf16) (h : a.IsWhole) (x : Vec F S512x2048 .bf16) : Vec F S512x2048 .bf16 :=
  View.readAt (Elt F) a.view (Rect.unit (s := S512x2048) ![0, 0] S512x2048.size inb_S512x2048_S512x2048_0_0).toLoadRect (h.unread x)

theorem ldD_eq (a : Memref sig .tc .vmem S512x2048 .bf16) (h : a.IsWhole) (x : Vec F S512x2048 .bf16) : ldD a h x = x := by
  funext y
  obtain ⟨p, q, rfl⟩ : ∃ p q, y = ix2 p q := ⟨_, _, eq_ix2 y⟩
  unfold ldD
  rw [h.readAt_unread]
  pointwise

/-- The load of a block of rows of the weight. -/
def ldW (a : Memref sig .tc .vmem S1024x2048 .bf16) (h : a.IsWhole) (x : Vec F S1024x2048 .bf16) : Vec F S1024x2048 .bf16 :=
  View.readAt (Elt F) a.view (Rect.unit (s := S1024x2048) ![0, 0] S1024x2048.size inb_S1024x2048_S1024x2048_0_0).toLoadRect (h.unread x)

theorem ldW_eq (a : Memref sig .tc .vmem S1024x2048 .bf16) (h : a.IsWhole) (x : Vec F S1024x2048 .bf16) : ldW a h x = x := by
  funext y
  obtain ⟨p, q, rfl⟩ : ∃ p q, y = ix2 p q := ⟨_, _, eq_ix2 y⟩
  unfold ldW
  rw [h.readAt_unread]
  pointwise

/-- The load of a block in bf16. -/
def ldP (a : Memref sig .tc .vmem S512x1024 .bf16) (h : a.IsWhole) (x : Vec F S512x1024 .bf16) : Vec F S512x1024 .bf16 :=
  View.readAt (Elt F) a.view (Rect.unit (s := S512x1024) ![0, 0] S512x1024.size inb_S512x1024_S512x1024_0_0).toLoadRect (h.unread x)

theorem ldP_eq (a : Memref sig .tc .vmem S512x1024 .bf16) (h : a.IsWhole) (x : Vec F S512x1024 .bf16) : ldP a h x = x := by
  funext y
  obtain ⟨p, q, rfl⟩ : ∃ p q, y = ix2 p q := ⟨_, _, eq_ix2 y⟩
  unfold ldP
  rw [h.readAt_unread]
  pointwise

/-- The store of a block in bf16. -/
def stP (x : FVec F S512x1024 .bf16) : List (View.Piece (Elt F) S512x1024 .bf16) := [⟨Rect.unit ![0, 0] S512x1024.size inb_S512x1024_S512x1024_0_0, x⟩]

theorem stP_eq (x : FVec F S512x1024 .bf16) : View.canon (stP x) = x := View.canon_unit_zero (S := S512x1024) z2 _ _

/-- The load of a block. -/
def ldZ (a : Memref sig .tc .vmem S512x1024 .f32) (h : a.IsWhole) (x : Vec F S512x1024 .f32) : Vec F S512x1024 .f32 :=
  View.readAt (Elt F) a.view (Rect.unit (s := S512x1024) ![0, 0] S512x1024.size inb_S512x1024_S512x1024_0_0).toLoadRect (h.unread x)

theorem ldZ_eq (a : Memref sig .tc .vmem S512x1024 .f32) (h : a.IsWhole) (x : Vec F S512x1024 .f32) : ldZ a h x = x := by
  funext y
  obtain ⟨p, q, rfl⟩ : ∃ p q, y = ix2 p q := ⟨_, _, eq_ix2 y⟩
  unfold ldZ
  rw [h.readAt_unread]
  pointwise

/-- The load of a row. -/
def ldR (a : Memref sig .tc .vmem S1x1024 .f32) (h : a.IsWhole) (x : Vec F S1x1024 .f32) : Vec F S1x1024 .f32 :=
  View.readAt (Elt F) a.view (Rect.unit (s := S1x1024) ![0, 0] S1x1024.size inb_S1x1024_S1x1024_0_0).toLoadRect (h.unread x)

theorem ldR_eq (a : Memref sig .tc .vmem S1x1024 .f32) (h : a.IsWhole) (x : Vec F S1x1024 .f32) : ldR a h x = x := by
  funext y
  obtain ⟨p, q, rfl⟩ : ∃ p q, y = ix2 p q := ⟨_, _, eq_ix2 y⟩
  obtain rfl : p = 0 := Subsingleton.elim _ _
  unfold ldR
  rw [h.readAt_unread]
  pointwise

/-- The store of a row. -/
def stR (x : FVec F S1x1024 .f32) : List (View.Piece (Elt F) S1x1024 .f32) := [⟨Rect.unit ![0, 0] S1x1024.size inb_S1x1024_S1x1024_0_0, x⟩]

theorem stR_eq (x : FVec F S1x1024 .f32) : View.canon (stR x) = x := View.canon_unit_zero (S := S1x1024) z2 _ _

/-- The store of the first output, at a half's first point. -/
theorem runA_8 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).1 =
      stP (k0_pay12 (ldD arg0 harg0 x0) (ldW arg1 harg1 x1) (ldZ arg4 harg4 x4) (ldR arg6 harg6 x6)) := by
  sl_kernel_rfl

/-- The store of the second output, at a half's first point. -/
theorem runA_9 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.1 =
      stP (k0_pay13 (ldD arg0 harg0 x0) (ldW arg1 harg1 x1) (ldZ arg5 harg5 x5) (ldR arg7 harg7 x7)) := by
  sl_kernel_rfl

/-- The store of the third output, at a half's first point. -/
theorem runA_10 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.1 =
      stP (k0_pay3 (k0_pay9 (ldD arg0 harg0 x0) (ldW arg1 harg1 x1)) (k0_pay10 (ldZ arg4 harg4 x4) (ldR arg6 harg6 x6)) (ldP arg2 harg2 x2)) := by
  sl_kernel_rfl

/-- The store of the fourth output, at a half's first point. -/
theorem runA_11 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.2.1 =
      stP (k0_pay4 (k0_pay9 (ldD arg0 harg0 x0) (ldW arg1 harg1 x1)) (k0_pay11 (ldZ arg5 harg5 x5) (ldR arg7 harg7 x7)) (ldP arg3 harg3 x3)) := by
  sl_kernel_rfl

/-- The store of the fifth output, at a half's first point. -/
theorem runA_12 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.2.2.1 =
      stR (k0_pay5 (k0_pay9 (ldD arg0 harg0 x0) (ldW arg1 harg1 x1)) (k0_pay10 (ldZ arg4 harg4 x4) (ldR arg6 harg6 x6)) (ldP arg2 harg2 x2)) := by
  sl_kernel_rfl

/-- The store of the sixth output, at a half's first point. -/
theorem runA_13 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7) :
    (kernelRun0_A (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.2.2.2.1 =
      stR (k0_pay7 (k0_pay9 (ldD arg0 harg0 x0) (ldW arg1 harg1 x1)) (k0_pay11 (ldZ arg5 harg5 x5) (ldR arg7 harg7 x7)) (ldP arg3 harg3 x3)) := by
  sl_kernel_rfl

/-- The store of the first output, at a later point. -/
theorem runB_8 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).1 =
      stP (k0_pay12 (ldD arg0 harg0 x0) (ldW arg1 harg1 x1) (ldZ arg4 harg4 x4) (ldR arg6 harg6 x6)) := by
  sl_kernel_rfl

/-- The store of the second output, at a later point. -/
theorem runB_9 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).2.1 =
      stP (k0_pay13 (ldD arg0 harg0 x0) (ldW arg1 harg1 x1) (ldZ arg5 harg5 x5) (ldR arg7 harg7 x7)) := by
  sl_kernel_rfl

/-- The store of the third output, at a later point. -/
theorem runB_10 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).2.2.1 =
      stP (k0_pay3 (k0_pay9 (ldD arg0 harg0 x0) (ldW arg1 harg1 x1)) (k0_pay10 (ldZ arg4 harg4 x4) (ldR arg6 harg6 x6)) (ldP arg2 harg2 x2)) := by
  sl_kernel_rfl

/-- The store of the fourth output, at a later point. -/
theorem runB_11 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).2.2.2.1 =
      stP (k0_pay4 (k0_pay9 (ldD arg0 harg0 x0) (ldW arg1 harg1 x1)) (k0_pay11 (ldZ arg5 harg5 x5) (ldR arg7 harg7 x7)) (ldP arg3 harg3 x3)) := by
  sl_kernel_rfl

/-- The store of the fifth output, at a later point. -/
theorem runB_12 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).2.2.2.2.1 =
      stR (k0_pay6 (k0_pay9 (ldD arg0 harg0 x0) (ldW arg1 harg1 x1)) (k0_pay10 (ldZ arg4 harg4 x4) (ldR arg6 harg6 x6)) (ldP arg2 harg2 x2) (ldR arg12 harg12 xo12)) := by
  sl_kernel_rfl

/-- The store of the sixth output, at a later point. -/
theorem runB_13 (c : Dev nD) (i : grid0.Coords) (arg0) (harg0) (arg1) (harg1) (arg2) (harg2) (arg3) (harg3) (arg4) (harg4) (arg5) (harg5) (arg6) (harg6) (arg7) (harg7) (arg8) (harg8) (arg9) (harg9) (arg10) (harg10) (arg11) (harg11) (arg12) (harg12) (arg13) (harg13) (hc0 hc1 hc2 hc3) (x0 x1 x2 x3 x4 x5 x6 x7 xo12 xo13) :
    (kernelRun0_B (F := F) c i arg0 harg0 arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo12 xo13).2.2.2.2.2.1 =
      stR (k0_pay8 (k0_pay9 (ldD arg0 harg0 x0) (ldW arg1 harg1 x1)) (k0_pay11 (ldZ arg5 harg5 x5) (ldR arg7 harg7 x7)) (ldP arg3 harg3 x3) (ldR arg13 harg13 xo13)) := by
  sl_kernel_rfl

end

/-- The logistic function. -/
def logi (a : EReal) : EReal := Ideal.div 1 (1 + Ideal.exp (-a))

/-- The gradient that goes through the logistic function, from the gradient `d` and the factor `y` and the gate `s`. -/
def through (d y s : EReal) : EReal := d * y * s * (1 - s)

/-- A block's product. -/
def prod (x : Vec Ideal S512x2048 .bf16) (w : Vec Ideal S1024x2048 .bf16) (p : Fin 512) (q : Fin 1024) : EReal := ∑ k : Fin 2048, x (ix2 p k) * w (ix2 q k)

/-- A block's gate. -/
def gate (z : Vec Ideal S512x1024 .f32) (b : Vec Ideal S1x1024 .f32) (p : Fin 512) (q : Fin 1024) : EReal := logi (z (ix2 p q) + b (ix2 0 q))

section

variable (x : Vec Ideal S512x2048 .bf16) (w : Vec Ideal S1024x2048 .bf16) (y : Vec Ideal S512x1024 .bf16) (z : Vec Ideal S512x1024 .f32) (b old : Vec Ideal S1x1024 .f32)
  (d s : FVec Ideal S512x1024 .f32) (p : Fin 512) (q : Fin 1024)

theorem pay9 : k0_pay9 x w (ix2 p q) = prod x w p q := by
  pointwise [k0_pay9]
  rfl

theorem pay10 : k0_pay10 z b (ix2 p q) = gate z b p q := by
  pointwise [k0_pay10]
  simp only [zero_sub]
  rfl

theorem pay11 : k0_pay11 z b (ix2 p q) = gate z b p q := by
  pointwise [k0_pay11]
  simp only [zero_sub]
  rfl

theorem pay12 : k0_pay12 x w z b (ix2 p q) = prod x w p q * gate z b p q := by
  pointwise [k0_pay12]
  simp only [pay9, pay10]

theorem pay13 : k0_pay13 x w z b (ix2 p q) = prod x w p q * gate z b p q := by
  pointwise [k0_pay13]
  simp only [pay9, pay11]

theorem pay1 : k0_pay1 (F := Ideal) d s y (ix2 p q) = through (d (ix2 p q)) (y (ix2 p q)) (s (ix2 p q)) := by
  pointwise [k0_pay1]
  rfl

theorem pay2 : k0_pay2 (F := Ideal) d s y (ix2 p q) = through (d (ix2 p q)) (y (ix2 p q)) (s (ix2 p q)) := by
  pointwise [k0_pay2]
  rfl

theorem pay3 : k0_pay3 (F := Ideal) d s y (ix2 p q) = through (d (ix2 p q)) (y (ix2 p q)) (s (ix2 p q)) := pay1 y d s p q

theorem pay4 : k0_pay4 (F := Ideal) d s y (ix2 p q) = through (d (ix2 p q)) (y (ix2 p q)) (s (ix2 p q)) := pay2 y d s p q

theorem pay5 (a : Fin 1) : k0_pay5 (F := Ideal) d s y (ix2 a q) = ∑ p, through (d (ix2 p q)) (y (ix2 p q)) (s (ix2 p q)) := by
  pointwise [k0_pay5]
  exact Finset.sum_congr rfl fun p _ => pay1 y d s p q

theorem pay7 (a : Fin 1) : k0_pay7 (F := Ideal) d s y (ix2 a q) = ∑ p, through (d (ix2 p q)) (y (ix2 p q)) (s (ix2 p q)) := by
  pointwise [k0_pay7]
  exact Finset.sum_congr rfl fun p _ => pay2 y d s p q

theorem pay6 (a : Fin 1) : k0_pay6 (F := Ideal) d s y old (ix2 a q) = (fun a b : EReal => a + b) (old (ix2 a q)) (k0_pay5 (F := Ideal) d s y (ix2 a q)) := by
  pointwise [k0_pay6]

theorem pay8 (a : Fin 1) : k0_pay8 (F := Ideal) d s y old (ix2 a q) = (fun a b : EReal => a + b) (old (ix2 a q)) (k0_pay7 (F := Ideal) d s y (ix2 a q)) := by
  pointwise [k0_pay8]

end

/-- A sum over the rows, block by block. -/
theorem sum_four (f : Fin 2048 → EReal) : ∑ r, f r = ∑ t : Fin 4, ∑ p : Fin 512, f ⟨512 * t.val + p.val, by omega⟩ := by
  rw [← Fintype.sum_prod_type' (f := fun (t : Fin 4) (p : Fin 512) => f ⟨512 * t.val + p.val, by omega⟩)]
  refine (Fintype.sum_equiv (finProdFinEquiv (m := 4) (n := 512)) _ _ fun x => ?_).symm
  exact congrArg f (Fin.ext (by show 512 * x.1.val + x.2.val = x.2.val + 512 * x.1.val; omega))

/-- A sum over the rows, accumulated block by block. -/
theorem acc_four (f : Fin 2048 → EReal) (a : (n : ℕ) → n < 4 → EReal)
    (h0 : a 0 (by decide) = ∑ p : Fin 512, f ⟨512 * 0 + p.val, by omega⟩)
    (hs : ∀ (n : ℕ) (h : n < 4), 1 ≤ n → a n h = a (n - 1) (by omega) + ∑ p : Fin 512, f ⟨512 * n + p.val, by omega⟩) :
    a 3 (by decide) = ∑ r, f r := by
  rw [sum_four, Fin.sum_univ_four]
  refine (hs 3 (by decide) (by decide)).trans (congrArg (fun b : EReal => b + _) ?_)
  refine (hs 2 (by decide) (by decide)).trans (congrArg (fun b : EReal => b + _) ?_)
  refine (hs 1 (by decide) (by decide)).trans (congrArg (fun b : EReal => b + _) ?_)
  exact h0

/-- Column `j` of the first gate's part of `z`, of the second's, and of the two parts of the bias. -/
def zlo (j : Fin 2048) : Fin 10240 := ⟨6144 + j.val, by omega⟩
def zhi (j : Fin 2048) : Fin 10240 := ⟨8192 + j.val, by omega⟩
def blo (j : Fin 2048) : Fin 4096 := ⟨j.val, by omega⟩
def bhi (j : Fin 2048) : Fin 4096 := ⟨2048 + j.val, by omega⟩

section

variable {m : (ℓ : Loc nD τ sig) → Buf (Elt Ideal) ℓ} {c : Dev nD}

theorem ltN (t : Fin cfg0.N) : t.val < 8 := lt_of_lt_of_eq t.isLt (show cfg0.N = 8 from N_0)

theorem outs_congr {n n' : ℕ} (h : n = n') (hn : n < cfg0.N) (hn' : n' < cfg0.N) : outsAt0 m c n hn = outsAt0 m c n' hn' := by
  subst h
  rfl

theorem ptA_8 (t : Fin cfg0.N) (h : t.val % 4 = 0) : (outsAt0 m c t.val t.isLt).1 = k0_pay12 (iblk m c 0 t) (iblk m c 1 t) (iblk m c 4 t) (iblk m c 6 t) := by
  rw [outsAt0_A m c t (by omega) (by omega) (by omega) (by omega)]
  dsimp only
  unfold out0_A_8
  rw [View.read_writes_junk_eq_canon, runA_8, stP_eq]
  simp only [ldD_eq, ldW_eq, ldZ_eq, ldR_eq]

theorem ptA_9 (t : Fin cfg0.N) (h : t.val % 4 = 0) : (outsAt0 m c t.val t.isLt).2.1 = k0_pay13 (iblk m c 0 t) (iblk m c 1 t) (iblk m c 5 t) (iblk m c 7 t) := by
  rw [outsAt0_A m c t (by omega) (by omega) (by omega) (by omega)]
  dsimp only
  unfold out0_A_9
  rw [View.read_writes_junk_eq_canon, runA_9, stP_eq]
  simp only [ldD_eq, ldW_eq, ldZ_eq, ldR_eq]

theorem ptA_10 (t : Fin cfg0.N) (h : t.val % 4 = 0) : (outsAt0 m c t.val t.isLt).2.2.1 = k0_pay3 (k0_pay9 (iblk m c 0 t) (iblk m c 1 t)) (k0_pay10 (iblk m c 4 t) (iblk m c 6 t)) (iblk m c 2 t) := by
  rw [outsAt0_A m c t (by omega) (by omega) (by omega) (by omega)]
  dsimp only
  unfold out0_A_10
  rw [View.read_writes_junk_eq_canon, runA_10, stP_eq]
  simp only [ldD_eq, ldW_eq, ldZ_eq, ldR_eq, ldP_eq]

theorem ptA_11 (t : Fin cfg0.N) (h : t.val % 4 = 0) : (outsAt0 m c t.val t.isLt).2.2.2.1 = k0_pay4 (k0_pay9 (iblk m c 0 t) (iblk m c 1 t)) (k0_pay11 (iblk m c 5 t) (iblk m c 7 t)) (iblk m c 3 t) := by
  rw [outsAt0_A m c t (by omega) (by omega) (by omega) (by omega)]
  dsimp only
  unfold out0_A_11
  rw [View.read_writes_junk_eq_canon, runA_11, stP_eq]
  simp only [ldD_eq, ldW_eq, ldZ_eq, ldR_eq, ldP_eq]

theorem ptA_12 (t : Fin cfg0.N) (h : t.val % 4 = 0) : (outsAt0 m c t.val t.isLt).2.2.2.2.1 = k0_pay5 (k0_pay9 (iblk m c 0 t) (iblk m c 1 t)) (k0_pay10 (iblk m c 4 t) (iblk m c 6 t)) (iblk m c 2 t) := by
  rw [outsAt0_A m c t (by omega) (by omega) (by omega) (by omega)]
  dsimp only
  unfold out0_A_12
  rw [View.read_writes_junk_eq_canon, runA_12, stR_eq]
  simp only [ldD_eq, ldW_eq, ldZ_eq, ldR_eq, ldP_eq]

theorem ptA_13 (t : Fin cfg0.N) (h : t.val % 4 = 0) : (outsAt0 m c t.val t.isLt).2.2.2.2.2 = k0_pay7 (k0_pay9 (iblk m c 0 t) (iblk m c 1 t)) (k0_pay11 (iblk m c 5 t) (iblk m c 7 t)) (iblk m c 3 t) := by
  rw [outsAt0_A m c t (by omega) (by omega) (by omega) (by omega)]
  dsimp only
  unfold out0_A_13
  rw [View.read_writes_junk_eq_canon, runA_13, stR_eq]
  simp only [ldD_eq, ldW_eq, ldZ_eq, ldR_eq, ldP_eq]

theorem ptB_8 (t : Fin cfg0.N) (h : 1 ≤ t.val % 4) : (outsAt0 m c t.val t.isLt).1 = k0_pay12 (iblk m c 0 t) (iblk m c 1 t) (iblk m c 4 t) (iblk m c 6 t) := by
  rw [outsAt0_B m c t (by omega) (by omega) (by omega) (by omega)]
  dsimp only
  unfold out0_B_8
  rw [View.read_writes_junk_eq_canon, runB_8, stP_eq]
  simp only [ldD_eq, ldW_eq, ldZ_eq, ldR_eq]

theorem ptB_9 (t : Fin cfg0.N) (h : 1 ≤ t.val % 4) : (outsAt0 m c t.val t.isLt).2.1 = k0_pay13 (iblk m c 0 t) (iblk m c 1 t) (iblk m c 5 t) (iblk m c 7 t) := by
  rw [outsAt0_B m c t (by omega) (by omega) (by omega) (by omega)]
  dsimp only
  unfold out0_B_9
  rw [View.read_writes_junk_eq_canon, runB_9, stP_eq]
  simp only [ldD_eq, ldW_eq, ldZ_eq, ldR_eq]

theorem ptB_10 (t : Fin cfg0.N) (h : 1 ≤ t.val % 4) : (outsAt0 m c t.val t.isLt).2.2.1 = k0_pay3 (k0_pay9 (iblk m c 0 t) (iblk m c 1 t)) (k0_pay10 (iblk m c 4 t) (iblk m c 6 t)) (iblk m c 2 t) := by
  rw [outsAt0_B m c t (by omega) (by omega) (by omega) (by omega)]
  dsimp only
  unfold out0_B_10
  rw [View.read_writes_junk_eq_canon, runB_10, stP_eq]
  simp only [ldD_eq, ldW_eq, ldZ_eq, ldR_eq, ldP_eq]

theorem ptB_11 (t : Fin cfg0.N) (h : 1 ≤ t.val % 4) : (outsAt0 m c t.val t.isLt).2.2.2.1 = k0_pay4 (k0_pay9 (iblk m c 0 t) (iblk m c 1 t)) (k0_pay11 (iblk m c 5 t) (iblk m c 7 t)) (iblk m c 3 t) := by
  rw [outsAt0_B m c t (by omega) (by omega) (by omega) (by omega)]
  dsimp only
  unfold out0_B_11
  rw [View.read_writes_junk_eq_canon, runB_11, stP_eq]
  simp only [ldD_eq, ldW_eq, ldZ_eq, ldR_eq, ldP_eq]

theorem ptB_12 (t : Fin cfg0.N) (h : 1 ≤ t.val % 4) : (outsAt0 m c t.val t.isLt).2.2.2.2.1 = k0_pay6 (k0_pay9 (iblk m c 0 t) (iblk m c 1 t)) (k0_pay10 (iblk m c 4 t) (iblk m c 6 t)) (iblk m c 2 t) (outsAt0 m c (t.val - 1) (Nat.lt_of_le_of_lt (Nat.sub_le _ _) t.isLt)).2.2.2.2.1 := by
  rw [outsAt0_B m c t (by omega) (by omega) (by omega) (by omega)]
  dsimp only
  unfold out0_B_12
  rw [View.read_writes_junk_eq_canon, runB_12, stR_eq]
  simp only [ldD_eq, ldW_eq, ldZ_eq, ldR_eq, ldP_eq]

theorem ptB_13 (t : Fin cfg0.N) (h : 1 ≤ t.val % 4) : (outsAt0 m c t.val t.isLt).2.2.2.2.2 = k0_pay8 (k0_pay9 (iblk m c 0 t) (iblk m c 1 t)) (k0_pay11 (iblk m c 5 t) (iblk m c 7 t)) (iblk m c 3 t) (outsAt0 m c (t.val - 1) (Nat.lt_of_le_of_lt (Nat.sub_le _ _) t.isLt)).2.2.2.2.2 := by
  rw [outsAt0_B m c t (by omega) (by omega) (by omega) (by omega)]
  dsimp only
  unfold out0_B_13
  rw [View.read_writes_junk_eq_canon, runB_13, stR_eq]
  simp only [ldD_eq, ldW_eq, ldZ_eq, ldR_eq, ldP_eq]

theorem idx : ∀ t : Fin cfg0.N, win0_0.index t = ![t.val % 4, 0] ∧ win0_1.index t = ![t.val / 4, 0] ∧ win0_2.index t = ![t.val % 4, t.val / 4] ∧ win0_3.index t = ![t.val % 4, t.val / 4] ∧ win0_4.index t = ![t.val % 4, 6 + t.val / 4] ∧ win0_5.index t = ![t.val % 4, 8 + t.val / 4] ∧ win0_6.index t = ![0, t.val / 4] ∧ win0_7.index t = ![0, 2 + t.val / 4] ∧ win0_8.index t = ![t.val % 4, t.val / 4] ∧ win0_9.index t = ![t.val % 4, t.val / 4] ∧ win0_10.index t = ![t.val % 4, t.val / 4] ∧ win0_11.index t = ![t.val % 4, t.val / 4] ∧ win0_12.index t = ![0, t.val / 4] ∧ win0_13.index t = ![0, t.val / 4] := by
  decide +kernel

theorem last12 : ∀ t : Fin cfg0.N, (cfg0.win 12).flush t = true → t.val % 4 = 3 := by
  decide +kernel

theorem last13 : ∀ t : Fin cfg0.N, (cfg0.win 13).flush t = true → t.val % 4 = 3 := by
  decide +kernel

/-- Row `p` of a point's block. -/
def row (t : Fin cfg0.N) (p : Fin 512) : Fin 2048 := ⟨512 * (t.val % 4) + p.val, by omega⟩

/-- Column `q` of a point's block. -/
def col (t : Fin cfg0.N) (q : Fin 1024) : Fin 2048 := ⟨1024 * (t.val / 4) + q.val, by have := ltN t; omega⟩

end

section

variable (x : Vec Ideal S2048x2048 .bf16) (w : Vec Ideal S2048x2048 .bf16) (y : Vec Ideal S2048x2048 .bf16) (z : Vec Ideal S2048x10240 .f32) (b : Vec Ideal S1x4096 .f32)

/-- The product's gradient. -/
def P (i : S2048x2048.Idx) : EReal := ∑ k : Fin 2048, x (ix2 (i 0) k) * w (ix2 (i 1) k)

/-- The two gates. -/
def ga (i : S2048x2048.Idx) : EReal := logi (z (ix2 (i 0) (zlo (i 1))) + b (ix2 0 (blo (i 1))))
def gb (i : S2048x2048.Idx) : EReal := logi (z (ix2 (i 0) (zhi (i 1))) + b (ix2 0 (bhi (i 1))))

/-- The gradients of the two branch products. -/
def Da (i : S2048x2048.Idx) : EReal := P x w i * ga z b i
def Db (i : S2048x2048.Idx) : EReal := P x w i * gb z b i

/-- The gradients of the gates' arguments. -/
def Za (i : S2048x2048.Idx) : EReal := through (P x w i) (y i) (ga z b i)
def Zb (i : S2048x2048.Idx) : EReal := through (P x w i) (y i) (gb z b i)

/-- The gradients of the two parts of the bias. -/
def Ba (i : S1x2048.Idx) : EReal := ∑ r : Fin 2048, Za x w y z b (ix2 r (i 1))
def Bb (i : S1x2048.Idx) : EReal := ∑ r : Fin 2048, Zb x w y z b (ix2 r (i 1))

end

section

variable {m : (ℓ : Loc nD τ sig) → Buf (Elt Ideal) ℓ} {c : Dev nD}

theorem blk0 (t : Fin cfg0.N) (p : Fin 512) (q : Fin 2048) : iblk m c 0 t (ix2 p q) = (m ((c : Thread nD τ).loc main_arg0)) (ix2 (row t p) q) := by
  have e : (win0_0.blk t).view.emb (ix2 p q) = ix2 (row t p) q := by blk_ext [idx t, row, col, zlo, zhi, blo, bhi]
  blk_simp [iblk]
  rw [e]

theorem blk1 (t : Fin cfg0.N) (p : Fin 1024) (q : Fin 2048) : iblk m c 1 t (ix2 p q) = (m ((c : Thread nD τ).loc main_arg1)) (ix2 (col t p) q) := by
  have e : (win0_1.blk t).view.emb (ix2 p q) = ix2 (col t p) q := by blk_ext [idx t, row, col, zlo, zhi, blo, bhi]
  blk_simp [iblk]
  rw [e]

theorem blk2 (t : Fin cfg0.N) (p : Fin 512) (q : Fin 1024) : iblk m c 2 t (ix2 p q) = (m ((c : Thread nD τ).loc main_arg2)) (ix2 (row t p) (col t q)) := by
  have e : (win0_2.blk t).view.emb (ix2 p q) = ix2 (row t p) (col t q) := by blk_ext [idx t, row, col, zlo, zhi, blo, bhi]
  blk_simp [iblk]
  rw [e]

theorem blk3 (t : Fin cfg0.N) (p : Fin 512) (q : Fin 1024) : iblk m c 3 t (ix2 p q) = (m ((c : Thread nD τ).loc main_arg3)) (ix2 (row t p) (col t q)) := by
  have e : (win0_3.blk t).view.emb (ix2 p q) = ix2 (row t p) (col t q) := by blk_ext [idx t, row, col, zlo, zhi, blo, bhi]
  blk_simp [iblk]
  rw [e]

theorem blk4 (t : Fin cfg0.N) (p : Fin 512) (q : Fin 1024) : iblk m c 4 t (ix2 p q) = (m ((c : Thread nD τ).loc main_arg4)) (ix2 (row t p) (zlo (col t q))) := by
  have e : (win0_4.blk t).view.emb (ix2 p q) = ix2 (row t p) (zlo (col t q)) := by blk_ext [idx t, row, col, zlo, zhi, blo, bhi]
  blk_simp [iblk]
  rw [e]

theorem blk5 (t : Fin cfg0.N) (p : Fin 512) (q : Fin 1024) : iblk m c 5 t (ix2 p q) = (m ((c : Thread nD τ).loc main_arg4)) (ix2 (row t p) (zhi (col t q))) := by
  have e : (win0_5.blk t).view.emb (ix2 p q) = ix2 (row t p) (zhi (col t q)) := by blk_ext [idx t, row, col, zlo, zhi, blo, bhi]
  blk_simp [iblk]
  rw [e]

theorem blk6 (t : Fin cfg0.N) (p : Fin 1) (q : Fin 1024) : iblk m c 6 t (ix2 p q) = (m ((c : Thread nD τ).loc main_arg5)) (ix2 p (blo (col t q))) := by
  have e : (win0_6.blk t).view.emb (ix2 p q) = ix2 p (blo (col t q)) := by blk_ext [idx t, row, col, zlo, zhi, blo, bhi]
  blk_simp [iblk]
  rw [e]

theorem blk7 (t : Fin cfg0.N) (p : Fin 1) (q : Fin 1024) : iblk m c 7 t (ix2 p q) = (m ((c : Thread nD τ).loc main_arg5)) (ix2 p (bhi (col t q))) := by
  have e : (win0_7.blk t).view.emb (ix2 p q) = ix2 p (bhi (col t q)) := by blk_ext [idx t, row, col, zlo, zhi, blo, bhi]
  blk_simp [iblk]
  rw [e]

theorem point (t : Fin cfg0.N) (p : Fin 512) (q : Fin 1024) : prod (iblk m c 0 t) (iblk m c 1 t) p q = P (m ((c : Thread nD τ).loc main_arg0)) (m ((c : Thread nD τ).loc main_arg1)) (ix2 (row t p) (col t q)) :=
  Finset.sum_congr rfl fun k _ => congrArg₂ (fun a b : EReal => a * b) (blk0 t p k) (blk1 t q k)

theorem gateA (t : Fin cfg0.N) (p : Fin 512) (q : Fin 1024) : gate (iblk m c 4 t) (iblk m c 6 t) p q = ga (m ((c : Thread nD τ).loc main_arg4)) (m ((c : Thread nD τ).loc main_arg5)) (ix2 (row t p) (col t q)) :=
  congrArg logi (congrArg₂ (fun a b : EReal => a + b) (blk4 t p q) (blk6 t 0 q))

theorem gateB (t : Fin cfg0.N) (p : Fin 512) (q : Fin 1024) : gate (iblk m c 5 t) (iblk m c 7 t) p q = gb (m ((c : Thread nD τ).loc main_arg4)) (m ((c : Thread nD τ).loc main_arg5)) (ix2 (row t p) (col t q)) :=
  congrArg logi (congrArg₂ (fun a b : EReal => a + b) (blk5 t p q) (blk7 t 0 q))

theorem pt8 (t : Fin cfg0.N) : (outsAt0 m c t.val t.isLt).1 = k0_pay12 (iblk m c 0 t) (iblk m c 1 t) (iblk m c 4 t) (iblk m c 6 t) := by
  by_cases h : t.val % 4 = 0
  · exact ptA_8 t h
  · exact ptB_8 t (by omega)

theorem pt9 (t : Fin cfg0.N) : (outsAt0 m c t.val t.isLt).2.1 = k0_pay13 (iblk m c 0 t) (iblk m c 1 t) (iblk m c 5 t) (iblk m c 7 t) := by
  by_cases h : t.val % 4 = 0
  · exact ptA_9 t h
  · exact ptB_9 t (by omega)

theorem pt10 (t : Fin cfg0.N) : (outsAt0 m c t.val t.isLt).2.2.1 = k0_pay3 (k0_pay9 (iblk m c 0 t) (iblk m c 1 t)) (k0_pay10 (iblk m c 4 t) (iblk m c 6 t)) (iblk m c 2 t) := by
  by_cases h : t.val % 4 = 0
  · exact ptA_10 t h
  · exact ptB_10 t (by omega)

theorem pt11 (t : Fin cfg0.N) : (outsAt0 m c t.val t.isLt).2.2.2.1 = k0_pay4 (k0_pay9 (iblk m c 0 t) (iblk m c 1 t)) (k0_pay11 (iblk m c 5 t) (iblk m c 7 t)) (iblk m c 3 t) := by
  by_cases h : t.val % 4 = 0
  · exact ptA_11 t h
  · exact ptB_11 t (by omega)

theorem arr8 : (dats m 0 c).arrAt 8 cfg0.N = Da (m ((c : Thread nD τ).loc main_arg0)) (m ((c : Thread nD τ).loc main_arg1)) (m ((c : Thread nD τ).loc main_arg4)) (m ((c : Thread nD τ).loc main_arg5)) := by
  refine (dats m 0 c).arrAt_eq_of_covers 8 _ (by decide +kernel) fun t hf y => ?_
  obtain ⟨p, q, rfl⟩ : ∃ p q, y = ix2 p q := ⟨_, _, eq_ix2 y⟩
  have e : (win0_8.blk t).view.emb (ix2 p q) = ix2 (row t p) (col t q) := by blk_ext [idx t, row, col]
  blk_simp
  rw [after0_8, pt8, pay12, point, gateA]
  exact (congrArg (Da _ _ _ _) e).symm

theorem arr9 : (dats m 0 c).arrAt 9 cfg0.N = Db (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t hf y => ?_
  obtain ⟨p, q, rfl⟩ : ∃ p q, y = ix2 p q := ⟨_, _, eq_ix2 y⟩
  have e : (win0_9.blk t).view.emb (ix2 p q) = ix2 (row t p) (col t q) := by blk_ext [idx t, row, col]
  blk_simp
  rw [after0_9, pt9, pay13, point, gateB]
  exact (congrArg (Db _ _ _ _) e).symm

theorem arr10 : (dats m 0 c).arrAt 10 cfg0.N = Za (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 10 _ (by decide +kernel) fun t hf y => ?_
  obtain ⟨p, q, rfl⟩ : ∃ p q, y = ix2 p q := ⟨_, _, eq_ix2 y⟩
  have e : (win0_10.blk t).view.emb (ix2 p q) = ix2 (row t p) (col t q) := by blk_ext [idx t, row, col]
  blk_simp
  rw [after0_10, pt10, pay3, pay9, pay10, point, gateA, blk2]
  exact (congrArg (Za _ _ _ _ _) e).symm

theorem arr11 : (dats m 0 c).arrAt 11 cfg0.N = Zb (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨p, q, rfl⟩ : ∃ p q, y = ix2 p q := ⟨_, _, eq_ix2 y⟩
  have e : (win0_11.blk t).view.emb (ix2 p q) = ix2 (row t p) (col t q) := by blk_ext [idx t, row, col]
  blk_simp
  rw [after0_11, pt11, pay4, pay9, pay11, point, gateB, blk3]
  exact (congrArg (Zb _ _ _ _ _) e).symm

theorem part12 (t : Fin cfg0.N) (z : Fin 1) (q : Fin 1024) : k0_pay5 (k0_pay9 (iblk m c 0 t) (iblk m c 1 t)) (k0_pay10 (iblk m c 4 t) (iblk m c 6 t)) (iblk m c 2 t) (ix2 z q) = ∑ p : Fin 512, Za (m ((c : Thread nD τ).loc main_arg0)) (m ((c : Thread nD τ).loc main_arg1)) (m ((c : Thread nD τ).loc main_arg2)) (m ((c : Thread nD τ).loc main_arg4)) (m ((c : Thread nD τ).loc main_arg5)) (ix2 (row t p) (col t q)) := by
  rw [pay5]
  refine Finset.sum_congr rfl fun p _ => ?_
  rw [pay9, pay10, point, gateA, blk2]
  rfl

theorem acc12 (s : ℕ) (hs : s < 2) (z : Fin 1) (q : Fin 1024) (j : Fin 2048) (hj : j.val = 1024 * s + q.val) :
    (outsAt0 m c (4 * s + 3) (lt_of_lt_of_eq (by omega : 4 * s + 3 < 8) (show 8 = cfg0.N from N_0.symm))).2.2.2.2.1 (ix2 z q) = ∑ r : Fin 2048, Za (m ((c : Thread nD τ).loc main_arg0)) (m ((c : Thread nD τ).loc main_arg1)) (m ((c : Thread nD τ).loc main_arg2)) (m ((c : Thread nD τ).loc main_arg4)) (m ((c : Thread nD τ).loc main_arg5)) (ix2 r j) := by
  have hc : ∀ (n : ℕ) (hn : n < 4) (hN : 4 * s + n < cfg0.N), col ⟨4 * s + n, hN⟩ q = j := fun n hn hN =>
    Fin.ext (by show 1024 * ((4 * s + n) / 4) + q.val = j.val; omega)
  have hr : ∀ (n : ℕ) (hn : n < 4) (hN : 4 * s + n < cfg0.N) (p : Fin 512), row ⟨4 * s + n, hN⟩ p = ⟨512 * n + p.val, by omega⟩ := fun n hn hN p =>
    Fin.ext (by show 512 * ((4 * s + n) % 4) + p.val = 512 * n + p.val; omega)
  refine acc_four (fun r => Za (m ((c : Thread nD τ).loc main_arg0)) (m ((c : Thread nD τ).loc main_arg1)) (m ((c : Thread nD τ).loc main_arg2)) (m ((c : Thread nD τ).loc main_arg4)) (m ((c : Thread nD τ).loc main_arg5)) (ix2 r j))
    (fun n hn => (outsAt0 m c (4 * s + n) (lt_of_lt_of_eq (by omega : 4 * s + n < 8) (show 8 = cfg0.N from N_0.symm))).2.2.2.2.1 (ix2 z q)) ?_ fun n hn h => ?_
  · have hN : 4 * s + 0 < cfg0.N := lt_of_lt_of_eq (by omega : 4 * s + 0 < 8) (show 8 = cfg0.N from N_0.symm)
    refine (congrFun (ptA_12 ⟨4 * s + 0, hN⟩ (by show (4 * s + 0) % 4 = 0; omega)) _).trans ((part12 ⟨4 * s + 0, hN⟩ z q).trans ?_)
    refine Finset.sum_congr rfl fun p _ => ?_
    rw [hc 0 (by decide) hN, hr 0 (by decide) hN]
  · have hN : 4 * s + n < cfg0.N := lt_of_lt_of_eq (by omega : 4 * s + n < 8) (show 8 = cfg0.N from N_0.symm)
    refine (congrFun (ptB_12 ⟨4 * s + n, hN⟩ (by show 1 ≤ (4 * s + n) % 4; omega)) _).trans ((pay6 _ _ _ _ _ _).trans ?_)
    refine congrArg₂ (fun a b : EReal => a + b) ?_ ((part12 ⟨4 * s + n, hN⟩ z q).trans ?_)
    · exact congrFun (congrArg (fun o => o.2.2.2.2.1) (outs_congr (by show 4 * s + n - 1 = 4 * s + (n - 1); omega) _ _)) _
    · refine Finset.sum_congr rfl fun p _ => ?_
      rw [hc n hn hN, hr n hn hN]

theorem arr12 : (dats m 0 c).arrAt 12 cfg0.N = Ba (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 12 _ (by decide +kernel) fun t hf y => ?_
  obtain ⟨z, q, rfl⟩ : ∃ z q, y = ix2 z q := ⟨_, _, eq_ix2 y⟩
  have e : (win0_12.blk t).view.emb (ix2 z q) = ix2 z (col t q) := by blk_ext [idx t, col]
  have ht := last12 t hf
  have hN := ltN t
  blk_simp
  rw [after0_12]
  refine Eq.trans ?_ (congrArg (Ba _ _ _ _ _) e).symm
  refine Eq.trans ?_ (acc12 (t.val / 4) (by omega) z q (col t q) rfl)
  exact congrFun (congrArg (fun o => o.2.2.2.2.1) (outs_congr (by omega : t.val = 4 * (t.val / 4) + 3) _ _)) _

theorem part13 (t : Fin cfg0.N) (z : Fin 1) (q : Fin 1024) : k0_pay7 (k0_pay9 (iblk m c 0 t) (iblk m c 1 t)) (k0_pay11 (iblk m c 5 t) (iblk m c 7 t)) (iblk m c 3 t) (ix2 z q) = ∑ p : Fin 512, Zb (m ((c : Thread nD τ).loc main_arg0)) (m ((c : Thread nD τ).loc main_arg1)) (m ((c : Thread nD τ).loc main_arg3)) (m ((c : Thread nD τ).loc main_arg4)) (m ((c : Thread nD τ).loc main_arg5)) (ix2 (row t p) (col t q)) := by
  rw [pay7]
  refine Finset.sum_congr rfl fun p _ => ?_
  rw [pay9, pay11, point, gateB, blk3]
  rfl

theorem acc13 (s : ℕ) (hs : s < 2) (z : Fin 1) (q : Fin 1024) (j : Fin 2048) (hj : j.val = 1024 * s + q.val) :
    (outsAt0 m c (4 * s + 3) (lt_of_lt_of_eq (by omega : 4 * s + 3 < 8) (show 8 = cfg0.N from N_0.symm))).2.2.2.2.2 (ix2 z q) = ∑ r : Fin 2048, Zb (m ((c : Thread nD τ).loc main_arg0)) (m ((c : Thread nD τ).loc main_arg1)) (m ((c : Thread nD τ).loc main_arg3)) (m ((c : Thread nD τ).loc main_arg4)) (m ((c : Thread nD τ).loc main_arg5)) (ix2 r j) := by
  have hc : ∀ (n : ℕ) (hn : n < 4) (hN : 4 * s + n < cfg0.N), col ⟨4 * s + n, hN⟩ q = j := fun n hn hN =>
    Fin.ext (by show 1024 * ((4 * s + n) / 4) + q.val = j.val; omega)
  have hr : ∀ (n : ℕ) (hn : n < 4) (hN : 4 * s + n < cfg0.N) (p : Fin 512), row ⟨4 * s + n, hN⟩ p = ⟨512 * n + p.val, by omega⟩ := fun n hn hN p =>
    Fin.ext (by show 512 * ((4 * s + n) % 4) + p.val = 512 * n + p.val; omega)
  refine acc_four (fun r => Zb (m ((c : Thread nD τ).loc main_arg0)) (m ((c : Thread nD τ).loc main_arg1)) (m ((c : Thread nD τ).loc main_arg3)) (m ((c : Thread nD τ).loc main_arg4)) (m ((c : Thread nD τ).loc main_arg5)) (ix2 r j))
    (fun n hn => (outsAt0 m c (4 * s + n) (lt_of_lt_of_eq (by omega : 4 * s + n < 8) (show 8 = cfg0.N from N_0.symm))).2.2.2.2.2 (ix2 z q)) ?_ fun n hn h => ?_
  · have hN : 4 * s + 0 < cfg0.N := lt_of_lt_of_eq (by omega : 4 * s + 0 < 8) (show 8 = cfg0.N from N_0.symm)
    refine (congrFun (ptA_13 ⟨4 * s + 0, hN⟩ (by show (4 * s + 0) % 4 = 0; omega)) _).trans ((part13 ⟨4 * s + 0, hN⟩ z q).trans ?_)
    refine Finset.sum_congr rfl fun p _ => ?_
    rw [hc 0 (by decide) hN, hr 0 (by decide) hN]
  · have hN : 4 * s + n < cfg0.N := lt_of_lt_of_eq (by omega : 4 * s + n < 8) (show 8 = cfg0.N from N_0.symm)
    refine (congrFun (ptB_13 ⟨4 * s + n, hN⟩ (by show 1 ≤ (4 * s + n) % 4; omega)) _).trans ((pay8 _ _ _ _ _ _).trans ?_)
    refine congrArg₂ (fun a b : EReal => a + b) ?_ ((part13 ⟨4 * s + n, hN⟩ z q).trans ?_)
    · exact congrFun (congrArg (fun o => o.2.2.2.2.2) (outs_congr (by show 4 * s + n - 1 = 4 * s + (n - 1); omega) _ _)) _
    · refine Finset.sum_congr rfl fun p _ => ?_
      rw [hc n hn hN, hr n hn hN]

theorem arr13 : (dats m 0 c).arrAt 13 cfg0.N = Bb (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 13 _ (by decide +kernel) fun t hf y => ?_
  obtain ⟨z, q, rfl⟩ : ∃ z q, y = ix2 z q := ⟨_, _, eq_ix2 y⟩
  have e : (win0_13.blk t).view.emb (ix2 z q) = ix2 z (col t q) := by blk_ext [idx t, col]
  have ht := last13 t hf
  have hN := ltN t
  blk_simp
  rw [after0_13]
  refine Eq.trans ?_ (congrArg (Bb _ _ _ _ _) e).symm
  refine Eq.trans ?_ (acc13 (t.val / 4) (by omega) z q (col t q) rfl)
  exact congrFun (congrArg (fun o => o.2.2.2.2.2) (outs_congr (by omega : t.val = 4 * (t.val / 4) + 3) _ _)) _

end

section

open Cert.ObwRefIdeal.Read

variable (x w y : Vec Ideal S2048x2048 .bf16) (z : Vec Ideal S2048x10240 .f32) (b : Vec Ideal S1x4096 .f32)

theorem r6 (i : S2048x2048.Idx) : val_main_v6 (F := Ideal) x w i = P x w i := by
  refine (val_main_v6_apply x w i).trans (Finset.sum_congr rfl fun k _ => ?_)
  exact congrArg₂ (fun a b : EReal => a * b) (congrArg x ((eq_ix2 _).trans (congrArg₂ ix2 (Fin.ext rfl) (Fin.ext rfl)))) (congrArg w ((eq_ix2 _).trans (congrArg₂ ix2 (Fin.ext rfl) (Fin.ext rfl))))

theorem r20 (i : S2048x2048.Idx) : val_main_v20 (F := Ideal) z b i = ga z b i := by
  refine congrArg₂ (fun a s : EReal => Ideal.div a (a + Ideal.exp (-s))) one (congrArg₂ (fun a b : EReal => a + b) ((val_main_v7_apply z i).trans ?_) ((val_main_v13_apply b i).trans ((val_main_v9_apply b _).trans ?_)))
  · exact (congrArg z ((eq_ix2 _).trans (congrArg₂ ix2 (Fin.ext rfl) (Fin.ext rfl))))
  · exact (congrArg b ((eq_ix2 _).trans (congrArg₂ ix2 (Fin.ext rfl) (Fin.ext rfl))))

theorem r32 (i : S2048x2048.Idx) : val_main_v32 (F := Ideal) z b i = gb z b i := by
  refine congrArg₂ (fun a s : EReal => Ideal.div a (a + Ideal.exp (-s))) one (congrArg₂ (fun a b : EReal => a + b) ((val_main_v8_apply z i).trans ?_) ((val_main_v25_apply b i).trans ((val_main_v10_apply b _).trans ?_)))
  · exact (congrArg z ((eq_ix2 _).trans (congrArg₂ ix2 (Fin.ext rfl) (Fin.ext rfl))))
  · exact (congrArg b ((eq_ix2 _).trans (congrArg₂ ix2 (Fin.ext rfl) (Fin.ext rfl))))

theorem ref48 : val_main_v48 (F := Ideal) x w z b = Da x w z b := by
  funext i
  exact (mul_comm _ _).trans (congrArg₂ (fun a b : EReal => a * b) (r6 x w i) (r20 z b i))

theorem ref49 : val_main_v49 (F := Ideal) x w z b = Db x w z b := by
  funext i
  exact (mul_comm _ _).trans (congrArg₂ (fun a b : EReal => a * b) (r6 x w i) (r32 z b i))

theorem r45 (i : S2048x2048.Idx) : val_main_v45 (F := Ideal) x w y z b i = Za x w y z b i := by
  refine Eq.trans ?_ (mul_assoc _ _ _).symm
  refine congrArg₂ (fun d s : EReal => d * s) (congrArg (fun d : EReal => d * y i) (r6 x w i)) ?_
  exact congrArg₂ (fun a s : EReal => s * (a - s)) one (r20 z b i)

theorem r40 (i : S2048x2048.Idx) : val_main_v40 (F := Ideal) x w y z b i = Zb x w y z b i := by
  refine Eq.trans ?_ (mul_assoc _ _ _).symm
  refine congrArg₂ (fun d s : EReal => d * s) (congrArg (fun d : EReal => d * y i) (r6 x w i)) ?_
  exact congrArg₂ (fun a s : EReal => s * (a - s)) one (r32 z b i)

theorem ref50 : val_main_v50 (F := Ideal) x w y z b = Za x w y z b := funext fun i => r45 x w y z b i

theorem ref51 : val_main_v51 (F := Ideal) x w y z b = Zb x w y z b := funext fun i => r40 x w y z b i

/-- The column that a row's reshaped sum reads. -/
theorem flat (i : S1x2048.Idx) (k : Fin 2048) (h : k.val = (i 0).val * 2048 + (i 1).val) : k = i 1 := by
  have h0 : (i 0).val < 1 := (i 0).isLt
  exact Fin.ext (by omega)

theorem ref47 : val_main_v47 (F := Ideal) x w y z b = Ba x w y z b := by
  funext i
  refine (val_main_v47_apply x w y z b i).trans ((val_main_v46_apply x w y z b _).trans ((zsum _).trans ?_))
  refine Finset.sum_congr rfl fun r _ => ?_
  rw [← flat i (idx_main_v46 (idx_main_v47 i) r 1) rfl]
  exact (r45 x w y z b _).trans (congrArg (Za x w y z b) ((eq_ix2 _).trans (congrArg₂ ix2 (Fin.ext rfl) (Fin.ext rfl))))

theorem ref42 : val_main_v42 (F := Ideal) x w y z b = Bb x w y z b := by
  funext i
  refine (val_main_v42_apply x w y z b i).trans ((val_main_v41_apply x w y z b _).trans ((zsum _).trans ?_))
  refine Finset.sum_congr rfl fun r _ => ?_
  rw [← flat i (idx_main_v41 (idx_main_v42 i) r 1) rfl]
  exact (r40 x w y z b _).trans (congrArg (Zb x w y z b) ((eq_ix2 _).trans (congrArg₂ ix2 (Fin.ext rfl) (Fin.ext rfl))))

end

end Cert.ObwIdeal.Mat

namespace Cert.ObwClaims

open Idealize.ShloMosaic Idealize.SL.Sem

/-- The kernel's frame. -/
theorem frame_kernel : Cert.quiescent_Obw (hObw := Cert.Obw.Gen.facts) := fun m ρ _ => Cert.Obw.Gen.frame m ρ

/-- The idealized kernel's frame. -/
theorem frame_ideal : Cert.quiescent_ObwIdeal (hObwIdeal := Cert.ObwIdeal.Gen.facts) := fun m ρ _ => Cert.ObwIdeal.Gen.frame m ρ

/-- The reference's frame. -/
theorem frame_ref : Cert.quiescent_ObwRefIdeal (hObwRefIdeal := Cert.ObwRefIdeal.Gen.facts) := fun m ρ _ =>
  (θ_run Cert.ObwRefIdeal.defs _ _).mono
    (fun r h => ⟨fun c => (h c).2.2.2.2.2.2, Idealize.ShloMosaic.sem_eq_zero_of_no_sems (by decide) r.2⟩) (Cert.ObwRefIdeal.Value.run (F := Ideal) m ρ)

/-- The idealized kernel keeps what the kernel computes. -/
theorem preserves : Cert.preserves_Obw_ObwIdeal := trivial

/-- The kernel's results are the reference's. -/
theorem algebraic : Cert.algebraic_ObwIdeal_ObwRefIdeal (hObwIdeal := Cert.ObwIdeal.Gen.facts) (hObwRefIdeal := Cert.ObwRefIdeal.Gen.facts) := by
  haveI := Cert.ObwIdeal.Gen.facts
  haveI := Cert.ObwRefIdeal.Gen.facts
  intro m ρ m' ρ' _ hagree
  refine ⟨_, _, _, _, _, _, Cert.ObwIdeal.Value.run_blocks m ρ, ?_⟩
  refine (θ_run Cert.ObwRefIdeal.defs _ _).mono (fun _ h c => ?_) (Cert.ObwRefIdeal.Value.run (F := Ideal) m' ρ')
  obtain ⟨e0, e1, e2, e3, e4, e5⟩ := hagree c
  obtain ⟨h0, h1, h2, h3, h4, h5, h⟩ := h c
  refine ⟨h0.trans ?_, h1.trans ?_, h2.trans ?_, h3.trans ?_, h4.trans ?_, h5.trans ?_, h⟩
  · refine (Cert.ObwRefIdeal.Read.val_main_v48_eq _ _ _ _).trans ((Cert.ObwIdeal.Mat.ref48 _ _ _ _).trans ?_)
    rw [e0, e1, e4, e5]
    exact Cert.ObwIdeal.Mat.arr8.symm
  · refine (Cert.ObwRefIdeal.Read.val_main_v49_eq _ _ _ _).trans ((Cert.ObwIdeal.Mat.ref49 _ _ _ _).trans ?_)
    rw [e0, e1, e4, e5]
    exact Cert.ObwIdeal.Mat.arr9.symm
  · refine (Cert.ObwRefIdeal.Read.val_main_v50_eq _ _ _ _ _).trans ((Cert.ObwIdeal.Mat.ref50 _ _ _ _ _).trans ?_)
    rw [e0, e1, e2, e4, e5]
    exact Cert.ObwIdeal.Mat.arr10.symm
  · refine (Cert.ObwRefIdeal.Read.val_main_v51_eq _ _ _ _ _).trans ((Cert.ObwIdeal.Mat.ref51 _ _ _ _ _).trans ?_)
    rw [e0, e1, e3, e4, e5]
    exact Cert.ObwIdeal.Mat.arr11.symm
  · refine (Cert.ObwRefIdeal.Read.val_main_v47_eq _ _ _ _ _).trans ((Cert.ObwIdeal.Mat.ref47 _ _ _ _ _).trans ?_)
    rw [e0, e1, e2, e4, e5]
    exact Cert.ObwIdeal.Mat.arr12.symm
  · refine (Cert.ObwRefIdeal.Read.val_main_v42_eq _ _ _ _ _).trans ((Cert.ObwIdeal.Mat.ref42 _ _ _ _ _).trans ?_)
    rw [e0, e1, e3, e4, e5]
    exact Cert.ObwIdeal.Mat.arr13.symm

end Cert.ObwClaims

end
-- ==== Proof.FobFinite.lean ====
/- What the second precondition says: every element of the arguments but the gate's is a real number. -/
module

public import proofs.«01_k».proof.Proof.Finite
public import proofs.«01_k».proof.Pre_finite_fob

@[expose] public section

noncomputable section

namespace Cert.Pre_finite_fob.Val

open Idealize.ShloMosaic Cert.Pre_finite_fob

/-- The shape relations of the predicate's operations. -/
theorem facts : Cert.Pre_finite_fob.Facts where
  bitsLt_bf16_f32 := by decide
  bcast_S_S2048x2048 := by decide
  reducesTo_S2048x2048_S_d0_1 := by decide
  h_S_ := by decide
  bcast_S_S5632x2048 := by decide
  reducesTo_S5632x2048_S_d0_1 := by decide
  bcast_S_S2048x5632 := by decide
  reducesTo_S2048x5632_S_d0_1 := by decide

/-- The precondition: the elements of three arguments are real numbers. -/
theorem reals [Cert.Pre_finite_fob.Facts] (x0 : FVec Ideal S2048x2048 .bf16) (x1 : FVec Ideal S5632x2048 .bf16) (x2 x3 : FVec Ideal S2048x5632 .bf16)
    (h : Cert.Pre_finite_fob.fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have hj := congrFun h ix0
  have and1 : ∀ a b : BitVec 1, IntOp.andi a b = 1#1 → a = 1#1 ∧ b = 1#1 := by decide
  have e2 := and1 _ _ hj
  have e1 := and1 _ _ e2.1
  exact ⟨Cert.Pre_finite.Val.real_of_all (extf .f32 x0 Facts.bitsLt_bf16_f32) _ _ _ _ e1.1, Cert.Pre_finite.Val.real_of_all (extf .f32 x1 Facts.bitsLt_bf16_f32) _ _ _ _ e1.2,
    Cert.Pre_finite.Val.real_of_all (extf .f32 x3 Facts.bitsLt_bf16_f32) _ _ _ _ e2.2⟩

end Cert.Pre_finite_fob.Val

end
-- ==== Proof.FfiMat.lean ====
/- The feed-forward's first product, its two halves and the gated half. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Ffi.Frame
public import proofs.«01_k».proof.Proof.Gen.FfiIdeal.Value
public import proofs.«01_k».proof.Proof.Gen.FfiRefIdeal.Run
public import proofs.«01_k».proof.Proof.Gen.FfiRefIdeal.Read
public import Idealize.ShloMosaic.Adequacy
public import Idealize.ShloMosaic.Init

@[expose] public section

set_option maxRecDepth 16384

noncomputable section

namespace Cert.FfiIdeal.Mat

open Idealize.ShloMosaic Idealize.ShloMosaic.TcCoe Idealize.SL Idealize.SL.Sem Cert.FfiIdeal.Gen

theorem z2 : (![0, 0] : Fin 2 → Nat) = fun _ => 0 := funext fun a => by fin_cases a <;> rfl

theorem z3 : (![0, 0, 0] : Fin 3 → Nat) = fun _ => 0 := funext fun a => by fin_cases a <;> rfl

/-- A block's product as a function of its operands. -/
def prod (x : Vec Ideal S512x2048 .bf16) (w : Vec Ideal S1x2048x1408 .bf16) (p : Fin 512) (q : Fin 1408) : EReal :=
  ∑ k : Fin 2048, x (ix2 p k) * w (ix3 0 k q)

/-- A number times its logistic function. -/
def silu (a : EReal) : EReal := a * Ideal.div (Ideal.ofBits .f32 0x3F800000#32) (Ideal.ofBits .f32 0x3F800000#32 + Ideal.exp (-a))

theorem silu_sub (a : EReal) : a * Ideal.div (Ideal.ofBits .f32 0x3F800000#32) (Ideal.ofBits .f32 0x3F800000#32 + Ideal.exp (Ideal.ofBits .f32 0x00000000#32 - a)) = silu a := by
  unfold silu
  rw [show Ideal.ofBits .f32 0x00000000#32 = (0 : EReal) by simp [Ideal.ofBits, Ideal.ieee], zero_sub]

theorem pay1 (x : Vec Ideal S512x2048 .bf16) (w : Vec Ideal S1x2048x1408 .bf16) (p : Fin 512) (q : Fin 1408) :
    k0_pay1 x w (ix2 p q) = prod x w p q := by
  pointwise [k0_pay1]
  rfl

theorem pay2 (x : Vec Ideal S512x2048 .bf16) (w : Vec Ideal S1x2048x1408 .bf16) (p : Fin 512) (q : Fin 1408) :
    k0_pay2 x w (ix2 p q) = prod x w p q := by
  pointwise [k0_pay2]
  rfl

theorem pay5 (x : Vec Ideal S512x2048 .bf16) (w y : Vec Ideal S1x2048x1408 .bf16) (p : Fin 512) (q : Fin 1408) :
    k0_pay5 x w y (ix2 p q) = (fun a b : EReal => a * b) (silu (prod x w p q)) (prod x y p q) := by
  rw [← silu_sub]
  refine Eq.trans ?_ (congrArg₂ (fun a b : EReal => a * b) (congrArg (fun a : EReal => a * Ideal.div (Ideal.ofBits .f32 0x3F800000#32) (Ideal.ofBits .f32 0x3F800000#32 + Ideal.exp (Ideal.ofBits .f32 0x00000000#32 - a))) (pay1 x w p q)) (pay2 x y p q))
  rfl

variable (x : Vec Ideal S512x2048 .bf16) (w y : Vec Ideal S1x2048x1408 .bf16) (p : Fin 512) (q : Fin 1408)

theorem out3 : out0_3 x w y (ix2 p q) = prod x w p q := by
  unfold out0_3
  rw [View.canon_unit_zero (S := S512x1408) z2, View.ld_unit_zero (S := S512x2048) z2, View.ld_unit_zero (S := S1x2048x1408) z3]
  exact pay1 x w p q

theorem out4 : out0_4 x w y (ix2 p q) = prod x y p q := by
  unfold out0_4
  rw [View.canon_unit_zero (S := S512x1408) z2, View.ld_unit_zero (S := S512x2048) z2, View.ld_unit_zero (S := S1x2048x1408) z3]
  exact pay2 x y p q

theorem out5 : out0_5 x w y (ix2 p q) = (fun a b : EReal => a * b) (silu (prod x w p q)) (prod x y p q) := by
  unfold out0_5
  rw [View.canon_unit_zero (S := S512x1408) z2, View.ld_unit_zero (S := S512x2048) z2]
  simp only [View.ld_unit_zero (S := S1x2048x1408) z3]
  exact pay5 x w y p q

theorem ltN (t : Fin cfg0.N) : t.val < 16 := lt_of_lt_of_eq t.isLt (show cfg0.N = 16 from N_0)

theorem idx : ∀ t : Fin cfg0.N, win0_0.index t = ![t.val % 4, 0] ∧ win0_1.index t = ![t.val / 4 / 2, 0, t.val / 4 % 2]
    ∧ win0_2.index t = ![2 + t.val / 4 / 2, 0, t.val / 4 % 2] ∧ win0_3.index t = ![t.val % 4, t.val / 4] ∧ win0_4.index t = ![t.val % 4, t.val / 4]
    ∧ win0_5.index t = ![t.val % 4, t.val / 4] := by
  decide +kernel

/-- Row `p` of a point's block. -/
def row (t : Fin cfg0.N) (p : Fin 512) : Fin 2048 := ⟨512 * (t.val % 4) + p.val, by omega⟩

/-- Column `q` of a point's block. -/
def col (t : Fin cfg0.N) (q : Fin 1408) : Fin 5632 := ⟨1408 * (t.val / 4) + q.val, by have := ltN t; omega⟩

/-- Column `j` of the first half. -/
def lo (j : Fin 5632) : Fin 11264 := ⟨j.val, by omega⟩

/-- Column `j` of the second half. -/
def hi (j : Fin 5632) : Fin 11264 := ⟨5632 + j.val, by omega⟩

/-- The product. -/
def G (x : Vec Ideal S2048x2048 .bf16) (w : Vec Ideal S2048x11264 .bf16) (p : Fin 2048) (j : Fin 11264) : EReal :=
  ∑ k : Fin 2048, x (ix2 p k) * w (ix2 k j)

def Ga (x : Vec Ideal S2048x2048 .bf16) (w : Vec Ideal S2048x11264 .bf16) (i : S2048x5632.Idx) : EReal := G x w (i 0) (lo (i 1))

def Gu (x : Vec Ideal S2048x2048 .bf16) (w : Vec Ideal S2048x11264 .bf16) (i : S2048x5632.Idx) : EReal := G x w (i 0) (hi (i 1))

def Gh (x : Vec Ideal S2048x2048 .bf16) (w : Vec Ideal S2048x11264 .bf16) (i : S2048x5632.Idx) : EReal := silu (Ga x w i) * Gu x w i

section

variable {m : (ℓ : Loc nD τ sig) → Buf (Elt Ideal) ℓ} {c : Dev nD}

theorem blk0 (t : Fin cfg0.N) (p : Fin 512) (k : Fin 2048) : iblk m c 0 t (ix2 p k) = m ((c : Thread nD τ).loc main_arg0) (ix2 (row t p) k) := by
  have e : (win0_0.blk t).view.emb (ix2 p k) = ix2 (row t p) k := by blk_ext [idx t, row]
  blk_simp [iblk]
  rw [e]
  unfold V
  simp only [hostOps0, List.flatten_cons, List.flatten_nil, List.append_nil, List.cons_append, List.nil_append]
  entry_read
  rfl

theorem blk1 (t : Fin cfg0.N) (z : Fin 1) (k : Fin 2048) (q : Fin 1408) : iblk m c 1 t (ix3 z k q) = m ((c : Thread nD τ).loc main_arg1) (ix2 k (lo (col t q))) := by
  have e : (win0_1.blk t).view.emb (ix3 z k q) = ix3 (⟨t.val / 4 / 2, by have := ltN t; omega⟩ : Fin 4) k (⟨1408 * (t.val / 4 % 2) + q.val, by omega⟩ : Fin 2816) := by
    blk_ext [idx t]
  blk_simp [iblk]
  rw [e]
  unfold V
  simp only [hostOps0, List.flatten_cons, List.flatten_nil, List.append_nil, List.cons_append, List.nil_append]
  entry_read
  pointwise
  exact congrArg (fun j => m ((c : Thread nD τ).loc main_arg1) (ix2 k j)) (Fin.ext (by show t.val / 4 / 2 * 2816 + (1408 * (t.val / 4 % 2) + q.val) = 1408 * (t.val / 4) + q.val; omega))

theorem blk2 (t : Fin cfg0.N) (z : Fin 1) (k : Fin 2048) (q : Fin 1408) : iblk m c 2 t (ix3 z k q) = m ((c : Thread nD τ).loc main_arg1) (ix2 k (hi (col t q))) := by
  have e : (win0_2.blk t).view.emb (ix3 z k q) = ix3 (⟨2 + t.val / 4 / 2, by have := ltN t; omega⟩ : Fin 4) k (⟨1408 * (t.val / 4 % 2) + q.val, by omega⟩ : Fin 2816) := by
    blk_ext [idx t]
  blk_simp [iblk]
  rw [e]
  unfold V
  simp only [hostOps0, List.flatten_cons, List.flatten_nil, List.append_nil, List.cons_append, List.nil_append]
  entry_read
  pointwise
  exact congrArg (fun j => m ((c : Thread nD τ).loc main_arg1) (ix2 k j)) (Fin.ext (by show (2 + t.val / 4 / 2) * 2816 + (1408 * (t.val / 4 % 2) + q.val) = 5632 + (1408 * (t.val / 4) + q.val); omega))

theorem point1 (t : Fin cfg0.N) (p : Fin 512) (q : Fin 1408) : prod (iblk m c 0 t) (iblk m c 1 t) p q =
    Ga (m ((c : Thread nD τ).loc main_arg0)) (m ((c : Thread nD τ).loc main_arg1)) (ix2 (row t p) (col t q)) :=
  Finset.sum_congr rfl fun k _ => congrArg₂ (fun a b : EReal => a * b) (blk0 t p k) (blk1 t 0 k q)

theorem point2 (t : Fin cfg0.N) (p : Fin 512) (q : Fin 1408) : prod (iblk m c 0 t) (iblk m c 2 t) p q =
    Gu (m ((c : Thread nD τ).loc main_arg0)) (m ((c : Thread nD τ).loc main_arg1)) (ix2 (row t p) (col t q)) :=
  Finset.sum_congr rfl fun k _ => congrArg₂ (fun a b : EReal => a * b) (blk0 t p k) (blk2 t 0 k q)

theorem arr3 : (dats m 0 c).arrAt 3 cfg0.N = Ga (m ((c : Thread nD τ).loc main_arg0)) (m ((c : Thread nD τ).loc main_arg1)) := by
  refine (dats m 0 c).arrAt_eq_of_covers 3 _ (by decide +kernel) fun t hf y => ?_
  obtain ⟨p, q, rfl⟩ : ∃ p q, y = ix2 p q := ⟨_, _, eq_ix2 y⟩
  have e : (win0_3.blk t).view.emb (ix2 p q) = ix2 (row t p) (col t q) := by blk_ext [idx t, row, col]
  blk_simp
  rw [after0_3, out3]
  refine Eq.trans ?_ (congrArg (Ga _ _) e).symm
  exact point1 t p q

theorem arr4 : (dats m 0 c).arrAt 4 cfg0.N = Gu (m ((c : Thread nD τ).loc main_arg0)) (m ((c : Thread nD τ).loc main_arg1)) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) (col t q) := by blk_ext [idx t, row, col]
  blk_simp
  rw [after0_4, out4]
  refine Eq.trans ?_ (congrArg (Gu _ _) e).symm
  exact point2 t p q

theorem arr5 : (dats m 0 c).arrAt 5 cfg0.N = Gh (m ((c : Thread nD τ).loc main_arg0)) (m ((c : Thread nD τ).loc main_arg1)) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) (col t q) := by blk_ext [idx t, row, col]
  blk_simp
  rw [after0_5, out5]
  refine Eq.trans ?_ (congrArg (Gh _ _) e).symm
  exact congrArg₂ (fun a b : EReal => silu a * b) (point1 t p q) (point2 t p q)

end

section

open Cert.FfiRefIdeal.Read

theorem ref_a (x : Vec Ideal S2048x2048 .bf16) (w : Vec Ideal S2048x11264 .bf16) : val_main_v3 (F := Ideal) x w = Ga x w := by
  funext i
  unfold Ga G
  refine (val_main_v3_apply x w _).trans ((val_main_v2_apply x w _).trans ?_)
  refine Finset.sum_congr rfl fun k _ => ?_
  exact congrArg₂ (fun a b : EReal => a * b) (congrArg x ((eq_ix2 _).trans (congrArg₂ ix2 (Fin.ext rfl) (Fin.ext rfl))))
    (congrArg w ((eq_ix2 _).trans (congrArg₂ ix2 (Fin.ext rfl) (Fin.ext rfl))))

theorem ref_u (x : Vec Ideal S2048x2048 .bf16) (w : Vec Ideal S2048x11264 .bf16) : val_main_v4 (F := Ideal) x w = Gu x w := by
  funext i
  unfold Gu G
  refine (val_main_v4_apply x w _).trans ((val_main_v2_apply x w _).trans ?_)
  refine Finset.sum_congr rfl fun k _ => ?_
  exact congrArg₂ (fun a b : EReal => a * b) (congrArg x ((eq_ix2 _).trans (congrArg₂ ix2 (Fin.ext rfl) (Fin.ext rfl))))
    (congrArg w ((eq_ix2 _).trans (congrArg₂ ix2 (Fin.ext rfl) (Fin.ext rfl))))

theorem ref5 (x : Vec Ideal S2048x2048 .bf16) (w : Vec Ideal S2048x11264 .bf16) : val_main_v5 (F := Ideal) x w = Ga x w := ref_a x w

theorem ref6 (x : Vec Ideal S2048x2048 .bf16) (w : Vec Ideal S2048x11264 .bf16) : val_main_v6 (F := Ideal) x w = Gu x w := ref_u x w

theorem ref9 (x : Vec Ideal S2048x2048 .bf16) (w : Vec Ideal S2048x11264 .bf16) : val_main_v9 (F := Ideal) x w = Gh x w := by
  funext i
  refine Eq.trans ?_ (congrArg₂ (fun a b : EReal => silu a * b) (congrFun (ref_a x w) i) (congrFun (ref_u x w) i))
  rfl

end

end Cert.FfiIdeal.Mat

namespace Cert.FfiClaims

open Idealize.ShloMosaic Idealize.SL.Sem

/-- The kernel's frame. -/
theorem frame_kernel : Cert.quiescent_Ffi (hFfi := Cert.Ffi.Gen.facts) := fun m ρ _ => Cert.Ffi.Gen.frame m ρ

/-- The idealized kernel's frame. -/
theorem frame_ideal : Cert.quiescent_FfiIdeal (hFfiIdeal := Cert.FfiIdeal.Gen.facts) := fun m ρ _ => Cert.FfiIdeal.Gen.frame m ρ

/-- The reference's frame. -/
theorem frame_ref : Cert.quiescent_FfiRefIdeal (hFfiRefIdeal := Cert.FfiRefIdeal.Gen.facts) := fun m ρ _ =>
  (θ_run Cert.FfiRefIdeal.defs _ _).mono
    (fun r h => ⟨fun c => (h c).2.2.2, Idealize.ShloMosaic.sem_eq_zero_of_no_sems (by decide) r.2⟩) (Cert.FfiRefIdeal.Value.run (F := Ideal) m ρ)

/-- The idealized kernel keeps what the kernel computes. -/
theorem preserves : Cert.preserves_Ffi_FfiIdeal := trivial

/-- The kernel's results are the reference's. -/
theorem algebraic : Cert.algebraic_FfiIdeal_FfiRefIdeal (hFfiIdeal := Cert.FfiIdeal.Gen.facts) (hFfiRefIdeal := Cert.FfiRefIdeal.Gen.facts) := by
  haveI := Cert.FfiIdeal.Gen.facts
  haveI := Cert.FfiRefIdeal.Gen.facts
  intro m ρ m' ρ' _ hagree
  refine ⟨_, _, _, Cert.FfiIdeal.Value.run_blocks m ρ, ?_⟩
  refine (θ_run Cert.FfiRefIdeal.defs _ _).mono (fun _ h c => ?_) (Cert.FfiRefIdeal.Value.run (F := Ideal) m' ρ')
  obtain ⟨e0, e1⟩ := hagree c
  obtain ⟨h0, h1, h2, h⟩ := h c
  refine ⟨h0.trans ?_, h1.trans ?_, h2.trans ?_, h⟩
  · refine (Cert.FfiRefIdeal.Read.val_main_v5_eq _ _).trans ((Cert.FfiIdeal.Mat.ref5 _ _).trans ?_)
    rw [e0, e1]
    exact Cert.FfiIdeal.Mat.arr3.symm
  · refine (Cert.FfiRefIdeal.Read.val_main_v6_eq _ _).trans ((Cert.FfiIdeal.Mat.ref6 _ _).trans ?_)
    rw [e0, e1]
    exact Cert.FfiIdeal.Mat.arr4.symm
  · refine (Cert.FfiRefIdeal.Read.val_main_v9_eq _ _).trans ((Cert.FfiIdeal.Mat.ref9 _ _).trans ?_)
    rw [e0, e1]
    exact Cert.FfiIdeal.Mat.arr5.symm

end Cert.FfiClaims

end
-- ==== Proof.FobMat.lean ====
/- The feed-forward's gradients with respect to its two halves. -/
module

public import Idealize.ShloMosaic.Lib.Pointwise
public import Idealize.ShloMosaic.Lib.Pipeline.ValueKit
public import Idealize.ShloMosaic.Lib.Claim
public import proofs.«01_k».proof.Defs
public import proofs.«01_k».proof.Proof.FobFinite
public import proofs.«01_k».proof.Proof.FfiMat
public import proofs.«01_k».proof.Proof.Gen.Fob.Frame
public import proofs.«01_k».proof.Proof.Gen.FobIdeal.Value
public import proofs.«01_k».proof.Proof.Gen.FobRefIdeal.Run
public import proofs.«01_k».proof.Proof.Gen.FobRefIdeal.Read
public import Idealize.ShloMosaic.Adequacy
public import Idealize.ShloMosaic.Init

@[expose] public section

set_option maxRecDepth 16384

noncomputable section

namespace Cert.FobIdeal.Mat

open Idealize.ShloMosaic Idealize.ShloMosaic.TcCoe Idealize.SL Idealize.SL.Sem Cert.FobIdeal.Gen

theorem z2 : (![0, 0] : Fin 2 → Nat) = fun _ => 0 := funext fun a => by fin_cases a <;> rfl

theorem z3 : (![0, 0, 0] : Fin 3 → Nat) = fun _ => 0 := funext fun a => by fin_cases a <;> rfl

/-- The logistic function. -/
def logi (a : EReal) : EReal := Ideal.div 1 (1 + Ideal.exp (-a))

theorem one : Ideal.ofBits .f32 0x3F800000#32 = (1 : EReal) := by
  simp [Ideal.ofBits, Ideal.ieee, -EReal.coe_mul]; norm_num

/-- The gradient with respect to the gate's number as the kernel multiplies it out. -/
def gate (h u a : EReal) : EReal := h * u * logi a * (1 + a * (1 - logi a))

/-- The gradient with respect to the gated number. -/
def up (h a : EReal) : EReal := h * a * logi a

theorem logi_coe (r : ℝ) : logi (r : EReal) = ((1 / (1 + Real.exp (-r)) : ℝ) : EReal) := by
  unfold logi
  have h : (1 + Real.exp (-r) : ℝ) ≠ 0 := by positivity
  rw [← EReal.coe_neg, Ideal.exp_coe, show (1 : EReal) + (Real.exp (-r) : EReal) = ((1 + Real.exp (-r) : ℝ) : EReal) by norm_cast, Ideal.div_coe h, one_mul]

theorem logi_top : logi ⊤ = 1 := by
  unfold logi
  rw [EReal.neg_top, Ideal.exp_bot, add_zero, ← EReal.coe_one, Ideal.div_coe one_ne_zero]
  norm_num

theorem logi_bot : logi ⊥ = 0 := by
  unfold logi
  rw [EReal.neg_bot, Ideal.exp_top, EReal.add_top_of_ne_bot (show (1 : EReal) ≠ ⊥ from EReal.coe_ne_bot 1)]
  simp [Ideal.div]

/-- The two forms of the gate's gradient agree where the other factor is a real number. -/
theorem gate_eq (v : ℝ) (a : EReal) : (v : EReal) * logi a + a * (v : EReal) * (logi a * (1 - logi a)) = (v : EReal) * logi a * (1 + a * (1 - logi a)) := by
  induction a using EReal.rec with
  | coe r =>
    rw [logi_coe]
    generalize (1 / (1 + Real.exp (-r)) : ℝ) = s
    rw [show (1 : EReal) = ((1 : ℝ) : EReal) from rfl]
    norm_cast
    ring
  | top =>
    have e : (1 : EReal) - 1 = 0 := by rw [show (1 : EReal) = ((1 : ℝ) : EReal) from rfl, ← EReal.coe_sub]; norm_num
    rw [logi_top, e, mul_zero, mul_zero, mul_zero]
    simp
  | bot =>
    rw [logi_bot]
    simp

variable (x : Vec Ideal S512x2048 .bf16) (w : Vec Ideal S1408x2048 .bf16) (a u : Vec Ideal S512x1408 .bf16) (p : Fin 512) (q : Fin 1408)

/-- A block's product as a function of its operands. -/
def prod (x : Vec Ideal S512x2048 .bf16) (w : Vec Ideal S1408x2048 .bf16) (p : Fin 512) (q : Fin 1408) : EReal :=
  ∑ k : Fin 2048, x (ix2 p k) * w (ix2 q k)

theorem pay1 : k0_pay1 x w (ix2 p q) = prod x w p q := by
  pointwise [k0_pay1]
  rfl

theorem pay3 : k0_pay3 a (ix2 p q) = logi (a (ix2 p q)) := by
  pointwise [k0_pay3, k0_pay2]
  rw [zero_sub]
  rfl

theorem pay4 : k0_pay4 x w a u (ix2 p q) = gate (prod x w p q) (u (ix2 p q)) (a (ix2 p q)) := by
  unfold gate
  rw [← pay1, ← pay3]
  unfold k0_pay4
  generalize k0_pay1 x w = y
  generalize k0_pay3 a = z
  pointwise [k0_pay2]

theorem pay5 : k0_pay5 x w a (ix2 p q) = up (prod x w p q) (a (ix2 p q)) := by
  unfold up
  rw [← pay1, ← pay3]
  unfold k0_pay5
  generalize k0_pay1 x w = y
  generalize k0_pay3 a = z
  pointwise [k0_pay2]

theorem out4 : out0_4 x w a u (ix2 p q) = gate (prod x w p q) (u (ix2 p q)) (a (ix2 p q)) := by
  unfold out0_4
  rw [View.canon_unit_zero (S := S512x1408) z2, View.ld_unit_zero (S := S512x2048) z2, View.ld_unit_zero (S := S1408x2048) z2]
  simp only [View.ld_unit_zero (S := S512x1408) z2]
  exact pay4 x w a u p q

theorem out5 : out0_5 x w a u (ix2 p q) = up (prod x w p q) (a (ix2 p q)) := by
  unfold out0_5
  rw [View.canon_unit_zero (S := S512x1408) z2, View.ld_unit_zero (S := S512x2048) z2, View.ld_unit_zero (S := S1408x2048) z2]
  simp only [View.ld_unit_zero (S := S512x1408) z2]
  exact pay5 x w a p q

theorem ltN (t : Fin cfg0.N) : t.val < 16 := lt_of_lt_of_eq t.isLt (show cfg0.N = 16 from N_0)

theorem idx : ∀ t : Fin cfg0.N, win0_0.index t = ![t.val % 4, 0] ∧ win0_1.index t = ![t.val / 4, 0] ∧ win0_2.index t = ![t.val % 4, t.val / 4]
    ∧ win0_3.index t = ![t.val % 4, t.val / 4] ∧ win0_4.index t = ![t.val % 4, t.val / 4] ∧ win0_5.index t = ![t.val % 4, t.val / 4] := by
  decide +kernel

/-- Row `p` of a point's block. -/
def row (t : Fin cfg0.N) (p : Fin 512) : Fin 2048 := ⟨512 * (t.val % 4) + p.val, by omega⟩

/-- Column `q` of a point's block. -/
def col (t : Fin cfg0.N) (q : Fin 1408) : Fin 5632 := ⟨1408 * (t.val / 4) + q.val, by have := ltN t; omega⟩

/-- The product at a position. -/
def G (x : Vec Ideal S2048x2048 .bf16) (w : Vec Ideal S5632x2048 .bf16) (i : S2048x5632.Idx) : EReal :=
  ∑ k : Fin 2048, x (ix2 (i 0) k) * w (ix2 (i 1) k)

/-- The gate's gradient. -/
def Ga (x : Vec Ideal S2048x2048 .bf16) (w : Vec Ideal S5632x2048 .bf16) (a u : Vec Ideal S2048x5632 .bf16) (i : S2048x5632.Idx) : EReal := gate (G x w i) (u i) (a i)

/-- The gated half's gradient. -/
def Gu (x : Vec Ideal S2048x2048 .bf16) (w : Vec Ideal S5632x2048 .bf16) (a : Vec Ideal S2048x5632 .bf16) (i : S2048x5632.Idx) : EReal := up (G x w i) (a i)

section

variable {m : (ℓ : Loc nD τ sig) → Buf (Elt Ideal) ℓ} {c : Dev nD}

theorem blk0 (t : Fin cfg0.N) (p : Fin 512) (q : Fin 2048) : iblk m c 0 t (ix2 p q) = m ((c : Thread nD τ).loc main_arg0) (ix2 (row t p) q) := by
  have e : (win0_0.blk t).view.emb (ix2 p q) = ix2 (row t p) q := by blk_ext [idx t, row, col]
  blk_simp [iblk]
  rw [e]

theorem blk1 (t : Fin cfg0.N) (p : Fin 1408) (q : Fin 2048) : iblk m c 1 t (ix2 p q) = m ((c : Thread nD τ).loc main_arg1) (ix2 (col t p) q) := by
  have e : (win0_1.blk t).view.emb (ix2 p q) = ix2 (col t p) q := by blk_ext [idx t, row, col]
  blk_simp [iblk]
  rw [e]

theorem blk2 (t : Fin cfg0.N) (p : Fin 512) (q : Fin 1408) : iblk m c 2 t (ix2 p q) = m ((c : Thread nD τ).loc main_arg2) (ix2 (row t p) (col t q)) := by
  have e : (win0_2.blk t).view.emb (ix2 p q) = ix2 (row t p) (col t q) := by blk_ext [idx t, row, col]
  blk_simp [iblk]
  rw [e]

theorem blk3 (t : Fin cfg0.N) (p : Fin 512) (q : Fin 1408) : iblk m c 3 t (ix2 p q) = m ((c : Thread nD τ).loc main_arg3) (ix2 (row t p) (col t q)) := by
  have e : (win0_3.blk t).view.emb (ix2 p q) = ix2 (row t p) (col t q) := by blk_ext [idx t, row, col]
  blk_simp [iblk]
  rw [e]

theorem point (t : Fin cfg0.N) (p : Fin 512) (q : Fin 1408) : prod (iblk m c 0 t) (iblk m c 1 t) p q = G (m ((c : Thread nD τ).loc main_arg0)) (m ((c : Thread nD τ).loc main_arg1)) (ix2 (row t p) (col t q)) := by
  unfold prod G
  exact Finset.sum_congr rfl fun k _ => congrArg₂ (fun a b : EReal => a * b) (blk0 t p k) (blk1 t q k)

theorem arr4 : (dats m 0 c).arrAt 4 cfg0.N = Ga (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) (col t q) := by blk_ext [idx t, row, col]
  blk_simp
  rw [after0_4, out4]
  refine Eq.trans ?_ (congrArg (Ga _ _ _ _) e).symm
  rw [point, blk2, blk3]
  rfl

theorem arr5 : (dats m 0 c).arrAt 5 cfg0.N = Gu (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) (col t q) := by blk_ext [idx t, row, col]
  blk_simp
  rw [after0_5, out5]
  refine Eq.trans ?_ (congrArg (Gu _ _ _) e).symm
  rw [point, blk2]
  rfl

end

section

open Cert.FobRefIdeal.Read

variable (x0 : Vec Ideal S2048x2048 .bf16) (x1 : Vec Ideal S5632x2048 .bf16) (x2 x3 : Vec Ideal S2048x5632 .bf16)

theorem ref_g (i : S2048x5632.Idx) : val_main_v9 (F := Ideal) x0 x1 i = G x0 x1 i := by
  refine (val_main_v9_apply x0 x1 i).trans ?_
  refine Finset.sum_congr rfl fun k _ => ?_
  exact congrArg₂ (fun a b : EReal => a * b) (congrArg x0 ((eq_ix2 _).trans (congrArg₂ ix2 (Fin.ext rfl) (Fin.ext rfl))))
    (congrArg x1 ((eq_ix2 _).trans (congrArg₂ ix2 (Fin.ext rfl) (Fin.ext rfl))))

theorem ref_s (i : S2048x5632.Idx) : val_main_v3_2 (F := Ideal) x2 i = logi (x2 i) := by
  unfold logi
  rw [← one]
  simp only [val_main_v3_2_apply, val_main_call0_v4_apply, val_main_call0_v3_apply, val_main_call0_v2_apply, val_main_call0_v1_apply,
    val_main_call0_v0_apply, val_main_v0_apply, val_main_call0_cst_apply, val_main_call0_cst_0_apply]
  rfl

/-- The product of real numbers is a real number. -/
theorem G_real (h0 : ∀ i, ∃ r : ℝ, x0 i = (r : EReal)) (h1 : ∀ i, ∃ r : ℝ, x1 i = (r : EReal)) (i : S2048x5632.Idx) : ∃ r : ℝ, G x0 x1 i = (r : EReal) := by
  choose r0 h0 using h0
  choose r1 h1 using h1
  refine ⟨∑ k : Fin 2048, r0 (ix2 (i 0) k) * r1 (ix2 (i 1) k), ?_⟩
  refine Eq.trans (Finset.sum_congr rfl fun k _ => congrArg₂ (fun a b : EReal => a * b) (h0 _) (h1 _)) ?_
  induction (Finset.univ : Finset (Fin 2048)) using Finset.induction_on with
  | empty => rfl
  | insert k s hk ih =>
    rw [Finset.sum_insert hk, Finset.sum_insert hk, EReal.coe_add, ← ih, EReal.coe_mul]

theorem ref_a (h0 : ∀ i, ∃ r : ℝ, x0 i = (r : EReal)) (h1 : ∀ i, ∃ r : ℝ, x1 i = (r : EReal)) (h3 : ∀ i, ∃ r : ℝ, x3 i = (r : EReal)) :
    val_main_v13 (F := Ideal) x0 x1 x2 x3 = Ga x0 x1 x2 x3 := by
  funext i
  have e : val_main_v13 (F := Ideal) x0 x1 x2 x3 i = (fun h u a s : EReal => h * u * s + a * (h * u) * (s * (Ideal.ofBits .f32 0x3F800000#32 - s)))
      (val_main_v9 (F := Ideal) x0 x1 i) (x3 i) (x2 i) (val_main_v3_2 (F := Ideal) x2 i) := by
    simp only [val_main_v13_apply, val_main_v12_apply, val_main_call1_v2_apply, val_main_call1_v1_apply, val_main_call1_v0_apply, val_main_v11_apply,
      val_main_v3_1_apply, val_main_call0_v7_apply, val_main_call0_v6_apply, val_main_call0_cst_1_apply, val_main_v0_apply, val_main_v1_apply]
    rfl
  refine e.trans ?_
  rw [ref_g, ref_s]
  unfold Ga gate
  obtain ⟨g, hg⟩ := G_real x0 x1 h0 h1 i
  obtain ⟨u, hu⟩ := h3 i
  rw [hg, hu, one, ← EReal.coe_mul]
  exact gate_eq _ _

theorem ref_u : val_main_v14 (F := Ideal) x0 x1 x2 = Gu x0 x1 x2 := by
  funext i
  have e : val_main_v14 (F := Ideal) x0 x1 x2 i = (fun h a s : EReal => a * s * h) (val_main_v9 (F := Ideal) x0 x1 i) (x2 i) (val_main_v3_2 (F := Ideal) x2 i) := by
    simp only [val_main_v14_apply, val_main_v10_apply, val_main_v3_0_apply, val_main_v0_apply]
    rfl
  refine e.trans ?_
  rw [ref_g, ref_s]
  unfold Gu up
  beta_reduce
  rw [mul_comm, mul_assoc]

end

end Cert.FobIdeal.Mat

namespace Cert.FobClaims

open Idealize.ShloMosaic Idealize.SL.Sem

/-- The kernel's frame. -/
theorem frame_kernel : Cert.quiescent_Fob (hFob := Cert.Fob.Gen.facts) := fun m ρ _ => Cert.Fob.Gen.frame m ρ

/-- The idealized kernel's frame. -/
theorem frame_ideal : Cert.quiescent_FobIdeal (hFobIdeal := Cert.FobIdeal.Gen.facts) := fun m ρ _ => Cert.FobIdeal.Gen.frame m ρ

/-- The reference's frame. -/
theorem frame_ref : Cert.quiescent_FobRefIdeal (hFobRefIdeal := Cert.FobRefIdeal.Gen.facts) := fun m ρ _ =>
  (θ_run Cert.FobRefIdeal.defs _ _).mono
    (fun r h => ⟨fun c => (h c).2.2, Idealize.ShloMosaic.sem_eq_zero_of_no_sems (by decide) r.2⟩) (Cert.FobRefIdeal.Value.run (F := Ideal) m ρ)

/-- The idealized kernel's frame under the precondition. -/
theorem frame_ideal_pre : Cert.quiescent_FobIdeal_pre_finite_fob (hFobIdeal := Cert.FobIdeal.Gen.facts) (hPre_finite_fob := Cert.Pre_finite_fob.Val.facts) :=
  fun m ρ _ => Cert.FobIdeal.Gen.frame m ρ

/-- The reference's frame under the precondition. -/
theorem frame_ref_pre : Cert.quiescent_FobRefIdeal_pre_finite_fob (hFobRefIdeal := Cert.FobRefIdeal.Gen.facts) (hPre_finite_fob := Cert.Pre_finite_fob.Val.facts) :=
  fun m ρ _ => frame_ref m ρ trivial

/-- The idealized kernel keeps what the kernel computes. -/
theorem preserves : Cert.preserves_Fob_FobIdeal := trivial

/-- The kernel's results are the reference's, where the three arguments are finite. -/
theorem algebraic : Cert.algebraic_FobIdeal_FobRefIdeal_pre_finite_fob (hFobIdeal := Cert.FobIdeal.Gen.facts) (hFobRefIdeal := Cert.FobRefIdeal.Gen.facts)
    (hPre_finite_fob := Cert.Pre_finite_fob.Val.facts) := by
  haveI := Cert.Pre_finite_fob.Val.facts
  haveI := Cert.FobIdeal.Gen.facts
  haveI := Cert.FobRefIdeal.Gen.facts
  intro m ρ m' ρ' hpre hagree
  refine ⟨_, _, Cert.FobIdeal.Value.run_blocks m ρ, ?_⟩
  refine (θ_run Cert.FobRefIdeal.defs _ _).mono (fun _ h c => ?_) (Cert.FobRefIdeal.Value.run (F := Ideal) m' ρ')
  obtain ⟨f0, f1, f3⟩ := Cert.Pre_finite_fob.Val.reals _ _ _ _ (hpre c)
  obtain ⟨e0, e1, e2, e3⟩ := hagree c
  obtain ⟨h4, h5, h⟩ := h c
  refine ⟨h4.trans ?_, h5.trans ?_, h⟩
  · refine (Cert.FobRefIdeal.Read.val_main_v13_eq _ _ _ _).trans ?_
    rw [e0, e1, e2, e3]
    exact (Cert.FobIdeal.Mat.ref_a _ _ _ _ f0 f1 f3).trans Cert.FobIdeal.Mat.arr4.symm
  · refine (Cert.FobRefIdeal.Read.val_main_v14_eq _ _ _).trans ((Cert.FobIdeal.Mat.ref_u _ _ _).trans ?_)
    rw [e0, e1, e2]
    exact Cert.FobIdeal.Mat.arr5.symm

end Cert.FobClaims

end
-- ==== Proof.AdamStep.lean ====
/- One step of AdamW on one weight, as functions of extended reals. -/
module

public import Idealize.ShloMosaic.PureOps.Ideal
public import Idealize.ShloMosaic.PureOps.IdealRules

@[expose] public section

noncomputable section

namespace Cert.AdamStep

open Idealize.ShloMosaic

/-- The number that a literal's word denotes. -/
abbrev lit (b : BitVec 32) : EReal := Ideal.ofBits .f32 b

/-- The new first moment. -/
def newM (m g : EReal) : EReal := lit 0x3F666666#32 * m + lit 0x3DCCCCCD#32 * g

/-- The new second moment. -/
def newV (v g : EReal) : EReal := lit 0x3F7FBE77#32 * v + lit 0x3A83126F#32 * (g * g)

/-- The weight's change. -/
def delta (w m v g : EReal) : EReal :=
  lit 0xBA83126F#32 * (Ideal.div (Ideal.div (newM m g) (lit 0x3F26BD02#32))
    (Ideal.sqrt (Ideal.div (newV v g) (lit 0x3C231ACC#32)) + lit 0x322BCC77#32) + lit 0x3C23D70A#32 * w)

/-- The weight's change, with the two corrections of the moments as factors. -/
def deltaBy (a b w m v g : EReal) : EReal :=
  lit 0xBA83126F#32 * (Ideal.div (newM m g * a) (Ideal.sqrt (newV v g * b) + lit 0x322BCC77#32) + lit 0x3C23D70A#32 * w)

theorem lit_m : lit 0x3F26BD02#32 = ((5463681 / 8388608 : ℝ) : EReal) := by
  simp [Ideal.ofBits, Ideal.ieee, -EReal.coe_mul]; norm_num

theorem lit_v : lit 0x3C231ACC#32 = ((2672307 / 268435456 : ℝ) : EReal) := by
  simp [Ideal.ofBits, Ideal.ieee, -EReal.coe_mul]; norm_num

/-- Dividing by the corrections is multiplying by their reciprocals. -/
theorem deltaBy_eq (w m v g : EReal) :
    deltaBy ((8388608 / 5463681 : ℝ) : EReal) ((268435456 / 2672307 : ℝ) : EReal) w m v g = delta w m v g := by
  unfold deltaBy delta
  rw [lit_m, lit_v, Ideal.div_coe (by norm_num), Ideal.div_coe (by norm_num)]
  norm_num

end Cert.AdamStep

end
-- ==== Proof.UadaMat.lean ====
/- The gradient of w_ada and the optimiser's step on it. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.FfiMat
public import proofs.«01_k».proof.Proof.Gen.Uada.Frame
public import proofs.«01_k».proof.Proof.Gen.UadaIdeal.Value
public import proofs.«01_k».proof.Proof.Gen.UadaRefIdeal.Run
public import proofs.«01_k».proof.Proof.Gen.UadaRefIdeal.Read
public import Idealize.ShloMosaic.Adequacy
public import Idealize.ShloMosaic.Init

@[expose] public section

set_option maxRecDepth 16384

noncomputable section

namespace Cert.UadaIdeal.Mat

open Idealize.ShloMosaic Idealize.ShloMosaic.TcCoe Idealize.SL Idealize.SL.Sem Cert.UadaIdeal.Gen Cert.AdamStep

theorem z2 : (![0, 0] : Fin 2 → Nat) = fun _ => 0 := funext fun a => by fin_cases a <;> rfl

theorem z3 : (![0, 0, 0] : Fin 3 → Nat) = fun _ => 0 := funext fun a => by fin_cases a <;> rfl

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

/-- A number times its logistic function. -/
abbrev silu (a : EReal) : EReal := Cert.FfiIdeal.Mat.silu a

variable (w m v : Vec Ideal S128x3072 .f32) (c : Vec Ideal S8x128 .f32) (d : Vec Ideal S8x3072 .f32)

/-- A block of the gradient as a function of its operands. -/
def grad (c : Vec Ideal S8x128 .f32) (d : Vec Ideal S8x3072 .f32) (p : Fin 128) (q : Fin 3072) : EReal :=
  ∑ k : Fin 8, silu (c (ix2 k p)) * d (ix2 k q)

theorem one : Ideal.ofBits .f32 0x3F800000#32 = (1 : EReal) := by
  simp [Ideal.ofBits, Ideal.ieee, -EReal.coe_mul]; norm_num

/-- The logistic factor as the kernel writes it. -/
theorem factor (a : EReal) : a * Ideal.div 1 (1 + Ideal.exp (0 - a)) = silu a := by
  unfold silu Cert.FfiIdeal.Mat.silu
  rw [one, zero_sub]

theorem pay_g (p : Fin 128) (q : Fin 3072) : k0_pay2 c d (ix2 p q) = grad c d p q := by
  pointwise [k0_pay2]
  unfold grad
  exact Finset.sum_congr rfl fun k _ => congrArg (fun x : EReal => x * d (ix2 k q)) (factor (c (ix2 k p)))

theorem pay_m (p : Fin 128) (q : Fin 3072) : k0_pay3 c d m (ix2 p q) = newM (m (ix2 p q)) (grad c d p q) := by
  rw [← pay_g]
  unfold k0_pay3
  generalize k0_pay2 c d = g
  pointwise
  rfl

theorem pay_v (p : Fin 128) (q : Fin 3072) : k0_pay4 c d v (ix2 p q) = newV (v (ix2 p q)) (grad c d p q) := by
  rw [← pay_g]
  unfold k0_pay4
  generalize k0_pay2 c d = g
  pointwise
  rfl

theorem pay_d (p : Fin 128) (q : Fin 3072) : k0_pay1 w (k0_pay5 c d m v) (ix2 p q) = delta (w (ix2 p q)) (m (ix2 p q)) (v (ix2 p q)) (grad c d p q) := by
  refine Eq.trans ?_ (deltaBy_eq _ _ _ _)
  rw [← named_m, ← named_v]
  unfold deltaBy
  rw [← pay_m, ← pay_v]
  unfold k0_pay1 k0_pay5
  generalize k0_pay3 c d m = a
  generalize k0_pay4 c d v = b
  pointwise

theorem out5 (p : Fin 128) (q : Fin 3072) : out0_5 w m v c d (ix2 p q) = grad c d p q := by
  unfold out0_5
  rw [View.canon_unit_zero (S := S128x3072) z2, View.ld_unit_zero (S := S8x128) z2, View.ld_unit_zero (S := S8x3072) z2]
  exact pay_g c d p q

theorem out6 (p : Fin 128) (q : Fin 3072) : out0_6 w m v c d (ix2 p q) = delta (w (ix2 p q)) (m (ix2 p q)) (v (ix2 p q)) (grad c d p q) := by
  unfold out0_6
  rw [View.canon_unit_zero (S := S128x3072) z2, View.ld_unit_zero (S := S8x128) z2, View.ld_unit_zero (S := S8x3072) z2]
  simp only [View.ld_unit_zero (S := S128x3072) z2]
  exact pay_d w m v c d p q

theorem out7 (p : Fin 128) (q : Fin 3072) : out0_7 w m v c d (ix2 p q) = newM (m (ix2 p q)) (grad c d p q) := by
  unfold out0_7
  rw [View.canon_unit_zero (S := S128x3072) z2, View.ld_unit_zero (S := S8x128) z2, View.ld_unit_zero (S := S8x3072) z2, View.ld_unit_zero (S := S128x3072) z2]
  exact pay_m m c d p q

theorem out8 (p : Fin 128) (q : Fin 3072) : out0_8 w m v c d (ix2 p q) = newV (v (ix2 p q)) (grad c d p q) := by
  unfold out0_8
  rw [View.canon_unit_zero (S := S128x3072) z2, View.ld_unit_zero (S := S8x128) z2, View.ld_unit_zero (S := S8x3072) z2, View.ld_unit_zero (S := S128x3072) z2]
  exact pay_v v c d p q

theorem ltN (t : Fin cfg0.N) : t.val < 16 := lt_of_lt_of_eq t.isLt (show cfg0.N = 16 from N_0)

theorem idx : ∀ t : Fin cfg0.N, win0_0.index t = ![t.val, 0] ∧ win0_1.index t = ![t.val, 0] ∧ win0_2.index t = ![t.val, 0]
    ∧ win0_3.index t = ![0, t.val] ∧ win0_4.index t = ![0, 0] ∧ win0_5.index t = ![t.val, 0] ∧ win0_6.index t = ![t.val, 0]
    ∧ win0_7.index t = ![t.val, 0] ∧ win0_8.index t = ![t.val, 0] := by
  decide +kernel

/-- Row `p` of a point's block. -/
def row (t : Fin cfg0.N) (p : Fin 128) : Fin 2048 := ⟨128 * t.val + p.val, by have := ltN t; omega⟩

/-- The gradient at a position. -/
def G (c : Vec Ideal S8x2048 .f32) (d : Vec Ideal S8x3072 .f32) (i : S2048x3072.Idx) : EReal :=
  ∑ k : Fin 8, silu (c (ix2 k (i 0))) * d (ix2 k (i 1))

section

variable {m : (ℓ : Loc nD τ sig) → Buf (Elt Ideal) ℓ} {c : Dev nD}

theorem blk0 (t : Fin cfg0.N) (p : Fin 128) (q : Fin 3072) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]

theorem blk1 (t : Fin cfg0.N) (p : Fin 128) (q : Fin 3072) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]

theorem blk2 (t : Fin cfg0.N) (p : Fin 128) (q : Fin 3072) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]

theorem blk3 (t : Fin cfg0.N) (p : Fin 8) (q : Fin 128) : iblk m c 3 t (ix2 p q) = m ((c : Thread nD τ).loc main_arg3) (ix2 p (row t q)) := by
  have e : (win0_3.blk t).view.emb (ix2 p q) = ix2 p (row t q) := by blk_ext [idx t, row]
  blk_simp [iblk]
  rw [e]

theorem blk4 (t : Fin cfg0.N) (p : Fin 8) (q : Fin 3072) : iblk m c 4 t (ix2 p q) = m ((c : Thread nD τ).loc main_arg4) (ix2 p q) := by
  have e : (win0_4.blk t).view.emb (ix2 p q) = ix2 p q := by blk_ext [idx t, row]
  blk_simp [iblk]
  rw [e]

theorem grad_at (t : Fin cfg0.N) (p : Fin 128) (q : Fin 3072) :
    grad (iblk m c 3 t) (iblk m c 4 t) p q = G (m ((c : Thread nD τ).loc main_arg3)) (m ((c : Thread nD τ).loc main_arg4)) (ix2 (row t p) q) := by
  unfold grad G
  exact Finset.sum_congr rfl fun k _ => congrArg₂ (fun a b : EReal => a * b) (congrArg (fun a : EReal => silu a) (blk3 t k p)) (blk4 t k q)

/-- w_ada's gradient. -/
theorem arr5 : (dats m 0 c).arrAt 5 cfg0.N = fun i => G (m ((c : Thread nD τ).loc main_arg3)) (m ((c : Thread nD τ).loc main_arg4)) i := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, grad_at]

/-- w_ada's change. -/
theorem arr6 : (dats m 0 c).arrAt 6 cfg0.N = fun i => delta (m ((c : Thread nD τ).loc main_arg0) i) (m ((c : Thread nD τ).loc main_arg1) i) (m ((c : Thread nD τ).loc main_arg2) i) (G (m ((c : Thread nD τ).loc main_arg3)) (m ((c : Thread nD τ).loc main_arg4)) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk0, blk1, blk2, grad_at]

/-- w_ada's new first moment. -/
theorem arr7 : (dats m 0 c).arrAt 7 cfg0.N = fun i => newM (m ((c : Thread nD τ).loc main_arg1) i) (G (m ((c : Thread nD τ).loc main_arg3)) (m ((c : Thread nD τ).loc main_arg4)) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk1, grad_at]

/-- w_ada's new second moment. -/
theorem arr8 : (dats m 0 c).arrAt 8 cfg0.N = fun i => newV (m ((c : Thread nD τ).loc main_arg2) i) (G (m ((c : Thread nD τ).loc main_arg3)) (m ((c : Thread nD τ).loc main_arg4)) i) := by
  refine (dats m 0 c).arrAt_eq_of_covers 8 _ (by decide +kernel) fun t hf y => ?_
  obtain ⟨p, q, rfl⟩ : ∃ p q, y = ix2 p q := ⟨_, _, eq_ix2 y⟩
  have e : (win0_8.blk t).view.emb (ix2 p q) = ix2 (row t p) q := by blk_ext [idx t, row]
  blk_simp
  rw [after0_8, out8, e, blk2, grad_at]

end

section

open Cert.UadaRefIdeal.Read

variable (x0 x1 x2 : Vec Ideal S2048x3072 .f32) (x3 : Vec Ideal S8x2048 .f32) (x4 : Vec Ideal S8x3072 .f32)

theorem ref_s (i : S8x2048.Idx) : val_main_v1 (F := Ideal) x3 i = silu (x3 i) := by
  simp only [val_main_v1_apply, val_main_call0_v5_apply, val_main_call0_v4_apply, val_main_call0_v3_apply, val_main_call0_v2_apply, val_main_call0_v1_apply,
    val_main_call0_v0_apply, val_main_call0_cst_apply, val_main_call0_cst_0_apply]
  rfl

theorem ref_g (i : S2048x3072.Idx) : val_main_v6 (F := Ideal) x3 x4 i = G x3 x4 i := by
  refine (val_main_v6_apply x3 x4 i).trans ((val_main_v5_apply x3 x4 _).trans ?_)
  refine Finset.sum_congr rfl fun k _ => ?_
  refine Eq.trans (congrArg₂ (fun a b : EReal => a * b) (congrArg x4 ((eq_ix2 _).trans (congrArg₂ ix2 (Fin.ext rfl) (Fin.ext rfl))))
    ((ref_s x3 _).trans (congrArg (fun j => silu (x3 j)) ((eq_ix2 _).trans (congrArg₂ ix2 (Fin.ext rfl) (Fin.ext rfl)))))) (mul_comm _ _)

theorem ref_gf : val_main_v6 (F := Ideal) x3 x4 = G x3 x4 := funext fun i => ref_g x3 x4 i

theorem ref_m : val_main_v11 (F := Ideal) x1 x3 x4 = fun i => newM (x1 i) (G x3 x4 i) := by
  funext i
  simp only [val_main_v11_apply, val_main_v10_apply, val_main_v9_apply, val_main_v8_apply, val_main_v7_apply, val_main_cst_0_apply, val_main_cst_1_apply, ref_gf]
  rfl

theorem ref_v : val_main_v17 (F := Ideal) x2 x3 x4 = fun i => newV (x2 i) (G x3 x4 i) := by
  funext i
  simp only [val_main_v17_apply, val_main_v16_apply, val_main_v15_apply, val_main_v14_apply, val_main_v13_apply, val_main_v12_apply, val_main_cst_2_apply, val_main_cst_3_apply, ref_gf]
  rfl

theorem ref_d : val_main_v30 (F := Ideal) x0 x1 x2 x3 x4 = fun i => delta (x0 i) (x1 i) (x2 i) (G x3 x4 i) := by
  funext i
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    ref_m, ref_v, val_main_cst_4_apply, val_main_cst_5_apply, val_main_cst_6_apply, val_main_cst_7_apply, val_main_cst_8_apply]
  rfl

end

end Cert.UadaIdeal.Mat

namespace Cert.UadaClaims

open Idealize.ShloMosaic Idealize.SL.Sem

/-- The kernel's frame. -/
theorem frame_kernel : Cert.quiescent_Uada (hUada := Cert.Uada.Gen.facts) := fun m ρ _ => Cert.Uada.Gen.frame m ρ

/-- The idealized kernel's frame. -/
theorem frame_ideal : Cert.quiescent_UadaIdeal (hUadaIdeal := Cert.UadaIdeal.Gen.facts) := fun m ρ _ => Cert.UadaIdeal.Gen.frame m ρ

/-- The reference's frame. -/
theorem frame_ref : Cert.quiescent_UadaRefIdeal (hUadaRefIdeal := Cert.UadaRefIdeal.Gen.facts) := fun m ρ _ =>
  (θ_run Cert.UadaRefIdeal.defs _ _).mono
    (fun r h => ⟨fun c => (h c).2.2.2.2, Idealize.ShloMosaic.sem_eq_zero_of_no_sems (by decide) r.2⟩) (Cert.UadaRefIdeal.Value.run (F := Ideal) m ρ)

/-- The idealized kernel keeps what the kernel computes. -/
theorem preserves : Cert.preserves_Uada_UadaIdeal :=
  ⟨IdealRules.named_const.statement Cert.UadaIdeal.κ "m_hat" .f32 0x3FC48605#32 ((8388608 / 5463681 : ℝ) : EReal) rfl,
    IdealRules.named_const.statement Cert.UadaIdeal.κ "v_hat" .f32 0x42C8E6D3#32 ((268435456 / 2672307 : ℝ) : EReal) rfl⟩

/-- The kernel's results are the reference's. -/
theorem algebraic : Cert.algebraic_UadaIdeal_UadaRefIdeal (hUadaIdeal := Cert.UadaIdeal.Gen.facts) (hUadaRefIdeal := Cert.UadaRefIdeal.Gen.facts) := by
  haveI := Cert.UadaIdeal.Gen.facts
  haveI := Cert.UadaRefIdeal.Gen.facts
  intro m ρ m' ρ' _ hagree
  refine ⟨_, _, _, _, Cert.UadaIdeal.Value.run_blocks m ρ, ?_⟩
  refine (θ_run Cert.UadaRefIdeal.defs _ _).mono (fun _ h c => ?_) (Cert.UadaRefIdeal.Value.run (F := Ideal) m' ρ')
  obtain ⟨e0, e1, e2, e3, e4⟩ := hagree c
  obtain ⟨h5, h6, h7, h8, h⟩ := h c
  refine ⟨h5.trans ?_, h6.trans ?_, h7.trans ?_, h8.trans ?_, h⟩
  · refine (Cert.UadaRefIdeal.Read.val_main_v6_eq _ _).trans ((Cert.UadaIdeal.Mat.ref_gf _ _).trans ?_)
    rw [e3, e4]
    exact Cert.UadaIdeal.Mat.arr5.symm
  · refine (Cert.UadaRefIdeal.Read.val_main_v30_eq _ _ _ _ _).trans ((Cert.UadaIdeal.Mat.ref_d _ _ _ _ _).trans ?_)
    rw [e0, e1, e2, e3, e4]
    exact Cert.UadaIdeal.Mat.arr6.symm
  · refine (Cert.UadaRefIdeal.Read.val_main_v11_eq _ _ _).trans ((Cert.UadaIdeal.Mat.ref_m _ _ _).trans ?_)
    rw [e1, e3, e4]
    exact Cert.UadaIdeal.Mat.arr7.symm
  · refine (Cert.UadaRefIdeal.Read.val_main_v17_eq _ _ _).trans ((Cert.UadaIdeal.Mat.ref_v _ _ _).trans ?_)
    rw [e2, e3, e4]
    exact Cert.UadaIdeal.Mat.arr8.symm

end Cert.UadaClaims

end
-- ==== Proof.Dh1Loop.lean ====
/- One trip of the rider's loop in the product of dz with w_in: eight rows of w_ffn_in's update. Each piece that the sixteen trips store is the
   optimiser's formula at its place. -/
module

public import Idealize.ShloMosaic.Lib.Pointwise
public import Idealize.ShloMosaic.Lib.Pipeline.ValueKit
public import proofs.«01_k».proof.Defs
public import proofs.«01_k».proof.Proof.AdamStep
public import proofs.«01_k».proof.Proof.Gen.Dh1Ideal.Value
public import Idealize.ShloMosaic.Init

@[expose] public section

set_option maxRecDepth 16384

noncomputable section

namespace Cert.Dh1Ideal.Rider

open Idealize.ShloMosaic Idealize.ShloMosaic.TcCoe Idealize.SL Idealize.SL.Sem Cert.Dh1Ideal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

section

variable (w m v g : Vec Ideal S8x2816 .f32) (j : S8x2816.Idx)

theorem pay_m : k0_pay5 m g j = newM (m j) (g j) := by
  pointwise [k0_pay5]
  rfl

theorem pay_v : k0_pay6 v g j = newV (v j) (g j) := by
  pointwise [k0_pay6]
  rfl

theorem pay_d : k0_pay7 w m v g j = delta (w j) (m j) (v j) (g j) := by
  refine Eq.trans ?_ (deltaBy_eq _ _ _ _)
  rw [← named_m, ← named_v]
  pointwise [k0_pay7, k0_pay6, k0_pay5]
  rfl

end

section

variable (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S128x2816 .f32) (harg5 : arg5.IsWhole) (arg6 : Memref sig .tc .vmem S128x2816 .f32) (harg6 : arg6.IsWhole) (arg7 : Memref sig .tc .vmem S128x2816 .f32) (harg7 : arg7.IsWhole) (arg8 : Memref sig .tc .vmem S128x2816 .f32) (harg8 : arg8.IsWhole) (arg9 : Memref sig .tc .vmem S1024x1024 .f32) (harg9 : arg9.IsWhole) (arg10 : Memref sig .tc .vmem S128x2816 .f32) (harg10 : arg10.IsWhole) (arg11 : Memref sig .tc .vmem S128x2816 .f32) (harg11 : arg11.IsWhole) (arg12 : Memref sig .tc .vmem S128x2816 .f32) (harg12 : arg12.IsWhole) (arg13 : Memref sig .tc .vmem S128x2816 .f32) (harg13 : arg13.IsWhole) (arg14 : Memref sig .tc .vmem S1024x1024 .f32) (harg14 : arg14.IsWhole)

variable (x2 x3 x4 x5 : Vec Ideal S128x2816 .f32)

theorem trip7 (k : Fin k0_t1_loop.trips) : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) k).1, ∀ x, p.2 x = (fun i => x5 i : S128x2816.Idx → EReal) (p.1.emb x) := by
  unfold tripL_k0_t1 trip_k0_t1
  dsimp only
  sl_unfold_words
  intro p hp
  obtain rfl := List.mem_singleton.mp hp
  intro x
  simp only [View.readAt_eq_ld, harg5.read_unread, harg6.read_unread, harg7.read_unread, harg8.read_unread]
  rfl

theorem pieces7 (n : ℕ) (hn : n ≤ k0_t1_loop.trips) : ∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) n).1, ∀ x, p.2 x = (fun i => x5 i : S128x2816.Idx → EReal) (p.1.emb x) := by
  induction n with
  | zero => exact fun p hp => absurd hp List.not_mem_nil
  | succ n ih =>
    rw [pb_k0_t1_succ 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) ⟨n, hn⟩]
    intro p hp
    rcases List.mem_append.mp hp with h | h
    · exact trip7 𝒱 c bd i arg3 harg3 arg4 harg4 arg5 harg5 arg6 harg6 arg7 harg7 arg8 harg8 arg9 harg9 arg10 harg10 arg11 harg11 arg12 harg12 arg13 harg13 arg14 harg14 x2 x3 x4 x5 ⟨n, hn⟩ p h
    · exact ih (Nat.le_of_succ_le hn) p h

theorem trip8 (k : Fin k0_t1_loop.trips) : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) k).2.1, ∀ x, p.2 x = (fun i => delta (x2 i) (x3 i) (x4 i) (x5 i) : S128x2816.Idx → EReal) (p.1.emb x) := by
  unfold tripL_k0_t1 trip_k0_t1
  dsimp only
  sl_unfold_words
  intro p hp
  obtain rfl := List.mem_singleton.mp hp
  intro x
  simp only [View.readAt_eq_ld, harg5.read_unread, harg6.read_unread, harg7.read_unread, harg8.read_unread]
  exact pay_d _ _ _ _ x

theorem pieces8 (n : ℕ) (hn : n ≤ k0_t1_loop.trips) : ∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) n).2.1, ∀ x, p.2 x = (fun i => delta (x2 i) (x3 i) (x4 i) (x5 i) : S128x2816.Idx → EReal) (p.1.emb x) := by
  induction n with
  | zero => exact fun p hp => absurd hp List.not_mem_nil
  | succ n ih =>
    rw [pb_k0_t1_succ 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) ⟨n, hn⟩]
    intro p hp
    rcases List.mem_append.mp hp with h | h
    · exact trip8 𝒱 c bd i arg3 harg3 arg4 harg4 arg5 harg5 arg6 harg6 arg7 harg7 arg8 harg8 arg9 harg9 arg10 harg10 arg11 harg11 arg12 harg12 arg13 harg13 arg14 harg14 x2 x3 x4 x5 ⟨n, hn⟩ p h
    · exact ih (Nat.le_of_succ_le hn) p h

theorem trip9 (k : Fin k0_t1_loop.trips) : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) k).2.2.1, ∀ x, p.2 x = (fun i => newM (x3 i) (x5 i) : S128x2816.Idx → EReal) (p.1.emb x) := by
  unfold tripL_k0_t1 trip_k0_t1
  dsimp only
  sl_unfold_words
  intro p hp
  obtain rfl := List.mem_singleton.mp hp
  intro x
  simp only [View.readAt_eq_ld, harg5.read_unread, harg6.read_unread, harg7.read_unread, harg8.read_unread]
  exact pay_m _ _ x

theorem pieces9 (n : ℕ) (hn : n ≤ k0_t1_loop.trips) : ∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) n).2.2.1, ∀ x, p.2 x = (fun i => newM (x3 i) (x5 i) : S128x2816.Idx → EReal) (p.1.emb x) := by
  induction n with
  | zero => exact fun p hp => absurd hp List.not_mem_nil
  | succ n ih =>
    rw [pb_k0_t1_succ 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) ⟨n, hn⟩]
    intro p hp
    rcases List.mem_append.mp hp with h | h
    · exact trip9 𝒱 c bd i arg3 harg3 arg4 harg4 arg5 harg5 arg6 harg6 arg7 harg7 arg8 harg8 arg9 harg9 arg10 harg10 arg11 harg11 arg12 harg12 arg13 harg13 arg14 harg14 x2 x3 x4 x5 ⟨n, hn⟩ p h
    · exact ih (Nat.le_of_succ_le hn) p h

theorem trip10 (k : Fin k0_t1_loop.trips) : ∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) k).2.2.2, ∀ x, p.2 x = (fun i => newV (x4 i) (x5 i) : S128x2816.Idx → EReal) (p.1.emb x) := by
  unfold tripL_k0_t1 trip_k0_t1
  dsimp only
  sl_unfold_words
  intro p hp
  obtain rfl := List.mem_singleton.mp hp
  intro x
  simp only [View.readAt_eq_ld, harg5.read_unread, harg6.read_unread, harg7.read_unread, harg8.read_unread]
  exact pay_v _ _ x

theorem pieces10 (n : ℕ) (hn : n ≤ k0_t1_loop.trips) : ∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) n).2.2.2, ∀ x, p.2 x = (fun i => newV (x4 i) (x5 i) : S128x2816.Idx → EReal) (p.1.emb x) := by
  induction n with
  | zero => exact fun p hp => absurd hp List.not_mem_nil
  | succ n ih =>
    rw [pb_k0_t1_succ 𝒱 c bd i arg3 harg3 arg4 harg4 arg5 harg5 arg6 harg6 arg7 harg7 arg8 harg8 arg9 harg9 arg10 harg10 arg11 harg11 arg12 harg12 arg13 harg13 arg14 harg14 (harg5.unread x2) (harg6.unread x3) (harg7.unread x4) (harg8.unread x5) ⟨n, hn⟩]
    intro p hp
    rcases List.mem_append.mp hp with h | h
    · exact trip10 𝒱 c bd i arg3 harg3 arg4 harg4 arg5 harg5 arg6 harg6 arg7 harg7 arg8 harg8 arg9 harg9 arg10 harg10 arg11 harg11 arg12 harg12 arg13 harg13 arg14 harg14 x2 x3 x4 x5 ⟨n, hn⟩ p h
    · exact ih (Nat.le_of_succ_le hn) p h

theorem outA7 (hc0 : cond0_0 i) (hc1 : ¬cond0_1 i) (hc2 : ¬cond0_2 i) (x0 : Vec Ideal S1024x2560 .bf16) (x1 : Vec Ideal S1x1024x2560 .bf16) : out0_A_7 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 = (fun i => x5 i : S128x2816.Idx → EReal) := by
  funext y
  unfold out0_A_7
  rw [View.read_writes_junk_eq_canon]
  refine View.canon_apply_of_pieces (fun i => x5 i : S128x2816.Idx → EReal) _ ?_ y (cover0_A_7 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 y)
  unfold kernelRun0_A
  dsimp only
  exact pieces7 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outB7 (hc0 : ¬cond0_0 i) (hc1 : cond0_1 i) (hc2 : ¬cond0_2 i) (x0 : Vec Ideal S1024x2560 .bf16) (x1 : Vec Ideal S1x1024x2560 .bf16) (xs : Vec Ideal S1024x1024 .f32) : out0_B_7 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => x5 i : S128x2816.Idx → EReal) := by
  funext y
  unfold out0_B_7
  rw [View.read_writes_junk_eq_canon]
  refine View.canon_apply_of_pieces (fun i => x5 i : S128x2816.Idx → EReal) _ ?_ y (cover0_B_7 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_B
  dsimp only
  exact pieces7 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outC7 (hc0 : ¬cond0_0 i) (hc1 : ¬cond0_1 i) (hc2 : cond0_2 i) (x0 : Vec Ideal S1024x2560 .bf16) (x1 : Vec Ideal S1x1024x2560 .bf16) (xs : Vec Ideal S1024x1024 .f32) : out0_C_7 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => x5 i : S128x2816.Idx → EReal) := by
  funext y
  unfold out0_C_7
  rw [View.read_writes_junk_eq_canon]
  refine View.canon_apply_of_pieces (fun i => x5 i : S128x2816.Idx → EReal) _ ?_ y (cover0_C_7 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_C
  dsimp only
  exact pieces7 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outA8 (hc0 : cond0_0 i) (hc1 : ¬cond0_1 i) (hc2 : ¬cond0_2 i) (x0 : Vec Ideal S1024x2560 .bf16) (x1 : Vec Ideal S1x1024x2560 .bf16) : out0_A_8 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 = (fun i => delta (x2 i) (x3 i) (x4 i) (x5 i) : S128x2816.Idx → EReal) := by
  funext y
  unfold out0_A_8
  rw [View.read_writes_junk_eq_canon]
  refine View.canon_apply_of_pieces (fun i => delta (x2 i) (x3 i) (x4 i) (x5 i) : S128x2816.Idx → EReal) _ ?_ y (cover0_A_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 y)
  unfold kernelRun0_A
  dsimp only
  exact pieces8 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outB8 (hc0 : ¬cond0_0 i) (hc1 : cond0_1 i) (hc2 : ¬cond0_2 i) (x0 : Vec Ideal S1024x2560 .bf16) (x1 : Vec Ideal S1x1024x2560 .bf16) (xs : Vec Ideal S1024x1024 .f32) : out0_B_8 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => delta (x2 i) (x3 i) (x4 i) (x5 i) : S128x2816.Idx → EReal) := by
  funext y
  unfold out0_B_8
  rw [View.read_writes_junk_eq_canon]
  refine View.canon_apply_of_pieces (fun i => delta (x2 i) (x3 i) (x4 i) (x5 i) : S128x2816.Idx → EReal) _ ?_ y (cover0_B_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_B
  dsimp only
  exact pieces8 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outC8 (hc0 : ¬cond0_0 i) (hc1 : ¬cond0_1 i) (hc2 : cond0_2 i) (x0 : Vec Ideal S1024x2560 .bf16) (x1 : Vec Ideal S1x1024x2560 .bf16) (xs : Vec Ideal S1024x1024 .f32) : out0_C_8 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => delta (x2 i) (x3 i) (x4 i) (x5 i) : S128x2816.Idx → EReal) := by
  funext y
  unfold out0_C_8
  rw [View.read_writes_junk_eq_canon]
  refine View.canon_apply_of_pieces (fun i => delta (x2 i) (x3 i) (x4 i) (x5 i) : S128x2816.Idx → EReal) _ ?_ y (cover0_C_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_C
  dsimp only
  exact pieces8 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outA9 (hc0 : cond0_0 i) (hc1 : ¬cond0_1 i) (hc2 : ¬cond0_2 i) (x0 : Vec Ideal S1024x2560 .bf16) (x1 : Vec Ideal S1x1024x2560 .bf16) : out0_A_9 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 = (fun i => newM (x3 i) (x5 i) : S128x2816.Idx → EReal) := by
  funext y
  unfold out0_A_9
  rw [View.read_writes_junk_eq_canon]
  refine View.canon_apply_of_pieces (fun i => newM (x3 i) (x5 i) : S128x2816.Idx → EReal) _ ?_ y (cover0_A_9 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 y)
  unfold kernelRun0_A
  dsimp only
  exact pieces9 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outB9 (hc0 : ¬cond0_0 i) (hc1 : cond0_1 i) (hc2 : ¬cond0_2 i) (x0 : Vec Ideal S1024x2560 .bf16) (x1 : Vec Ideal S1x1024x2560 .bf16) (xs : Vec Ideal S1024x1024 .f32) : out0_B_9 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => newM (x3 i) (x5 i) : S128x2816.Idx → EReal) := by
  funext y
  unfold out0_B_9
  rw [View.read_writes_junk_eq_canon]
  refine View.canon_apply_of_pieces (fun i => newM (x3 i) (x5 i) : S128x2816.Idx → EReal) _ ?_ y (cover0_B_9 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_B
  dsimp only
  exact pieces9 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outC9 (hc0 : ¬cond0_0 i) (hc1 : ¬cond0_1 i) (hc2 : cond0_2 i) (x0 : Vec Ideal S1024x2560 .bf16) (x1 : Vec Ideal S1x1024x2560 .bf16) (xs : Vec Ideal S1024x1024 .f32) : out0_C_9 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => newM (x3 i) (x5 i) : S128x2816.Idx → EReal) := by
  funext y
  unfold out0_C_9
  rw [View.read_writes_junk_eq_canon]
  refine View.canon_apply_of_pieces (fun i => newM (x3 i) (x5 i) : S128x2816.Idx → EReal) _ ?_ y (cover0_C_9 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_C
  dsimp only
  exact pieces9 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outA10 (hc0 : cond0_0 i) (hc1 : ¬cond0_1 i) (hc2 : ¬cond0_2 i) (x0 : Vec Ideal S1024x2560 .bf16) (x1 : Vec Ideal S1x1024x2560 .bf16) : out0_A_10 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 = (fun i => newV (x4 i) (x5 i) : S128x2816.Idx → EReal) := by
  funext y
  unfold out0_A_10
  rw [View.read_writes_junk_eq_canon]
  refine View.canon_apply_of_pieces (fun i => newV (x4 i) (x5 i) : S128x2816.Idx → EReal) _ ?_ y (cover0_A_10 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 y)
  unfold kernelRun0_A
  dsimp only
  exact pieces10 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outB10 (hc0 : ¬cond0_0 i) (hc1 : cond0_1 i) (hc2 : ¬cond0_2 i) (x0 : Vec Ideal S1024x2560 .bf16) (x1 : Vec Ideal S1x1024x2560 .bf16) (xs : Vec Ideal S1024x1024 .f32) : out0_B_10 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => newV (x4 i) (x5 i) : S128x2816.Idx → EReal) := by
  funext y
  unfold out0_B_10
  rw [View.read_writes_junk_eq_canon]
  refine View.canon_apply_of_pieces (fun i => newV (x4 i) (x5 i) : S128x2816.Idx → EReal) _ ?_ y (cover0_B_10 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_B
  dsimp only
  exact pieces10 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

theorem outC10 (hc0 : ¬cond0_0 i) (hc1 : ¬cond0_1 i) (hc2 : cond0_2 i) (x0 : Vec Ideal S1024x2560 .bf16) (x1 : Vec Ideal S1x1024x2560 .bf16) (xs : Vec Ideal S1024x1024 .f32) : out0_C_10 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs = (fun i => newV (x4 i) (x5 i) : S128x2816.Idx → EReal) := by
  funext y
  unfold out0_C_10
  rw [View.read_writes_junk_eq_canon]
  refine View.canon_apply_of_pieces (fun i => newV (x4 i) (x5 i) : S128x2816.Idx → EReal) _ ?_ y (cover0_C_10 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs y)
  unfold kernelRun0_C
  dsimp only
  exact pieces10 Variants.none c none i arg3 harg3 arg4 harg4 arg5 harg5 arg6 harg6 arg7 harg7 arg8 harg8 arg9 harg9 arg10 harg10 arg11 harg11 arg12 harg12 arg13 harg13 arg14 harg14 x2 x3 x4 x5 _ le_rfl

end

end Cert.Dh1Ideal.Rider

end
-- ==== Proof.Dh1Mat.lean ====
/- The gradient with respect to the input of w_in's product, summed over four blocks of its inner axis, and the update of w_ffn_in that rides along. -/
module

public import Idealize.ShloMosaic.Lib.Pointwise
public import Idealize.ShloMosaic.Lib.Pipeline.ValueKit
public import Idealize.ShloMosaic.Lib.Claim
public import proofs.«01_k».proof.Defs
public import proofs.«01_k».proof.Proof.Dh1Loop
public import proofs.«01_k».proof.Proof.Gen.Dh1.Frame
public import proofs.«01_k».proof.Proof.Gen.Dh1Ideal.Value
public import proofs.«01_k».proof.Proof.Gen.Dh1RefIdeal.Run
public import proofs.«01_k».proof.Proof.Gen.Dh1RefIdeal.Read
public import Idealize.ShloMosaic.Adequacy
public import Idealize.ShloMosaic.Init

@[expose] public section

set_option maxRecDepth 16384

noncomputable section

namespace Cert.Dh1Ideal.Mat

open Idealize.ShloMosaic Idealize.ShloMosaic.TcCoe Idealize.SL Idealize.SL.Sem Cert.Dh1Ideal.Gen Cert.AdamStep

theorem z2 : (![0, 0] : Fin 2 → Nat) = fun _ => 0 := funext fun a => by fin_cases a <;> rfl

theorem z3 : (![0, 0, 0] : Fin 3 → Nat) = fun _ => 0 := funext fun a => by fin_cases a <;> rfl

/-- A block's product as a function of its operands. -/
def prod (x : Vec Ideal S1024x2560 .bf16) (y : Vec Ideal S1x1024x2560 .bf16) (p q : Fin 1024) : EReal :=
  ∑ k : Fin 2560, x (ix2 p k) * y (ix3 0 q k)

theorem pay1 (x : Vec Ideal S1024x2560 .bf16) (y : Vec Ideal S1x1024x2560 .bf16) (p q : Fin 1024) : k0_pay1 x y (ix2 p q) = prod x y p q := by
  pointwise [k0_pay1]
  rfl

theorem pay2 (x : Vec Ideal S1024x2560 .bf16) (y : Vec Ideal S1x1024x2560 .bf16) (p q : Fin 1024) : k0_pay2 x y (ix2 p q) = prod x y p q := by
  unfold k0_pay2
  rw [shapeCast_self]
  exact pay1 x y p q

theorem pay4 (x : Vec Ideal S1024x2560 .bf16) (y : Vec Ideal S1x1024x2560 .bf16) (a : Vec Ideal S1024x1024 .f32) (p q : Fin 1024) :
    k0_pay4 x y a (ix2 p q) = (fun a b : EReal => a + b) (a (ix2 p q)) (prod x y p q) := by
  unfold k0_pay4
  exact congrArg (fun b : EReal => (a (ix2 p q) : EReal) + b) (pay1 x y p q)

theorem pay3 (x : Vec Ideal S1024x2560 .bf16) (y : Vec Ideal S1x1024x2560 .bf16) (a : Vec Ideal S1024x1024 .f32) (p q : Fin 1024) :
    k0_pay3 x y a (ix2 p q) = (fun a b : EReal => a + b) (a (ix2 p q)) (prod x y p q) := by
  unfold k0_pay3
  rw [shapeCast_self]
  exact congrArg (fun b : EReal => (a (ix2 p q) : EReal) + b) (pay1 x y p q)

/-- What the first point of a sum leaves in the running sum. -/
theorem outA (c : Dev nD) (i : grid0.Coords) (a3) (h3) (a4) (h4) (a5) (h5) (a6) (h6) (a7) (h7) (a8) (h8) (a9) (h9) (a10) (h10) (a11) (h11) (a12) (h12) (a13) (h13) (a14) (h14) (hc0 hc1 hc2) (x0 : Vec Ideal S1024x2560 .bf16) (x1 : Vec Ideal S1x1024x2560 .bf16) (x2 x3 x4 x5 : Vec Ideal S128x2816 .f32) :
    sout0_A_0 c i a3 h3 a4 h4 a5 h5 a6 h6 a7 h7 a8 h8 a9 h9 a10 h10 a11 h11 a12 h12 a13 h13 a14 h14 hc0 hc1 hc2 x0 x1 x2 x3 x4 x5 = k0_pay2 x0 x1 := by
  unfold sout0_A_0
  rw [View.read_writes_junk_eq_canon]
  unfold kernelRun0_A
  dsimp only
  sl_unfold_words
  rw [View.canon_unit_zero (S := S1024x1024) z2]
  simp only [View.readAt_eq_ld, h3.read_unread, h4.read_unread, View.ld_unit_zero (S := S1024x2560) z2, View.ld_unit_zero (S := S1x1024x2560) z3, View.ld_unit_zero (S := S1024x1024) z2]

/-- What a middle point leaves in the running sum. -/
theorem outB (c : Dev nD) (i : grid0.Coords) (a3) (h3) (a4) (h4) (a5) (h5) (a6) (h6) (a7) (h7) (a8) (h8) (a9) (h9) (a10) (h10) (a11) (h11) (a12) (h12) (a13) (h13) (a14) (h14) (hc0 hc1 hc2) (x0 : Vec Ideal S1024x2560 .bf16) (x1 : Vec Ideal S1x1024x2560 .bf16) (x2 x3 x4 x5 : Vec Ideal S128x2816 .f32) (s : Vec Ideal S1024x1024 .f32) :
    sout0_B_0 c i a3 h3 a4 h4 a5 h5 a6 h6 a7 h7 a8 h8 a9 h9 a10 h10 a11 h11 a12 h12 a13 h13 a14 h14 hc0 hc1 hc2 x0 x1 x2 x3 x4 x5 s = k0_pay3 x0 x1 s := by
  unfold sout0_B_0
  rw [View.read_writes_junk_eq_canon]
  unfold kernelRun0_B
  dsimp only
  sl_unfold_words
  rw [View.canon_unit_zero (S := S1024x1024) z2]
  simp only [View.readAt_eq_ld, h3.read_unread, h4.read_unread, h14.read_unread, View.ld_unit_zero (S := S1024x2560) z2, View.ld_unit_zero (S := S1x1024x2560) z3, View.ld_unit_zero (S := S1024x1024) z2]

/-- What the last point of a sum writes. -/
theorem outC (c : Dev nD) (i : grid0.Coords) (a3) (h3) (a4) (h4) (a5) (h5) (a6) (h6) (a7) (h7) (a8) (h8) (a9) (h9) (a10) (h10) (a11) (h11) (a12) (h12) (a13) (h13) (a14) (h14) (hc0 hc1 hc2) (x0 : Vec Ideal S1024x2560 .bf16) (x1 : Vec Ideal S1x1024x2560 .bf16) (x2 x3 x4 x5 : Vec Ideal S128x2816 .f32) (s : Vec Ideal S1024x1024 .f32) :
    out0_C_6 c i a3 h3 a4 h4 a5 h5 a6 h6 a7 h7 a8 h8 a9 h9 a10 h10 a11 h11 a12 h12 a13 h13 a14 h14 hc0 hc1 hc2 x0 x1 x2 x3 x4 x5 s = k0_pay4 x0 x1 s := by
  unfold out0_C_6
  rw [View.read_writes_junk_eq_canon]
  unfold kernelRun0_C
  dsimp only
  sl_unfold_words
  rw [View.canon_unit_zero (S := S1024x1024) z2]
  simp only [View.readAt_eq_ld, h3.read_unread, h4.read_unread, h14.read_unread, View.ld_unit_zero (S := S1024x2560) z2, View.ld_unit_zero (S := S1x1024x2560) z3, View.ld_unit_zero (S := S1024x1024) z2]

theorem lt16 (t : Fin cfg0.N) : t.val < 16 := lt_of_lt_of_eq t.isLt (show cfg0.N = 16 from N_0)

theorem idx : ∀ t : Fin cfg0.N, win0_0.index t = ![t.val / 8, t.val % 4] ∧ win0_1.index t = ![t.val % 4, t.val / 4 % 2, 0]
    ∧ win0_2.index t = ![t.val, 0] ∧ win0_3.index t = ![t.val, 0] ∧ win0_4.index t = ![t.val, 0] ∧ win0_5.index t = ![t.val, 0]
    ∧ win0_6.index t = ![t.val / 8, t.val / 4 % 2]
    ∧ win0_7.index t = ![t.val, 0] ∧ win0_8.index t = ![t.val, 0] ∧ win0_9.index t = ![t.val, 0] ∧ win0_10.index t = ![t.val, 0] := by
  decide +kernel

theorem last : ∀ t : Fin cfg0.N, (cfg0.win 6).flush t = true → t.val % 4 = 3 := by
  decide +kernel

/-- Row `p` of a point's block of the product. -/
def row (t : Fin cfg0.N) (p : Fin 1024) : Fin 2048 := ⟨1024 * (t.val / 8) + p.val, by have := lt16 t; omega⟩

/-- Column `q` of a point's block of the product. -/
def col (t : Fin cfg0.N) (q : Fin 1024) : Fin 2048 := ⟨1024 * (t.val / 4 % 2) + q.val, by omega⟩

/-- Row `p` of a point's block of the update. -/
def urow (t : Fin cfg0.N) (p : Fin 128) : Fin 2048 := ⟨128 * t.val + p.val, by have := lt16 t; omega⟩

/-- Entry `k` of quarter `h` of the inner axis. -/
def inner (h : ℕ) (hh : h < 4) (k : Fin 2560) : Fin 10240 := ⟨2560 * h + k.val, by omega⟩

/-- The product. -/
def G (a w : Vec Ideal S2048x10240 .bf16) (i : S2048x2048.Idx) : EReal :=
  ∑ k : Fin 10240, a (ix2 (i 0) k) * w (ix2 (i 1) k)

/-- A sum over the inner axis is the sum of its four quarters' sums. -/
theorem sum_quarters (f : Fin 10240 → EReal) : ∑ k : Fin 10240, f k =
    (((∑ k : Fin 2560, f (inner 0 (by omega) k)) + ∑ k : Fin 2560, f (inner 1 (by omega) k)) + ∑ k : Fin 2560, f (inner 2 (by omega) k)) + ∑ k : Fin 2560, f (inner 3 (by omega) k) := by
  refine (Fin.sum_univ_add (a := 7680) (b := 2560) f).trans (congrArg₂ (· + ·) ?_ (Finset.sum_congr rfl fun k _ => congrArg f (Fin.ext ?_)))
  · refine (Fin.sum_univ_add (a := 5120) (b := 2560) _).trans (congrArg₂ (· + ·) ?_ (Finset.sum_congr rfl fun k _ => congrArg f (Fin.ext ?_)))
    · refine (Fin.sum_univ_add (a := 2560) (b := 2560) _).trans
        (congrArg₂ (· + ·) (Finset.sum_congr rfl fun k _ => congrArg f (Fin.ext ?_)) (Finset.sum_congr rfl fun k _ => congrArg f (Fin.ext ?_)))
      · show k.val = 2560 * 0 + k.val
        omega
      · show 2560 + k.val = 2560 * 1 + k.val
        omega
    · show 5120 + k.val = 2560 * 2 + k.val
      omega
  · show 7680 + k.val = 2560 * 3 + k.val
    omega

section

variable {m : (ℓ : Loc nD τ sig) → Buf (Elt Ideal) ℓ} {c : Dev nD}

theorem blk0 (t : Fin cfg0.N) (p : Fin 1024) (k : Fin 2560) :
    iblk m c 0 t (ix2 p k) = m ((c : Thread nD τ).loc main_arg0) (ix2 (row t p) (inner (t.val % 4) (by omega) k)) := by
  have e : (win0_0.blk t).view.emb (ix2 p k) = ix2 (row t p) (inner (t.val % 4) (by omega) k) := by blk_ext [idx t, row, inner]
  blk_simp [iblk]
  rw [e]
  unfold V
  simp only [hostOps0, List.flatten_cons, List.flatten_nil, List.append_nil, List.cons_append, List.nil_append]
  entry_read
  rfl

theorem blk1 (t : Fin cfg0.N) (z : Fin 1) (q : Fin 1024) (k : Fin 2560) :
    iblk m c 1 t (ix3 z q k) = m ((c : Thread nD τ).loc main_arg1) (ix2 (col t q) (inner (t.val % 4) (by omega) k)) := by
  have e : (win0_1.blk t).view.emb (ix3 z q k) = ix3 (⟨t.val % 4, by omega⟩ : Fin 4) (col t q) k := by blk_ext [idx t, col]
  blk_simp [iblk]
  rw [e]
  unfold V
  simp only [hostOps0, List.flatten_cons, List.flatten_nil, List.append_nil, List.cons_append, List.nil_append]
  entry_read
  pointwise
  exact congrArg (fun j => m ((c : Thread nD τ).loc main_arg1) (ix2 (col t q) j)) (Fin.ext (by show t.val % 4 * 2560 + k.val = 2560 * (t.val % 4) + k.val; omega))

theorem blk2 (t : Fin cfg0.N) (p : Fin 128) (q : Fin 2816) : iblk m c 2 t (ix2 p q) = m ((c : Thread nD τ).loc main_arg2) (ix2 (urow t p) q) := by
  have e : (win0_2.blk t).view.emb (ix2 p q) = ix2 (urow t p) q := by blk_ext [idx t, urow]
  blk_simp [iblk]
  rw [e]
  unfold V
  simp only [hostOps0, List.flatten_cons, List.flatten_nil, List.append_nil, List.cons_append, List.nil_append]
  entry_read
  rfl

theorem blk3 (t : Fin cfg0.N) (p : Fin 128) (q : Fin 2816) : iblk m c 3 t (ix2 p q) = m ((c : Thread nD τ).loc main_arg3) (ix2 (urow t p) q) := by
  have e : (win0_3.blk t).view.emb (ix2 p q) = ix2 (urow t p) q := by blk_ext [idx t, urow]
  blk_simp [iblk]
  rw [e]
  unfold V
  simp only [hostOps0, List.flatten_cons, List.flatten_nil, List.append_nil, List.cons_append, List.nil_append]
  entry_read
  rfl

theorem blk4 (t : Fin cfg0.N) (p : Fin 128) (q : Fin 2816) : iblk m c 4 t (ix2 p q) = m ((c : Thread nD τ).loc main_arg4) (ix2 (urow t p) q) := by
  have e : (win0_4.blk t).view.emb (ix2 p q) = ix2 (urow t p) q := by blk_ext [idx t, urow]
  blk_simp [iblk]
  rw [e]
  unfold V
  simp only [hostOps0, List.flatten_cons, List.flatten_nil, List.append_nil, List.cons_append, List.nil_append]
  entry_read
  rfl

theorem blk5 (t : Fin cfg0.N) (p : Fin 128) (q : Fin 2816) : iblk m c 5 t (ix2 p q) = m ((c : Thread nD τ).loc main_arg5) (ix2 (urow t p) q) := by
  have e : (win0_5.blk t).view.emb (ix2 p q) = ix2 (urow t p) q := by blk_ext [idx t, urow]
  blk_simp [iblk]
  rw [e]
  unfold V
  simp only [hostOps0, List.flatten_cons, List.flatten_nil, List.append_nil, List.cons_append, List.nil_append]
  entry_read
  rfl

/-- The block of w_ffn_in's gradient at a point. -/
theorem rode7 (t : Fin cfg0.N) : (outsAt0 m c t.val t.isLt).2.1 = (fun i => iblk m c 5 t i : S128x2816.Idx → EReal) := by
  by_cases h0 : t.val % 4 = 0
  · rw [outsAt0_A m c t h0 (by omega) (by omega)]
    exact Cert.Dh1Ideal.Rider.outA7 ..
  · by_cases h2 : t.val % 4 = 3
    · rw [outsAt0_C m c t h0 (by omega) h2]
      exact Cert.Dh1Ideal.Rider.outC7 ..
    · rw [outsAt0_B m c t h0 (by omega) h2]
      exact Cert.Dh1Ideal.Rider.outB7 ..

/-- The block of w_ffn_in's change at a point. -/
theorem rode8 (t : Fin cfg0.N) : (outsAt0 m c t.val t.isLt).2.2.1 = (fun i => delta (iblk m c 2 t i) (iblk m c 3 t i) (iblk m c 4 t i) (iblk m c 5 t i) : S128x2816.Idx → EReal) := by
  by_cases h0 : t.val % 4 = 0
  · rw [outsAt0_A m c t h0 (by omega) (by omega)]
    exact Cert.Dh1Ideal.Rider.outA8 ..
  · by_cases h2 : t.val % 4 = 3
    · rw [outsAt0_C m c t h0 (by omega) h2]
      exact Cert.Dh1Ideal.Rider.outC8 ..
    · rw [outsAt0_B m c t h0 (by omega) h2]
      exact Cert.Dh1Ideal.Rider.outB8 ..

/-- The block of w_ffn_in's first moment at a point. -/
theorem rode9 (t : Fin cfg0.N) : (outsAt0 m c t.val t.isLt).2.2.2.1 = (fun i => newM (iblk m c 3 t i) (iblk m c 5 t i) : S128x2816.Idx → EReal) := by
  by_cases h0 : t.val % 4 = 0
  · rw [outsAt0_A m c t h0 (by omega) (by omega)]
    exact Cert.Dh1Ideal.Rider.outA9 ..
  · by_cases h2 : t.val % 4 = 3
    · rw [outsAt0_C m c t h0 (by omega) h2]
      exact Cert.Dh1Ideal.Rider.outC9 ..
    · rw [outsAt0_B m c t h0 (by omega) h2]
      exact Cert.Dh1Ideal.Rider.outB9 ..

/-- The block of w_ffn_in's second moment at a point. -/
theorem rode10 (t : Fin cfg0.N) : (outsAt0 m c t.val t.isLt).2.2.2.2.1 = (fun i => newV (iblk m c 4 t i) (iblk m c 5 t i) : S128x2816.Idx → EReal) := by
  by_cases h0 : t.val % 4 = 0
  · rw [outsAt0_A m c t h0 (by omega) (by omega)]
    exact Cert.Dh1Ideal.Rider.outA10 ..
  · by_cases h2 : t.val % 4 = 3
    · rw [outsAt0_C m c t h0 (by omega) h2]
      exact Cert.Dh1Ideal.Rider.outC10 ..
    · rw [outsAt0_B m c t h0 (by omega) h2]
      exact Cert.Dh1Ideal.Rider.outB10 ..

/-- w_ffn_in's gradient. -/
theorem arr7 : (dats m 0 c).arrAt 7 cfg0.N = fun i => m ((c : Thread nD τ).loc main_arg5) i := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (urow t p) q := by blk_ext [idx t, urow]
  blk_simp
  rw [after0_7, rode7, e]
  beta_reduce
  rw [blk5]

/-- w_ffn_in's change. -/
theorem arr8 : (dats m 0 c).arrAt 8 cfg0.N = fun i => delta (m ((c : Thread nD τ).loc main_arg2) i) (m ((c : Thread nD τ).loc main_arg3) i) (m ((c : Thread nD τ).loc main_arg4) i) (m ((c : Thread nD τ).loc main_arg5) i) := by
  refine (dats m 0 c).arrAt_eq_of_covers 8 _ (by decide +kernel) fun t hf y => ?_
  obtain ⟨p, q, rfl⟩ : ∃ p q, y = ix2 p q := ⟨_, _, eq_ix2 y⟩
  have e : (win0_8.blk t).view.emb (ix2 p q) = ix2 (urow t p) q := by blk_ext [idx t, urow]
  blk_simp
  rw [after0_8, rode8, e]
  beta_reduce
  rw [blk2, blk3, blk4, blk5]

/-- w_ffn_in's new first moment. -/
theorem arr9 : (dats m 0 c).arrAt 9 cfg0.N = fun i => newM (m ((c : Thread nD τ).loc main_arg3) i) (m ((c : Thread nD τ).loc main_arg5) i) := by
  refine (dats m 0 c).arrAt_eq_of_covers 9 _ (by decide +kernel) fun t hf y => ?_
  obtain ⟨p, q, rfl⟩ : ∃ p q, y = ix2 p q := ⟨_, _, eq_ix2 y⟩
  have e : (win0_9.blk t).view.emb (ix2 p q) = ix2 (urow t p) q := by blk_ext [idx t, urow]
  blk_simp
  rw [after0_9, rode9, e]
  beta_reduce
  rw [blk3, blk5]

/-- w_ffn_in's new second moment. -/
theorem arr10 : (dats m 0 c).arrAt 10 cfg0.N = fun i => newV (m ((c : Thread nD τ).loc main_arg4) i) (m ((c : Thread nD τ).loc main_arg5) i) := by
  refine (dats m 0 c).arrAt_eq_of_covers 10 _ (by decide +kernel) fun t hf y => ?_
  obtain ⟨p, q, rfl⟩ : ∃ p q, y = ix2 p q := ⟨_, _, eq_ix2 y⟩
  have e : (win0_10.blk t).view.emb (ix2 p q) = ix2 (urow t p) q := by blk_ext [idx t, urow]
  blk_simp
  rw [after0_10, rode10, e]
  beta_reduce
  rw [blk4, blk5]

/-- Quarter `h`'s part of the product. -/
def part (a w : Vec Ideal S2048x10240 .bf16) (h : ℕ) (hh : h < 4) (p q : Fin 2048) : EReal :=
  ∑ k : Fin 2560, a (ix2 p (inner h hh k)) * w (ix2 q (inner h hh k))

theorem part_congr (a w : Vec Ideal S2048x10240 .bf16) {h h' : ℕ} {hh : h < 4} {hh' : h' < 4} {p p' q q' : Fin 2048} (e : h = h') (ep : p = p') (eq : q = q') :
    part a w h hh p q = part a w h' hh' p' q' := by
  subst e ep eq
  rfl

/-- A quarter's part of the kernel's own arguments. -/
def ownPart (m : (ℓ : Loc nD τ sig) → Buf (Elt Ideal) ℓ) (c : Dev nD) (h : ℕ) (hh : h < 4) (p q : Fin 2048) : EReal :=
  part (m ((c : Thread nD τ).loc main_arg0)) (m ((c : Thread nD τ).loc main_arg1)) h hh p q

theorem point (t : Fin cfg0.N) (p q : Fin 1024) :
    prod (iblk m c 0 t) (iblk m c 1 t) p q = ownPart m c (t.val % 4) (by omega) (row t p) (col t q) := by
  unfold prod ownPart part
  exact Finset.sum_congr rfl fun k _ => congrArg₂ (fun a b : EReal => a * b) (blk0 t p k) (blk1 t 0 q k)

theorem point_at (t : Fin cfg0.N) {h : ℕ} (hh : h < 4) (e : t.val % 4 = h) (p q : Fin 1024) :
    prod (iblk m c 0 t) (iblk m c 1 t) p q = ownPart m c h hh (row t p) (col t q) :=
  (point t p q).trans (part_congr _ _ e rfl rfl)

theorem lt_pred (t : Fin cfg0.N) : t.val - 1 < cfg0.N := Nat.lt_of_le_of_lt (Nat.sub_le _ _) t.isLt

/-- The point before. -/
def pred (t : Fin cfg0.N) : Fin cfg0.N := ⟨t.val - 1, lt_pred t⟩

theorem row_pred (t : Fin cfg0.N) (h : t.val % 4 ≠ 0) (p : Fin 1024) : row (pred t) p = row t p :=
  Fin.ext (by show 1024 * ((t.val - 1) / 8) + p.val = 1024 * (t.val / 8) + p.val; omega)

theorem col_pred (t : Fin cfg0.N) (h : t.val % 4 ≠ 0) (q : Fin 1024) : col (pred t) q = col t q :=
  Fin.ext (by show 1024 * ((t.val - 1) / 4 % 2) + q.val = 1024 * (t.val / 4 % 2) + q.val; omega)

/-- The running sum after the first point. -/
theorem accA (t : Fin cfg0.N) (h : t.val % 4 = 0) (p q : Fin 1024) :
    (outsAt0 m c t.val t.isLt).2.2.2.2.2 (ix2 p q) = ownPart m c 0 (by omega) (row t p) (col t q) := by
  rw [outsAt0_A m c t h (by omega) (by omega)]
  dsimp only
  rw [outA, pay2]
  exact point_at t _ h p q

/-- The running sum after the second point. -/
theorem accB (t : Fin cfg0.N) (h : t.val % 4 = 1) (p q : Fin 1024) :
    (outsAt0 m c t.val t.isLt).2.2.2.2.2 (ix2 p q) = (fun a b : EReal => a + b) (ownPart m c 0 (by omega) (row t p) (col t q)) (ownPart m c 1 (by omega) (row t p) (col t q)) := by
  rw [outsAt0_B m c t (by omega) (by omega) (by omega)]
  dsimp only
  rw [outB, pay3]
  refine congrArg₂ (fun a b : EReal => a + b) ((accA (pred t) (show (t.val - 1) % 4 = 0 by omega) p q).trans ?_) (point_at t _ h p q)
  rw [row_pred t (by omega), col_pred t (by omega)]

/-- The running sum after the third point. -/
theorem accC (t : Fin cfg0.N) (h : t.val % 4 = 2) (p q : Fin 1024) :
    (outsAt0 m c t.val t.isLt).2.2.2.2.2 (ix2 p q) = (fun a b d : EReal => a + b + d) (ownPart m c 0 (by omega) (row t p) (col t q)) (ownPart m c 1 (by omega) (row t p) (col t q))
      (ownPart m c 2 (by omega) (row t p) (col t q)) := by
  rw [outsAt0_B m c t (by omega) (by omega) (by omega)]
  dsimp only
  rw [outB, pay3]
  refine congrArg₂ (fun a b : EReal => a + b) ((accB (pred t) (show (t.val - 1) % 4 = 1 by omega) p q).trans ?_) (point_at t _ h p q)
  rw [row_pred t (by omega), col_pred t (by omega)]

/-- The kernel's product. -/
theorem arr6 : (dats m 0 c).arrAt 6 cfg0.N = G (m ((c : Thread nD τ).loc main_arg0)) (m ((c : Thread nD τ).loc main_arg1)) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) (col t q) := by
    blk_ext [idx t, row, col]
  have h := last t hf
  blk_simp
  rw [after0_6, outsAt0_C m c t (by omega) (by omega) h]
  dsimp only
  rw [outC, pay4]
  refine Eq.trans ?_ (congrArg (G _ _) e).symm
  refine Eq.trans ?_ (sum_quarters _).symm
  refine congrArg₂ (fun a b : EReal => a + b) ((accC (pred t) (show (t.val - 1) % 4 = 2 by omega) p q).trans ?_) (point_at t (by omega) h p q)
  rw [row_pred t (by omega), col_pred t (by omega)]
  rfl

end

open Cert.Dh1RefIdeal.Read in
/-- The reference's product. -/
theorem ref6 (a w : Vec Ideal S2048x10240 .bf16) : val_main_v6 (F := Ideal) a w = G a w := by
  funext i
  refine (val_main_v6_apply a w _).trans ?_
  refine Finset.sum_congr rfl fun k _ => ?_
  exact congrArg₂ (fun a b : EReal => a * b) (congrArg a ((eq_ix2 _).trans (congrArg₂ ix2 (Fin.ext rfl) (Fin.ext rfl))))
    (congrArg w ((eq_ix2 _).trans (congrArg₂ ix2 (Fin.ext rfl) (Fin.ext rfl))))

section

open Cert.Dh1RefIdeal.Read

variable (x2 x3 x4 x5 : Vec Ideal S2048x2816 .f32)

theorem ref_m : val_main_v11 (F := Ideal) x3 x5 = fun i => newM (x3 i) (x5 i) := by
  funext i
  simp only [val_main_v11_apply, val_main_v10_apply, val_main_v9_apply, val_main_v8_apply, val_main_v7_apply, val_main_cst_0_apply, val_main_cst_1_apply]
  rfl

theorem ref_v : val_main_v17 (F := Ideal) x4 x5 = fun i => newV (x4 i) (x5 i) := by
  funext i
  simp only [val_main_v17_apply, val_main_v16_apply, val_main_v15_apply, val_main_v14_apply, val_main_v13_apply, val_main_v12_apply, val_main_cst_2_apply, val_main_cst_3_apply]
  rfl

theorem ref_d : val_main_v30 (F := Ideal) x2 x3 x4 x5 = fun i => delta (x2 i) (x3 i) (x4 i) (x5 i) := by
  funext i
  simp only [val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply,
    ref_m, ref_v, val_main_cst_4_apply, val_main_cst_5_apply, val_main_cst_6_apply, val_main_cst_7_apply, val_main_cst_8_apply]
  rfl

end

end Cert.Dh1Ideal.Mat

namespace Cert.Dh1Claims

open Idealize.ShloMosaic Idealize.SL.Sem

/-- The kernel's frame. -/
theorem frame_kernel : Cert.quiescent_Dh1 (hDh1 := Cert.Dh1.Gen.facts) := fun m ρ _ => Cert.Dh1.Gen.frame m ρ

/-- The idealized kernel's frame. -/
theorem frame_ideal : Cert.quiescent_Dh1Ideal (hDh1Ideal := Cert.Dh1Ideal.Gen.facts) := fun m ρ _ => Cert.Dh1Ideal.Gen.frame m ρ

/-- The reference's frame. -/
theorem frame_ref : Cert.quiescent_Dh1RefIdeal (hDh1RefIdeal := Cert.Dh1RefIdeal.Gen.facts) := fun m ρ _ =>
  (θ_run Cert.Dh1RefIdeal.defs _ _).mono
    (fun r h => ⟨fun c => (h c).2.2.2.2.2, Idealize.ShloMosaic.sem_eq_zero_of_no_sems (by decide) r.2⟩) (Cert.Dh1RefIdeal.Value.run (F := Ideal) m ρ)

/-- The idealized kernel keeps what the kernel computes. -/
theorem preserves : Cert.preserves_Dh1_Dh1Ideal :=
  ⟨IdealRules.named_const.statement Cert.Dh1Ideal.κ "m_hat" .f32 0x3FC48605#32 ((8388608 / 5463681 : ℝ) : EReal) rfl,
    IdealRules.named_const.statement Cert.Dh1Ideal.κ "v_hat" .f32 0x42C8E6D3#32 ((268435456 / 2672307 : ℝ) : EReal) rfl⟩

/-- The kernel's results are the reference's. -/
theorem algebraic : Cert.algebraic_Dh1Ideal_Dh1RefIdeal (hDh1Ideal := Cert.Dh1Ideal.Gen.facts) (hDh1RefIdeal := Cert.Dh1RefIdeal.Gen.facts) := by
  haveI := Cert.Dh1Ideal.Gen.facts
  haveI := Cert.Dh1RefIdeal.Gen.facts
  intro m ρ m' ρ' _ hagree
  refine ⟨_, _, _, _, _, Cert.Dh1Ideal.Value.run_blocks m ρ, ?_⟩
  refine (θ_run Cert.Dh1RefIdeal.defs _ _).mono (fun _ h c => ?_) (Cert.Dh1RefIdeal.Value.run (F := Ideal) m' ρ')
  obtain ⟨e0, e1, e2, e3, e4, e5⟩ := hagree c
  obtain ⟨h6, h7, h8, h9, h10, h⟩ := h c
  refine ⟨h6.trans ?_, h7.trans (e5.trans Cert.Dh1Ideal.Mat.arr7.symm), h8.trans ?_, h9.trans ?_, h10.trans ?_, h⟩
  · refine (Cert.Dh1RefIdeal.Read.val_main_v6_eq _ _).trans ((Cert.Dh1Ideal.Mat.ref6 _ _).trans ?_)
    rw [e0, e1]
    exact Cert.Dh1Ideal.Mat.arr6.symm
  · refine (Cert.Dh1RefIdeal.Read.val_main_v30_eq _ _ _ _).trans ((Cert.Dh1Ideal.Mat.ref_d _ _ _ _).trans ?_)
    rw [e2, e3, e4, e5]
    exact Cert.Dh1Ideal.Mat.arr8.symm
  · refine (Cert.Dh1RefIdeal.Read.val_main_v11_eq _ _).trans ((Cert.Dh1Ideal.Mat.ref_m _ _).trans ?_)
    rw [e3, e5]
    exact Cert.Dh1Ideal.Mat.arr9.symm
  · refine (Cert.Dh1RefIdeal.Read.val_main_v17_eq _ _).trans ((Cert.Dh1Ideal.Mat.ref_v _ _).trans ?_)
    rw [e4, e5]
    exact Cert.Dh1Ideal.Mat.arr10.symm

end Cert.Dh1Claims

end
-- ==== Proof.BbwMat.lean ====
/- The gradients of the two branch products with respect to their left factors. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Bbw.Frame
public import proofs.«01_k».proof.Proof.Gen.BbwIdeal.Value
public import proofs.«01_k».proof.Proof.Gen.BbwRefIdeal.Run
public import proofs.«01_k».proof.Proof.Gen.BbwRefIdeal.Read
public import Idealize.ShloMosaic.Adequacy
public import Idealize.ShloMosaic.Init

@[expose] public section

set_option maxRecDepth 16384

noncomputable section

namespace Cert.BbwIdeal.Mat

open Idealize.ShloMosaic Idealize.ShloMosaic.TcCoe Idealize.SL Idealize.SL.Sem Cert.BbwIdeal.Gen

theorem z2 : (![0, 0] : Fin 2 → Nat) = fun _ => 0 := funext fun a => by fin_cases a <;> rfl

theorem z3 : (![0, 0, 0] : Fin 3 → Nat) = fun _ => 0 := funext fun a => by fin_cases a <;> rfl

/-- A block's product as a function of its operands. -/
def prod (x : Vec Ideal S512x2048 .bf16) (w : Vec Ideal S1024x2048 .bf16) (p : Fin 512) (q : Fin 1024) : EReal :=
  ∑ k : Fin 2048, x (ix2 p k) * w (ix2 q k)

theorem pay1 (x : Vec Ideal S512x2048 .bf16) (w : Vec Ideal S1024x2048 .bf16) (p : Fin 512) (q : Fin 1024) :
    k0_pay1 x w (ix2 p q) = prod x w p q := by
  pointwise [k0_pay1]
  rfl

theorem out4 (a b : Vec Ideal S512x2048 .bf16) (x y : Vec Ideal S1024x2048 .bf16) (p : Fin 512) (q : Fin 1024) :
    out0_4 a b x y (ix2 p q) = prod a x p q := by
  unfold out0_4
  rw [View.canon_unit_zero (S := S512x1024) z2, View.ld_unit_zero (S := S512x2048) z2, View.ld_unit_zero (S := S1024x2048) z2]
  exact pay1 a x p q

theorem pay2 (x : Vec Ideal S512x2048 .bf16) (w : Vec Ideal S1024x2048 .bf16) (p : Fin 512) (q : Fin 1024) :
    k0_pay2 x w (ix2 p q) = prod x w p q := by
  pointwise [k0_pay2]
  rfl

theorem out5 (a b : Vec Ideal S512x2048 .bf16) (x y : Vec Ideal S1024x2048 .bf16) (p : Fin 512) (q : Fin 1024) :
    out0_5 a b x y (ix2 p q) = prod b y p q := by
  unfold out0_5
  rw [View.canon_unit_zero (S := S512x1024) z2, View.ld_unit_zero (S := S512x2048) z2, View.ld_unit_zero (S := S1024x2048) z2]
  exact pay2 b y p q

theorem ltN (t : Fin cfg0.N) : t.val < 4 := lt_of_lt_of_eq t.isLt (show cfg0.N = 4 from N_0)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

/-- Row `p` of a point's block. -/
def row (t : Fin cfg0.N) (p : Fin 512) : Fin 2048 := ⟨512 * t.val + p.val, by have := ltN t; omega⟩

/-- The product. -/
def G (x : Vec Ideal S2048x2048 .bf16) (w : Vec Ideal S1024x2048 .bf16) (i : S2048x1024.Idx) : EReal :=
  ∑ k : Fin 2048, x (ix2 (i 0) k) * w (ix2 (i 1) k)

section

variable {m : (ℓ : Loc nD τ sig) → Buf (Elt Ideal) ℓ} {c : Dev nD}

theorem blk0 (t : Fin cfg0.N) (p : Fin 512) (k : Fin 2048) : iblk m c 0 t (ix2 p k) = m ((c : Thread nD τ).loc main_arg0) (ix2 (row t p) k) := by
  blk_ext [iblk, V, idx t, row]

theorem blk1 (t : Fin cfg0.N) (p : Fin 512) (k : Fin 2048) : iblk m c 1 t (ix2 p k) = m ((c : Thread nD τ).loc main_arg1) (ix2 (row t p) k) := by
  blk_ext [iblk, V, idx t, row]

theorem blk2 (t : Fin cfg0.N) (q : Fin 1024) (k : Fin 2048) : iblk m c 2 t (ix2 q k) = m ((c : Thread nD τ).loc main_arg2) (ix2 q k) := by
  blk_ext [iblk, V, idx t]

theorem blk3 (t : Fin cfg0.N) (q : Fin 1024) (k : Fin 2048) : iblk m c 3 t (ix2 q k) = m ((c : Thread nD τ).loc main_arg3) (ix2 q k) := by
  blk_ext [iblk, V, idx t]

theorem point4 (t : Fin cfg0.N) (p : Fin 512) (q : Fin 1024) : prod (iblk m c 0 t) (iblk m c 2 t) p q =
    G (m ((c : Thread nD τ).loc main_arg0)) (m ((c : Thread nD τ).loc main_arg2)) (ix2 (row t p) q) :=
  Finset.sum_congr rfl fun k _ => congrArg₂ (fun a b : EReal => a * b) (blk0 t p k) (blk2 t q k)

theorem arr4 : (dats m 0 c).arrAt 4 cfg0.N = G (m ((c : Thread nD τ).loc main_arg0)) (m ((c : Thread nD τ).loc main_arg2)) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4]
  exact (point4 t p q).trans (congrArg (G _ _) e).symm

theorem point5 (t : Fin cfg0.N) (p : Fin 512) (q : Fin 1024) : prod (iblk m c 1 t) (iblk m c 3 t) p q =
    G (m ((c : Thread nD τ).loc main_arg1)) (m ((c : Thread nD τ).loc main_arg3)) (ix2 (row t p) q) :=
  Finset.sum_congr rfl fun k _ => congrArg₂ (fun a b : EReal => a * b) (blk1 t p k) (blk3 t q k)

theorem arr5 : (dats m 0 c).arrAt 5 cfg0.N = G (m ((c : Thread nD τ).loc main_arg1)) (m ((c : Thread nD τ).loc main_arg3)) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5]
  exact (point5 t p q).trans (congrArg (G _ _) e).symm

end

open Cert.BbwRefIdeal.Read in
theorem ref1 (x : Vec Ideal S2048x2048 .bf16) (w : Vec Ideal S1024x2048 .bf16) : val_main_v6 (F := Ideal) x w = G x w := by
  funext i
  refine (val_main_v6_apply x w _).trans ?_
  refine Finset.sum_congr rfl fun k _ => ?_
  refine congrArg₂ (fun a b : EReal => a * b) (congrArg x ((eq_ix2 _).trans (congrArg₂ ix2 (Fin.ext rfl) (Fin.ext rfl))))
    (congrArg w ((eq_ix2 _).trans (congrArg₂ ix2 (Fin.ext rfl) (Fin.ext rfl))))

open Cert.BbwRefIdeal.Read in
theorem ref2 (x : Vec Ideal S2048x2048 .bf16) (w : Vec Ideal S1024x2048 .bf16) : val_main_v13 (F := Ideal) x w = G x w := by
  funext i
  refine (val_main_v13_apply x w _).trans ?_
  refine Finset.sum_congr rfl fun k _ => ?_
  refine congrArg₂ (fun a b : EReal => a * b) (congrArg x ((eq_ix2 _).trans (congrArg₂ ix2 (Fin.ext rfl) (Fin.ext rfl))))
    (congrArg w ((eq_ix2 _).trans (congrArg₂ ix2 (Fin.ext rfl) (Fin.ext rfl))))

end Cert.BbwIdeal.Mat

namespace Cert.BbwClaims

open Idealize.ShloMosaic Idealize.SL.Sem

/-- The kernel's frame. -/
theorem frame_kernel : Cert.quiescent_Bbw (hBbw := Cert.Bbw.Gen.facts) := fun m ρ _ => Cert.Bbw.Gen.frame m ρ

/-- The idealized kernel's frame. -/
theorem frame_ideal : Cert.quiescent_BbwIdeal (hBbwIdeal := Cert.BbwIdeal.Gen.facts) := fun m ρ _ => Cert.BbwIdeal.Gen.frame m ρ

/-- The reference's frame. -/
theorem frame_ref : Cert.quiescent_BbwRefIdeal (hBbwRefIdeal := Cert.BbwRefIdeal.Gen.facts) := fun m ρ _ =>
  (θ_run Cert.BbwRefIdeal.defs _ _).mono
    (fun r h => ⟨fun c => (h c).2.2, Idealize.ShloMosaic.sem_eq_zero_of_no_sems (by decide) r.2⟩) (Cert.BbwRefIdeal.Value.run (F := Ideal) m ρ)

/-- The idealized kernel keeps what the kernel computes. -/
theorem preserves : Cert.preserves_Bbw_BbwIdeal := trivial

/-- The kernel's results are the reference's. -/
theorem algebraic : Cert.algebraic_BbwIdeal_BbwRefIdeal (hBbwIdeal := Cert.BbwIdeal.Gen.facts) (hBbwRefIdeal := Cert.BbwRefIdeal.Gen.facts) := by
  haveI := Cert.BbwIdeal.Gen.facts
  haveI := Cert.BbwRefIdeal.Gen.facts
  intro m ρ m' ρ' _ hagree
  refine ⟨_, _, Cert.BbwIdeal.Value.run_blocks m ρ, ?_⟩
  refine (θ_run Cert.BbwRefIdeal.defs _ _).mono (fun _ h c => ?_) (Cert.BbwRefIdeal.Value.run (F := Ideal) m' ρ')
  obtain ⟨e0, e1, e2, e3⟩ := hagree c
  obtain ⟨h0, h1, h⟩ := h c
  refine ⟨h0.trans ?_, h1.trans ?_, h⟩
  · refine (Cert.BbwRefIdeal.Read.val_main_v6_eq _ _).trans ((Cert.BbwIdeal.Mat.ref1 _ _).trans ?_)
    rw [e0, e2]
    exact Cert.BbwIdeal.Mat.arr4.symm
  · refine (Cert.BbwRefIdeal.Read.val_main_v13_eq _ _).trans ((Cert.BbwIdeal.Mat.ref2 _ _).trans ?_)
    rw [e1, e3]
    exact Cert.BbwIdeal.Mat.arr5.symm

end Cert.BbwClaims

end
-- ==== Proof.BwgMat.lean ====
/- The gradients of the two branch products with respect to their right factors, in slots. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Bwg.Frame
public import proofs.«01_k».proof.Proof.Gen.BwgIdeal.Value
public import proofs.«01_k».proof.Proof.Gen.BwgRefIdeal.Run
public import proofs.«01_k».proof.Proof.Gen.BwgRefIdeal.Read
public import Idealize.ShloMosaic.Adequacy
public import Idealize.ShloMosaic.Init

@[expose] public section

set_option maxRecDepth 16384

noncomputable section

namespace Cert.BwgIdeal.Mat

open Idealize.ShloMosaic Idealize.ShloMosaic.TcCoe Idealize.SL Idealize.SL.Sem Cert.BwgIdeal.Gen

theorem z2 : (![0, 0] : Fin 2 → Nat) = fun _ => 0 := funext fun a => by fin_cases a <;> rfl

theorem z3 : (![0, 0, 0] : Fin 3 → Nat) = fun _ => 0 := funext fun a => by fin_cases a <;> rfl

/-- A block's product as a function of its operands. -/
def prod (x : Vec Ideal S2048x1024 .bf16) (y : Vec Ideal S2048x512 .bf16) (p : Fin 1024) (q : Fin 512) : EReal :=
  ∑ k : Fin 2048, x (ix2 k p) * y (ix2 k q)

theorem pay1 (x : Vec Ideal S2048x1024 .bf16) (y : Vec Ideal S2048x512 .bf16) (z : Fin 1) (p : Fin 1024) (q : Fin 512) :
    k0_pay1 x y (ix3 z p q) = prod x y p q := by
  pointwise [k0_pay1]
  rfl

theorem out4 (a b : Vec Ideal S2048x1024 .bf16) (x y : Vec Ideal S2048x512 .bf16) (z : Fin 1) (p : Fin 1024) (q : Fin 512) :
    out0_4 a b x y (ix3 z p q) = prod a x p q := by
  unfold out0_4
  rw [View.canon_unit_zero (S := S1x1024x512) z3, View.ld_unit_zero (S := S2048x1024) z2, View.ld_unit_zero (S := S2048x512) z2]
  exact pay1 a x z p q

theorem pay2 (x : Vec Ideal S2048x1024 .bf16) (y : Vec Ideal S2048x512 .bf16) (z : Fin 1) (p : Fin 1024) (q : Fin 512) :
    k0_pay2 x y (ix3 z p q) = prod x y p q := by
  pointwise [k0_pay2]
  rfl

theorem out5 (a b : Vec Ideal S2048x1024 .bf16) (x y : Vec Ideal S2048x512 .bf16) (z : Fin 1) (p : Fin 1024) (q : Fin 512) :
    out0_5 a b x y (ix3 z p q) = prod b y p q := by
  unfold out0_5
  rw [View.canon_unit_zero (S := S1x1024x512) z3, View.ld_unit_zero (S := S2048x1024) z2, View.ld_unit_zero (S := S2048x512) z2]
  exact pay2 b y z p q

theorem ltN (t : Fin cfg0.N) : t.val < 4 := lt_of_lt_of_eq t.isLt (show cfg0.N = 4 from N_0)

theorem idx : ∀ t : Fin cfg0.N, win0_0.index t = ![0, 0] ∧ win0_1.index t = ![0, 0] ∧ win0_2.index t = ![0, t.val]
    ∧ win0_3.index t = ![0, t.val] ∧ win0_4.index t = ![t.val, 0, 0] ∧ win0_5.index t = ![t.val, 0, 0] := by
  decide +kernel

/-- A point's slot. -/
def pt (t : Fin cfg0.N) : Fin 4 := ⟨t.val, ltN t⟩

/-- Column `q` of slot `s`. -/
def slot (s : Fin 4) (q : Fin 512) : Fin 2048 := ⟨512 * s.val + q.val, by omega⟩

/-- The product in slots. -/
def G (x : Vec Ideal S2048x1024 .bf16) (y : Vec Ideal S2048x2048 .bf16) (i : S4x1024x512.Idx) : EReal :=
  ∑ k : Fin 2048, x (ix2 k (i 1)) * y (ix2 k (slot (i 0) (i 2)))

section

variable {m : (ℓ : Loc nD τ sig) → Buf (Elt Ideal) ℓ} {c : Dev nD}

theorem blk0 (t : Fin cfg0.N) (k : Fin 2048) (p : Fin 1024) : iblk m c 0 t (ix2 k p) = m ((c : Thread nD τ).loc main_arg0) (ix2 k p) := by
  blk_ext [iblk, V, idx t]

theorem blk1 (t : Fin cfg0.N) (k : Fin 2048) (p : Fin 1024) : iblk m c 1 t (ix2 k p) = m ((c : Thread nD τ).loc main_arg1) (ix2 k p) := by
  blk_ext [iblk, V, idx t]

theorem blk2 (t : Fin cfg0.N) (k : Fin 2048) (q : Fin 512) : iblk m c 2 t (ix2 k q) = m ((c : Thread nD τ).loc main_arg2) (ix2 k (slot (pt t) q)) := by
  blk_ext [iblk, V, idx t, slot, pt]

theorem blk3 (t : Fin cfg0.N) (k : Fin 2048) (q : Fin 512) : iblk m c 3 t (ix2 k q) = m ((c : Thread nD τ).loc main_arg3) (ix2 k (slot (pt t) q)) := by
  blk_ext [iblk, V, idx t, slot, pt]

theorem point4 (t : Fin cfg0.N) (p : Fin 1024) (q : Fin 512) : prod (iblk m c 0 t) (iblk m c 2 t) p q =
    G (m ((c : Thread nD τ).loc main_arg0)) (m ((c : Thread nD τ).loc main_arg2)) (ix3 (pt t) p q) :=
  Finset.sum_congr rfl fun k _ => congrArg₂ (fun a b : EReal => a * b) (blk0 t k p) (blk2 t k q)

theorem arr4 : (dats m 0 c).arrAt 4 cfg0.N = G (m ((c : Thread nD τ).loc main_arg0)) (m ((c : Thread nD τ).loc main_arg2)) := by
  refine (dats m 0 c).arrAt_eq_of_covers 4 _ (by decide +kernel) fun t hf y => ?_
  obtain ⟨z, p, q, rfl⟩ : ∃ z p q, y = ix3 z p q := ⟨_, _, _, eq_ix3 y⟩
  have e : (win0_4.blk t).view.emb (ix3 z p q) = ix3 (pt t) p q := by blk_ext [idx t, pt]
  blk_simp
  rw [after0_4, out4]
  exact (point4 t p q).trans (congrArg (G _ _) e).symm

theorem point5 (t : Fin cfg0.N) (p : Fin 1024) (q : Fin 512) : prod (iblk m c 1 t) (iblk m c 3 t) p q =
    G (m ((c : Thread nD τ).loc main_arg1)) (m ((c : Thread nD τ).loc main_arg3)) (ix3 (pt t) p q) :=
  Finset.sum_congr rfl fun k _ => congrArg₂ (fun a b : EReal => a * b) (blk1 t k p) (blk3 t k q)

theorem arr5 : (dats m 0 c).arrAt 5 cfg0.N = G (m ((c : Thread nD τ).loc main_arg1)) (m ((c : Thread nD τ).loc main_arg3)) := by
  refine (dats m 0 c).arrAt_eq_of_covers 5 _ (by decide +kernel) fun t hf y => ?_
  obtain ⟨z, p, q, rfl⟩ : ∃ z p q, y = ix3 z p q := ⟨_, _, _, eq_ix3 y⟩
  have e : (win0_5.blk t).view.emb (ix3 z p q) = ix3 (pt t) p q := by blk_ext [idx t, pt]
  blk_simp
  rw [after0_5, out5]
  exact (point5 t p q).trans (congrArg (G _ _) e).symm

end

open Cert.BwgRefIdeal.Read in
theorem ref1 (x : Vec Ideal S2048x1024 .bf16) (y : Vec Ideal S2048x2048 .bf16) : val_main_v9 (F := Ideal) x y = G x y := by
  funext i
  obtain ⟨s, p, q, rfl⟩ : ∃ s p q, i = ix3 s p q := ⟨_, _, _, eq_ix3 i⟩
  refine (val_main_v8_apply x y _).trans ?_
  rw [val_main_v7_apply, val_main_v5_apply, val_main_v4_apply]
  refine Finset.sum_congr rfl fun k _ => (mul_comm _ _).trans ?_
  refine congrArg₂ (· * ·) (congrArg x ((eq_ix2 _).trans (congrArg₂ ix2 (Fin.ext rfl) (Fin.ext ?_))))
    (congrArg y ((eq_ix2 _).trans (congrArg₂ ix2 (Fin.ext rfl) (Fin.ext ?_))))
  · show ((p.val * 4 + s.val) * 512 + q.val) / 2048 = p.val
    omega
  · show ((p.val * 4 + s.val) * 512 + q.val) % 2048 = 512 * s.val + q.val
    omega

open Cert.BwgRefIdeal.Read in
theorem ref2 (x : Vec Ideal S2048x1024 .bf16) (y : Vec Ideal S2048x2048 .bf16) : val_main_v19 (F := Ideal) x y = G x y := by
  funext i
  obtain ⟨s, p, q, rfl⟩ : ∃ s p q, i = ix3 s p q := ⟨_, _, _, eq_ix3 i⟩
  refine (val_main_v18_apply x y _).trans ?_
  rw [val_main_v17_apply, val_main_v15_apply, val_main_v14_apply]
  refine Finset.sum_congr rfl fun k _ => (mul_comm _ _).trans ?_
  refine congrArg₂ (· * ·) (congrArg x ((eq_ix2 _).trans (congrArg₂ ix2 (Fin.ext rfl) (Fin.ext ?_))))
    (congrArg y ((eq_ix2 _).trans (congrArg₂ ix2 (Fin.ext rfl) (Fin.ext ?_))))
  · show ((p.val * 4 + s.val) * 512 + q.val) / 2048 = p.val
    omega
  · show ((p.val * 4 + s.val) * 512 + q.val) % 2048 = 512 * s.val + q.val
    omega

end Cert.BwgIdeal.Mat

namespace Cert.BwgClaims

open Idealize.ShloMosaic Idealize.SL.Sem

/-- The kernel's frame. -/
theorem frame_kernel : Cert.quiescent_Bwg (hBwg := Cert.Bwg.Gen.facts) := fun m ρ _ => Cert.Bwg.Gen.frame m ρ

/-- The idealized kernel's frame. -/
theorem frame_ideal : Cert.quiescent_BwgIdeal (hBwgIdeal := Cert.BwgIdeal.Gen.facts) := fun m ρ _ => Cert.BwgIdeal.Gen.frame m ρ

/-- The reference's frame. -/
theorem frame_ref : Cert.quiescent_BwgRefIdeal (hBwgRefIdeal := Cert.BwgRefIdeal.Gen.facts) := fun m ρ _ =>
  (θ_run Cert.BwgRefIdeal.defs _ _).mono
    (fun r h => ⟨fun c => (h c).2.2, Idealize.ShloMosaic.sem_eq_zero_of_no_sems (by decide) r.2⟩) (Cert.BwgRefIdeal.Value.run (F := Ideal) m ρ)

/-- The idealized kernel keeps what the kernel computes. -/
theorem preserves : Cert.preserves_Bwg_BwgIdeal := trivial

/-- The kernel's results are the reference's. -/
theorem algebraic : Cert.algebraic_BwgIdeal_BwgRefIdeal (hBwgIdeal := Cert.BwgIdeal.Gen.facts) (hBwgRefIdeal := Cert.BwgRefIdeal.Gen.facts) := by
  haveI := Cert.BwgIdeal.Gen.facts
  haveI := Cert.BwgRefIdeal.Gen.facts
  intro m ρ m' ρ' _ hagree
  refine ⟨_, _, Cert.BwgIdeal.Value.run_blocks m ρ, ?_⟩
  refine (θ_run Cert.BwgRefIdeal.defs _ _).mono (fun _ h c => ?_) (Cert.BwgRefIdeal.Value.run (F := Ideal) m' ρ')
  obtain ⟨e0, e1, e2, e3⟩ := hagree c
  obtain ⟨h0, h1, h⟩ := h c
  refine ⟨h0.trans ?_, h1.trans ?_, h⟩
  · refine (Cert.BwgRefIdeal.Read.val_main_v9_eq _ _).trans ((Cert.BwgIdeal.Mat.ref1 _ _).trans ?_)
    rw [e0, e2]
    exact Cert.BwgIdeal.Mat.arr4.symm
  · refine (Cert.BwgRefIdeal.Read.val_main_v19_eq _ _).trans ((Cert.BwgIdeal.Mat.ref2 _ _).trans ?_)
    rw [e1, e3]
    exact Cert.BwgIdeal.Mat.arr5.symm

end Cert.BwgClaims

end
-- ==== Proof.UbgMat.lean ====
/- The optimiser's step on w_branch_gmlp: the kernel's four results are the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Ubg.Frame
public import proofs.«01_k».proof.Proof.Gen.UbgIdeal.Value
public import proofs.«01_k».proof.Proof.Gen.UbgRefIdeal.Run
public import proofs.«01_k».proof.Proof.Gen.UbgRefIdeal.Read
public import Idealize.ShloMosaic.Adequacy
public import Idealize.ShloMosaic.Init

@[expose] public section

set_option maxRecDepth 16384

noncomputable section

namespace Cert.UbgIdeal.Step

open Idealize.ShloMosaic Idealize.ShloMosaic.TcCoe Idealize.SL Idealize.SL.Sem Cert.UbgIdeal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

variable (w m v : Vec Ideal S512x512 .f32) (g : Vec Ideal S1x512x512 .f32) (p : Fin 512) (q : Fin 512)

theorem pay_g : k0_pay1 g (ix2 p q) = g (ix3 0 p q) := by
  pointwise [k0_pay1]

theorem pay_m : k0_pay2 g m (ix2 p q) = newM (m (ix2 p q)) (g (ix3 0 p q)) := by
  pointwise [k0_pay2, k0_pay1]
  rfl

theorem pay_v : k0_pay3 g v (ix2 p q) = newV (v (ix2 p q)) (g (ix3 0 p q)) := by
  pointwise [k0_pay3, k0_pay1]
  rfl

theorem pay_d : k0_pay4 g w m v (ix2 p q) = delta (w (ix2 p q)) (m (ix2 p q)) (v (ix2 p q)) (g (ix3 0 p q)) := by
  refine Eq.trans ?_ (deltaBy_eq _ _ _ _)
  rw [← named_m, ← named_v]
  pointwise [k0_pay4, k0_pay3, k0_pay2, k0_pay1]
  rfl

theorem z2 : (![0, 0] : Fin 2 → Nat) = fun _ => 0 := funext fun a => by fin_cases a <;> rfl

theorem z3 : (![0, 0, 0] : Fin 3 → Nat) = fun _ => 0 := funext fun a => by fin_cases a <;> rfl

theorem out4 : out0_4 w m v g (ix2 p q) = g (ix3 0 p q) := by
  unfold out0_4
  rw [View.canon_unit_zero (S := S512x512) z2, View.ld_unit_zero (S := S1x512x512) z3]
  exact pay_g g p q

theorem out5 : out0_5 w m v g (ix2 p q) = delta (w (ix2 p q)) (m (ix2 p q)) (v (ix2 p q)) (g (ix3 0 p q)) := by
  unfold out0_5
  rw [View.canon_unit_zero (S := S512x512) z2, View.ld_unit_zero (S := S1x512x512) z3]
  simp only [View.ld_unit_zero (S := S512x512) z2]
  exact pay_d w m v g p q

theorem out6 : out0_6 w m v g (ix2 p q) = newM (m (ix2 p q)) (g (ix3 0 p q)) := by
  unfold out0_6
  rw [View.canon_unit_zero (S := S512x512) z2, View.ld_unit_zero (S := S1x512x512) z3, View.ld_unit_zero (S := S512x512) z2]
  exact pay_m m g p q

theorem out7 : out0_7 w m v g (ix2 p q) = newV (v (ix2 p q)) (g (ix3 0 p q)) := by
  unfold out0_7
  rw [View.canon_unit_zero (S := S512x512) z2, View.ld_unit_zero (S := S1x512x512) z3, View.ld_unit_zero (S := S512x512) z2]
  exact pay_v v g p q

theorem ltN (t : Fin cfg0.N) : t.val < 2 := lt_of_lt_of_eq t.isLt (show cfg0.N = 2 from N_0)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- Row `p` of a point's block. -/
def row (t : Fin cfg0.N) (p : Fin 512) : Fin 1024 := ⟨512 * t.val + p.val, by have := ltN t; omega⟩

section

variable {m : (ℓ : Loc nD τ sig) → Buf (Elt Ideal) ℓ} {c : Dev nD}

theorem blk0 (t : Fin cfg0.N) (p : Fin 512) (q : Fin 512) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk1 (t : Fin cfg0.N) (p : Fin 512) (q : Fin 512) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk2 (t : Fin cfg0.N) (p : Fin 512) (q : Fin 512) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk3 (t : Fin cfg0.N) (z : Fin 1) (p : Fin 512) (q : Fin 512) : iblk m c 3 t (ix3 z p q) = m ((c : Thread nD τ).loc main_arg3) (ix2 (row t p) q) := by
  have e : (win0_3.blk t).view.emb (ix3 z p q) = ix3 (0 : Fin 1) (row t p) q := by blk_ext [idx t, row]
  blk_simp [iblk]
  rw [e]
  unfold V
  simp only [hostOps0, List.flatten_cons, List.flatten_nil, List.append_nil, List.cons_append, List.nil_append]
  entry_read
  pointwise

/-- The gradient. -/
theorem arr4 : (dats m 0 c).arrAt 4 cfg0.N = m ((c : Thread nD τ).loc main_arg3) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, e, blk3]

/-- The weight's change. -/
theorem arr5 : (dats m 0 c).arrAt 5 cfg0.N = fun i => delta (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, blk0, blk1, blk2, blk3]

/-- The new first moment. -/
theorem arr6 : (dats m 0 c).arrAt 6 cfg0.N = fun i => newM (m ((c : Thread nD τ).loc main_arg1) i) (m ((c : Thread nD τ).loc main_arg3) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk1, blk3]

/-- The new second moment. -/
theorem arr7 : (dats m 0 c).arrAt 7 cfg0.N = fun i => newV (m ((c : Thread nD τ).loc main_arg2) i) (m ((c : Thread nD τ).loc main_arg3) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk2, blk3]

end

section

open Cert.UbgRefIdeal.Read

variable (x0 x1 x2 x3 : Vec Ideal S1024x512 .f32)

theorem ref_m : val_main_v4 (F := Ideal) x1 x3 = fun i => newM (x1 i) (x3 i) := by
  funext i
  simp only [val_main_v4_apply, val_main_v3_apply, val_main_v2_apply, val_main_v1_apply, val_main_v0_apply, val_main_cst_apply, val_main_cst_0_apply]
  rfl

theorem ref_v : val_main_v10 (F := Ideal) x2 x3 = fun i => newV (x2 i) (x3 i) := by
  funext i
  simp only [val_main_v10_apply, val_main_v9_apply, val_main_v8_apply, val_main_v7_apply, val_main_v6_apply, val_main_v5_apply, val_main_cst_1_apply, val_main_cst_2_apply]
  rfl

theorem ref_d : val_main_v23 (F := Ideal) x0 x1 x2 x3 = fun i => delta (x0 i) (x1 i) (x2 i) (x3 i) := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    ref_m, ref_v, val_main_cst_3_apply, val_main_cst_4_apply, val_main_cst_5_apply, val_main_cst_6_apply, val_main_cst_7_apply]
  rfl

end

end Cert.UbgIdeal.Step

namespace Cert.UbgClaims

open Idealize.ShloMosaic Idealize.SL.Sem

/-- The kernel's frame. -/
theorem frame_kernel : Cert.quiescent_Ubg (hUbg := Cert.Ubg.Gen.facts) := fun m ρ _ => Cert.Ubg.Gen.frame m ρ

/-- The idealized kernel's frame. -/
theorem frame_ideal : Cert.quiescent_UbgIdeal (hUbgIdeal := Cert.UbgIdeal.Gen.facts) := fun m ρ _ => Cert.UbgIdeal.Gen.frame m ρ

/-- The reference's frame. -/
theorem frame_ref : Cert.quiescent_UbgRefIdeal (hUbgRefIdeal := Cert.UbgRefIdeal.Gen.facts) := fun m ρ _ =>
  (θ_run Cert.UbgRefIdeal.defs _ _).mono
    (fun r h => ⟨fun c => (h c).2.2.2.2, Idealize.ShloMosaic.sem_eq_zero_of_no_sems (by decide) r.2⟩) (Cert.UbgRefIdeal.Value.run (F := Ideal) m ρ)

/-- The named constants' words round the named numbers. -/
theorem preserves : Cert.preserves_Ubg_UbgIdeal :=
  ⟨IdealRules.named_const.statement Cert.UbgIdeal.κ "m_hat" .f32 0x3FC48605#32 ((8388608 / 5463681 : ℝ) : EReal) rfl,
    IdealRules.named_const.statement Cert.UbgIdeal.κ "v_hat" .f32 0x42C8E6D3#32 ((268435456 / 2672307 : ℝ) : EReal) rfl⟩

/-- The kernel's results are the reference's. -/
theorem algebraic : Cert.algebraic_UbgIdeal_UbgRefIdeal (hUbgIdeal := Cert.UbgIdeal.Gen.facts) (hUbgRefIdeal := Cert.UbgRefIdeal.Gen.facts) := by
  haveI := Cert.UbgIdeal.Gen.facts
  haveI := Cert.UbgRefIdeal.Gen.facts
  intro m ρ m' ρ' _ hagree
  refine ⟨_, _, _, _, Cert.UbgIdeal.Value.run_blocks m ρ, ?_⟩
  refine (θ_run Cert.UbgRefIdeal.defs _ _).mono (fun _ h c => ?_) (Cert.UbgRefIdeal.Value.run (F := Ideal) m' ρ')
  obtain ⟨e0, e1, e2, e3⟩ := hagree c
  obtain ⟨h4, h5, h6, h7, h⟩ := h c
  refine ⟨h4.trans (e3.trans Cert.UbgIdeal.Step.arr4.symm), h5.trans ?_, h6.trans ?_, h7.trans ?_, h⟩
  · refine (Cert.UbgRefIdeal.Read.val_main_v23_eq _ _ _ _).trans ((Cert.UbgIdeal.Step.ref_d _ _ _ _).trans ?_)
    rw [e0, e1, e2, e3]
    exact Cert.UbgIdeal.Step.arr5.symm
  · refine (Cert.UbgRefIdeal.Read.val_main_v4_eq _ _).trans ((Cert.UbgIdeal.Step.ref_m _ _).trans ?_)
    rw [e1, e3]
    exact Cert.UbgIdeal.Step.arr6.symm
  · refine (Cert.UbgRefIdeal.Read.val_main_v10_eq _ _).trans ((Cert.UbgIdeal.Step.ref_v _ _).trans ?_)
    rw [e2, e3]
    exact Cert.UbgIdeal.Step.arr7.symm

end Cert.UbgClaims

end
-- ==== Proof.UbhMat.lean ====
/- The optimiser's step on w_branch_hg: the kernel's four results are the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Ubh.Frame
public import proofs.«01_k».proof.Proof.Gen.UbhIdeal.Value
public import proofs.«01_k».proof.Proof.Gen.UbhRefIdeal.Run
public import proofs.«01_k».proof.Proof.Gen.UbhRefIdeal.Read
public import Idealize.ShloMosaic.Adequacy
public import Idealize.ShloMosaic.Init

@[expose] public section

set_option maxRecDepth 16384

noncomputable section

namespace Cert.UbhIdeal.Step

open Idealize.ShloMosaic Idealize.ShloMosaic.TcCoe Idealize.SL Idealize.SL.Sem Cert.UbhIdeal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

variable (w m v : Vec Ideal S512x512 .f32) (g : Vec Ideal S1x512x512 .f32) (p : Fin 512) (q : Fin 512)

theorem pay_g : k0_pay1 g (ix2 p q) = g (ix3 0 p q) := by
  pointwise [k0_pay1]

theorem pay_m : k0_pay2 g m (ix2 p q) = newM (m (ix2 p q)) (g (ix3 0 p q)) := by
  pointwise [k0_pay2, k0_pay1]
  rfl

theorem pay_v : k0_pay3 g v (ix2 p q) = newV (v (ix2 p q)) (g (ix3 0 p q)) := by
  pointwise [k0_pay3, k0_pay1]
  rfl

theorem pay_d : k0_pay4 g w m v (ix2 p q) = delta (w (ix2 p q)) (m (ix2 p q)) (v (ix2 p q)) (g (ix3 0 p q)) := by
  refine Eq.trans ?_ (deltaBy_eq _ _ _ _)
  rw [← named_m, ← named_v]
  pointwise [k0_pay4, k0_pay3, k0_pay2, k0_pay1]
  rfl

theorem z2 : (![0, 0] : Fin 2 → Nat) = fun _ => 0 := funext fun a => by fin_cases a <;> rfl

theorem z3 : (![0, 0, 0] : Fin 3 → Nat) = fun _ => 0 := funext fun a => by fin_cases a <;> rfl

theorem out4 : out0_4 w m v g (ix2 p q) = g (ix3 0 p q) := by
  unfold out0_4
  rw [View.canon_unit_zero (S := S512x512) z2, View.ld_unit_zero (S := S1x512x512) z3]
  exact pay_g g p q

theorem out5 : out0_5 w m v g (ix2 p q) = delta (w (ix2 p q)) (m (ix2 p q)) (v (ix2 p q)) (g (ix3 0 p q)) := by
  unfold out0_5
  rw [View.canon_unit_zero (S := S512x512) z2, View.ld_unit_zero (S := S1x512x512) z3]
  simp only [View.ld_unit_zero (S := S512x512) z2]
  exact pay_d w m v g p q

theorem out6 : out0_6 w m v g (ix2 p q) = newM (m (ix2 p q)) (g (ix3 0 p q)) := by
  unfold out0_6
  rw [View.canon_unit_zero (S := S512x512) z2, View.ld_unit_zero (S := S1x512x512) z3, View.ld_unit_zero (S := S512x512) z2]
  exact pay_m m g p q

theorem out7 : out0_7 w m v g (ix2 p q) = newV (v (ix2 p q)) (g (ix3 0 p q)) := by
  unfold out0_7
  rw [View.canon_unit_zero (S := S512x512) z2, View.ld_unit_zero (S := S1x512x512) z3, View.ld_unit_zero (S := S512x512) z2]
  exact pay_v v g p q

theorem ltN (t : Fin cfg0.N) : t.val < 2 := lt_of_lt_of_eq t.isLt (show cfg0.N = 2 from N_0)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- Row `p` of a point's block. -/
def row (t : Fin cfg0.N) (p : Fin 512) : Fin 1024 := ⟨512 * t.val + p.val, by have := ltN t; omega⟩

section

variable {m : (ℓ : Loc nD τ sig) → Buf (Elt Ideal) ℓ} {c : Dev nD}

theorem blk0 (t : Fin cfg0.N) (p : Fin 512) (q : Fin 512) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk1 (t : Fin cfg0.N) (p : Fin 512) (q : Fin 512) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk2 (t : Fin cfg0.N) (p : Fin 512) (q : Fin 512) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk3 (t : Fin cfg0.N) (z : Fin 1) (p : Fin 512) (q : Fin 512) : iblk m c 3 t (ix3 z p q) = m ((c : Thread nD τ).loc main_arg3) (ix2 (row t p) q) := by
  have e : (win0_3.blk t).view.emb (ix3 z p q) = ix3 (0 : Fin 1) (row t p) q := by blk_ext [idx t, row]
  blk_simp [iblk]
  rw [e]
  unfold V
  simp only [hostOps0, List.flatten_cons, List.flatten_nil, List.append_nil, List.cons_append, List.nil_append]
  entry_read
  pointwise

/-- The gradient. -/
theorem arr4 : (dats m 0 c).arrAt 4 cfg0.N = m ((c : Thread nD τ).loc main_arg3) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, e, blk3]

/-- The weight's change. -/
theorem arr5 : (dats m 0 c).arrAt 5 cfg0.N = fun i => delta (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, blk0, blk1, blk2, blk3]

/-- The new first moment. -/
theorem arr6 : (dats m 0 c).arrAt 6 cfg0.N = fun i => newM (m ((c : Thread nD τ).loc main_arg1) i) (m ((c : Thread nD τ).loc main_arg3) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk1, blk3]

/-- The new second moment. -/
theorem arr7 : (dats m 0 c).arrAt 7 cfg0.N = fun i => newV (m ((c : Thread nD τ).loc main_arg2) i) (m ((c : Thread nD τ).loc main_arg3) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk2, blk3]

end

section

open Cert.UbhRefIdeal.Read

variable (x0 x1 x2 x3 : Vec Ideal S1024x512 .f32)

theorem ref_m : val_main_v4 (F := Ideal) x1 x3 = fun i => newM (x1 i) (x3 i) := by
  funext i
  simp only [val_main_v4_apply, val_main_v3_apply, val_main_v2_apply, val_main_v1_apply, val_main_v0_apply, val_main_cst_apply, val_main_cst_0_apply]
  rfl

theorem ref_v : val_main_v10 (F := Ideal) x2 x3 = fun i => newV (x2 i) (x3 i) := by
  funext i
  simp only [val_main_v10_apply, val_main_v9_apply, val_main_v8_apply, val_main_v7_apply, val_main_v6_apply, val_main_v5_apply, val_main_cst_1_apply, val_main_cst_2_apply]
  rfl

theorem ref_d : val_main_v23 (F := Ideal) x0 x1 x2 x3 = fun i => delta (x0 i) (x1 i) (x2 i) (x3 i) := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    ref_m, ref_v, val_main_cst_3_apply, val_main_cst_4_apply, val_main_cst_5_apply, val_main_cst_6_apply, val_main_cst_7_apply]
  rfl

end

end Cert.UbhIdeal.Step

namespace Cert.UbhClaims

open Idealize.ShloMosaic Idealize.SL.Sem

/-- The kernel's frame. -/
theorem frame_kernel : Cert.quiescent_Ubh (hUbh := Cert.Ubh.Gen.facts) := fun m ρ _ => Cert.Ubh.Gen.frame m ρ

/-- The idealized kernel's frame. -/
theorem frame_ideal : Cert.quiescent_UbhIdeal (hUbhIdeal := Cert.UbhIdeal.Gen.facts) := fun m ρ _ => Cert.UbhIdeal.Gen.frame m ρ

/-- The reference's frame. -/
theorem frame_ref : Cert.quiescent_UbhRefIdeal (hUbhRefIdeal := Cert.UbhRefIdeal.Gen.facts) := fun m ρ _ =>
  (θ_run Cert.UbhRefIdeal.defs _ _).mono
    (fun r h => ⟨fun c => (h c).2.2.2.2, Idealize.ShloMosaic.sem_eq_zero_of_no_sems (by decide) r.2⟩) (Cert.UbhRefIdeal.Value.run (F := Ideal) m ρ)

/-- The named constants' words round the named numbers. -/
theorem preserves : Cert.preserves_Ubh_UbhIdeal :=
  ⟨IdealRules.named_const.statement Cert.UbhIdeal.κ "m_hat" .f32 0x3FC48605#32 ((8388608 / 5463681 : ℝ) : EReal) rfl,
    IdealRules.named_const.statement Cert.UbhIdeal.κ "v_hat" .f32 0x42C8E6D3#32 ((268435456 / 2672307 : ℝ) : EReal) rfl⟩

/-- The kernel's results are the reference's. -/
theorem algebraic : Cert.algebraic_UbhIdeal_UbhRefIdeal (hUbhIdeal := Cert.UbhIdeal.Gen.facts) (hUbhRefIdeal := Cert.UbhRefIdeal.Gen.facts) := by
  haveI := Cert.UbhIdeal.Gen.facts
  haveI := Cert.UbhRefIdeal.Gen.facts
  intro m ρ m' ρ' _ hagree
  refine ⟨_, _, _, _, Cert.UbhIdeal.Value.run_blocks m ρ, ?_⟩
  refine (θ_run Cert.UbhRefIdeal.defs _ _).mono (fun _ h c => ?_) (Cert.UbhRefIdeal.Value.run (F := Ideal) m' ρ')
  obtain ⟨e0, e1, e2, e3⟩ := hagree c
  obtain ⟨h4, h5, h6, h7, h⟩ := h c
  refine ⟨h4.trans (e3.trans Cert.UbhIdeal.Step.arr4.symm), h5.trans ?_, h6.trans ?_, h7.trans ?_, h⟩
  · refine (Cert.UbhRefIdeal.Read.val_main_v23_eq _ _ _ _).trans ((Cert.UbhIdeal.Step.ref_d _ _ _ _).trans ?_)
    rw [e0, e1, e2, e3]
    exact Cert.UbhIdeal.Step.arr5.symm
  · refine (Cert.UbhRefIdeal.Read.val_main_v4_eq _ _).trans ((Cert.UbhIdeal.Step.ref_m _ _).trans ?_)
    rw [e1, e3]
    exact Cert.UbhIdeal.Step.arr6.symm
  · refine (Cert.UbhRefIdeal.Read.val_main_v10_eq _ _).trans ((Cert.UbhIdeal.Step.ref_v _ _).trans ?_)
    rw [e2, e3]
    exact Cert.UbhIdeal.Step.arr7.symm

end Cert.UbhClaims

end
-- ==== Proof.UfoMat.lean ====
/- The optimiser's step on w_ffn_out: the kernel's four results are the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Ufo.Frame
public import proofs.«01_k».proof.Proof.Gen.UfoIdeal.Value
public import proofs.«01_k».proof.Proof.Gen.UfoRefIdeal.Run
public import proofs.«01_k».proof.Proof.Gen.UfoRefIdeal.Read
public import Idealize.ShloMosaic.Adequacy
public import Idealize.ShloMosaic.Init

@[expose] public section

set_option maxRecDepth 16384

noncomputable section

namespace Cert.UfoIdeal.Step

open Idealize.ShloMosaic Idealize.ShloMosaic.TcCoe Idealize.SL Idealize.SL.Sem Cert.UfoIdeal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

variable (w m v : Vec Ideal S176x2048 .f32) (g : Vec Ideal S1x176x2048 .f32) (p : Fin 176) (q : Fin 2048)

theorem pay_g : k0_pay1 g (ix2 p q) = g (ix3 0 p q) := by
  pointwise [k0_pay1]

theorem pay_m : k0_pay2 g m (ix2 p q) = newM (m (ix2 p q)) (g (ix3 0 p q)) := by
  pointwise [k0_pay2, k0_pay1]
  rfl

theorem pay_v : k0_pay3 g v (ix2 p q) = newV (v (ix2 p q)) (g (ix3 0 p q)) := by
  pointwise [k0_pay3, k0_pay1]
  rfl

theorem pay_d : k0_pay4 g w m v (ix2 p q) = delta (w (ix2 p q)) (m (ix2 p q)) (v (ix2 p q)) (g (ix3 0 p q)) := by
  refine Eq.trans ?_ (deltaBy_eq _ _ _ _)
  rw [← named_m, ← named_v]
  pointwise [k0_pay4, k0_pay3, k0_pay2, k0_pay1]
  rfl

theorem z2 : (![0, 0] : Fin 2 → Nat) = fun _ => 0 := funext fun a => by fin_cases a <;> rfl

theorem z3 : (![0, 0, 0] : Fin 3 → Nat) = fun _ => 0 := funext fun a => by fin_cases a <;> rfl

theorem out4 : out0_4 w m v g (ix2 p q) = g (ix3 0 p q) := by
  unfold out0_4
  rw [View.canon_unit_zero (S := S176x2048) z2, View.ld_unit_zero (S := S1x176x2048) z3]
  exact pay_g g p q

theorem out5 : out0_5 w m v g (ix2 p q) = delta (w (ix2 p q)) (m (ix2 p q)) (v (ix2 p q)) (g (ix3 0 p q)) := by
  unfold out0_5
  rw [View.canon_unit_zero (S := S176x2048) z2, View.ld_unit_zero (S := S1x176x2048) z3]
  simp only [View.ld_unit_zero (S := S176x2048) z2]
  exact pay_d w m v g p q

theorem out6 : out0_6 w m v g (ix2 p q) = newM (m (ix2 p q)) (g (ix3 0 p q)) := by
  unfold out0_6
  rw [View.canon_unit_zero (S := S176x2048) z2, View.ld_unit_zero (S := S1x176x2048) z3, View.ld_unit_zero (S := S176x2048) z2]
  exact pay_m m g p q

theorem out7 : out0_7 w m v g (ix2 p q) = newV (v (ix2 p q)) (g (ix3 0 p q)) := by
  unfold out0_7
  rw [View.canon_unit_zero (S := S176x2048) z2, View.ld_unit_zero (S := S1x176x2048) z3, View.ld_unit_zero (S := S176x2048) z2]
  exact pay_v v g p q

theorem ltN (t : Fin cfg0.N) : t.val < 8 := lt_of_lt_of_eq t.isLt (show cfg0.N = 8 from N_0)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- Row `p` of a point's block. -/
def row (t : Fin cfg0.N) (p : Fin 176) : Fin 1408 := ⟨176 * t.val + p.val, by have := ltN t; omega⟩

section

variable {m : (ℓ : Loc nD τ sig) → Buf (Elt Ideal) ℓ} {c : Dev nD}

theorem blk0 (t : Fin cfg0.N) (p : Fin 176) (q : Fin 2048) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk1 (t : Fin cfg0.N) (p : Fin 176) (q : Fin 2048) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk2 (t : Fin cfg0.N) (p : Fin 176) (q : Fin 2048) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk3 (t : Fin cfg0.N) (z : Fin 1) (p : Fin 176) (q : Fin 2048) : iblk m c 3 t (ix3 z p q) = m ((c : Thread nD τ).loc main_arg3) (ix2 (row t p) q) := by
  have e : (win0_3.blk t).view.emb (ix3 z p q) = ix3 (0 : Fin 1) (row t p) q := by blk_ext [idx t, row]
  blk_simp [iblk]
  rw [e]
  unfold V
  simp only [hostOps0, List.flatten_cons, List.flatten_nil, List.append_nil, List.cons_append, List.nil_append]
  entry_read
  pointwise

/-- The gradient. -/
theorem arr4 : (dats m 0 c).arrAt 4 cfg0.N = m ((c : Thread nD τ).loc main_arg3) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, e, blk3]

/-- The weight's change. -/
theorem arr5 : (dats m 0 c).arrAt 5 cfg0.N = fun i => delta (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, blk0, blk1, blk2, blk3]

/-- The new first moment. -/
theorem arr6 : (dats m 0 c).arrAt 6 cfg0.N = fun i => newM (m ((c : Thread nD τ).loc main_arg1) i) (m ((c : Thread nD τ).loc main_arg3) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk1, blk3]

/-- The new second moment. -/
theorem arr7 : (dats m 0 c).arrAt 7 cfg0.N = fun i => newV (m ((c : Thread nD τ).loc main_arg2) i) (m ((c : Thread nD τ).loc main_arg3) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk2, blk3]

end

section

open Cert.UfoRefIdeal.Read

variable (x0 x1 x2 x3 : Vec Ideal S1408x2048 .f32)

theorem ref_m : val_main_v4 (F := Ideal) x1 x3 = fun i => newM (x1 i) (x3 i) := by
  funext i
  simp only [val_main_v4_apply, val_main_v3_apply, val_main_v2_apply, val_main_v1_apply, val_main_v0_apply, val_main_cst_apply, val_main_cst_0_apply]
  rfl

theorem ref_v : val_main_v10 (F := Ideal) x2 x3 = fun i => newV (x2 i) (x3 i) := by
  funext i
  simp only [val_main_v10_apply, val_main_v9_apply, val_main_v8_apply, val_main_v7_apply, val_main_v6_apply, val_main_v5_apply, val_main_cst_1_apply, val_main_cst_2_apply]
  rfl

theorem ref_d : val_main_v23 (F := Ideal) x0 x1 x2 x3 = fun i => delta (x0 i) (x1 i) (x2 i) (x3 i) := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    ref_m, ref_v, val_main_cst_3_apply, val_main_cst_4_apply, val_main_cst_5_apply, val_main_cst_6_apply, val_main_cst_7_apply]
  rfl

end

end Cert.UfoIdeal.Step

namespace Cert.UfoClaims

open Idealize.ShloMosaic Idealize.SL.Sem

/-- The kernel's frame. -/
theorem frame_kernel : Cert.quiescent_Ufo (hUfo := Cert.Ufo.Gen.facts) := fun m ρ _ => Cert.Ufo.Gen.frame m ρ

/-- The idealized kernel's frame. -/
theorem frame_ideal : Cert.quiescent_UfoIdeal (hUfoIdeal := Cert.UfoIdeal.Gen.facts) := fun m ρ _ => Cert.UfoIdeal.Gen.frame m ρ

/-- The reference's frame. -/
theorem frame_ref : Cert.quiescent_UfoRefIdeal (hUfoRefIdeal := Cert.UfoRefIdeal.Gen.facts) := fun m ρ _ =>
  (θ_run Cert.UfoRefIdeal.defs _ _).mono
    (fun r h => ⟨fun c => (h c).2.2.2.2, Idealize.ShloMosaic.sem_eq_zero_of_no_sems (by decide) r.2⟩) (Cert.UfoRefIdeal.Value.run (F := Ideal) m ρ)

/-- The named constants' words round the named numbers. -/
theorem preserves : Cert.preserves_Ufo_UfoIdeal :=
  ⟨IdealRules.named_const.statement Cert.UfoIdeal.κ "m_hat" .f32 0x3FC48605#32 ((8388608 / 5463681 : ℝ) : EReal) rfl,
    IdealRules.named_const.statement Cert.UfoIdeal.κ "v_hat" .f32 0x42C8E6D3#32 ((268435456 / 2672307 : ℝ) : EReal) rfl⟩

/-- The kernel's results are the reference's. -/
theorem algebraic : Cert.algebraic_UfoIdeal_UfoRefIdeal (hUfoIdeal := Cert.UfoIdeal.Gen.facts) (hUfoRefIdeal := Cert.UfoRefIdeal.Gen.facts) := by
  haveI := Cert.UfoIdeal.Gen.facts
  haveI := Cert.UfoRefIdeal.Gen.facts
  intro m ρ m' ρ' _ hagree
  refine ⟨_, _, _, _, Cert.UfoIdeal.Value.run_blocks m ρ, ?_⟩
  refine (θ_run Cert.UfoRefIdeal.defs _ _).mono (fun _ h c => ?_) (Cert.UfoRefIdeal.Value.run (F := Ideal) m' ρ')
  obtain ⟨e0, e1, e2, e3⟩ := hagree c
  obtain ⟨h4, h5, h6, h7, h⟩ := h c
  refine ⟨h4.trans (e3.trans Cert.UfoIdeal.Step.arr4.symm), h5.trans ?_, h6.trans ?_, h7.trans ?_, h⟩
  · refine (Cert.UfoRefIdeal.Read.val_main_v23_eq _ _ _ _).trans ((Cert.UfoIdeal.Step.ref_d _ _ _ _).trans ?_)
    rw [e0, e1, e2, e3]
    exact Cert.UfoIdeal.Step.arr5.symm
  · refine (Cert.UfoRefIdeal.Read.val_main_v4_eq _ _).trans ((Cert.UfoIdeal.Step.ref_m _ _).trans ?_)
    rw [e1, e3]
    exact Cert.UfoIdeal.Step.arr6.symm
  · refine (Cert.UfoRefIdeal.Read.val_main_v10_eq _ _).trans ((Cert.UfoIdeal.Step.ref_v _ _).trans ?_)
    rw [e2, e3]
    exact Cert.UfoIdeal.Step.arr7.symm

end Cert.UfoClaims

end
-- ==== Proof.UinMat.lean ====
/- The optimiser's step on w_in: the kernel's four results are the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Uin.Frame
public import proofs.«01_k».proof.Proof.Gen.UinIdeal.Value
public import proofs.«01_k».proof.Proof.Gen.UinRefIdeal.Run
public import proofs.«01_k».proof.Proof.Gen.UinRefIdeal.Read
public import Idealize.ShloMosaic.Adequacy
public import Idealize.ShloMosaic.Init

@[expose] public section

set_option maxRecDepth 16384

noncomputable section

namespace Cert.UinIdeal.Step

open Idealize.ShloMosaic Idealize.ShloMosaic.TcCoe Idealize.SL Idealize.SL.Sem Cert.UinIdeal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

variable (w m v : Vec Ideal S128x2560 .f32) (g : Vec Ideal S1x128x2560 .f32) (p : Fin 128) (q : Fin 2560)

theorem pay_g : k0_pay1 g (ix2 p q) = g (ix3 0 p q) := by
  pointwise [k0_pay1]

theorem pay_m : k0_pay2 g m (ix2 p q) = newM (m (ix2 p q)) (g (ix3 0 p q)) := by
  pointwise [k0_pay2, k0_pay1]
  rfl

theorem pay_v : k0_pay3 g v (ix2 p q) = newV (v (ix2 p q)) (g (ix3 0 p q)) := by
  pointwise [k0_pay3, k0_pay1]
  rfl

theorem pay_d : k0_pay4 g w m v (ix2 p q) = delta (w (ix2 p q)) (m (ix2 p q)) (v (ix2 p q)) (g (ix3 0 p q)) := by
  refine Eq.trans ?_ (deltaBy_eq _ _ _ _)
  rw [← named_m, ← named_v]
  pointwise [k0_pay4, k0_pay3, k0_pay2, k0_pay1]
  rfl

theorem z2 : (![0, 0] : Fin 2 → Nat) = fun _ => 0 := funext fun a => by fin_cases a <;> rfl

theorem z3 : (![0, 0, 0] : Fin 3 → Nat) = fun _ => 0 := funext fun a => by fin_cases a <;> rfl

theorem out4 : out0_4 w m v g (ix2 p q) = g (ix3 0 p q) := by
  unfold out0_4
  rw [View.canon_unit_zero (S := S128x2560) z2, View.ld_unit_zero (S := S1x128x2560) z3]
  exact pay_g g p q

theorem out5 : out0_5 w m v g (ix2 p q) = delta (w (ix2 p q)) (m (ix2 p q)) (v (ix2 p q)) (g (ix3 0 p q)) := by
  unfold out0_5
  rw [View.canon_unit_zero (S := S128x2560) z2, View.ld_unit_zero (S := S1x128x2560) z3]
  simp only [View.ld_unit_zero (S := S128x2560) z2]
  exact pay_d w m v g p q

theorem out6 : out0_6 w m v g (ix2 p q) = newM (m (ix2 p q)) (g (ix3 0 p q)) := by
  unfold out0_6
  rw [View.canon_unit_zero (S := S128x2560) z2, View.ld_unit_zero (S := S1x128x2560) z3, View.ld_unit_zero (S := S128x2560) z2]
  exact pay_m m g p q

theorem out7 : out0_7 w m v g (ix2 p q) = newV (v (ix2 p q)) (g (ix3 0 p q)) := by
  unfold out0_7
  rw [View.canon_unit_zero (S := S128x2560) z2, View.ld_unit_zero (S := S1x128x2560) z3, View.ld_unit_zero (S := S128x2560) z2]
  exact pay_v v g p q

theorem ltN (t : Fin cfg0.N) : t.val < 16 := lt_of_lt_of_eq t.isLt (show cfg0.N = 16 from N_0)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- Row `p` of a point's block. -/
def row (t : Fin cfg0.N) (p : Fin 128) : Fin 2048 := ⟨128 * t.val + p.val, by have := ltN t; omega⟩

section

variable {m : (ℓ : Loc nD τ sig) → Buf (Elt Ideal) ℓ} {c : Dev nD}

theorem blk0 (t : Fin cfg0.N) (p : Fin 128) (q : Fin 2560) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk1 (t : Fin cfg0.N) (p : Fin 128) (q : Fin 2560) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk2 (t : Fin cfg0.N) (p : Fin 128) (q : Fin 2560) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk3 (t : Fin cfg0.N) (z : Fin 1) (p : Fin 128) (q : Fin 2560) : iblk m c 3 t (ix3 z p q) = m ((c : Thread nD τ).loc main_arg3) (ix2 (row t p) q) := by
  have e : (win0_3.blk t).view.emb (ix3 z p q) = ix3 (0 : Fin 1) (row t p) q := by blk_ext [idx t, row]
  blk_simp [iblk]
  rw [e]
  unfold V
  simp only [hostOps0, List.flatten_cons, List.flatten_nil, List.append_nil, List.cons_append, List.nil_append]
  entry_read
  pointwise

/-- The gradient. -/
theorem arr4 : (dats m 0 c).arrAt 4 cfg0.N = m ((c : Thread nD τ).loc main_arg3) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, e, blk3]

/-- The weight's change. -/
theorem arr5 : (dats m 0 c).arrAt 5 cfg0.N = fun i => delta (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, blk0, blk1, blk2, blk3]

/-- The new first moment. -/
theorem arr6 : (dats m 0 c).arrAt 6 cfg0.N = fun i => newM (m ((c : Thread nD τ).loc main_arg1) i) (m ((c : Thread nD τ).loc main_arg3) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk1, blk3]

/-- The new second moment. -/
theorem arr7 : (dats m 0 c).arrAt 7 cfg0.N = fun i => newV (m ((c : Thread nD τ).loc main_arg2) i) (m ((c : Thread nD τ).loc main_arg3) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk2, blk3]

end

section

open Cert.UinRefIdeal.Read

variable (x0 x1 x2 x3 : Vec Ideal S2048x2560 .f32)

theorem ref_m : val_main_v4 (F := Ideal) x1 x3 = fun i => newM (x1 i) (x3 i) := by
  funext i
  simp only [val_main_v4_apply, val_main_v3_apply, val_main_v2_apply, val_main_v1_apply, val_main_v0_apply, val_main_cst_apply, val_main_cst_0_apply]
  rfl

theorem ref_v : val_main_v10 (F := Ideal) x2 x3 = fun i => newV (x2 i) (x3 i) := by
  funext i
  simp only [val_main_v10_apply, val_main_v9_apply, val_main_v8_apply, val_main_v7_apply, val_main_v6_apply, val_main_v5_apply, val_main_cst_1_apply, val_main_cst_2_apply]
  rfl

theorem ref_d : val_main_v23 (F := Ideal) x0 x1 x2 x3 = fun i => delta (x0 i) (x1 i) (x2 i) (x3 i) := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    ref_m, ref_v, val_main_cst_3_apply, val_main_cst_4_apply, val_main_cst_5_apply, val_main_cst_6_apply, val_main_cst_7_apply]
  rfl

end

end Cert.UinIdeal.Step

namespace Cert.UinClaims

open Idealize.ShloMosaic Idealize.SL.Sem

/-- The kernel's frame. -/
theorem frame_kernel : Cert.quiescent_Uin (hUin := Cert.Uin.Gen.facts) := fun m ρ _ => Cert.Uin.Gen.frame m ρ

/-- The idealized kernel's frame. -/
theorem frame_ideal : Cert.quiescent_UinIdeal (hUinIdeal := Cert.UinIdeal.Gen.facts) := fun m ρ _ => Cert.UinIdeal.Gen.frame m ρ

/-- The reference's frame. -/
theorem frame_ref : Cert.quiescent_UinRefIdeal (hUinRefIdeal := Cert.UinRefIdeal.Gen.facts) := fun m ρ _ =>
  (θ_run Cert.UinRefIdeal.defs _ _).mono
    (fun r h => ⟨fun c => (h c).2.2.2.2, Idealize.ShloMosaic.sem_eq_zero_of_no_sems (by decide) r.2⟩) (Cert.UinRefIdeal.Value.run (F := Ideal) m ρ)

/-- The named constants' words round the named numbers. -/
theorem preserves : Cert.preserves_Uin_UinIdeal :=
  ⟨IdealRules.named_const.statement Cert.UinIdeal.κ "m_hat" .f32 0x3FC48605#32 ((8388608 / 5463681 : ℝ) : EReal) rfl,
    IdealRules.named_const.statement Cert.UinIdeal.κ "v_hat" .f32 0x42C8E6D3#32 ((268435456 / 2672307 : ℝ) : EReal) rfl⟩

/-- The kernel's results are the reference's. -/
theorem algebraic : Cert.algebraic_UinIdeal_UinRefIdeal (hUinIdeal := Cert.UinIdeal.Gen.facts) (hUinRefIdeal := Cert.UinRefIdeal.Gen.facts) := by
  haveI := Cert.UinIdeal.Gen.facts
  haveI := Cert.UinRefIdeal.Gen.facts
  intro m ρ m' ρ' _ hagree
  refine ⟨_, _, _, _, Cert.UinIdeal.Value.run_blocks m ρ, ?_⟩
  refine (θ_run Cert.UinRefIdeal.defs _ _).mono (fun _ h c => ?_) (Cert.UinRefIdeal.Value.run (F := Ideal) m' ρ')
  obtain ⟨e0, e1, e2, e3⟩ := hagree c
  obtain ⟨h4, h5, h6, h7, h⟩ := h c
  refine ⟨h4.trans (e3.trans Cert.UinIdeal.Step.arr4.symm), h5.trans ?_, h6.trans ?_, h7.trans ?_, h⟩
  · refine (Cert.UinRefIdeal.Read.val_main_v23_eq _ _ _ _).trans ((Cert.UinIdeal.Step.ref_d _ _ _ _).trans ?_)
    rw [e0, e1, e2, e3]
    exact Cert.UinIdeal.Step.arr5.symm
  · refine (Cert.UinRefIdeal.Read.val_main_v4_eq _ _).trans ((Cert.UinIdeal.Step.ref_m _ _).trans ?_)
    rw [e1, e3]
    exact Cert.UinIdeal.Step.arr6.symm
  · refine (Cert.UinRefIdeal.Read.val_main_v10_eq _ _).trans ((Cert.UinIdeal.Step.ref_v _ _).trans ?_)
    rw [e2, e3]
    exact Cert.UinIdeal.Step.arr7.symm

end Cert.UinClaims

end
-- ==== Proof.UoutMat.lean ====
/- The optimiser's step on w_out: the kernel's four results are the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Uout.Frame
public import proofs.«01_k».proof.Proof.Gen.UoutIdeal.Value
public import proofs.«01_k».proof.Proof.Gen.UoutRefIdeal.Run
public import proofs.«01_k».proof.Proof.Gen.UoutRefIdeal.Read
public import Idealize.ShloMosaic.Adequacy
public import Idealize.ShloMosaic.Init

@[expose] public section

set_option maxRecDepth 16384

noncomputable section

namespace Cert.UoutIdeal.Step

open Idealize.ShloMosaic Idealize.ShloMosaic.TcCoe Idealize.SL Idealize.SL.Sem Cert.UoutIdeal.Gen Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

variable (w m v : Vec Ideal S128x2048 .f32) (g : Vec Ideal S1x128x2048 .f32) (p : Fin 128) (q : Fin 2048)

theorem pay_g : k0_pay1 g (ix2 p q) = g (ix3 0 p q) := by
  pointwise [k0_pay1]

theorem pay_m : k0_pay2 g m (ix2 p q) = newM (m (ix2 p q)) (g (ix3 0 p q)) := by
  pointwise [k0_pay2, k0_pay1]
  rfl

theorem pay_v : k0_pay3 g v (ix2 p q) = newV (v (ix2 p q)) (g (ix3 0 p q)) := by
  pointwise [k0_pay3, k0_pay1]
  rfl

theorem pay_d : k0_pay4 g w m v (ix2 p q) = delta (w (ix2 p q)) (m (ix2 p q)) (v (ix2 p q)) (g (ix3 0 p q)) := by
  refine Eq.trans ?_ (deltaBy_eq _ _ _ _)
  rw [← named_m, ← named_v]
  pointwise [k0_pay4, k0_pay3, k0_pay2, k0_pay1]
  rfl

theorem z2 : (![0, 0] : Fin 2 → Nat) = fun _ => 0 := funext fun a => by fin_cases a <;> rfl

theorem z3 : (![0, 0, 0] : Fin 3 → Nat) = fun _ => 0 := funext fun a => by fin_cases a <;> rfl

theorem out4 : out0_4 w m v g (ix2 p q) = g (ix3 0 p q) := by
  unfold out0_4
  rw [View.canon_unit_zero (S := S128x2048) z2, View.ld_unit_zero (S := S1x128x2048) z3]
  exact pay_g g p q

theorem out5 : out0_5 w m v g (ix2 p q) = delta (w (ix2 p q)) (m (ix2 p q)) (v (ix2 p q)) (g (ix3 0 p q)) := by
  unfold out0_5
  rw [View.canon_unit_zero (S := S128x2048) z2, View.ld_unit_zero (S := S1x128x2048) z3]
  simp only [View.ld_unit_zero (S := S128x2048) z2]
  exact pay_d w m v g p q

theorem out6 : out0_6 w m v g (ix2 p q) = newM (m (ix2 p q)) (g (ix3 0 p q)) := by
  unfold out0_6
  rw [View.canon_unit_zero (S := S128x2048) z2, View.ld_unit_zero (S := S1x128x2048) z3, View.ld_unit_zero (S := S128x2048) z2]
  exact pay_m m g p q

theorem out7 : out0_7 w m v g (ix2 p q) = newV (v (ix2 p q)) (g (ix3 0 p q)) := by
  unfold out0_7
  rw [View.canon_unit_zero (S := S128x2048) z2, View.ld_unit_zero (S := S1x128x2048) z3, View.ld_unit_zero (S := S128x2048) z2]
  exact pay_v v g p q

theorem ltN (t : Fin cfg0.N) : t.val < 4 := lt_of_lt_of_eq t.isLt (show cfg0.N = 4 from N_0)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] := by
  decide +kernel

/-- Row `p` of a point's block. -/
def row (t : Fin cfg0.N) (p : Fin 128) : Fin 512 := ⟨128 * t.val + p.val, by have := ltN t; omega⟩

section

variable {m : (ℓ : Loc nD τ sig) → Buf (Elt Ideal) ℓ} {c : Dev nD}

theorem blk0 (t : Fin cfg0.N) (p : Fin 128) (q : Fin 2048) : iblk m c 0 t (ix2 p q) = m ((c : Thread nD τ).loc main_arg0) (ix2 (row t p) q) := by
  have e : (win0_0.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk1 (t : Fin cfg0.N) (p : Fin 128) (q : Fin 2048) : iblk m c 1 t (ix2 p q) = m ((c : Thread nD τ).loc main_arg1) (ix2 (row t p) q) := by
  have e : (win0_1.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk2 (t : Fin cfg0.N) (p : Fin 128) (q : Fin 2048) : iblk m c 2 t (ix2 p q) = m ((c : Thread nD τ).loc main_arg2) (ix2 (row t p) q) := by
  have e : (win0_2.blk t).view.emb (ix2 p q) = ix2 (row t p) q := by blk_ext [idx t, row]
  blk_simp [iblk]
  rw [e]
  unfold V
  simp only [hostOps0, List.flatten_cons, List.flatten_nil, List.append_nil, List.cons_append, List.nil_append]
  entry_read
  rfl

theorem blk3 (t : Fin cfg0.N) (z : Fin 1) (p : Fin 128) (q : Fin 2048) : iblk m c 3 t (ix3 z p q) = m ((c : Thread nD τ).loc main_arg3) (ix2 (row t p) q) := by
  have e : (win0_3.blk t).view.emb (ix3 z p q) = ix3 (0 : Fin 1) (row t p) q := by blk_ext [idx t, row]
  blk_simp [iblk]
  rw [e]
  unfold V
  simp only [hostOps0, List.flatten_cons, List.flatten_nil, List.append_nil, List.cons_append, List.nil_append]
  entry_read
  pointwise

/-- The gradient. -/
theorem arr4 : (dats m 0 c).arrAt 4 cfg0.N = m ((c : Thread nD τ).loc main_arg3) := by
  refine (dats m 0 c).arrAt_eq_of_covers 4 _ (by decide +kernel) fun t hf y => ?_
  obtain ⟨p, q, rfl⟩ : ∃ p q, y = ix2 p q := ⟨_, _, eq_ix2 y⟩
  have e : (win0_4.blk t).view.emb (ix2 p q) = ix2 (row t p) q := by blk_ext [idx t, row]
  blk_simp
  rw [after0_4, out4, e, blk3]

/-- The weight's change. -/
theorem arr5 : (dats m 0 c).arrAt 5 cfg0.N = fun i => delta (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t hf y => ?_
  obtain ⟨p, q, rfl⟩ : ∃ p q, y = ix2 p q := ⟨_, _, eq_ix2 y⟩
  have e : (win0_5.blk t).view.emb (ix2 p q) = ix2 (row t p) q := by blk_ext [idx t, row]
  blk_simp
  rw [after0_5, out5, e, blk0, blk1, blk2, blk3]

/-- The new first moment. -/
theorem arr6 : (dats m 0 c).arrAt 6 cfg0.N = fun i => newM (m ((c : Thread nD τ).loc main_arg1) i) (m ((c : Thread nD τ).loc main_arg3) i) := by
  refine (dats m 0 c).arrAt_eq_of_covers 6 _ (by decide +kernel) fun t hf y => ?_
  obtain ⟨p, q, rfl⟩ : ∃ p q, y = ix2 p q := ⟨_, _, eq_ix2 y⟩
  have e : (win0_6.blk t).view.emb (ix2 p q) = ix2 (row t p) q := by blk_ext [idx t, row]
  blk_simp
  rw [after0_6, out6, e, blk1, blk3]

/-- The new second moment. -/
theorem arr7 : (dats m 0 c).arrAt 7 cfg0.N = fun i => newV (m ((c : Thread nD τ).loc main_arg2) i) (m ((c : Thread nD τ).loc main_arg3) i) := by
  refine (dats m 0 c).arrAt_eq_of_covers 7 _ (by decide +kernel) fun t hf y => ?_
  obtain ⟨p, q, rfl⟩ : ∃ p q, y = ix2 p q := ⟨_, _, eq_ix2 y⟩
  have e : (win0_7.blk t).view.emb (ix2 p q) = ix2 (row t p) q := by blk_ext [idx t, row]
  blk_simp
  rw [after0_7, out7, e, blk2, blk3]

end

section

open Cert.UoutRefIdeal.Read

variable (x0 x1 x2 x3 : Vec Ideal S512x2048 .f32)

theorem ref_m : val_main_v4 (F := Ideal) x1 x3 = fun i => newM (x1 i) (x3 i) := by
  funext i
  simp only [val_main_v4_apply, val_main_v3_apply, val_main_v2_apply, val_main_v1_apply, val_main_v0_apply, val_main_cst_apply, val_main_cst_0_apply]
  rfl

theorem ref_v : val_main_v10 (F := Ideal) x2 x3 = fun i => newV (x2 i) (x3 i) := by
  funext i
  simp only [val_main_v10_apply, val_main_v9_apply, val_main_v8_apply, val_main_v7_apply, val_main_v6_apply, val_main_v5_apply, val_main_cst_1_apply, val_main_cst_2_apply]
  rfl

theorem ref_d : val_main_v23 (F := Ideal) x0 x1 x2 x3 = fun i => delta (x0 i) (x1 i) (x2 i) (x3 i) := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    ref_m, ref_v, val_main_cst_3_apply, val_main_cst_4_apply, val_main_cst_5_apply, val_main_cst_6_apply, val_main_cst_7_apply]
  rfl

end

end Cert.UoutIdeal.Step

namespace Cert.UoutClaims

open Idealize.ShloMosaic Idealize.SL.Sem

/-- The kernel's frame. -/
theorem frame_kernel : Cert.quiescent_Uout (hUout := Cert.Uout.Gen.facts) := fun m ρ _ => Cert.Uout.Gen.frame m ρ

/-- The idealized kernel's frame. -/
theorem frame_ideal : Cert.quiescent_UoutIdeal (hUoutIdeal := Cert.UoutIdeal.Gen.facts) := fun m ρ _ => Cert.UoutIdeal.Gen.frame m ρ

/-- The reference's frame. -/
theorem frame_ref : Cert.quiescent_UoutRefIdeal (hUoutRefIdeal := Cert.UoutRefIdeal.Gen.facts) := fun m ρ _ =>
  (θ_run Cert.UoutRefIdeal.defs _ _).mono
    (fun r h => ⟨fun c => (h c).2.2.2.2, Idealize.ShloMosaic.sem_eq_zero_of_no_sems (by decide) r.2⟩) (Cert.UoutRefIdeal.Value.run (F := Ideal) m ρ)

/-- The named constants' words round the named numbers. -/
theorem preserves : Cert.preserves_Uout_UoutIdeal :=
  ⟨IdealRules.named_const.statement Cert.UoutIdeal.κ "m_hat" .f32 0x3FC48605#32 ((8388608 / 5463681 : ℝ) : EReal) rfl,
    IdealRules.named_const.statement Cert.UoutIdeal.κ "v_hat" .f32 0x42C8E6D3#32 ((268435456 / 2672307 : ℝ) : EReal) rfl⟩

/-- The kernel's results are the reference's. -/
theorem algebraic : Cert.algebraic_UoutIdeal_UoutRefIdeal (hUoutIdeal := Cert.UoutIdeal.Gen.facts) (hUoutRefIdeal := Cert.UoutRefIdeal.Gen.facts) := by
  haveI := Cert.UoutIdeal.Gen.facts
  haveI := Cert.UoutRefIdeal.Gen.facts
  intro m ρ m' ρ' _ hagree
  refine ⟨_, _, _, _, Cert.UoutIdeal.Value.run_blocks m ρ, ?_⟩
  refine (θ_run Cert.UoutRefIdeal.defs _ _).mono (fun _ h c => ?_) (Cert.UoutRefIdeal.Value.run (F := Ideal) m' ρ')
  obtain ⟨e0, e1, e2, e3⟩ := hagree c
  obtain ⟨h4, h5, h6, h7, h⟩ := h c
  refine ⟨h4.trans (e3.trans Cert.UoutIdeal.Step.arr4.symm), h5.trans ?_, h6.trans ?_, h7.trans ?_, h⟩
  · refine (Cert.UoutRefIdeal.Read.val_main_v23_eq _ _ _ _).trans ((Cert.UoutIdeal.Step.ref_d _ _ _ _).trans ?_)
    rw [e0, e1, e2, e3]
    exact Cert.UoutIdeal.Step.arr5.symm
  · refine (Cert.UoutRefIdeal.Read.val_main_v4_eq _ _).trans ((Cert.UoutIdeal.Step.ref_m _ _).trans ?_)
    rw [e1, e3]
    exact Cert.UoutIdeal.Step.arr6.symm
  · refine (Cert.UoutRefIdeal.Read.val_main_v10_eq _ _).trans ((Cert.UoutIdeal.Step.ref_v _ _).trans ?_)
    rw [e2, e3]
    exact Cert.UoutIdeal.Step.arr7.symm

end Cert.UoutClaims

end
-- ==== Proof.UsmMat.lean ====
/- The optimiser's step on the small weights, over the eight parts of their gradient. -/
module

public import Idealize.ShloMosaic.Lib.Pointwise
public import Idealize.ShloMosaic.Lib.Pipeline.ValueKit
public import Idealize.ShloMosaic.Lib.Claim
public import proofs.«01_k».proof.Defs
public import proofs.«01_k».proof.Proof.AdamStep
public import proofs.«01_k».proof.Proof.Gen.Usm.Frame
public import proofs.«01_k».proof.Proof.Gen.UsmIdeal.Value
public import proofs.«01_k».proof.Proof.Gen.UsmRefIdeal.Run
public import proofs.«01_k».proof.Proof.Gen.UsmRefIdeal.Read
public import Idealize.ShloMosaic.Adequacy
public import Idealize.ShloMosaic.Init

@[expose] public section

set_option maxRecDepth 16384

noncomputable section

namespace Cert.UsmIdeal.Mat

open Idealize.ShloMosaic Idealize.ShloMosaic.TcCoe Idealize.SL Idealize.SL.Sem Cert.UsmIdeal.Gen

theorem z2 : (![0, 0] : Fin 2 → Nat) = fun _ => 0 := funext fun a => by fin_cases a <;> rfl

theorem z3 : (![0, 0, 0] : Fin 3 → Nat) = fun _ => 0 := funext fun a => by fin_cases a <;> rfl

open Cert.AdamStep

theorem named_m : Named.named (F := Ideal) κ "m_hat" (φ := .f32) 0x3FC48605#32 = ((8388608 / 5463681 : ℝ) : EReal) :=
  IdealRules.named_const.ideal_named_scalar _ _ _ _ rfl

theorem named_v : Named.named (F := Ideal) κ "v_hat" (φ := .f32) 0x42C8E6D3#32 = ((268435456 / 2672307 : ℝ) : EReal) :=
  IdealRules.named_const.ideal_named_scalar _ _ _ _ rfl

/-- The gradient: the sum of its parts. -/
def grad (x : Vec Ideal S8x1256x128 .f32) (i : S1256x128.Idx) : EReal := ∑ k : Fin 8, x (ix3 k (i 0) (i 1))

theorem pay_g (a b c d e f g h : Vec Ideal S1x1256x128 .f32) (p : Fin 1256) (q : Fin 128) :
    k0_pay4 a b c d e f g h (ix2 p q) = (fun a b c d e f g h : EReal => a + b + c + d + e + f + g + h) (a (ix3 0 p q)) (b (ix3 0 p q)) (c (ix3 0 p q)) (d (ix3 0 p q)) (e (ix3 0 p q))
      (f (ix3 0 p q)) (g (ix3 0 p q)) (h (ix3 0 p q)) := by
  pointwise [k0_pay4]

variable (v24 v25 v26 : Vec Ideal S1256x128 .f32) (v22 : Vec Ideal S1256x128 .f32) (i : S1256x128.Idx)

theorem pay_m : k0_pay1 v22 v25 i = newM (v25 i) (v22 i) := by
  rfl

theorem pay_v : k0_pay2 v22 v26 i = newV (v26 i) (v22 i) := by
  rfl

theorem pay_d : k0_pay3 v22 v24 v25 v26 i = delta (v24 i) (v25 i) (v26 i) (v22 i) := by
  refine Eq.trans ?_ (deltaBy_eq _ _ _ _)
  rw [← named_m, ← named_v]
  rfl

/-- Loading one part. -/
theorem ld_part (x : Vec Ideal S8x1256x128 .f32) (n : Fin 8) (h) (p : Fin 1256) (q : Fin 128) :
    View.ld x (Rect.unit (s := S8x1256x128) ![n.val, 0, 0] S1x1256x128.size h) (ix3 0 p q) = x (ix3 n p q) := by
  refine congrArg x (funext fun a => Fin.ext ?_)
  fin_cases a
  · show n.val + 1 * 0 = n.val
    omega
  · show 0 + 1 * p.val = p.val
    omega
  · show 0 + 1 * q.val = q.val
    omega

theorem pay_sum (x0 x1 x2 : Vec Ideal S1256x128 .f32) (x : Vec Ideal S8x1256x128 .f32) : k0_pay5 x0 x1 x2 x = grad x := by
  funext i
  obtain ⟨p, q, rfl⟩ : ∃ p q, i = ix2 p q := ⟨_, _, eq_ix2 i⟩
  unfold k0_pay5
  rw [pay_g]
  refine Eq.trans ?_ (Fin.sum_univ_eight fun k : Fin 8 => (x (ix3 k p q) : EReal)).symm
  rw [← ld_part x 0 inb_S8x1256x128_S1x1256x128_0_0_0, ← ld_part x 1 inb_S8x1256x128_S1x1256x128_1_0_0, ← ld_part x 2 inb_S8x1256x128_S1x1256x128_2_0_0,
    ← ld_part x 3 inb_S8x1256x128_S1x1256x128_3_0_0, ← ld_part x 4 inb_S8x1256x128_S1x1256x128_4_0_0, ← ld_part x 5 inb_S8x1256x128_S1x1256x128_5_0_0,
    ← ld_part x 6 inb_S8x1256x128_S1x1256x128_6_0_0, ← ld_part x 7 inb_S8x1256x128_S1x1256x128_7_0_0]
  rfl

section

variable {m : (ℓ : Loc nD τ sig) → Buf (Elt Ideal) ℓ} {c : Dev nD}

theorem arr4 (a0 a1 a2 : Vec Ideal S1256x128 .f32) (a3 : Vec Ideal S8x1256x128 .f32) : Value.G4 a0 a1 a2 a3 = grad a3 := pay_sum a0 a1 a2 a3

theorem arr5 (a0 a1 a2 : Vec Ideal S1256x128 .f32) (a3 : Vec Ideal S8x1256x128 .f32) : Value.G5 a0 a1 a2 a3 = fun i => delta (a0 i) (a1 i) (a2 i) (grad a3 i) := by
  funext i
  show k0_pay3 (k0_pay5 a0 a1 a2 a3) a0 a1 a2 i = _
  rw [pay_sum]
  exact pay_d a0 a1 a2 (grad a3) i

theorem arr6 (a0 a1 a2 : Vec Ideal S1256x128 .f32) (a3 : Vec Ideal S8x1256x128 .f32) : Value.G6 a0 a1 a2 a3 = fun i => newM (a1 i) (grad a3 i) := by
  funext i
  show k0_pay1 (k0_pay5 a0 a1 a2 a3) a1 i = _
  rw [pay_sum]
  exact pay_m a1 (grad a3) i

theorem arr7 (a0 a1 a2 : Vec Ideal S1256x128 .f32) (a3 : Vec Ideal S8x1256x128 .f32) : Value.G7 a0 a1 a2 a3 = fun i => newV (a2 i) (grad a3 i) := by
  funext i
  show k0_pay2 (k0_pay5 a0 a1 a2 a3) a2 i = _
  rw [pay_sum]
  exact pay_v a2 (grad a3) i

end

section

open Cert.UsmRefIdeal.Read

variable (x0 x1 x2 : Vec Ideal S1256x128 .f32) (x3 : Vec Ideal S8x1256x128 .f32)

theorem ref_g : val_main_v0 (F := Ideal) x3 = grad x3 := by
  funext i
  refine (val_main_v0_apply x3 i).trans ?_
  rw [val_main_cst_apply]
  refine (congrArg (fun z : EReal => z + ∑ k : Fin 8, (x3 (idx_main_v0 i k) : EReal)) (show Ideal.ofBits .f32 0x00000000#32 = (0 : EReal) by simp [Ideal.ofBits, Ideal.ieee])).trans ?_
  rw [zero_add]
  exact Finset.sum_congr rfl fun k _ => congrArg x3 ((eq_ix3 _).trans (congrArg₂ (fun a b => ix3 k a b) (Fin.ext rfl) (Fin.ext rfl)))

theorem ref_m : val_main_v5 (F := Ideal) x1 x3 = fun i => newM (x1 i) (grad x3 i) := by
  funext i
  rw [← ref_g]
  rfl

theorem ref_v : val_main_v11 (F := Ideal) x2 x3 = fun i => newV (x2 i) (grad x3 i) := by
  funext i
  rw [← ref_g]
  rfl

theorem ref_d : val_main_v24 (F := Ideal) x0 x1 x2 x3 = fun i => delta (x0 i) (x1 i) (x2 i) (grad x3 i) := by
  funext i
  rw [← ref_g]
  rfl

end

end Cert.UsmIdeal.Mat

namespace Cert.UsmClaims

open Idealize.ShloMosaic Idealize.SL.Sem

/-- The kernel's frame. -/
theorem frame_kernel : Cert.quiescent_Usm (hUsm := Cert.Usm.Gen.facts) := fun m ρ _ => Cert.Usm.Gen.frame m ρ

/-- The idealized kernel's frame. -/
theorem frame_ideal : Cert.quiescent_UsmIdeal (hUsmIdeal := Cert.UsmIdeal.Gen.facts) := fun m ρ _ => Cert.UsmIdeal.Gen.frame m ρ

/-- The reference's frame. -/
theorem frame_ref : Cert.quiescent_UsmRefIdeal (hUsmRefIdeal := Cert.UsmRefIdeal.Gen.facts) := fun m ρ _ =>
  (θ_run Cert.UsmRefIdeal.defs _ _).mono
    (fun r h => ⟨fun c => (h c).2.2.2.2, Idealize.ShloMosaic.sem_eq_zero_of_no_sems (by decide) r.2⟩) (Cert.UsmRefIdeal.Value.run (F := Ideal) m ρ)

/-- The idealized kernel keeps what the kernel computes. -/
theorem preserves : Cert.preserves_Usm_UsmIdeal :=
  ⟨IdealRules.named_const.statement Cert.UsmIdeal.κ "m_hat" .f32 0x3FC48605#32 ((8388608 / 5463681 : ℝ) : EReal) rfl,
    IdealRules.named_const.statement Cert.UsmIdeal.κ "v_hat" .f32 0x42C8E6D3#32 ((268435456 / 2672307 : ℝ) : EReal) rfl⟩

/-- The kernel's results are the reference's. -/
theorem algebraic : Cert.algebraic_UsmIdeal_UsmRefIdeal (hUsmIdeal := Cert.UsmIdeal.Gen.facts) (hUsmRefIdeal := Cert.UsmRefIdeal.Gen.facts) := by
  haveI := Cert.UsmIdeal.Gen.facts
  haveI := Cert.UsmRefIdeal.Gen.facts
  intro m ρ m' ρ' _ hagree
  refine ⟨_, _, _, _, Cert.UsmIdeal.Value.run m ρ, ?_⟩
  refine (θ_run Cert.UsmRefIdeal.defs _ _).mono (fun _ h c => ?_) (Cert.UsmRefIdeal.Value.run (F := Ideal) m' ρ')
  obtain ⟨e0, e1, e2, e3⟩ := hagree c
  obtain ⟨h0, h1, h2, h3, h⟩ := h c
  refine ⟨h0.trans ?_, h1.trans ?_, h2.trans ?_, h3.trans ?_, h⟩
  · refine (Cert.UsmRefIdeal.Read.val_main_v0_eq _).trans ((Cert.UsmIdeal.Mat.ref_g _).trans ?_)
    rw [e3]
    exact (Cert.UsmIdeal.Mat.arr4 _ _ _ _).symm
  · refine (Cert.UsmRefIdeal.Read.val_main_v24_eq _ _ _ _).trans ((Cert.UsmIdeal.Mat.ref_d _ _ _ _).trans ?_)
    rw [e0, e1, e2, e3]
    exact (Cert.UsmIdeal.Mat.arr5 _ _ _ _).symm
  · refine (Cert.UsmRefIdeal.Read.val_main_v5_eq _ _).trans ((Cert.UsmIdeal.Mat.ref_m _ _).trans ?_)
    rw [e1, e3]
    exact (Cert.UsmIdeal.Mat.arr6 _ _ _ _).symm
  · refine (Cert.UsmRefIdeal.Read.val_main_v11_eq _ _).trans ((Cert.UsmIdeal.Mat.ref_v _ _).trans ?_)
    rw [e2, e3]
    exact (Cert.UsmIdeal.Mat.arr7 _ _ _ _).symm

end Cert.UsmClaims

end
-- ==== Proof.Dh2Mat.lean ====
/- The gradient with respect to the gated feed-forward block's input, summed over four blocks of its inner axis: the kernel's product is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Dh2.Frame
public import proofs.«01_k».proof.Proof.Gen.Dh2Ideal.Value
public import proofs.«01_k».proof.Proof.Gen.Dh2RefIdeal.Run
public import proofs.«01_k».proof.Proof.Gen.Dh2RefIdeal.Read
public import Idealize.ShloMosaic.Adequacy
public import Idealize.ShloMosaic.Init

@[expose] public section

set_option maxRecDepth 16384

noncomputable section

namespace Cert.Dh2Ideal.Mat

open Idealize.ShloMosaic Idealize.ShloMosaic.TcCoe Idealize.SL Idealize.SL.Sem Cert.Dh2Ideal.Gen

theorem z2 : (![0, 0] : Fin 2 → Nat) = fun _ => 0 := funext fun a => by fin_cases a <;> rfl
theorem z3 : (![0, 0, 0] : Fin 3 → Nat) = fun _ => 0 := funext fun a => by fin_cases a <;> rfl

/-- A block's product as a function of its operands. -/
def prod (x : Vec Ideal S1024x2816 .bf16) (y : Vec Ideal S1x1024x2816 .bf16) (p q : Fin 1024) : EReal :=
  ∑ k : Fin 2816, x (ix2 p k) * y (ix3 0 q k)

theorem pay1 (x : Vec Ideal S1024x2816 .bf16) (y : Vec Ideal S1x1024x2816 .bf16) (p q : Fin 1024) : k0_pay1 x y (ix2 p q) = prod x y p q := by
  pointwise [k0_pay1]
  rfl

theorem pay5 (x : Vec Ideal S1024x2816 .bf16) (y : Vec Ideal S1x1024x2816 .bf16) (p q : Fin 1024) : k0_pay5 x y (ix2 p q) = prod x y p q := by
  pointwise [k0_pay5]
  rfl

theorem pay2 (x : Vec Ideal S1024x2816 .bf16) (y : Vec Ideal S1x1024x2816 .bf16) (p q : Fin 1024) : k0_pay2 x y (ix2 p q) = prod x y p q := by
  unfold k0_pay2
  rw [shapeCast_self]
  exact pay1 x y p q

theorem pay3 (x : Vec Ideal S1024x2816 .bf16) (y : Vec Ideal S1x1024x2816 .bf16) (a : Vec Ideal S1024x1024 .f32) (p q : Fin 1024) :
    k0_pay3 x y a (ix2 p q) = (fun a b : EReal => a + b) (a (ix2 p q)) (prod x y p q) := by
  unfold k0_pay3
  rw [shapeCast_self]
  exact congrArg (fun b : EReal => (a (ix2 p q) : EReal) + b) (pay1 x y p q)

theorem pay7 (x : Vec Ideal S1024x2816 .bf16) (y : Vec Ideal S1x1024x2816 .bf16) (a : Vec Ideal S1024x1024 .f32) (p q : Fin 1024) :
    k0_pay7 x y a (ix2 p q) = (fun a b : EReal => a + b) (a (ix2 p q)) (prod x y p q) := by
  unfold k0_pay7
  rw [shapeCast_self]
  exact congrArg (fun b : EReal => (a (ix2 p q) : EReal) + b) (pay5 x y p q)

theorem pay8 (x : Vec Ideal S1024x2816 .bf16) (y : Vec Ideal S1x1024x2816 .bf16) (a : Vec Ideal S1024x1024 .f32) (p q : Fin 1024) :
    k0_pay8 x y a (ix2 p q) = (fun a b : EReal => a + b) (a (ix2 p q)) (prod x y p q) := by
  unfold k0_pay8
  exact congrArg (fun b : EReal => (a (ix2 p q) : EReal) + b) (pay5 x y p q)

/-- What the first point of a sum leaves in the running sum. -/
theorem outA (c : Dev nD) (i : grid0.Coords) (a3) (h3) (a4) (h4) (a5) (h5) (a6) (h6) (a7) (h7) (hc0 hc1 hc2 hc3 hc4) (x0 x1 : Vec Ideal S1024x2816 .bf16) (x2 : Vec Ideal S1x1024x2816 .bf16) :
    sout0_A_0 c i a3 h3 a4 h4 a5 h5 a6 h6 a7 h7 hc0 hc1 hc2 hc3 hc4 x0 x1 x2 = k0_pay2 x0 x2 := by
  unfold sout0_A_0
  rw [View.read_writes_junk_eq_canon]
  unfold kernelRun0_A
  dsimp only
  sl_unfold_words
  rw [View.canon_unit_zero (S := S1024x1024) z2]
  simp only [View.readAt_eq_ld, h3.read_unread, h5.read_unread, View.ld_unit_zero (S := S1024x2816) z2, View.ld_unit_zero (S := S1x1024x2816) z3, View.ld_unit_zero (S := S1024x1024) z2]

/-- What the second point of a sum leaves in the running sum. -/
theorem outB (c : Dev nD) (i : grid0.Coords) (a3) (h3) (a4) (h4) (a5) (h5) (a6) (h6) (a7) (h7) (hc0 hc1 hc2 hc3 hc4) (x0 x1 : Vec Ideal S1024x2816 .bf16) (x2 : Vec Ideal S1x1024x2816 .bf16) (s : Vec Ideal S1024x1024 .f32) :
    sout0_B_0 c i a3 h3 a4 h4 a5 h5 a6 h6 a7 h7 hc0 hc1 hc2 hc3 hc4 x0 x1 x2 s = k0_pay3 x0 x2 s := by
  unfold sout0_B_0
  rw [View.read_writes_junk_eq_canon]
  unfold kernelRun0_B
  dsimp only
  sl_unfold_words
  rw [View.canon_unit_zero (S := S1024x1024) z2]
  simp only [View.readAt_eq_ld, h3.read_unread, h5.read_unread, h7.read_unread, View.ld_unit_zero (S := S1024x2816) z2, View.ld_unit_zero (S := S1x1024x2816) z3, View.ld_unit_zero (S := S1024x1024) z2]

/-- What the third point of a sum leaves in the running sum. -/
theorem outC (c : Dev nD) (i : grid0.Coords) (a3) (h3) (a4) (h4) (a5) (h5) (a6) (h6) (a7) (h7) (hc0 hc1 hc2 hc3 hc4) (x0 x1 : Vec Ideal S1024x2816 .bf16) (x2 : Vec Ideal S1x1024x2816 .bf16) (s : Vec Ideal S1024x1024 .f32) :
    sout0_C_0 c i a3 h3 a4 h4 a5 h5 a6 h6 a7 h7 hc0 hc1 hc2 hc3 hc4 x0 x1 x2 s = k0_pay7 x1 x2 s := by
  unfold sout0_C_0
  rw [View.read_writes_junk_eq_canon]
  unfold kernelRun0_C
  dsimp only
  sl_unfold_words
  rw [View.canon_unit_zero (S := S1024x1024) z2]
  simp only [View.readAt_eq_ld, h4.read_unread, h5.read_unread, h7.read_unread, View.ld_unit_zero (S := S1024x2816) z2, View.ld_unit_zero (S := S1x1024x2816) z3, View.ld_unit_zero (S := S1024x1024) z2]

/-- What the last point of a sum leaves in the output's block. -/
theorem outD (c : Dev nD) (i : grid0.Coords) (a3) (h3) (a4) (h4) (a5) (h5) (a6) (h6) (a7) (h7) (hc0 hc1 hc2 hc3 hc4) (x0 x1 : Vec Ideal S1024x2816 .bf16) (x2 : Vec Ideal S1x1024x2816 .bf16) (s : Vec Ideal S1024x1024 .f32) :
    out0_D_3 c i a3 h3 a4 h4 a5 h5 a6 h6 a7 h7 hc0 hc1 hc2 hc3 hc4 x0 x1 x2 s = k0_pay8 x1 x2 s := by
  unfold out0_D_3
  rw [View.read_writes_junk_eq_canon]
  unfold kernelRun0_D
  dsimp only
  sl_unfold_words
  rw [View.canon_unit_zero (S := S1024x1024) z2]
  simp only [View.readAt_eq_ld, h4.read_unread, h5.read_unread, h7.read_unread, View.ld_unit_zero (S := S1024x2816) z2, View.ld_unit_zero (S := S1x1024x2816) z3, View.ld_unit_zero (S := S1024x1024) z2]

theorem lt16 (t : Fin cfg0.N) : t.val < 16 := lt_of_lt_of_eq t.isLt (show cfg0.N = 16 from N_0)

theorem idx : ∀ t : Fin cfg0.N, win0_2.index t = ![t.val % 4, t.val / 4 % 2, 0] ∧ win0_3.index t = ![t.val / 8, t.val / 4 % 2] := by
  decide +kernel

theorem idx0 : ∀ t : Fin cfg0.N, t.val % 4 ≤ 1 → win0_0.index t = ![t.val / 8, t.val % 4] := by
  decide +kernel

theorem idx1 : ∀ t : Fin cfg0.N, 2 ≤ t.val % 4 → win0_1.index t = ![t.val / 8, t.val % 4 - 2] := by
  decide +kernel

theorem last : ∀ t : Fin cfg0.N, (cfg0.win 3).flush t = true → t.val % 4 = 3 := by
  decide +kernel

/-- Row `p` of a point's block. -/
def row (t : Fin cfg0.N) (p : Fin 1024) : Fin 2048 := ⟨1024 * (t.val / 8) + p.val, by have := lt16 t; omega⟩

/-- Column `q` of a point's block. -/
def col (t : Fin cfg0.N) (q : Fin 1024) : Fin 2048 := ⟨1024 * (t.val / 4 % 2) + q.val, by omega⟩

/-- Two matrices side by side. -/
def beside (a b : Vec Ideal S2048x5632 .bf16) (k : Fin 2048) (j : Fin 11264) : EReal :=
  if h : j.val < 5632 then a (ix2 k ⟨j.val, h⟩) else b (ix2 k ⟨j.val - 5632, by omega⟩)

theorem beside_lo (a b : Vec Ideal S2048x5632 .bf16) (k : Fin 2048) (j : Fin 11264) (h : j.val < 5632) : beside a b k j = a (ix2 k ⟨j.val, h⟩) := dif_pos h

theorem beside_hi (a b : Vec Ideal S2048x5632 .bf16) (k : Fin 2048) (j : Fin 11264) (h : ¬j.val < 5632) : beside a b k j = b (ix2 k ⟨j.val - 5632, by omega⟩) := dif_neg h

/-- Entry `k` of quarter `h` of the inner axis. -/
def inner (h : ℕ) (hh : h < 4) (k : Fin 2816) : Fin 11264 := ⟨2816 * h + k.val, by omega⟩

/-- The product. -/
def G (a b : Vec Ideal S2048x5632 .bf16) (w : Vec Ideal S2048x11264 .bf16) (i : S2048x2048.Idx) : EReal :=
  ∑ k : Fin 11264, beside a b (i 0) k * w (ix2 (i 1) k)

/-- A sum over the inner axis is the sum of its four quarters' sums. -/
theorem sum_quarters (f : Fin 11264 → EReal) : ∑ k : Fin 11264, f k =
    (((∑ k : Fin 2816, f (inner 0 (by omega) k)) + ∑ k : Fin 2816, f (inner 1 (by omega) k)) + ∑ k : Fin 2816, f (inner 2 (by omega) k)) + ∑ k : Fin 2816, f (inner 3 (by omega) k) := by
  refine (Fin.sum_univ_add (a := 8448) (b := 2816) f).trans (congrArg₂ (· + ·) ?_ (Finset.sum_congr rfl fun k _ => congrArg f (Fin.ext ?_)))
  · refine (Fin.sum_univ_add (a := 5632) (b := 2816) _).trans (congrArg₂ (· + ·) ?_ (Finset.sum_congr rfl fun k _ => congrArg f (Fin.ext ?_)))
    · refine (Fin.sum_univ_add (a := 2816) (b := 2816) _).trans
        (congrArg₂ (· + ·) (Finset.sum_congr rfl fun k _ => congrArg f (Fin.ext ?_)) (Finset.sum_congr rfl fun k _ => congrArg f (Fin.ext ?_)))
      · show k.val = 2816 * 0 + k.val
        omega
      · show 2816 + k.val = 2816 * 1 + k.val
        omega
    · show 5632 + k.val = 2816 * 2 + k.val
      omega
  · show 8448 + k.val = 2816 * 3 + k.val
    omega

section

variable {m : (ℓ : Loc nD τ sig) → Buf (Elt Ideal) ℓ} {c : Dev nD}

theorem blk0 (t : Fin cfg0.N) (h : t.val % 4 ≤ 1) (p : Fin 1024) (k : Fin 2816) :
    iblk m c 0 t (ix2 p k) = m ((c : Thread nD τ).loc main_arg0) (ix2 (row t p) ⟨2816 * (t.val % 4) + k.val, by omega⟩) := by
  blk_ext [iblk, V, idx0 t h, row]

theorem blk1 (t : Fin cfg0.N) (h : 2 ≤ t.val % 4) (p : Fin 1024) (k : Fin 2816) :
    iblk m c 1 t (ix2 p k) = m ((c : Thread nD τ).loc main_arg1) (ix2 (row t p) ⟨2816 * (t.val % 4 - 2) + k.val, by omega⟩) := by
  blk_ext [iblk, V, idx1 t h, row]

theorem blk2 (t : Fin cfg0.N) (z : Fin 1) (q : Fin 1024) (k : Fin 2816) :
    iblk m c 2 t (ix3 z q k) = m ((c : Thread nD τ).loc main_arg2) (ix2 (col t q) (inner (t.val % 4) (by omega) k)) := by
  have e : (win0_2.blk t).view.emb (ix3 z q k) = ix3 (⟨t.val % 4, by omega⟩ : Fin 4) (col t q) k := by blk_ext [idx t, col]
  blk_simp [iblk]
  rw [e]
  unfold V
  simp only [hostOps0, List.flatten_cons, List.flatten_nil, List.append_nil, List.cons_append, List.nil_append]
  entry_read
  pointwise
  exact congrArg (fun j => m ((c : Thread nD τ).loc main_arg2) (ix2 (col t q) j)) (Fin.ext (by show t.val % 4 * 2816 + k.val = 2816 * (t.val % 4) + k.val; omega))

/-- Quarter `h`'s part of the product. -/
def part (a b : Vec Ideal S2048x5632 .bf16) (w : Vec Ideal S2048x11264 .bf16) (h : ℕ) (hh : h < 4) (p q : Fin 2048) : EReal :=
  ∑ k : Fin 2816, beside a b p (inner h hh k) * w (ix2 q (inner h hh k))

theorem part_congr (a b : Vec Ideal S2048x5632 .bf16) (w : Vec Ideal S2048x11264 .bf16) {h h' : ℕ} {hh : h < 4} {hh' : h' < 4} {p p' q q' : Fin 2048} (e : h = h') (ep : p = p') (eq : q = q') :
    part a b w h hh p q = part a b w h' hh' p' q' := by
  subst e ep eq
  rfl

/-- A quarter's part of the kernel's own arguments. -/
def ownPart (m : (ℓ : Loc nD τ sig) → Buf (Elt Ideal) ℓ) (c : Dev nD) (h : ℕ) (hh : h < 4) (p q : Fin 2048) : EReal :=
  part (m ((c : Thread nD τ).loc main_arg0)) (m ((c : Thread nD τ).loc main_arg1)) (m ((c : Thread nD τ).loc main_arg2)) h hh p q

theorem pointA (t : Fin cfg0.N) (h : t.val % 4 ≤ 1) (p q : Fin 1024) :
    prod (iblk m c 0 t) (iblk m c 2 t) p q = ownPart m c (t.val % 4) (by omega) (row t p) (col t q) := by
  unfold prod ownPart part
  refine Finset.sum_congr rfl fun k _ => congrArg₂ (fun a b : EReal => a * b) ((blk0 t h p k).trans ?_) (blk2 t 0 q k)
  exact (beside_lo _ _ (row t p) (inner (t.val % 4) (by omega) k) (show 2816 * (t.val % 4) + k.val < 5632 by omega)).symm

theorem pointC (t : Fin cfg0.N) (h : 2 ≤ t.val % 4) (p q : Fin 1024) :
    prod (iblk m c 1 t) (iblk m c 2 t) p q = ownPart m c (t.val % 4) (by omega) (row t p) (col t q) := by
  unfold prod ownPart part
  refine Finset.sum_congr rfl fun k _ => congrArg₂ (fun a b : EReal => a * b) ((blk1 t h p k).trans ?_) (blk2 t 0 q k)
  refine Eq.trans ?_ (beside_hi _ _ (row t p) (inner (t.val % 4) (by omega) k) (show ¬2816 * (t.val % 4) + k.val < 5632 by omega)).symm
  exact congrArg (fun j => m ((c : Thread nD τ).loc main_arg1) (ix2 (row t p) j)) (Fin.ext (by show 2816 * (t.val % 4 - 2) + k.val = 2816 * (t.val % 4) + k.val - 5632; omega))

theorem lt_pred (t : Fin cfg0.N) : t.val - 1 < cfg0.N := Nat.lt_of_le_of_lt (Nat.sub_le _ _) t.isLt

/-- The point before. -/
def pred (t : Fin cfg0.N) : Fin cfg0.N := ⟨t.val - 1, lt_pred t⟩

theorem row_pred (t : Fin cfg0.N) (h : t.val % 4 ≠ 0) (p : Fin 1024) : row (pred t) p = row t p :=
  Fin.ext (by show 1024 * ((t.val - 1) / 8) + p.val = 1024 * (t.val / 8) + p.val; omega)

theorem col_pred (t : Fin cfg0.N) (h : t.val % 4 ≠ 0) (q : Fin 1024) : col (pred t) q = col t q :=
  Fin.ext (by show 1024 * ((t.val - 1) / 4 % 2) + q.val = 1024 * (t.val / 4 % 2) + q.val; omega)

/-- The running sum after the first point. -/
theorem accA (t : Fin cfg0.N) (h : t.val % 4 = 0) (p q : Fin 1024) :
    (outsAt0 m c t.val t.isLt).2 (ix2 p q) = ownPart m c 0 (by omega) (row t p) (col t q) := by
  rw [outsAt0_A m c t (by omega) h (by omega) (by omega) (by omega)]
  dsimp only
  rw [outA, pay2]
  exact (pointA t (by omega) p q).trans (part_congr _ _ _ h rfl rfl)

/-- The running sum after the second point. -/
theorem accB (t : Fin cfg0.N) (h : t.val % 4 = 1) (p q : Fin 1024) :
    (outsAt0 m c t.val t.isLt).2 (ix2 p q) = (fun a b : EReal => a + b) (ownPart m c 0 (by omega) (row t p) (col t q)) (ownPart m c 1 (by omega) (row t p) (col t q)) := by
  rw [outsAt0_B m c t (by omega) (by omega) (by omega) (by omega) (by omega)]
  dsimp only
  rw [outB, pay3]
  refine congrArg₂ (fun a b : EReal => a + b) ((accA (pred t) (show (t.val - 1) % 4 = 0 by omega) p q).trans ?_) ((pointA t (by omega) p q).trans (part_congr _ _ _ h rfl rfl))
  rw [row_pred t (by omega), col_pred t (by omega)]

/-- The running sum after the third point. -/
theorem accC (t : Fin cfg0.N) (h : t.val % 4 = 2) (p q : Fin 1024) :
    (outsAt0 m c t.val t.isLt).2 (ix2 p q) = (fun a b d : EReal => a + b + d) (ownPart m c 0 (by omega) (row t p) (col t q)) (ownPart m c 1 (by omega) (row t p) (col t q))
      (ownPart m c 2 (by omega) (row t p) (col t q)) := by
  rw [outsAt0_C m c t (by omega) (by omega) (by omega) (by omega) (by omega)]
  dsimp only
  rw [outC, pay7]
  refine congrArg₂ (fun a b : EReal => a + b) ((accB (pred t) (show (t.val - 1) % 4 = 1 by omega) p q).trans ?_) ((pointC t (by omega) p q).trans (part_congr _ _ _ h rfl rfl))
  rw [row_pred t (by omega), col_pred t (by omega)]

/-- The kernel's result. -/
theorem arr : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p, q, rfl⟩ : ∃ p q, y = ix2 p q := ⟨_, _, eq_ix2 y⟩
  have e : (win0_3.blk t).view.emb (ix2 p q) = ix2 (row t p) (col t q) := by
    blk_ext [idx t, row, col]
  have h := last t hf
  blk_simp
  rw [after0_3, outsAt0_D m c t (by omega) (by omega) (by omega) (by omega) h]
  dsimp only
  rw [outD, pay8]
  refine Eq.trans ?_ (congrArg (G _ _ _) e).symm
  refine Eq.trans ?_ (sum_quarters _).symm
  refine congrArg₂ (fun a b : EReal => a + b) ((accC (pred t) (show (t.val - 1) % 4 = 2 by omega) p q).trans ?_) ((pointC t (by omega) p q).trans (part_congr _ _ _ h rfl rfl))
  rw [row_pred t (by omega), col_pred t (by omega)]
  rfl

end

open Cert.Dh2RefIdeal.Read in
theorem ref_beside (a b : Vec Ideal S2048x5632 .bf16) (k : Fin 2048) (j : Fin 11264) : val_main_v7 (F := Ideal) a b (ix2 k j) = beside a b k j := by
  unfold val_main_v7 beside
  pointwise [val_main_v0, val_main_v1]

open Cert.Dh2RefIdeal.Read in
/-- The reference's result. -/
theorem ref (a b : Vec Ideal S2048x5632 .bf16) (w : Vec Ideal S2048x11264 .bf16) : val_main_v10 (F := Ideal) a b w = G a b w := by
  funext i
  refine (val_main_v10_apply a b w _).trans ?_
  refine Finset.sum_congr rfl fun k _ => ?_
  refine congrArg₂ (· * ·) ((congrArg (val_main_v7 (F := Ideal) a b) ((eq_ix2 _).trans (congrArg₂ ix2 (Fin.ext rfl) (Fin.ext rfl)))).trans (ref_beside a b (i 0) k))
    (congrArg w ((eq_ix2 _).trans (congrArg₂ ix2 (Fin.ext rfl) (Fin.ext rfl))))

end Cert.Dh2Ideal.Mat

namespace Cert.Dh2Claims

open Idealize.ShloMosaic Idealize.SL.Sem

/-- The kernel's frame. -/
theorem frame_kernel : Cert.quiescent_Dh2 (hDh2 := Cert.Dh2.Gen.facts) := fun m ρ _ => Cert.Dh2.Gen.frame m ρ

/-- The idealized kernel's frame. -/
theorem frame_ideal : Cert.quiescent_Dh2Ideal (hDh2Ideal := Cert.Dh2Ideal.Gen.facts) := fun m ρ _ => Cert.Dh2Ideal.Gen.frame m ρ

/-- The reference's frame. -/
theorem frame_ref : Cert.quiescent_Dh2RefIdeal (hDh2RefIdeal := Cert.Dh2RefIdeal.Gen.facts) := fun m ρ _ =>
  (θ_run Cert.Dh2RefIdeal.defs _ _).mono
    (fun r h => ⟨fun c => (h c).2, Idealize.ShloMosaic.sem_eq_zero_of_no_sems (by decide) r.2⟩) (Cert.Dh2RefIdeal.Value.run (F := Ideal) m ρ)

/-- Nothing is rewritten. -/
theorem preserves : Cert.preserves_Dh2_Dh2Ideal := trivial

/-- The kernel's result is the reference's. -/
theorem algebraic : Cert.algebraic_Dh2Ideal_Dh2RefIdeal (hDh2Ideal := Cert.Dh2Ideal.Gen.facts) (hDh2RefIdeal := Cert.Dh2RefIdeal.Gen.facts) := by
  haveI := Cert.Dh2Ideal.Gen.facts
  haveI := Cert.Dh2RefIdeal.Gen.facts
  intro m ρ m' ρ' _ hagree
  refine ⟨_, Cert.Dh2Ideal.Value.run_blocks m ρ, ?_⟩
  refine (θ_run Cert.Dh2RefIdeal.defs _ _).mono (fun _ h c => ⟨(h c).1.trans ?_, (h c).2⟩) (Cert.Dh2RefIdeal.Value.run (F := Ideal) m' ρ')
  obtain ⟨e0, e1, e2⟩ := hagree c
  refine (Cert.Dh2RefIdeal.Read.val_main_v10_eq _ _ _).trans ?_
  exact (congr (congrArg₂ (fun x y w => Cert.Dh2RefIdeal.Read.val_main_v10 (F := Ideal) x y w) e0 e1) e2).trans ((Cert.Dh2Ideal.Mat.ref _ _ _).trans Cert.Dh2Ideal.Mat.arr.symm)

end Cert.Dh2Claims

end
-- ==== Proof.FfnMat.lean ====
/- The feed-forward block's second product, summed over two blocks of its inner axis: the kernel's is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import Idealize.ShloMosaic.Adequacy
public import Idealize.ShloMosaic.Init

@[expose] public section

set_option maxRecDepth 16384

noncomputable section

namespace Cert.FfnIdeal.Mat

open Idealize.ShloMosaic Idealize.ShloMosaic.TcCoe Idealize.SL Idealize.SL.Sem Cert.FfnIdeal.Gen

theorem z2 : (![0, 0] : Fin 2 → Nat) = fun _ => 0 := funext fun a => by fin_cases a <;> rfl

/-- A block's product as a function of its operands. -/
def prod (x : Vec Ideal S1024x2816 .bf16) (y : Vec Ideal S2816x1024 .bf16) (p q : Fin 1024) : EReal :=
  ∑ k : Fin 2816, x (ix2 p k) * y (ix2 k q)

theorem pay1 (x : Vec Ideal S1024x2816 .bf16) (y : Vec Ideal S2816x1024 .bf16) (p q : Fin 1024) : k0_pay1 x y (ix2 p q) = prod x y p q := by
  pointwise [k0_pay1]
  rfl

theorem pay2 (x : Vec Ideal S1024x2816 .bf16) (y : Vec Ideal S2816x1024 .bf16) (p q : Fin 1024) : k0_pay2 x y (ix2 p q) = prod x y p q := by
  unfold k0_pay2
  rw [shapeCast_self]
  exact pay1 x y p q

theorem pay4 (x : Vec Ideal S1024x2816 .bf16) (y : Vec Ideal S2816x1024 .bf16) (a : Vec Ideal S1024x1024 .f32) (p q : Fin 1024) :
    k0_pay4 x y a (ix2 p q) = (fun a b : EReal => a + b) (a (ix2 p q)) (prod x y p q) :=
  congrArg (fun b : EReal => (a (ix2 p q) : EReal) + b) (pay1 x y p q)

/-- What the first point of a sum leaves in the running sum. -/
theorem outA (c : Dev nD) (i : grid0.Coords) (a3) (h3) (a4) (h4) (a5) (h5) (a6) (h6) (hc0 hc1 hc2) (x0 : Vec Ideal S1024x2816 .bf16) (x1 : Vec Ideal S2816x1024 .bf16) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  rw [View.canon_unit_zero (S := S1024x1024) z2]
  simp only [View.readAt_eq_ld, h3.read_unread, h4.read_unread, View.ld_unit_zero (S := S1024x2816) z2, View.ld_unit_zero (S := S2816x1024) z2]

/-- What the last point of a sum leaves in the output's block. -/
theorem outB (c : Dev nD) (i : grid0.Coords) (a3) (h3) (a4) (h4) (a5) (h5) (a6) (h6) (hc0 hc1 hc2) (x0 : Vec Ideal S1024x2816 .bf16) (x1 : Vec Ideal S2816x1024 .bf16)
    (s : Vec Ideal S1024x1024 .f32) :
    out0_B_2 c i a3 h3 a4 h4 a5 h5 a6 h6 hc0 hc1 hc2 x0 x1 s = k0_pay4 x0 x1 s := by
  unfold out0_B_2
  rw [View.read_writes_junk_eq_canon]
  unfold kernelRun0_B
  dsimp only
  sl_unfold_words
  rw [View.canon_unit_zero (S := S1024x1024) z2]
  simp only [View.readAt_eq_ld, h3.read_unread, h4.read_unread, h6.read_unread, View.ld_unit_zero (S := S1024x2816) z2, View.ld_unit_zero (S := S2816x1024) z2,
    View.ld_unit_zero (S := S1024x1024) z2]

theorem lt8 (t : Fin cfg0.N) : t.val < 8 := lt_of_lt_of_eq t.isLt (show cfg0.N = 8 from N_0)

theorem idx : ∀ t : Fin cfg0.N, win0_0.index t = ![t.val / 4, t.val % 2] ∧ win0_1.index t = ![t.val % 2, t.val / 2 % 2] ∧ win0_2.index t = ![t.val / 4, t.val / 2 % 2] := by
  decide +kernel

theorem last : ∀ t : Fin cfg0.N, (cfg0.win 2).flush t = true → t.val % 2 = 1 := by
  decide +kernel

/-- Row `p` of a point's block. -/
def row (t : Fin cfg0.N) (p : Fin 1024) : Fin 2048 := ⟨1024 * (t.val / 4) + p.val, by have := lt8 t; omega⟩

/-- Column `q` of a point's block. -/
def col (t : Fin cfg0.N) (q : Fin 1024) : Fin 2048 := ⟨1024 * (t.val / 2 % 2) + q.val, by omega⟩

/-- Entry `k` of half `h` of the inner axis. -/
def inner (h : ℕ) (hh : h < 2) (k : Fin 2816) : Fin 5632 := ⟨2816 * h + k.val, by omega⟩

/-- The product. -/
def G (x : Vec Ideal S2048x5632 .bf16) (y : Vec Ideal S5632x2048 .bf16) (i : S2048x2048.Idx) : EReal :=
  ∑ k : Fin 5632, x (ix2 (i 0) k) * y (ix2 k (i 1))

/-- A sum over the inner axis is the sum of its two halves' sums. -/
theorem sum_halves (f : Fin 5632 → EReal) : ∑ k : Fin 5632, f k = (∑ k : Fin 2816, f (inner 0 (by omega) k)) + ∑ k : Fin 2816, f (inner 1 (by omega) k) := by
  refine (Fin.sum_univ_add (a := 2816) (b := 2816) f).trans ?_
  refine congrArg₂ (· + ·) (Finset.sum_congr rfl fun k _ => congrArg f (Fin.ext ?_)) (Finset.sum_congr rfl fun k _ => congrArg f (Fin.ext ?_))
  · show k.val = 2816 * 0 + k.val
    omega
  · show 2816 + k.val = 2816 * 1 + k.val
    omega

section

variable {m : (ℓ : Loc nD τ sig) → Buf (Elt Ideal) ℓ} {c : Dev nD}

theorem blk0 (t : Fin cfg0.N) (p : Fin 1024) (k : Fin 2816) :
    iblk m c 0 t (ix2 p k) = m ((c : Thread nD τ).loc main_arg0) (ix2 (row t p) (inner (t.val % 2) (by omega) k)) := by
  blk_ext [iblk, V, idx t, row, inner]

theorem blk1 (t : Fin cfg0.N) (k : Fin 2816) (q : Fin 1024) :
    iblk m c 1 t (ix2 k q) = m ((c : Thread nD τ).loc main_arg1) (ix2 (inner (t.val % 2) (by omega) k) (col t q)) := by
  blk_ext [iblk, V, idx t, col, inner]

/-- Half `h`'s part of the product. -/
def part (x : Vec Ideal S2048x5632 .bf16) (y : Vec Ideal S5632x2048 .bf16) (h : ℕ) (hh : h < 2) (p q : Fin 2048) : EReal :=
  ∑ k : Fin 2816, x (ix2 p (inner h hh k)) * y (ix2 (inner h hh k) q)

theorem point (t : Fin cfg0.N) (p q : Fin 1024) :
    prod (iblk m c 0 t) (iblk m c 1 t) p q = part (m ((c : Thread nD τ).loc main_arg0)) (m ((c : Thread nD τ).loc main_arg1)) (t.val % 2) (by omega) (row t p) (col t q) :=
  Finset.sum_congr rfl fun k _ => congrArg₂ (fun a b : EReal => a * b) (blk0 t p k) (blk1 t k q)

theorem part_congr (x : Vec Ideal S2048x5632 .bf16) (y : Vec Ideal S5632x2048 .bf16) {h h' : ℕ} {hh : h < 2} {hh' : h' < 2} {p p' q q' : Fin 2048} (e : h = h') (ep : p = p') (eq : q = q') :
    part x y h hh p q = part x y h' hh' p' q' := by
  subst e ep eq
  rfl

/-- The running sum after the first point. -/
theorem acc (t : Fin cfg0.N) (h : t.val % 2 = 0) (p q : Fin 1024) :
    (outsAt0 m c t.val t.isLt).2 (ix2 p q) = part (m ((c : Thread nD τ).loc main_arg0)) (m ((c : Thread nD τ).loc main_arg1)) (t.val % 2) (by omega) (row t p) (col t q) := by
  rw [outsAt0_A m c t h (by omega)]
  dsimp only
  rw [outA, pay2]
  exact point t p q

/-- The kernel's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨p, q, rfl⟩ : ∃ p q, y = ix2 p q := ⟨_, _, eq_ix2 y⟩
  have e : (win0_2.blk t).view.emb (ix2 p q) = ix2 (row t p) (col t q) := by
    blk_ext [idx t, row, col]
  have ht := last t hf
  have hl : t.val - 1 < cfg0.N := Nat.lt_of_le_of_lt (Nat.sub_le _ _) t.isLt
  have hp : ((⟨t.val - 1, hl⟩ : Fin cfg0.N).val) % 2 = 0 := by show (t.val - 1) % 2 = 0; omega
  blk_simp
  rw [after0_2, outsAt0_B m c t (by omega) ht]
  dsimp only
  rw [outB, pay4]
  refine Eq.trans ?_ (congrArg (G _ _) e).symm
  refine Eq.trans ?_ (sum_halves _).symm
  refine congrArg₂ (fun a b : EReal => a + b) ((acc ⟨t.val - 1, hl⟩ hp p q).trans ?_) ((point t p q).trans ?_)
  · refine part_congr _ _ hp (Fin.ext ?_) (Fin.ext ?_)
    · show 1024 * ((t.val - 1) / 4) + p.val = 1024 * (t.val / 4) + p.val
      omega
    · show 1024 * ((t.val - 1) / 2 % 2) + q.val = 1024 * (t.val / 2 % 2) + q.val
      omega
  · exact part_congr _ _ ht rfl rfl

end

open Cert.FfnRefIdeal.Read in
/-- The reference's result. -/
theorem ref (x : Vec Ideal S2048x5632 .bf16) (y : Vec Ideal S5632x2048 .bf16) : val_main_v2 (F := Ideal) x y = G x y := by
  funext i
  refine (val_main_v2_apply x y _).trans ?_
  refine Finset.sum_congr rfl fun k _ => ?_
  refine congrArg₂ (· * ·) (congrArg x ((eq_ix2 _).trans (congrArg₂ ix2 (Fin.ext rfl) (Fin.ext rfl))))
    (congrArg y ((eq_ix2 _).trans (congrArg₂ ix2 (Fin.ext rfl) (Fin.ext rfl))))

end Cert.FfnIdeal.Mat

namespace Cert.FfnClaims

open Idealize.ShloMosaic Idealize.SL.Sem

/-- The kernel's frame. -/
theorem frame_kernel : Cert.quiescent_Ffn (hFfn := Cert.Ffn.Gen.facts) := fun m ρ _ => Cert.Ffn.Gen.frame m ρ

/-- The idealized kernel's frame. -/
theorem frame_ideal : Cert.quiescent_FfnIdeal (hFfnIdeal := Cert.FfnIdeal.Gen.facts) := fun m ρ _ => Cert.FfnIdeal.Gen.frame m ρ

/-- The reference's frame. -/
theorem frame_ref : Cert.quiescent_FfnRefIdeal (hFfnRefIdeal := Cert.FfnRefIdeal.Gen.facts) := fun m ρ _ =>
  (θ_run Cert.FfnRefIdeal.defs _ _).mono
    (fun r h => ⟨fun c => (h c).2, Idealize.ShloMosaic.sem_eq_zero_of_no_sems (by decide) r.2⟩) (Cert.FfnRefIdeal.Value.run (F := Ideal) m ρ)

/-- Nothing is rewritten. -/
theorem preserves : Cert.preserves_Ffn_FfnIdeal := trivial

/-- The kernel's result is the reference's. -/
theorem algebraic : Cert.algebraic_FfnIdeal_FfnRefIdeal (hFfnIdeal := Cert.FfnIdeal.Gen.facts) (hFfnRefIdeal := Cert.FfnRefIdeal.Gen.facts) := by
  haveI := Cert.FfnIdeal.Gen.facts
  haveI := Cert.FfnRefIdeal.Gen.facts
  intro m ρ m' ρ' _ hagree
  refine ⟨_, Cert.FfnIdeal.Value.run_blocks m ρ, ?_⟩
  refine (θ_run Cert.FfnRefIdeal.defs _ _).mono (fun _ h c => ⟨(h c).1.trans ?_, (h c).2⟩) (Cert.FfnRefIdeal.Value.run (F := Ideal) m' ρ')
  obtain ⟨e0, e1⟩ := hagree c
  refine (Cert.FfnRefIdeal.Read.val_main_v2_eq _ _).trans ?_
  exact (congrArg₂ (fun x y => Cert.FfnRefIdeal.Read.val_main_v2 (F := Ideal) x y) e0 e1).trans ((Cert.FfnIdeal.Mat.ref _ _).trans Cert.FfnIdeal.Mat.arr.symm)

end Cert.FfnClaims

end
-- ==== Proof.GfiMat.lean ====
/- The gradient of the gated feed-forward block's first weight: the kernel's product is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Gfi.Frame
public import proofs.«01_k».proof.Proof.Gen.GfiIdeal.Value
public import proofs.«01_k».proof.Proof.Gen.GfiRefIdeal.Run
public import proofs.«01_k».proof.Proof.Gen.GfiRefIdeal.Read
public import Idealize.ShloMosaic.Adequacy
public import Idealize.ShloMosaic.Init

@[expose] public section

set_option maxRecDepth 16384

noncomputable section

namespace Cert.GfiIdeal.Mat

open Idealize.ShloMosaic Idealize.ShloMosaic.TcCoe Idealize.SL Idealize.SL.Sem Cert.GfiIdeal.Gen

theorem z2 : (![0, 0] : Fin 2 → Nat) = fun _ => 0 := funext fun a => by fin_cases a <;> rfl
theorem z3 : (![0, 0, 0] : Fin 3 → Nat) = fun _ => 0 := funext fun a => by fin_cases a <;> rfl

/-- A block's product as a function of its operands. -/
def prod (x : Vec Ideal S2048x1024 .bf16) (y : Vec Ideal S2048x1408 .bf16) (p : Fin 1024) (q : Fin 1408) : EReal :=
  ∑ k : Fin 2048, x (ix2 k p) * y (ix2 k q)

theorem pay1 (x : Vec Ideal S2048x1024 .bf16) (y : Vec Ideal S2048x1408 .bf16) (z : Fin 1) (p : Fin 1024) (q : Fin 1408) :
    k0_pay1 x y (ix3 z p q) = prod x y p q := by
  pointwise [k0_pay1]
  rfl

theorem pay2 (x : Vec Ideal S2048x1024 .bf16) (y : Vec Ideal S2048x1408 .bf16) (z : Fin 1) (p : Fin 1024) (q : Fin 1408) :
    k0_pay2 x y (ix3 z p q) = prod x y p q := by
  pointwise [k0_pay2]
  rfl

/-- What a point of the first half leaves in the output's block. -/
theorem outA (c : Dev nD) (i : grid0.Coords) (a3) (h3) (a4) (h4) (a5) (h5) (a6) (h6) (hc0 hc1) (x0 x1 : Vec Ideal S2048x1408 .bf16) (x2 : Vec Ideal S2048x1024 .bf16) :
    out0_A_3 c i a3 h3 a4 h4 a5 h5 a6 h6 hc0 hc1 x0 x1 x2 = k0_pay1 x2 x0 := by
  unfold out0_A_3
  rw [View.read_writes_junk_eq_canon]
  unfold kernelRun0_A
  dsimp only
  rw [View.canon_unit_zero (S := S1x1024x1408) z3]
  simp only [View.readAt_eq_ld, h3.read_unread, h5.read_unread, View.ld_unit_zero (S := S2048x1024) z2, View.ld_unit_zero (S := S2048x1408) z2]

/-- What a point of the second half leaves in the output's block. -/
theorem outB (c : Dev nD) (i : grid0.Coords) (a3) (h3) (a4) (h4) (a5) (h5) (a6) (h6) (hc0 hc1) (x0 x1 : Vec Ideal S2048x1408 .bf16) (x2 : Vec Ideal S2048x1024 .bf16) :
    out0_B_3 c i a3 h3 a4 h4 a5 h5 a6 h6 hc0 hc1 x0 x1 x2 = k0_pay2 x2 x1 := by
  unfold out0_B_3
  rw [View.read_writes_junk_eq_canon]
  unfold kernelRun0_B
  dsimp only
  rw [View.canon_unit_zero (S := S1x1024x1408) z3]
  simp only [View.readAt_eq_ld, h4.read_unread, h5.read_unread, View.ld_unit_zero (S := S2048x1024) z2, View.ld_unit_zero (S := S2048x1408) z2]

theorem lt16 (t : Fin cfg0.N) : t.val < 16 := lt_of_lt_of_eq t.isLt (show cfg0.N = 16 from N_0)

theorem idx : ∀ t : Fin cfg0.N, win0_2.index t = ![0, t.val / 8] ∧ win0_3.index t = ![t.val % 8 / 2, t.val / 8, t.val % 2] := by
  decide +kernel

theorem idx0 : ∀ t : Fin cfg0.N, t.val % 8 ≤ 3 → win0_0.index t = ![0, t.val % 8] := by
  decide +kernel

theorem idx1 : ∀ t : Fin cfg0.N, 4 ≤ t.val % 8 → win0_1.index t = ![0, t.val % 8 - 4] := by
  decide +kernel

/-- Row `p` of a point's block. -/
def row (t : Fin cfg0.N) (p : Fin 1024) : Fin 2048 := ⟨1024 * (t.val / 8) + p.val, by have := lt16 t; omega⟩

/-- Two matrices side by side. -/
def beside (a b : Vec Ideal S2048x5632 .bf16) (k : Fin 2048) (j : Fin 11264) : EReal :=
  if h : j.val < 5632 then a (ix2 k ⟨j.val, h⟩) else b (ix2 k ⟨j.val - 5632, by omega⟩)

theorem beside_lo (a b : Vec Ideal S2048x5632 .bf16) (k : Fin 2048) (j : Fin 11264) (h : j.val < 5632) : beside a b k j = a (ix2 k ⟨j.val, h⟩) := dif_pos h

theorem beside_hi (a b : Vec Ideal S2048x5632 .bf16) (k : Fin 2048) (j : Fin 11264) (h : ¬j.val < 5632) : beside a b k j = b (ix2 k ⟨j.val - 5632, by omega⟩) := dif_neg h

/-- Column `q` of slot `s`. -/
def slot (s : Fin 4) (q : Fin 2816) : Fin 11264 := ⟨2816 * s.val + q.val, by omega⟩

/-- The product, with its columns cut into four slots. -/
def G (x : Vec Ideal S2048x2048 .bf16) (a b : Vec Ideal S2048x5632 .bf16) (i : S4x2048x2816.Idx) : EReal :=
  ∑ k : Fin 2048, x (ix2 k (i 1)) * beside a b k (slot (i 0) (i 2))

section

variable {m : (ℓ : Loc nD τ sig) → Buf (Elt Ideal) ℓ} {c : Dev nD}

theorem blk2 (t : Fin cfg0.N) (k : Fin 2048) (p : Fin 1024) : iblk m c 2 t (ix2 k p) = m ((c : Thread nD τ).loc main_arg0) (ix2 k (row t p)) := by
  blk_ext [iblk, V, idx t, row]

theorem blk0 (t : Fin cfg0.N) (h : t.val % 8 ≤ 3) (k : Fin 2048) (q : Fin 1408) :
    iblk m c 0 t (ix2 k q) = m ((c : Thread nD τ).loc main_arg1) (ix2 k ⟨1408 * (t.val % 8) + q.val, by omega⟩) := by
  blk_ext [iblk, V, idx0 t h]

theorem blk1 (t : Fin cfg0.N) (h : 4 ≤ t.val % 8) (k : Fin 2048) (q : Fin 1408) :
    iblk m c 1 t (ix2 k q) = m ((c : Thread nD τ).loc main_arg2) (ix2 k ⟨1408 * (t.val % 8 - 4) + q.val, by omega⟩) := by
  blk_ext [iblk, V, idx1 t h]

/-- The place of a point's entry in the result. -/
def at3 (t : Fin cfg0.N) (p : Fin 1024) (q : Fin 1408) : S4x2048x2816.Idx :=
  ix3 (⟨t.val % 8 / 2, by omega⟩ : Fin 4) (row t p) (⟨1408 * (t.val % 2) + q.val, by omega⟩ : Fin 2816)

theorem slot_eq (t : Fin cfg0.N) (q : Fin 1408) :
    slot (⟨t.val % 8 / 2, by omega⟩ : Fin 4) (⟨1408 * (t.val % 2) + q.val, by omega⟩ : Fin 2816) = ⟨1408 * (t.val % 8) + q.val, by omega⟩ :=
  Fin.ext (by show 2816 * (t.val % 8 / 2) + (1408 * (t.val % 2) + q.val) = 1408 * (t.val % 8) + q.val; omega)

theorem pointA (t : Fin cfg0.N) (h : t.val % 8 ≤ 3) (p : Fin 1024) (q : Fin 1408) :
    prod (iblk m c 2 t) (iblk m c 0 t) p q = G (m ((c : Thread nD τ).loc main_arg0)) (m ((c : Thread nD τ).loc main_arg1)) (m ((c : Thread nD τ).loc main_arg2)) (at3 t p q) := by
  refine Finset.sum_congr rfl fun k _ => congrArg₂ (fun a b : EReal => a * b) (blk2 t k p) ((blk0 t h k q).trans ?_)
  refine Eq.trans ?_ (congrArg (beside _ _ k) (slot_eq t q)).symm
  exact (beside_lo _ _ k (⟨1408 * (t.val % 8) + q.val, by omega⟩ : Fin 11264) (show 1408 * (t.val % 8) + q.val < 5632 by omega)).symm

theorem pointB (t : Fin cfg0.N) (h : 4 ≤ t.val % 8) (p : Fin 1024) (q : Fin 1408) :
    prod (iblk m c 2 t) (iblk m c 1 t) p q = G (m ((c : Thread nD τ).loc main_arg0)) (m ((c : Thread nD τ).loc main_arg1)) (m ((c : Thread nD τ).loc main_arg2)) (at3 t p q) := by
  refine Finset.sum_congr rfl fun k _ => congrArg₂ (fun a b : EReal => a * b) (blk2 t k p) ((blk1 t h k q).trans ?_)
  refine Eq.trans ?_ (congrArg (beside _ _ k) (slot_eq t q)).symm
  refine Eq.trans ?_ (beside_hi _ _ k (⟨1408 * (t.val % 8) + q.val, by omega⟩ : Fin 11264) (show ¬1408 * (t.val % 8) + q.val < 5632 by omega)).symm
  exact congrArg (fun j => m ((c : Thread nD τ).loc main_arg2) (ix2 k j)) (Fin.ext (by show 1408 * (t.val % 8 - 4) + q.val = 1408 * (t.val % 8) + q.val - 5632; omega))

/-- The kernel's result. -/
theorem arr : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨z, p, q, rfl⟩ : ∃ z p q, y = ix3 z p q := ⟨_, _, _, eq_ix3 y⟩
  have e : (win0_3.blk t).view.emb (ix3 z p q) = at3 t p q := by
    blk_ext [idx t, row, at3]
  blk_simp
  rw [after0_3]
  by_cases h : t.val % 8 ≤ 3
  · rw [outsAt0_A m c t h (by omega), outA, pay1]
    exact (pointA t h p q).trans (congrArg (G _ _ _) e).symm
  · rw [outsAt0_B m c t h (by omega), outB, pay2]
    exact (pointB t (by omega) p q).trans (congrArg (G _ _ _) e).symm

end

open Cert.GfiRefIdeal.Read in
theorem ref_beside (a b : Vec Ideal S2048x5632 .bf16) (k : Fin 2048) (j : Fin 11264) : val_main_v7 (F := Ideal) a b (ix2 k j) = beside a b k j := by
  unfold val_main_v7 beside
  pointwise [val_main_v0, val_main_v1]

open Cert.GfiRefIdeal.Read in
/-- The reference's result. -/
theorem ref (x : Vec Ideal S2048x2048 .bf16) (a b : Vec Ideal S2048x5632 .bf16) : val_main_v13 (F := Ideal) x a b = G x a b := by
  funext i
  obtain ⟨s, p, q, rfl⟩ : ∃ s p q, i = ix3 s p q := ⟨_, _, _, eq_ix3 i⟩
  refine (val_main_v12_apply x a b _).trans ?_
  rw [val_main_v11_apply, val_main_v9_apply, val_main_v8_apply]
  refine Finset.sum_congr rfl fun k _ => (mul_comm _ _).trans ?_
  refine congrArg₂ (· * ·) (congrArg x ((eq_ix2 _).trans (congrArg₂ ix2 (Fin.ext rfl) (Fin.ext ?_))))
    ((congrArg (val_main_v7 (F := Ideal) a b) ((eq_ix2 _).trans (congrArg₂ ix2 (Fin.ext rfl) (Fin.ext ?_)))).trans (ref_beside a b k (slot s q)))
  · show ((p.val * 4 + s.val) * 2816 + q.val) / 11264 = p.val
    omega
  · show ((p.val * 4 + s.val) * 2816 + q.val) % 11264 = 2816 * s.val + q.val
    omega

end Cert.GfiIdeal.Mat

namespace Cert.GfiClaims

open Idealize.ShloMosaic Idealize.SL.Sem

/-- The kernel's frame. -/
theorem frame_kernel : Cert.quiescent_Gfi (hGfi := Cert.Gfi.Gen.facts) := fun m ρ _ => Cert.Gfi.Gen.frame m ρ

/-- The idealized kernel's frame. -/
theorem frame_ideal : Cert.quiescent_GfiIdeal (hGfiIdeal := Cert.GfiIdeal.Gen.facts) := fun m ρ _ => Cert.GfiIdeal.Gen.frame m ρ

/-- The reference's frame. -/
theorem frame_ref : Cert.quiescent_GfiRefIdeal (hGfiRefIdeal := Cert.GfiRefIdeal.Gen.facts) := fun m ρ _ =>
  (θ_run Cert.GfiRefIdeal.defs _ _).mono
    (fun r h => ⟨fun c => (h c).2, Idealize.ShloMosaic.sem_eq_zero_of_no_sems (by decide) r.2⟩) (Cert.GfiRefIdeal.Value.run (F := Ideal) m ρ)

/-- Nothing is rewritten. -/
theorem preserves : Cert.preserves_Gfi_GfiIdeal := trivial

/-- The kernel's result is the reference's. -/
theorem algebraic : Cert.algebraic_GfiIdeal_GfiRefIdeal (hGfiIdeal := Cert.GfiIdeal.Gen.facts) (hGfiRefIdeal := Cert.GfiRefIdeal.Gen.facts) := by
  haveI := Cert.GfiIdeal.Gen.facts
  haveI := Cert.GfiRefIdeal.Gen.facts
  intro m ρ m' ρ' _ hagree
  refine ⟨_, Cert.GfiIdeal.Value.run_blocks m ρ, ?_⟩
  refine (θ_run Cert.GfiRefIdeal.defs _ _).mono (fun _ h c => ⟨(h c).1.trans ?_, (h c).2⟩) (Cert.GfiRefIdeal.Value.run (F := Ideal) m' ρ')
  obtain ⟨e0, e1, e2⟩ := hagree c
  refine (Cert.GfiRefIdeal.Read.val_main_v13_eq _ _ _).trans ?_
  exact (congr (congrArg₂ (fun x y w => Cert.GfiRefIdeal.Read.val_main_v13 (F := Ideal) x y w) e0 e1) e2).trans ((Cert.GfiIdeal.Mat.ref _ _ _).trans Cert.GfiIdeal.Mat.arr.symm)

end Cert.GfiClaims

end
-- ==== Proof.GfoMat.lean ====
/- The gradient of the feed-forward block's second weight: the kernel's product is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Gfo.Frame
public import proofs.«01_k».proof.Proof.Gen.GfoIdeal.Value
public import proofs.«01_k».proof.Proof.Gen.GfoRefIdeal.Run
public import proofs.«01_k».proof.Proof.Gen.GfoRefIdeal.Read
public import Idealize.ShloMosaic.Adequacy
public import Idealize.ShloMosaic.Init

@[expose] public section

set_option maxRecDepth 16384

noncomputable section

namespace Cert.GfoIdeal.Mat

open Idealize.ShloMosaic Idealize.ShloMosaic.TcCoe Idealize.SL Idealize.SL.Sem Cert.GfoIdeal.Gen

/-- A block's product as a function of its operands. -/
def prod (x : Vec Ideal S2048x1408 .bf16) (y : Vec Ideal S2048x1024 .bf16) (p : Fin 1408) (q : Fin 1024) : EReal :=
  ∑ k : Fin 2048, x (ix2 k p) * y (ix2 k q)

/-- A block's product. -/
theorem pay (x : Vec Ideal S2048x1408 .bf16) (y : Vec Ideal S2048x1024 .bf16) (p : Fin 1408) (q : Fin 1024) :
    k0_pay1 x y (ix2 p q) = prod x y p q := by
  pointwise [k0_pay1]
  rfl

/-- What a point leaves in the output's block. -/
theorem out (x : Vec Ideal S2048x1408 .bf16) (y : Vec Ideal S2048x1024 .bf16) (p : Fin 1408) (q : Fin 1024) :
    out0_2 x y (ix2 p q) = prod x y p q := by
  unfold out0_2
  rw [View.canon_unit_zero (S := S1408x1024) (funext fun a => by fin_cases a <;> rfl), View.ld_unit_zero (S := S2048x1408) (funext fun a => by fin_cases a <;> rfl),
    View.ld_unit_zero (S := S2048x1024) (funext fun a => by fin_cases a <;> rfl)]
  exact pay x y p q

theorem ltN (t : Fin cfg0.N) : t.val < 8 := lt_of_lt_of_eq t.isLt (show cfg0.N = 8 from N_0)

theorem idx : ∀ t : Fin cfg0.N, win0_0.index t = ![0, t.val / 2] ∧ win0_1.index t = ![0, t.val % 2] ∧ win0_2.index t = ![t.val / 2, t.val % 2] := by
  decide +kernel

/-- Row `p` of a point's block. -/
def row (t : Fin cfg0.N) (p : Fin 1408) : Fin 5632 := ⟨1408 * (t.val / 2) + p.val, by have := ltN t; omega⟩

/-- Column `q` of a point's block. -/
def col (t : Fin cfg0.N) (q : Fin 1024) : Fin 2048 := ⟨1024 * (t.val % 2) + q.val, by omega⟩

section

variable {m : (ℓ : Loc nD τ sig) → Buf (Elt Ideal) ℓ} {c : Dev nD}

theorem blk0 (t : Fin cfg0.N) (k : Fin 2048) (p : Fin 1408) : iblk m c 0 t (ix2 k p) = m ((c : Thread nD τ).loc main_arg0) (ix2 k (row t p)) := by
  blk_ext [iblk, V, idx t, row]

theorem blk1 (t : Fin cfg0.N) (k : Fin 2048) (q : Fin 1024) : iblk m c 1 t (ix2 k q) = m ((c : Thread nD τ).loc main_arg1) (ix2 k (col t q)) := by
  blk_ext [iblk, V, idx t, col]

/-- The product. -/
def G (x : Vec Ideal S2048x5632 .bf16) (y : Vec Ideal S2048x2048 .bf16) (i : S5632x2048.Idx) : EReal :=
  ∑ k : Fin 2048, x (ix2 k (i 0)) * y (ix2 k (i 1))

theorem point (t : Fin cfg0.N) (p : Fin 1408) (q : Fin 1024) :
    prod (iblk m c 0 t) (iblk m c 1 t) p q = G (m ((c : Thread nD τ).loc main_arg0)) (m ((c : Thread nD τ).loc main_arg1)) (ix2 (row t p) (col t q)) :=
  Finset.sum_congr rfl fun k _ => congrArg₂ (fun a b : EReal => a * b) (blk0 t k p) (blk1 t k q)

/-- The kernel's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨p, q, rfl⟩ : ∃ p q, y = ix2 p q := ⟨_, _, eq_ix2 y⟩
  have e : (win0_2.blk t).view.emb (ix2 p q) = ix2 (row t p) (col t q) := by
    blk_ext [idx t, row, col]
  blk_simp
  rw [after0_2, out]
  exact (point t p q).trans (congrArg (G _ _) e).symm

end

open Cert.GfoRefIdeal.Read in
/-- The reference's result. -/
theorem ref (x : Vec Ideal S2048x5632 .bf16) (y : Vec Ideal S2048x2048 .bf16) : val_main_v7 (F := Ideal) x y = G x y := by
  funext i
  refine (val_main_v5_apply x y _).trans ?_
  rw [val_main_v4_apply]
  refine Finset.sum_congr rfl fun k _ => (mul_comm _ _).trans ?_
  refine congrArg₂ (· * ·) (congrArg x ((eq_ix2 _).trans (congrArg₂ ix2 (Fin.ext rfl) (Fin.ext rfl))))
    (congrArg y ((eq_ix2 _).trans (congrArg₂ ix2 (Fin.ext rfl) (Fin.ext rfl))))

end Cert.GfoIdeal.Mat

namespace Cert.GfoClaims

open Idealize.ShloMosaic Idealize.SL.Sem

/-- The kernel's frame. -/
theorem frame_kernel : Cert.quiescent_Gfo (hGfo := Cert.Gfo.Gen.facts) := fun m ρ _ => Cert.Gfo.Gen.frame m ρ

/-- The idealized kernel's frame. -/
theorem frame_ideal : Cert.quiescent_GfoIdeal (hGfoIdeal := Cert.GfoIdeal.Gen.facts) := fun m ρ _ => Cert.GfoIdeal.Gen.frame m ρ

/-- The reference's frame. -/
theorem frame_ref : Cert.quiescent_GfoRefIdeal (hGfoRefIdeal := Cert.GfoRefIdeal.Gen.facts) := fun m ρ _ =>
  (θ_run Cert.GfoRefIdeal.defs _ _).mono
    (fun r h => ⟨fun c => (h c).2, Idealize.ShloMosaic.sem_eq_zero_of_no_sems (by decide) r.2⟩) (Cert.GfoRefIdeal.Value.run (F := Ideal) m ρ)

/-- Nothing is rewritten. -/
theorem preserves : Cert.preserves_Gfo_GfoIdeal := trivial

/-- The kernel's result is the reference's. -/
theorem algebraic : Cert.algebraic_GfoIdeal_GfoRefIdeal (hGfoIdeal := Cert.GfoIdeal.Gen.facts) (hGfoRefIdeal := Cert.GfoRefIdeal.Gen.facts) := by
  haveI := Cert.GfoIdeal.Gen.facts
  haveI := Cert.GfoRefIdeal.Gen.facts
  intro m ρ m' ρ' _ hagree
  refine ⟨_, Cert.GfoIdeal.Value.run_blocks m ρ, ?_⟩
  refine (θ_run Cert.GfoRefIdeal.defs _ _).mono (fun _ h c => ⟨(h c).1.trans ?_, (h c).2⟩) (Cert.GfoRefIdeal.Value.run (F := Ideal) m' ρ')
  obtain ⟨e0, e1⟩ := hagree c
  refine (Cert.GfoRefIdeal.Read.val_main_v7_eq _ _).trans ?_
  exact (congrArg₂ (fun x y => Cert.GfoRefIdeal.Read.val_main_v7 (F := Ideal) x y) e0 e1).trans ((Cert.GfoIdeal.Mat.ref _ _).trans Cert.GfoIdeal.Mat.arr.symm)

end Cert.GfoClaims

end
-- ==== Proof.GinMat.lean ====
/- The gradient of the input projection's weight: the kernel's product, laid out in four column slots, is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Gin.Frame
public import proofs.«01_k».proof.Proof.Gen.GinIdeal.Value
public import proofs.«01_k».proof.Proof.Gen.GinRefIdeal.Run
public import proofs.«01_k».proof.Proof.Gen.GinRefIdeal.Read
public import Idealize.ShloMosaic.Adequacy
public import Idealize.ShloMosaic.Init

@[expose] public section

set_option maxRecDepth 16384

noncomputable section

namespace Cert.GinIdeal.Mat

open Idealize.ShloMosaic Idealize.ShloMosaic.TcCoe Idealize.SL Idealize.SL.Sem Cert.GinIdeal.Gen

/-- A block's product. -/
theorem pay (x : Vec Ideal S2048x1024 .bf16) (y : Vec Ideal S2048x1280 .bf16) (z : Fin 1) (p : Fin 1024) (q : Fin 1280) :
    k0_pay1 x y (ix3 z p q) = ∑ k : Fin 2048, x (ix2 k p) * y (ix2 k q) := by
  pointwise [k0_pay1]

/-- A block's product as a function of its operands. -/
def prod (x : Vec Ideal S2048x1024 .bf16) (y : Vec Ideal S2048x1280 .bf16) (p : Fin 1024) (q : Fin 1280) : EReal :=
  ∑ k : Fin 2048, x (ix2 k p) * y (ix2 k q)

/-- What a point leaves in the output's block. -/
theorem out (x : Vec Ideal S2048x1024 .bf16) (y : Vec Ideal S2048x1280 .bf16) (z : Fin 1) (p : Fin 1024) (q : Fin 1280) :
    out0_2 x y (ix3 z p q) = prod x y p q := by
  unfold out0_2
  rw [View.canon_unit_zero (S := S1x1024x1280) (funext fun a => by fin_cases a <;> rfl), View.ld_unit_zero (S := S2048x1024) (funext fun a => by fin_cases a <;> rfl),
    View.ld_unit_zero (S := S2048x1280) (funext fun a => by fin_cases a <;> rfl)]
  exact pay x y z p q

theorem lt16 (t : Fin cfg0.N) : t.val < 16 := lt_of_lt_of_eq t.isLt (show cfg0.N = 16 from N_0)

theorem idx : ∀ t : Fin cfg0.N, win0_0.index t = ![0, t.val / 8] ∧ win0_1.index t = ![0, t.val % 8] ∧ win0_2.index t = ![t.val % 8 / 2, t.val / 8, t.val % 2] := by
  decide +kernel

/-- Row `p` of a point's block. -/
def row (t : Fin cfg0.N) (p : Fin 1024) : Fin 2048 := ⟨1024 * (t.val / 8) + p.val, by have := lt16 t; omega⟩

/-- Column `q` of a point's block. -/
def col (t : Fin cfg0.N) (q : Fin 1280) : Fin 10240 := ⟨1280 * (t.val % 8) + q.val, by omega⟩

/-- Column `q` of slot `s`. -/
def slot (s : Fin 4) (q : Fin 2560) : Fin 10240 := ⟨2560 * s.val + q.val, by omega⟩

section

variable {m : (ℓ : Loc nD τ sig) → Buf (Elt Ideal) ℓ} {c : Dev nD}

theorem blk0 (t : Fin cfg0.N) (k : Fin 2048) (p : Fin 1024) : iblk m c 0 t (ix2 k p) = m ((c : Thread nD τ).loc main_arg0) (ix2 k (row t p)) := by
  blk_ext [iblk, V, idx t, row]

theorem blk1 (t : Fin cfg0.N) (k : Fin 2048) (q : Fin 1280) : iblk m c 1 t (ix2 k q) = m ((c : Thread nD τ).loc main_arg1) (ix2 k (col t q)) := by
  blk_ext [iblk, V, idx t, col]

/-- The product in slots. -/
def G (x : Vec Ideal S2048x2048 .bf16) (y : Vec Ideal S2048x10240 .bf16) (i : S4x2048x2560.Idx) : EReal :=
  ∑ k : Fin 2048, x (ix2 k (i 1)) * y (ix2 k (slot (i 0) (i 2)))

/-- A point's block is a block of the product. -/
theorem point (t : Fin cfg0.N) (p : Fin 1024) (q : Fin 1280) :
    prod (iblk m c 0 t) (iblk m c 1 t) p q =
      G (m ((c : Thread nD τ).loc main_arg0)) (m ((c : Thread nD τ).loc main_arg1))
        (ix3 (⟨t.val % 8 / 2, by omega⟩ : Fin 4) (row t p) (⟨1280 * (t.val % 2) + q.val, by omega⟩ : Fin 2560)) := by
  have h : slot (⟨t.val % 8 / 2, by omega⟩ : Fin 4) (⟨1280 * (t.val % 2) + q.val, by omega⟩ : Fin 2560) = col t q :=
    Fin.ext (by show 2560 * (t.val % 8 / 2) + (1280 * (t.val % 2) + q.val) = 1280 * (t.val % 8) + q.val; omega)
  refine Finset.sum_congr rfl fun k _ => ?_
  exact congrArg₂ (fun a b : EReal => a * b) (blk0 t k p) ((blk1 t k q).trans (congrArg (fun j => m ((c : Thread nD τ).loc main_arg1) (ix2 k j)) h.symm))

/-- The kernel's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨z, p, q, rfl⟩ : ∃ z p q, y = ix3 z p q := ⟨_, _, _, eq_ix3 y⟩
  have e : (win0_2.blk t).view.emb (ix3 z p q) = ix3 (⟨t.val % 8 / 2, by omega⟩ : Fin 4) (row t p) (⟨1280 * (t.val % 2) + q.val, by omega⟩ : Fin 2560) := by
    blk_ext [idx t, row]
  blk_simp
  rw [after0_2, out]
  exact (point t p q).trans (congrArg (G _ _) e).symm

end

open Cert.GinRefIdeal.Read in
/-- The reference's result. -/
theorem ref (x : Vec Ideal S2048x2048 .bf16) (y : Vec Ideal S2048x10240 .bf16) : val_main_v9 (F := Ideal) x y = G x y := by
  funext i
  obtain ⟨s, p, q, rfl⟩ : ∃ s p q, i = ix3 s p q := ⟨_, _, _, eq_ix3 i⟩
  refine (val_main_v8_apply x y _).trans ?_
  rw [val_main_v7_apply, val_main_v5_apply, val_main_v4_apply]
  refine Finset.sum_congr rfl fun k _ => (mul_comm _ _).trans ?_
  refine congrArg₂ (· * ·) (congrArg x ((eq_ix2 _).trans (congrArg₂ ix2 (Fin.ext rfl) (Fin.ext ?_))))
    (congrArg y ((eq_ix2 _).trans (congrArg₂ ix2 (Fin.ext rfl) (Fin.ext ?_))))
  · show ((p.val * 4 + s.val) * 2560 + q.val) / 10240 = p.val
    omega
  · show ((p.val * 4 + s.val) * 2560 + q.val) % 10240 = 2560 * s.val + q.val
    omega

end Cert.GinIdeal.Mat

namespace Cert.GinClaims

open Idealize.ShloMosaic Idealize.SL.Sem

/-- The kernel's frame. -/
theorem frame_kernel : Cert.quiescent_Gin (hGin := Cert.Gin.Gen.facts) := fun m ρ _ => Cert.Gin.Gen.frame m ρ

/-- The idealized kernel's frame. -/
theorem frame_ideal : Cert.quiescent_GinIdeal (hGinIdeal := Cert.GinIdeal.Gen.facts) := fun m ρ _ => Cert.GinIdeal.Gen.frame m ρ

/-- The reference's frame. -/
theorem frame_ref : Cert.quiescent_GinRefIdeal (hGinRefIdeal := Cert.GinRefIdeal.Gen.facts) := fun m ρ _ =>
  (θ_run Cert.GinRefIdeal.defs _ _).mono
    (fun r h => ⟨fun c => (h c).2, Idealize.ShloMosaic.sem_eq_zero_of_no_sems (by decide) r.2⟩) (Cert.GinRefIdeal.Value.run (F := Ideal) m ρ)

/-- Nothing is rewritten. -/
theorem preserves : Cert.preserves_Gin_GinIdeal := trivial

/-- The kernel's result is the reference's. -/
theorem algebraic : Cert.algebraic_GinIdeal_GinRefIdeal (hGinIdeal := Cert.GinIdeal.Gen.facts) (hGinRefIdeal := Cert.GinRefIdeal.Gen.facts) := by
  haveI := Cert.GinIdeal.Gen.facts
  haveI := Cert.GinRefIdeal.Gen.facts
  intro m ρ m' ρ' _ hagree
  refine ⟨_, Cert.GinIdeal.Value.run_blocks m ρ, ?_⟩
  refine (θ_run Cert.GinRefIdeal.defs _ _).mono (fun _ h c => ⟨(h c).1.trans ?_, (h c).2⟩) (Cert.GinRefIdeal.Value.run (F := Ideal) m' ρ')
  obtain ⟨e0, e1⟩ := hagree c
  refine (Cert.GinRefIdeal.Read.val_main_v9_eq _ _).trans ?_
  exact (congrArg₂ (fun x y => Cert.GinRefIdeal.Read.val_main_v9 (F := Ideal) x y) e0 e1).trans ((Cert.GinIdeal.Mat.ref _ _).trans Cert.GinIdeal.Mat.arr.symm)

end Cert.GinClaims

end
-- ==== Proof.GoutMat.lean ====
/- The gradient of the output projection's weight: the kernel's product is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Gout.Frame
public import proofs.«01_k».proof.Proof.Gen.GoutIdeal.Value
public import proofs.«01_k».proof.Proof.Gen.GoutRefIdeal.Run
public import proofs.«01_k».proof.Proof.Gen.GoutRefIdeal.Read
public import Idealize.ShloMosaic.Adequacy
public import Idealize.ShloMosaic.Init

@[expose] public section

set_option maxRecDepth 16384

noncomputable section

namespace Cert.GoutIdeal.Mat

open Idealize.ShloMosaic Idealize.ShloMosaic.TcCoe Idealize.SL Idealize.SL.Sem Cert.GoutIdeal.Gen

/-- A block's product as a function of its operands. -/
def prod (x : Vec Ideal S2048x1024 .bf16) (y : Vec Ideal S2048x1024 .bf16) (p : Fin 1024) (q : Fin 1024) : EReal :=
  ∑ k : Fin 2048, x (ix2 k p) * y (ix2 k q)

/-- A block's product. -/
theorem pay (x : Vec Ideal S2048x1024 .bf16) (y : Vec Ideal S2048x1024 .bf16) (p : Fin 1024) (q : Fin 1024) :
    k0_pay1 x y (ix2 p q) = prod x y p q := by
  pointwise [k0_pay1]
  rfl

/-- What a point leaves in the output's block. -/
theorem out (x : Vec Ideal S2048x1024 .bf16) (y : Vec Ideal S2048x1024 .bf16) (p : Fin 1024) (q : Fin 1024) :
    out0_2 x y (ix2 p q) = prod x y p q := by
  unfold out0_2
  rw [View.canon_unit_zero (S := S1024x1024) (funext fun a => by fin_cases a <;> rfl), View.ld_unit_zero (S := S2048x1024) (funext fun a => by fin_cases a <;> rfl),
    View.ld_unit_zero (S := S2048x1024) (funext fun a => by fin_cases a <;> rfl)]
  exact pay x y p q

theorem ltN (t : Fin cfg0.N) : t.val < 4 := lt_of_lt_of_eq t.isLt (show cfg0.N = 4 from N_0)

theorem idx : ∀ t : Fin cfg0.N, win0_0.index t = ![0, t.val / 2] ∧ win0_1.index t = ![0, t.val % 2] ∧ win0_2.index t = ![t.val / 2, t.val % 2] := by
  decide +kernel

/-- Row `p` of a point's block. -/
def row (t : Fin cfg0.N) (p : Fin 1024) : Fin 2048 := ⟨1024 * (t.val / 2) + p.val, by have := ltN t; omega⟩

/-- Column `q` of a point's block. -/
def col (t : Fin cfg0.N) (q : Fin 1024) : Fin 2048 := ⟨1024 * (t.val % 2) + q.val, by omega⟩

section

variable {m : (ℓ : Loc nD τ sig) → Buf (Elt Ideal) ℓ} {c : Dev nD}

theorem blk0 (t : Fin cfg0.N) (k : Fin 2048) (p : Fin 1024) : iblk m c 0 t (ix2 k p) = m ((c : Thread nD τ).loc main_arg0) (ix2 k (row t p)) := by
  blk_ext [iblk, V, idx t, row]

theorem blk1 (t : Fin cfg0.N) (k : Fin 2048) (q : Fin 1024) : iblk m c 1 t (ix2 k q) = m ((c : Thread nD τ).loc main_arg1) (ix2 k (col t q)) := by
  blk_ext [iblk, V, idx t, col]

/-- The product. -/
def G (x : Vec Ideal S2048x2048 .bf16) (y : Vec Ideal S2048x2048 .bf16) (i : S2048x2048.Idx) : EReal :=
  ∑ k : Fin 2048, x (ix2 k (i 0)) * y (ix2 k (i 1))

theorem point (t : Fin cfg0.N) (p : Fin 1024) (q : Fin 1024) :
    prod (iblk m c 0 t) (iblk m c 1 t) p q = G (m ((c : Thread nD τ).loc main_arg0)) (m ((c : Thread nD τ).loc main_arg1)) (ix2 (row t p) (col t q)) :=
  Finset.sum_congr rfl fun k _ => congrArg₂ (fun a b : EReal => a * b) (blk0 t k p) (blk1 t k q)

/-- The kernel's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨p, q, rfl⟩ : ∃ p q, y = ix2 p q := ⟨_, _, eq_ix2 y⟩
  have e : (win0_2.blk t).view.emb (ix2 p q) = ix2 (row t p) (col t q) := by
    blk_ext [idx t, row, col]
  blk_simp
  rw [after0_2, out]
  exact (point t p q).trans (congrArg (G _ _) e).symm

end

open Cert.GoutRefIdeal.Read in
/-- The reference's result. -/
theorem ref (x : Vec Ideal S2048x2048 .bf16) (y : Vec Ideal S2048x2048 .bf16) : val_main_v7 (F := Ideal) x y = G x y := by
  funext i
  refine (val_main_v5_apply x y _).trans ?_
  rw [val_main_v4_apply]
  refine Finset.sum_congr rfl fun k _ => (mul_comm _ _).trans ?_
  refine congrArg₂ (· * ·) (congrArg x ((eq_ix2 _).trans (congrArg₂ ix2 (Fin.ext rfl) (Fin.ext rfl))))
    (congrArg y ((eq_ix2 _).trans (congrArg₂ ix2 (Fin.ext rfl) (Fin.ext rfl))))

end Cert.GoutIdeal.Mat

namespace Cert.GoutClaims

open Idealize.ShloMosaic Idealize.SL.Sem

/-- The kernel's frame. -/
theorem frame_kernel : Cert.quiescent_Gout (hGout := Cert.Gout.Gen.facts) := fun m ρ _ => Cert.Gout.Gen.frame m ρ

/-- The idealized kernel's frame. -/
theorem frame_ideal : Cert.quiescent_GoutIdeal (hGoutIdeal := Cert.GoutIdeal.Gen.facts) := fun m ρ _ => Cert.GoutIdeal.Gen.frame m ρ

/-- The reference's frame. -/
theorem frame_ref : Cert.quiescent_GoutRefIdeal (hGoutRefIdeal := Cert.GoutRefIdeal.Gen.facts) := fun m ρ _ =>
  (θ_run Cert.GoutRefIdeal.defs _ _).mono
    (fun r h => ⟨fun c => (h c).2, Idealize.ShloMosaic.sem_eq_zero_of_no_sems (by decide) r.2⟩) (Cert.GoutRefIdeal.Value.run (F := Ideal) m ρ)

/-- Nothing is rewritten. -/
theorem preserves : Cert.preserves_Gout_GoutIdeal := trivial

/-- The kernel's result is the reference's. -/
theorem algebraic : Cert.algebraic_GoutIdeal_GoutRefIdeal (hGoutIdeal := Cert.GoutIdeal.Gen.facts) (hGoutRefIdeal := Cert.GoutRefIdeal.Gen.facts) := by
  haveI := Cert.GoutIdeal.Gen.facts
  haveI := Cert.GoutRefIdeal.Gen.facts
  intro m ρ m' ρ' _ hagree
  refine ⟨_, Cert.GoutIdeal.Value.run_blocks m ρ, ?_⟩
  refine (θ_run Cert.GoutRefIdeal.defs _ _).mono (fun _ h c => ⟨(h c).1.trans ?_, (h c).2⟩) (Cert.GoutRefIdeal.Value.run (F := Ideal) m' ρ')
  obtain ⟨e0, e1⟩ := hagree c
  refine (Cert.GoutRefIdeal.Read.val_main_v7_eq _ _).trans ?_
  exact (congrArg₂ (fun x y => Cert.GoutRefIdeal.Read.val_main_v7 (F := Ideal) x y) e0 e1).trans ((Cert.GoutIdeal.Mat.ref _ _).trans Cert.GoutIdeal.Mat.arr.symm)

end Cert.GoutClaims

end
-- ==== Proof.YoMat.lean ====
/- The output projection: the kernel's product is the reference's. -/
module

public import Idealize.ShloMosaic.Lib.Pointwise
public import Idealize.ShloMosaic.Lib.Pipeline.ValueKit
public import Idealize.ShloMosaic.Lib.Claim
public import proofs.«01_k».proof.Defs
public import proofs.«01_k».proof.Proof.Gen.Yo.Frame
public import proofs.«01_k».proof.Proof.Gen.YoIdeal.Value
public import proofs.«01_k».proof.Proof.Gen.YoRefIdeal.Run
public import proofs.«01_k».proof.Proof.Gen.YoRefIdeal.Read
public import Idealize.ShloMosaic.Adequacy
public import Idealize.ShloMosaic.Init

@[expose] public section

set_option maxRecDepth 16384

noncomputable section

namespace Cert.YoIdeal.Mat

open Idealize.ShloMosaic Idealize.ShloMosaic.TcCoe Idealize.SL Idealize.SL.Sem Cert.YoIdeal.Gen

/-- A block's product as a function of its operands. -/
def prod (x : Vec Ideal S1024x2048 .bf16) (y : Vec Ideal S2048x1024 .bf16) (p : Fin 1024) (q : Fin 1024) : EReal :=
  ∑ k : Fin 2048, x (ix2 p k) * y (ix2 k q)

/-- A block's product. -/
theorem pay (x : Vec Ideal S1024x2048 .bf16) (y : Vec Ideal S2048x1024 .bf16) (p : Fin 1024) (q : Fin 1024) :
    k0_pay1 x y (ix2 p q) = prod x y p q := by
  pointwise [k0_pay1]
  rfl

/-- What a point leaves in the output's block. -/
theorem out (x : Vec Ideal S1024x2048 .bf16) (y : Vec Ideal S2048x1024 .bf16) (p : Fin 1024) (q : Fin 1024) :
    out0_2 x y (ix2 p q) = prod x y p q := by
  unfold out0_2
  rw [View.canon_unit_zero (S := S1024x1024) (funext fun a => by fin_cases a <;> rfl), View.ld_unit_zero (S := S1024x2048) (funext fun a => by fin_cases a <;> rfl),
    View.ld_unit_zero (S := S2048x1024) (funext fun a => by fin_cases a <;> rfl)]
  exact pay x y p q

theorem ltN (t : Fin cfg0.N) : t.val < 4 := lt_of_lt_of_eq t.isLt (show cfg0.N = 4 from N_0)

theorem idx : ∀ t : Fin cfg0.N, win0_0.index t = ![t.val / 2, 0] ∧ win0_1.index t = ![0, t.val % 2] ∧ win0_2.index t = ![t.val / 2, t.val % 2] := by
  decide +kernel

/-- Row `p` of a point's block. -/
def row (t : Fin cfg0.N) (p : Fin 1024) : Fin 2048 := ⟨1024 * (t.val / 2) + p.val, by have := ltN t; omega⟩

/-- Column `q` of a point's block. -/
def col (t : Fin cfg0.N) (q : Fin 1024) : Fin 2048 := ⟨1024 * (t.val % 2) + q.val, by omega⟩

section

variable {m : (ℓ : Loc nD τ sig) → Buf (Elt Ideal) ℓ} {c : Dev nD}

theorem blk0 (t : Fin cfg0.N) (p : Fin 1024) (k : Fin 2048) : iblk m c 0 t (ix2 p k) = m ((c : Thread nD τ).loc main_arg0) (ix2 (row t p) k) := by
  blk_ext [iblk, V, idx t, row]

theorem blk1 (t : Fin cfg0.N) (k : Fin 2048) (q : Fin 1024) : iblk m c 1 t (ix2 k q) = m ((c : Thread nD τ).loc main_arg1) (ix2 k (col t q)) := by
  blk_ext [iblk, V, idx t, col]

/-- The product. -/
def G (x : Vec Ideal S2048x2048 .bf16) (y : Vec Ideal S2048x2048 .bf16) (i : S2048x2048.Idx) : EReal :=
  ∑ k : Fin 2048, x (ix2 (i 0) k) * y (ix2 k (i 1))

theorem point (t : Fin cfg0.N) (p : Fin 1024) (q : Fin 1024) :
    prod (iblk m c 0 t) (iblk m c 1 t) p q = G (m ((c : Thread nD τ).loc main_arg0)) (m ((c : Thread nD τ).loc main_arg1)) (ix2 (row t p) (col t q)) :=
  Finset.sum_congr rfl fun k _ => congrArg₂ (fun a b : EReal => a * b) (blk0 t p k) (blk1 t k q)

/-- The kernel's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  obtain ⟨p, q, rfl⟩ : ∃ p q, y = ix2 p q := ⟨_, _, eq_ix2 y⟩
  have e : (win0_2.blk t).view.emb (ix2 p q) = ix2 (row t p) (col t q) := by
    blk_ext [idx t, row, col]
  blk_simp
  rw [after0_2, out]
  exact (point t p q).trans (congrArg (G _ _) e).symm

end

open Cert.YoRefIdeal.Read in
/-- The reference's result. -/
theorem ref (x : Vec Ideal S2048x2048 .bf16) (y : Vec Ideal S2048x2048 .bf16) : val_main_v2 (F := Ideal) x y = G x y := by
  funext i
  refine (val_main_v2_apply x y _).trans ?_
  refine Finset.sum_congr rfl fun k _ => ?_
  refine congrArg₂ (· * ·) (congrArg x ((eq_ix2 _).trans (congrArg₂ ix2 (Fin.ext rfl) (Fin.ext rfl))))
    (congrArg y ((eq_ix2 _).trans (congrArg₂ ix2 (Fin.ext rfl) (Fin.ext rfl))))

end Cert.YoIdeal.Mat

namespace Cert.YoClaims

open Idealize.ShloMosaic Idealize.SL.Sem

/-- The kernel's frame. -/
theorem frame_kernel : Cert.quiescent_Yo (hYo := Cert.Yo.Gen.facts) := fun m ρ _ => Cert.Yo.Gen.frame m ρ

/-- The idealized kernel's frame. -/
theorem frame_ideal : Cert.quiescent_YoIdeal (hYoIdeal := Cert.YoIdeal.Gen.facts) := fun m ρ _ => Cert.YoIdeal.Gen.frame m ρ

/-- The reference's frame. -/
theorem frame_ref : Cert.quiescent_YoRefIdeal (hYoRefIdeal := Cert.YoRefIdeal.Gen.facts) := fun m ρ _ =>
  (θ_run Cert.YoRefIdeal.defs _ _).mono
    (fun r h => ⟨fun c => (h c).2, Idealize.ShloMosaic.sem_eq_zero_of_no_sems (by decide) r.2⟩) (Cert.YoRefIdeal.Value.run (F := Ideal) m ρ)

/-- Nothing is rewritten. -/
theorem preserves : Cert.preserves_Yo_YoIdeal := trivial

/-- The kernel's result is the reference's. -/
theorem algebraic : Cert.algebraic_YoIdeal_YoRefIdeal (hYoIdeal := Cert.YoIdeal.Gen.facts) (hYoRefIdeal := Cert.YoRefIdeal.Gen.facts) := by
  haveI := Cert.YoIdeal.Gen.facts
  haveI := Cert.YoRefIdeal.Gen.facts
  intro m ρ m' ρ' _ hagree
  refine ⟨_, Cert.YoIdeal.Value.run_blocks m ρ, ?_⟩
  refine (θ_run Cert.YoRefIdeal.defs _ _).mono (fun _ h c => ⟨(h c).1.trans ?_, (h c).2⟩) (Cert.YoRefIdeal.Value.run (F := Ideal) m' ρ')
  obtain ⟨e0, e1⟩ := hagree c
  refine (Cert.YoRefIdeal.Read.val_main_v2_eq _ _).trans ?_
  exact (congrArg₂ (fun x y => Cert.YoRefIdeal.Read.val_main_v2 (F := Ideal) x y) e0 e1).trans ((Cert.YoIdeal.Mat.ref _ _).trans Cert.YoIdeal.Mat.arr.symm)

end Cert.YoClaims

end
-- ==== Proof.lean ====
module

public import proofs.«01_k».proof.Defs
public import proofs.«01_k».proof.Proof.GmlpClaims
public import proofs.«01_k».proof.Proof.AfwMat
public import proofs.«01_k».proof.Proof.FlsMat
public import proofs.«01_k».proof.Proof.GfwMat
public import proofs.«01_k».proof.Proof.MrgMat
public import proofs.«01_k».proof.Proof.Nb2Mat
public import proofs.«01_k».proof.Proof.NbwMat
public import proofs.«01_k».proof.Proof.Nf1Mat
public import proofs.«01_k».proof.Proof.Nf2Mat
public import proofs.«01_k».proof.Proof.ObwMat
public import proofs.«01_k».proof.Proof.FobMat
public import proofs.«01_k».proof.Proof.UadaMat
public import proofs.«01_k».proof.Proof.Dh1Mat
public import proofs.«01_k».proof.Proof.BbwMat
public import proofs.«01_k».proof.Proof.BwgMat
public import proofs.«01_k».proof.Proof.FfiMat
public import proofs.«01_k».proof.Proof.UbgMat
public import proofs.«01_k».proof.Proof.UbhMat
public import proofs.«01_k».proof.Proof.UfoMat
public import proofs.«01_k».proof.Proof.UinMat
public import proofs.«01_k».proof.Proof.UoutMat
public import proofs.«01_k».proof.Proof.UsmMat
public import proofs.«01_k».proof.Proof.Dh2Mat
public import proofs.«01_k».proof.Proof.FfnMat
public import proofs.«01_k».proof.Proof.GfiMat
public import proofs.«01_k».proof.Proof.GfoMat
public import proofs.«01_k».proof.Proof.GinMat
public import proofs.«01_k».proof.Proof.GoutMat
public import proofs.«01_k».proof.Proof.YoMat
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GfiIdeal.Value
public import proofs.«01_k».proof.Proof.Gen.GfiRefIdeal.Run
public import proofs.«01_k».proof.Proof.Gen.GfiRefIdeal.Read
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Gen.GinIdeal.Value
public import proofs.«01_k».proof.Proof.Gen.GinRefIdeal.Run
public import proofs.«01_k».proof.Proof.Gen.GinRefIdeal.Read
public import proofs.«01_k».proof.Proof.Gen.GfoIdeal.Value
public import proofs.«01_k».proof.Proof.Gen.GfoRefIdeal.Run
public import proofs.«01_k».proof.Proof.Gen.GfoRefIdeal.Read
public import proofs.«01_k».proof.Proof.Gen.GoutIdeal.Value
public import proofs.«01_k».proof.Proof.Gen.GoutRefIdeal.Run
public import proofs.«01_k».proof.Proof.Gen.GoutRefIdeal.Read
public import proofs.«01_k».proof.Proof.Gen.YoIdeal.Value
public import proofs.«01_k».proof.Proof.Gen.YoRefIdeal.Run
public import proofs.«01_k».proof.Proof.Gen.YoRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfiIdeal.Value
public import proofs.«01_k».proof.Proof.Gen.FfiRefIdeal.Run
public import proofs.«01_k».proof.Proof.Gen.FfiRefIdeal.Read
public import proofs.«01_k».proof.Proof.Gen.BwgIdeal.Value
public import proofs.«01_k».proof.Proof.Gen.BwgRefIdeal.Run
public import proofs.«01_k».proof.Proof.Gen.BwgRefIdeal.Read
public import proofs.«01_k».proof.Proof.Gen.BbwIdeal.Value
public import proofs.«01_k».proof.Proof.Gen.BbwRefIdeal.Run
public import proofs.«01_k».proof.Proof.Gen.BbwRefIdeal.Read
public import proofs.«01_k».proof.Proof.Gen.UfoIdeal.Value
public import proofs.«01_k».proof.Proof.Gen.UfoRefIdeal.Run
public import proofs.«01_k».proof.Proof.Gen.UfoRefIdeal.Read
public import proofs.«01_k».proof.Proof.Gen.UoutIdeal.Value
public import proofs.«01_k».proof.Proof.Gen.UoutRefIdeal.Run
public import proofs.«01_k».proof.Proof.Gen.UoutRefIdeal.Read
public import proofs.«01_k».proof.Proof.Gen.UbgIdeal.Value
public import proofs.«01_k».proof.Proof.Gen.UbgRefIdeal.Run
public import proofs.«01_k».proof.Proof.Gen.UbgRefIdeal.Read
public import proofs.«01_k».proof.Proof.Gen.UbhIdeal.Value
public import proofs.«01_k».proof.Proof.Gen.UbhRefIdeal.Run
public import proofs.«01_k».proof.Proof.Gen.UbhRefIdeal.Read
public import proofs.«01_k».proof.Proof.Gen.UinIdeal.Value
public import proofs.«01_k».proof.Proof.Gen.UinRefIdeal.Run
public import proofs.«01_k».proof.Proof.Gen.UinRefIdeal.Read
public import proofs.«01_k».proof.Proof.Gen.UsmIdeal.Value
public import proofs.«01_k».proof.Proof.Gen.UsmRefIdeal.Run
public import proofs.«01_k».proof.Proof.Gen.UsmRefIdeal.Read
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.FobIdeal.Value
public import proofs.«01_k».proof.Proof.Gen.FobRefIdeal.Run
public import proofs.«01_k».proof.Proof.Gen.FobRefIdeal.Read
public import proofs.«01_k».proof.Proof.Gen.UadaIdeal.Value
public import proofs.«01_k».proof.Proof.Gen.UadaRefIdeal.Run
public import proofs.«01_k».proof.Proof.Gen.UadaRefIdeal.Read
public import proofs.«01_k».proof.Proof.Gen.Nf1.Frame
public import proofs.«01_k».proof.Proof.Gen.Nf1Ideal.Value
public import proofs.«01_k».proof.Proof.Gen.Nf1RefIdeal.Run
public import proofs.«01_k».proof.Proof.Gen.Nf1RefIdeal.Read
public import proofs.«01_k».proof.Proof.Gen.Nf2.Frame
public import proofs.«01_k».proof.Proof.Gen.Nf2Ideal.Value
public import proofs.«01_k».proof.Proof.Gen.Nf2RefIdeal.Run
public import proofs.«01_k».proof.Proof.Gen.Nf2RefIdeal.Read
public import proofs.«01_k».proof.Proof.Gen.Afw.Frame
public import proofs.«01_k».proof.Proof.Gen.AfwIdeal.Value
public import proofs.«01_k».proof.Proof.Gen.AfwRefIdeal.Run
public import proofs.«01_k».proof.Proof.Gen.AfwRefIdeal.Read
public import proofs.«01_k».proof.Proof.Gen.Mrg.Frame
public import proofs.«01_k».proof.Proof.Gen.MrgIdeal.Value
public import proofs.«01_k».proof.Proof.Gen.MrgRefIdeal.Run
public import proofs.«01_k».proof.Proof.Gen.MrgRefIdeal.Read
public import proofs.«01_k».proof.Proof.Gen.Nbw.Frame
public import proofs.«01_k».proof.Proof.Gen.NbwIdeal.Value
public import proofs.«01_k».proof.Proof.Gen.NbwRefIdeal.Run
public import proofs.«01_k».proof.Proof.Gen.NbwRefIdeal.Read
public import proofs.«01_k».proof.Proof.Gen.Nb2.Frame
public import proofs.«01_k».proof.Proof.Gen.Nb2Ideal.Value
public import proofs.«01_k».proof.Proof.Gen.Nb2RefIdeal.Run
public import proofs.«01_k».proof.Proof.Gen.Nb2RefIdeal.Read
public import proofs.«01_k».proof.Proof.Gen.Fls.Frame
public import proofs.«01_k».proof.Proof.Gen.FlsIdeal.Value
public import proofs.«01_k».proof.Proof.Gen.FlsRefIdeal.Run
public import proofs.«01_k».proof.Proof.Gen.FlsRefIdeal.Read
public import proofs.«01_k».proof.Proof.Gen.Obw.Frame
public import proofs.«01_k».proof.Proof.Gen.ObwIdeal.Value
public import proofs.«01_k».proof.Proof.Gen.ObwRefIdeal.Run
public import proofs.«01_k».proof.Proof.Gen.ObwRefIdeal.Read
public import proofs.«01_k».proof.Proof.Gen.Gfw.Frame
public import proofs.«01_k».proof.Proof.Gen.GfwIdeal.Value
public import proofs.«01_k».proof.Proof.Gen.GfwRefIdeal.Run
public import proofs.«01_k».proof.Proof.Gen.GfwRefIdeal.Read

@[expose] public section

noncomputable section

namespace Cert.Proof

/-- Every claim of the test. -/
theorem claim : Cert.Claim :=
  ⟨Cert.Kernel.Gen.facts, Cert.KernelIdeal.Gen.facts, Cert.ReferenceIdeal.Gen.facts, Cert.Gfi.Gen.facts,
   Cert.GfiIdeal.Gen.facts, Cert.GfiRefIdeal.Gen.facts, Cert.Dh2.Gen.facts, Cert.Dh2Ideal.Gen.facts,
   Cert.Dh2RefIdeal.Gen.facts, Cert.Gin.Gen.facts, Cert.GinIdeal.Gen.facts, Cert.GinRefIdeal.Gen.facts,
   Cert.Gfo.Gen.facts, Cert.GfoIdeal.Gen.facts, Cert.GfoRefIdeal.Gen.facts, Cert.Gout.Gen.facts,
   Cert.GoutIdeal.Gen.facts, Cert.GoutRefIdeal.Gen.facts, Cert.Yo.Gen.facts, Cert.YoIdeal.Gen.facts,
   Cert.YoRefIdeal.Gen.facts, Cert.Ffn.Gen.facts, Cert.FfnIdeal.Gen.facts, Cert.FfnRefIdeal.Gen.facts,
   Cert.Ffi.Gen.facts, Cert.FfiIdeal.Gen.facts, Cert.FfiRefIdeal.Gen.facts, Cert.Fob.Gen.facts,
   Cert.FobIdeal.Gen.facts, Cert.FobRefIdeal.Gen.facts, Cert.Bwg.Gen.facts, Cert.BwgIdeal.Gen.facts,
   Cert.BwgRefIdeal.Gen.facts, Cert.Bbw.Gen.facts, Cert.BbwIdeal.Gen.facts, Cert.BbwRefIdeal.Gen.facts,
   Cert.Dh1.Gen.facts, Cert.Dh1Ideal.Gen.facts, Cert.Dh1RefIdeal.Gen.facts, Cert.Ufo.Gen.facts,
   Cert.UfoIdeal.Gen.facts, Cert.UfoRefIdeal.Gen.facts, Cert.Uout.Gen.facts, Cert.UoutIdeal.Gen.facts,
   Cert.UoutRefIdeal.Gen.facts, Cert.Ubg.Gen.facts, Cert.UbgIdeal.Gen.facts, Cert.UbgRefIdeal.Gen.facts,
   Cert.Ubh.Gen.facts, Cert.UbhIdeal.Gen.facts, Cert.UbhRefIdeal.Gen.facts, Cert.Uin.Gen.facts,
   Cert.UinIdeal.Gen.facts, Cert.UinRefIdeal.Gen.facts, Cert.Usm.Gen.facts, Cert.UsmIdeal.Gen.facts,
   Cert.UsmRefIdeal.Gen.facts, Cert.Uada.Gen.facts, Cert.UadaIdeal.Gen.facts, Cert.UadaRefIdeal.Gen.facts,
   Cert.Nf1.Gen.facts, Cert.Nf1Ideal.Gen.facts, Cert.Nf1RefIdeal.Gen.facts, Cert.Nf2.Gen.facts,
   Cert.Nf2Ideal.Gen.facts, Cert.Nf2RefIdeal.Gen.facts, Cert.Afw.Gen.facts, Cert.AfwIdeal.Gen.facts,
   Cert.AfwRefIdeal.Gen.facts, Cert.Mrg.Gen.facts, Cert.MrgIdeal.Gen.facts, Cert.MrgRefIdeal.Gen.facts,
   Cert.Nbw.Gen.facts, Cert.NbwIdeal.Gen.facts, Cert.NbwRefIdeal.Gen.facts, Cert.Nb2.Gen.facts,
   Cert.Nb2Ideal.Gen.facts, Cert.Nb2RefIdeal.Gen.facts, Cert.Fls.Gen.facts, Cert.FlsIdeal.Gen.facts,
   Cert.FlsRefIdeal.Gen.facts, Cert.Obw.Gen.facts, Cert.ObwIdeal.Gen.facts, Cert.ObwRefIdeal.Gen.facts,
   Cert.Gfw.Gen.facts, Cert.GfwIdeal.Gen.facts, Cert.GfwRefIdeal.Gen.facts, Cert.Pre_finite.Val.facts,
   Cert.Pre_finite_fob.Val.facts, GmlpClaims.frame_kernel, GmlpClaims.frame_ideal, GmlpClaims.frame_ideal_pre,
   GmlpClaims.frame_ref, GmlpClaims.frame_ref_pre, GfiClaims.frame_kernel, GfiClaims.frame_ideal,
   GfiClaims.frame_ref, Dh2Claims.frame_kernel, Dh2Claims.frame_ideal, Dh2Claims.frame_ref,
   GinClaims.frame_kernel, GinClaims.frame_ideal, GinClaims.frame_ref, GfoClaims.frame_kernel,
   GfoClaims.frame_ideal, GfoClaims.frame_ref, GoutClaims.frame_kernel, GoutClaims.frame_ideal,
   GoutClaims.frame_ref, YoClaims.frame_kernel, YoClaims.frame_ideal, YoClaims.frame_ref,
   FfnClaims.frame_kernel, FfnClaims.frame_ideal, FfnClaims.frame_ref, FfiClaims.frame_kernel,
   FfiClaims.frame_ideal, FfiClaims.frame_ref, FobClaims.frame_kernel, FobClaims.frame_ideal,
   FobClaims.frame_ideal_pre, FobClaims.frame_ref, FobClaims.frame_ref_pre, BwgClaims.frame_kernel,
   BwgClaims.frame_ideal, BwgClaims.frame_ref, BbwClaims.frame_kernel, BbwClaims.frame_ideal,
   BbwClaims.frame_ref, Dh1Claims.frame_kernel, Dh1Claims.frame_ideal, Dh1Claims.frame_ref,
   UfoClaims.frame_kernel, UfoClaims.frame_ideal, UfoClaims.frame_ref, UoutClaims.frame_kernel,
   UoutClaims.frame_ideal, UoutClaims.frame_ref, UbgClaims.frame_kernel, UbgClaims.frame_ideal,
   UbgClaims.frame_ref, UbhClaims.frame_kernel, UbhClaims.frame_ideal, UbhClaims.frame_ref,
   UinClaims.frame_kernel, UinClaims.frame_ideal, UinClaims.frame_ref, UsmClaims.frame_kernel,
   UsmClaims.frame_ideal, UsmClaims.frame_ref, UadaClaims.frame_kernel, UadaClaims.frame_ideal,
   UadaClaims.frame_ref, Nf1Claims.frame_kernel, Nf1Claims.frame_ideal, Nf1Claims.frame_ref,
   Nf2Claims.frame_kernel, Nf2Claims.frame_ideal, Nf2Claims.frame_ref, AfwClaims.frame_kernel,
   AfwClaims.frame_ideal, AfwClaims.frame_ref, MrgClaims.frame_kernel, MrgClaims.frame_ideal,
   MrgClaims.frame_ref, NbwClaims.frame_kernel, NbwClaims.frame_ideal, NbwClaims.frame_ref,
   Nb2Claims.frame_kernel, Nb2Claims.frame_ideal, Nb2Claims.frame_ref, FlsClaims.frame_kernel,
   FlsClaims.frame_ideal, FlsClaims.frame_ref, ObwClaims.frame_kernel, ObwClaims.frame_ideal,
   ObwClaims.frame_ref, GfwClaims.frame_kernel, GfwClaims.frame_ideal, GfwClaims.frame_ref,
   GmlpClaims.preserves, GmlpClaims.algebraic, GfiClaims.preserves, GfiClaims.algebraic, Dh2Claims.preserves,
   Dh2Claims.algebraic, GinClaims.preserves, GinClaims.algebraic, GfoClaims.preserves, GfoClaims.algebraic,
   GoutClaims.preserves, GoutClaims.algebraic, YoClaims.preserves, YoClaims.algebraic, FfnClaims.preserves,
   FfnClaims.algebraic, FfiClaims.preserves, FfiClaims.algebraic, FobClaims.preserves, FobClaims.algebraic,
   BwgClaims.preserves, BwgClaims.algebraic, BbwClaims.preserves, BbwClaims.algebraic, Dh1Claims.preserves,
   Dh1Claims.algebraic, UfoClaims.preserves, UfoClaims.algebraic, UoutClaims.preserves, UoutClaims.algebraic,
   UbgClaims.preserves, UbgClaims.algebraic, UbhClaims.preserves, UbhClaims.algebraic, UinClaims.preserves,
   UinClaims.algebraic, UsmClaims.preserves, UsmClaims.algebraic, UadaClaims.preserves, UadaClaims.algebraic,
   Nf1Claims.preserves, Nf1Claims.algebraic, Nf2Claims.preserves, Nf2Claims.algebraic, AfwClaims.preserves,
   AfwClaims.algebraic, MrgClaims.preserves, MrgClaims.algebraic, NbwClaims.preserves, NbwClaims.algebraic,
   Nb2Claims.preserves, Nb2Claims.algebraic, FlsClaims.preserves, FlsClaims.algebraic, ObwClaims.preserves,
   ObwClaims.algebraic, GfwClaims.preserves, GfwClaims.algebraic⟩

end Cert.Proof

end
